-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_sb [hPre_finite_sb : Cert.Pre_finite_sb.Facts] (m : (ℓ : Loc Cert.SbIdeal.nD Cert.SbIdeal.τ Cert.SbIdeal.sig) → Buf (Elt Ideal) ℓ) : Prop :=
  ∀ c : Dev Cert.SbIdeal.nD,
    (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_sb [hPre_finite_sb : Cert.Pre_finite_sb.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2)) (m ((c.tc : Thread Cert.SbRefIdeal.nD Cert.SbRefIdeal.τ).loc Cert.SbRefIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_proj [hPre_finite_proj : Cert.Pre_finite_proj.Facts] (m : (ℓ : Loc Cert.ProjIdeal.nD Cert.ProjIdeal.τ Cert.ProjIdeal.sig) → Buf (Elt Ideal) ℓ) : Prop :=
  ∀ c : Dev Cert.ProjIdeal.nD,
    (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_proj [hPre_finite_proj : Cert.Pre_finite_proj.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasIdeal_finite_bias [hPre_finite_bias : Cert.Pre_finite_bias.Facts] (m : (ℓ : Loc Cert.BiasIdeal.nD Cert.BiasIdeal.τ Cert.BiasIdeal.sig) → Buf (Elt Ideal) ℓ) : Prop :=
  ∀ c : Dev Cert.BiasIdeal.nD,
    (Cert.Pre_finite_bias.fn (F := Ideal) (m ((c.tc : Thread Cert.BiasIdeal.nD Cert.BiasIdeal.τ).loc Cert.BiasIdeal.main_arg0)) (m ((c.tc : Thread Cert.BiasIdeal.nD Cert.BiasIdeal.τ).loc Cert.BiasIdeal.main_arg1))) = (fun _ => 1#1)

def Pre_BiasRefIdeal (m : (ℓ : Loc Cert.BiasRefIdeal.nD Cert.BiasRefIdeal.τ Cert.BiasRefIdeal.sig) → Buf (Elt Ideal) ℓ) : Prop :=
  True

def Pre_BiasRefIdeal_finite_bias [hPre_finite_bias : Cert.Pre_finite_bias.Facts] (m : (ℓ : Loc Cert.BiasRefIdeal.nD Cert.BiasRefIdeal.τ Cert.BiasRefIdeal.sig) → Buf (Elt Ideal) ℓ) : Prop :=
  ∀ c : Dev Cert.BiasRefIdeal.nD,
    (Cert.Pre_finite_bias.fn (F := Ideal) (m ((c.tc : Thread Cert.BiasRefIdeal.nD Cert.BiasRefIdeal.τ).loc Cert.BiasRefIdeal.main_arg0)) (m ((c.tc : Thread Cert.BiasRefIdeal.nD Cert.BiasRefIdeal.τ).loc Cert.BiasRefIdeal.main_arg1))) = (fun _ => 1#1)

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_swa [hPre_finite_swa : Cert.Pre_finite_swa.Facts] (m : (ℓ : Loc Cert.SwaIdeal.nD Cert.SwaIdeal.τ Cert.SwaIdeal.sig) → Buf (Elt Ideal) ℓ) : Prop :=
  ∀ c : Dev Cert.SwaIdeal.nD,
    (Cert.Pre_finite_swa.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_swa [hPre_finite_swa : Cert.Pre_finite_swa.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_swa.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4))) = (fun _ => 1#1)

def Pre_Wgt (m : (ℓ : Loc Cert.Wgt.nD Cert.Wgt.τ Cert.Wgt.sig) → Buf (Elt Bits) ℓ) : Prop :=
  True

def Pre_WgtIdeal (m : (ℓ : Loc Cert.WgtIdeal.nD Cert.WgtIdeal.τ Cert.WgtIdeal.sig) → Buf (Elt Ideal) ℓ) : Prop :=
  True

def Pre_WgtRefIdeal (m : (ℓ : Loc Cert.WgtRefIdeal.nD Cert.WgtRefIdeal.τ Cert.WgtRefIdeal.sig) → Buf (Elt Ideal) ℓ) : Prop :=
  True

def Pre_Opt (m : (ℓ : Loc Cert.Opt.nD Cert.Opt.τ Cert.Opt.sig) → Buf (Elt Bits) ℓ) : Prop :=
  True

def Pre_OptIdeal (m : (ℓ : Loc Cert.OptIdeal.nD Cert.OptIdeal.τ Cert.OptIdeal.sig) → Buf (Elt Ideal) ℓ) : Prop :=
  True

def Pre_OptRefIdeal (m : (ℓ : Loc Cert.OptRefIdeal.nD Cert.OptRefIdeal.τ Cert.OptRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2)
      ∧ r.2.mem ((c.tc : Thread Cert.Sb.nD Cert.Sb.τ).loc Cert.Sb.main_arg3) = m ((c.tc : Thread Cert.Sb.nD Cert.Sb.τ).loc Cert.Sb.main_arg3))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3))
      ∧ r.2.sem = fun _ => 0)

def quiescent_SbIdeal_pre_finite_sb [hSbIdeal : Cert.SbIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_sb m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3))
      ∧ r.2.sem = fun _ => 0)

def quiescent_SbRefIdeal_pre_finite_sb [hSbRefIdeal : Cert.SbRefIdeal.Facts] [hPre_finite_sb : Cert.Pre_finite_sb.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_sb m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ r.2.sem = fun _ => 0)

def quiescent_ProjIdeal_pre_finite_proj [hProjIdeal : Cert.ProjIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_proj m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11))
      ∧ r.2.sem = fun _ => 0)

def quiescent_ProjRefIdeal_pre_finite_proj [hProjRefIdeal : Cert.ProjRefIdeal.Facts] [hPre_finite_proj : Cert.Pre_finite_proj.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_proj m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0)
      ∧ r.2.mem ((c.tc : Thread Cert.Bias.nD Cert.Bias.τ).loc Cert.Bias.main_arg1) = m ((c.tc : Thread Cert.Bias.nD Cert.Bias.τ).loc Cert.Bias.main_arg1))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ r.2.sem = fun _ => 0)

def quiescent_BiasIdeal_pre_finite_bias [hBiasIdeal : Cert.BiasIdeal.Facts] [hPre_finite_bias : Cert.Pre_finite_bias.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal_finite_bias m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1))
      ∧ r.2.sem = fun _ => 0)

def quiescent_BiasRefIdeal_pre_finite_bias [hBiasRefIdeal : Cert.BiasRefIdeal.Facts] [hPre_finite_bias : Cert.Pre_finite_bias.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal_finite_bias m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ r.2.sem = fun _ => 0)

def quiescent_SwaIdeal_pre_finite_swa [hSwaIdeal : Cert.SwaIdeal.Facts] [hPre_finite_swa : Cert.Pre_finite_swa.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_swa m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4))
      ∧ r.2.sem = fun _ => 0)

def quiescent_SwaRefIdeal_pre_finite_swa [hSwaRefIdeal : Cert.SwaRefIdeal.Facts] [hPre_finite_swa : Cert.Pre_finite_swa.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_swa m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4))
      ∧ r.2.sem = fun _ => 0)

def quiescent_Wgt [hWgt : Cert.Wgt.Facts] : Prop :=
  ∀ (m : (ℓ : Loc Cert.Wgt.nD Cert.Wgt.τ Cert.Wgt.sig) → Buf (Elt Bits) ℓ) (g : Dev Cert.Wgt.nD → PrngReg), Pre_Wgt m →
    θ_run (Cert.Wgt.defs (F := Bits)) (onTc (τ := Cert.Wgt.τ) (Cert.Wgt.main (F := Bits))) ⟨m, fun _ => 0, g⟩ (fun r => (∀ c : Dev Cert.Wgt.nD,
      r.2.mem ((c.tc : Thread Cert.Wgt.nD Cert.Wgt.τ).loc Cert.Wgt.main_arg0) = m ((c.tc : Thread Cert.Wgt.nD Cert.Wgt.τ).loc Cert.Wgt.main_arg0)
      ∧ r.2.mem ((c.tc : Thread Cert.Wgt.nD Cert.Wgt.τ).loc Cert.Wgt.main_arg1) = m ((c.tc : Thread Cert.Wgt.nD Cert.Wgt.τ).loc Cert.Wgt.main_arg1))
      ∧ r.2.sem = fun _ => 0)

def quiescent_WgtIdeal [hWgtIdeal : Cert.WgtIdeal.Facts] : Prop :=
  ∀ (m : (ℓ : Loc Cert.WgtIdeal.nD Cert.WgtIdeal.τ Cert.WgtIdeal.sig) → Buf (Elt Ideal) ℓ) (g : Dev Cert.WgtIdeal.nD → PrngReg), Pre_WgtIdeal m →
    θ_run (Cert.WgtIdeal.defs (F := Ideal)) (onTc (τ := Cert.WgtIdeal.τ) (Cert.WgtIdeal.main (F := Ideal))) ⟨m, fun _ => 0, g⟩ (fun r => (∀ c : Dev Cert.WgtIdeal.nD,
      r.2.mem ((c.tc : Thread Cert.WgtIdeal.nD Cert.WgtIdeal.τ).loc Cert.WgtIdeal.main_arg0) = m ((c.tc : Thread Cert.WgtIdeal.nD Cert.WgtIdeal.τ).loc Cert.WgtIdeal.main_arg0)
      ∧ r.2.mem ((c.tc : Thread Cert.WgtIdeal.nD Cert.WgtIdeal.τ).loc Cert.WgtIdeal.main_arg1) = m ((c.tc : Thread Cert.WgtIdeal.nD Cert.WgtIdeal.τ).loc Cert.WgtIdeal.main_arg1))
      ∧ r.2.sem = fun _ => 0)

def quiescent_WgtRefIdeal [hWgtRefIdeal : Cert.WgtRefIdeal.Facts] : Prop :=
  ∀ (m : (ℓ : Loc Cert.WgtRefIdeal.nD Cert.WgtRefIdeal.τ Cert.WgtRefIdeal.sig) → Buf (Elt Ideal) ℓ) (g : Dev Cert.WgtRefIdeal.nD → PrngReg), Pre_WgtRefIdeal m →
    θ_run (Cert.WgtRefIdeal.defs (F := Ideal)) (onTc (τ := Cert.WgtRefIdeal.τ) (Cert.WgtRefIdeal.main (F := Ideal))) ⟨m, fun _ => 0, g⟩ (fun r => (∀ c : Dev Cert.WgtRefIdeal.nD,
      r.2.mem ((c.tc : Thread Cert.WgtRefIdeal.nD Cert.WgtRefIdeal.τ).loc Cert.WgtRefIdeal.main_arg0) = m ((c.tc : Thread Cert.WgtRefIdeal.nD Cert.WgtRefIdeal.τ).loc Cert.WgtRefIdeal.main_arg0)
      ∧ r.2.mem ((c.tc : Thread Cert.WgtRefIdeal.nD Cert.WgtRefIdeal.τ).loc Cert.WgtRefIdeal.main_arg1) = m ((c.tc : Thread Cert.WgtRefIdeal.nD Cert.WgtRefIdeal.τ).loc Cert.WgtRefIdeal.main_arg1))
      ∧ r.2.sem = fun _ => 0)

def quiescent_Opt [hOpt : Cert.Opt.Facts] : Prop :=
  ∀ (m : (ℓ : Loc Cert.Opt.nD Cert.Opt.τ Cert.Opt.sig) → Buf (Elt Bits) ℓ) (g : Dev Cert.Opt.nD → PrngReg), Pre_Opt m →
    θ_run (Cert.Opt.defs (F := Bits)) (onTc (τ := Cert.Opt.τ) (Cert.Opt.main (F := Bits))) ⟨m, fun _ => 0, g⟩ (fun r => (∀ c : Dev Cert.Opt.nD,
      r.2.mem ((c.tc : Thread Cert.Opt.nD Cert.Opt.τ).loc Cert.Opt.main_arg0) = m ((c.tc : Thread Cert.Opt.nD Cert.Opt.τ).loc Cert.Opt.main_arg0)
      ∧ r.2.mem ((c.tc : Thread Cert.Opt.nD Cert.Opt.τ).loc Cert.Opt.main_arg1) = m ((c.tc : Thread Cert.Opt.nD Cert.Opt.τ).loc Cert.Opt.main_arg1)
      ∧ r.2.mem ((c.tc : Thread Cert.Opt.nD Cert.Opt.τ).loc Cert.Opt.main_arg2) = m ((c.tc : Thread Cert.Opt.nD Cert.Opt.τ).loc Cert.Opt.main_arg2)
      ∧ r.2.mem ((c.tc : Thread Cert.Opt.nD Cert.Opt.τ).loc Cert.Opt.main_arg3) = m ((c.tc : Thread Cert.Opt.nD Cert.Opt.τ).loc Cert.Opt.main_arg3))
      ∧ r.2.sem = fun _ => 0)

def quiescent_OptIdeal [hOptIdeal : Cert.OptIdeal.Facts] : Prop :=
  ∀ (m : (ℓ : Loc Cert.OptIdeal.nD Cert.OptIdeal.τ Cert.OptIdeal.sig) → Buf (Elt Ideal) ℓ) (g : Dev Cert.OptIdeal.nD → PrngReg), Pre_OptIdeal m →
    θ_run (Cert.OptIdeal.defs (F := Ideal)) (onTc (τ := Cert.OptIdeal.τ) (Cert.OptIdeal.main (F := Ideal))) ⟨m, fun _ => 0, g⟩ (fun r => (∀ c : Dev Cert.OptIdeal.nD,
      r.2.mem ((c.tc : Thread Cert.OptIdeal.nD Cert.OptIdeal.τ).loc Cert.OptIdeal.main_arg0) = m ((c.tc : Thread Cert.OptIdeal.nD Cert.OptIdeal.τ).loc Cert.OptIdeal.main_arg0)
      ∧ r.2.mem ((c.tc : Thread Cert.OptIdeal.nD Cert.OptIdeal.τ).loc Cert.OptIdeal.main_arg1) = m ((c.tc : Thread Cert.OptIdeal.nD Cert.OptIdeal.τ).loc Cert.OptIdeal.main_arg1)
      ∧ r.2.mem ((c.tc : Thread Cert.OptIdeal.nD Cert.OptIdeal.τ).loc Cert.OptIdeal.main_arg2) = m ((c.tc : Thread Cert.OptIdeal.nD Cert.OptIdeal.τ).loc Cert.OptIdeal.main_arg2)
      ∧ r.2.mem ((c.tc : Thread Cert.OptIdeal.nD Cert.OptIdeal.τ).loc Cert.OptIdeal.main_arg3) = m ((c.tc : Thread Cert.OptIdeal.nD Cert.OptIdeal.τ).loc Cert.OptIdeal.main_arg3))
      ∧ r.2.sem = fun _ => 0)

def quiescent_OptRefIdeal [hOptRefIdeal : Cert.OptRefIdeal.Facts] : Prop :=
  ∀ (m : (ℓ : Loc Cert.OptRefIdeal.nD Cert.OptRefIdeal.τ Cert.OptRefIdeal.sig) → Buf (Elt Ideal) ℓ) (g : Dev Cert.OptRefIdeal.nD → PrngReg), Pre_OptRefIdeal m →
    θ_run (Cert.OptRefIdeal.defs (F := Ideal)) (onTc (τ := Cert.OptRefIdeal.τ) (Cert.OptRefIdeal.main (F := Ideal))) ⟨m, fun _ => 0, g⟩ (fun r => (∀ c : Dev Cert.OptRefIdeal.nD,
      r.2.mem ((c.tc : Thread Cert.OptRefIdeal.nD Cert.OptRefIdeal.τ).loc Cert.OptRefIdeal.main_arg0) = m ((c.tc : Thread Cert.OptRefIdeal.nD Cert.OptRefIdeal.τ).loc Cert.OptRefIdeal.main_arg0)
      ∧ r.2.mem ((c.tc : Thread Cert.OptRefIdeal.nD Cert.OptRefIdeal.τ).loc Cert.OptRefIdeal.main_arg1) = m ((c.tc : Thread Cert.OptRefIdeal.nD Cert.OptRefIdeal.τ).loc Cert.OptRefIdeal.main_arg1)
      ∧ r.2.mem ((c.tc : Thread Cert.OptRefIdeal.nD Cert.OptRefIdeal.τ).loc Cert.OptRefIdeal.main_arg2) = m ((c.tc : Thread Cert.OptRefIdeal.nD Cert.OptRefIdeal.τ).loc Cert.OptRefIdeal.main_arg2)
      ∧ r.2.mem ((c.tc : Thread Cert.OptRefIdeal.nD Cert.OptRefIdeal.τ).loc Cert.OptRefIdeal.main_arg3) = m ((c.tc : Thread Cert.OptRefIdeal.nD Cert.OptRefIdeal.τ).loc Cert.OptRefIdeal.main_arg3))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Sb_SbIdeal : Prop :=
  True

def algebraic_SbIdeal_SbRefIdeal_pre_finite_sb [hSbIdeal : Cert.SbIdeal.Facts] [hSbRefIdeal : Cert.SbRefIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_finite_sb m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)
      ∧ m' ((c.tc : Thread Cert.SbRefIdeal.nD Cert.SbRefIdeal.τ).loc Cert.SbRefIdeal.main_arg2) = m ((c.tc : Thread Cert.SbIdeal.nD Cert.SbIdeal.τ).loc Cert.SbIdeal.main_arg2)
      ∧ m' ((c.tc : Thread Cert.SbRefIdeal.nD Cert.SbRefIdeal.τ).loc Cert.SbRefIdeal.main_arg3) = m ((c.tc : Thread Cert.SbIdeal.nD Cert.SbIdeal.τ).loc Cert.SbIdeal.main_arg3)) →
    ∃ (v0 : (c : Dev Cert.SbIdeal.nD) → Buf (Elt Ideal) ((c.tc : Thread Cert.SbIdeal.nD Cert.SbIdeal.τ).loc Cert.SbIdeal.main_v20_0)) (v1 : (c : Dev Cert.SbIdeal.nD) → Buf (Elt Ideal) ((c.tc : Thread Cert.SbIdeal.nD Cert.SbIdeal.τ).loc Cert.SbIdeal.main_v25_0)) (v2 : (c : Dev Cert.SbIdeal.nD) → Buf (Elt Ideal) ((c.tc : Thread Cert.SbIdeal.nD Cert.SbIdeal.τ).loc Cert.SbIdeal.main_v25_1)) (v3 : (c : Dev Cert.SbIdeal.nD) → Buf (Elt Ideal) ((c.tc : Thread Cert.SbIdeal.nD Cert.SbIdeal.τ).loc Cert.SbIdeal.main_v25_2)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v20_0) = v0 c
          ∧ r.2.mem ((c.tc : Thread Cert.SbIdeal.nD Cert.SbIdeal.τ).loc Cert.SbIdeal.main_v25_0) = v1 c
          ∧ r.2.mem ((c.tc : Thread Cert.SbIdeal.nD Cert.SbIdeal.τ).loc Cert.SbIdeal.main_v25_1) = v2 c
          ∧ r.2.mem ((c.tc : Thread Cert.SbIdeal.nD Cert.SbIdeal.τ).loc Cert.SbIdeal.main_v25_2) = v3 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
          ∧ r.2.mem ((c.tc : Thread Cert.SbIdeal.nD Cert.SbIdeal.τ).loc Cert.SbIdeal.main_arg3) = m ((c.tc : Thread Cert.SbIdeal.nD Cert.SbIdeal.τ).loc Cert.SbIdeal.main_arg3))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v57) = v0 c
          ∧ r.2.mem ((c.tc : Thread Cert.SbRefIdeal.nD Cert.SbRefIdeal.τ).loc Cert.SbRefIdeal.main_v59) = v1 c
          ∧ r.2.mem ((c.tc : Thread Cert.SbRefIdeal.nD Cert.SbRefIdeal.τ).loc Cert.SbRefIdeal.main_v61) = v2 c
          ∧ r.2.mem ((c.tc : Thread Cert.SbRefIdeal.nD Cert.SbRefIdeal.τ).loc Cert.SbRefIdeal.main_v63) = v3 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2)
          ∧ r.2.mem ((c.tc : Thread Cert.SbRefIdeal.nD Cert.SbRefIdeal.τ).loc Cert.SbRefIdeal.main_arg3) = m' ((c.tc : Thread Cert.SbRefIdeal.nD Cert.SbRefIdeal.τ).loc Cert.SbRefIdeal.main_arg3))

def preserves_Proj_ProjIdeal : Prop :=
  True

def algebraic_ProjIdeal_ProjRefIdeal_pre_finite_proj [hProjIdeal : Cert.ProjIdeal.Facts] [hProjRefIdeal : Cert.ProjRefIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_proj m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)
      ∧ m' ((c.tc : Thread Cert.ProjRefIdeal.nD Cert.ProjRefIdeal.τ).loc Cert.ProjRefIdeal.main_arg11) = m ((c.tc : Thread Cert.ProjIdeal.nD Cert.ProjIdeal.τ).loc Cert.ProjIdeal.main_arg11)) →
    ∃ (v0 : (c : Dev Cert.ProjIdeal.nD) → Buf (Elt Ideal) ((c.tc : Thread Cert.ProjIdeal.nD Cert.ProjIdeal.τ).loc Cert.ProjIdeal.main_v22_0)) (v1 : (c : Dev Cert.ProjIdeal.nD) → Buf (Elt Ideal) ((c.tc : Thread Cert.ProjIdeal.nD Cert.ProjIdeal.τ).loc Cert.ProjIdeal.main_v22_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v22_0) = v0 c
          ∧ r.2.mem ((c.tc : Thread Cert.ProjIdeal.nD Cert.ProjIdeal.τ).loc Cert.ProjIdeal.main_v22_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v60) = v0 c
          ∧ r.2.mem ((c.tc : Thread Cert.ProjRefIdeal.nD Cert.ProjRefIdeal.τ).loc Cert.ProjRefIdeal.main_v59) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10)
          ∧ r.2.mem ((c.tc : Thread Cert.ProjRefIdeal.nD Cert.ProjRefIdeal.τ).loc Cert.ProjRefIdeal.main_arg11) = m' ((c.tc : Thread Cert.ProjRefIdeal.nD Cert.ProjRefIdeal.τ).loc Cert.ProjRefIdeal.main_arg11))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v16_0)) (v1 : (c : Dev Cert.MergeIdeal.nD) → Buf (Elt Ideal) ((c.tc : Thread Cert.MergeIdeal.nD Cert.MergeIdeal.τ).loc Cert.MergeIdeal.main_v16_1)) (v2 : (c : Dev Cert.MergeIdeal.nD) → Buf (Elt Ideal) ((c.tc : Thread Cert.MergeIdeal.nD Cert.MergeIdeal.τ).loc Cert.MergeIdeal.main_v18_0)) (v3 : (c : Dev Cert.MergeIdeal.nD) → Buf (Elt Ideal) ((c.tc : Thread Cert.MergeIdeal.nD Cert.MergeIdeal.τ).loc Cert.MergeIdeal.main_v18_1)) (v4 : (c : Dev Cert.MergeIdeal.nD) → Buf (Elt Ideal) ((c.tc : Thread Cert.MergeIdeal.nD Cert.MergeIdeal.τ).loc Cert.MergeIdeal.main_v18_2)) (v5 : (c : Dev Cert.MergeIdeal.nD) → Buf (Elt Ideal) ((c.tc : Thread Cert.MergeIdeal.nD Cert.MergeIdeal.τ).loc Cert.MergeIdeal.main_v18_3)) (v6 : (c : Dev Cert.MergeIdeal.nD) → Buf (Elt Ideal) ((c.tc : Thread Cert.MergeIdeal.nD Cert.MergeIdeal.τ).loc Cert.MergeIdeal.main_v18_4)) (v7 : (c : Dev Cert.MergeIdeal.nD) → Buf (Elt Ideal) ((c.tc : Thread Cert.MergeIdeal.nD Cert.MergeIdeal.τ).loc Cert.MergeIdeal.main_v18_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16_0) = v0 c
          ∧ r.2.mem ((c.tc : Thread Cert.MergeIdeal.nD Cert.MergeIdeal.τ).loc Cert.MergeIdeal.main_v16_1) = v1 c
          ∧ r.2.mem ((c.tc : Thread Cert.MergeIdeal.nD Cert.MergeIdeal.τ).loc Cert.MergeIdeal.main_v18_0) = v2 c
          ∧ r.2.mem ((c.tc : Thread Cert.MergeIdeal.nD Cert.MergeIdeal.τ).loc Cert.MergeIdeal.main_v18_1) = v3 c
          ∧ r.2.mem ((c.tc : Thread Cert.MergeIdeal.nD Cert.MergeIdeal.τ).loc Cert.MergeIdeal.main_v18_2) = v4 c
          ∧ r.2.mem ((c.tc : Thread Cert.MergeIdeal.nD Cert.MergeIdeal.τ).loc Cert.MergeIdeal.main_v18_3) = v5 c
          ∧ r.2.mem ((c.tc : Thread Cert.MergeIdeal.nD Cert.MergeIdeal.τ).loc Cert.MergeIdeal.main_v18_4) = v6 c
          ∧ r.2.mem ((c.tc : Thread Cert.MergeIdeal.nD Cert.MergeIdeal.τ).loc Cert.MergeIdeal.main_v18_5) = v7 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v41) = v0 c
          ∧ r.2.mem ((c.tc : Thread Cert.MergeRefIdeal.nD Cert.MergeRefIdeal.τ).loc Cert.MergeRefIdeal.main_v43) = v1 c
          ∧ r.2.mem ((c.tc : Thread Cert.MergeRefIdeal.nD Cert.MergeRefIdeal.τ).loc Cert.MergeRefIdeal.main_v45) = v2 c
          ∧ r.2.mem ((c.tc : Thread Cert.MergeRefIdeal.nD Cert.MergeRefIdeal.τ).loc Cert.MergeRefIdeal.main_v47) = v3 c
          ∧ r.2.mem ((c.tc : Thread Cert.MergeRefIdeal.nD Cert.MergeRefIdeal.τ).loc Cert.MergeRefIdeal.main_v49) = v4 c
          ∧ r.2.mem ((c.tc : Thread Cert.MergeRefIdeal.nD Cert.MergeRefIdeal.τ).loc Cert.MergeRefIdeal.main_v53) = v5 c
          ∧ r.2.mem ((c.tc : Thread Cert.MergeRefIdeal.nD Cert.MergeRefIdeal.τ).loc Cert.MergeRefIdeal.main_v54) = v6 c
          ∧ r.2.mem ((c.tc : Thread Cert.MergeRefIdeal.nD Cert.MergeRefIdeal.τ).loc Cert.MergeRefIdeal.main_v55) = v7 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v9_0)) (v1 : (c : Dev Cert.FfnIdeal.nD) → Buf (Elt Ideal) ((c.tc : Thread Cert.FfnIdeal.nD Cert.FfnIdeal.τ).loc Cert.FfnIdeal.main_v9_1)) (v2 : (c : Dev Cert.FfnIdeal.nD) → Buf (Elt Ideal) ((c.tc : Thread Cert.FfnIdeal.nD Cert.FfnIdeal.τ).loc Cert.FfnIdeal.main_v12_0)) (v3 : (c : Dev Cert.FfnIdeal.nD) → Buf (Elt Ideal) ((c.tc : Thread Cert.FfnIdeal.nD Cert.FfnIdeal.τ).loc Cert.FfnIdeal.main_v12_1)) (v4 : (c : Dev Cert.FfnIdeal.nD) → Buf (Elt Ideal) ((c.tc : Thread Cert.FfnIdeal.nD Cert.FfnIdeal.τ).loc Cert.FfnIdeal.main_v12_2)) (v5 : (c : Dev Cert.FfnIdeal.nD) → Buf (Elt Ideal) ((c.tc : Thread Cert.FfnIdeal.nD Cert.FfnIdeal.τ).loc Cert.FfnIdeal.main_v12_3)) (v6 : (c : Dev Cert.FfnIdeal.nD) → Buf (Elt Ideal) ((c.tc : Thread Cert.FfnIdeal.nD Cert.FfnIdeal.τ).loc Cert.FfnIdeal.main_v12_4)) (v7 : (c : Dev Cert.FfnIdeal.nD) → Buf (Elt Ideal) ((c.tc : Thread Cert.FfnIdeal.nD Cert.FfnIdeal.τ).loc Cert.FfnIdeal.main_v12_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9_0) = v0 c
          ∧ r.2.mem ((c.tc : Thread Cert.FfnIdeal.nD Cert.FfnIdeal.τ).loc Cert.FfnIdeal.main_v9_1) = v1 c
          ∧ r.2.mem ((c.tc : Thread Cert.FfnIdeal.nD Cert.FfnIdeal.τ).loc Cert.FfnIdeal.main_v12_0) = v2 c
          ∧ r.2.mem ((c.tc : Thread Cert.FfnIdeal.nD Cert.FfnIdeal.τ).loc Cert.FfnIdeal.main_v12_1) = v3 c
          ∧ r.2.mem ((c.tc : Thread Cert.FfnIdeal.nD Cert.FfnIdeal.τ).loc Cert.FfnIdeal.main_v12_2) = v4 c
          ∧ r.2.mem ((c.tc : Thread Cert.FfnIdeal.nD Cert.FfnIdeal.τ).loc Cert.FfnIdeal.main_v12_3) = v5 c
          ∧ r.2.mem ((c.tc : Thread Cert.FfnIdeal.nD Cert.FfnIdeal.τ).loc Cert.FfnIdeal.main_v12_4) = v6 c
          ∧ r.2.mem ((c.tc : Thread Cert.FfnIdeal.nD Cert.FfnIdeal.τ).loc Cert.FfnIdeal.main_v12_5) = v7 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v66) = v0 c
          ∧ r.2.mem ((c.tc : Thread Cert.FfnRefIdeal.nD Cert.FfnRefIdeal.τ).loc Cert.FfnRefIdeal.main_v68) = v1 c
          ∧ r.2.mem ((c.tc : Thread Cert.FfnRefIdeal.nD Cert.FfnRefIdeal.τ).loc Cert.FfnRefIdeal.main_v69) = v2 c
          ∧ r.2.mem ((c.tc : Thread Cert.FfnRefIdeal.nD Cert.FfnRefIdeal.τ).loc Cert.FfnRefIdeal.main_v65) = v3 c
          ∧ r.2.mem ((c.tc : Thread Cert.FfnRefIdeal.nD Cert.FfnRefIdeal.τ).loc Cert.FfnRefIdeal.main_v71) = v4 c
          ∧ r.2.mem ((c.tc : Thread Cert.FfnRefIdeal.nD Cert.FfnRefIdeal.τ).loc Cert.FfnRefIdeal.main_v73) = v5 c
          ∧ r.2.mem ((c.tc : Thread Cert.FfnRefIdeal.nD Cert.FfnRefIdeal.τ).loc Cert.FfnRefIdeal.main_v75) = v6 c
          ∧ r.2.mem ((c.tc : Thread Cert.FfnRefIdeal.nD Cert.FfnRefIdeal.τ).loc Cert.FfnRefIdeal.main_v77) = v7 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Bias_BiasIdeal : Prop :=
  True

def algebraic_BiasIdeal_BiasRefIdeal_pre_finite_bias [hBiasIdeal : Cert.BiasIdeal.Facts] [hBiasRefIdeal : Cert.BiasRefIdeal.Facts] [hPre_finite_bias : Cert.Pre_finite_bias.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal_finite_bias m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)
      ∧ m' ((c.tc : Thread Cert.BiasRefIdeal.nD Cert.BiasRefIdeal.τ).loc Cert.BiasRefIdeal.main_arg1) = m ((c.tc : Thread Cert.BiasIdeal.nD Cert.BiasIdeal.τ).loc Cert.BiasIdeal.main_arg1)) →
    ∃ (v0 : (c : Dev Cert.BiasIdeal.nD) → Buf (Elt Ideal) ((c.tc : Thread Cert.BiasIdeal.nD Cert.BiasIdeal.τ).loc Cert.BiasIdeal.main_v38)) (v1 : (c : Dev Cert.BiasIdeal.nD) → Buf (Elt Ideal) ((c.tc : Thread Cert.BiasIdeal.nD Cert.BiasIdeal.τ).loc Cert.BiasIdeal.main_v41)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v38) = v0 c
          ∧ r.2.mem ((c.tc : Thread Cert.BiasIdeal.nD Cert.BiasIdeal.τ).loc Cert.BiasIdeal.main_v41) = v1 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
          ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v36) = v0 c
          ∧ r.2.mem ((c.tc : Thread Cert.BiasRefIdeal.nD Cert.BiasRefIdeal.τ).loc Cert.BiasRefIdeal.main_v39) = v1 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0)
          ∧ r.2.mem ((c.tc : Thread Cert.BiasRefIdeal.nD Cert.BiasRefIdeal.τ).loc Cert.BiasRefIdeal.main_arg1) = m' ((c.tc : Thread Cert.BiasRefIdeal.nD Cert.BiasRefIdeal.τ).loc Cert.BiasRefIdeal.main_arg1))

def preserves_Swa_SwaIdeal : Prop :=
  IdealRules.named_const.Statement Cert.SwaIdeal.κ "mask" .f32 0xF149F2CA#32 ⊥

def algebraic_SwaIdeal_SwaRefIdeal_pre_finite_swa [hSwaIdeal : Cert.SwaIdeal.Facts] [hSwaRefIdeal : Cert.SwaRefIdeal.Facts] [hPre_finite_swa : Cert.Pre_finite_swa.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_swa m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)
      ∧ m' ((c.tc : Thread Cert.SwaRefIdeal.nD Cert.SwaRefIdeal.τ).loc Cert.SwaRefIdeal.main_arg4) = m ((c.tc : Thread Cert.SwaIdeal.nD Cert.SwaIdeal.τ).loc Cert.SwaIdeal.main_arg4)) →
    ∃ (v0 : (c : Dev Cert.SwaIdeal.nD) → Buf (Elt Ideal) ((c.tc : Thread Cert.SwaIdeal.nD Cert.SwaIdeal.τ).loc Cert.SwaIdeal.main_v54)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v54) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
          ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v111) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3)
          ∧ r.2.mem ((c.tc : Thread Cert.SwaRefIdeal.nD Cert.SwaRefIdeal.τ).loc Cert.SwaRefIdeal.main_arg4) = m' ((c.tc : Thread Cert.SwaRefIdeal.nD Cert.SwaRefIdeal.τ).loc Cert.SwaRefIdeal.main_arg4))

def preserves_Wgt_WgtIdeal : Prop :=
  True

def algebraic_WgtIdeal_WgtRefIdeal [hWgtIdeal : Cert.WgtIdeal.Facts] [hWgtRefIdeal : Cert.WgtRefIdeal.Facts] : Prop :=
  ∀ (m : (ℓ : Loc Cert.WgtIdeal.nD Cert.WgtIdeal.τ Cert.WgtIdeal.sig) → Buf (Elt Ideal) ℓ) (g : Dev Cert.WgtIdeal.nD → PrngReg)
    (m' : (ℓ : Loc Cert.WgtRefIdeal.nD Cert.WgtRefIdeal.τ Cert.WgtRefIdeal.sig) → Buf (Elt Ideal) ℓ) (g' : Dev Cert.WgtRefIdeal.nD → PrngReg), Pre_WgtIdeal m →
    (∀ c : Dev Cert.WgtIdeal.nD,
      m' ((c.tc : Thread Cert.WgtRefIdeal.nD Cert.WgtRefIdeal.τ).loc Cert.WgtRefIdeal.main_arg0) = m ((c.tc : Thread Cert.WgtIdeal.nD Cert.WgtIdeal.τ).loc Cert.WgtIdeal.main_arg0)
      ∧ m' ((c.tc : Thread Cert.WgtRefIdeal.nD Cert.WgtRefIdeal.τ).loc Cert.WgtRefIdeal.main_arg1) = m ((c.tc : Thread Cert.WgtIdeal.nD Cert.WgtIdeal.τ).loc Cert.WgtIdeal.main_arg1)) →
    ∃ (v0 : (c : Dev Cert.WgtIdeal.nD) → Buf (Elt Ideal) ((c.tc : Thread Cert.WgtIdeal.nD Cert.WgtIdeal.τ).loc Cert.WgtIdeal.main_v4)),
      θ_run (Cert.WgtIdeal.defs (F := Ideal)) (onTc (τ := Cert.WgtIdeal.τ) (Cert.WgtIdeal.main (F := Ideal))) ⟨m, fun _ => 0, g⟩ (fun r => ∀ c : Dev Cert.WgtIdeal.nD,
          r.2.mem ((c.tc : Thread Cert.WgtIdeal.nD Cert.WgtIdeal.τ).loc Cert.WgtIdeal.main_v4) = v0 c
          ∧ r.2.mem ((c.tc : Thread Cert.WgtIdeal.nD Cert.WgtIdeal.τ).loc Cert.WgtIdeal.main_arg0) = m ((c.tc : Thread Cert.WgtIdeal.nD Cert.WgtIdeal.τ).loc Cert.WgtIdeal.main_arg0)
          ∧ r.2.mem ((c.tc : Thread Cert.WgtIdeal.nD Cert.WgtIdeal.τ).loc Cert.WgtIdeal.main_arg1) = m ((c.tc : Thread Cert.WgtIdeal.nD Cert.WgtIdeal.τ).loc Cert.WgtIdeal.main_arg1))
      ∧ θ_run (Cert.WgtRefIdeal.defs (F := Ideal)) (onTc (τ := Cert.WgtRefIdeal.τ) (Cert.WgtRefIdeal.main (F := Ideal))) ⟨m', fun _ => 0, g'⟩ (fun r => ∀ c : Dev Cert.WgtRefIdeal.nD,
          r.2.mem ((c.tc : Thread Cert.WgtRefIdeal.nD Cert.WgtRefIdeal.τ).loc Cert.WgtRefIdeal.main_v6) = v0 c
          ∧ r.2.mem ((c.tc : Thread Cert.WgtRefIdeal.nD Cert.WgtRefIdeal.τ).loc Cert.WgtRefIdeal.main_arg0) = m' ((c.tc : Thread Cert.WgtRefIdeal.nD Cert.WgtRefIdeal.τ).loc Cert.WgtRefIdeal.main_arg0)
          ∧ r.2.mem ((c.tc : Thread Cert.WgtRefIdeal.nD Cert.WgtRefIdeal.τ).loc Cert.WgtRefIdeal.main_arg1) = m' ((c.tc : Thread Cert.WgtRefIdeal.nD Cert.WgtRefIdeal.τ).loc Cert.WgtRefIdeal.main_arg1))

def preserves_Opt_OptIdeal : Prop :=
  True

def algebraic_OptIdeal_OptRefIdeal [hOptIdeal : Cert.OptIdeal.Facts] [hOptRefIdeal : Cert.OptRefIdeal.Facts] : Prop :=
  ∀ (m : (ℓ : Loc Cert.OptIdeal.nD Cert.OptIdeal.τ Cert.OptIdeal.sig) → Buf (Elt Ideal) ℓ) (g : Dev Cert.OptIdeal.nD → PrngReg)
    (m' : (ℓ : Loc Cert.OptRefIdeal.nD Cert.OptRefIdeal.τ Cert.OptRefIdeal.sig) → Buf (Elt Ideal) ℓ) (g' : Dev Cert.OptRefIdeal.nD → PrngReg), Pre_OptIdeal m →
    (∀ c : Dev Cert.OptIdeal.nD,
      m' ((c.tc : Thread Cert.OptRefIdeal.nD Cert.OptRefIdeal.τ).loc Cert.OptRefIdeal.main_arg0) = m ((c.tc : Thread Cert.OptIdeal.nD Cert.OptIdeal.τ).loc Cert.OptIdeal.main_arg0)
      ∧ m' ((c.tc : Thread Cert.OptRefIdeal.nD Cert.OptRefIdeal.τ).loc Cert.OptRefIdeal.main_arg1) = m ((c.tc : Thread Cert.OptIdeal.nD Cert.OptIdeal.τ).loc Cert.OptIdeal.main_arg1)
      ∧ m' ((c.tc : Thread Cert.OptRefIdeal.nD Cert.OptRefIdeal.τ).loc Cert.OptRefIdeal.main_arg2) = m ((c.tc : Thread Cert.OptIdeal.nD Cert.OptIdeal.τ).loc Cert.OptIdeal.main_arg2)
      ∧ m' ((c.tc : Thread Cert.OptRefIdeal.nD Cert.OptRefIdeal.τ).loc Cert.OptRefIdeal.main_arg3) = m ((c.tc : Thread Cert.OptIdeal.nD Cert.OptIdeal.τ).loc Cert.OptIdeal.main_arg3)) →
    ∃ (v0 : (c : Dev Cert.OptIdeal.nD) → Buf (Elt Ideal) ((c.tc : Thread Cert.OptIdeal.nD Cert.OptIdeal.τ).loc Cert.OptIdeal.main_v4_0)) (v1 : (c : Dev Cert.OptIdeal.nD) → Buf (Elt Ideal) ((c.tc : Thread Cert.OptIdeal.nD Cert.OptIdeal.τ).loc Cert.OptIdeal.main_v4_1)) (v2 : (c : Dev Cert.OptIdeal.nD) → Buf (Elt Ideal) ((c.tc : Thread Cert.OptIdeal.nD Cert.OptIdeal.τ).loc Cert.OptIdeal.main_v4_2)),
      θ_run (Cert.OptIdeal.defs (F := Ideal)) (onTc (τ := Cert.OptIdeal.τ) (Cert.OptIdeal.main (F := Ideal))) ⟨m, fun _ => 0, g⟩ (fun r => ∀ c : Dev Cert.OptIdeal.nD,
          r.2.mem ((c.tc : Thread Cert.OptIdeal.nD Cert.OptIdeal.τ).loc Cert.OptIdeal.main_v4_0) = v0 c
          ∧ r.2.mem ((c.tc : Thread Cert.OptIdeal.nD Cert.OptIdeal.τ).loc Cert.OptIdeal.main_v4_1) = v1 c
          ∧ r.2.mem ((c.tc : Thread Cert.OptIdeal.nD Cert.OptIdeal.τ).loc Cert.OptIdeal.main_v4_2) = v2 c
          ∧ r.2.mem ((c.tc : Thread Cert.OptIdeal.nD Cert.OptIdeal.τ).loc Cert.OptIdeal.main_arg0) = m ((c.tc : Thread Cert.OptIdeal.nD Cert.OptIdeal.τ).loc Cert.OptIdeal.main_arg0)
          ∧ r.2.mem ((c.tc : Thread Cert.OptIdeal.nD Cert.OptIdeal.τ).loc Cert.OptIdeal.main_arg1) = m ((c.tc : Thread Cert.OptIdeal.nD Cert.OptIdeal.τ).loc Cert.OptIdeal.main_arg1)
          ∧ r.2.mem ((c.tc : Thread Cert.OptIdeal.nD Cert.OptIdeal.τ).loc Cert.OptIdeal.main_arg2) = m ((c.tc : Thread Cert.OptIdeal.nD Cert.OptIdeal.τ).loc Cert.OptIdeal.main_arg2)
          ∧ r.2.mem ((c.tc : Thread Cert.OptIdeal.nD Cert.OptIdeal.τ).loc Cert.OptIdeal.main_arg3) = m ((c.tc : Thread Cert.OptIdeal.nD Cert.OptIdeal.τ).loc Cert.OptIdeal.main_arg3))
      ∧ θ_run (Cert.OptRefIdeal.defs (F := Ideal)) (onTc (τ := Cert.OptRefIdeal.τ) (Cert.OptRefIdeal.main (F := Ideal))) ⟨m', fun _ => 0, g'⟩ (fun r => ∀ c : Dev Cert.OptRefIdeal.nD,
          r.2.mem ((c.tc : Thread Cert.OptRefIdeal.nD Cert.OptRefIdeal.τ).loc Cert.OptRefIdeal.main_v24) = v0 c
          ∧ r.2.mem ((c.tc : Thread Cert.OptRefIdeal.nD Cert.OptRefIdeal.τ).loc Cert.OptRefIdeal.main_v25) = v1 c
          ∧ r.2.mem ((c.tc : Thread Cert.OptRefIdeal.nD Cert.OptRefIdeal.τ).loc Cert.OptRefIdeal.main_v26) = v2 c
          ∧ r.2.mem ((c.tc : Thread Cert.OptRefIdeal.nD Cert.OptRefIdeal.τ).loc Cert.OptRefIdeal.main_arg0) = m' ((c.tc : Thread Cert.OptRefIdeal.nD Cert.OptRefIdeal.τ).loc Cert.OptRefIdeal.main_arg0)
          ∧ r.2.mem ((c.tc : Thread Cert.OptRefIdeal.nD Cert.OptRefIdeal.τ).loc Cert.OptRefIdeal.main_arg1) = m' ((c.tc : Thread Cert.OptRefIdeal.nD Cert.OptRefIdeal.τ).loc Cert.OptRefIdeal.main_arg1)
          ∧ r.2.mem ((c.tc : Thread Cert.OptRefIdeal.nD Cert.OptRefIdeal.τ).loc Cert.OptRefIdeal.main_arg2) = m' ((c.tc : Thread Cert.OptRefIdeal.nD Cert.OptRefIdeal.τ).loc Cert.OptRefIdeal.main_arg2)
          ∧ r.2.mem ((c.tc : Thread Cert.OptRefIdeal.nD Cert.OptRefIdeal.τ).loc Cert.OptRefIdeal.main_arg3) = m' ((c.tc : Thread Cert.OptRefIdeal.nD Cert.OptRefIdeal.τ).loc Cert.OptRefIdeal.main_arg3))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)) →
    ∃ (v0 : (c : Dev Cert.InpIdeal.nD) → Buf (Elt Ideal) ((c.tc : Thread Cert.InpIdeal.nD Cert.InpIdeal.τ).loc Cert.InpIdeal.main_v5_0)) (v1 : (c : Dev Cert.InpIdeal.nD) → Buf (Elt Ideal) ((c.tc : Thread Cert.InpIdeal.nD Cert.InpIdeal.τ).loc Cert.InpIdeal.main_v5_1)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v5_0) = v0 c
          ∧ r.2.mem ((c.tc : Thread Cert.InpIdeal.nD Cert.InpIdeal.τ).loc Cert.InpIdeal.main_v5_1) = v1 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v18) = v0 c
          ∧ r.2.mem ((c.tc : Thread Cert.InpRefIdeal.nD Cert.InpRefIdeal.τ).loc Cert.InpRefIdeal.main_v19) = v1 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2))

def Claim : Prop :=
  ∃ (hKernel : Cert.Kernel.Facts) (hKernelIdeal : Cert.KernelIdeal.Facts) (hReferenceIdeal : Cert.ReferenceIdeal.Facts) (hSb : Cert.Sb.Facts) (hSbIdeal : Cert.SbIdeal.Facts) (hSbRefIdeal : Cert.SbRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hBias : Cert.Bias.Facts) (hBiasIdeal : Cert.BiasIdeal.Facts) (hBiasRefIdeal : Cert.BiasRefIdeal.Facts) (hSwa : Cert.Swa.Facts) (hSwaIdeal : Cert.SwaIdeal.Facts) (hSwaRefIdeal : Cert.SwaRefIdeal.Facts) (hWgt : Cert.Wgt.Facts) (hWgtIdeal : Cert.WgtIdeal.Facts) (hWgtRefIdeal : Cert.WgtRefIdeal.Facts) (hOpt : Cert.Opt.Facts) (hOptIdeal : Cert.OptIdeal.Facts) (hOptRefIdeal : Cert.OptRefIdeal.Facts) (hInp : Cert.Inp.Facts) (hInpIdeal : Cert.InpIdeal.Facts) (hInpRefIdeal : Cert.InpRefIdeal.Facts) (hPre_finite : Cert.Pre_finite.Facts) (hPre_finite_sb : Cert.Pre_finite_sb.Facts) (hPre_finite_proj : Cert.Pre_finite_proj.Facts) (hPre_finite_ffn : Cert.Pre_finite_ffn.Facts) (hPre_finite_bias : Cert.Pre_finite_bias.Facts) (hPre_finite_swa : Cert.Pre_finite_swa.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Sb (hSb := hSb)
    ∧ quiescent_SbIdeal (hSbIdeal := hSbIdeal)
    ∧ quiescent_SbIdeal_pre_finite_sb (hSbIdeal := hSbIdeal) (hPre_finite_sb := hPre_finite_sb)
    ∧ quiescent_SbRefIdeal (hSbRefIdeal := hSbRefIdeal)
    ∧ quiescent_SbRefIdeal_pre_finite_sb (hSbRefIdeal := hSbRefIdeal) (hPre_finite_sb := hPre_finite_sb)
    ∧ quiescent_Proj (hProj := hProj)
    ∧ quiescent_ProjIdeal (hProjIdeal := hProjIdeal)
    ∧ quiescent_ProjIdeal_pre_finite_proj (hProjIdeal := hProjIdeal) (hPre_finite_proj := hPre_finite_proj)
    ∧ quiescent_ProjRefIdeal (hProjRefIdeal := hProjRefIdeal)
    ∧ quiescent_ProjRefIdeal_pre_finite_proj (hProjRefIdeal := hProjRefIdeal) (hPre_finite_proj := hPre_finite_proj)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Bias (hBias := hBias)
    ∧ quiescent_BiasIdeal (hBiasIdeal := hBiasIdeal)
    ∧ quiescent_BiasIdeal_pre_finite_bias (hBiasIdeal := hBiasIdeal) (hPre_finite_bias := hPre_finite_bias)
    ∧ quiescent_BiasRefIdeal (hBiasRefIdeal := hBiasRefIdeal)
    ∧ quiescent_BiasRefIdeal_pre_finite_bias (hBiasRefIdeal := hBiasRefIdeal) (hPre_finite_bias := hPre_finite_bias)
    ∧ quiescent_Swa (hSwa := hSwa)
    ∧ quiescent_SwaIdeal (hSwaIdeal := hSwaIdeal)
    ∧ quiescent_SwaIdeal_pre_finite_swa (hSwaIdeal := hSwaIdeal) (hPre_finite_swa := hPre_finite_swa)
    ∧ quiescent_SwaRefIdeal (hSwaRefIdeal := hSwaRefIdeal)
    ∧ quiescent_SwaRefIdeal_pre_finite_swa (hSwaRefIdeal := hSwaRefIdeal) (hPre_finite_swa := hPre_finite_swa)
    ∧ quiescent_Wgt (hWgt := hWgt)
    ∧ quiescent_WgtIdeal (hWgtIdeal := hWgtIdeal)
    ∧ quiescent_WgtRefIdeal (hWgtRefIdeal := hWgtRefIdeal)
    ∧ quiescent_Opt (hOpt := hOpt)
    ∧ quiescent_OptIdeal (hOptIdeal := hOptIdeal)
    ∧ quiescent_OptRefIdeal (hOptRefIdeal := hOptRefIdeal)
    ∧ quiescent_Inp (hInp := hInp)
    ∧ quiescent_InpIdeal (hInpIdeal := hInpIdeal)
    ∧ quiescent_InpRefIdeal (hInpRefIdeal := hInpRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Sb_SbIdeal
    ∧ algebraic_SbIdeal_SbRefIdeal_pre_finite_sb (hSbIdeal := hSbIdeal) (hSbRefIdeal := hSbRefIdeal) (hPre_finite_sb := hPre_finite_sb)
    ∧ preserves_Proj_ProjIdeal
    ∧ algebraic_ProjIdeal_ProjRefIdeal_pre_finite_proj (hProjIdeal := hProjIdeal) (hProjRefIdeal := hProjRefIdeal) (hPre_finite_proj := hPre_finite_proj)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Bias_BiasIdeal
    ∧ algebraic_BiasIdeal_BiasRefIdeal_pre_finite_bias (hBiasIdeal := hBiasIdeal) (hBiasRefIdeal := hBiasRefIdeal) (hPre_finite_bias := hPre_finite_bias)
    ∧ preserves_Swa_SwaIdeal
    ∧ algebraic_SwaIdeal_SwaRefIdeal_pre_finite_swa (hSwaIdeal := hSwaIdeal) (hSwaRefIdeal := hSwaRefIdeal) (hPre_finite_swa := hPre_finite_swa)
    ∧ preserves_Wgt_WgtIdeal
    ∧ algebraic_WgtIdeal_WgtRefIdeal (hWgtIdeal := hWgtIdeal) (hWgtRefIdeal := hWgtRefIdeal)
    ∧ preserves_Opt_OptIdeal
    ∧ algebraic_OptIdeal_OptRefIdeal (hOptIdeal := hOptIdeal) (hOptRefIdeal := hOptRefIdeal)
    ∧ preserves_Inp_InpIdeal
    ∧ algebraic_InpIdeal_InpRefIdeal (hInpIdeal := hInpIdeal) (hInpRefIdeal := hInpRefIdeal)
-- ==== Pre_finite.lean ====
abbrev S1x8192x1024 : Shape := ⟨3, ![1, 8192, 1024]⟩
abbrev S1024 : Shape := ⟨1, ![1024]⟩
abbrev S_ : Shape := ⟨0, ![]⟩
abbrev S1x1x1024 : Shape := ⟨3, ![1, 1, 1024]⟩

class Facts : Prop where
  bcast_S_S1x8192x1024 : S_.BroadcastsInDim S1x8192x1024 (![] : Fin 0 → Fin S1x8192x1024.rank)
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S1x8192x1024_0_1_2 : S1x1x1024.BroadcastsInDim S1x8192x1024 (![0, 1, 2] : Fin 3 → Fin S1x8192x1024.rank)

variable [Facts]

def fn {F : FTy → Type} [FloatOps F] (main_arg0 : FVec F S1x8192x1024 .f32) (main_arg1 : FVec F S1024 .f32) (main_arg2 : FVec F S1x8192x1024 .f32) : IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : IVec S1x1x1024 1 := broadcastInDim S1x1x1024 ![2] bcast_S1024_S1x1x1024_2 main_v5
  let main_v7 : IVec S1x8192x1024 1 := broadcastInDim S1x8192x1024 ![0, 1, 2] bcast_S1x1x1024_S1x8192x1024_0_1_2 main_v6
  let main_v8 : IVec S1x8192x1024 1 := andi main_v2 main_v7
  let main_v9 : FVec F S1x8192x1024 .f32 := Host.absf main_arg2
  let main_cst_1 : FVec F S_ .f32 := constant S_ .f32 0x7F800000#32
  let main_v10 : FVec F S1x8192x1024 .f32 := broadcastInDim S1x8192x1024 ![] bcast_S_S1x8192x1024 main_cst_1
  let main_v11 : IVec S1x8192x1024 1 := cmpf .olt main_v9 main_v10
  let main_v12 : IVec S1x8192x1024 1 := andi main_v8 main_v11
  main_v12
-- ==== Pre_finite_bias.lean ====
abbrev S8x128x256 : Shape := ⟨3, ![8, 128, 256]⟩
abbrev S32x8 : Shape := ⟨2, ![32, 8]⟩
abbrev S_ : Shape := ⟨0, ![]⟩

class Facts : Prop where
  bcast_S_S8x128x256 : S_.BroadcastsInDim S8x128x256 (![] : Fin 0 → Fin S8x128x256.rank)
  reducesTo_S8x128x256_S_d0_1_2 : S8x128x256.ReducesTo [0, 1, 2] S_
  h_S_ : 0 < S_.numel
  bcast_S_S32x8 : S_.BroadcastsInDim S32x8 (![] : Fin 0 → Fin S32x8.rank)
  reducesTo_S32x8_S_d0_1 : S32x8.ReducesTo [0, 1] S_

variable [Facts]

def fn {F : FTy → Type} [FloatOps F] (main_arg0 : FVec F S8x128x256 .f32) (main_arg1 : FVec F S32x8 .f32) : IVec S_ 1 :=
  let main_v0 : FVec F S8x128x256 .f32 := Host.absf main_arg0
  let main_cst : FVec F S_ .f32 := constant S_ .f32 0x7F800000#32
  let main_v1 : FVec F S8x128x256 .f32 := broadcastInDim S8x128x256 ![] bcast_S_S8x128x256 main_cst
  let main_v2 : IVec S8x128x256 1 := cmpf .olt main_v0 main_v1
  let main_c : IVec S_ 1 := constantI S_ 1 1#1
  let main_v3 : IVec S_ 1 := (fun x v => Host.reduce IntOp.andi x v reducesTo_S8x128x256_S_d0_1_2 h_S_) main_v2 main_c
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : IVec S_ 1 := andi main_v3 main_v7
  main_v8
-- ==== Pre_finite_ffn.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x1024x2816 .f32) (main_arg5 : FVec F S1x2816x1024 .f32) (main_v13 : IVec S_ 1) (main_v16 : IVec S1x1024x2816 1) : IVec S_ 1 :=
  let main_c_5 : IVec S_ 1 := constantI S_ 1 1#1
  let main_v17 : IVec S_ 1 := (fun x v => Host.reduce IntOp.andi x v reducesTo_S1x1024x2816_S_d0_1_2 h_S_) main_v16 main_c_5
  let main_v18 : IVec S_ 1 := andi main_v13 main_v17
  let main_v19 : FVec F S1x1024x2816 .f32 := Host.absf main_arg4
  let main_cst_6 : FVec F S_ .f32 := constant S_ .f32 0x7F800000#32
  let main_v20 : FVec F S1x1024x2816 .f32 := broadcastInDim S1x1024x2816 ![] bcast_S_S1x1024x2816 main_cst_6
  let main_v21 : IVec S1x1024x2816 1 := cmpf .olt main_v19 main_v20
  let main_c_7 : IVec S_ 1 := constantI S_ 1 1#1
  let main_v22 : IVec S_ 1 := (fun x v => Host.reduce IntOp.andi x v reducesTo_S1x1024x2816_S_d0_1_2 h_S_) main_v21 main_c_7
  let main_v23 : IVec S_ 1 := andi main_v18 main_v22
  let main_v24 : FVec F S1x2816x1024 .f32 := Host.absf main_arg5
  let main_cst_8 : FVec F S_ .f32 := constant S_ .f32 0x7F800000#32
  let main_v25 : FVec F S1x2816x1024 .f32 := broadcastInDim S1x2816x1024 ![] bcast_S_S1x2816x1024 main_cst_8
  let main_v26 : IVec S1x2816x1024 1 := cmpf .olt main_v24 main_v25
  let main_c_9 : IVec S_ 1 := constantI S_ 1 1#1
  let main_v27 : IVec S_ 1 := (fun x v => Host.reduce IntOp.andi x v reducesTo_S1x2816x1024_S_d0_1_2 h_S_) main_v26 main_c_9
  let main_v28 : IVec S_ 1 := andi main_v23 main_v27
  main_v28

def fn {F : FTy → Type} [FloatOps F] (main_arg0 : FVec F S1x8192x1024 .f32) (main_arg1 : FVec F S1x8192x1024 .f32) (main_arg2 : FVec F S1x1024 .f32) (main_arg3 : FVec F S1x1024x2816 .f32) (main_arg4 : FVec F S1x1024x2816 .f32) (main_arg5 : FVec F S1x2816x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x8192x1024 .f32 := Host.absf main_arg1
  let main_cst_0 : FVec F S_ .f32 := constant S_ .f32 0x7F800000#32
  let main_v5 : FVec F S1x8192x1024 .f32 := broadcastInDim S1x8192x1024 ![] bcast_S_S1x8192x1024 main_cst_0
  let main_v6 : IVec S1x8192x1024 1 := cmpf .olt main_v4 main_v5
  let main_c_1 : IVec S_ 1 := constantI S_ 1 1#1
  let main_v7 : IVec S_ 1 := (fun x v => Host.reduce IntOp.andi x v reducesTo_S1x8192x1024_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x2816 .f32 := Host.absf main_arg3
  let main_cst_4 : FVec F S_ .f32 := constant S_ .f32 0x7F800000#32
  let main_v15 : FVec F S1x1024x2816 .f32 := broadcastInDim S1x1024x2816 ![] bcast_S_S1x1024x2816 main_cst_4
  let main_v16 : IVec S1x1024x2816 1 := cmpf .olt main_v14 main_v15
  fn_part1 (F := F) main_arg4 main_arg5 main_v13 main_v16
-- ==== Pre_finite_proj.lean ====
abbrev S1x8192x1024 : Shape := ⟨3, ![1, 8192, 1024]⟩
abbrev S1x8192x512 : Shape := ⟨3, ![1, 8192, 512]⟩
abbrev S1x8192x128 : Shape := ⟨3, ![1, 8192, 128]⟩
abbrev S1x1024 : Shape := ⟨2, ![1, 1024]⟩
abbrev S1x1024x4352 : Shape := ⟨3, ![1, 1024, 4352]⟩
abbrev S_ : Shape := ⟨0, ![]⟩

class Facts : Prop where
  bcast_S_S1x8192x512 : S_.BroadcastsInDim S1x8192x512 (![] : Fin 0 → Fin S1x8192x512.rank)
  reducesTo_S1x8192x512_S_d0_1_2 : S1x8192x512.ReducesTo [0, 1, 2] S_
  h_S_ : 0 < S_.numel
  bcast_S_S1x8192x128 : S_.BroadcastsInDim S1x8192x128 (![] : Fin 0 → Fin S1x8192x128.rank)
  reducesTo_S1x8192x128_S_d0_1_2 : S1x8192x128.ReducesTo [0, 1, 2] S_
  bcast_S_S1x8192x1024 : S_.BroadcastsInDim S1x8192x1024 (![] : Fin 0 → Fin S1x8192x1024.rank)
  reducesTo_S1x8192x1024_S_d0_1_2 : S1x8192x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x4352 : S_.BroadcastsInDim S1x1024x4352 (![] : Fin 0 → Fin S1x1024x4352.rank)
  reducesTo_S1x1024x4352_S_d0_1_2 : S1x1024x4352.ReducesTo [0, 1, 2] S_

variable [Facts]

def fn_part3 {F : FTy → Type} [FloatOps F] (main_v48 : IVec S_ 1) (main_v49 : FVec F S1x1024x4352 .f32) (main_v50 : FVec F S1x1024x4352 .f32) : IVec S_ 1 :=
  let main_v51 : IVec S1x1024x4352 1 := cmpf .olt main_v49 main_v50
  let main_c_19 : IVec S_ 1 := constantI S_ 1 1#1
  let main_v52 : IVec S_ 1 := (fun x v => Host.reduce IntOp.andi x v reducesTo_S1x1024x4352_S_d0_1_2 h_S_) main_v51 main_c_19
  let main_v53 : IVec S_ 1 := andi main_v48 main_v52
  main_v53

def fn_part2 {F : FTy → Type} [FloatOps F] (main_arg8 : FVec F S1x8192x1024 .f32) (main_arg9 : FVec F S1x8192x1024 .f32) (main_arg10 : FVec F S1x1024 .f32) (main_arg11 : FVec F S1x1024x4352 .f32) (main_v33 : IVec S_ 1) : IVec S_ 1 :=
  let main_v34 : FVec F S1x8192x1024 .f32 := Host.absf main_arg8
  let main_cst_12 : FVec F S_ .f32 := constant S_ .f32 0x7F800000#32
  let main_v35 : FVec F S1x8192x1024 .f32 := broadcastInDim S1x8192x1024 ![] bcast_S_S1x8192x1024 main_cst_12
  let main_v36 : IVec S1x8192x1024 1 := cmpf .olt main_v34 main_v35
  let main_c_13 : IVec S_ 1 := constantI S_ 1 1#1
  let main_v37 : IVec S_ 1 := (fun x v => Host.reduce IntOp.andi x v reducesTo_S1x8192x1024_S_d0_1_2 h_S_) main_v36 main_c_13
  let main_v38 : IVec S_ 1 := andi main_v33 main_v37
  let main_v39 : FVec F S1x8192x1024 .f32 := Host.absf main_arg9
  let main_cst_14 : FVec F S_ .f32 := constant S_ .f32 0x7F800000#32
  let main_v40 : FVec F S1x8192x1024 .f32 := broadcastInDim S1x8192x1024 ![] bcast_S_S1x8192x1024 main_cst_14
  let main_v41 : IVec S1x8192x1024 1 := cmpf .olt main_v39 main_v40
  let main_c_15 : IVec S_ 1 := constantI S_ 1 1#1
  let main_v42 : IVec S_ 1 := (fun x v => Host.reduce IntOp.andi x v reducesTo_S1x8192x1024_S_d0_1_2 h_S_) main_v41 main_c_15
  let main_v43 : IVec S_ 1 := andi main_v38 main_v42
  let main_v44 : FVec F S1x1024 .f32 := Host.absf main_arg10
  let main_cst_16 : FVec F S_ .f32 := constant S_ .f32 0x7F800000#32
  let main_v45 : FVec F S1x1024 .f32 := broadcastInDim S1x1024 ![] bcast_S_S1x1024 main_cst_16
  let main_v46 : IVec S1x1024 1 := cmpf .olt main_v44 main_v45
  let main_c_17 : IVec S_ 1 := constantI S_ 1 1#1
  let main_v47 : IVec S_ 1 := (fun x v => Host.reduce IntOp.andi x v reducesTo_S1x1024_S_d0_1 h_S_) main_v46 main_c_17
  let main_v48 : IVec S_ 1 := andi main_v43 main_v47
  let main_v49 : FVec F S1x1024x4352 .f32 := Host.absf main_arg11
  let main_cst_18 : FVec F S_ .f32 := constant S_ .f32 0x7F800000#32
  let main_v50 : FVec F S1x1024x4352 .f32 := broadcastInDim S1x1024x4352 ![] bcast_S_S1x1024x4352 main_cst_18
  fn_part3 (F := F) main_v48 main_v49 main_v50

def fn_part1 {F : FTy → Type} [FloatOps F] (main_arg5 : FVec F S1x8192x512 .f32) (main_arg6 : FVec F S1x8192x512 .f32) (main_arg7 : FVec F S1x8192x1024 .f32) (main_arg8 : FVec F S1x8192x1024 .f32) (main_arg9 : FVec F S1x8192x1024 .f32) (main_arg10 : FVec F S1x1024 .f32) (main_arg11 : FVec F S1x1024x4352 .f32) (main_v13 : IVec S_ 1) (main_v16 : IVec S1x8192x512 1) : IVec S_ 1 :=
  let main_c_5 : IVec S_ 1 := constantI S_ 1 1#1
  let main_v17 : IVec S_ 1 := (fun x v => Host.reduce IntOp.andi x v reducesTo_S1x8192x512_S_d0_1_2 h_S_) main_v16 main_c_5
  let main_v18 : IVec S_ 1 := andi main_v13 main_v17
  let main_v19 : FVec F S1x8192x512 .f32 := Host.absf main_arg5
  let main_cst_6 : FVec F S_ .f32 := constant S_ .f32 0x7F800000#32
  let main_v20 : FVec F S1x8192x512 .f32 := broadcastInDim S1x8192x512 ![] bcast_S_S1x8192x512 main_cst_6
  let main_v21 : IVec S1x8192x512 1 := cmpf .olt main_v19 main_v20
  let main_c_7 : IVec S_ 1 := constantI S_ 1 1#1
  let main_v22 : IVec S_ 1 := (fun x v => Host.reduce IntOp.andi x v reducesTo_S1x8192x512_S_d0_1_2 h_S_) main_v21 main_c_7
  let main_v23 : IVec S_ 1 := andi main_v18 main_v22
  let main_v24 : FVec F S1x8192x512 .f32 := Host.absf main_arg6
  let main_cst_8 : FVec F S_ .f32 := constant S_ .f32 0x7F800000#32
  let main_v25 : FVec F S1x8192x512 .f32 := broadcastInDim S1x8192x512 ![] bcast_S_S1x8192x512 main_cst_8
  let main_v26 : IVec S1x8192x512 1 := cmpf .olt main_v24 main_v25
  let main_c_9 : IVec S_ 1 := constantI S_ 1 1#1
  let main_v27 : IVec S_ 1 := (fun x v => Host.reduce IntOp.andi x v reducesTo_S1x8192x512_S_d0_1_2 h_S_) main_v26 main_c_9
  let main_v28 : IVec S_ 1 := andi main_v23 main_v27
  let main_v29 : FVec F S1x8192x1024 .f32 := Host.absf main_arg7
  let main_cst_10 : FVec F S_ .f32 := constant S_ .f32 0x7F800000#32
  let main_v30 : FVec F S1x8192x1024 .f32 := broadcastInDim S1x8192x1024 ![] bcast_S_S1x8192x1024 main_cst_10
  let main_v31 : IVec S1x8192x1024 1 := cmpf .olt main_v29 main_v30
  let main_c_11 : IVec S_ 1 := constantI S_ 1 1#1
  let main_v32 : IVec S_ 1 := (fun x v => Host.reduce IntOp.andi x v reducesTo_S1x8192x1024_S_d0_1_2 h_S_) main_v31 main_c_11
  let main_v33 : IVec S_ 1 := andi main_v28 main_v32
  fn_part2 (F := F) main_arg8 main_arg9 main_arg10 main_arg11 main_v33

def fn {F : FTy → Type} [FloatOps F] (main_arg0 : FVec F S1x8192x1024 .f32) (main_arg1 : FVec F S1x8192x512 .f32) (main_arg2 : FVec F S1x8192x128 .f32) (main_arg3 : FVec F S1x8192x128 .f32) (main_arg4 : FVec F S1x8192x512 .f32) (main_arg5 : FVec F S1x8192x512 .f32) (main_arg6 : FVec F S1x8192x512 .f32) (main_arg7 : FVec F S1x8192x1024 .f32) (main_arg8 : FVec F S1x8192x1024 .f32) (main_arg9 : FVec F S1x8192x1024 .f32) (main_arg10 : FVec F S1x1024 .f32) (main_arg11 : FVec F S1x1024x4352 .f32) : IVec S_ 1 :=
  let main_v0 : FVec F S1x8192x512 .f32 := Host.absf main_arg1
  let main_cst : FVec F S_ .f32 := constant S_ .f32 0x7F800000#32
  let main_v1 : FVec F S1x8192x512 .f32 := broadcastInDim S1x8192x512 ![] bcast_S_S1x8192x512 main_cst
  let main_v2 : IVec S1x8192x512 1 := cmpf .olt main_v0 main_v1
  let main_c : IVec S_ 1 := constantI S_ 1 1#1
  let main_v3 : IVec S_ 1 := (fun x v => Host.reduce IntOp.andi x v reducesTo_S1x8192x512_S_d0_1_2 h_S_) main_v2 main_c
  let main_v4 : FVec F S1x8192x128 .f32 := Host.absf main_arg2
  let main_cst_0 : FVec F S_ .f32 := constant S_ .f32 0x7F800000#32
  let main_v5 : FVec F S1x8192x128 .f32 := broadcastInDim S1x8192x128 ![] bcast_S_S1x8192x128 main_cst_0
  let main_v6 : IVec S1x8192x128 1 := cmpf .olt main_v4 main_v5
  let main_c_1 : IVec S_ 1 := constantI S_ 1 1#1
  let main_v7 : IVec S_ 1 := (fun x v => Host.reduce IntOp.andi x v reducesTo_S1x8192x128_S_d0_1_2 h_S_) main_v6 main_c_1
  let main_v8 : IVec S_ 1 := andi main_v3 main_v7
  let main_v9 : FVec F S1x8192x128 .f32 := Host.absf main_arg3
  let main_cst_2 : FVec F S_ .f32 := constant S_ .f32 0x7F800000#32
  let main_v10 : FVec F S1x8192x128 .f32 := broadcastInDim S1x8192x128 ![] bcast_S_S1x8192x128 main_cst_2
  let main_v11 : IVec S1x8192x128 1 := cmpf .olt main_v9 main_v10
  let main_c_3 : IVec S_ 1 := constantI S_ 1 1#1
  let main_v12 : IVec S_ 1 := (fun x v => Host.reduce IntOp.andi x v reducesTo_S1x8192x128_S_d0_1_2 h_S_) main_v11 main_c_3
  let main_v13 : IVec S_ 1 := andi main_v8 main_v12
  let main_v14 : FVec F S1x8192x512 .f32 := Host.absf main_arg4
  let main_cst_4 : FVec F S_ .f32 := constant S_ .f32 0x7F800000#32
  let main_v15 : FVec F S1x8192x512 .f32 := broadcastInDim S1x8192x512 ![] bcast_S_S1x8192x512 main_cst_4
  let main_v16 : IVec S1x8192x512 1 := cmpf .olt main_v14 main_v15
  fn_part1 (F := F) main_arg5 main_arg6 main_arg7 main_arg8 main_arg9 main_arg10 main_arg11 main_v13 main_v16
-- ==== Pre_finite_sb.lean ====
abbrev S1x8192x512 : Shape := ⟨3, ![1, 8192, 512]⟩
abbrev S_ : Shape := ⟨0, ![]⟩

class Facts : Prop where
  bcast_S_S1x8192x512 : S_.BroadcastsInDim S1x8192x512 (![] : Fin 0 → Fin S1x8192x512.rank)

variable [Facts]

def fn {F : FTy → Type} [FloatOps F] (main_arg0 : FVec F S1x8192x512 .f32) (main_arg1 : FVec F S1x8192x512 .f32) (main_arg2 : FVec F S1x8192x512 .f32) (main_arg3 : FVec F S1x8192x512 .f32) : IVec S1x8192x512 1 :=
  let main_v0 : FVec F S1x8192x512 .f32 := Host.absf main_arg0
  let main_cst : FVec F S_ .f32 := constant S_ .f32 0x7F800000#32
  let main_v1 : FVec F S1x8192x512 .f32 := broadcastInDim S1x8192x512 ![] bcast_S_S1x8192x512 main_cst
  let main_v2 : IVec S1x8192x512 1 := cmpf .olt main_v0 main_v1
  let main_v3 : FVec F S1x8192x512 .f32 := Host.absf main_arg1
  let main_cst_0 : FVec F S_ .f32 := constant S_ .f32 0x7F800000#32
  let main_v4 : FVec F S1x8192x512 .f32 := broadcastInDim S1x8192x512 ![] bcast_S_S1x8192x512 main_cst_0
  let main_v5 : IVec S1x8192x512 1 := cmpf .olt main_v3 main_v4
  let main_v6 : IVec S1x8192x512 1 := andi main_v2 main_v5
  let main_v7 : FVec F S1x8192x512 .f32 := Host.absf main_arg2
  let main_cst_1 : FVec F S_ .f32 := constant S_ .f32 0x7F800000#32
  let main_v8 : FVec F S1x8192x512 .f32 := broadcastInDim S1x8192x512 ![] bcast_S_S1x8192x512 main_cst_1
  let main_v9 : IVec S1x8192x512 1 := cmpf .olt main_v7 main_v8
  let main_v10 : IVec S1x8192x512 1 := andi main_v6 main_v9
  let main_v11 : FVec F S1x8192x512 .f32 := Host.absf main_arg3
  let main_cst_2 : FVec F S_ .f32 := constant S_ .f32 0x7F800000#32
  let main_v12 : FVec F S1x8192x512 .f32 := broadcastInDim S1x8192x512 ![] bcast_S_S1x8192x512 main_cst_2
  let main_v13 : IVec S1x8192x512 1 := cmpf .olt main_v11 main_v12
  let main_v14 : IVec S1x8192x512 1 := andi main_v10 main_v13
  main_v14
-- ==== Pre_finite_swa.lean ====
abbrev S1x8192x512 : Shape := ⟨3, ![1, 8192, 512]⟩
abbrev S1x8192x128 : Shape := ⟨3, ![1, 8192, 128]⟩
abbrev S1x8 : Shape := ⟨2, ![1, 8]⟩
abbrev S32x8 : Shape := ⟨2, ![32, 8]⟩
abbrev S_ : Shape := ⟨0, ![]⟩

class Facts : Prop where
  bcast_S_S1x8192x512 : S_.BroadcastsInDim S1x8192x512 (![] : Fin 0 → Fin S1x8192x512.rank)
  reducesTo_S1x8192x512_S_d0_1_2 : S1x8192x512.ReducesTo [0, 1, 2] S_
  h_S_ : 0 < S_.numel
  bcast_S_S1x8192x128 : S_.BroadcastsInDim S1x8192x128 (![] : Fin 0 → Fin S1x8192x128.rank)
  reducesTo_S1x8192x128_S_d0_1_2 : S1x8192x128.ReducesTo [0, 1, 2] S_
  bcast_S_S1x8 : S_.BroadcastsInDim S1x8 (![] : Fin 0 → Fin S1x8.rank)
  reducesTo_S1x8_S_d0_1 : S1x8.ReducesTo [0, 1] S_
  bcast_S_S32x8 : S_.BroadcastsInDim S32x8 (![] : Fin 0 → Fin S32x8.rank)
  reducesTo_S32x8_S_d0_1 : S32x8.ReducesTo [0, 1] S_

variable [Facts]

def fn_part1 {F : FTy → Type} [FloatOps F] (main_v13 : IVec S_ 1) (main_v16 : IVec S32x8 1) : IVec S_ 1 :=
  let main_c_5 : IVec S_ 1 := constantI S_ 1 1#1
  let main_v17 : IVec S_ 1 := (fun x v => Host.reduce IntOp.andi x v reducesTo_S32x8_S_d0_1 h_S_) main_v16 main_c_5
  let main_v18 : IVec S_ 1 := andi main_v13 main_v17
  main_v18

def fn {F : FTy → Type} [FloatOps F] (main_arg0 : FVec F S1x8192x512 .f32) (main_arg1 : FVec F S1x8192x128 .f32) (main_arg2 : FVec F S1x8192x128 .f32) (main_arg3 : FVec F S1x8 .f32) (main_arg4 : FVec F S32x8 .f32) : IVec S_ 1 :=
  let main_v0 : FVec F S1x8192x512 .f32 := Host.absf main_arg0
  let main_cst : FVec F S_ .f32 := constant S_ .f32 0x7F800000#32
  let main_v1 : FVec F S1x8192x512 .f32 := broadcastInDim S1x8192x512 ![] bcast_S_S1x8192x512 main_cst
  let main_v2 : IVec S1x8192x512 1 := cmpf .olt main_v0 main_v1
  let main_c : IVec S_ 1 := constantI S_ 1 1#1
  let main_v3 : IVec S_ 1 := (fun x v => Host.reduce IntOp.andi x v reducesTo_S1x8192x512_S_d0_1_2 h_S_) main_v2 main_c
  let main_v4 : FVec F S1x8192x128 .f32 := Host.absf main_arg1
  let main_cst_0 : FVec F S_ .f32 := constant S_ .f32 0x7F800000#32
  let main_v5 : FVec F S1x8192x128 .f32 := broadcastInDim S1x8192x128 ![] bcast_S_S1x8192x128 main_cst_0
  let main_v6 : IVec S1x8192x128 1 := cmpf .olt main_v4 main_v5
  let main_c_1 : IVec S_ 1 := constantI S_ 1 1#1
  let main_v7 : IVec S_ 1 := (fun x v => Host.reduce IntOp.andi x v reducesTo_S1x8192x128_S_d0_1_2 h_S_) main_v6 main_c_1
  let main_v8 : IVec S_ 1 := andi main_v3 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  let main_v14 : FVec F S32x8 .f32 := Host.absf main_arg4
  let main_cst_4 : FVec F S_ .f32 := constant S_ .f32 0x7F800000#32
  let main_v15 : FVec F S32x8 .f32 := broadcastInDim S32x8 ![] bcast_S_S32x8 main_cst_4
  let main_v16 : IVec S32x8 1 := cmpf .olt main_v14 main_v15
  fn_part1 (F := F) main_v13 main_v16
-- ==== Kernel.lean ====
abbrev S1x8192x1024 : Shape := ⟨3, ![1, 8192, 1024]⟩
abbrev S1024 : Shape := ⟨1, ![1024]⟩
abbrev S8192x1024 : Shape := ⟨2, ![8192, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 9
  | .vmem => 9
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1, .f32⟩
  | .hbm, ⟨7, _⟩ => ⟨S8192x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_20 : BitVec 32 := 0#32
  let v58 : BitVec 1 := Scalar.cmpi .ne v57 c0_i32_20
  v58

def k0_cond2 (i : grid0.Coords) : BitVec 1 :=
  let arg0 : BitVec 32 := BitVec.ofNat 32 (i 0).val
  let c0_i32_21 : BitVec 32 := 0#32
  let v59 : BitVec 1 := Scalar.cmpi .sgt arg0 c0_i32_21
  let v60 : BitVec 32 := Scalar.extui v59
  let c0_i32_22 : BitVec 32 := 0#32
  let v61 : BitVec 1 := Scalar.cmpi .ne v60 c0_i32_22
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x8192x1024 : Shape := ⟨3, ![1, 8192, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 75
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S1x1, .f32⟩
  | .hbm, ⟨74, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_cst_8 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_cst_15 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Sb.lean ====
abbrev S1x8192x512 : Shape := ⟨3, ![1, 8192, 512]⟩
abbrev S8192x512 : Shape := ⟨2, ![8192, 512]⟩
abbrev S32x256x8x64 : Shape := ⟨4, ![32, 256, 8, 64]⟩
abbrev S8x32x256x64 : Shape := ⟨4, ![8, 32, 256, 64]⟩
abbrev S_ : Shape := ⟨0, ![]⟩
abbrev S8x32x64x256 : Shape := ⟨4, ![8, 32, 64, 256]⟩
abbrev S8x32x256x1 : Shape := ⟨4, ![8, 32, 256, 1]⟩
abbrev S1x32x256x64 : Shape := ⟨4, ![1, 32, 256, 64]⟩
abbrev S1x32x64x256 : Shape := ⟨4, ![1, 32, 64, 256]⟩
abbrev S1x32x256x1 : Shape := ⟨4, ![1, 32, 256, 1]⟩
abbrev S256x256 : Shape := ⟨2, ![256, 256]⟩
abbrev S1x1x256x64 : Shape := ⟨4, ![1, 1, 256, 64]⟩
abbrev S256x64 : Shape := ⟨2, ![256, 64]⟩
abbrev S256x1 : Shape := ⟨2, ![256, 1]⟩
abbrev S64x256 : Shape := ⟨2, ![64, 256]⟩
abbrev S1x1x64x256 : Shape := ⟨4, ![1, 1, 64, 256]⟩
abbrev S256 : Shape := ⟨1, ![256]⟩
abbrev S1x1x256x1 : Shape := ⟨4, ![1, 1, 256, 1]⟩
abbrev S32x64x256 : Shape := ⟨3, ![32, 64, 256]⟩

abbrev nBuf : Space → Nat
  | .hbm => 35
  | .vmem => 30
  | .smem => 0
  | _ => 0

abbrev bufTy : (tb : Table) → Fin (tcTables nBuf tb) → BufTy
  | .hbm, ⟨0, _⟩ => ⟨S1x8192x512, .f32⟩
  | .hbm, ⟨1, _⟩ => ⟨S1x8192x512, .f32⟩
  | .hbm, ⟨2, _⟩ => ⟨S1x8192x512, .f32⟩
  | .hbm, ⟨3, _⟩ => ⟨S1x8192x512, .f32⟩
  | .hbm, ⟨4, _⟩ => ⟨S8192x512, .f32⟩
  | .hbm, ⟨5, _⟩ => ⟨S8192x512, .bf16⟩
  | .hbm, ⟨6, _⟩ => ⟨S8192x512, .f32⟩
  | .hbm, ⟨7, _⟩ => ⟨S8192x512, .bf16⟩
  | .hbm, ⟨8, _⟩ => ⟨S8192x512, .f32⟩
  | .hbm, ⟨9, _⟩ => ⟨S8192x512, .bf16⟩
  | .hbm, ⟨10, _⟩ => ⟨S8192x512, .f32⟩
  | .hbm, ⟨11, _⟩ => ⟨S8192x512, .bf16⟩
  | .hbm, ⟨12, _⟩ => ⟨S32x256x8x64, .bf16⟩
  | .hbm, ⟨13, _⟩ => ⟨S8x32x256x64, .bf16⟩
  | .hbm, ⟨14, _⟩ => ⟨S_, .bf16⟩
  | .hbm, ⟨15, _⟩ => ⟨S8x32x256x64, .bf16⟩
  | .hbm, ⟨16, _⟩ => ⟨S8x32x256x64, .bf16⟩
  | .hbm, ⟨17, _⟩ => ⟨S32x256x8x64, .bf16⟩
  | .hbm, ⟨18, _⟩ => ⟨S8x32x64x256, .bf16⟩
  | .hbm, ⟨19, _⟩ => ⟨S_, .bf16⟩
  | .hbm, ⟨20, _⟩ => ⟨S8x32x64x256, .bf16⟩
  | .hbm, ⟨21, _⟩ => ⟨S8x32x64x256, .bf16⟩
  | .hbm, ⟨22, _⟩ => ⟨S32x256x8x64, .bf16⟩
  | .hbm, ⟨23, _⟩ => ⟨S8x32x64x256, .bf16⟩
  | .hbm, ⟨24, _⟩ => ⟨S32x256x8x64, .bf16⟩
  | .hbm, ⟨25, _⟩ => ⟨S8x32x64x256, .bf16⟩
  | .hbm, ⟨26, _⟩ => ⟨S8x32x64x256, .f32⟩
  | .hbm, ⟨27, _⟩ => ⟨S8x32x256x1, .f32⟩
  | .hbm, ⟨28, _⟩ => ⟨S32x256x8x64, .bf16⟩
  | .hbm, ⟨29, _⟩ => ⟨S8x32x256x64, .bf16⟩
  | .hbm, ⟨30, _⟩ => ⟨S32x256x8x64, .bf16⟩
  | .hbm, ⟨31, _⟩ => ⟨S8x32x64x256, .bf16⟩
  | .hbm, ⟨32, _⟩ => ⟨S8x32x64x256, .f32⟩
  | .hbm, ⟨33, _⟩ => ⟨S8x32x64x256, .f32⟩
  | .hbm, ⟨34, _⟩ => ⟨S8x32x64x256, .f32⟩
  | .local _ .vmem, ⟨0, _⟩ => ⟨S1x32x256x64, .bf16⟩
  | .local _ .vmem, ⟨1, _⟩ => ⟨S1x32x256x64, .bf16⟩
  | .local _ .vmem, ⟨2, _⟩ => ⟨S1x32x64x256, .bf16⟩
  | .local _ .vmem, ⟨3, _⟩ => ⟨S1x32x64x256, .bf16⟩
  | .local _ .vmem, ⟨4, _⟩ => ⟨S1x32x64x256, .bf16⟩
  | .local _ .vmem, ⟨5, _⟩ => ⟨S1x32x64x256, .bf16⟩
  | .local _ .vmem, ⟨6, _⟩ => ⟨S1x32x64x256, .f32⟩
  | .local _ .vmem, ⟨7, _⟩ => ⟨S1x32x64x256, .f32⟩
  | .local _ .vmem, ⟨8, _⟩ => ⟨S1x32x256x1, .f32⟩
  | .local _ .vmem, ⟨9, _⟩ => ⟨S1x32x256x1, .f32⟩
  | .local _ .vmem, ⟨10, _⟩ => ⟨S1x32x256x64, .bf16⟩
  | .local _ .vmem, ⟨11, _⟩ => ⟨S1x32x256x64, .bf16⟩
  | .local _ .vmem, ⟨12, _⟩ => ⟨S1x32x64x256, .bf16⟩
  | .local _ .vmem, ⟨13, _⟩ => ⟨S1x32x64x256, .bf16⟩
  | .local _ .vmem, ⟨14, _⟩ => ⟨S1x32x64x256, .bf16⟩
  | .local _ .vmem, ⟨15, _⟩ => ⟨S1x32x64x256, .bf16⟩
  | .local _ .vmem, ⟨16, _⟩ => ⟨S1x32x64x256, .bf16⟩
  | .local _ .vmem, ⟨17, _⟩ => ⟨S1x32x64x256, .bf16⟩
  | .local _ .vmem, ⟨18, _⟩ => ⟨S1x32x256x64, .bf16⟩
  | .local _ .vmem, ⟨19, _⟩ => ⟨S1x32x256x64, .bf16⟩
  | .local _ .vmem, ⟨20, _⟩ => ⟨S1x32x64x256, .bf16⟩
  | .local _ .vmem, ⟨21, _⟩ => ⟨S1x32x64x256, .bf16⟩
  | .local _ .vmem, ⟨22, _⟩ => ⟨S1x32x256x1, .f32⟩
  | .local _ .vmem, ⟨23, _⟩ => ⟨S1x32x256x1, .f32⟩
  | .local _ .vmem, ⟨24, _⟩ => ⟨S1x32x64x256, .f32⟩
  | .local _ .vmem, ⟨25, _⟩ => ⟨S1x32x64x256, .f32⟩
  | .local _ .vmem, ⟨26, _⟩ => ⟨S1x32x64x256, .f32⟩
  | .local _ .vmem, ⟨27, _⟩ => ⟨S1x32x64x256, .f32⟩
  | .local _ .vmem, ⟨28, _⟩ => ⟨S1x32x64x256, .f32⟩
  | .local _ .vmem, ⟨29, _⟩ => ⟨S1x32x64x256, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20_0 : Ref sig .tc := ⟨.hbm, 26, rfl⟩
abbrev main_v20_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25_0 : Ref sig .tc := ⟨.hbm, 32, rfl⟩
abbrev main_v25_1 : Ref sig .tc := ⟨.hbm, 33, rfl⟩
abbrev main_v25_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v7 : BitVec 32 := Scalar.addi c0_i32 c32_i32
  let c1_i32 : BitVec 32 := 1#32
  ⟨c0_i32, v7, c1_i32⟩
def k0_off1 (k0_t1 : Fin k0_t1_loop.trips) : Fin 4 → Nat :=
  let c0 : Index := 0#32
  let c0_i32 : BitVec 32 := 0#32
  let c1_i32 : BitVec 32 := 1#32
  let arg6 : BitVec 32 := Scf.iv c0_i32 c1_i32 k0_t1
  let v8 : Index := Scalar.indexCast arg6
  let c0_1 : Index := 0#32
  let c0_2 : Index := 0#32
  ![0, v8.toNat, 0, 0]
@[reducible] def k0_t2_loop (k0_t1 : Fin k0_t1_loop.trips) : Scf.Loop 32 :=
  let c0_i32_5 : BitVec 32 := 0#32
  let c0_i32 : BitVec 32 := 0#32
  let c1_i32 : BitVec 32 := 1#32
  let arg6 : BitVec 32 := Scf.iv c0_i32 c1_i32 k0_t1
  let c1_i32_3 : BitVec 32 := 1#32
  let v11 : BitVec 32 := Scalar.addi arg6 c1_i32_3
  let v14 : BitVec 32 := Scalar.subi v11 c0_i32_5
  let c1_i32_6 : BitVec 32 := 1#32
  let v16 : BitVec 32 := Scalar.divsi v14 c1_i32_6
  let v17 : BitVec 32 := Scalar.muli v16 c1_i32_6
  let v18 : BitVec 32 := Scalar.addi c0_i32_5 v17
  let c1_i32_7 : BitVec 32 := 1#32
  ⟨c0_i32_5, v18, c1_i32_7⟩
def k0_off2 (k0_t1 : Fin k0_t1_loop.trips) (k0_t2 : Fin (k0_t2_loop k0_t1).trips) : Fin 4 → Nat :=
  let c0_15 : Index := 0#32
  let c0_i32 : BitVec 32 := 0#32
  let c1_i32 : BitVec 32 := 1#32
  let arg6 : BitVec 32 := Scf.iv c0_i32 c1_i32 k0_t1
  let c0_i32_5 : BitVec 32 := 0#32
  let c1_i32_7 : BitVec 32 := 1#32
  let arg7 : BitVec 32 := Scf.iv c0_i32_5 c1_i32_7 k0_t2
  let v29 : BitVec 32 := Scalar.subi arg6 arg7
  let v30 : Index := Scalar.indexCast v29
  let c0_16 : Index := 0#32
  let c0_17 : Index := 0#32
  ![0, v30.toNat, 0, 0]
@[reducible] def k0_t3_loop (k0_t1 : Fin k0_t1_loop.trips) : Scf.Loop 32 :=
  let c0_i32_5 : BitVec 32 := 0#32
  let c0_i32 : BitVec 32 := 0#32
  let c1_i32 : BitVec 32 := 1#32
  let arg6 : BitVec 32 := Scf.iv c0_i32 c1_i32 k0_t1
  let c1_i32_3 : BitVec 32 := 1#32
  let v11 : BitVec 32 := Scalar.addi arg6 c1_i32_3
  let v14 : BitVec 32 := Scalar.subi v11 c0_i32_5
  let c1_i32_6 : BitVec 32 := 1#32
  let v16 : BitVec 32 := Scalar.divsi v14 c1_i32_6
  let v17 : BitVec 32 := Scalar.muli v16 c1_i32_6
  let v18 : BitVec 32 := Scalar.addi c0_i32_5 v17
  let v15 : BitVec 32 := Scalar.addi c0_i32_5 v14
  let c1_i32_8 : BitVec 32 := 1#32
  ⟨v18, v15, c1_i32_8⟩
def k0_off3 (k0_t1 : Fin k0_t1_loop.trips) (k0_t3 : Fin (k0_t3_loop k0_t1).trips) : Fin 4 → Nat :=
  let c0_15 : Index := 0#32
  let c0_i32 : BitVec 32 := 0#32
  let c1_i32 : BitVec 32 := 1#32
  let arg6 : BitVec 32 := Scf.iv c0_i32 c1_i32 k0_t1
  let c0_i32_5 : BitVec 32 := 0#32
  let c1_i32_3 : BitVec 32 := 1#32
  let v11 : BitVec 32 := Scalar.addi arg6 c1_i32_3
  let v14 : BitVec 32 := Scalar.subi v11 c0_i32_5
  let c1_i32_6 : BitVec 32 := 1#32
  let v16 : BitVec 32 := Scalar.divsi v14 c1_i32_6
  let v17 : BitVec 32 := Scalar.muli v16 c1_i32_6
  let v18 : BitVec 32 := Scalar.addi c0_i32_5 v17
  let c1_i32_8 : BitVec 32 := 1#32
  let arg7 : BitVec 32 := Scf.iv v18 c1_i32_8 k0_t3
  let v29 : BitVec 32 := Scalar.subi arg6 arg7
  let v30 : Index := Scalar.indexCast v29
  let c0_16 : Index := 0#32
  let c0_17 : Index := 0#32
  ![0, v30.toNat, 0, 0]
def k0_off4 (k0_t1 : Fin k0_t1_loop.trips) : Fin 4 → Nat :=
  let c0_9 : Index := 0#32
  let c0_i32 : BitVec 32 := 0#32
  let c1_i32 : BitVec 32 := 1#32
  let arg6 : BitVec 32 := Scf.iv c0_i32 c1_i32 k0_t1
  let v21 : Index := Scalar.indexCast arg6
  let c0_10 : Index := 0#32
  let c0_11 : Index := 0#32
  ![0, v21.toNat, 0, 0]
def k0_off5 (k0_t1 : Fin k0_t1_loop.trips) : Fin 4 → Nat :=
  let c0_12 : Index := 0#32
  let c0_i32 : BitVec 32 := 0#32
  let c1_i32 : BitVec 32 := 1#32
  let arg6 : BitVec 32 := Scf.iv c0_i32 c1_i32 k0_t1
  let v25 : Index := Scalar.indexCast arg6
  let c0_13 : Index := 0#32
  let c0_14 : Index := 0#32
  ![0, v25.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

@[reducible] def k1_t1_loop : Scf.Loop 32 :=
  let c0_i32 : BitVec 32 := 0#32
  let c32_i32 : BitVec 32 := 32#32
  let v19 : BitVec 32 := Scalar.addi c0_i32 c32_i32
  let c1_i32 : BitVec 32 := 1#32
  ⟨c0_i32, v19, c1_i32⟩
def k1_off1 (k1_t1 : Fin k1_t1_loop.trips) : Fin 4 → Nat :=
  let c0_9 : Index := 0#32
  let c0_i32 : BitVec 32 := 0#32
  let c1_i32 : BitVec 32 := 1#32
  let arg11 : BitVec 32 := Scf.iv c0_i32 c1_i32 k1_t1
  let v20 : Index := Scalar.indexCast arg11
  let c0_10 : Index := 0#32
  let c0_11 : Index := 0#32
  ![0, v20.toNat, 0, 0]
def k1_off2 (k1_t1 : Fin k1_t1_loop.trips) : Fin 4 → Nat :=
  let c0_12 : Index := 0#32
  let c0_i32 : BitVec 32 := 0#32
  let c1_i32 : BitVec 32 := 1#32
  let arg11 : BitVec 32 := Scf.iv c0_i32 c1_i32 k1_t1
  let v23 : Index := Scalar.indexCast arg11
  let c0_13 : Index := 0#32
  let c0_14 : Index := 0#32
  ![0, v23.toNat, 0, 0]
def k1_off3 (k1_t1 : Fin k1_t1_loop.trips) : Fin 4 → Nat :=
  let c0_21 : Index := 0#32
  let c0_i32 : BitVec 32 := 0#32
  let c1_i32 : BitVec 32 := 1#32
  let arg11 : BitVec 32 := Scf.iv c0_i32 c1_i32 k1_t1
  let v32 : Index := Scalar.indexCast arg11
  let c0_22 : Index := 0#32
  let c0_23 : Index := 0#32
  ![0, v32.toNat, 0, 0]
@[reducible] def k1_t2_loop (k1_t1 : Fin k1_t1_loop.trips) : Scf.Loop 32 :=
  let c0_i32_27 : BitVec 32 := 0#32
  let c0_i32 : BitVec 32 := 0#32
  let c1_i32 : BitVec 32 := 1#32
  let arg11 : BitVec 32 := Scf.iv c0_i32 c1_i32 k1_t1
  let c1_i32_25 : BitVec 32 := 1#32
  let v36 : BitVec 32 := Scalar.addi arg11 c1_i32_25
  let v38 : BitVec 32 := Scalar.subi v36 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_29 : BitVec 32 := 1#32
  ⟨c0_i32_27, v42, c1_i32_29⟩
def k1_off4 (k1_t1 : Fin k1_t1_loop.trips) (k1_t2 : Fin (k1_t2_loop k1_t1).trips) : Fin 4 → Nat :=
  let c0_34 : Index := 0#32
  let c0_i32_27 : BitVec 32 := 0#32
  let c1_i32_29 : BitVec 32 := 1#32
  let arg12 : BitVec 32 := Scf.iv c0_i32_27 c1_i32_29 k1_t2
  let v49 : Index := Scalar.indexCast arg12
  let c0_35 : Index := 0#32
  let c0_36 : Index := 0#32
  ![0, v49.toNat, 0, 0]
@[reducible] def k1_t3_loop (k1_t1 : Fin k1_t1_loop.trips) : Scf.Loop 32 :=
  let c0_i32_27 : BitVec 32 := 0#32
  let c0_i32 : BitVec 32 := 0#32
  let c1_i32 : BitVec 32 := 1#32
  let arg11 : BitVec 32 := Scf.iv c0_i32 c1_i32 k1_t1
  let c1_i32_25 : BitVec 32 := 1#32
  let v36 : BitVec 32 := Scalar.addi arg11 c1_i32_25
  let v38 : BitVec 32 := Scalar.subi v36 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let v39 : BitVec 32 := Scalar.addi c0_i32_27 v38
  let c1_i32_30 : BitVec 32 := 1#32
  ⟨v42, v39, c1_i32_30⟩
def k1_off5 (k1_t1 : Fin k1_t1_loop.trips) (k1_t3 : Fin (k1_t3_loop k1_t1).trips) : Fin 4 → Nat :=
  let c0_34 : Index := 0#32
  let c0_i32_27 : BitVec 32 := 0#32
  let c0_i32 : BitVec 32 := 0#32
  let c1_i32 : BitVec 32 := 1#32
  let arg11 : BitVec 32 := Scf.iv c0_i32 c1_i32 k1_t1
  let c1_i32_25 : BitVec 32 := 1#32
  let v36 : BitVec 32 := Scalar.addi arg11 c1_i32_25
  let v38 : BitVec 32 := Scalar.subi v36 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg12 : BitVec 32 := Scf.iv v42 c1_i32_30 k1_t3
  let v49 : Index := Scalar.indexCast arg12
  let c0_35 : Index := 0#32
  let c0_36 : Index := 0#32
  ![0, v49.toNat, 0, 0]
def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_8 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_9 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x32x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x32x64x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x32x64x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x32x64x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x32x256x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x32x64x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x32x256x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x32x64x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x32x64x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x32x64x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== SbRefIdeal.lean ====
abbrev S1x8192x512 : Shape := ⟨3, ![1, 8192, 512]⟩
abbrev S8192x512 : Shape := ⟨2, ![8192, 512]⟩
abbrev S8192x8x64 : Shape := ⟨3, ![8192, 8, 64]⟩
abbrev S_ : Shape := ⟨0, ![]⟩
abbrev S8x8192x64 : Shape := ⟨3, ![8, 8192, 64]⟩
abbrev S8192 : Shape := ⟨1, ![8192]⟩
abbrev S8x8192x8192 : Shape := ⟨3, ![8, 8192, 8192]⟩
abbrev S1x8192 : Shape := ⟨2, ![1, 8192]⟩
abbrev S8192x1 : Shape := ⟨2, ![8192, 1]⟩
abbrev S8192x8192 : Shape := ⟨2, ![8192, 8192]⟩
abbrev S8x8192x8191 : Shape := ⟨3, ![8, 8192, 8191]⟩
abbrev S8x8192x1 : Shape := ⟨3, ![8, 8192, 1]⟩
abbrev S8x64x8192 : Shape := ⟨3, ![8, 64, 8192]⟩
abbrev S32x256x8x64 : Shape := ⟨4, ![32, 256, 8, 64]⟩
abbrev S8x32x64x256 : Shape := ⟨4, ![8, 32, 64, 256]⟩

abbrev nBuf : Space → Nat
  | .hbm => 190
  | .vmem => 0
  | .smem => 0
  | _ => 0

abbrev hbmTy0_0 (i : Nat) : BufTy := match i % 128 with
  | 0 => ⟨S1x8192x512, .f32⟩
  | 1 => ⟨S1x8192x512, .f32⟩
  | 2 => ⟨S1x8192x512, .f32⟩
  | 3 => ⟨S1x8192x512, .f32⟩
  | 4 => ⟨S8192x512, .f32⟩
  | 5 => ⟨S8192x8x64, .f32⟩
  | 6 => ⟨S_, .f32⟩
  | 7 => ⟨S8192x8x64, .f32⟩
  | 8 => ⟨S8192x8x64, .f32⟩
  | 9 => ⟨S8192x512, .f32⟩
  | 10 => ⟨S8192x8x64, .f32⟩
  | 11 => ⟨S8192x512, .f32⟩
  | 12 => ⟨S8192x8x64, .f32⟩
  | 13 => ⟨S8x8192x64, .f32⟩
  | 14 => ⟨S8x8192x64, .f32⟩
  | 15 => ⟨S8192, .i32⟩
  | 16 => ⟨S8x8192x64, .f32⟩
  | 17 => ⟨S8x8192x8192, .f32⟩
  | 18 => ⟨S8192, .i32⟩
  | 19 => ⟨S1x8192, .i32⟩
  | 20 => ⟨S8192x1, .i32⟩
  | 21 => ⟨S8192x8192, .i32⟩
  | 22 => ⟨S8192x8192, .i32⟩
  | 23 => ⟨S8192x8192, .i1⟩
  | 24 => ⟨S8x8192x8192, .f32⟩
  | 25 => ⟨S8x8192x8192, .f32⟩
  | 26 => ⟨S_, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .i1⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S8x8192x8192, .f32⟩
  | 38 => ⟨S8x8192x8192, .f32⟩
  | 39 => ⟨S8x8192x8192, .f32⟩
  | 40 => ⟨S_, .f32⟩
  | 41 => ⟨S8x8192x8192, .f32⟩
  | 42 => ⟨S8x8192x8192, .i1⟩
  | 43 => ⟨S_, .f32⟩
  | 44 => ⟨S8x8192x8192, .f32⟩
  | 45 => ⟨S8x8192x8192, .f32⟩
  | 46 => ⟨S_, .f32⟩
  | 47 => ⟨S8x8192x8192, .f32⟩
  | 48 => ⟨S8x8192x8192, .i1⟩
  | 49 => ⟨S_, .f32⟩
  | 50 => ⟨S8x8192x8192, .f32⟩
  | 51 => ⟨S8x8192x8192, .f32⟩
  | 52 => ⟨S8x8192x8192, .f32⟩
  | 53 => ⟨S8x8192x8192, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S8x8192x8192, .f32⟩
  | 62 => ⟨S8x8192x8192, .i1⟩
  | 63 => ⟨S_, .f32⟩
  | 64 => ⟨S8x8192x8192, .f32⟩
  | 65 => ⟨S8x8192x8192, .f32⟩
  | 66 => ⟨S8x8192x8192, .f32⟩
  | 67 => ⟨S8x8192x8192, .f32⟩
  | 68 => ⟨S8x8192x8192, .f32⟩
  | 69 => ⟨S_, .f32⟩
  | 70 => ⟨S8x8192x8192, .f32⟩
  | 71 => ⟨S8x8192x8192, .f32⟩
  | 72 => ⟨S8x8192x8192, .f32⟩
  | 73 => ⟨S_, .f32⟩
  | 74 => ⟨S_, .f32⟩
  | 75 => ⟨S8x8192x8192, .i1⟩
  | 76 => ⟨S8x8192x8192, .f32⟩
  | 77 => ⟨S8x8192x8192, .f32⟩
  | 78 => ⟨S_, .f32⟩
  | 79 => ⟨S8x8192x8192, .f32⟩
  | 80 => ⟨S_, .f32⟩
  | 81 => ⟨S_, .f32⟩
  | 82 => ⟨S8x8192x8192, .f32⟩
  | 83 => ⟨S8x8192x8191, .f32⟩
  | 84 => ⟨S8x8192x1, .f32⟩
  | 85 => ⟨S_, .f32⟩
  | 86 => ⟨S8x8192x1, .f32⟩
  | 87 => ⟨S8x8192x8192, .f32⟩
  | 88 => ⟨S_, .f32⟩
  | 89 => ⟨S8x8192x1, .f32⟩
  | 90 => ⟨S8x8192x8192, .f32⟩
  | 91 => ⟨S_, .f32⟩
  | 92 => ⟨S8x8192x8192, .f32⟩
  | 93 => ⟨S8x8192x8192, .f32⟩
  | 94 => ⟨S8x8192x8192, .f32⟩
  | 95 => ⟨S8x8192x8192, .f32⟩
  | 96 => ⟨S8x8192x8192, .i1⟩
  | 97 => ⟨S8x8192x8192, .f32⟩
  | 98 => ⟨S8x8192x8192, .f32⟩
  | 99 => ⟨S8x8192x8192, .f32⟩
  | 100 => ⟨S8x8192x8192, .f32⟩
  | 101 => ⟨S8x8192x8192, .f32⟩
  | 102 => ⟨S8x8192x8192, .f32⟩
  | 103 => ⟨S8x8192x8192, .f32⟩
  | 104 => ⟨S8x8192x8192, .f32⟩
  | 105 => ⟨S_, .f32⟩
  | 106 => ⟨S8x8192x8192, .f32⟩
  | 107 => ⟨S8x8192x8192, .i1⟩
  | 108 => ⟨S_, .f32⟩
  | 109 => ⟨S8x8192x8192, .f32⟩
  | 110 => ⟨S8x8192x8192, .f32⟩
  | 111 => ⟨S_, .f32⟩
  | 112 => ⟨S8x8192x8192, .f32⟩
  | 113 => ⟨S8x8192x8192, .i1⟩
  | 114 => ⟨S_, .f32⟩
  | 115 => ⟨S8x8192x8192, .f32⟩
  | 116 => ⟨S8x8192x8192, .f32⟩
  | 117 => ⟨S8x8192x8192, .f32⟩
  | 118 => ⟨S8x8192x8192, .f32⟩
  | 119 => ⟨S_, .f32⟩
  | 120 => ⟨S_, .f32⟩
  | 121 => ⟨S_, .i1⟩
  | 122 => ⟨S_, .f32⟩
  | 123 => ⟨S_, .f32⟩
  | 124 => ⟨S_, .f32⟩
  | 125 => ⟨S_, .f32⟩
  | 126 => ⟨S8x8192x8192, .f32⟩
  | 127 => ⟨S8x8192x8192, .i1⟩
  | _ => ⟨S1x8192x512, .f32⟩

abbrev hbmTy0_1 (i : Nat) : BufTy := match i % 128 with
  | 0 => ⟨S_, .f32⟩
  | 1 => ⟨S8x8192x8192, .f32⟩
  | 2 => ⟨S8x8192x8192, .f32⟩
  | 3 => ⟨S8x8192x8192, .f32⟩
  | 4 => ⟨S8x8192x8192, .f32⟩
  | 5 => ⟨S8x8192x8192, .f32⟩
  | 6 => ⟨S_, .f32⟩
  | 7 => ⟨S8x8192x8192, .f32⟩
  | 8 => ⟨S8x8192x8192, .f32⟩
  | 9 => ⟨S8x8192x8192, .f32⟩
  | 10 => ⟨S8x8192x8192, .f32⟩
  | 11 => ⟨S8x8192x8192, .f32⟩
  | 12 => ⟨S_, .f32⟩
  | 13 => ⟨S_, .f32⟩
  | 14 => ⟨S8x8192x8192, .i1⟩
  | 15 => ⟨S8x8192x8192, .f32⟩
  | 16 => ⟨S8x8192x8192, .f32⟩
  | 17 => ⟨S_, .f32⟩
  | 18 => ⟨S8x8192x8192, .f32⟩
  | 19 => ⟨S8x8192x64, .f32⟩
  | 20 => ⟨S8192x8x64, .f32⟩
  | 21 => ⟨S8192x512, .f32⟩
  | 22 => ⟨S8192x8x64, .f32⟩
  | 23 => ⟨S8x8192x64, .f32⟩
  | 24 => ⟨S8x64x8192, .f32⟩
  | 25 => ⟨S8x8192x64, .f32⟩
  | 26 => ⟨S8x8192x8192, .f32⟩
  | 27 => ⟨S_, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8191, .f32⟩
  | 35 => ⟨S8x8192x1, .f32⟩
  | 36 => ⟨S_, .f32⟩
  | 37 => ⟨S8x8192x8192, .f32⟩
  | 38 => ⟨S_, .f32⟩
  | 39 => ⟨S_, .f32⟩
  | 40 => ⟨S8x8192x8192, .f32⟩
  | 41 => ⟨S_, .f32⟩
  | 42 => ⟨S8x8192x8192, .f32⟩
  | 43 => ⟨S8x8192x8192, .f32⟩
  | 44 => ⟨S8x8192x8192, .f32⟩
  | 45 => ⟨S8x8192x8192, .f32⟩
  | 46 => ⟨S8x8192x8192, .f32⟩
  | 47 => ⟨S8x8192x8192, .f32⟩
  | 48 => ⟨S8x8192x8192, .f32⟩
  | 49 => ⟨S8x8192x64, .f32⟩
  | 50 => ⟨S8x8192x64, .f32⟩
  | 51 => ⟨S8192x8x64, .f32⟩
  | 52 => ⟨S8192x8x64, .f32⟩
  | 53 => ⟨S8192x8x64, .f32⟩
  | 54 => ⟨S32x256x8x64, .f32⟩
  | 55 => ⟨S8x32x64x256, .f32⟩
  | 56 => ⟨S32x256x8x64, .f32⟩
  | 57 => ⟨S8x32x64x256, .f32⟩
  | 58 => ⟨S32x256x8x64, .f32⟩
  | 59 => ⟨S8x32x64x256, .f32⟩
  | 60 => ⟨S32x256x8x64, .f32⟩
  | 61 => ⟨S8x32x64x256, .f32⟩
  | _ => ⟨S1x8192x512, .f32⟩

abbrev hbmTy (i : Nat) : BufTy := match i / 128 with
  | 0 => hbmTy0_0 i
  | 1 => hbmTy0_1 i
  | _ => ⟨S1x8192x512, .f32⟩

abbrev bufTy : (tb : Table) → Fin (tcTables nBuf tb) → BufTy
  | .hbm, ⟨i, _⟩ => hbmTy i
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v20_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v20_2 : Ref sig .tc := ⟨.hbm, 71, rfl⟩
abbrev main_v20_0 : Ref sig .tc := ⟨.hbm, 72, rfl⟩
abbrev main_cst_0 : Ref sig .tc := ⟨.hbm, 73, rfl⟩
abbrev main_call1_v0 : Ref sig .tc := ⟨.hbm, 74, rfl⟩
abbrev main_v21_1 : Ref sig .tc := ⟨.hbm, 75, rfl⟩
abbrev main_call1_v2 : Ref sig .tc := ⟨.hbm, 76, rfl⟩
abbrev main_v21_0 : Ref sig .tc := ⟨.hbm, 77, rfl⟩
abbrev main_call1_cst : Ref sig .tc := ⟨.hbm, 78, rfl⟩
abbrev main_v21_2 : Ref sig .tc := ⟨.hbm, 79, rfl⟩
abbrev main_call2_cst : Ref sig .tc := ⟨.hbm, 80, rfl⟩
abbrev main_call2_v0 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_cst_1 : Ref sig .tc := ⟨.hbm, 85, rfl⟩
abbrev main_v25 : Ref sig .tc := ⟨.hbm, 86, rfl⟩
abbrev main_v26 : Ref sig .tc := ⟨.hbm, 87, rfl⟩
abbrev main_cst_2 : Ref sig .tc := ⟨.hbm, 88, rfl⟩
abbrev main_v27 : Ref sig .tc := ⟨.hbm, 89, rfl⟩
abbrev main_call3_v0 : Ref sig .tc := ⟨.hbm, 90, rfl⟩
abbrev main_call3_call0_cst : Ref sig .tc := ⟨.hbm, 91, rfl⟩
abbrev main_call3_call0_v0 : Ref sig .tc := ⟨.hbm, 92, rfl⟩
abbrev main_call3_call0_v1 : Ref sig .tc := ⟨.hbm, 93, rfl⟩
abbrev main_call3_call0_v2 : Ref sig .tc := ⟨.hbm, 94, rfl⟩
abbrev main_call3_call0_v3 : Ref sig .tc := ⟨.hbm, 95, rfl⟩
abbrev main_call3_call0_v4 : Ref sig .tc := ⟨.hbm, 96, rfl⟩
abbrev main_call3_call0_v5 : Ref sig .tc := ⟨.hbm, 97, rfl⟩
abbrev main_call3_call0_v6 : Ref sig .tc := ⟨.hbm, 98, rfl⟩
abbrev main_call3_call0_v7 : Ref sig .tc := ⟨.hbm, 99, rfl⟩
abbrev main_call3_call0_v8 : Ref sig .tc := ⟨.hbm, 100, rfl⟩
abbrev main_call3_call0_v9 : Ref sig .tc := ⟨.hbm, 101, rfl⟩
abbrev main_call3_call0_v10 : Ref sig .tc := ⟨.hbm, 102, rfl⟩
abbrev main_call3_call0_v11 : Ref sig .tc := ⟨.hbm, 103, rfl⟩
abbrev main_call3_v1_0 : Ref sig .tc := ⟨.hbm, 104, rfl⟩
abbrev main_call3_call0_cst_0 : Ref sig .tc := ⟨.hbm, 105, rfl⟩
abbrev main_call3_call0_v13 : Ref sig .tc := ⟨.hbm, 106, rfl⟩
abbrev main_call3_call0_v14 : Ref sig .tc := ⟨.hbm, 107, rfl⟩
abbrev main_call3_call0_cst_1 : Ref sig .tc := ⟨.hbm, 108, rfl⟩
abbrev main_call3_call0_v15 : Ref sig .tc := ⟨.hbm, 109, rfl⟩
abbrev main_call3_call0_v16 : Ref sig .tc := ⟨.hbm, 110, rfl⟩
abbrev main_call3_call0_cst_2 : Ref sig .tc := ⟨.hbm, 111, rfl⟩
abbrev main_call3_call0_v17 : Ref sig .tc := ⟨.hbm, 112, rfl⟩
abbrev main_call3_call0_v18 : Ref sig .tc := ⟨.hbm, 113, rfl⟩
abbrev main_call3_call0_cst_3 : Ref sig .tc := ⟨.hbm, 114, rfl⟩
abbrev main_call3_call0_v19 : Ref sig .tc := ⟨.hbm, 115, rfl⟩
abbrev main_call3_call0_v20 : Ref sig .tc := ⟨.hbm, 116, rfl⟩
abbrev main_call3_call0_v21 : Ref sig .tc := ⟨.hbm, 117, rfl⟩
abbrev main_v28_1 : Ref sig .tc := ⟨.hbm, 118, rfl⟩
abbrev main_call3_call0_cst_4 : Ref sig .tc := ⟨.hbm, 119, rfl⟩
abbrev main_call3_call0_cst_5 : Ref sig .tc := ⟨.hbm, 120, rfl⟩
abbrev main_call3_call0_v23 : Ref sig .tc := ⟨.hbm, 121, rfl⟩
abbrev main_call3_call0_cst_6 : Ref sig .tc := ⟨.hbm, 122, rfl⟩
abbrev main_call3_call0_cst_7 : Ref sig .tc := ⟨.hbm, 123, rfl⟩
abbrev main_call3_call0_v24 : Ref sig .tc := ⟨.hbm, 124, rfl⟩
abbrev main_call3_call0_cst_8 : Ref sig .tc := ⟨.hbm, 125, rfl⟩
abbrev main_call3_call0_v25 : Ref sig .tc := ⟨.hbm, 126, rfl⟩
abbrev main_call3_call0_v26 : Ref sig .tc := ⟨.hbm, 127, rfl⟩
abbrev main_call3_call0_cst_9 : Ref sig .tc := ⟨.hbm, 128, rfl⟩
abbrev main_call3_call0_v27 : Ref sig .tc := ⟨.hbm, 129, rfl⟩
abbrev main_call3_call0_v28 : Ref sig .tc := ⟨.hbm, 130, rfl⟩
abbrev main_call3_call0_v29 : Ref sig .tc := ⟨.hbm, 131, rfl⟩
abbrev main_call3_call0_v30 : Ref sig .tc := ⟨.hbm, 132, rfl⟩
abbrev main_call3_call0_v31 : Ref sig .tc := ⟨.hbm, 133, rfl⟩
abbrev main_call3_call0_cst_10 : Ref sig .tc := ⟨.hbm, 134, rfl⟩
abbrev main_call3_call0_v32 : Ref sig .tc := ⟨.hbm, 135, rfl⟩
abbrev main_v28_2 : Ref sig .tc := ⟨.hbm, 136, rfl⟩
abbrev main_v28_0 : Ref sig .tc := ⟨.hbm, 137, rfl⟩
abbrev main_v29 : Ref sig .tc := ⟨.hbm, 138, rfl⟩
abbrev main_v30 : Ref sig .tc := ⟨.hbm, 139, rfl⟩
abbrev main_cst_3 : Ref sig .tc := ⟨.hbm, 140, rfl⟩
abbrev main_call4_v0 : Ref sig .tc := ⟨.hbm, 141, rfl⟩
abbrev main_v31_1 : Ref sig .tc := ⟨.hbm, 142, rfl⟩
abbrev main_call4_v2 : Ref sig .tc := ⟨.hbm, 143, rfl⟩
abbrev main_v31_0 : Ref sig .tc := ⟨.hbm, 144, rfl⟩
abbrev main_call4_cst : Ref sig .tc := ⟨.hbm, 145, rfl⟩
abbrev main_v31_2 : Ref sig .tc := ⟨.hbm, 146, rfl⟩
abbrev main_v32 : Ref sig .tc := ⟨.hbm, 147, rfl⟩
abbrev main_v33 : Ref sig .tc := ⟨.hbm, 148, rfl⟩
abbrev main_v34 : Ref sig .tc := ⟨.hbm, 149, rfl⟩
abbrev main_v35 : Ref sig .tc := ⟨.hbm, 150, rfl⟩
abbrev main_v36 : Ref sig .tc := ⟨.hbm, 151, rfl⟩
abbrev main_v37 : Ref sig .tc := ⟨.hbm, 152, rfl⟩
abbrev main_v38 : Ref sig .tc := ⟨.hbm, 153, rfl⟩
abbrev main_v39 : Ref sig .tc := ⟨.hbm, 154, rfl⟩
abbrev main_call5_cst : Ref sig .tc := ⟨.hbm, 155, rfl⟩
abbrev main_call5_v0 : Ref sig .tc := ⟨.hbm, 156, rfl⟩
abbrev main_v40 : Ref sig .tc := ⟨.hbm, 157, rfl⟩
abbrev main_v41 : Ref sig .tc := ⟨.hbm, 158, rfl⟩
abbrev main_call6_v0 : Ref sig .tc := ⟨.hbm, 159, rfl⟩
abbrev main_call6_v1 : Ref sig .tc := ⟨.hbm, 160, rfl⟩
abbrev main_v42 : Ref sig .tc := ⟨.hbm, 161, rfl⟩
abbrev main_v43 : Ref sig .tc := ⟨.hbm, 162, rfl⟩
abbrev main_v44 : Ref sig .tc := ⟨.hbm, 163, rfl⟩
abbrev main_cst_4 : Ref sig .tc := ⟨.hbm, 164, rfl⟩
abbrev main_v45 : Ref sig .tc := ⟨.hbm, 165, rfl⟩
abbrev main_call7_cst : Ref sig .tc := ⟨.hbm, 166, rfl⟩
abbrev main_call7_v0 : Ref sig .tc := ⟨.hbm, 167, rfl⟩
abbrev main_v46 : Ref sig .tc := ⟨.hbm, 168, rfl⟩
abbrev main_call8_cst : Ref sig .tc := ⟨.hbm, 169, rfl⟩
abbrev main_call8_v0 : Ref sig .tc := ⟨.hbm, 170, rfl⟩
abbrev main_v47 : Ref sig .tc := ⟨.hbm, 171, rfl⟩
abbrev main_call9_v0 : Ref sig .tc := ⟨.hbm, 172, rfl⟩
abbrev main_call9_v1 : Ref sig .tc := ⟨.hbm, 173, rfl⟩
abbrev main_v48 : Ref sig .tc := ⟨.hbm, 174, rfl⟩
abbrev main_v49 : Ref sig .tc := ⟨.hbm, 175, rfl⟩
abbrev main_v50 : Ref sig .tc := ⟨.hbm, 176, rfl⟩
abbrev main_v51 : Ref sig .tc := ⟨.hbm, 177, rfl⟩
abbrev main_v52 : Ref sig .tc := ⟨.hbm, 178, rfl⟩
abbrev main_v53 : Ref sig .tc := ⟨.hbm, 179, rfl⟩
abbrev main_v54 : Ref sig .tc := ⟨.hbm, 180, rfl⟩
abbrev main_v55 : Ref sig .tc := ⟨.hbm, 181, rfl⟩
abbrev main_v56 : Ref sig .tc := ⟨.hbm, 182, rfl⟩
abbrev main_v57 : Ref sig .tc := ⟨.hbm, 183, rfl⟩
abbrev main_v58 : Ref sig .tc := ⟨.hbm, 184, rfl⟩
abbrev main_v59 : Ref sig .tc := ⟨.hbm, 185, rfl⟩
abbrev main_v60 : Ref sig .tc := ⟨.hbm, 186, rfl⟩
abbrev main_v61 : Ref sig .tc := ⟨.hbm, 187, rfl⟩
abbrev main_v62 : Ref sig .tc := ⟨.hbm, 188, rfl⟩
abbrev main_v63 : Ref sig .tc := ⟨.hbm, 189, rfl⟩

abbrev nD : Nat := 1
abbrev τ : Topo := Topo.v7x

variable {F : FTy → Type} [FloatOps F]
-- ==== Proj.lean ====
abbrev S1x8192x1024 : Shape := ⟨3, ![1, 8192, 1024]⟩
abbrev S1x8192x512 : Shape := ⟨3, ![1, 8192, 512]⟩
abbrev S1x8192x128 : Shape := ⟨3, ![1, 8192, 128]⟩
abbrev S1x1024 : Shape := ⟨2, ![1, 1024]⟩
abbrev S1x1024x4352 : Shape := ⟨3, ![1, 1024, 4352]⟩
abbrev S1024x4352 : Shape := ⟨2, ![1024, 4352]⟩
abbrev S4352x1024 : Shape := ⟨2, ![4352, 1024]⟩
abbrev S8192x1024 : Shape := ⟨2, ![8192, 1024]⟩
abbrev S8192x2048 : Shape := ⟨2, ![8192, 2048]⟩
abbrev S8192x512 : Shape := ⟨2, ![8192, 512]⟩
abbrev S_ : Shape := ⟨0, ![]⟩
abbrev S8192x128 : Shape := ⟨2, ![8192, 128]⟩
abbrev S8192x2304 : Shape := ⟨2, ![8192, 2304]⟩
abbrev S8192x4352 : Shape := ⟨2, ![8192, 4352]⟩
abbrev S512x256 : Shape := ⟨2, ![512, 256]⟩
abbrev S256x1024 : Shape := ⟨2, ![256, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 38
  | .vmem => 13
  | .smem => 0
  | _ => 0

abbrev bufTy : (tb : Table) → Fin (tcTables nBuf tb) → BufTy
  | .hbm, ⟨0, _⟩ => ⟨S1x8192x1024, .f32⟩
  | .hbm, ⟨1, _⟩ => ⟨S1x8192x512, .f32⟩
  | .hbm, ⟨2, _⟩ => ⟨S1x8192x128, .f32⟩
  | .hbm, ⟨3, _⟩ => ⟨S1x8192x128, .f32⟩
  | .hbm, ⟨4, _⟩ => ⟨S1x8192x512, .f32⟩
  | .hbm, ⟨5, _⟩ => ⟨S1x8192x512, .f32⟩
  | .hbm, ⟨6, _⟩ => ⟨S1x8192x512, .f32⟩
  | .hbm, ⟨7, _⟩ => ⟨S1x8192x1024, .f32⟩
  | .hbm, ⟨8, _⟩ => ⟨S1x8192x1024, .f32⟩
  | .hbm, ⟨9, _⟩ => ⟨S1x8192x1024, .f32⟩
  | .hbm, ⟨10, _⟩ => ⟨S1x1024, .f32⟩
  | .hbm, ⟨11, _⟩ => ⟨S1x1024x4352, .f32⟩
  | .hbm, ⟨12, _⟩ => ⟨S1024x4352, .f32⟩
  | .hbm, ⟨13, _⟩ => ⟨S4352x1024, .f32⟩
  | .hbm, ⟨14, _⟩ => ⟨S4352x1024, .bf16⟩
  | .hbm, ⟨15, _⟩ => ⟨S8192x1024, .f32⟩
  | .hbm, ⟨16, _⟩ => ⟨S8192x1024, .f32⟩
  | .hbm, ⟨17, _⟩ => ⟨S8192x2048, .f32⟩
  | .hbm, ⟨18, _⟩ => ⟨S8192x2048, .bf16⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S8192x128, .f32⟩
  | .hbm, ⟨24, _⟩ => ⟨S8192x128, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x2304, .f32⟩
  | .hbm, ⟨32, _⟩ => ⟨S8192x2304, .bf16⟩
  | .hbm, ⟨33, _⟩ => ⟨S8192x4352, .bf16⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1x1024, .f32⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 17], ![false, false]⟩

def k0_cond3 (i : grid0.Coords) : BitVec 1 :=
  let arg1 : BitVec 32 := BitVec.ofNat 32 (i 1).val
  let c16_i32 : BitVec 32 := 16#32
  let v11 : BitVec 1 := Scalar.cmpi .eq arg1 c16_i32
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c0_i32_23 : BitVec 32 := 0#32
  let v47 : BitVec 1 := Scalar.cmpi .eq arg0 c0_i32_23
  let v48 : BitVec 32 := Scalar.extui v47
  let c0_i32_24 : BitVec 32 := 0#32
  let v49 : BitVec 1 := Scalar.cmpi .ne v48 c0_i32_24
  v49

def k0_cond5 (i : grid0.Coords) : BitVec 1 :=
  let arg0 : BitVec 32 := BitVec.ofNat 32 (i 0).val
  let c0_i32_25 : BitVec 32 := 0#32
  let v50 : BitVec 1 := Scalar.cmpi .sgt arg0 c0_i32_25
  let v51 : BitVec 32 := Scalar.extui v50
  let c0_i32_26 : BitVec 32 := 0#32
  let v52 : BitVec 1 := Scalar.cmpi .ne v51 c0_i32_26
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ProjRefIdeal.lean ====
abbrev S1x8192x1024 : Shape := ⟨3, ![1, 8192, 1024]⟩
abbrev S1x8192x512 : Shape := ⟨3, ![1, 8192, 512]⟩
abbrev S1x8192x128 : Shape := ⟨3, ![1, 8192, 128]⟩
abbrev S1x1024 : Shape := ⟨2, ![1, 1024]⟩
abbrev S1x1024x4352 : Shape := ⟨3, ![1, 1024, 4352]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x4352 : Shape := ⟨2, ![1024, 4352]⟩
abbrev S1x8192x4352 : Shape := ⟨3, ![1, 8192, 4352]⟩
abbrev S8192 : Shape := ⟨1, ![8192]⟩
abbrev S8192x1024 : Shape := ⟨2, ![8192, 1024]⟩

abbrev nBuf : Space → Nat
  | .hbm => 86
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x512, .f32⟩
  | .hbm, ⟨2, _⟩ => ⟨S1x8192x128, .f32⟩
  | .hbm, ⟨3, _⟩ => ⟨S1x8192x128, .f32⟩
  | .hbm, ⟨4, _⟩ => ⟨S1x8192x512, .f32⟩
  | .hbm, ⟨5, _⟩ => ⟨S1x8192x512, .f32⟩
  | .hbm, ⟨6, _⟩ => ⟨S1x8192x512, .f32⟩
  | .hbm, ⟨7, _⟩ => ⟨S1x8192x1024, .f32⟩
  | .hbm, ⟨8, _⟩ => ⟨S1x8192x1024, .f32⟩
  | .hbm, ⟨9, _⟩ => ⟨S1x8192x1024, .f32⟩
  | .hbm, ⟨10, _⟩ => ⟨S1x1024, .f32⟩
  | .hbm, ⟨11, _⟩ => ⟨S1x1024x4352, .f32⟩
  | .hbm, ⟨12, _⟩ => ⟨S1024, .f32⟩
  | .hbm, ⟨13, _⟩ => ⟨S1x8192x1024, .f32⟩
  | .hbm, ⟨14, _⟩ => ⟨S_, .f32⟩
  | .hbm, ⟨15, _⟩ => ⟨S1x8192, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S_, .f32⟩
  | .hbm, ⟨21, _⟩ => ⟨S1x8192x1, .f32⟩
  | .hbm, ⟨22, _⟩ => ⟨S1x8192x1, .f32⟩
  | .hbm, ⟨23, _⟩ => ⟨S1x8192x1, .f32⟩
  | .hbm, ⟨24, _⟩ => ⟨S1x8192x1, .f32⟩
  | .hbm, ⟨25, _⟩ => ⟨S_, .f32⟩
  | .hbm, ⟨26, _⟩ => ⟨S1x8192x1, .f32⟩
  | .hbm, ⟨27, _⟩ => ⟨S1x8192x1, .f32⟩
  | .hbm, ⟨28, _⟩ => ⟨S1x8192x1024, .f32⟩
  | .hbm, ⟨29, _⟩ => ⟨S1x8192x1024, .f32⟩
  | .hbm, ⟨30, _⟩ => ⟨S1x1x1024, .f32⟩
  | .hbm, ⟨31, _⟩ => ⟨S1x8192x1024, .f32⟩
  | .hbm, ⟨32, _⟩ => ⟨S1x8192x1024, .f32⟩
  | .hbm, ⟨33, _⟩ => ⟨S1024x4352, .f32⟩
  | .hbm, ⟨34, _⟩ => ⟨S1x8192x4352, .f32⟩
  | .hbm, ⟨35, _⟩ => ⟨S1x8192x512, .f32⟩
  | .hbm, ⟨36, _⟩ => ⟨S1x8192x128, .f32⟩
  | .hbm, ⟨37, _⟩ => ⟨S1x8192x128, .f32⟩
  | .hbm, ⟨38, _⟩ => ⟨S1x8192x512, .f32⟩
  | .hbm, ⟨39, _⟩ => ⟨S1x8192x512, .f32⟩
  | .hbm, ⟨40, _⟩ => ⟨S1x8192x512, .f32⟩
  | .hbm, ⟨41, _⟩ => ⟨S1x8192x1024, .f32⟩
  | .hbm, ⟨42, _⟩ => ⟨S1x8192x1024, .f32⟩
  | .hbm, ⟨43, _⟩ => ⟨S_, .f32⟩
  | .hbm, ⟨44, _⟩ => ⟨S1x8192x512, .f32⟩
  | .hbm, ⟨45, _⟩ => ⟨S1x8192x512, .f32⟩
  | .hbm, ⟨46, _⟩ => ⟨S_, .f32⟩
  | .hbm, ⟨47, _⟩ => ⟨S1x8192x512, .f32⟩
  | .hbm, ⟨48, _⟩ => ⟨S1x8192x512, .f32⟩
  | .hbm, ⟨49, _⟩ => ⟨S_, .f32⟩
  | .hbm, ⟨50, _⟩ => ⟨S1x8192x512, .f32⟩
  | .hbm, ⟨51, _⟩ => ⟨S1x8192x512, .f32⟩
  | .hbm, ⟨52, _⟩ => ⟨S_, .f32⟩
  | .hbm, ⟨53, _⟩ => ⟨S1x8192x512, .f32⟩
  | .hbm, ⟨54, _⟩ => ⟨S1x8192x512, .f32⟩
  | .hbm, ⟨55, _⟩ => ⟨S1x8192x4352, .f32⟩
  | .hbm, ⟨56, _⟩ => ⟨S1x8192x1024, .f32⟩
  | .hbm, ⟨57, _⟩ => ⟨S1x8192x1024, .f32⟩
  | .hbm, ⟨58, _⟩ => ⟨S_, .f32⟩
  | .hbm, ⟨59, _⟩ => ⟨S1x1024, .f32⟩
  | .hbm, ⟨60, _⟩ => ⟨S1x1x1024, .f32⟩
  | .hbm, ⟨61, _⟩ => ⟨S1x8192x1024, .f32⟩
  | .hbm, ⟨62, _⟩ => ⟨S1x8192x1024, .f32⟩
  | .hbm, ⟨63, _⟩ => ⟨S_, .f32⟩
  | .hbm, ⟨64, _⟩ => ⟨S1024, .f32⟩
  | .hbm, ⟨65, _⟩ => ⟨S1x8192x1024, .f32⟩
  | .hbm, ⟨66, _⟩ => ⟨S_, .f32⟩
  | .hbm, ⟨67, _⟩ => ⟨S1x8192, .f32⟩
  | .hbm, ⟨68, _⟩ => ⟨S1x8192x1, .f32⟩
  | .hbm, ⟨69, _⟩ => ⟨S1x8192x1024, .f32⟩
  | .hbm, ⟨70, _⟩ => ⟨S1x8192x1024, .f32⟩
  | .hbm, ⟨71, _⟩ => ⟨S1x8192x1024, .f32⟩
  | .hbm, ⟨72, _⟩ => ⟨S1x8192x1, .f32⟩
  | .hbm, ⟨73, _⟩ => ⟨S_, .f32⟩
  | .hbm, ⟨74, _⟩ => ⟨S1x8192x1, .f32⟩
  | .hbm, ⟨75, _⟩ => ⟨S1x8192x1, .f32⟩
  | .hbm, ⟨76, _⟩ => ⟨S_, .f32⟩
  | .hbm, ⟨77, _⟩ => ⟨S8192, .f32⟩
  | .hbm, ⟨78, _⟩ => ⟨S1x8192, .f32⟩
  | .hbm, ⟨79, _⟩ => ⟨S1x8192x1024, .f32⟩
  | .hbm, ⟨80, _⟩ => ⟨S1x8192x1024, .f32⟩
  | .hbm, ⟨81, _⟩ => ⟨S1x8192x1024, .f32⟩
  | .hbm, ⟨82, _⟩ => ⟨S1x8192x1024, .f32⟩
  | .hbm, ⟨83, _⟩ => ⟨S1x8192x1024, .f32⟩
  | .hbm, ⟨84, _⟩ => ⟨S1x1024, .f32⟩
  | .hbm, ⟨85, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== Merge.lean ====
abbrev S1x8192x1024 : Shape := ⟨3, ![1, 8192, 1024]⟩
abbrev S1x8192x512 : Shape := ⟨3, ![1, 8192, 512]⟩
abbrev S1x512x1024 : Shape := ⟨3, ![1, 512, 1024]⟩
abbrev S1x1024x1024 : Shape := ⟨3, ![1, 1024, 1024]⟩
abbrev S8192x1024 : Shape := ⟨2, ![8192, 1024]⟩
abbrev S8192x2048 : Shape := ⟨2, ![8192, 2048]⟩
abbrev S512x1024 : Shape := ⟨2, ![512, 1024]⟩
abbrev S1024x512 : Shape := ⟨2, ![1024, 512]⟩
abbrev S1024x1024 : Shape := ⟨2, ![1024, 1024]⟩
abbrev S8192x512 : Shape := ⟨2, ![8192, 512]⟩
abbrev S512x512 : Shape := ⟨2, ![512, 512]⟩
abbrev S512x2048 : Shape := ⟨2, ![512, 2048]⟩

abbrev nBuf : Space → Nat
  | .hbm => 36
  | .vmem => 46
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x8192x1024, .f32⟩
  | .hbm, ⟨4, _⟩ => ⟨S1x8192x512, .f32⟩
  | .hbm, ⟨5, _⟩ => ⟨S1x8192x512, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S8192x1024, .f32⟩
  | .hbm, ⟨10, _⟩ => ⟨S8192x1024, .f32⟩
  | .hbm, ⟨11, _⟩ => ⟨S8192x2048, .f32⟩
  | .hbm, ⟨12, _⟩ => ⟨S512x1024, .f32⟩
  | .hbm, ⟨13, _⟩ => ⟨S1024x512, .f32⟩
  | .hbm, ⟨14, _⟩ => ⟨S1024x512, .bf16⟩
  | .hbm, ⟨15, _⟩ => ⟨S512x1024, .f32⟩
  | .hbm, ⟨16, _⟩ => ⟨S1024x512, .f32⟩
  | .hbm, ⟨17, _⟩ => ⟨S1024x512, .bf16⟩
  | .hbm, ⟨18, _⟩ => ⟨S1024x1024, .f32⟩
  | .hbm, ⟨19, _⟩ => ⟨S1024x1024, .bf16⟩
  | .hbm, ⟨20, _⟩ => ⟨S8192x512, .f32⟩
  | .hbm, ⟨21, _⟩ => ⟨S8192x512, .bf16⟩
  | .hbm, ⟨22, _⟩ => ⟨S8192x512, .f32⟩
  | .hbm, ⟨23, _⟩ => ⟨S8192x512, .bf16⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S8192x1024, .bf16⟩
  | .hbm, ⟨28, _⟩ => ⟨S8192x1024, .bf16⟩
  | .hbm, ⟨29, _⟩ => ⟨S8192x1024, .f32⟩
  | .hbm, ⟨30, _⟩ => ⟨S8192x1024, .bf16⟩
  | .hbm, ⟨31, _⟩ => ⟨S8192x1024, .bf16⟩
  | .hbm, ⟨32, _⟩ => ⟨S8192x1024, .bf16⟩
  | .hbm, ⟨33, _⟩ => ⟨S8192x2048, .bf16⟩
  | .hbm, ⟨34, _⟩ => ⟨S8192x512, .f32⟩
  | .hbm, ⟨35, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1024x512, .bf16⟩
  | .local _ .vmem, ⟨11, _⟩ => ⟨S1024x512, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S1024x512, .bf16⟩
  | .local _ .vmem, ⟨32, _⟩ => ⟨S1024x512, .bf16⟩
  | .local _ .vmem, ⟨33, _⟩ => ⟨S1024x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x2048, .bf16⟩
  | .local _ .vmem, ⟨41, _⟩ => ⟨S512x2048, .bf16⟩
  | .local _ .vmem, ⟨42, _⟩ => ⟨S512x512, .f32⟩
  | .local _ .vmem, ⟨43, _⟩ => ⟨S512x512, .f32⟩
  | .local _ .vmem, ⟨44, _⟩ => ⟨S512x512, .f32⟩
  | .local _ .vmem, ⟨45, _⟩ => ⟨S512x512, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev main_v18_3 : Ref sig .tc := ⟨.hbm, 33, rfl⟩
abbrev main_v18_4 : Ref sig .tc := ⟨.hbm, 34, rfl⟩
abbrev main_v18_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc1_stg4_0 : Ref sig .tc := ⟨.vmem, 29, rfl⟩
abbrev cc1_stg4_1 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg11_0 : Ref sig .tc := ⟨.vmem, 40, rfl⟩
abbrev cc1_stg11_1 : Ref sig .tc := ⟨.vmem, 41, rfl⟩
abbrev cc1_stg12_0 : Ref sig .tc := ⟨.vmem, 42, rfl⟩
abbrev cc1_stg12_1 : Ref sig .tc := ⟨.vmem, 43, rfl⟩
abbrev cc1_stg13_0 : Ref sig .tc := ⟨.vmem, 44, rfl⟩
abbrev cc1_stg13_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28
abbrev cc1_sem4_0 : DmaSem sig := 29
abbrev cc1_sem4_1 : DmaSem sig := 30
abbrev cc1_sem5_0 : DmaSem sig := 31
abbrev cc1_sem6_0 : DmaSem sig := 32
abbrev cc1_sem7_0 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x2048 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== MergeRefIdeal.lean ====
abbrev S1x8192x1024 : Shape := ⟨3, ![1, 8192, 1024]⟩
abbrev S1x8192x512 : Shape := ⟨3, ![1, 8192, 512]⟩
abbrev S1x512x1024 : Shape := ⟨3, ![1, 512, 1024]⟩
abbrev S1x1024x1024 : Shape := ⟨3, ![1, 1024, 1024]⟩
abbrev S_ : Shape := ⟨0, ![]⟩
abbrev S512x1024 : Shape := ⟨2, ![512, 1024]⟩
abbrev S1024x1024 : Shape := ⟨2, ![1024, 1024]⟩
abbrev S8192x1024 : Shape := ⟨2, ![8192, 1024]⟩
abbrev S8192x2048 : Shape := ⟨2, ![8192, 2048]⟩
abbrev S8192x512 : Shape := ⟨2, ![8192, 512]⟩

abbrev nBuf : Space → Nat
  | .hbm => 72
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x8192x1024, .f32⟩
  | .hbm, ⟨4, _⟩ => ⟨S1x8192x512, .f32⟩
  | .hbm, ⟨5, _⟩ => ⟨S1x8192x512, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S_, .f32⟩
  | .hbm, ⟨10, _⟩ => ⟨S1x8192x1024, .f32⟩
  | .hbm, ⟨11, _⟩ => ⟨S1x8192x1024, .f32⟩
  | .hbm, ⟨12, _⟩ => ⟨S1x8192x1024, .f32⟩
  | .hbm, ⟨13, _⟩ => ⟨S_, .f32⟩
  | .hbm, ⟨14, _⟩ => ⟨S1x8192x1024, .f32⟩
  | .hbm, ⟨15, _⟩ => ⟨S1x8192x1024, .f32⟩
  | .hbm, ⟨16, _⟩ => ⟨S_, .f32⟩
  | .hbm, ⟨17, _⟩ => ⟨S1x8192x1024, .f32⟩
  | .hbm, ⟨18, _⟩ => ⟨S1x8192x1024, .f32⟩
  | .hbm, ⟨19, _⟩ => ⟨S_, .f32⟩
  | .hbm, ⟨20, _⟩ => ⟨S1x8192x1024, .f32⟩
  | .hbm, ⟨21, _⟩ => ⟨S1x8192x1024, .f32⟩
  | .hbm, ⟨22, _⟩ => ⟨S1x8192x1024, .f32⟩
  | .hbm, ⟨23, _⟩ => ⟨S512x1024, .f32⟩
  | .hbm, ⟨24, _⟩ => ⟨S1x8192x1024, .f32⟩
  | .hbm, ⟨25, _⟩ => ⟨S1x8192x1024, .f32⟩
  | .hbm, ⟨26, _⟩ => ⟨S1x8192x1024, .f32⟩
  | .hbm, ⟨27, _⟩ => ⟨S1x8192x1024, .f32⟩
  | .hbm, ⟨28, _⟩ => ⟨S1x8192x1024, .f32⟩
  | .hbm, ⟨29, _⟩ => ⟨S_, .f32⟩
  | .hbm, ⟨30, _⟩ => ⟨S1x8192x1024, .f32⟩
  | .hbm, ⟨31, _⟩ => ⟨S1x8192x1024, .f32⟩
  | .hbm, ⟨32, _⟩ => ⟨S_, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1x8192x1024, .f32⟩
  | .hbm, ⟨37, _⟩ => ⟨S1x8192x1024, .f32⟩
  | .hbm, ⟨38, _⟩ => ⟨S1x8192x1024, .f32⟩
  | .hbm, ⟨39, _⟩ => ⟨S512x1024, .f32⟩
  | .hbm, ⟨40, _⟩ => ⟨S1x8192x1024, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1024x1024, .f32⟩
  | .hbm, ⟨45, _⟩ => ⟨S1x8192x1024, .f32⟩
  | .hbm, ⟨46, _⟩ => ⟨S1x8192x1024, .f32⟩
  | .hbm, ⟨47, _⟩ => ⟨S1x8192x1024, .f32⟩
  | .hbm, ⟨48, _⟩ => ⟨S1x8192x1024, .f32⟩
  | .hbm, ⟨49, _⟩ => ⟨S1x8192x1024, .f32⟩
  | .hbm, ⟨50, _⟩ => ⟨S1x8192x1024, .f32⟩
  | .hbm, ⟨51, _⟩ => ⟨S1x8192x512, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x8192x512, .f32⟩
  | .hbm, ⟨56, _⟩ => ⟨S1x8192x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | .hbm, ⟨60, _⟩ => ⟨S8192x1024, .f32⟩
  | .hbm, ⟨61, _⟩ => ⟨S8192x1024, .bf16⟩
  | .hbm, ⟨62, _⟩ => ⟨S8192x1024, .f32⟩
  | .hbm, ⟨63, _⟩ => ⟨S8192x1024, .bf16⟩
  | .hbm, ⟨64, _⟩ => ⟨S8192x1024, .f32⟩
  | .hbm, ⟨65, _⟩ => ⟨S8192x1024, .bf16⟩
  | .hbm, ⟨66, _⟩ => ⟨S8192x1024, .f32⟩
  | .hbm, ⟨67, _⟩ => ⟨S8192x1024, .f32⟩
  | .hbm, ⟨68, _⟩ => ⟨S8192x2048, .f32⟩
  | .hbm, ⟨69, _⟩ => ⟨S8192x2048, .bf16⟩
  | .hbm, ⟨70, _⟩ => ⟨S8192x512, .f32⟩
  | .hbm, ⟨71, _⟩ => ⟨S8192x512, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Ffn.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S8192x1024 : Shape := ⟨2, ![8192, 1024]⟩
abbrev S8192x2816 : Shape := ⟨2, ![8192, 2816]⟩
abbrev S512x1024 : Shape := ⟨2, ![512, 1024]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩
abbrev S1024 : Shape := ⟨1, ![1024]⟩

abbrev nBuf : Space → Nat
  | .hbm => 27
  | .vmem => 47
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S8192x2816, .bf16⟩
  | .hbm, ⟨18, _⟩ => ⟨S8192x2816, .bf16⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .bf16⟩
  | .hbm, ⟨24, _⟩ => ⟨S8192x2816, .bf16⟩
  | .hbm, ⟨25, _⟩ => ⟨S8192x2816, .bf16⟩
  | .hbm, ⟨26, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S512x1024, .f32⟩
  | .local _ .vmem, ⟨35, _⟩ => ⟨S512x1024, .f32⟩
  | .local _ .vmem, ⟨36, _⟩ => ⟨S1x1024, .f32⟩
  | .local _ .vmem, ⟨37, _⟩ => ⟨S512x1024, .bf16⟩
  | .local _ .vmem, ⟨38, _⟩ => ⟨S512x1024, .bf16⟩
  | .local _ .vmem, ⟨39, _⟩ => ⟨S512x256, .bf16⟩
  | .local _ .vmem, ⟨40, _⟩ => ⟨S512x256, .bf16⟩
  | .local _ .vmem, ⟨41, _⟩ => ⟨S512x256, .bf16⟩
  | .local _ .vmem, ⟨42, _⟩ => ⟨S512x256, .bf16⟩
  | .local _ .vmem, ⟨43, _⟩ => ⟨S512x256, .bf16⟩
  | .local _ .vmem, ⟨44, _⟩ => ⟨S512x256, .bf16⟩
  | .local _ .vmem, ⟨45, _⟩ => ⟨S512x1024, .bf16⟩
  | .local _ .vmem, ⟨46, _⟩ => ⟨S512x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev main_v12_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc1_scratch1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem10_0 : DmaSem sig := 35
abbrev cc1_sem10_1 : DmaSem sig := 36
abbrev cc1_sem11_0 : DmaSem sig := 37
abbrev cc1_sem11_1 : DmaSem sig := 38
abbrev cc1_sem12_0 : DmaSem sig := 39
abbrev cc1_sem12_1 : DmaSem sig := 40
abbrev cc1_sem13_0 : DmaSem sig := 41
abbrev cc1_sem13_1 : DmaSem sig := 42

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v26 : BitVec 1 := Scalar.cmpi .eq arg1 c10_i32
  let v27 : BitVec 32 := Scalar.extui v26
  let c0_i32_18 : BitVec 32 := 0#32
  let v28 : BitVec 1 := Scalar.cmpi .ne v27 c0_i32_18
  v28

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![16, 11], ![false, false]⟩

def k1_cond2 (i : grid1.Coords) : BitVec 1 :=
  let arg1 : BitVec 32 := BitVec.ofNat 32 (i 1).val
  let c10_i32 : BitVec 32 := 10#32
  let v43 : BitVec 1 := Scalar.cmpi .eq arg1 c10_i32
  let v44 : BitVec 32 := Scalar.extui v43
  let c0_i32_26 : BitVec 32 := 0#32
  let v45 : BitVec 1 := Scalar.cmpi .ne v44 c0_i32_26
  v45

def k1_cond3 (i : grid1.Coords) : BitVec 1 :=
  let arg0 : BitVec 32 := BitVec.ofNat 32 (i 0).val
  let c0_i32_43 : BitVec 32 := 0#32
  let v79 : BitVec 1 := Scalar.cmpi .eq arg0 c0_i32_43
  let v80 : BitVec 32 := Scalar.extui v79
  let c0_i32_44 : BitVec 32 := 0#32
  let v81 : BitVec 1 := Scalar.cmpi .ne v80 c0_i32_44
  v81

def k1_cond4 (i : grid1.Coords) : BitVec 1 :=
  let arg0 : BitVec 32 := BitVec.ofNat 32 (i 0).val
  let c0_i32_45 : BitVec 32 := 0#32
  let v82 : BitVec 1 := Scalar.cmpi .sgt arg0 c0_i32_45
  let v83 : BitVec 32 := Scalar.extui v82
  let c0_i32_46 : BitVec 32 := 0#32
  let v84 : BitVec 1 := Scalar.cmpi .ne v83 c0_i32_46
  v84

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S256x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S512x256 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S512x256 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S512x256 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]
-- ==== FfnRefIdeal.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩
abbrev S1x8192x2816 : Shape := ⟨3, ![1, 8192, 2816]⟩
abbrev S1024 : Shape := ⟨1, ![1024]⟩
abbrev S1x8192 : Shape := ⟨2, ![1, 8192]⟩
abbrev S1x8192x1 : Shape := ⟨3, ![1, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S8192 : Shape := ⟨1, ![8192]⟩
abbrev S8192x1024 : Shape := ⟨2, ![8192, 1024]⟩
abbrev S8192x2816 : Shape := ⟨2, ![8192, 2816]⟩

abbrev nBuf : Space → Nat
  | .hbm => 112
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S_, .f32⟩
  | .hbm, ⟨7, _⟩ => ⟨S1x8192x2816, .f32⟩
  | .hbm, ⟨8, _⟩ => ⟨S_, .f32⟩
  | .hbm, ⟨9, _⟩ => ⟨S1x8192x1024, .f32⟩
  | .hbm, ⟨10, _⟩ => ⟨S1024, .f32⟩
  | .hbm, ⟨11, _⟩ => ⟨S1x8192x1024, .f32⟩
  | .hbm, ⟨12, _⟩ => ⟨S_, .f32⟩
  | .hbm, ⟨13, _⟩ => ⟨S1x8192, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x1, .f32⟩
  | .hbm, ⟨22, _⟩ => ⟨S1x8192x1, .f32⟩
  | .hbm, ⟨23, _⟩ => ⟨S_, .f32⟩
  | .hbm, ⟨24, _⟩ => ⟨S1x8192x1, .f32⟩
  | .hbm, ⟨25, _⟩ => ⟨S1x8192x1, .f32⟩
  | .hbm, ⟨26, _⟩ => ⟨S1x8192x1024, .f32⟩
  | .hbm, ⟨27, _⟩ => ⟨S1x8192x1024, .f32⟩
  | .hbm, ⟨28, _⟩ => ⟨S1x1x1024, .f32⟩
  | .hbm, ⟨29, _⟩ => ⟨S1x8192x1024, .f32⟩
  | .hbm, ⟨30, _⟩ => ⟨S1x8192x1024, .f32⟩
  | .hbm, ⟨31, _⟩ => ⟨S1024x2816, .f32⟩
  | .hbm, ⟨32, _⟩ => ⟨S1024x2816, .f32⟩
  | .hbm, ⟨33, _⟩ => ⟨S2816x1024, .f32⟩
  | .hbm, ⟨34, _⟩ => ⟨S1x8192x2816, .f32⟩
  | .hbm, ⟨35, _⟩ => ⟨S1x8192x2816, .f32⟩
  | .hbm, ⟨36, _⟩ => ⟨S1x8192x2816, .f32⟩
  | .hbm, ⟨37, _⟩ => ⟨S1x8192x2816, .f32⟩
  | .hbm, ⟨38, _⟩ => ⟨S_, .f32⟩
  | .hbm, ⟨39, _⟩ => ⟨S1x8192x2816, .f32⟩
  | .hbm, ⟨40, _⟩ => ⟨S1x8192x2816, .f32⟩
  | .hbm, ⟨41, _⟩ => ⟨S_, .f32⟩
  | .hbm, ⟨42, _⟩ => ⟨S1x8192x2816, .f32⟩
  | .hbm, ⟨43, _⟩ => ⟨S1x8192x2816, .f32⟩
  | .hbm, ⟨44, _⟩ => ⟨S_, .f32⟩
  | .hbm, ⟨45, _⟩ => ⟨S1x8192x2816, .f32⟩
  | .hbm, ⟨46, _⟩ => ⟨S1x8192x2816, .f32⟩
  | .hbm, ⟨47, _⟩ => ⟨S1x8192x2816, .f32⟩
  | .hbm, ⟨48, _⟩ => ⟨S1x8192x2816, .f32⟩
  | .hbm, ⟨49, _⟩ => ⟨S1x8192x2816, .f32⟩
  | .hbm, ⟨50, _⟩ => ⟨S1x8192x2816, .f32⟩
  | .hbm, ⟨51, _⟩ => ⟨S1x8192x2816, .f32⟩
  | .hbm, ⟨52, _⟩ => ⟨S1x8192x1024, .f32⟩
  | .hbm, ⟨53, _⟩ => ⟨S1x8192x1024, .f32⟩
  | .hbm, ⟨54, _⟩ => ⟨S_, .f32⟩
  | .hbm, ⟨55, _⟩ => ⟨S1x8192x1024, .f32⟩
  | .hbm, ⟨56, _⟩ => ⟨S1x8192x1024, .f32⟩
  | .hbm, ⟨57, _⟩ => ⟨S1x8192x1024, .f32⟩
  | .hbm, ⟨58, _⟩ => ⟨S1x8192x1024, .f32⟩
  | .hbm, ⟨59, _⟩ => ⟨S_, .f32⟩
  | .hbm, ⟨60, _⟩ => ⟨S1x8192x1024, .f32⟩
  | .hbm, ⟨61, _⟩ => ⟨S1x8192x1024, .f32⟩
  | .hbm, ⟨62, _⟩ => ⟨S1x8192x2816, .f32⟩
  | .hbm, ⟨63, _⟩ => ⟨S1x8192x2816, .f32⟩
  | .hbm, ⟨64, _⟩ => ⟨S1x8192x2816, .f32⟩
  | .hbm, ⟨65, _⟩ => ⟨S1x8192x1024, .f32⟩
  | .hbm, ⟨66, _⟩ => ⟨S1x8192x2816, .f32⟩
  | .hbm, ⟨67, _⟩ => ⟨S1x8192x2816, .f32⟩
  | .hbm, ⟨68, _⟩ => ⟨S1x8192x2816, .f32⟩
  | .hbm, ⟨69, _⟩ => ⟨S1x8192x2816, .f32⟩
  | .hbm, ⟨70, _⟩ => ⟨S1x8192x1024, .f32⟩
  | .hbm, ⟨71, _⟩ => ⟨S1x8192x1024, .f32⟩
  | .hbm, ⟨72, _⟩ => ⟨S1x8192x1024, .f32⟩
  | .hbm, ⟨73, _⟩ => ⟨S_, .f32⟩
  | .hbm, ⟨74, _⟩ => ⟨S1x1024, .f32⟩
  | .hbm, ⟨75, _⟩ => ⟨S1x1x1024, .f32⟩
  | .hbm, ⟨76, _⟩ => ⟨S1x8192x1024, .f32⟩
  | .hbm, ⟨77, _⟩ => ⟨S1x8192x1024, .f32⟩
  | .hbm, ⟨78, _⟩ => ⟨S_, .f32⟩
  | .hbm, ⟨79, _⟩ => ⟨S1024, .f32⟩
  | .hbm, ⟨80, _⟩ => ⟨S1x8192x1024, .f32⟩
  | .hbm, ⟨81, _⟩ => ⟨S_, .f32⟩
  | .hbm, ⟨82, _⟩ => ⟨S1x8192, .f32⟩
  | .hbm, ⟨83, _⟩ => ⟨S1x8192x1, .f32⟩
  | .hbm, ⟨84, _⟩ => ⟨S1x8192x1024, .f32⟩
  | .hbm, ⟨85, _⟩ => ⟨S1x8192x1024, .f32⟩
  | .hbm, ⟨86, _⟩ => ⟨S1x8192x1024, .f32⟩
  | .hbm, ⟨87, _⟩ => ⟨S1x8192x1, .f32⟩
  | .hbm, ⟨88, _⟩ => ⟨S_, .f32⟩
  | .hbm, ⟨89, _⟩ => ⟨S1x8192x1, .f32⟩
  | .hbm, ⟨90, _⟩ => ⟨S1x8192x1, .f32⟩
  | .hbm, ⟨91, _⟩ => ⟨S_, .f32⟩
  | .hbm, ⟨92, _⟩ => ⟨S8192, .f32⟩
  | .hbm, ⟨93, _⟩ => ⟨S1x8192, .f32⟩
  | .hbm, ⟨94, _⟩ => ⟨S1x8192x1024, .f32⟩
  | .hbm, ⟨95, _⟩ => ⟨S1x8192x1024, .f32⟩
  | .hbm, ⟨96, _⟩ => ⟨S1x8192x1024, .f32⟩
  | .hbm, ⟨97, _⟩ => ⟨S1x8192x1024, .f32⟩
  | .hbm, ⟨98, _⟩ => ⟨S1x8192x1024, .f32⟩
  | .hbm, ⟨99, _⟩ => ⟨S1x1024, .f32⟩
  | .hbm, ⟨100, _⟩ => ⟨S8192x1024, .f32⟩
  | .hbm, ⟨101, _⟩ => ⟨S8192x1024, .f32⟩
  | .hbm, ⟨102, _⟩ => ⟨S8192x1024, .bf16⟩
  | .hbm, ⟨103, _⟩ => ⟨S8192x1024, .f32⟩
  | .hbm, ⟨104, _⟩ => ⟨S8192x1024, .f32⟩
  | .hbm, ⟨105, _⟩ => ⟨S8192x1024, .bf16⟩
  | .hbm, ⟨106, _⟩ => ⟨S8192x2816, .f32⟩
  | .hbm, ⟨107, _⟩ => ⟨S8192x2816, .bf16⟩
  | .hbm, ⟨108, _⟩ => ⟨S8192x2816, .f32⟩
  | .hbm, ⟨109, _⟩ => ⟨S8192x2816, .bf16⟩
  | .hbm, ⟨110, _⟩ => ⟨S8192x2816, .f32⟩
  | .hbm, ⟨111, _⟩ => ⟨S8192x2816, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v24_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v24_1 : Ref sig .tc := ⟨.hbm, 47, rfl⟩
abbrev main_v24_0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩

abbrev nD : Nat := 1
abbrev τ : Topo := Topo.v7x

variable {F : FTy → Type} [FloatOps F]
-- ==== Bias.lean ====
abbrev S8x128x256 : Shape := ⟨3, ![8, 128, 256]⟩
abbrev S32x8 : Shape := ⟨2, ![32, 8]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S1x32768 : Shape := ⟨2, ![1, 32768]⟩
abbrev S32 : Shape := ⟨1, ![32]⟩
abbrev S32x1 : Shape := ⟨2, ![32, 1]⟩
abbrev S32x32768 : Shape := ⟨2, ![32, 32768]⟩
abbrev S8x32 : Shape := ⟨2, ![8, 32]⟩
abbrev S8x32768 : Shape := ⟨2, ![8, 32768]⟩

abbrev nBuf : Space → Nat
  | .hbm => 53
  | .vmem => 6
  | .smem => 0
  | _ => 0

abbrev bufTy : (tb : Table) → Fin (tcTables nBuf tb) → BufTy
  | .hbm, ⟨0, _⟩ => ⟨S8x128x256, .f32⟩
  | .hbm, ⟨1, _⟩ => ⟨S32x8, .f32⟩
  | .hbm, ⟨2, _⟩ => ⟨S128, .i32⟩
  | .hbm, ⟨3, _⟩ => ⟨S128x1, .i32⟩
  | .hbm, ⟨4, _⟩ => ⟨S_, .i32⟩
  | .hbm, ⟨5, _⟩ => ⟨S128x1, .i32⟩
  | .hbm, ⟨6, _⟩ => ⟨S128x1, .i32⟩
  | .hbm, ⟨7, _⟩ => ⟨S256, .i32⟩
  | .hbm, ⟨8, _⟩ => ⟨S1x256, .i32⟩
  | .hbm, ⟨9, _⟩ => ⟨S128x256, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i32⟩
  | .hbm, ⟨15, _⟩ => ⟨S_, .i32⟩
  | .hbm, ⟨16, _⟩ => ⟨S128x256, .i32⟩
  | .hbm, ⟨17, _⟩ => ⟨S128x256, .i32⟩
  | .hbm, ⟨18, _⟩ => ⟨S128x256, .f32⟩
  | .hbm, ⟨19, _⟩ => ⟨S_, .f32⟩
  | .hbm, ⟨20, _⟩ => ⟨S128x256, .f32⟩
  | .hbm, ⟨21, _⟩ => ⟨S128x256, .f32⟩
  | .hbm, ⟨22, _⟩ => ⟨S128x256, .f32⟩
  | .hbm, ⟨23, _⟩ => ⟨S_, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S128x256, .i32⟩
  | .hbm, ⟨30, _⟩ => ⟨S_, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S128x256, .i32⟩
  | .hbm, ⟨40, _⟩ => ⟨S1x32768, .i32⟩
  | .hbm, ⟨41, _⟩ => ⟨S32, .i32⟩
  | .hbm, ⟨42, _⟩ => ⟨S32x1, .i32⟩
  | .hbm, ⟨43, _⟩ => ⟨S32x32768, .i32⟩
  | .hbm, ⟨44, _⟩ => ⟨S32x32768, .i32⟩
  | .hbm, ⟨45, _⟩ => ⟨S32x32768, .i1⟩
  | .hbm, ⟨46, _⟩ => ⟨S32x32768, .bf16⟩
  | .hbm, ⟨47, _⟩ => ⟨S8x32, .f32⟩
  | .hbm, ⟨48, _⟩ => ⟨S8x32768, .f32⟩
  | .hbm, ⟨49, _⟩ => ⟨S8x128x256, .f32⟩
  | .hbm, ⟨50, _⟩ => ⟨S8x32768, .f32⟩
  | .hbm, ⟨51, _⟩ => ⟨S8x32, .f32⟩
  | .hbm, ⟨52, _⟩ => ⟨S32x8, .f32⟩
  | .local _ .vmem, ⟨0, _⟩ => ⟨S8x32, .f32⟩
  | .local _ .vmem, ⟨1, _⟩ => ⟨S32x32768, .bf16⟩
  | .local _ .vmem, ⟨2, _⟩ => ⟨S8x32768, .f32⟩
  | .local _ .vmem, ⟨3, _⟩ => ⟨S8x32768, .f32⟩
  | .local _ .vmem, ⟨4, _⟩ => ⟨S32x32768, .bf16⟩
  | .local _ .vmem, ⟨5, _⟩ => ⟨S8x32, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x32768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x32768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x32768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== BiasRefIdeal.lean ====
abbrev S8x128x256 : Shape := ⟨3, ![8, 128, 256]⟩
abbrev S32x8 : Shape := ⟨2, ![32, 8]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x8 : Shape := ⟨3, ![128, 256, 8]⟩

abbrev nBuf : Space → Nat
  | .hbm => 54
  | .vmem => 0
  | .smem => 0
  | _ => 0

abbrev bufTy : (tb : Table) → Fin (tcTables nBuf tb) → BufTy
  | .hbm, ⟨0, _⟩ => ⟨S8x128x256, .f32⟩
  | .hbm, ⟨1, _⟩ => ⟨S32x8, .f32⟩
  | .hbm, ⟨2, _⟩ => ⟨S128, .i32⟩
  | .hbm, ⟨3, _⟩ => ⟨S128x1, .i32⟩
  | .hbm, ⟨4, _⟩ => ⟨S_, .i32⟩
  | .hbm, ⟨5, _⟩ => ⟨S128x1, .i32⟩
  | .hbm, ⟨6, _⟩ => ⟨S128x1, .i32⟩
  | .hbm, ⟨7, _⟩ => ⟨S256, .i32⟩
  | .hbm, ⟨8, _⟩ => ⟨S1x256, .i32⟩
  | .hbm, ⟨9, _⟩ => ⟨S128x256, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i32⟩
  | .hbm, ⟨15, _⟩ => ⟨S_, .i32⟩
  | .hbm, ⟨16, _⟩ => ⟨S128x256, .i32⟩
  | .hbm, ⟨17, _⟩ => ⟨S128x256, .i32⟩
  | .hbm, ⟨18, _⟩ => ⟨S128x256, .f32⟩
  | .hbm, ⟨19, _⟩ => ⟨S_, .f32⟩
  | .hbm, ⟨20, _⟩ => ⟨S128x256, .f32⟩
  | .hbm, ⟨21, _⟩ => ⟨S128x256, .f32⟩
  | .hbm, ⟨22, _⟩ => ⟨S128x256, .f32⟩
  | .hbm, ⟨23, _⟩ => ⟨S_, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S128x256, .i32⟩
  | .hbm, ⟨30, _⟩ => ⟨S_, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S_, .i32⟩
  | .hbm, ⟨44, _⟩ => ⟨S128x256, .i32⟩
  | .hbm, ⟨45, _⟩ => ⟨S128x256, .i32⟩
  | .hbm, ⟨46, _⟩ => ⟨S128x256, .i32⟩
  | .hbm, ⟨47, _⟩ => ⟨S128x256x1, .i32⟩
  | .hbm, ⟨48, _⟩ => ⟨S128x256x8, .f32⟩
  | .hbm, ⟨49, _⟩ => ⟨S8x128x256, .f32⟩
  | .hbm, ⟨50, _⟩ => ⟨S128x256x8, .f32⟩
  | .hbm, ⟨51, _⟩ => ⟨S_, .f32⟩
  | .hbm, ⟨52, _⟩ => ⟨S32x8, .f32⟩
  | .hbm, ⟨53, _⟩ => ⟨S32x8, .f32⟩
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_7 : Ref sig .tc := ⟨.hbm, 40, rfl⟩
abbrev main_v29 : Ref sig .tc := ⟨.hbm, 41, rfl⟩
abbrev main_v30 : Ref sig .tc := ⟨.hbm, 42, rfl⟩
abbrev main_c_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Swa.lean ====
abbrev S1x8192x512 : Shape := ⟨3, ![1, 8192, 512]⟩
abbrev S1x8192x128 : Shape := ⟨3, ![1, 8192, 128]⟩
abbrev S1x8 : Shape := ⟨2, ![1, 8]⟩
abbrev S32x8 : Shape := ⟨2, ![32, 8]⟩
abbrev S8192x512 : Shape := ⟨2, ![8192, 512]⟩
abbrev S8192x128 : Shape := ⟨2, ![8192, 128]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S1x32768 : Shape := ⟨2, ![1, 32768]⟩
abbrev S32 : Shape := ⟨1, ![32]⟩
abbrev S32x1 : Shape := ⟨2, ![32, 1]⟩
abbrev S32x32768 : Shape := ⟨2, ![32, 32768]⟩
abbrev S8x32 : Shape := ⟨2, ![8, 32]⟩
abbrev S8x32768 : Shape := ⟨2, ![8, 32768]⟩
abbrev S8x128x256 : Shape := ⟨3, ![8, 128, 256]⟩
abbrev S8 : Shape := ⟨1, ![8]⟩
abbrev S64x128x8x64 : Shape := ⟨4, ![64, 128, 8, 64]⟩
abbrev S8x64x128x64 : Shape := ⟨4, ![8, 64, 128, 64]⟩
abbrev S64x128x2x64 : Shape := ⟨4, ![64, 128, 2, 64]⟩
abbrev S2x64x64x128 : Shape := ⟨4, ![2, 64, 64, 128]⟩
abbrev S8x64x64x128 : Shape := ⟨4, ![8, 64, 64, 128]⟩
abbrev S1x1x128x64 : Shape := ⟨4, ![1, 1, 128, 64]⟩
abbrev S1x1x64x128 : Shape := ⟨4, ![1, 1, 64, 128]⟩
abbrev S1x128x256 : Shape := ⟨3, ![1, 128, 256]⟩
abbrev S128x64 : Shape := ⟨2, ![128, 64]⟩
abbrev S64x128 : Shape := ⟨2, ![64, 128]⟩
abbrev S1 : Shape := ⟨1, ![1]⟩
abbrev S128x128 : Shape := ⟨2, ![128, 128]⟩

abbrev nBuf : Space → Nat
  | .hbm => 70
  | .vmem => 17
  | .smem => 1
  | _ => 0

abbrev bufTy : (tb : Table) → Fin (tcTables nBuf tb) → BufTy
  | .hbm, ⟨0, _⟩ => ⟨S1x8192x512, .f32⟩
  | .hbm, ⟨1, _⟩ => ⟨S1x8192x128, .f32⟩
  | .hbm, ⟨2, _⟩ => ⟨S1x8192x128, .f32⟩
  | .hbm, ⟨3, _⟩ => ⟨S1x8, .f32⟩
  | .hbm, ⟨4, _⟩ => ⟨S32x8, .f32⟩
  | .hbm, ⟨5, _⟩ => ⟨S8192x512, .f32⟩
  | .hbm, ⟨6, _⟩ => ⟨S8192x512, .bf16⟩
  | .hbm, ⟨7, _⟩ => ⟨S8192x128, .f32⟩
  | .hbm, ⟨8, _⟩ => ⟨S8192x128, .bf16⟩
  | .hbm, ⟨9, _⟩ => ⟨S8192x128, .f32⟩
  | .hbm, ⟨10, _⟩ => ⟨S8192x128, .bf16⟩
  | .hbm, ⟨11, _⟩ => ⟨S128, .i32⟩
  | .hbm, ⟨12, _⟩ => ⟨S128x1, .i32⟩
  | .hbm, ⟨13, _⟩ => ⟨S_, .i32⟩
  | .hbm, ⟨14, _⟩ => ⟨S128x1, .i32⟩
  | .hbm, ⟨15, _⟩ => ⟨S128x1, .i32⟩
  | .hbm, ⟨16, _⟩ => ⟨S256, .i32⟩
  | .hbm, ⟨17, _⟩ => ⟨S1x256, .i32⟩
  | .hbm, ⟨18, _⟩ => ⟨S128x256, .i32⟩
  | .hbm, ⟨19, _⟩ => ⟨S128x256, .i32⟩
  | .hbm, ⟨20, _⟩ => ⟨S128x256, .i32⟩
  | .hbm, ⟨21, _⟩ => ⟨S_, .i32⟩
  | .hbm, ⟨22, _⟩ => ⟨S128x256, .i32⟩
  | .hbm, ⟨23, _⟩ => ⟨S128x256, .i32⟩
  | .hbm, ⟨24, _⟩ => ⟨S_, .i32⟩
  | .hbm, ⟨25, _⟩ => ⟨S128x256, .i32⟩
  | .hbm, ⟨26, _⟩ => ⟨S128x256, .i32⟩
  | .hbm, ⟨27, _⟩ => ⟨S128x256, .f32⟩
  | .hbm, ⟨28, _⟩ => ⟨S_, .f32⟩
  | .hbm, ⟨29, _⟩ => ⟨S128x256, .f32⟩
  | .hbm, ⟨30, _⟩ => ⟨S128x256, .f32⟩
  | .hbm, ⟨31, _⟩ => ⟨S128x256, .f32⟩
  | .hbm, ⟨32, _⟩ => ⟨S_, .f32⟩
  | .hbm, ⟨33, _⟩ => ⟨S128x256, .f32⟩
  | .hbm, ⟨34, _⟩ => ⟨S128x256, .f32⟩
  | .hbm, ⟨35, _⟩ => ⟨S_, .f32⟩
  | .hbm, ⟨36, _⟩ => ⟨S128x256, .f32⟩
  | .hbm, ⟨37, _⟩ => ⟨S128x256, .f32⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i32⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S128x256, .i32⟩
  | .hbm, ⟨49, _⟩ => ⟨S1x32768, .i32⟩
  | .hbm, ⟨50, _⟩ => ⟨S32, .i32⟩
  | .hbm, ⟨51, _⟩ => ⟨S32x1, .i32⟩
  | .hbm, ⟨52, _⟩ => ⟨S32x32768, .i32⟩
  | .hbm, ⟨53, _⟩ => ⟨S32x32768, .i32⟩
  | .hbm, ⟨54, _⟩ => ⟨S32x32768, .i1⟩
  | .hbm, ⟨55, _⟩ => ⟨S32x32768, .bf16⟩
  | .hbm, ⟨56, _⟩ => ⟨S8x32, .f32⟩
  | .hbm, ⟨57, _⟩ => ⟨S8x32768, .f32⟩
  | .hbm, ⟨58, _⟩ => ⟨S8x128x256, .f32⟩
  | .hbm, ⟨59, _⟩ => ⟨S8, .f32⟩
  | .hbm, ⟨60, _⟩ => ⟨S64x128x8x64, .bf16⟩
  | .hbm, ⟨61, _⟩ => ⟨S8x64x128x64, .bf16⟩
  | .hbm, ⟨62, _⟩ => ⟨S_, .bf16⟩
  | .hbm, ⟨63, _⟩ => ⟨S8x64x128x64, .bf16⟩
  | .hbm, ⟨64, _⟩ => ⟨S8x64x128x64, .bf16⟩
  | .hbm, ⟨65, _⟩ => ⟨S64x128x2x64, .bf16⟩
  | .hbm, ⟨66, _⟩ => ⟨S2x64x64x128, .bf16⟩
  | .hbm, ⟨67, _⟩ => ⟨S64x128x2x64, .bf16⟩
  | .hbm, ⟨68, _⟩ => ⟨S2x64x64x128, .bf16⟩
  | .hbm, ⟨69, _⟩ => ⟨S8x64x64x128, .f32⟩
  | .local _ .vmem, ⟨0, _⟩ => ⟨S8x32, .f32⟩
  | .local _ .vmem, ⟨1, _⟩ => ⟨S32x32768, .bf16⟩
  | .local _ .vmem, ⟨2, _⟩ => ⟨S8x32768, .f32⟩
  | .local _ .vmem, ⟨3, _⟩ => ⟨S1x1x128x64, .bf16⟩
  | .local _ .vmem, ⟨4, _⟩ => ⟨S1x1x128x64, .bf16⟩
  | .local _ .vmem, ⟨5, _⟩ => ⟨S1x1x64x128, .bf16⟩
  | .local _ .vmem, ⟨6, _⟩ => ⟨S1x1x64x128, .bf16⟩
  | .local _ .vmem, ⟨7, _⟩ => ⟨S1x1x64x128, .bf16⟩
  | .local _ .vmem, ⟨8, _⟩ => ⟨S1x1x64x128, .bf16⟩
  | .local _ .vmem, ⟨9, _⟩ => ⟨S1x1x64x128, .bf16⟩
  | .local _ .vmem, ⟨10, _⟩ => ⟨S1x1x64x128, .bf16⟩
  | .local _ .vmem, ⟨11, _⟩ => ⟨S1x1x64x128, .bf16⟩
  | .local _ .vmem, ⟨12, _⟩ => ⟨S1x1x64x128, .bf16⟩
  | .local _ .vmem, ⟨13, _⟩ => ⟨S1x128x256, .f32⟩
  | .local _ .vmem, ⟨14, _⟩ => ⟨S1x128x256, .f32⟩
  | .local _ .vmem, ⟨15, _⟩ => ⟨S1x1x64x128, .f32⟩
  | .local _ .vmem, ⟨16, _⟩ => ⟨S1x1x64x128, .f32⟩
  | .local _ .smem, ⟨0, _⟩ => ⟨S8, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg0_0 : Ref sig .tc := ⟨.smem, 0, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x32768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![8, 64], ![false, false]⟩

def k1_off1 (i : grid1.Coords) : Fin 1 → Nat :=
  let arg0 : BitVec 32 := BitVec.ofNat 32 (i 0).val
  let v8 : Index := Scalar.indexCast arg0
  ![v8.toNat]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi arg1 c1_i32_4
  let c0_i32_5 : BitVec 32 := 0#32
  let v18 : BitVec 32 := Scalar.maxsi v17 c0_i32_5
  let c0_i32_6 : BitVec 32 := 0#32
  let c0_i32_7 : BitVec 32 := 0#32
  let c0_i32_8 : BitVec 32 := 0#32
  ![v16.toNat, v18.toNat, c0_i32_6.toNat, c0_i32_7.toNat]

def cc1_transform_3 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, arg1.toNat, c0_i32_4.toNat, c0_i32_5.toNat]

def cc1_transform_4 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi arg1 c1_i32_4
  let c0_i32_5 : BitVec 32 := 0#32
  let v18 : BitVec 32 := Scalar.maxsi v17 c0_i32_5
  let c0_i32_6 : BitVec 32 := 0#32
  let c0_i32_7 : BitVec 32 := 0#32
  let c0_i32_8 : BitVec 32 := 0#32
  ![v16.toNat, v18.toNat, c0_i32_6.toNat, c0_i32_7.toNat]

def cc1_transform_5 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, arg1.toNat, c0_i32_4.toNat, c0_i32_5.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 1 → Memref sig .tc .smem S8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x1x128x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x64x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x64x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x64x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x64x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1x64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== SwaIdeal.lean ====
variable {F : FTy → Type} [FloatOps F] [Named F]
def κ : String → Option EReal := fun
  | "mask" => some ⊥
  | _ => none
-- ==== SwaRefIdeal.lean ====
abbrev S1x8192x512 : Shape := ⟨3, ![1, 8192, 512]⟩
abbrev S1x8192x128 : Shape := ⟨3, ![1, 8192, 128]⟩
abbrev S1x8 : Shape := ⟨2, ![1, 8]⟩
abbrev S32x8 : Shape := ⟨2, ![32, 8]⟩
abbrev S8192x512 : Shape := ⟨2, ![8192, 512]⟩
abbrev S8192x8x64 : Shape := ⟨3, ![8192, 8, 64]⟩
abbrev S8192x128 : Shape := ⟨2, ![8192, 128]⟩
abbrev S8192x2x64 : Shape := ⟨3, ![8192, 2, 64]⟩
abbrev S8 : Shape := ⟨1, ![8]⟩
abbrev S64x128x2x4x64 : Shape := ⟨5, ![64, 128, 2, 4, 64]⟩
abbrev S64x128x2x64 : Shape := ⟨4, ![64, 128, 2, 64]⟩
abbrev S1x128x2x64 : Shape := ⟨4, ![1, 128, 2, 64]⟩
abbrev S_ : Shape := ⟨0, ![]⟩
abbrev S63x128x2x64 : Shape := ⟨4, ![63, 128, 2, 64]⟩
abbrev S64x256x2x64 : Shape := ⟨4, ![64, 256, 2, 64]⟩
abbrev S64x2x256x128x4 : Shape := ⟨5, ![64, 2, 256, 128, 4]⟩
abbrev S64x2x4x128x256 : Shape := ⟨5, ![64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S2x4x128x256 : Shape := ⟨4, ![2, 4, 128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S1x2x4x128x256 : Shape := ⟨5, ![1, 2, 4, 128, 256]⟩
abbrev S2x4 : Shape := ⟨2, ![2, 4]⟩
abbrev S1x2x4x1x1 : Shape := ⟨5, ![1, 2, 4, 1, 1]⟩
abbrev S64x2x4x128 : Shape := ⟨4, ![64, 2, 4, 128]⟩
abbrev S64x2x4x128x1 : Shape := ⟨5, ![64, 2, 4, 128, 1]⟩
abbrev S64x2x64x4x128 : Shape := ⟨5, ![64, 2, 64, 4, 128]⟩
abbrev S64x128x8x64 : Shape := ⟨4, ![64, 128, 8, 64]⟩
abbrev S8x64x64x128 : Shape := ⟨4, ![8, 64, 64, 128]⟩

abbrev nBuf : Space → Nat
  | .hbm => 142
  | .vmem => 0
  | .smem => 0
  | _ => 0

abbrev hbmTy0_0 (i : Nat) : BufTy := match i % 128 with
  | 0 => ⟨S1x8192x512, .f32⟩
  | 1 => ⟨S1x8192x128, .f32⟩
  | 2 => ⟨S1x8192x128, .f32⟩
  | 3 => ⟨S1x8, .f32⟩
  | 4 => ⟨S32x8, .f32⟩
  | 5 => ⟨S8192x512, .f32⟩
  | 6 => ⟨S8192x8x64, .f32⟩
  | 7 => ⟨S8192x128, .f32⟩
  | 8 => ⟨S8192x2x64, .f32⟩
  | 9 => ⟨S8192x128, .f32⟩
  | 10 => ⟨S8192x2x64, .f32⟩
  | 11 => ⟨S8, .f32⟩
  | 12 => ⟨S64x128x2x4x64, .f32⟩
  | 13 => ⟨S64x128x2x64, .f32⟩
  | 14 => ⟨S64x128x2x64, .f32⟩
  | 15 => ⟨S1x128x2x64, .f32⟩
  | 16 => ⟨S_, .f32⟩
  | 17 => ⟨S1x128x2x64, .f32⟩
  | 18 => ⟨S63x128x2x64, .f32⟩
  | 19 => ⟨S64x128x2x64, .f32⟩
  | 20 => ⟨S64x256x2x64, .f32⟩
  | 21 => ⟨S1x128x2x64, .f32⟩
  | 22 => ⟨S_, .f32⟩
  | 23 => ⟨S1x128x2x64, .f32⟩
  | 24 => ⟨S63x128x2x64, .f32⟩
  | 25 => ⟨S64x128x2x64, .f32⟩
  | 26 => ⟨S64x256x2x64, .f32⟩
  | 27 => ⟨S64x2x256x128x4, .f32⟩
  | 28 => ⟨S64x2x4x128x256, .f32⟩
  | 29 => ⟨S_, .f32⟩
  | 30 => ⟨S64x2x4x128x256, .f32⟩
  | 31 => ⟨S64x2x4x128x256, .f32⟩
  | 32 => ⟨S128, .i32⟩
  | 33 => ⟨S128x1, .i32⟩
  | 34 => ⟨S_, .i32⟩
  | 35 => ⟨S128x1, .i32⟩
  | 36 => ⟨S128x1, .i32⟩
  | 37 => ⟨S256, .i32⟩
  | 38 => ⟨S1x256, .i32⟩
  | 39 => ⟨S128x256, .i32⟩
  | 40 => ⟨S128x256, .i32⟩
  | 41 => ⟨S128x256, .i32⟩
  | 42 => ⟨S_, .i32⟩
  | 43 => ⟨S128x256, .i32⟩
  | 44 => ⟨S128x256, .i1⟩
  | 45 => ⟨S_, .i32⟩
  | 46 => ⟨S128x256, .i32⟩
  | 47 => ⟨S128x256, .i1⟩
  | 48 => ⟨S128x256, .i1⟩
  | 49 => ⟨S_, .i32⟩
  | 50 => ⟨S128x256, .i32⟩
  | 51 => ⟨S128x256, .i32⟩
  | 52 => ⟨S_, .i32⟩
  | 53 => ⟨S128x256, .i32⟩
  | 54 => ⟨S128x256, .i32⟩
  | 55 => ⟨S128x256, .f32⟩
  | 56 => ⟨S_, .f32⟩
  | 57 => ⟨S128x256, .f32⟩
  | 58 => ⟨S128x256, .f32⟩
  | 59 => ⟨S128x256, .f32⟩
  | 60 => ⟨S_, .f32⟩
  | 61 => ⟨S128x256, .f32⟩
  | 62 => ⟨S128x256, .f32⟩
  | 63 => ⟨S_, .f32⟩
  | 64 => ⟨S128x256, .f32⟩
  | 65 => ⟨S128x256, .f32⟩
  | 66 => ⟨S128x256, .i32⟩
  | 67 => ⟨S_, .i32⟩
  | 68 => ⟨S128x256, .i32⟩
  | 69 => ⟨S128x256, .i32⟩
  | 70 => ⟨S_, .i32⟩
  | 71 => ⟨S128x256, .i32⟩
  | 72 => ⟨S128x256, .i32⟩
  | 73 => ⟨S_, .i32⟩
  | 74 => ⟨S128x256, .i32⟩
  | 75 => ⟨S128x256, .i1⟩
  | 76 => ⟨S128x256, .i32⟩
  | 77 => ⟨S_, .i32⟩
  | 78 => ⟨S128x256, .i32⟩
  | 79 => ⟨S128x256, .i1⟩
  | 80 => ⟨S_, .i32⟩
  | 81 => ⟨S128x256, .i32⟩
  | 82 => ⟨S128x256, .i32⟩
  | 83 => ⟨S128x256, .i32⟩
  | 84 => ⟨S128x256x1, .i32⟩
  | 85 => ⟨S128x256x8, .f32⟩
  | 86 => ⟨S8x128x256, .f32⟩
  | 87 => ⟨S2x4x128x256, .f32⟩
  | 88 => ⟨S64, .i32⟩
  | 89 => ⟨S64x1, .i32⟩
  | 90 => ⟨S_, .i32⟩
  | 91 => ⟨S64x1, .i32⟩
  | 92 => ⟨S64x1, .i32⟩
  | 93 => ⟨S256, .i32⟩
  | 94 => ⟨S1x256, .i32⟩
  | 95 => ⟨S64x256, .i32⟩
  | 96 => ⟨S64x256, .i32⟩
  | 97 => ⟨S64x256, .i32⟩
  | 98 => ⟨S_, .i32⟩
  | 99 => ⟨S64x256, .i32⟩
  | 100 => ⟨S64x256, .i32⟩
  | 101 => ⟨S1x128x256, .i1⟩
  | 102 => ⟨S_, .i32⟩
  | 103 => ⟨S64x256, .i32⟩
  | 104 => ⟨S64x256, .i1⟩
  | 105 => ⟨S64x1x256, .i1⟩
  | 106 => ⟨S64x128x256, .i1⟩
  | 107 => ⟨S64x128x256, .i1⟩
  | 108 => ⟨S64x128x256, .i1⟩
  | 109 => ⟨S64x1x1x128x256, .i1⟩
  | 110 => ⟨S1x2x4x128x256, .f32⟩
  | 111 => ⟨S64x2x4x128x256, .f32⟩
  | 112 => ⟨S64x2x4x128x256, .f32⟩
  | 113 => ⟨S_, .f32⟩
  | 114 => ⟨S_, .f32⟩
  | 115 => ⟨S64x2x4x128x256, .i1⟩
  | 116 => ⟨S64x2x4x128x256, .f32⟩
  | 117 => ⟨S64x2x4x128x256, .f32⟩
  | 118 => ⟨S2x4, .f32⟩
  | 119 => ⟨S1x2x4x1x1, .f32⟩
  | 120 => ⟨S_, .f32⟩
  | 121 => ⟨S64x2x4x128, .f32⟩
  | 122 => ⟨S64x2x4x128x1, .f32⟩
  | 123 => ⟨S64x2x4x128x1, .f32⟩
  | 124 => ⟨S64x2x4x128x1, .f32⟩
  | 125 => ⟨S64x2x4x128x256, .f32⟩
  | 126 => ⟨S64x2x4x128x256, .f32⟩
  | 127 => ⟨S64x2x4x128x256, .f32⟩
  | _ => ⟨S1x8192x512, .f32⟩

abbrev hbmTy0_1 (i : Nat) : BufTy := match i % 128 with
  | 0 => ⟨S_, .f32⟩
  | 1 => ⟨S64x2x4x128, .f32⟩
  | 2 => ⟨S64x2x4x128x1, .f32⟩
  | 3 => ⟨S64x2x4x128x1, .f32⟩
  | 4 => ⟨S64x2x4x128x1, .f32⟩
  | 5 => ⟨S64x2x4x128x1, .f32⟩
  | 6 => ⟨S64x2x4x128x1, .f32⟩
  | 7 => ⟨S64x2x4x128x256, .f32⟩
  | 8 => ⟨S64x2x4x128x256, .f32⟩
  | 9 => ⟨S64x2x64x4x128, .f32⟩
  | 10 => ⟨S64x128x2x4x64, .f32⟩
  | 11 => ⟨S8192x8x64, .f32⟩
  | 12 => ⟨S64x128x8x64, .f32⟩
  | 13 => ⟨S8x64x64x128, .f32⟩
  | _ => ⟨S1x8192x512, .f32⟩

abbrev hbmTy (i : Nat) : BufTy := match i / 128 with
  | 0 => hbmTy0_0 i
  | 1 => hbmTy0_1 i
  | _ => ⟨S1x8192x512, .f32⟩

abbrev bufTy : (tb : Table) → Fin (tcTables nBuf tb) → BufTy
  | .hbm, ⟨i, _⟩ => hbmTy i
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_2 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_4 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_9 : Ref sig .tc := ⟨.hbm, 67, rfl⟩
abbrev main_v51 : Ref sig .tc := ⟨.hbm, 68, rfl⟩
abbrev main_v52 : Ref sig .tc := ⟨.hbm, 69, rfl⟩
abbrev main_c_10 : Ref sig .tc := ⟨.hbm, 70, rfl⟩
abbrev main_v53 : Ref sig .tc := ⟨.hbm, 71, rfl⟩
abbrev main_v54 : Ref sig .tc := ⟨.hbm, 72, rfl⟩
abbrev main_c_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_12 : Ref sig .tc := ⟨.hbm, 77, rfl⟩
abbrev main_v58 : Ref sig .tc := ⟨.hbm, 78, rfl⟩
abbrev main_v59 : Ref sig .tc := ⟨.hbm, 79, rfl⟩
abbrev main_c_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_c_15 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_c_16 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_17 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_18 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_19 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩

abbrev nD : Nat := 1
abbrev τ : Topo := Topo.v7x

variable {F : FTy → Type} [FloatOps F]
-- ==== Wgt.lean ====
abbrev S1x8192x4352 : Shape := ⟨3, ![1, 8192, 4352]⟩
abbrev S1x8192x1024 : Shape := ⟨3, ![1, 8192, 1024]⟩
abbrev S8192x4352 : Shape := ⟨2, ![8192, 4352]⟩
abbrev S8192x1024 : Shape := ⟨2, ![8192, 1024]⟩
abbrev S4352x1024 : Shape := ⟨2, ![4352, 1024]⟩
abbrev S512x256 : Shape := ⟨2, ![512, 256]⟩
abbrev S512x1024 : Shape := ⟨2, ![512, 1024]⟩
abbrev S256x1024 : Shape := ⟨2, ![256, 1024]⟩

abbrev nBuf : Space → Nat
  | .hbm => 7
  | .vmem => 6
  | .smem => 0
  | _ => 0

abbrev bufTy : (tb : Table) → Fin (tcTables nBuf tb) → BufTy
  | .hbm, ⟨0, _⟩ => ⟨S1x8192x4352, .f32⟩
  | .hbm, ⟨1, _⟩ => ⟨S1x8192x1024, .f32⟩
  | .hbm, ⟨2, _⟩ => ⟨S8192x4352, .f32⟩
  | .hbm, ⟨3, _⟩ => ⟨S8192x4352, .bf16⟩
  | .hbm, ⟨4, _⟩ => ⟨S8192x1024, .f32⟩
  | .hbm, ⟨5, _⟩ => ⟨S8192x1024, .bf16⟩
  | .hbm, ⟨6, _⟩ => ⟨S4352x1024, .f32⟩
  | .local _ .vmem, ⟨0, _⟩ => ⟨S512x256, .bf16⟩
  | .local _ .vmem, ⟨1, _⟩ => ⟨S512x256, .bf16⟩
  | .local _ .vmem, ⟨2, _⟩ => ⟨S512x1024, .bf16⟩
  | .local _ .vmem, ⟨3, _⟩ => ⟨S512x1024, .bf16⟩
  | .local _ .vmem, ⟨4, _⟩ => ⟨S256x1024, .f32⟩
  | .local _ .vmem, ⟨5, _⟩ => ⟨S256x1024, .f32⟩
  | _, _ => ⟨S1x8192x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 16], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgtRefIdeal.lean ====
abbrev S1x8192x4352 : Shape := ⟨3, ![1, 8192, 4352]⟩
abbrev S1x8192x1024 : Shape := ⟨3, ![1, 8192, 1024]⟩
abbrev S_ : Shape := ⟨0, ![]⟩
abbrev S1024x4352 : Shape := ⟨2, ![1024, 4352]⟩
abbrev S8192x1024 : Shape := ⟨2, ![8192, 1024]⟩
abbrev S8192x4352 : Shape := ⟨2, ![8192, 4352]⟩
abbrev S4352x1024 : Shape := ⟨2, ![4352, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1x8192x4352, .f32⟩
  | .hbm, ⟨1, _⟩ => ⟨S1x8192x1024, .f32⟩
  | .hbm, ⟨2, _⟩ => ⟨S_, .f32⟩
  | .hbm, ⟨3, _⟩ => ⟨S1024x4352, .f32⟩
  | .hbm, ⟨4, _⟩ => ⟨S8192x1024, .f32⟩
  | .hbm, ⟨5, _⟩ => ⟨S8192x4352, .f32⟩
  | .hbm, ⟨6, _⟩ => ⟨S8192x4352, .f32⟩
  | .hbm, ⟨7, _⟩ => ⟨S4352x1024, .f32⟩
  | .hbm, ⟨8, _⟩ => ⟨S1024x4352, .f32⟩
  | .hbm, ⟨9, _⟩ => ⟨S4352x1024, .f32⟩
  | _, _ => ⟨S1x8192x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Opt.lean ====
abbrev S1x1024x1088 : Shape := ⟨3, ![1, 1024, 1088]⟩
abbrev S1024x1088 : Shape := ⟨2, ![1024, 1088]⟩
abbrev S256x1088 : Shape := ⟨2, ![256, 1088]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x1088, .f32⟩
  | .hbm, ⟨1, _⟩ => ⟨S1x1024x1088, .f32⟩
  | .hbm, ⟨2, _⟩ => ⟨S1x1024x1088, .f32⟩
  | .hbm, ⟨3, _⟩ => ⟨S1x1024x1088, .f32⟩
  | .hbm, ⟨4, _⟩ => ⟨S1024x1088, .f32⟩
  | .hbm, ⟨5, _⟩ => ⟨S1024x1088, .f32⟩
  | .hbm, ⟨6, _⟩ => ⟨S1024x1088, .f32⟩
  | .hbm, ⟨7, _⟩ => ⟨S1024x1088, .f32⟩
  | .hbm, ⟨8, _⟩ => ⟨S1024x1088, .f32⟩
  | .hbm, ⟨9, _⟩ => ⟨S1024x1088, .f32⟩
  | .hbm, ⟨10, _⟩ => ⟨S1024x1088, .f32⟩
  | .local _ .vmem, ⟨0, _⟩ => ⟨S256x1088, .f32⟩
  | .local _ .vmem, ⟨1, _⟩ => ⟨S256x1088, .f32⟩
  | .local _ .vmem, ⟨2, _⟩ => ⟨S256x1088, .f32⟩
  | .local _ .vmem, ⟨3, _⟩ => ⟨S256x1088, .f32⟩
  | .local _ .vmem, ⟨4, _⟩ => ⟨S256x1088, .f32⟩
  | .local _ .vmem, ⟨5, _⟩ => ⟨S256x1088, .f32⟩
  | .local _ .vmem, ⟨6, _⟩ => ⟨S256x1088, .f32⟩
  | .local _ .vmem, ⟨7, _⟩ => ⟨S256x1088, .f32⟩
  | .local _ .vmem, ⟨8, _⟩ => ⟨S256x1088, .f32⟩
  | .local _ .vmem, ⟨9, _⟩ => ⟨S256x1088, .f32⟩
  | .local _ .vmem, ⟨10, _⟩ => ⟨S256x1088, .f32⟩
  | .local _ .vmem, ⟨11, _⟩ => ⟨S256x1088, .f32⟩
  | .local _ .vmem, ⟨12, _⟩ => ⟨S256x1088, .f32⟩
  | .local _ .vmem, ⟨13, _⟩ => ⟨S256x1088, .f32⟩
  | _, _ => ⟨S1x1024x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OptRefIdeal.lean ====
abbrev S1x1024x1088 : Shape := ⟨3, ![1, 1024, 1088]⟩
abbrev S_ : Shape := ⟨0, ![]⟩
abbrev S1024x1088 : Shape := ⟨2, ![1024, 1088]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x1088, .f32⟩
  | .hbm, ⟨1, _⟩ => ⟨S1x1024x1088, .f32⟩
  | .hbm, ⟨2, _⟩ => ⟨S1x1024x1088, .f32⟩
  | .hbm, ⟨3, _⟩ => ⟨S1x1024x1088, .f32⟩
  | .hbm, ⟨4, _⟩ => ⟨S_, .f32⟩
  | .hbm, ⟨5, _⟩ => ⟨S1x1024x1088, .f32⟩
  | .hbm, ⟨6, _⟩ => ⟨S1x1024x1088, .f32⟩
  | .hbm, ⟨7, _⟩ => ⟨S_, .f32⟩
  | .hbm, ⟨8, _⟩ => ⟨S1x1024x1088, .f32⟩
  | .hbm, ⟨9, _⟩ => ⟨S1x1024x1088, .f32⟩
  | .hbm, ⟨10, _⟩ => ⟨S1x1024x1088, .f32⟩
  | .hbm, ⟨11, _⟩ => ⟨S_, .f32⟩
  | .hbm, ⟨12, _⟩ => ⟨S1x1024x1088, .f32⟩
  | .hbm, ⟨13, _⟩ => ⟨S1x1024x1088, .f32⟩
  | .hbm, ⟨14, _⟩ => ⟨S1x1024x1088, .f32⟩
  | .hbm, ⟨15, _⟩ => ⟨S_, .f32⟩
  | .hbm, ⟨16, _⟩ => ⟨S1x1024x1088, .f32⟩
  | .hbm, ⟨17, _⟩ => ⟨S1x1024x1088, .f32⟩
  | .hbm, ⟨18, _⟩ => ⟨S1x1024x1088, .f32⟩
  | .hbm, ⟨19, _⟩ => ⟨S_, .f32⟩
  | .hbm, ⟨20, _⟩ => ⟨S1x1024x1088, .f32⟩
  | .hbm, ⟨21, _⟩ => ⟨S1x1024x1088, .f32⟩
  | .hbm, ⟨22, _⟩ => ⟨S_, .f32⟩
  | .hbm, ⟨23, _⟩ => ⟨S1x1024x1088, .f32⟩
  | .hbm, ⟨24, _⟩ => ⟨S1x1024x1088, .f32⟩
  | .hbm, ⟨25, _⟩ => ⟨S1x1024x1088, .f32⟩
  | .hbm, ⟨26, _⟩ => ⟨S_, .f32⟩
  | .hbm, ⟨27, _⟩ => ⟨S1x1024x1088, .f32⟩
  | .hbm, ⟨28, _⟩ => ⟨S1x1024x1088, .f32⟩
  | .hbm, ⟨29, _⟩ => ⟨S1x1024x1088, .f32⟩
  | .hbm, ⟨30, _⟩ => ⟨S_, .f32⟩
  | .hbm, ⟨31, _⟩ => ⟨S1x1024x1088, .f32⟩
  | .hbm, ⟨32, _⟩ => ⟨S1x1024x1088, .f32⟩
  | .hbm, ⟨33, _⟩ => ⟨S1x1024x1088, .f32⟩
  | .hbm, ⟨34, _⟩ => ⟨S_, .f32⟩
  | .hbm, ⟨35, _⟩ => ⟨S1x1024x1088, .f32⟩
  | .hbm, ⟨36, _⟩ => ⟨S1x1024x1088, .f32⟩
  | .hbm, ⟨37, _⟩ => ⟨S1024x1088, .f32⟩
  | .hbm, ⟨38, _⟩ => ⟨S1024x1088, .f32⟩
  | .hbm, ⟨39, _⟩ => ⟨S1024x1088, .f32⟩
  | _, _ => ⟨S1x1024x1088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Inp.lean ====
abbrev S1x8192x1024 : Shape := ⟨3, ![1, 8192, 1024]⟩
abbrev S1x1024 : Shape := ⟨2, ![1, 1024]⟩
abbrev S1x1024x4352 : Shape := ⟨3, ![1, 1024, 4352]⟩
abbrev S1024x4352 : Shape := ⟨2, ![1024, 4352]⟩
abbrev S4352x1024 : Shape := ⟨2, ![4352, 1024]⟩
abbrev S8192x1024 : Shape := ⟨2, ![8192, 1024]⟩
abbrev S2304x1024 : Shape := ⟨2, ![2304, 1024]⟩
abbrev S8192x2304 : Shape := ⟨2, ![8192, 2304]⟩
abbrev S512x1024 : Shape := ⟨2, ![512, 1024]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x4352, .f32⟩
  | .hbm, ⟨3, _⟩ => ⟨S1024x4352, .f32⟩
  | .hbm, ⟨4, _⟩ => ⟨S4352x1024, .f32⟩
  | .hbm, ⟨5, _⟩ => ⟨S4352x1024, .bf16⟩
  | .hbm, ⟨6, _⟩ => ⟨S8192x1024, .f32⟩
  | .hbm, ⟨7, _⟩ => ⟨S2304x1024, .bf16⟩
  | .hbm, ⟨8, _⟩ => ⟨S8192x2304, .bf16⟩
  | .hbm, ⟨9, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S512x256, .bf16⟩
  | .local _ .vmem, ⟨6, _⟩ => ⟨S512x256, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InpRefIdeal.lean ====
abbrev S1x8192x1024 : Shape := ⟨3, ![1, 8192, 1024]⟩
abbrev S1x1024 : Shape := ⟨2, ![1, 1024]⟩
abbrev S1x1024x4352 : Shape := ⟨3, ![1, 1024, 4352]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4352 : Shape := ⟨2, ![1024, 4352]⟩
abbrev S8192x4352 : Shape := ⟨2, ![8192, 4352]⟩
abbrev S8192x2304 : Shape := ⟨2, ![8192, 2304]⟩

abbrev nBuf : Space → Nat
  | .hbm => 26
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x4352, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1024x4352, .f32⟩
  | .hbm, ⟨22, _⟩ => ⟨S8192x4352, .f32⟩
  | .hbm, ⟨23, _⟩ => ⟨S8192x2304, .f32⟩
  | .hbm, ⟨24, _⟩ => ⟨S8192x2304, .bf16⟩
  | .hbm, ⟨25, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.Norm.lean ====
module
public import Idealize.ShloMosaic.Lib.Pipeline.ValueKit
@[expose] public section
set_option maxRecDepth 16384
noncomputable section

/-! Root mean square normalisation over 1024 lanes, over the real numbers: the norm, its gradient as the kernel writes
    it, and that this gradient is the one reverse differentiation of the norm gives. -/
namespace Cert.Norm
open Idealize.ShloMosaic

theorem ofBits_lanes : Ideal.ofBits .f32 0x44800000#32 = ((1024 : ℝ) : EReal) := by
  simp [Ideal.ofBits, Ideal.ieee, -EReal.coe_mul]; norm_num
theorem ofBits_inv_lanes : Ideal.ofBits .f32 0x3A800000#32 = ((1 / 1024 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- The small number added under the root. -/
def eps : ℝ := 8796093 / 8796093022208
theorem ofBits_eps : Ideal.ofBits .f32 0x358637BD#32 = (eps : EReal) := by
  simp [Ideal.ofBits, Ideal.ieee, eps, -EReal.coe_mul]; norm_num
theorem eps_pos : 0 < eps := by unfold eps; norm_num

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_lanes (a : ℝ) : Ideal.div (a : EReal) ((1024 : ℝ) : EReal) = ((a / 1024 : ℝ) : EReal) := by
  rw [Ideal.div_coe (by norm_num), ← EReal.coe_mul]; congr 1; ring

/-- A number of absolute value below infinity is a real. -/
theorem real_of_abs_lt (a : EReal) (h : max a (-a) < ⊤) : ∃ r : ℝ, a = r := by
  induction a with
  | bot => simp at h
  | top => simp at h
  | coe r => exact ⟨r, rfl⟩

variable (x g dh : Fin 1024 → ℝ)

/-- The mean square plus the small number. -/
def ms : ℝ := (∑ k, x k * x k) / 1024 + eps
/-- One over the root of it. -/
def inv : ℝ := (Real.sqrt (ms x))⁻¹
theorem ms_pos : 0 < ms x :=
  add_pos_of_nonneg_of_pos (div_nonneg (Finset.sum_nonneg fun k _ => mul_self_nonneg (x k)) (by norm_num)) eps_pos
theorem rsqrt_ms : Ideal.rsqrt (ms x : EReal) = (inv x : EReal) := by
  rw [Ideal.rsqrt_coe, if_neg (ms_pos x).le.not_gt, if_neg (ms_pos x).ne', inv]
theorem inv_sq : inv x * inv x * ms x = 1 := by
  have h := ms_pos x
  have hs : Real.sqrt (ms x) * Real.sqrt (ms x) = ms x := Real.mul_self_sqrt h.le
  have h0 : Real.sqrt (ms x) ≠ 0 := (Real.sqrt_pos.2 h).ne'
  unfold inv
  rw [← mul_inv, hs, inv_mul_cancel₀ h.ne']

/-- The gradient in the norm's input, as the kernel writes it. -/
def bwd (j : Fin 1024) : ℝ :=
  inv x * (dh j * g j - x j * inv x * ((∑ k, dh k * g k * (x k * inv x)) / 1024))

/-- It is the gradient reverse differentiation of `x * rsqrt (mean (x * x) + eps) * g` gives. -/
theorem vjp_eq_bwd (j : Fin 1024) (s : ℝ)
    (hs : s = (∑ k, x k * (dh k * g k)) * (-1 / 2 * (inv x / ms x)) / 1024) :
    dh j * g j * inv x + x j * s + s * x j = bwd x g dh j := by
  have hr : inv x / ms x = inv x * inv x * inv x := by
    rw [div_eq_iff (ms_pos x).ne']; linear_combination (-inv x) * inv_sq x
  have hS : ∑ k, dh k * g k * (x k * inv x) = (∑ k, x k * (dh k * g k)) * inv x := by
    rw [Finset.sum_mul]; exact Finset.sum_congr rfl fun k _ => by ring
  rw [hs, bwd, hS, hr]; ring

end Cert.Norm
end
-- ==== Proof.LossBody.lean ====
module
public import proofs.«01_k».proof.Proof.Gen.KernelIdeal.Skeleton
public import proofs.«01_k».proof.Proof.Norm
@[expose] public section
set_option maxRecDepth 16384
noncomputable section

/-! What the loss kernel's body computes on one tile of 512 rows of real numbers. -/
namespace Cert.KernelIdeal.Value
open Cert.KernelIdeal Cert.KernelIdeal.Gen Cert.Norm Idealize.ShloMosaic Idealize.ShloMosaic.TcCoe Idealize.SL.Sem

/-- The normed row less the target. -/
def err (x g t : Fin 1024 → ℝ) (k : Fin 1024) : ℝ := x k * inv x * g k - t k
/-- The gradient of half the mean square error in the normed row. -/
def dy (x g t : Fin 1024 → ℝ) (k : Fin 1024) : ℝ := err x g t k * (1 / 1024)

variable (v0 v16 : FVec Ideal S512x1024 .f32) (v2 : FVec Ideal S1x1024 .f32)
  (x t : Fin 512 → Fin 1024 → ℝ) (g : Fin 1024 → ℝ)
  (hx : ∀ i k, v0 (ix2 i k) = (x i k : EReal)) (ht : ∀ i k, v16 (ix2 i k) = (t i k : EReal))
  (hg : ∀ k, v2 (ix2 0 k) = (g k : EReal))
include hx

theorem mean_sq (i : Fin 512) :
    Ideal.div (∑ k : Fin 1024, v0 (ix2 i k) * v0 (ix2 i k)) (Ideal.ofBits .f32 0x44800000#32) + Ideal.ofBits .f32 0x358637BD#32
      = (ms (x i) : EReal) := by
  simp only [hx, ofBits_lanes, ofBits_eps, ← EReal.coe_mul, ← coe_sum, div_lanes, ← EReal.coe_add]; rfl

theorem pay10 (i : Fin 512) : k0_pay10 (F := Ideal) v0 (ix2 i 0) = (inv (x i) : EReal) := by
  pointwise [k0_pay10, k0_pay5]
  rw [mean_sq v0 x hx, rsqrt_ms]

theorem pay11 (i : Fin 512) (k : Fin 1024) : k0_pay11 (F := Ideal) v0 (ix2 i k) = ((x i k * inv (x i) : ℝ) : EReal) := by
  pointwise [k0_pay11, k0_pay5, pay10 v0 x hx]
  rw [hx, EReal.coe_mul]

include ht hg
theorem pay7 (i : Fin 512) (k : Fin 1024) : k0_pay7 (F := Ideal) v0 v2 v16 (ix2 i k) = (err (x i) g (t i) k : EReal) := by
  pointwise [k0_pay7, k0_pay5, k0_pay6]
  rw [mean_sq v0 x hx, rsqrt_ms, hx, hg, ht, err, EReal.coe_sub, EReal.coe_mul, EReal.coe_mul]

theorem pay9 (i : Fin 512) (k : Fin 1024) : k0_pay9 (F := Ideal) v0 v2 v16 (ix2 i k) = (dy (x i) g (t i) k : EReal) := by
  pointwise [k0_pay9, pay7 v0 v16 v2 x t g hx ht hg]
  rw [ofBits_inv_lanes, ← EReal.coe_mul]; rfl

theorem pay12 (i : Fin 512) (k : Fin 1024) :
    k0_pay12 (F := Ideal) v0 v2 v16 (ix2 i k) = ((dy (x i) g (t i) k * g k : ℝ) : EReal) := by
  pointwise [k0_pay12, k0_pay6, pay9 v0 v16 v2 x t g hx ht hg]
  rw [hg, EReal.coe_mul]

/-- The tile's share of the gradient in the residual stream. -/
theorem dx_tile (i : Fin 512) (j : Fin 1024) :
    k0_pay1 (F := Ideal) (k0_pay10 v0) (k0_pay11 v0) (k0_pay12 v0 v2 v16) (ix2 i j)
      = (bwd (x i) g (dy (x i) g (t i)) j : EReal) := by
  pointwise [k0_pay1]
  simp only [pay10 v0 x hx, pay11 v0 x hx, pay12 v0 v16 v2 x t g hx ht hg, ofBits_lanes, ← EReal.coe_mul, ← coe_sum, div_lanes,
    ← EReal.coe_sub]
  rfl

/-- The tile's part of the gradient in the norm's weight. -/
theorem dg_tile (j : Fin 1024) :
    k0_pay2 (F := Ideal) (k0_pay9 v0 v2 v16) (k0_pay11 v0) (ix2 0 j)
      = ((∑ i, dy (x i) g (t i) j * (x i j * inv (x i)) : ℝ) : EReal) := by
  pointwise [k0_pay2]
  simp only [pay11 v0 x hx, pay9 v0 v16 v2 x t g hx ht hg, ← EReal.coe_mul, ← coe_sum]

/-- The tile's part of the loss. -/
theorem loss_tile : k0_pay8 (F := Ideal) v0 v2 v16 (ix2 0 0)
      = ((1 / 2 * ∑ i, (∑ k, err (x i) g (t i) k * err (x i) g (t i) k) / 1024 : ℝ) : EReal) := by
  pointwise [k0_pay8]
  simp only [pay7 v0 v16 v2 x t g hx ht hg, ofBits_lanes, ofBits_half, ← EReal.coe_mul, ← coe_sum, div_lanes]

end Cert.KernelIdeal.Value
end
-- ==== Proof.LossValue.lean ====
module
public import proofs.«01_k».proof.Proof.Gen.KernelIdeal.Frame
public import proofs.«01_k».proof.Proof.LossBody
@[expose] public section
set_option maxRecDepth 16384
noncomputable section

/-! The three result arrays of the loss kernel on real arguments. -/
namespace Cert.KernelIdeal.Value
open Cert.KernelIdeal Cert.KernelIdeal.Gen Cert.Norm Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

theorem row_lt (t : Fin cfg0.N) (i : Fin 512) : t.val * 512 + i.val < 8192 := by
  have := t.isLt; have h : cfg0.N = 16 := N_0; omega

variable (c : Dev nD) (x t : Fin 8192 → Fin 1024 → ℝ) (g : Fin 1024 → ℝ)
  (hx : ∀ r k, (show FVec Ideal S1x8192x1024 .f32 from m ((c : Thread nD τ).loc main_arg0)) (ix3 0 r k) = (x r k : EReal))
  (hg : ∀ k, (show FVec Ideal S1024 .f32 from m ((c : Thread nD τ).loc main_arg1)) (ix1 k) = (g k : EReal))
  (ht : ∀ r k, (show FVec Ideal S1x8192x1024 .f32 from m ((c : Thread nD τ).loc main_arg2)) (ix3 0 r k) = (t r k : EReal))

include hx in
theorem blk0 (p : Fin cfg0.N) (i : Fin 512) (k : Fin 1024) :
    (show FVec Ideal S512x1024 .f32 from iblk m c 0 p) (ix2 i k) = (x ⟨p.val * 512 + i.val, row_lt p i⟩ k : EReal) := by
  rw [← hx]
  blk_point [iblk, V, idx p]

include ht in
theorem blk2 (p : Fin cfg0.N) (i : Fin 512) (k : Fin 1024) :
    (show FVec Ideal S512x1024 .f32 from iblk m c 2 p) (ix2 i k) = (t ⟨p.val * 512 + i.val, row_lt p i⟩ k : EReal) := by
  rw [← ht]
  blk_point [iblk, V, idx p]

include hg in
theorem blk1 (p : Fin cfg0.N) (k : Fin 1024) :
    (show FVec Ideal S1x1024 .f32 from iblk m c 1 p) (ix2 0 k) = (g k : EReal) := by
  rw [← hg]
  blk_point [iblk, V, idx p]

/-- The gradient in the residual stream. -/
def dxVal : FVec Ideal S8192x1024 .f32 := fun j => (bwd (x (j 0)) g (dy (x (j 0)) g (t (j 0))) (j 1) : EReal)
/-- The gradient in the norm's weight. -/
def dgVal : FVec Ideal S1x1024 .f32 := fun j => ((∑ r, dy (x r) g (t r) (j 1) * (x r (j 1) * inv (x r)) : ℝ) : EReal)
/-- The loss. -/
def lossVal : FVec Ideal S1x1 .f32 := fun _ => ((1 / 2 * ∑ r, (∑ k, err (x r) g (t r) k * err (x r) g (t r) k) / 1024 : ℝ) : EReal)

include hx hg ht

theorem dx_point (p : Fin cfg0.N) (y : S512x1024.Idx) :
    k0_pay1 (F := Ideal) (k0_pay10 (iblk m c 0 p)) (k0_pay11 (iblk m c 0 p)) (k0_pay12 (iblk m c 0 p) (iblk m c 1 p) (iblk m c 2 p)) y
      = dxVal x t g (((cfg0.win 4).blk p).view.emb y) := by
  idx_vars y
  have e : ((cfg0.win 4).blk p).view.emb (ix2 y0 y1 : S512x1024.Idx)
      = (ix2 ⟨p.val * 512 + y0.val, row_lt p y0⟩ y1 : S8192x1024.Idx) := by blk_ext [idx p]
  rw [e]
  exact dx_tile _ _ _ _ _ g (blk0 m c x hx p) (blk2 m c t ht p) (blk1 m c g hg p) y0 y1

omit hx hg ht in
theorem first (p : Fin cfg0.N) (h : p.val % 16 = 0) : ¬ 1 ≤ p.val := by
  have := lt_of_lt_of_eq p.isLt N_0
  omega
omit hx hg ht in
theorem later (p : Fin cfg0.N) (h : ¬ p.val % 16 = 0) : 1 ≤ p.val := by
  omega

theorem final_dx : (dats m 0 c).arrAt 4 (cfgs 0).N = dxVal x t g := by
  refine (dats m 0 c).arrAt_eq_of_covers 4 _ (by decide +kernel) fun p _ y => ?_
  blk_simp
  rw [after0_4]
  by_cases h : p.val % 16 = 0
  · rw [outsAt0_A m c p h (first p h)]
    frame_out
    exact dx_point m c x t g hx hg ht p y
  · rw [outsAt0_B m c p h (later p h)]
    frame_out
    exact dx_point m c x t g hx hg ht p y

theorem final_dg : (dats m 0 c).arrAt 5 (cfgs 0).N = dgVal x t g := by
  refine (dats m 0 c).arrAt_eq_of_after_last 5 t0_15 (by decide +kernel) _ fun j => ?_
  blk_simp
  rw [after0_5, Pipeline.eq_sum_fin_of_reset_step_apply_last (fun n h => (outsAt0 m c n h).2.2) 16 (fun _ => 0) (fun p j =>
    (k0_pay2 (F := Ideal) (k0_pay9 (iblk m c 0 p) (iblk m c 1 p) (iblk m c 2 p)) (k0_pay11 (iblk m c 0 p)) j : EReal))
    (fun p h j => by rw [outsAt0_A m c p h (first p h)]; frame_out; rw [zero_add])
    (fun p h j => by rw [outsAt0_B m c p h (later p h)]; frame_out; pointwise [k0_pay4])
    (le_of_eq N_0) t0_15 rfl j, zero_add]
  change (_ : EReal) = dgVal x t g j
  have e : ∀ p : Fin cfg0.N, k0_pay2 (F := Ideal) (k0_pay9 (iblk m c 0 p) (iblk m c 1 p) (iblk m c 2 p)) (k0_pay11 (iblk m c 0 p)) j
      = ((∑ i : Fin 512, (fun r => dy (x r) g (t r) (j 1) * (x r (j 1) * inv (x r))) ⟨p.val * 512 + i.val, row_lt p i⟩ : ℝ) : EReal) := by
    intro p
    have := dg_tile _ _ _ _ _ g (blk0 m c x hx p) (blk2 m c t ht p) (blk1 m c g hg p) (j 1)
    rw [← this]
    blk_ext
  simp only [e, ← coe_sum]
  rw [dgVal]
  congr 1
  exact Fin.sum_mul_add_congr (fun _ _ _ => rfl)

theorem final_loss : (dats m 0 c).arrAt 3 (cfgs 0).N = lossVal x t g := by
  refine (dats m 0 c).arrAt_eq_of_after_last 3 t0_15 (by decide +kernel) _ fun j => ?_
  blk_simp
  rw [after0_3, Pipeline.eq_sum_fin_of_reset_step_apply_last (fun n h => (outsAt0 m c n h).1) 16 (fun _ => 0) (fun p j =>
    (k0_pay8 (F := Ideal) (iblk m c 0 p) (iblk m c 1 p) (iblk m c 2 p) j : EReal))
    (fun p h j => by rw [outsAt0_A m c p h (first p h)]; frame_out; rw [zero_add])
    (fun p h j => by rw [outsAt0_B m c p h (later p h)]; frame_out; pointwise [k0_pay3])
    (le_of_eq N_0) t0_15 rfl j, zero_add]
  change (_ : EReal) = lossVal x t g j
  have e : ∀ p : Fin cfg0.N, k0_pay8 (F := Ideal) (iblk m c 0 p) (iblk m c 1 p) (iblk m c 2 p) j
      = ((1 / 2 * ∑ i : Fin 512, (fun r => (∑ k, err (x r) g (t r) k * err (x r) g (t r) k) / 1024) ⟨p.val * 512 + i.val, row_lt p i⟩ : ℝ) : EReal) := by
    intro p
    have := loss_tile _ _ _ _ _ g (blk0 m c x hx p) (blk2 m c t ht p) (blk1 m c g hg p)
    rw [← this]
    blk_ext
  simp only [e, ← coe_sum]
  rw [lossVal, ← Finset.mul_sum]
  congr 2
  exact Fin.sum_mul_add_congr (fun _ _ _ => rfl)

end Cert.KernelIdeal.Value
end
-- ==== Proof.LossRef.lean ====
module
public import proofs.«01_k».proof.Proof.Gen.ReferenceIdeal.Read
public import proofs.«01_k».proof.Proof.LossValue
@[expose] public section
set_option maxRecDepth 16384
noncomputable section

/-! The three results of the loss reference on real arguments. -/
namespace Cert.ReferenceIdeal.Read
open Cert.ReferenceIdeal Cert.ReferenceIdeal.Gen Cert.Norm Idealize.ShloMosaic Idealize.ShloMosaic.TcCoe Idealize.SL.Sem
open Cert.KernelIdeal.Value (err dy dxVal dgVal lossVal)

variable (x0 x2 : FVec Ideal S1x8192x1024 .f32) (x1 : FVec Ideal S1024 .f32) (x t : Fin 8192 → Fin 1024 → ℝ) (g : Fin 1024 → ℝ)
  (hx : ∀ r k, x0 (ix3 0 r k) = (x r k : EReal)) (hg : ∀ k, x1 (ix1 k) = (g k : EReal))
  (ht : ∀ r k, x2 (ix3 0 r k) = (t r k : EReal))

include hx
theorem v0_at (r : Fin 8192) (k : Fin 1024) : val_main_v0 (F := Ideal) x0 (ix2 r k) = (x r k : EReal) := by
  pointwise [val_main_v0]; rw [hx]
theorem v8_at (r : Fin 8192) : val_main_v8 (F := Ideal) x0 (ix2 r 0) = (ms (x r) : EReal) := by
  pointwise [val_main_v8, val_main_v7, val_main_v6, val_main_v5, val_main_v4, val_main_v3, val_main_v2, val_main_cst, val_main_cst_0,
    val_main_cst_1, v0_at x0 x hx]
  simp only [zero_add, ofBits_lanes, ofBits_eps, ← EReal.coe_mul, ← coe_sum, div_lanes, ← EReal.coe_add]; rfl
theorem v9_at (r : Fin 8192) : val_main_v9 (F := Ideal) x0 (ix2 r 0) = (inv (x r) : EReal) := by
  pointwise [val_main_v9]; rw [v8_at x0 x hx, rsqrt_ms]
theorem v12_at (r : Fin 8192) (c : Fin 1) : val_main_v12 (F := Ideal) x0 (ix2 r c) = ((-1 / 2 * (inv (x r) / ms (x r)) : ℝ) : EReal) := by
  obtain rfl : c = 0 := Subsingleton.elim _ _
  pointwise [val_main_v12, val_main_v11, val_main_v10, val_main_cst_2]
  rw [v8_at x0 x hx, v9_at x0 x hx, ofBits_neg_half, Ideal.div_coe (ms_pos _).ne', ← EReal.coe_mul, ← EReal.coe_mul]
  congr 2; ring
theorem v14_at (r : Fin 8192) (k : Fin 1024) : val_main_v14 (F := Ideal) x0 (ix2 r k) = ((x r k * inv (x r) : ℝ) : EReal) := by
  pointwise [val_main_v14, val_main_v13]; rw [v0_at x0 x hx, v9_at x0 x hx, EReal.coe_mul]
include hg ht
theorem v18_at (r : Fin 8192) (k : Fin 1024) : val_main_v18 (F := Ideal) x0 x1 x2 (ix2 r k) = (err (x r) g (t r) k : EReal) := by
  pointwise [val_main_v18, val_main_v17, val_main_v16, val_main_v15, val_main_v1]
  rw [v14_at x0 x hx, hg, ht, ← EReal.coe_mul, ← EReal.coe_sub]; rfl
theorem v32_at (r : Fin 8192) (k : Fin 1024) : val_main_v32 (F := Ideal) x0 x1 x2 (ix2 r k) = (dy (x r) g (t r) k : EReal) := by
  pointwise [val_main_v32, val_main_v31, val_main_v30, val_main_v29, val_main_v28, val_main_v27, val_main_v21, val_main_v20,
    val_main_cst_8, val_main_cst_9, val_main_cst_10, val_main_cst_3]
  rw [v18_at x0 x2 x1 x t g hx hg ht, ofBits_half, ofBits_two, ofBits_lanes]
  simp only [mul_one, div_lanes, ← EReal.coe_mul]
  congr 1; rw [dy]; ring
theorem v37_at (r : Fin 8192) (k : Fin 1024) : val_main_v37 (F := Ideal) x0 x1 x2 (ix2 r k) = ((dy (x r) g (t r) k * g k : ℝ) : EReal) := by
  pointwise [val_main_v37, val_main_v36, val_main_v15]
  rw [v32_at x0 x2 x1 x t g hx hg ht, hg, EReal.coe_mul]
theorem v48_at (r : Fin 8192) (k : Fin 1024) : val_main_v48 (F := Ideal) x0 x1 x2 (ix2 r k)
    = (((∑ k, x r k * (dy (x r) g (t r) k * g k)) * (-1 / 2 * (inv (x r) / ms (x r))) / 1024 : ℝ) : EReal) := by
  pointwise [val_main_v48, val_main_v47, val_main_v46, val_main_v45, val_main_v44, val_main_v41, val_main_v40, val_main_v39,
    val_main_cst_15, val_main_cst_14, val_main_cst_13]
  simp only [v12_at x0 x hx, v0_at x0 x hx, v37_at x0 x2 x1 x t g hx hg ht, ofBits_lanes, zero_add, ← EReal.coe_mul, ← coe_sum, div_lanes,
    Fin.sum_univ_one]

theorem out_dx : val_main_v52 (F := Ideal) x0 x1 x2 = dxVal x t g := by
  funext j
  idx_vars j
  pointwise [val_main_v52, val_main_v51, val_main_v50, val_main_v49, val_main_v43, val_main_v42]
  rw [v37_at x0 x2 x1 x t g hx hg ht, v9_at x0 x hx, v0_at x0 x hx, v48_at x0 x2 x1 x t g hx hg ht]
  simp only [← EReal.coe_mul, ← EReal.coe_add]
  rw [vjp_eq_bwd (x j0) g (dy (x j0) g (t j0)) j1 _ rfl]
  rfl

theorem out_dg : val_main_v54 (F := Ideal) x0 x1 x2 = dgVal x t g := by
  funext j
  idx_vars j
  pointwise [val_main_v54, val_main_v38, val_main_v35, val_main_v34, val_main_v33, val_main_cst_11, val_main_cst_12]
  simp only [v14_at x0 x hx, v32_at x0 x2 x1 x t g hx hg ht, zero_add, ← EReal.coe_mul, ← coe_sum, Fin.sum_univ_one]
  rw [dgVal]
  congr 1
  exact Finset.sum_congr rfl fun r _ => mul_comm _ _

theorem out_loss : val_main_v53 (F := Ideal) x0 x1 x2 = lossVal x t g := by
  funext j
  idx_vars j
  pointwise [val_main_v53, val_main_v26, val_main_v25, val_main_v24, val_main_v23, val_main_v22, val_main_v19,
    val_main_cst_4, val_main_cst_5, val_main_cst_6, val_main_cst_7]
  simp only [v18_at x0 x2 x1 x t g hx hg ht, zero_add, ofBits_half, ofBits_lanes, ← EReal.coe_mul, ← coe_sum, div_lanes]
  rw [lossVal]

end Cert.ReferenceIdeal.Read
end
-- ==== Proof.Finite.lean ====
module
public import proofs.«01_k».proof.Proof.Norm
public import Idealize.ShloMosaic.Lib.ReduceAll
@[expose] public section
noncomputable section

/-! Reading a precondition of finiteness at one index. -/
namespace Cert.Norm
open Idealize.ShloMosaic Idealize.ShloMosaic.TcCoe Idealize.SL.Sem

theorem ofBits_inf : Ideal.ofBits .f32 2139095040#32 = ⊤ := by
  simp [Ideal.ofBits, Ideal.ieee]

/-- A conjunction of two bits is one when both are. -/
theorem both (a b : BitVec 1) (h : IntOp.andi a b = 1#1) : a = 1#1 ∧ b = 1#1 := by
  revert a b; decide

/-- A number whose comparison with infinity came out one is a real. -/
theorem real_of_bit (a : EReal)
    (h : BitVec.ofBool (decide (FloatOps.absf (F := Ideal) (φ := .f32) a < Ideal.ofBits .f32 2139095040#32)) = 1#1) : ∃ r : ℝ, a = r := by
  refine real_of_abs_lt a ?_
  rw [ofBits_inf] at h
  by_contra hn
  have : decide (FloatOps.absf (F := Ideal) (φ := .f32) a < (⊤ : EReal)) = false := decide_eq_false hn
  rw [this] at h
  exact absurd h (by decide)

/-- An array whose comparison with infinity came out one everywhere holds reals. -/
theorem all_real {s t u : Shape} {axes : List (Fin s.rank)} [Subsingleton t.Idx] (a b : FVec Ideal s .f32) (o : u.Idx → BitVec 1)
    (h : s.ReducesTo axes t) (hu : 0 < u.numel) (j : t.Idx) (hb : ∀ i, b i = Ideal.ofBits .f32 2139095040#32)
    (e : Host.reduce IntOp.andi (cmpf .olt (Host.absf a) b) o h hu j = 1#1) (i : s.Idx) : ∃ r : ℝ, a i = r := by
  have f := Host.reduce_andi_all _ o h hu j e i
  refine real_of_bit _ ?_
  rw [← hb i]
  exact f

end Cert.Norm
end
-- ==== Proof.LossClaim.lean ====
module
public import proofs.«01_k».proof.Defs
public import proofs.«01_k».proof.Proof.Gen.KernelIdeal.Value
public import proofs.«01_k».proof.Proof.Gen.Pre_finite
public import proofs.«01_k».proof.Proof.LossRef
public import proofs.«01_k».proof.Proof.Finite
public import Idealize.ShloMosaic.Lib.Claim
@[expose] public section
set_option maxRecDepth 16384
noncomputable section

/-! The loss kernel against its reference: the finiteness the claim supposes gives the arguments as reals, and on reals both
    programs end with the same three arrays. -/
namespace Cert.Loss
open Idealize.ShloMosaic Idealize.ShloMosaic.TcCoe Idealize.SL.Sem Cert.Norm
open Cert.KernelIdeal (S1x8192x1024 S1024)

theorem finite_at (a b : FVec Ideal S1x8192x1024 .f32) (w : FVec Ideal S1024 .f32)
    (h : Cert.Pre_finite.fn (F := Ideal) a w b = fun _ => 1#1) :
    (∃ x : Fin 8192 → Fin 1024 → ℝ, ∀ r k, a (ix3 0 r k) = (x r k : EReal)) ∧ (∃ g : Fin 1024 → ℝ, ∀ k, w (ix1 k) = (g k : EReal))
      ∧ (∃ t : Fin 8192 → Fin 1024 → ℝ, ∀ r k, b (ix3 0 r k) = (t r k : EReal)) := by
  have key : ∀ r k, (∃ u : ℝ, a (ix3 0 r k) = u) ∧ (∃ u : ℝ, w (ix1 k) = u) ∧ (∃ u : ℝ, b (ix3 0 r k) = u) := by
    intro r k
    have e := congrFun h (ix3 0 r k)
    revert e
    pointwise [Cert.Pre_finite.fn]
    intro e
    obtain ⟨e, hb⟩ := both _ _ e
    obtain ⟨ha, hw⟩ := both _ _ e
    exact ⟨real_of_bit _ ha, real_of_bit _ hw, real_of_bit _ hb⟩
  refine ⟨⟨fun r k => (key r k).1.choose, fun r k => (key r k).1.choose_spec⟩,
    ⟨fun k => (key 0 k).2.1.choose, fun k => (key 0 k).2.1.choose_spec⟩,
    ⟨fun r k => (key r k).2.2.choose, fun r k => (key r k).2.2.choose_spec⟩⟩

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem algebraic : Cert.algebraic_KernelIdeal_ReferenceIdeal_pre_finite := by
  pair_intro
  · run_from Cert.KernelIdeal.Gen.run_main m g
  · run_from Cert.ReferenceIdeal.Value.run m' g'
    all_goals (obtain ⟨⟨x, hx⟩, ⟨w, hw⟩, t, ht⟩ := finite_at _ _ _ (hpre c))
    · rw [Cert.KernelIdeal.Value.final_loss m c x t w hx hw ht]
      exact (Cert.ReferenceIdeal.Read.val_main_v53_eq _ _ _).trans (Cert.ReferenceIdeal.Read.out_loss _ _ _ x t w hx hw ht)
    · rw [Cert.KernelIdeal.Value.final_dx m c x t w hx hw ht, Cert.ReferenceIdeal.Read.val_main_v52_eq]
      rw [(hagree c).1, (hagree c).2.1, (hagree c).2.2]
      exact Cert.ReferenceIdeal.Read.out_dx _ _ _ x t w hx hw ht
    · rw [Cert.KernelIdeal.Value.final_dg m c x t w hx hw ht]
      exact (Cert.ReferenceIdeal.Read.val_main_v54_eq _ _ _).trans (Cert.ReferenceIdeal.Read.out_dg _ _ _ x t w hx hw ht)

end Cert.Loss
end
-- ==== Proof.SbFwdLoop.lean ====
/- The outer loop of the stick-breaking forward kernel: one trip per block of 256 query rows.  Each trip writes one
   block of the output and one block of the row totals; the inner loop's own invariant gives what they hold. -/
module

public import proofs.«01_k».proof.Proof.Gen.SbIdeal.Loops
public import proofs.«01_k».proof.Proof.Gen.SbIdeal.Points
public import Idealize.ShloMosaic.Lib.Pipeline.FrameBody
public import Idealize.ShloMosaic.Lib.Tactic

@[expose] public section

set_option maxRecDepth 16384

noncomputable section

namespace Cert.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SbIdeal Cert.SbIdeal.Gen

variable {F : FTy → Type} [FloatOps F]

local notation "𝕄" => MT nD τ sig Unit (Elt F) ℕ (UR sig nD τ) ℕ

/-! ## What the inner loop carries, as a function of the input blocks -/

/-- The block of query rows that trip `i` of the outer loop reads. -/
def fwdQ (x1 : Vec F S1x32x256x64 .bf16) (i : Fin k0_t1_loop.trips) : Vec F S1x1x256x64 .bf16 :=
  View.ld x1 (Rect.unit (s := S1x32x256x64) (k0_off1 i) S1x1x256x64.size (k0_off1_inb i))

/-- The block of keys or values that trip `j` of the inner loop reads. -/
def fwdK (x : Vec F S1x32x64x256 .bf16) (i : Fin k0_t1_loop.trips) (j : Fin (k0_t2_loop i).trips) :
    Vec F S1x1x64x256 .bf16 :=
  View.ld x (Rect.unit (s := S1x32x64x256) (k0_off2 i j) S1x1x64x256.size (k0_off2_inb i j))

/-- One trip of the inner loop on the carried pair: the running row totals and the running output block. -/
def fwdStep (x1 : Vec F S1x32x256x64 .bf16) (x2 x3 : Vec F S1x32x64x256 .bf16) (i : Fin k0_t1_loop.trips)
    (j : Fin (k0_t2_loop i).trips) (a : FVec F S256x1 .f32 × FVec F S64x256 .f32) :
    FVec F S256x1 .f32 × FVec F S64x256 .f32 :=
  (k0_pay6 a.1 (k0_pay13 k0_pay2 i (Scf.iv 0#32 1#32 i) (k0_pay3 (fwdQ x1 i)) 0#32 1#32 j (fwdK x2 i j)),
   k0_pay14 k0_pay1 k0_pay2 i (Scf.iv 0#32 1#32 i) (k0_pay3 (fwdQ x1 i)) 0#32 1#32 j a.1 a.2 (fwdK x2 i j) (fwdK x3 i j))

/-- The carried pair before trip `k` of the inner loop. -/
def fwdSt (x1 : Vec F S1x32x256x64 .bf16) (x2 x3 : Vec F S1x32x64x256 .bf16) (i : Fin k0_t1_loop.trips) :
    ℕ → FVec F S256x1 .f32 × FVec F S64x256 .f32
  | 0 => (k0_pay4, k0_pay5)
  | k + 1 => if h : k < (k0_t2_loop i).trips then fwdStep x1 x2 x3 i ⟨k, h⟩ (fwdSt x1 x2 x3 i k) else fwdSt x1 x2 x3 i k

/-- The remainder loop makes no trip. -/
theorem t3_trips (i : Fin k0_t1_loop.trips) : (k0_t3_loop i).trips = 0 := by
  revert i; decide +kernel

section
variable (𝒱 : Variants) (c : Dev nD) (bd : Option 𝒱.V) (i : grid0.Coords)
  (arg1 : Memref sig .tc .vmem S1x32x256x64 .bf16) (harg1 : arg1.IsWhole)
  (arg2 : Memref sig .tc .vmem S1x32x64x256 .bf16) (harg2 : arg2.IsWhole)
  (arg3 : Memref sig .tc .vmem S1x32x64x256 .bf16) (harg3 : arg3.IsWhole)
  (arg4 : Memref sig .tc .vmem S1x32x64x256 .f32) (harg4 : arg4.IsWhole)
  (arg5 : Memref sig .tc .vmem S1x32x256x1 .f32) (harg5 : arg5.IsWhole)
  (X1 : BufTy.Contents (Elt F) arg1.view.ty) (X2 : BufTy.Contents (Elt F) arg2.view.ty)
  (X3 : BufTy.Contents (Elt F) arg3.view.ty)

/-- What one trip of the inner loop yields. -/
theorem fwd_yield (k : Fin k0_t1_loop.trips) (j : Fin (k0_t2_loop k).trips) (a : FVec F S256x1 .f32 × FVec F S64x256 .f32) :
    (trip_k0_t2 (F := F) 𝒱 c bd i arg1 harg1 arg2 harg2 arg3 harg3 arg4 harg4 arg5 harg5 k (Scf.iv 0#32 1#32 k)
      (fwdQ (arg1.view.read (Elt F) X1) k) X2 X3 j).1 a
      = fwdStep (arg1.view.read (Elt F) X1) (arg2.view.read (Elt F) X2) (arg3.view.read (Elt F) X3) k j a := by
  unfold trip_k0_t2
  rfl

/-- The inner loop's carried value is `fwdSt`. -/
theorem fwd_st (k : Fin k0_t1_loop.trips) : ∀ n : ℕ, n ≤ (k0_t2_loop k).trips →
    st_k0_t2 (F := F) 𝒱 c bd i arg1 harg1 arg2 harg2 arg3 harg3 arg4 harg4 arg5 harg5 k (Scf.iv 0#32 1#32 k)
      (fwdQ (arg1.view.read (Elt F) X1) k) X2 X3 (k0_pay4, k0_pay5) n
      = fwdSt (arg1.view.read (Elt F) X1) (arg2.view.read (Elt F) X2) (arg3.view.read (Elt F) X3) k n
  | 0, _ => rfl
  | n + 1, h => by
    have e := st_k0_t2_succ (F := F) 𝒱 c bd i arg1 harg1 arg2 harg2 arg3 harg3 arg4 harg4 arg5 harg5 k (Scf.iv 0#32 1#32 k)
      (fwdQ (arg1.view.read (Elt F) X1) k) X2 X3 (k0_pay4, k0_pay5) ⟨n, h⟩
    dsimp only at e
    rw [e, fwd_st k n (by omega)]
    refine (fwd_yield 𝒱 c bd i arg1 harg1 arg2 harg2 arg3 harg3 arg4 harg4 arg5 harg5 X1 X2 X3 k ⟨n, h⟩ _).trans ?_
    rw [fwdSt, dif_pos (show n < (k0_t2_loop k).trips from h)]

end

/-! ## The outer loop -/

/-- What one trip of the outer loop touches: three inputs read, two outputs written. -/
abbrev FwdTrip (c : Dev nD) (arg1 : Memref sig .tc .vmem S1x32x256x64 .bf16) (arg2 arg3 : Memref sig .tc .vmem S1x32x64x256 .bf16)
    (arg4 : Memref sig .tc .vmem S1x32x64x256 .f32) (arg5 : Memref sig .tc .vmem S1x32x256x1 .f32)
    (X1 : BufTy.Contents (Elt F) arg1.view.ty) (X2 : BufTy.Contents (Elt F) arg2.view.ty) (X3 : BufTy.Contents (Elt F) arg3.view.ty)
    (f4 : BufTy.Contents (Elt F) arg4.view.ty) (f5 : BufTy.Contents (Elt F) arg5.view.ty) : sProp 𝕄 :=
  iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} f4)
    ∗ (arg5.view.loc (c : Thread nD τ) ↦[arg5.view.set]{fullShare} f5))

/-- The block of the output that trip `k` writes, -/
def fwdPiece4 (x1 : Vec F S1x32x256x64 .bf16) (x2 x3 : Vec F S1x32x64x256 .bf16) (k : Fin k0_t1_loop.trips) :
    View.Piece (Elt F) S1x32x64x256 .f32 :=
  ⟨Rect.unit (s := S1x32x64x256) (k0_off4 k) S1x1x64x256.size (k0_off4_inb k), k0_pay8 (fwdSt x1 x2 x3 k (k0_t2_loop k).trips).2⟩

/-- and the block of the row totals. -/
def fwdPiece5 (x1 : Vec F S1x32x256x64 .bf16) (x2 x3 : Vec F S1x32x64x256 .bf16) (k : Fin k0_t1_loop.trips) :
    View.Piece (Elt F) S1x32x256x1 .f32 :=
  ⟨Rect.unit (s := S1x32x256x1) (k0_off5 k) S1x1x256x1.size (k0_off5_inb k), k0_pay9 (fwdSt x1 x2 x3 k (k0_t2_loop k).trips).1⟩

section
variable (𝒱 : Variants) (c : Dev nD) (bd : Option 𝒱.V) (i : grid0.Coords)
  (arg1 : Memref sig .tc .vmem S1x32x256x64 .bf16) (harg1 : arg1.IsWhole)
  (arg2 : Memref sig .tc .vmem S1x32x64x256 .bf16) (harg2 : arg2.IsWhole)
  (arg3 : Memref sig .tc .vmem S1x32x64x256 .bf16) (harg3 : arg3.IsWhole)
  (arg4 : Memref sig .tc .vmem S1x32x64x256 .f32) (harg4 : arg4.IsWhole)
  (arg5 : Memref sig .tc .vmem S1x32x256x1 .f32) (harg5 : arg5.IsWhole)
  (X1 : BufTy.Contents (Elt F) arg1.view.ty) (X2 : BufTy.Contents (Elt F) arg2.view.ty)
  (X3 : BufTy.Contents (Elt F) arg3.view.ty)

/-- One trip of the outer loop at a symbolic `k`: the pieces it writes are what the run finds. -/
@[irreducible] def fwdRun (k : Fin k0_t1_loop.trips) :
    Σ' (L4 : List (View.Piece (Elt F) S1x32x64x256 .f32)),
    { L5 : List (View.Piece (Elt F) S1x32x256x1 .f32) // ∀ (E : Set ℕ) (f4 : BufTy.Contents (Elt F) arg4.view.ty)
      (f5 : BufTy.Contents (Elt F) arg5.view.ty),
      FwdTrip (F := F) c arg1 arg2 arg3 arg4 arg5 X1 X2 X3 f4 f5
      ⊢ wp frame (wpE (defs₀ (F := F)) 𝒱 (c : Thread nD τ) bd) E
        (k0_t1_body (F := F) i arg1 harg1 arg2 harg2 arg3 harg3 arg4 harg4 arg5 harg5 k ())
        (fun _ => FwdTrip (F := F) c arg1 arg2 arg3 arg4 arg5 X1 X2 X3 (arg4.view.writes (Elt F) f4 L4) (arg5.view.writes (Elt F) f5 L5)) } := by
  refine ⟨?_, ?_, fun E f4 f5 => ?run⟩
  case run =>
    unfold k0_t1_body
    iintro ⟨H1, H2, H3, H4, H5⟩
    sl_exec
    sl_step
    sl_close

/-- After both loops the carried pair is `fwdSt` after the last trip: the remainder loop makes none. -/
theorem fwd_last (k : Fin k0_t1_loop.trips) (w : BitVec 32) :
    st_k0_t3 (F := F) 𝒱 c bd i arg1 harg1 arg2 harg2 arg3 harg3 arg4 harg4 arg5 harg5 k (Scf.iv 0#32 1#32 k)
      (fwdQ (arg1.view.read (Elt F) X1) k) w X2 X3
      (st_k0_t2 (F := F) 𝒱 c bd i arg1 harg1 arg2 harg2 arg3 harg3 arg4 harg4 arg5 harg5 k (Scf.iv 0#32 1#32 k)
        (fwdQ (arg1.view.read (Elt F) X1) k) X2 X3 (k0_pay4, k0_pay5) (k0_t2_loop k).trips) (k0_t3_loop k).trips
      = fwdSt (arg1.view.read (Elt F) X1) (arg2.view.read (Elt F) X2) (arg3.view.read (Elt F) X3) k (k0_t2_loop k).trips := by
  rw [t3_trips k, st_k0_t3_zero, fwd_st _ _ _ _ _ _ _ _ _ _ _ _ _ _ _ _ _ k _ (le_refl _)]

theorem fwd_pieces4 (k : Fin k0_t1_loop.trips) :
    (fwdRun (F := F) 𝒱 c bd i arg1 harg1 arg2 harg2 arg3 harg3 arg4 harg4 arg5 harg5 X1 X2 X3 k).1
      = [fwdPiece4 (arg1.view.read (Elt F) X1) (arg2.view.read (Elt F) X2) (arg3.view.read (Elt F) X3) k] := by
  unfold fwdPiece4
  rw [← fwd_last 𝒱 c bd i arg1 harg1 arg2 harg2 arg3 harg3 arg4 harg4 arg5 harg5 X1 X2 X3 k]
  unfold fwdRun
  rfl

theorem fwd_pieces5 (k : Fin k0_t1_loop.trips) :
    (fwdRun (F := F) 𝒱 c bd i arg1 harg1 arg2 harg2 arg3 harg3 arg4 harg4 arg5 harg5 X1 X2 X3 k).2.1
      = [fwdPiece5 (arg1.view.read (Elt F) X1) (arg2.view.read (Elt F) X2) (arg3.view.read (Elt F) X3) k] := by
  unfold fwdPiece5
  rw [← fwd_last 𝒱 c bd i arg1 harg1 arg2 harg2 arg3 harg3 arg4 harg4 arg5 harg5 X1 X2 X3 k]
  unfold fwdRun
  rfl

/-- One trip with its pieces named. -/
theorem fwd_trip (k : Fin k0_t1_loop.trips) (E : Set ℕ) (f4 : BufTy.Contents (Elt F) arg4.view.ty)
    (f5 : BufTy.Contents (Elt F) arg5.view.ty) :
    FwdTrip (F := F) c arg1 arg2 arg3 arg4 arg5 X1 X2 X3 f4 f5
    ⊢ wp frame (wpE (defs₀ (F := F)) 𝒱 (c : Thread nD τ) bd) E
        (k0_t1_body (F := F) i arg1 harg1 arg2 harg2 arg3 harg3 arg4 harg4 arg5 harg5 k ())
        (fun _ => FwdTrip (F := F) c arg1 arg2 arg3 arg4 arg5 X1 X2 X3
          (arg4.view.writes (Elt F) f4 [fwdPiece4 (arg1.view.read (Elt F) X1) (arg2.view.read (Elt F) X2) (arg3.view.read (Elt F) X3) k])
          (arg5.view.writes (Elt F) f5 [fwdPiece5 (arg1.view.read (Elt F) X1) (arg2.view.read (Elt F) X2) (arg3.view.read (Elt F) X3) k])) := by
  rw [← fwd_pieces4 𝒱 c bd i arg1 harg1 arg2 harg2 arg3 harg3 arg4 harg4 arg5 harg5 X1 X2 X3 k,
    ← fwd_pieces5 𝒱 c bd i arg1 harg1 arg2 harg2 arg3 harg3 arg4 harg4 arg5 harg5 X1 X2 X3 k]
  exact (fwdRun (F := F) 𝒱 c bd i arg1 harg1 arg2 harg2 arg3 harg3 arg4 harg4 arg5 harg5 X1 X2 X3 k).2.2 E f4 f5

end

/-- The pieces of the trips before `n`, the last one first. -/
def fwdPieces4 (x1 : Vec F S1x32x256x64 .bf16) (x2 x3 : Vec F S1x32x64x256 .bf16) : ℕ → List (View.Piece (Elt F) S1x32x64x256 .f32)
  | 0 => []
  | n + 1 => if h : n < k0_t1_loop.trips then fwdPiece4 x1 x2 x3 ⟨n, h⟩ :: fwdPieces4 x1 x2 x3 n else fwdPieces4 x1 x2 x3 n

def fwdPieces5 (x1 : Vec F S1x32x256x64 .bf16) (x2 x3 : Vec F S1x32x64x256 .bf16) : ℕ → List (View.Piece (Elt F) S1x32x256x1 .f32)
  | 0 => []
  | n + 1 => if h : n < k0_t1_loop.trips then fwdPiece5 x1 x2 x3 ⟨n, h⟩ :: fwdPieces5 x1 x2 x3 n else fwdPieces5 x1 x2 x3 n

theorem fwdPieces4_succ (x1 : Vec F S1x32x256x64 .bf16) (x2 x3 : Vec F S1x32x64x256 .bf16) (k : Fin k0_t1_loop.trips) :
    fwdPieces4 x1 x2 x3 (k.val + 1) = fwdPiece4 x1 x2 x3 k :: fwdPieces4 x1 x2 x3 k.val := by
  rw [fwdPieces4, dif_pos k.isLt]

theorem fwdPieces5_succ (x1 : Vec F S1x32x256x64 .bf16) (x2 x3 : Vec F S1x32x64x256 .bf16) (k : Fin k0_t1_loop.trips) :
    fwdPieces5 x1 x2 x3 (k.val + 1) = fwdPiece5 x1 x2 x3 k :: fwdPieces5 x1 x2 x3 k.val := by
  rw [fwdPieces5, dif_pos k.isLt]

set_option warn.classDefReducibility false in
/-- The outer loop by its invariant: before trip `k` each output holds the pieces of the trips before it. -/
@[sl_loop] def fwdLoop (𝒱 : Variants) (c : Dev nD) (bd : Option 𝒱.V) (E : Set ℕ) (i : grid0.Coords)
    (arg1 : Memref sig .tc .vmem S1x32x256x64 .bf16) (harg1 : arg1.IsWhole)
    (arg2 : Memref sig .tc .vmem S1x32x64x256 .bf16) (harg2 : arg2.IsWhole)
    (arg3 : Memref sig .tc .vmem S1x32x64x256 .bf16) (harg3 : arg3.IsWhole)
    (arg4 : Memref sig .tc .vmem S1x32x64x256 .f32) (harg4 : arg4.IsWhole)
    (arg5 : Memref sig .tc .vmem S1x32x256x1 .f32) (harg5 : arg5.IsWhole)
    (X1 : BufTy.Contents (Elt F) arg1.view.ty) (X2 : BufTy.Contents (Elt F) arg2.view.ty)
    (X3 : BufTy.Contents (Elt F) arg3.view.ty) (G4 : BufTy.Contents (Elt F) arg4.view.ty)
    (G5 : BufTy.Contents (Elt F) arg5.view.ty) :
    LoopInvTy_k0_t1 (F := F) Unit ℕ (UR sig nD τ) ℕ 𝒱 c bd E i arg1 harg1 arg2 harg2 arg3 harg3 arg4 harg4 arg5 harg5 where
  inv k _ := iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (∃ f, (arg4.view.loc (c : Thread nD τ) ↦[arg4.view.set]{fullShare} f) ∗ ⌜f = arg4.view.writes (Elt F) G4
        (fwdPieces4 (arg1.view.read (Elt F) X1) (arg2.view.read (Elt F) X2) (arg3.view.read (Elt F) X3) k)⌝)
    ∗ (∃ f, (arg5.view.loc (c : Thread nD τ) ↦[arg5.view.set]{fullShare} f) ∗ ⌜f = arg5.view.writes (Elt F) G5
        (fwdPieces5 (arg1.view.read (Elt F) X1) (arg2.view.read (Elt F) X2) (arg3.view.read (Elt F) X3) k)⌝))
  step k acc := by
    iintro ⟨H1, H2, H3, ⟨%f4, H4, %h4⟩, ⟨%f5, H5, %h5⟩⟩
    iapply (wp_wand_r Idealize.ShloMosaic.frame (wpE (defs₀ (F := F)) 𝒱 (c : Thread nD τ) bd) E)
    isplitl [H1 H2 H3 H4 H5]
    · iapply (fwd_trip 𝒱 c bd i arg1 harg1 arg2 harg2 arg3 harg3 arg4 harg4 arg5 harg5 X1 X2 X3 k E f4 f5)
      isplitl [H1]; · iexact H1
      isplitl [H2]; · iexact H2
      isplitl [H3]; · iexact H3
      isplitl [H4]; · iexact H4
      iexact H5
    · iintro %yld ⟨H1, H2, H3, H4, H5⟩
      simp only [fwdPieces4_succ, fwdPieces5_succ]
      isplitl [H1]; · iexact H1
      isplitl [H2]; · iexact H2
      isplitl [H3]; · iexact H3
      isplitl [H4]
      · iexists _
        isplitl [H4]; · iexact H4
        ipureintro
        rw [h4, ← View.writes_append]
        rfl
      iexists _
      isplitl [H5]; · iexact H5
      ipureintro
      rw [h5, ← View.writes_append]
      rfl

end Cert.Stick
-- ==== Proof.SbBwdLoop.lean ====
/- The loops of the stick-breaking backward kernel.  The outer loop runs over blocks of 256 query rows, the inner one
   over the blocks of keys at or before it.  The inner loop carries two running row sums and the block of the query
   gradient, and adds into the whole arrays of the key and value gradients. -/
module

public import proofs.«01_k».proof.Proof.Gen.SbIdeal.Loops
public import proofs.«01_k».proof.Proof.Gen.SbIdeal.Points
public import Idealize.ShloMosaic.Lib.Pipeline.FrameBody
public import Idealize.ShloMosaic.Lib.Tactic
public import Idealize.ShloMosaic.Lib.VecWindow

@[expose] public section

set_option maxRecDepth 16384

noncomputable section

namespace Cert.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SbIdeal Cert.SbIdeal.Gen

variable {F : FTy → Type} [FloatOps F]

local notation "𝕄" => MT nD τ sig Unit (Elt F) ℕ (UR sig nD τ) ℕ

/-- The seven input blocks of one head. -/
structure BwdIn (F : FTy → Type) where
  qn : Vec F S1x32x256x64 .bf16
  qt : Vec F S1x32x64x256 .bf16
  kt : Vec F S1x32x64x256 .bf16
  vt : Vec F S1x32x64x256 .bf16
  don : Vec F S1x32x256x64 .bf16
  dot : Vec F S1x32x64x256 .bf16
  tl : Vec F S1x32x256x1 .f32

/-- What the inner loop carries. -/
abbrev BwdAcc (F : FTy → Type) := FVec F S256x1 .f32 × FVec F S256x1 .f32 × FVec F S64x256 .f32

/-- The carried triple with the two arrays it adds into. -/
abbrev BwdState (F : FTy → Type) := BwdAcc F × Vec F S1x32x64x256 .f32 × Vec F S1x32x64x256 .f32

/-! ## The loads -/

def bwdRows (x : Vec F S1x32x256x64 .bf16) (i : Fin k1_t1_loop.trips) : Vec F S1x1x256x64 .bf16 :=
  View.ld x (Rect.unit (s := S1x32x256x64) (k1_off1 i) S1x1x256x64.size (k1_off1_inb i))

def bwdCols (x : Vec F S1x32x64x256 .bf16) (i : Fin k1_t1_loop.trips) : Vec F S1x1x64x256 .bf16 :=
  View.ld x (Rect.unit (s := S1x32x64x256) (k1_off2 i) S1x1x64x256.size (k1_off2_inb i))

def bwdTot (x : Vec F S1x32x256x1 .f32) (i : Fin k1_t1_loop.trips) : Vec F S1x1x256x1 .f32 :=
  View.ld x (Rect.unit (s := S1x32x256x1) (k1_off3 i) S1x1x256x1.size (k1_off3_inb i))

def bwdKey (x : Vec F S1x32x64x256 .bf16) (i : Fin k1_t1_loop.trips) (j : Fin (k1_t2_loop i).trips) : Vec F S1x1x64x256 .bf16 :=
  View.ld x (Rect.unit (s := S1x32x64x256) (k1_off4 i j) S1x1x64x256.size (k1_off4_inb i j))

def bwdOld (x : Vec F S1x32x64x256 .f32) (i : Fin k1_t1_loop.trips) (j : Fin (k1_t2_loop i).trips) : Vec F S1x1x64x256 .f32 :=
  View.ld x (Rect.unit (s := S1x32x64x256) (k1_off4 i j) S1x1x64x256.size (k1_off4_inb i j))

/-! ## One trip of the inner loop -/

section
variable (x : BwdIn F) (i : Fin k1_t1_loop.trips) (j : Fin (k1_t2_loop i).trips)

/-- Which entries of the block lie strictly below the diagonal. -/
def bwdMask : IVec S256x256 1 := k1_pay19 k1_pay3 i (Scf.iv 0#32 1#32 i) 0#32 1#32 j

/-- The logarithms of what each key leaves over. -/
def bwdLk : FVec F S256x256 .f32 :=
  k1_pay20 k1_pay3 i (Scf.iv 0#32 1#32 i) (k1_pay6 (bwdRows x.qn i)) 0#32 1#32 j (bwdKey x.kt i j)

/-- The weights. -/
def bwdA (pre : FVec F S256x1 .f32) : FVec F S256x256 .f32 :=
  k1_pay22 k1_pay1 k1_pay3 i (Scf.iv 0#32 1#32 i) (k1_pay6 (bwdRows x.qn i)) (k1_pay10 (bwdTot x.tl i)) 0#32 1#32 j pre (bwdKey x.kt i j)

/-- The logistic function of the scores. -/
def bwdSig : FVec F S256x256 .f32 := k1_pay23 (k1_pay6 (bwdRows x.qn i)) (bwdKey x.kt i j)

/-- The weights times their cotangents, -/
def bwdG (pre : FVec F S256x1 .f32) : FVec F S256x256 .f32 :=
  k1_pay24 k1_pay1 k1_pay3 i (Scf.iv 0#32 1#32 i) (k1_pay6 (bwdRows x.qn i)) (k1_pay8 (bwdRows x.don i)) (k1_pay10 (bwdTot x.tl i))
    0#32 1#32 j pre (bwdKey x.kt i j) (bwdKey x.vt i j)

/-- and their narrow part. -/
def bwdGb (pre : FVec F S256x1 .f32) : FVec F S256x256 .bf16 :=
  k1_pay25 k1_pay1 k1_pay3 i (Scf.iv 0#32 1#32 i) (k1_pay6 (bwdRows x.qn i)) (k1_pay8 (bwdRows x.don i)) (k1_pay10 (bwdTot x.tl i))
    0#32 1#32 j pre (bwdKey x.kt i j) (bwdKey x.vt i j)

/-- The carried triple after the trip, -/
def bwdAccStep (a : BwdAcc F) : BwdAcc F :=
  (k1_pay30 a.1 (bwdLk x i j), k1_pay13 a.2.1 (bwdG x i j a.1),
   k1_pay27 k1_pay2 a.2.1 a.2.2 (k1_pay16 (bwdKey x.kt i j)) (bwdMask i j) (bwdSig x i j) (bwdG x i j a.1) (bwdGb x i j a.1))

/-- the new block of the key gradient, -/
def bwdDk (a : BwdAcc F) (old : Vec F S1x1x64x256 .f32) : FVec F S1x1x64x256 .f32 :=
  k1_pay28 k1_pay2 (k1_pay7 (bwdCols x.qt i)) a.2.1 (bwdMask i j) (bwdSig x i j) (bwdG x i j a.1) (bwdGb x i j a.1) old

/-- and the new block of the value gradient. -/
def bwdDv (a : BwdAcc F) (old : Vec F S1x1x64x256 .f32) : FVec F S1x1x64x256 .f32 :=
  k1_pay29 (k1_pay9 (bwdCols x.dot i)) (bwdA x i j a.1) old

/-- One trip on the whole state. -/
def bwdStep (s : BwdState F) : BwdState F :=
  (bwdAccStep x i j s.1,
   VecWindow.put s.2.1 (k1_off4 i j) S1x1x64x256.size (bwdDk x i j s.1 (bwdOld s.2.1 i j)),
   VecWindow.put s.2.2 (k1_off4 i j) S1x1x64x256.size (bwdDv x i j s.1 (bwdOld s.2.2 i j)))

end

/-- The carried triple at the start of the inner loop. -/
def bwdInit : BwdAcc F := (k1_pay11, k1_pay11, k1_pay12)

/-- The state before trip `n` of the inner loop, from the arrays `d` at its start. -/
def bwdSt (x : BwdIn F) (i : Fin k1_t1_loop.trips) (d : Vec F S1x32x64x256 .f32 × Vec F S1x32x64x256 .f32) : ℕ → BwdState F
  | 0 => (bwdInit, d)
  | n + 1 => if h : n < (k1_t2_loop i).trips then bwdStep x i ⟨n, h⟩ (bwdSt x i d n) else bwdSt x i d n

theorem bwdSt_succ (x : BwdIn F) (i : Fin k1_t1_loop.trips) (d : Vec F S1x32x64x256 .f32 × Vec F S1x32x64x256 .f32)
    (n : ℕ) (h : n < (k1_t2_loop i).trips) : bwdSt x i d (n + 1) = bwdStep x i ⟨n, h⟩ (bwdSt x i d n) := by
  rw [bwdSt, dif_pos h]

/-- The two added-into arrays before trip `n` of the outer loop. -/
def bwdAdd (x : BwdIn F) : ℕ → Vec F S1x32x64x256 .f32 × Vec F S1x32x64x256 .f32
  | 0 => (k1_pay4, k1_pay5)
  | n + 1 => if h : n < k1_t1_loop.trips then (bwdSt x ⟨n, h⟩ (bwdAdd x n) (k1_t2_loop ⟨n, h⟩).trips).2 else bwdAdd x n

theorem bwdAdd_succ (x : BwdIn F) (n : ℕ) (h : n < k1_t1_loop.trips) :
    bwdAdd x (n + 1) = (bwdSt x ⟨n, h⟩ (bwdAdd x n) (k1_t2_loop ⟨n, h⟩).trips).2 := by
  rw [bwdAdd, dif_pos h]

/-- The block of the query gradient that trip `i` of the outer loop writes. -/
def bwdPiece8 (x : BwdIn F) (i : Fin k1_t1_loop.trips) : View.Piece (Elt F) S1x32x64x256 .f32 :=
  ⟨Rect.unit (s := S1x32x64x256) (k1_off2 i) S1x1x64x256.size (k1_off2_inb i),
    k1_pay15 (bwdSt x i (bwdAdd x i.val) (k1_t2_loop i).trips).1.2.2⟩

/-- The remainder loop makes no trip. -/
theorem u3_trips (i : Fin k1_t1_loop.trips) : (k1_t3_loop i).trips = 0 := by
  revert i; decide +kernel

section
variable (𝒱 : Variants) (c : Dev nD) (bd : Option 𝒱.V) (i : grid1.Coords)
  (arg1 : Memref sig .tc .vmem S1x32x256x64 .bf16) (harg1 : arg1.IsWhole)
  (arg2 : Memref sig .tc .vmem S1x32x64x256 .bf16) (harg2 : arg2.IsWhole)
  (arg3 : Memref sig .tc .vmem S1x32x64x256 .bf16) (harg3 : arg3.IsWhole)
  (arg4 : Memref sig .tc .vmem S1x32x64x256 .bf16) (harg4 : arg4.IsWhole)
  (arg5 : Memref sig .tc .vmem S1x32x256x64 .bf16) (harg5 : arg5.IsWhole)
  (arg6 : Memref sig .tc .vmem S1x32x64x256 .bf16) (harg6 : arg6.IsWhole)
  (arg7 : Memref sig .tc .vmem S1x32x256x1 .f32) (harg7 : arg7.IsWhole)
  (arg8 : Memref sig .tc .vmem S1x32x64x256 .f32) (harg8 : arg8.IsWhole)
  (arg9 : Memref sig .tc .vmem S1x32x64x256 .f32) (harg9 : arg9.IsWhole)
  (arg10 : Memref sig .tc .vmem S1x32x64x256 .f32) (harg10 : arg10.IsWhole)
  (X1 : BufTy.Contents (Elt F) arg1.view.ty)
  (X2 : BufTy.Contents (Elt F) arg2.view.ty)
  (X3 : BufTy.Contents (Elt F) arg3.view.ty)
  (X4 : BufTy.Contents (Elt F) arg4.view.ty)
  (X5 : BufTy.Contents (Elt F) arg5.view.ty)
  (X6 : BufTy.Contents (Elt F) arg6.view.ty)
  (X7 : BufTy.Contents (Elt F) arg7.view.ty)

/-- The input blocks as the views read them. -/
def bwdIn : BwdIn F where
  qn := arg1.view.read (Elt F) X1
  qt := arg2.view.read (Elt F) X2
  kt := arg3.view.read (Elt F) X3
  vt := arg4.view.read (Elt F) X4
  don := arg5.view.read (Elt F) X5
  dot := arg6.view.read (Elt F) X6
  tl := arg7.view.read (Elt F) X7

local notation "ins" => bwdIn arg1 arg2 arg3 arg4 arg5 arg6 arg7 X1 X2 X3 X4 X5 X6 X7

local notation "innerTrip" k => trip_k1_t2 (F := F) 𝒱 c bd i arg1 harg1 arg2 harg2 arg3 harg3 arg4 harg4 arg5 harg5 arg6 harg6 arg7 harg7 arg8 harg8 arg9 harg9 arg10 harg10 k (Scf.iv 0#32 1#32 k)
  (bwdRows (BwdIn.qn ins) k) (bwdCols (BwdIn.qt ins) k) (bwdRows (BwdIn.don ins) k) (bwdCols (BwdIn.dot ins) k) (bwdTot (BwdIn.tl ins) k) X3 X4

local notation "innerSt" k => st_k1_t2 (F := F) 𝒱 c bd i arg1 harg1 arg2 harg2 arg3 harg3 arg4 harg4 arg5 harg5 arg6 harg6 arg7 harg7 arg8 harg8 arg9 harg9 arg10 harg10 k (Scf.iv 0#32 1#32 k)
  (bwdRows (BwdIn.qn ins) k) (bwdCols (BwdIn.qt ins) k) (bwdRows (BwdIn.don ins) k) (bwdCols (BwdIn.dot ins) k) (bwdTot (BwdIn.tl ins) k) X3 X4

/-- What one trip of the inner loop yields, -/
theorem bwd_yield (k : Fin k1_t1_loop.trips) (j : Fin (k1_t2_loop k).trips) (a : BwdAcc F)
    (f9 : BufTy.Contents (Elt F) arg9.view.ty) (f10 : BufTy.Contents (Elt F) arg10.view.ty) :
    ((innerTrip k) j).1 a f9 f10 = bwdAccStep ins k j a := by
  unfold trip_k1_t2
  rfl

/-- the block it writes into the key gradient, -/
theorem bwd_piece9 (k : Fin k1_t1_loop.trips) (j : Fin (k1_t2_loop k).trips) (a : BwdAcc F)
    (f9 : BufTy.Contents (Elt F) arg9.view.ty) (f10 : BufTy.Contents (Elt F) arg10.view.ty) :
    ((innerTrip k) j).2.1 a f9 f10 = [⟨Rect.unit (s := S1x32x64x256) (k1_off4 k j) S1x1x64x256.size (k1_off4_inb k j),
      bwdDk ins k j a (bwdOld (arg9.view.read (Elt F) f9) k j)⟩] := by
  unfold trip_k1_t2
  rfl

/-- and the block it writes into the value gradient. -/
theorem bwd_piece10 (k : Fin k1_t1_loop.trips) (j : Fin (k1_t2_loop k).trips) (a : BwdAcc F)
    (f9 : BufTy.Contents (Elt F) arg9.view.ty) (f10 : BufTy.Contents (Elt F) arg10.view.ty) :
    ((innerTrip k) j).2.2.1 a f9 f10 = [⟨Rect.unit (s := S1x32x64x256) (k1_off4 k j) S1x1x64x256.size (k1_off4_inb k j),
      bwdDv ins k j a (bwdOld (arg10.view.read (Elt F) f10) k j)⟩] := by
  unfold trip_k1_t2
  rfl

/-- The inner loop's state is `bwdSt`. -/
theorem bwd_st (k : Fin k1_t1_loop.trips) (G9 : BufTy.Contents (Elt F) arg9.view.ty) (G10 : BufTy.Contents (Elt F) arg10.view.ty) :
    ∀ n : ℕ, n ≤ (k1_t2_loop k).trips →
    (((innerSt k) G9 G10 (k1_pay11, k1_pay11, k1_pay12) n).1,
      arg9.view.read (Elt F) (arg9.view.writes (Elt F) G9 ((innerSt k) G9 G10 (k1_pay11, k1_pay11, k1_pay12) n).2.1),
      arg10.view.read (Elt F) (arg10.view.writes (Elt F) G10 ((innerSt k) G9 G10 (k1_pay11, k1_pay11, k1_pay12) n).2.2))
      = bwdSt ins k (arg9.view.read (Elt F) G9, arg10.view.read (Elt F) G10) n
  | 0, _ => rfl
  | n + 1, h => by
    have e := st_k1_t2_succ (F := F) 𝒱 c bd i arg1 harg1 arg2 harg2 arg3 harg3 arg4 harg4 arg5 harg5 arg6 harg6 arg7 harg7 arg8 harg8 arg9 harg9 arg10 harg10 k (Scf.iv 0#32 1#32 k)
      (bwdRows (BwdIn.qn ins) k) (bwdCols (BwdIn.qt ins) k) (bwdRows (BwdIn.don ins) k) (bwdCols (BwdIn.dot ins) k) (bwdTot (BwdIn.tl ins) k)
      X3 X4 G9 G10 (k1_pay11, k1_pay11, k1_pay12) ⟨n, h⟩
    dsimp only at e
    rw [e]
    dsimp only [tripR_k1_t2, tripL_k1_t2]
    have ih := bwd_st k G9 G10 n (by omega)
    rw [bwdSt_succ _ _ _ n h, ← ih]
    rw [bwd_yield, bwd_piece9, bwd_piece10]
    rw [List.singleton_append, List.singleton_append, View.read_writes_cons_put _ _ _ _ _ rfl, View.read_writes_cons_put _ _ _ _ _ rfl]
    rfl

end

end Cert.Stick
-- ==== Proof.SbBwdOuter.lean ====
/- The outer loop of the stick-breaking backward kernel: one trip per block of 256 query rows. -/
module

public import proofs.«01_k».proof.Proof.SbBwdLoop
public import proofs.«01_k».proof.Proof.Gen.SbIdeal.Points
public import Idealize.ShloMosaic.Lib.Pipeline.FrameBody
public import Idealize.ShloMosaic.Lib.Tactic
public import Idealize.ShloMosaic.Lib.VecWindow

@[expose] public section

set_option maxRecDepth 16384

noncomputable section

namespace Cert.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SbIdeal Cert.SbIdeal.Gen

variable {F : FTy → Type} [FloatOps F]

local notation "𝕄" => MT nD τ sig Unit (Elt F) ℕ (UR sig nD τ) ℕ

/-- What one trip of the outer loop touches: seven inputs read, three outputs written. -/
abbrev BwdTrip (c : Dev nD)
    (arg1 : Memref sig .tc .vmem S1x32x256x64 .bf16)
    (arg2 : Memref sig .tc .vmem S1x32x64x256 .bf16)
    (arg3 : Memref sig .tc .vmem S1x32x64x256 .bf16)
    (arg4 : Memref sig .tc .vmem S1x32x64x256 .bf16)
    (arg5 : Memref sig .tc .vmem S1x32x256x64 .bf16)
    (arg6 : Memref sig .tc .vmem S1x32x64x256 .bf16)
    (arg7 : Memref sig .tc .vmem S1x32x256x1 .f32)
    (arg8 : Memref sig .tc .vmem S1x32x64x256 .f32)
    (arg9 : Memref sig .tc .vmem S1x32x64x256 .f32)
    (arg10 : Memref sig .tc .vmem S1x32x64x256 .f32)
    (X1 : BufTy.Contents (Elt F) arg1.view.ty)
    (X2 : BufTy.Contents (Elt F) arg2.view.ty)
    (X3 : BufTy.Contents (Elt F) arg3.view.ty)
    (X4 : BufTy.Contents (Elt F) arg4.view.ty)
    (X5 : BufTy.Contents (Elt F) arg5.view.ty)
    (X6 : BufTy.Contents (Elt F) arg6.view.ty)
    (X7 : BufTy.Contents (Elt F) arg7.view.ty)
    (f8 : BufTy.Contents (Elt F) arg8.view.ty) (f9 : BufTy.Contents (Elt F) arg9.view.ty) (f10 : BufTy.Contents (Elt F) arg10.view.ty) : sProp 𝕄 :=
  iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} f8)
    ∗ (arg9.view.loc (c : Thread nD τ) ↦[arg9.view.set]{fullShare} f9)
    ∗ (arg10.view.loc (c : Thread nD τ) ↦[arg10.view.set]{fullShare} f10))

section
variable (𝒱 : Variants) (c : Dev nD) (bd : Option 𝒱.V) (i : grid1.Coords)
  (arg1 : Memref sig .tc .vmem S1x32x256x64 .bf16) (harg1 : arg1.IsWhole)
  (arg2 : Memref sig .tc .vmem S1x32x64x256 .bf16) (harg2 : arg2.IsWhole)
  (arg3 : Memref sig .tc .vmem S1x32x64x256 .bf16) (harg3 : arg3.IsWhole)
  (arg4 : Memref sig .tc .vmem S1x32x64x256 .bf16) (harg4 : arg4.IsWhole)
  (arg5 : Memref sig .tc .vmem S1x32x256x64 .bf16) (harg5 : arg5.IsWhole)
  (arg6 : Memref sig .tc .vmem S1x32x64x256 .bf16) (harg6 : arg6.IsWhole)
  (arg7 : Memref sig .tc .vmem S1x32x256x1 .f32) (harg7 : arg7.IsWhole)
  (arg8 : Memref sig .tc .vmem S1x32x64x256 .f32) (harg8 : arg8.IsWhole)
  (arg9 : Memref sig .tc .vmem S1x32x64x256 .f32) (harg9 : arg9.IsWhole)
  (arg10 : Memref sig .tc .vmem S1x32x64x256 .f32) (harg10 : arg10.IsWhole)
  (X1 : BufTy.Contents (Elt F) arg1.view.ty)
  (X2 : BufTy.Contents (Elt F) arg2.view.ty)
  (X3 : BufTy.Contents (Elt F) arg3.view.ty)
  (X4 : BufTy.Contents (Elt F) arg4.view.ty)
  (X5 : BufTy.Contents (Elt F) arg5.view.ty)
  (X6 : BufTy.Contents (Elt F) arg6.view.ty)
  (X7 : BufTy.Contents (Elt F) arg7.view.ty)

/-- One trip of the outer loop at a symbolic `k`: the pieces it writes are what the run finds, from the contents of the
    two arrays it adds into. -/
@[irreducible] def bwdRun (k : Fin k1_t1_loop.trips) :
    Σ' (L8 : BufTy.Contents (Elt F) arg9.view.ty → BufTy.Contents (Elt F) arg10.view.ty → List (View.Piece (Elt F) S1x32x64x256 .f32))
       (L9 : BufTy.Contents (Elt F) arg9.view.ty → BufTy.Contents (Elt F) arg10.view.ty → List (View.Piece (Elt F) S1x32x64x256 .f32)),
    { L10 : BufTy.Contents (Elt F) arg9.view.ty → BufTy.Contents (Elt F) arg10.view.ty → List (View.Piece (Elt F) S1x32x64x256 .f32) //
      ∀ (E : Set ℕ) (f8 : BufTy.Contents (Elt F) arg8.view.ty) (f9 : BufTy.Contents (Elt F) arg9.view.ty) (f10 : BufTy.Contents (Elt F) arg10.view.ty),
      BwdTrip (F := F) c arg1 arg2 arg3 arg4 arg5 arg6 arg7 arg8 arg9 arg10 X1 X2 X3 X4 X5 X6 X7 f8 f9 f10
      ⊢ wp frame (wpE (defs₀ (F := F)) 𝒱 (c : Thread nD τ) bd) E
        (k1_t1_body (F := F) i arg1 harg1 arg2 harg2 arg3 harg3 arg4 harg4 arg5 harg5 arg6 harg6 arg7 harg7 arg8 harg8 arg9 harg9 arg10 harg10 k ())
        (fun _ => BwdTrip (F := F) c arg1 arg2 arg3 arg4 arg5 arg6 arg7 arg8 arg9 arg10 X1 X2 X3 X4 X5 X6 X7 (arg8.view.writes (Elt F) f8 (L8 f9 f10))
          (arg9.view.writes (Elt F) f9 (L9 f9 f10)) (arg10.view.writes (Elt F) f10 (L10 f9 f10))) } := by
  refine ⟨?_, ?_, ?_, fun E f8 f9 f10 => ?run⟩
  case run =>
    unfold k1_t1_body
    iintro ⟨H1, H2, H3, H4, H5, H6, H7, H8, H9, H10⟩
    sl_exec
    sl_step
    sl_close

local notation "run" => bwdRun (F := F) 𝒱 c bd i arg1 harg1 arg2 harg2 arg3 harg3 arg4 harg4 arg5 harg5 arg6 harg6 arg7 harg7 arg8 harg8 arg9 harg9 arg10 harg10 X1 X2 X3 X4 X5 X6 X7
local notation "ins" => bwdIn arg1 arg2 arg3 arg4 arg5 arg6 arg7 X1 X2 X3 X4 X5 X6 X7

theorem bwd_run8 (k : Fin k1_t1_loop.trips) (f9 : BufTy.Contents (Elt F) arg9.view.ty) (f10 : BufTy.Contents (Elt F) arg10.view.ty) :
    (run k).1 f9 f10 = [⟨Rect.unit (s := S1x32x64x256) (k1_off2 k) S1x1x64x256.size (k1_off2_inb k),
      k1_pay15 (bwdSt ins k (arg9.view.read (Elt F) f9, arg10.view.read (Elt F) f10) (k1_t2_loop k).trips).1.2.2⟩] := by
  rw [← bwd_st 𝒱 c bd i arg1 harg1 arg2 harg2 arg3 harg3 arg4 harg4 arg5 harg5 arg6 harg6 arg7 harg7 arg8 harg8 arg9 harg9 arg10 harg10 X1 X2 X3 X4 X5 X6 X7 k f9 f10 _ (le_refl _)]
  unfold bwdRun
  have h : Scf.trips (k1_t3_loop k).lb (k1_t3_loop k).ub (k1_t3_loop k).st = 0 := u3_trips k
  simp only [h]
  rfl

theorem bwd_run9 (k : Fin k1_t1_loop.trips) (f9 : BufTy.Contents (Elt F) arg9.view.ty) (f10 : BufTy.Contents (Elt F) arg10.view.ty) :
    arg9.view.read (Elt F) (arg9.view.writes (Elt F) f9 ((run k).2.1 f9 f10))
      = (bwdSt ins k (arg9.view.read (Elt F) f9, arg10.view.read (Elt F) f10) (k1_t2_loop k).trips).2.1 := by
  rw [← bwd_st 𝒱 c bd i arg1 harg1 arg2 harg2 arg3 harg3 arg4 harg4 arg5 harg5 arg6 harg6 arg7 harg7 arg8 harg8 arg9 harg9 arg10 harg10 X1 X2 X3 X4 X5 X6 X7 k f9 f10 _ (le_refl _)]
  unfold bwdRun
  have h : Scf.trips (k1_t3_loop k).lb (k1_t3_loop k).ub (k1_t3_loop k).st = 0 := u3_trips k
  simp only [h]
  rfl

theorem bwd_run10 (k : Fin k1_t1_loop.trips) (f9 : BufTy.Contents (Elt F) arg9.view.ty) (f10 : BufTy.Contents (Elt F) arg10.view.ty) :
    arg10.view.read (Elt F) (arg10.view.writes (Elt F) f10 ((run k).2.2.1 f9 f10))
      = (bwdSt ins k (arg9.view.read (Elt F) f9, arg10.view.read (Elt F) f10) (k1_t2_loop k).trips).2.2 := by
  rw [← bwd_st 𝒱 c bd i arg1 harg1 arg2 harg2 arg3 harg3 arg4 harg4 arg5 harg5 arg6 harg6 arg7 harg7 arg8 harg8 arg9 harg9 arg10 harg10 X1 X2 X3 X4 X5 X6 X7 k f9 f10 _ (le_refl _)]
  unfold bwdRun
  have h : Scf.trips (k1_t3_loop k).lb (k1_t3_loop k).ub (k1_t3_loop k).st = 0 := u3_trips k
  simp only [h]
  rfl

/-- One trip's contribution to the pieces written before it. -/
@[irreducible] def bwdPsStep (G9 : BufTy.Contents (Elt F) arg9.view.ty) (G10 : BufTy.Contents (Elt F) arg10.view.ty) (k : ℕ) (p : List (View.Piece (Elt F) S1x32x64x256 .f32) × List (View.Piece (Elt F) S1x32x64x256 .f32) × List (View.Piece (Elt F) S1x32x64x256 .f32)) : List (View.Piece (Elt F) S1x32x64x256 .f32) × List (View.Piece (Elt F) S1x32x64x256 .f32) × List (View.Piece (Elt F) S1x32x64x256 .f32) :=
  if h : k < k1_t1_loop.trips then
    ((run ⟨k, h⟩).1 (arg9.view.writes (Elt F) G9 p.2.1) (arg10.view.writes (Elt F) G10 p.2.2) ++ p.1,
     (run ⟨k, h⟩).2.1 (arg9.view.writes (Elt F) G9 p.2.1) (arg10.view.writes (Elt F) G10 p.2.2) ++ p.2.1,
     (run ⟨k, h⟩).2.2.1 (arg9.view.writes (Elt F) G9 p.2.1) (arg10.view.writes (Elt F) G10 p.2.2) ++ p.2.2)
  else p

/-- The pieces written before trip `k`, last first. -/
def bwdPs (G9 : BufTy.Contents (Elt F) arg9.view.ty) (G10 : BufTy.Contents (Elt F) arg10.view.ty) : ℕ → List (View.Piece (Elt F) S1x32x64x256 .f32) × List (View.Piece (Elt F) S1x32x64x256 .f32) × List (View.Piece (Elt F) S1x32x64x256 .f32)
  | 0 => ([], [], [])
  | k + 1 => bwdPsStep (F := F) 𝒱 c bd i arg1 harg1 arg2 harg2 arg3 harg3 arg4 harg4 arg5 harg5 arg6 harg6 arg7 harg7 arg8 harg8 arg9 harg9 arg10 harg10 X1 X2 X3 X4 X5 X6 X7 G9 G10 k (bwdPs G9 G10 k)

local notation "ps" => bwdPs (F := F) 𝒱 c bd i arg1 harg1 arg2 harg2 arg3 harg3 arg4 harg4 arg5 harg5 arg6 harg6 arg7 harg7 arg8 harg8 arg9 harg9 arg10 harg10 X1 X2 X3 X4 X5 X6 X7

theorem bwdPs_succ (G9 : BufTy.Contents (Elt F) arg9.view.ty) (G10 : BufTy.Contents (Elt F) arg10.view.ty) (k : Fin k1_t1_loop.trips) :
    ps G9 G10 (k.val + 1)
      = ((run k).1 (arg9.view.writes (Elt F) G9 (ps G9 G10 k.val).2.1) (arg10.view.writes (Elt F) G10 (ps G9 G10 k.val).2.2) ++ (ps G9 G10 k.val).1,
     (run k).2.1 (arg9.view.writes (Elt F) G9 (ps G9 G10 k.val).2.1) (arg10.view.writes (Elt F) G10 (ps G9 G10 k.val).2.2) ++ (ps G9 G10 k.val).2.1,
     (run k).2.2.1 (arg9.view.writes (Elt F) G9 (ps G9 G10 k.val).2.1) (arg10.view.writes (Elt F) G10 (ps G9 G10 k.val).2.2) ++ (ps G9 G10 k.val).2.2) := by
  rw [bwdPs]; unfold bwdPsStep; exact dif_pos k.isLt

/-- The pieces of the query gradient alone. -/
def bwdPieces8 (x : BwdIn F) : ℕ → List (View.Piece (Elt F) S1x32x64x256 .f32)
  | 0 => []
  | n + 1 => if h : n < k1_t1_loop.trips then bwdPiece8 x ⟨n, h⟩ :: bwdPieces8 x n else bwdPieces8 x n

/-- What the pieces leave, when the two added-into arrays start at zero. -/
theorem bwd_ps (G9 : BufTy.Contents (Elt F) arg9.view.ty) (G10 : BufTy.Contents (Elt F) arg10.view.ty)
    (h9 : arg9.view.read (Elt F) G9 = k1_pay4) (h10 : arg10.view.read (Elt F) G10 = k1_pay5) : ∀ n : ℕ, n ≤ k1_t1_loop.trips →
    (ps G9 G10 n).1 = bwdPieces8 ins n
      ∧ arg9.view.read (Elt F) (arg9.view.writes (Elt F) G9 (ps G9 G10 n).2.1) = (bwdAdd ins n).1
      ∧ arg10.view.read (Elt F) (arg10.view.writes (Elt F) G10 (ps G9 G10 n).2.2) = (bwdAdd ins n).2
  | 0, _ => ⟨rfl, h9, h10⟩
  | n + 1, h => by
    obtain ⟨i8, i9, i10⟩ := bwd_ps G9 G10 h9 h10 n (by omega)
    have e := bwdPs_succ (F := F) 𝒱 c bd i arg1 harg1 arg2 harg2 arg3 harg3 arg4 harg4 arg5 harg5 arg6 harg6 arg7 harg7 arg8 harg8 arg9 harg9 arg10 harg10 X1 X2 X3 X4 X5 X6 X7 G9 G10 ⟨n, h⟩
    dsimp only at e
    have ea := bwdAdd_succ ins n h
    rw [e, ea]
    dsimp only
    refine ⟨?_, ?_, ?_⟩
    · rw [bwd_run8, i9, i10, i8, bwdPieces8, dif_pos (show n < k1_t1_loop.trips from h)]
      rfl
    · rw [View.writes_append, bwd_run9, i9, i10]
    · rw [View.writes_append, bwd_run10, i9, i10]

end

set_option warn.classDefReducibility false in
/-- The outer loop by its invariant. -/
@[sl_loop] def bwdLoop (𝒱 : Variants) (c : Dev nD) (bd : Option 𝒱.V) (E : Set ℕ) (i : grid1.Coords)
  (arg1 : Memref sig .tc .vmem S1x32x256x64 .bf16) (harg1 : arg1.IsWhole)
  (arg2 : Memref sig .tc .vmem S1x32x64x256 .bf16) (harg2 : arg2.IsWhole)
  (arg3 : Memref sig .tc .vmem S1x32x64x256 .bf16) (harg3 : arg3.IsWhole)
  (arg4 : Memref sig .tc .vmem S1x32x64x256 .bf16) (harg4 : arg4.IsWhole)
  (arg5 : Memref sig .tc .vmem S1x32x256x64 .bf16) (harg5 : arg5.IsWhole)
  (arg6 : Memref sig .tc .vmem S1x32x64x256 .bf16) (harg6 : arg6.IsWhole)
  (arg7 : Memref sig .tc .vmem S1x32x256x1 .f32) (harg7 : arg7.IsWhole)
  (arg8 : Memref sig .tc .vmem S1x32x64x256 .f32) (harg8 : arg8.IsWhole)
  (arg9 : Memref sig .tc .vmem S1x32x64x256 .f32) (harg9 : arg9.IsWhole)
  (arg10 : Memref sig .tc .vmem S1x32x64x256 .f32) (harg10 : arg10.IsWhole)
  (X1 : BufTy.Contents (Elt F) arg1.view.ty)
  (X2 : BufTy.Contents (Elt F) arg2.view.ty)
  (X3 : BufTy.Contents (Elt F) arg3.view.ty)
  (X4 : BufTy.Contents (Elt F) arg4.view.ty)
  (X5 : BufTy.Contents (Elt F) arg5.view.ty)
  (X6 : BufTy.Contents (Elt F) arg6.view.ty)
  (X7 : BufTy.Contents (Elt F) arg7.view.ty)
  (G8 : BufTy.Contents (Elt F) arg8.view.ty) (G9 : BufTy.Contents (Elt F) arg9.view.ty) (G10 : BufTy.Contents (Elt F) arg10.view.ty) :
    LoopInvTy_k1_t1 (F := F) Unit ℕ (UR sig nD τ) ℕ 𝒱 c bd E i arg1 harg1 arg2 harg2 arg3 harg3 arg4 harg4 arg5 harg5 arg6 harg6 arg7 harg7 arg8 harg8 arg9 harg9 arg10 harg10 where
  inv k _ := iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (∃ f, (arg8.view.loc (c : Thread nD τ) ↦[arg8.view.set]{fullShare} f) ∗ ⌜f = arg8.view.writes (Elt F) G8 (bwdPs (F := F) 𝒱 c bd i arg1 harg1 arg2 harg2 arg3 harg3 arg4 harg4 arg5 harg5 arg6 harg6 arg7 harg7 arg8 harg8 arg9 harg9 arg10 harg10 X1 X2 X3 X4 X5 X6 X7 G9 G10 k).1⌝)
    ∗ (∃ f, (arg9.view.loc (c : Thread nD τ) ↦[arg9.view.set]{fullShare} f) ∗ ⌜f = arg9.view.writes (Elt F) G9 (bwdPs (F := F) 𝒱 c bd i arg1 harg1 arg2 harg2 arg3 harg3 arg4 harg4 arg5 harg5 arg6 harg6 arg7 harg7 arg8 harg8 arg9 harg9 arg10 harg10 X1 X2 X3 X4 X5 X6 X7 G9 G10 k).2.1⌝)
    ∗ (∃ f, (arg10.view.loc (c : Thread nD τ) ↦[arg10.view.set]{fullShare} f) ∗ ⌜f = arg10.view.writes (Elt F) G10 (bwdPs (F := F) 𝒱 c bd i arg1 harg1 arg2 harg2 arg3 harg3 arg4 harg4 arg5 harg5 arg6 harg6 arg7 harg7 arg8 harg8 arg9 harg9 arg10 harg10 X1 X2 X3 X4 X5 X6 X7 G9 G10 k).2.2⌝))
  step k acc := by
    iintro ⟨H1, H2, H3, H4, H5, H6, H7, ⟨%f8, H8, %h8⟩, ⟨%f9, H9, %h9⟩, ⟨%f10, H10, %h10⟩⟩
    iapply (wp_wand_r Idealize.ShloMosaic.frame (wpE (defs₀ (F := F)) 𝒱 (c : Thread nD τ) bd) E)
    isplitl [H1 H2 H3 H4 H5 H6 H7 H8 H9 H10]
    · iapply ((bwdRun (F := F) 𝒱 c bd i arg1 harg1 arg2 harg2 arg3 harg3 arg4 harg4 arg5 harg5 arg6 harg6 arg7 harg7 arg8 harg8 arg9 harg9 arg10 harg10 X1 X2 X3 X4 X5 X6 X7 k).2.2.2 E f8 f9 f10)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · iintro %yld ⟨H1, H2, H3, H4, H5, H6, H7, H8, H9, H10⟩
      simp only [bwdPs_succ]
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · iexists _
        isplitl [H8]; · iexact H8
        ipureintro
        rw [h8, h9, h10, ← View.writes_append]
      isplitl [H9]
      · iexists _
        isplitl [H9]; · iexact H9
        ipureintro
        rw [h9, h10, ← View.writes_append]
      iexists _
      isplitl [H10]; · iexact H10
      ipureintro
      rw [h9, h10, ← View.writes_append]

end Cert.Stick
-- ==== Proof.SbPoint.lean ====
/- The two stick-breaking kernels at one grid point, which is one head: what each leaves in its output buffers as a function of
   its input blocks, and the proof data of the two pipelines over any entry contents. -/
module

public import proofs.«01_k».proof.Proof.Gen.SbIdeal.Launch
public import proofs.«01_k».proof.Proof.Gen.SbIdeal.Skeleton
public import proofs.«01_k».proof.Proof.SbFwdLoop
public import proofs.«01_k».proof.Proof.SbBwdOuter
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SbIdeal Cert.SbIdeal.Gen

variable {F : FTy → Type} [FloatOps F]

local notation "𝕄" => MT nD τ sig Unit (Elt F) ℕ (UR sig nD τ) ℕ

/-! ## What a kernel leaves, read at an index -/

theorem trips0 : k0_t1_loop.trips = 32 := by decide +kernel
theorem trips1 : k1_t1_loop.trips = 32 := by decide +kernel

/-- The outer trip that writes block `n`. -/
def tripOf0 (n : Fin 32) : Fin k0_t1_loop.trips := n.cast trips0.symm
def tripOf1 (n : Fin 32) : Fin k1_t1_loop.trips := n.cast trips1.symm

/-- A stack of 32 blocks read at an index of one block. -/
def at4 (p : S1x32x64x256.Idx) : S1x1x64x256.Idx := fun a => match a with
  | ⟨0, _⟩ => ⟨0, Nat.one_pos⟩
  | ⟨1, _⟩ => ⟨0, Nat.one_pos⟩
  | ⟨2, _⟩ => ⟨(p 2).val, (p 2).isLt⟩
  | ⟨3, _⟩ => ⟨(p 3).val, (p 3).isLt⟩
def at5 (p : S1x32x256x1.Idx) : S1x1x256x1.Idx := fun a => match a with
  | ⟨0, _⟩ => ⟨0, Nat.one_pos⟩
  | ⟨1, _⟩ => ⟨0, Nat.one_pos⟩
  | ⟨2, _⟩ => ⟨(p 2).val, (p 2).isLt⟩
  | ⟨3, _⟩ => ⟨(p 3).val, (p 3).isLt⟩

/-- Blocks put one on another down the second axis: below the last one put, each block reads as its own payload. -/
theorem put4 {α : Type} (x : S1x32x64x256.Idx → α) (n : ℕ) (w : S1x1x64x256.Idx → α) (p : S1x32x64x256.Idx) :
    VecWindow.put x (![0, n, 0, 0] : Fin 4 → ℕ) S1x1x64x256.size w p = if (p 1).val = n then w (at4 p) else x p := by
  have h0 : (p 0).val < 1 := (p 0).isLt
  have h2 : (p 2).val < 64 := (p 2).isLt
  have h3 : (p 3).val < 256 := (p 3).isLt
  unfold VecWindow.put
  by_cases h : (p 1).val = n
  · rw [if_pos h, dif_pos (show ∀ a, _ from fun a => by fin_cases a <;> simp <;> omega)]
    refine congrArg w (funext fun a => ?_)
    fin_cases a <;> apply Fin.ext <;> simp [Rect.unitLocal, at4] <;> omega
  · rw [if_neg h, dif_neg]
    intro hh
    have := hh 1
    simp at this
    omega

theorem put5 {α : Type} (x : S1x32x256x1.Idx → α) (n : ℕ) (w : S1x1x256x1.Idx → α) (p : S1x32x256x1.Idx) :
    VecWindow.put x (![0, n, 0, 0] : Fin 4 → ℕ) S1x1x256x1.size w p = if (p 1).val = n then w (at5 p) else x p := by
  have h0 : (p 0).val < 1 := (p 0).isLt
  have h2 : (p 2).val < 256 := (p 2).isLt
  have h3 : (p 3).val < 1 := (p 3).isLt
  unfold VecWindow.put
  by_cases h : (p 1).val = n
  · rw [if_pos h, dif_pos (show ∀ a, _ from fun a => by fin_cases a <;> simp <;> omega)]
    refine congrArg w (funext fun a => ?_)
    fin_cases a <;> apply Fin.ext <;> simp [Rect.unitLocal, at5] <;> omega
  · rw [if_neg h, dif_neg]
    intro hh
    have := hh 1
    simp at this
    omega

/-- The attention output of one head: block `p 1` as its trip leaves it. -/
def fwdOut (x1 : Vec F S1x32x256x64 .bf16) (x2 x3 : Vec F S1x32x64x256 .bf16) : Vec F S1x32x64x256 .f32 := fun p =>
  k0_pay8 (fwdSt x1 x2 x3 (tripOf0 (p 1)) (k0_t2_loop (tripOf0 (p 1))).trips).2 (at4 p)

/-- The row totals of one head. -/
def fwdTot (x1 : Vec F S1x32x256x64 .bf16) (x2 x3 : Vec F S1x32x64x256 .bf16) : Vec F S1x32x256x1 .f32 := fun p =>
  k0_pay9 (fwdSt x1 x2 x3 (tripOf0 (p 1)) (k0_t2_loop (tripOf0 (p 1))).trips).1 (at5 p)

/-- The query gradient of one head. -/
def bwdQ (x : BwdIn F) : Vec F S1x32x64x256 .f32 := fun p =>
  k1_pay15 (bwdSt x (tripOf1 (p 1)) (bwdAdd x (tripOf1 (p 1)).val) (k1_t2_loop (tripOf1 (p 1))).trips).1.2.2 (at4 p)

section
variable {κ : Kind} {sp : Space}

theorem fwd_read4 (v : View sig κ sp S1x32x64x256 .f32) (f : v.ty.Contents (Elt F))
    (x1 : Vec F S1x32x256x64 .bf16) (x2 x3 : Vec F S1x32x64x256 .bf16) : ∀ n : ℕ, n ≤ k0_t1_loop.trips →
    ∀ p : S1x32x64x256.Idx, (p 1).val < n →
    v.read (Elt F) (v.writes (Elt F) f (fwdPieces4 x1 x2 x3 n)) p = fwdOut x1 x2 x3 p
  | 0, _, p, hp => absurd hp (Nat.not_lt_zero _)
  | n + 1, h, p, hp => by
    rw [fwdPieces4, dif_pos (show n < k0_t1_loop.trips from h)]
    unfold fwdPiece4
    rw [View.read_writes_cons_put v f _ _ _ (k0_off4_eq ⟨n, h⟩), put4]
    by_cases e : (p 1).val = n
    · rw [if_pos e]
      have : (⟨n, h⟩ : Fin k0_t1_loop.trips) = tripOf0 (p 1) := Fin.ext e.symm
      rw [this]; rfl
    · rw [if_neg e]
      exact fwd_read4 v f x1 x2 x3 n (by omega) p (by omega)

theorem fwd_read5 (v : View sig κ sp S1x32x256x1 .f32) (f : v.ty.Contents (Elt F))
    (x1 : Vec F S1x32x256x64 .bf16) (x2 x3 : Vec F S1x32x64x256 .bf16) : ∀ n : ℕ, n ≤ k0_t1_loop.trips →
    ∀ p : S1x32x256x1.Idx, (p 1).val < n →
    v.read (Elt F) (v.writes (Elt F) f (fwdPieces5 x1 x2 x3 n)) p = fwdTot x1 x2 x3 p
  | 0, _, p, hp => absurd hp (Nat.not_lt_zero _)
  | n + 1, h, p, hp => by
    rw [fwdPieces5, dif_pos (show n < k0_t1_loop.trips from h)]
    unfold fwdPiece5
    rw [View.read_writes_cons_put v f _ _ _ (k0_off5_eq ⟨n, h⟩), put5]
    by_cases e : (p 1).val = n
    · rw [if_pos e]
      have : (⟨n, h⟩ : Fin k0_t1_loop.trips) = tripOf0 (p 1) := Fin.ext e.symm
      rw [this]; rfl
    · rw [if_neg e]
      exact fwd_read5 v f x1 x2 x3 n (by omega) p (by omega)

theorem bwd_read8 (v : View sig κ sp S1x32x64x256 .f32) (f : v.ty.Contents (Elt F)) (x : BwdIn F) :
    ∀ n : ℕ, n ≤ k1_t1_loop.trips → ∀ p : S1x32x64x256.Idx, (p 1).val < n →
    v.read (Elt F) (v.writes (Elt F) f (bwdPieces8 x n)) p = bwdQ x p
  | 0, _, p, hp => absurd hp (Nat.not_lt_zero _)
  | n + 1, h, p, hp => by
    rw [bwdPieces8, dif_pos (show n < k1_t1_loop.trips from h)]
    unfold bwdPiece8
    rw [View.read_writes_cons_put v f _ _ _ (k1_off2_eq ⟨n, h⟩), put4]
    by_cases e : (p 1).val = n
    · rw [if_pos e]
      have : (⟨n, h⟩ : Fin k1_t1_loop.trips) = tripOf1 (p 1) := Fin.ext e.symm
      rw [this]; rfl
    · rw [if_neg e]
      exact bwd_read8 v f x n (by omega) p (by omega)

end

set_option maxHeartbeats 2000000 in
/-- The body of `cc0_sb_fwd` on whole buffers: the inputs stay as they were, each output holds its block. -/
theorem sound0 (c : Dev nD) (E : Set ℕ) (i : grid0.Coords) (arg1 : Memref sig .tc .vmem S1x32x256x64 .bf16) (harg1 : arg1.IsWhole) (arg2 : Memref sig .tc .vmem S1x32x64x256 .bf16) (harg2 : arg2.IsWhole) (arg3 : Memref sig .tc .vmem S1x32x64x256 .bf16) (harg3 : arg3.IsWhole) (arg4 : Memref sig .tc .vmem S1x32x64x256 .f32) (harg4 : arg4.IsWhole) (arg5 : Memref sig .tc .vmem S1x32x256x1 .f32) (harg5 : arg5.IsWhole)
    (x1 : Vec F S1x32x256x64 .bf16) (x2 : Vec F S1x32x64x256 .bf16) (x3 : Vec F S1x32x64x256 .bf16) (K : PUnit → sProp 𝕄) :
    iprop(owns (c : Thread nD τ) arg1 fullShare x1
        ∗ owns (c : Thread nD τ) arg2 fullShare x2
        ∗ owns (c : Thread nD τ) arg3 fullShare x3
        ∗ (∃ d, owns (c : Thread nD τ) arg4 fullShare d)
        ∗ (∃ d, owns (c : Thread nD τ) arg5 fullShare d)
        ∗ (iprop(owns (c : Thread nD τ) arg1 fullShare x1
          ∗ owns (c : Thread nD τ) arg2 fullShare x2
          ∗ owns (c : Thread nD τ) arg3 fullShare x3
          ∗ owns (c : Thread nD τ) arg4 fullShare (fwdOut x1 x2 x3)
          ∗ owns (c : Thread nD τ) arg5 fullShare (fwdTot x1 x2 x3)) -∗ K ⟨⟩))
      ⊢ wp frame (wpE (defs₀ (F := F)) Variants.none c none) E (cc0_sb_fwd i arg1 harg1 arg2 harg2 arg3 harg3 arg4 harg4 arg5 harg5) K := by
  simp only [cc0_sb_fwd_eq_skeleton]; unfold cc0_sb_fwd_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact funext fun p => fwd_read4 _ _ _ _ _ _ le_rfl p (lt_of_lt_of_eq (p 1).isLt trips0.symm)
  iexists _; isplitr
  swap; · iexact H5
  ipureintro
  exact funext fun p => fwd_read5 _ _ _ _ _ _ le_rfl p (lt_of_lt_of_eq (p 1).isLt trips0.symm)

/-- The input blocks of the backward kernel, one head's. -/
abbrev bwdX (x1 : Vec F S1x32x256x64 .bf16) (x2 x3 x4 : Vec F S1x32x64x256 .bf16) (x5 : Vec F S1x32x256x64 .bf16)
    (x6 : Vec F S1x32x64x256 .bf16) (x7 : Vec F S1x32x256x1 .f32) : BwdIn F := ⟨x1, x2, x3, x4, x5, x6, x7⟩

set_option maxHeartbeats 2000000 in
/-- The body of `cc1_sb_bwd` on whole buffers: the inputs stay as they were, each output holds its block. -/
theorem sound1 (c : Dev nD) (E : Set ℕ) (i : grid1.Coords) (arg1 : Memref sig .tc .vmem S1x32x256x64 .bf16) (harg1 : arg1.IsWhole) (arg2 : Memref sig .tc .vmem S1x32x64x256 .bf16) (harg2 : arg2.IsWhole) (arg3 : Memref sig .tc .vmem S1x32x64x256 .bf16) (harg3 : arg3.IsWhole) (arg4 : Memref sig .tc .vmem S1x32x64x256 .bf16) (harg4 : arg4.IsWhole) (arg5 : Memref sig .tc .vmem S1x32x256x64 .bf16) (harg5 : arg5.IsWhole) (arg6 : Memref sig .tc .vmem S1x32x64x256 .bf16) (harg6 : arg6.IsWhole) (arg7 : Memref sig .tc .vmem S1x32x256x1 .f32) (harg7 : arg7.IsWhole) (arg8 : Memref sig .tc .vmem S1x32x64x256 .f32) (harg8 : arg8.IsWhole) (arg9 : Memref sig .tc .vmem S1x32x64x256 .f32) (harg9 : arg9.IsWhole) (arg10 : Memref sig .tc .vmem S1x32x64x256 .f32) (harg10 : arg10.IsWhole)
    (x1 : Vec F S1x32x256x64 .bf16) (x2 : Vec F S1x32x64x256 .bf16) (x3 : Vec F S1x32x64x256 .bf16) (x4 : Vec F S1x32x64x256 .bf16) (x5 : Vec F S1x32x256x64 .bf16) (x6 : Vec F S1x32x64x256 .bf16) (x7 : Vec F S1x32x256x1 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ (∃ d, owns (c : Thread nD τ) arg8 fullShare d)
        ∗ (∃ d, owns (c : Thread nD τ) arg9 fullShare d)
        ∗ (∃ d, owns (c : Thread nD τ) arg10 fullShare d)
        ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare (bwdQ (bwdX x1 x2 x3 x4 x5 x6 x7))
          ∗ owns (c : Thread nD τ) arg9 fullShare ((bwdAdd (bwdX x1 x2 x3 x4 x5 x6 x7) k1_t1_loop.trips).1)
          ∗ owns (c : Thread nD τ) arg10 fullShare ((bwdAdd (bwdX x1 x2 x3 x4 x5 x6 x7) k1_t1_loop.trips).2)) -∗ K ⟨⟩))
      ⊢ wp frame (wpE (defs₀ (F := F)) Variants.none c none) E (cc1_sb_bwd i arg1 harg1 arg2 harg2 arg3 harg3 arg4 harg4 arg5 harg5 arg6 harg6 arg7 harg7 arg8 harg8 arg9 harg9 arg10 harg10) K := by
  simp only [cc1_sb_bwd_eq_skeleton]; unfold cc1_sb_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact (congrArg (fun L => arg8.view.read (Elt F) (arg8.view.writes (Elt F) f8 L)) (bwd_ps (F := F) Variants.none c none i arg1 harg1 arg2 harg2 arg3 harg3 arg4 harg4 arg5 harg5 arg6 harg6 arg7 harg7 arg8 harg8 arg9 harg9 arg10 harg10 f1 f2 f3 f4 f5 f6 f7 _ _ (View.read_writes_full _ _ _ _ []) (View.read_writes_full _ _ _ _ []) _ le_rfl).1).trans
      (funext fun p => bwd_read8 _ _ _ _ le_rfl p (lt_of_lt_of_eq (p 1).isLt trips1.symm))
  isplitl [H9]
  · iexists _; isplitr
    swap; · iexact H9
    ipureintro
    rw [View.writes_append]
    exact (bwd_ps (F := F) Variants.none c none i arg1 harg1 arg2 harg2 arg3 harg3 arg4 harg4 arg5 harg5 arg6 harg6 arg7 harg7 arg8 harg8 arg9 harg9 arg10 harg10 f1 f2 f3 f4 f5 f6 f7 _ _ (View.read_writes_full _ _ _ _ []) (View.read_writes_full _ _ _ _ []) _ le_rfl).2.1
  iexists _; isplitr
  swap; · iexact H10
  ipureintro
  rw [View.writes_append]
  exact (bwd_ps (F := F) Variants.none c none i arg1 harg1 arg2 harg2 arg3 harg3 arg4 harg4 arg5 harg5 arg6 harg6 arg7 harg7 arg8 harg8 arg9 harg9 arg10 harg10 f1 f2 f3 f4 f5 f6 f7 _ _ (View.read_writes_full _ _ _ _ []) (View.read_writes_full _ _ _ _ []) _ le_rfl).2.2

/-! ## The pipeline of `the forward kernel` over any entry contents -/

section
variable (V : (c : Dev nD) → (b : Ref sig .tc) → Buf (Elt F) ((c : Thread nD τ).loc b))

/-- Window `w`'s block at grid point `t`, cut from its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pipeline's proof data: the arrays as found, every input block left in place, every output block as the body leaves it. -/
def data0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => fwdOut (blk0 V c 0 t) (blk0 V c 1 t) (blk0 V c 2 t)
    | ⟨4, _⟩ => fwdTot (blk0 V c 0 t) (blk0 V c 1 t) (blk0 V c 2 t)
  Φ _ := Pipeline.ΦA spec0 c
  q _ := fullShare
  owed _ := 0

theorem data0_A (c : Dev nD) (w : Fin cfg0.W) : (data0 V c).A w = V c (Pipeline.arrRef spec0 w) := by dsimp only [data0]
theorem data0_after0 (c : Dev nD) (t : Fin cfg0.N) : (data0 V c).after 0 t = blk0 V c 0 t := by dsimp only [data0]
theorem data0_after1 (c : Dev nD) (t : Fin cfg0.N) : (data0 V c).after 1 t = blk0 V c 1 t := by dsimp only [data0]
theorem data0_after2 (c : Dev nD) (t : Fin cfg0.N) : (data0 V c).after 2 t = blk0 V c 2 t := by dsimp only [data0]
theorem data0_after3 (c : Dev nD) (t : Fin cfg0.N) : (data0 V c).after 3 t = fwdOut (blk0 V c 0 t) (blk0 V c 1 t) (blk0 V c 2 t) := by dsimp only [data0]
theorem data0_after4 (c : Dev nD) (t : Fin cfg0.N) : (data0 V c).after 4 t = fwdTot (blk0 V c 0 t) (blk0 V c 1 t) (blk0 V c 2 t) := by dsimp only [data0]
theorem data0_before0 (c : Dev nD) (t : Fin cfg0.N) (d) : (data0 V c).before 0 t d = blk0 V c 0 t :=
  ((data0 V c).before_in_eq_fetched 0 rfl (fun _ => rfl) (fun _ _ _ => rfl)
    (fun t => by rw [data0_after0]; unfold Dat.blockOf blk0; rw [data0_A]; try rfl) t d).trans
    (by unfold Dat.fetched Dat.blockOf blk0; rw [data0_A]; try rfl)
theorem data0_before1 (c : Dev nD) (t : Fin cfg0.N) (d) : (data0 V c).before 1 t d = blk0 V c 1 t :=
  ((data0 V c).before_in_eq_fetched 1 rfl (fun _ => rfl) (fun _ _ _ => rfl)
    (fun t => by rw [data0_after1]; unfold Dat.blockOf blk0; rw [data0_A]; try rfl) t d).trans
    (by unfold Dat.fetched Dat.blockOf blk0; rw [data0_A]; try rfl)
theorem data0_before2 (c : Dev nD) (t : Fin cfg0.N) (d) : (data0 V c).before 2 t d = blk0 V c 2 t :=
  ((data0 V c).before_in_eq_fetched 2 rfl (fun _ => rfl) (fun _ _ _ => rfl)
    (fun t => by rw [data0_after2]; unfold Dat.blockOf blk0; rw [data0_A]; try rfl) t d).trans
    (by unfold Dat.fetched Dat.blockOf blk0; rw [data0_A]; try rfl)

/-- The body at any grid point. -/
theorem body0 (c : Dev nD) (t : Fin cfg0.N) :
    iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d))
    ∗ (∃ d, owns (c : Thread nD τ) (st0_4 t) fullShare ((data0 V c).before 4 t d)))
    ⊢ wp frame (wpE (defs₀ (F := F)) Variants.none c none) Set.univ (bodyAt0 t) (fun _ =>
      iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t)
    ∗ owns (c : Thread nD τ) (st0_4 t) fullShare ((data0 V c).after 4 t))) := by
  unfold bodyAt0
  simp only [data0_before0, data0_before1, data0_before2]
  rw [show (data0 V c).Φ t.succ = (data0 V c).Φ t.castSucc from rfl,
    show (data0 V c).owesAt () t.succ = (data0 V c).owesAt () t.castSucc from rfl,
    data0_after0, data0_after1, data0_after2, data0_after3, data0_after4]
  iintro ⟨HΦ, Ho, ⟨%d0, H0⟩, ⟨%d1, H1⟩, ⟨%d2, H2⟩, ⟨%d3, H3⟩, ⟨%d4, H4⟩⟩
  iapply (sound0 c Set.univ (grid0.coords t) _ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem row0 (t : Fin cfg0.N) : defs₀ (F := F) .tc cfg0.body (cfg0.bodyArgs t (cfg0.slots t)) = bodyAt0 t := by
  unfold defs₀; rw [Defs.onTc_tc]

theorem obligation0 (c : Dev nD) : BodyObligation (data0 (F := F) V c) (defs₀ (F := F)) Variants.none () Set.univ := fun t => by
  rw [bigSep_W0, bigSep_W0, row0]
  exact triple_restated (body0 V c t) rfl .rfl fun _ => .rfl

end

/-! ## The pipeline of `the backward kernel` over any entry contents -/

section
variable (V : (c : Dev nD) → (b : Ref sig .tc) → Buf (Elt F) ((c : Thread nD τ).loc b))

/-- Window `w`'s block at grid point `t`, cut from its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pipeline's proof data: the arrays as found, every input block left in place, every output block as the body leaves it. -/
def data1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => bwdQ (bwdX (blk1 V c 0 t) (blk1 V c 1 t) (blk1 V c 2 t) (blk1 V c 3 t) (blk1 V c 4 t) (blk1 V c 5 t) (blk1 V c 6 t))
    | ⟨8, _⟩ => (bwdAdd (bwdX (blk1 V c 0 t) (blk1 V c 1 t) (blk1 V c 2 t) (blk1 V c 3 t) (blk1 V c 4 t) (blk1 V c 5 t) (blk1 V c 6 t)) k1_t1_loop.trips).1
    | ⟨9, _⟩ => (bwdAdd (bwdX (blk1 V c 0 t) (blk1 V c 1 t) (blk1 V c 2 t) (blk1 V c 3 t) (blk1 V c 4 t) (blk1 V c 5 t) (blk1 V c 6 t)) k1_t1_loop.trips).2
  Φ _ := Pipeline.ΦA spec1 c
  q _ := fullShare
  owed _ := 0

theorem data1_A (c : Dev nD) (w : Fin cfg1.W) : (data1 V c).A w = V c (Pipeline.arrRef spec1 w) := by dsimp only [data1]
theorem data1_after0 (c : Dev nD) (t : Fin cfg1.N) : (data1 V c).after 0 t = blk1 V c 0 t := by dsimp only [data1]
theorem data1_after1 (c : Dev nD) (t : Fin cfg1.N) : (data1 V c).after 1 t = blk1 V c 1 t := by dsimp only [data1]
theorem data1_after2 (c : Dev nD) (t : Fin cfg1.N) : (data1 V c).after 2 t = blk1 V c 2 t := by dsimp only [data1]
theorem data1_after3 (c : Dev nD) (t : Fin cfg1.N) : (data1 V c).after 3 t = blk1 V c 3 t := by dsimp only [data1]
theorem data1_after4 (c : Dev nD) (t : Fin cfg1.N) : (data1 V c).after 4 t = blk1 V c 4 t := by dsimp only [data1]
theorem data1_after5 (c : Dev nD) (t : Fin cfg1.N) : (data1 V c).after 5 t = blk1 V c 5 t := by dsimp only [data1]
theorem data1_after6 (c : Dev nD) (t : Fin cfg1.N) : (data1 V c).after 6 t = blk1 V c 6 t := by dsimp only [data1]
theorem data1_after7 (c : Dev nD) (t : Fin cfg1.N) : (data1 V c).after 7 t = bwdQ (bwdX (blk1 V c 0 t) (blk1 V c 1 t) (blk1 V c 2 t) (blk1 V c 3 t) (blk1 V c 4 t) (blk1 V c 5 t) (blk1 V c 6 t)) := by dsimp only [data1]
theorem data1_after8 (c : Dev nD) (t : Fin cfg1.N) : (data1 V c).after 8 t = (bwdAdd (bwdX (blk1 V c 0 t) (blk1 V c 1 t) (blk1 V c 2 t) (blk1 V c 3 t) (blk1 V c 4 t) (blk1 V c 5 t) (blk1 V c 6 t)) k1_t1_loop.trips).1 := by dsimp only [data1]
theorem data1_after9 (c : Dev nD) (t : Fin cfg1.N) : (data1 V c).after 9 t = (bwdAdd (bwdX (blk1 V c 0 t) (blk1 V c 1 t) (blk1 V c 2 t) (blk1 V c 3 t) (blk1 V c 4 t) (blk1 V c 5 t) (blk1 V c 6 t)) k1_t1_loop.trips).2 := by dsimp only [data1]
theorem data1_before0 (c : Dev nD) (t : Fin cfg1.N) (d) : (data1 V c).before 0 t d = blk1 V c 0 t :=
  ((data1 V c).before_in_eq_fetched 0 rfl (fun _ => rfl) (fun _ _ _ => rfl)
    (fun t => by rw [data1_after0]; unfold Dat.blockOf blk1; rw [data1_A]; try rfl) t d).trans
    (by unfold Dat.fetched Dat.blockOf blk1; rw [data1_A]; try rfl)
theorem data1_before1 (c : Dev nD) (t : Fin cfg1.N) (d) : (data1 V c).before 1 t d = blk1 V c 1 t :=
  ((data1 V c).before_in_eq_fetched 1 rfl (fun _ => rfl) (fun _ _ _ => rfl)
    (fun t => by rw [data1_after1]; unfold Dat.blockOf blk1; rw [data1_A]; try rfl) t d).trans
    (by unfold Dat.fetched Dat.blockOf blk1; rw [data1_A]; try rfl)
theorem data1_before2 (c : Dev nD) (t : Fin cfg1.N) (d) : (data1 V c).before 2 t d = blk1 V c 2 t :=
  ((data1 V c).before_in_eq_fetched 2 rfl (fun _ => rfl) (fun _ _ _ => rfl)
    (fun t => by rw [data1_after2]; unfold Dat.blockOf blk1; rw [data1_A]; try rfl) t d).trans
    (by unfold Dat.fetched Dat.blockOf blk1; rw [data1_A]; try rfl)
theorem data1_before3 (c : Dev nD) (t : Fin cfg1.N) (d) : (data1 V c).before 3 t d = blk1 V c 3 t :=
  ((data1 V c).before_in_eq_fetched 3 rfl (fun _ => rfl) (fun _ _ _ => rfl)
    (fun t => by rw [data1_after3]; unfold Dat.blockOf blk1; rw [data1_A]; try rfl) t d).trans
    (by unfold Dat.fetched Dat.blockOf blk1; rw [data1_A]; try rfl)
theorem data1_before4 (c : Dev nD) (t : Fin cfg1.N) (d) : (data1 V c).before 4 t d = blk1 V c 4 t :=
  ((data1 V c).before_in_eq_fetched 4 rfl (fun _ => rfl) (fun _ _ _ => rfl)
    (fun t => by rw [data1_after4]; unfold Dat.blockOf blk1; rw [data1_A]; try rfl) t d).trans
    (by unfold Dat.fetched Dat.blockOf blk1; rw [data1_A]; try rfl)
theorem data1_before5 (c : Dev nD) (t : Fin cfg1.N) (d) : (data1 V c).before 5 t d = blk1 V c 5 t :=
  ((data1 V c).before_in_eq_fetched 5 rfl (fun _ => rfl) (fun _ _ _ => rfl)
    (fun t => by rw [data1_after5]; unfold Dat.blockOf blk1; rw [data1_A]; try rfl) t d).trans
    (by unfold Dat.fetched Dat.blockOf blk1; rw [data1_A]; try rfl)
theorem data1_before6 (c : Dev nD) (t : Fin cfg1.N) (d) : (data1 V c).before 6 t d = blk1 V c 6 t :=
  ((data1 V c).before_in_eq_fetched 6 rfl (fun _ => rfl) (fun _ _ _ => rfl)
    (fun t => by rw [data1_after6]; unfold Dat.blockOf blk1; rw [data1_A]; try rfl) t d).trans
    (by unfold Dat.fetched Dat.blockOf blk1; rw [data1_A]; try rfl)

/-- The body at any grid point. -/
theorem body1 (c : Dev nD) (t : Fin cfg1.N) :
    iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d))
    ∗ (∃ d, owns (c : Thread nD τ) (st1_5 t) fullShare ((data1 V c).before 5 t d))
    ∗ (∃ d, owns (c : Thread nD τ) (st1_6 t) fullShare ((data1 V c).before 6 t d))
    ∗ (∃ d, owns (c : Thread nD τ) (st1_7 t) fullShare ((data1 V c).before 7 t d))
    ∗ (∃ d, owns (c : Thread nD τ) (st1_8 t) fullShare ((data1 V c).before 8 t d))
    ∗ (∃ d, owns (c : Thread nD τ) (st1_9 t) fullShare ((data1 V c).before 9 t d)))
    ⊢ wp frame (wpE (defs₀ (F := F)) Variants.none c none) Set.univ (bodyAt1 t) (fun _ =>
      iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t)
    ∗ owns (c : Thread nD τ) (st1_4 t) fullShare ((data1 V c).after 4 t)
    ∗ owns (c : Thread nD τ) (st1_5 t) fullShare ((data1 V c).after 5 t)
    ∗ owns (c : Thread nD τ) (st1_6 t) fullShare ((data1 V c).after 6 t)
    ∗ owns (c : Thread nD τ) (st1_7 t) fullShare ((data1 V c).after 7 t)
    ∗ owns (c : Thread nD τ) (st1_8 t) fullShare ((data1 V c).after 8 t)
    ∗ owns (c : Thread nD τ) (st1_9 t) fullShare ((data1 V c).after 9 t))) := by
  unfold bodyAt1
  simp only [data1_before0, data1_before1, data1_before2, data1_before3, data1_before4, data1_before5, data1_before6]
  rw [show (data1 V c).Φ t.succ = (data1 V c).Φ t.castSucc from rfl,
    show (data1 V c).owesAt () t.succ = (data1 V c).owesAt () t.castSucc from rfl,
    data1_after0, data1_after1, data1_after2, data1_after3, data1_after4, data1_after5, data1_after6, data1_after7, data1_after8, data1_after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound1 c Set.univ (grid1.coords t) _ _ _ _ _ _ _ _ _ _ _ _ _ _ _ _ _ _ _ _ (blk1 V c 0 t) (blk1 V c 1 t) (blk1 V c 2 t) (blk1 V c 3 t) (blk1 V c 4 t) (blk1 V c 5 t) (blk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem row1 (t : Fin cfg1.N) : defs₀ (F := F) .tc cfg1.body (cfg1.bodyArgs t (cfg1.slots t)) = bodyAt1 t := by
  unfold defs₀; rw [Defs.onTc_tc]

theorem obligation1 (c : Dev nD) : BodyObligation (data1 (F := F) V c) (defs₀ (F := F)) Variants.none () Set.univ := fun t => by
  rw [bigSep_W1, bigSep_W1, row1]
  exact triple_restated (body1 V c t) rfl .rfl fun _ => .rfl

end

end Cert.Stick
-- ==== Proof.SbMath.lean ====
/- Stick-breaking attention and its gradients over the reals, for one head, written with sums over ranges of natural numbers:
   the plain formulas, and what the blockwise kernels carry after some of their blocks. -/
module

public import Idealize.ShloMosaic.PureOps.Ideal.Laws

@[expose] public section

noncomputable section

namespace Cert.SbMath

open Finset

/-! ## The scalar functions -/

/-- `log (1 + exp x)`. -/
def sp (x : ℝ) : ℝ := Real.log (1 + Real.exp x)

/-- `exp x / (1 + exp x)`. -/
def sig (x : ℝ) : ℝ := Real.exp x / (1 + Real.exp x)

theorem one_add_exp_pos (x : ℝ) : 0 < 1 + Real.exp x := by positivity

theorem sp_split (x : ℝ) : max x 0 + Real.log (1 + Real.exp (-|x|)) = sp x := by
  unfold sp
  rcases le_total x 0 with h | h
  · rw [max_eq_right h, abs_of_nonpos h, neg_neg, zero_add]
  · rw [max_eq_left h, abs_of_nonneg h]
    have : 1 + Real.exp x = Real.exp x * (1 + Real.exp (-x)) := by
      rw [mul_add, mul_one, ← Real.exp_add, add_neg_cancel, Real.exp_zero, add_comm]
    rw [this, Real.log_mul (Real.exp_pos _).ne' (one_add_exp_pos _).ne', Real.log_exp]

theorem exp_sub_sp (x : ℝ) : Real.exp (x - sp x) = sig x := by
  unfold sp sig
  rw [Real.exp_sub, Real.exp_log (one_add_exp_pos x)]

theorem neg_sp_neg (x : ℝ) : -sp (-x) = x - sp x := by
  unfold sp
  have : 1 + Real.exp x = Real.exp x * (1 + Real.exp (-x)) := by
    rw [mul_add, mul_one, ← Real.exp_add, add_neg_cancel, Real.exp_zero, add_comm]
  rw [this, Real.log_mul (Real.exp_pos _).ne' (one_add_exp_pos _).ne', Real.log_exp]
  ring

theorem sig_neg (x : ℝ) : sig (-x) = 1 - sig x := by
  unfold sig
  have h := one_add_exp_pos x
  rw [Real.exp_neg]
  have hx := Real.exp_pos x
  field_simp
  ring

/-! ## One head -/

/-- The scaled queries, keys, values and cotangents of one head: row, then feature. -/
structure Head where
  q : ℕ → ℕ → ℝ
  k : ℕ → ℕ → ℝ
  v : ℕ → ℕ → ℝ
  g : ℕ → ℕ → ℝ

variable (H : Head)

namespace Head

/-- The score of row `t` at key `s`. -/
def z (t s : ℕ) : ℝ := ∑ d ∈ range 64, H.q t d * H.k s d
/-- The log of what row `t` keeps past key `s`. -/
def lk (t s : ℕ) : ℝ := if s < t then -sp (H.z t s) else 0
/-- The sum of the logs over the keys after `s`. -/
def rest (t s : ℕ) : ℝ := ∑ u ∈ Ico (s + 1) 8192, H.lk t u
/-- The weight of key `s` in row `t`. -/
def a (t s : ℕ) : ℝ := if s < t then Real.exp (H.z t s - sp (H.z t s) + H.rest t s) else 0
/-- The cotangent of the weight, times the weight. -/
def w (t s : ℕ) : ℝ := H.a t s * ∑ d ∈ range 64, H.g t d * H.v s d
/-- The cotangent of the score. -/
def dz (t s : ℕ) : ℝ := if s < t then H.w t s - (H.w t s + ∑ u ∈ range s, H.w t u) * sig (H.z t s) else 0
def o (t d : ℕ) : ℝ := ∑ s ∈ range 8192, H.v s d * H.a t s
def dq (t d : ℕ) : ℝ := ∑ s ∈ range 8192, H.k s d * H.dz t s
def dk (s d : ℕ) : ℝ := ∑ t ∈ range 8192, H.q t d * H.dz t s
def dv (s d : ℕ) : ℝ := ∑ t ∈ range 8192, H.g t d * H.a t s

theorem lk_of_le {t s : ℕ} (h : t ≤ s) : H.lk t s = 0 := if_neg (by omega)
theorem a_of_le {t s : ℕ} (h : t ≤ s) : H.a t s = 0 := if_neg (by omega)
theorem dz_of_le {t s : ℕ} (h : t ≤ s) : H.dz t s = 0 := if_neg (by omega)
theorem w_of_le {t s : ℕ} (h : t ≤ s) : H.w t s = 0 := by unfold w; rw [H.a_of_le h, zero_mul]

end Head

/-! ## Sums over blocks of 256 -/

theorem sum_block (f : ℕ → ℝ) (n : ℕ) : ∑ c : Fin 256, f (n * 256 + c.val) = ∑ s ∈ Ico (n * 256) ((n + 1) * 256), f s := by
  rw [Finset.sum_Ico_eq_sum_range, Fin.sum_univ_eq_sum_range (fun c => f (n * 256 + c)) 256]
  congr 1
  rw [show (n + 1) * 256 - n * 256 = 256 by omega]

theorem sum_block_gt (f : ℕ → ℝ) (n : ℕ) (c : ℕ) (hc : c < 256) :
    ∑ x : Fin 256, f (n * 256 + x.val) * (if c < x.val then 1 else 0) = ∑ s ∈ Ico (n * 256 + c + 1) ((n + 1) * 256), f s := by
  have h := sum_block (fun s => if n * 256 + c < s then f s else 0) n
  have e : ∑ s ∈ Ico (n * 256) ((n + 1) * 256), (if n * 256 + c < s then f s else 0) = ∑ s ∈ Ico (n * 256 + c + 1) ((n + 1) * 256), f s := by
    rw [← Finset.sum_filter]
    congr 1
    ext s; simp only [mem_filter, mem_Ico]; omega
  rw [e] at h
  rw [← h]
  refine Finset.sum_congr rfl fun x _ => ?_
  by_cases hx : c < x.val
  · rw [if_pos hx, if_pos (by omega), mul_one]
  · rw [if_neg hx, if_neg (by omega), mul_zero]

theorem sum_block_lt (f : ℕ → ℝ) (n : ℕ) (c : ℕ) (hc : c ≤ 256) :
    ∑ x : Fin 256, f (n * 256 + x.val) * (if x.val < c then 1 else 0) = ∑ s ∈ Ico (n * 256) (n * 256 + c), f s := by
  have h := sum_block (fun s => if s < n * 256 + c then f s else 0) n
  have e : ∑ s ∈ Ico (n * 256) ((n + 1) * 256), (if s < n * 256 + c then f s else 0) = ∑ s ∈ Ico (n * 256) (n * 256 + c), f s := by
    rw [← Finset.sum_filter]
    congr 1
    ext s; simp only [mem_filter, mem_Ico]; omega
  rw [e] at h
  rw [← h]
  refine Finset.sum_congr rfl fun x _ => ?_
  by_cases hx : x.val < c
  · rw [if_pos hx, if_pos (by omega), mul_one]
  · rw [if_neg hx, if_neg (by omega), mul_zero]

theorem sum_range_block (f : ℕ → ℝ) (n : ℕ) : ∑ s ∈ range ((n + 1) * 256), f s = ∑ s ∈ range (n * 256), f s + ∑ c : Fin 256, f (n * 256 + c.val) := by
  rw [sum_block, Finset.range_eq_Ico, Finset.range_eq_Ico, Finset.sum_Ico_consecutive _ (by omega) (by omega)]

/-- A sum whose terms vanish from `m` on may stop there. -/
theorem sum_Ico_of_zero (f : ℕ → ℝ) {l m n : ℕ} (hlm : l ≤ m) (hmn : m ≤ n) (h : ∀ s, m ≤ s → f s = 0) : ∑ s ∈ Ico l n, f s = ∑ s ∈ Ico l m, f s := by
  rw [← Finset.sum_Ico_consecutive f hlm hmn, Finset.sum_eq_zero (s := Ico m n) fun s hs => h s (mem_Ico.mp hs).1, add_zero]

/-- Once a later sum adds only zeros, it is the earlier one. -/
theorem sum_range_of_zero (f : ℕ → ℝ) {m n : ℕ} (hmn : m ≤ n) (h : ∀ s, m ≤ s → s < n → f s = 0) : ∑ s ∈ range n, f s = ∑ s ∈ range m, f s := by
  rw [Finset.range_eq_Ico, Finset.range_eq_Ico, ← Finset.sum_Ico_consecutive f (Nat.zero_le m) hmn,
    Finset.sum_eq_zero (s := Ico m n) fun s hs => h s (mem_Ico.mp hs).1 (mem_Ico.mp hs).2, add_zero]

namespace Head

/-! ## What the forward kernel carries: the blocks from the diagonal down -/

/-- The row total of the last `n` blocks up to block `i`. -/
def fc (i n t : ℕ) : ℝ := ∑ s ∈ Ico ((i + 1 - n) * 256) ((i + 1) * 256), H.lk t s
/-- The output so far. -/
def fo (i n t d : ℕ) : ℝ := ∑ s ∈ Ico ((i + 1 - n) * 256) ((i + 1) * 256), H.v s d * H.a t s

theorem fc_zero (i t : ℕ) : H.fc i 0 t = 0 := by unfold fc; simp
theorem fo_zero (i t d : ℕ) : H.fo i 0 t d = 0 := by unfold fo; simp

theorem fc_succ (i n t : ℕ) (h : n ≤ i) : H.fc i (n + 1) t = H.fc i n t + ∑ c : Fin 256, H.lk t ((i - n) * 256 + c.val) := by
  unfold fc
  rw [sum_block, show i + 1 - (n + 1) = i - n by omega, show i - n + 1 = i + 1 - n by omega,
    ← Finset.sum_Ico_consecutive _ (show (i - n) * 256 ≤ (i + 1 - n) * 256 by omega) (show (i + 1 - n) * 256 ≤ (i + 1) * 256 by omega)]
  exact add_comm _ _

theorem fo_succ (i n t d : ℕ) (h : n ≤ i) :
    H.fo i (n + 1) t d = H.fo i n t d + ∑ c : Fin 256, H.v ((i - n) * 256 + c.val) d * H.a t ((i - n) * 256 + c.val) := by
  unfold fo
  rw [sum_block (fun s => H.v s d * H.a t s), show i + 1 - (n + 1) = i - n by omega, show i - n + 1 = i + 1 - n by omega,
    ← Finset.sum_Ico_consecutive _ (show (i - n) * 256 ≤ (i + 1 - n) * 256 by omega) (show (i + 1 - n) * 256 ≤ (i + 1) * 256 by omega)]
  exact add_comm _ _

/-- The logs after key `s`, from the block's own part and what is carried. -/
theorem fc_rest (i n t : ℕ) (h : n ≤ i) (hi : i < 32) (ht : t ≤ (i + 1) * 256) (c : ℕ) (hc : c < 256) :
    (∑ x : Fin 256, H.lk t ((i - n) * 256 + x.val) * (if c < x.val then 1 else 0)) + H.fc i n t = H.rest t ((i - n) * 256 + c) := by
  unfold fc rest
  rw [sum_block_gt _ _ _ hc, show i - n + 1 = i + 1 - n by omega, Finset.sum_Ico_consecutive _ (by omega) (by omega)]
  exact (sum_Ico_of_zero _ (by omega) (by omega) fun s hs => H.lk_of_le (by omega)).symm

theorem fo_last (i t d : ℕ) (hi : i < 32) (ht : t < (i + 1) * 256) : H.fo i (i + 1) t d = H.o t d := by
  unfold fo o
  rw [show i + 1 - (i + 1) = 0 by omega, zero_mul, ← Finset.range_eq_Ico]
  exact (sum_range_of_zero _ (by omega) fun s hs _ => by rw [H.a_of_le (by omega), mul_zero]).symm

/-! ## What the backward kernel carries: the blocks up to the diagonal -/

/-- The row total of the first `n` blocks. -/
def bc (n t : ℕ) : ℝ := ∑ s ∈ range (n * 256), H.lk t s
/-- The weighted cotangents of the first `n` blocks. -/
def bw (n t : ℕ) : ℝ := ∑ s ∈ range (n * 256), H.w t s
/-- The query gradient so far. -/
def bq (n t d : ℕ) : ℝ := ∑ s ∈ range (n * 256), H.k s d * H.dz t s
/-- The key and value gradients of the first `m` rows. -/
def bk (m s d : ℕ) : ℝ := ∑ t ∈ range m, H.q t d * H.dz t s
def bv (m s d : ℕ) : ℝ := ∑ t ∈ range m, H.g t d * H.a t s

theorem fc_last (i t : ℕ) : H.fc i (i + 1) t = ∑ s ∈ range ((i + 1) * 256), H.lk t s := by
  unfold fc; rw [show i + 1 - (i + 1) = 0 by omega, zero_mul, ← Finset.range_eq_Ico]

theorem bc_zero (t : ℕ) : H.bc 0 t = 0 := by unfold bc; simp
theorem bw_zero (t : ℕ) : H.bw 0 t = 0 := by unfold bw; simp
theorem bq_zero (t d : ℕ) : H.bq 0 t d = 0 := by unfold bq; simp
theorem bk_zero (s d : ℕ) : H.bk 0 s d = 0 := by unfold bk; simp
theorem bv_zero (s d : ℕ) : H.bv 0 s d = 0 := by unfold bv; simp
theorem bc_succ (n t : ℕ) : H.bc (n + 1) t = H.bc n t + ∑ c : Fin 256, H.lk t (n * 256 + c.val) := sum_range_block _ n
theorem bw_succ (n t : ℕ) : H.bw (n + 1) t = H.bw n t + ∑ c : Fin 256, H.w t (n * 256 + c.val) := sum_range_block _ n
theorem bq_succ (n t d : ℕ) : H.bq (n + 1) t d = H.bq n t d + ∑ c : Fin 256, H.k (n * 256 + c.val) d * H.dz t (n * 256 + c.val) :=
  sum_range_block (fun s => H.k s d * H.dz t s) n
theorem bk_succ (i s d : ℕ) : H.bk ((i + 1) * 256) s d = H.bk (i * 256) s d + ∑ r : Fin 256, H.q (i * 256 + r.val) d * H.dz (i * 256 + r.val) s :=
  sum_range_block (fun t => H.q t d * H.dz t s) i
theorem bv_succ (i s d : ℕ) : H.bv ((i + 1) * 256) s d = H.bv (i * 256) s d + ∑ r : Fin 256, H.g (i * 256 + r.val) d * H.a (i * 256 + r.val) s :=
  sum_range_block (fun t => H.g t d * H.a t s) i

/-- Rows above a key add nothing to its gradient. -/
theorem bk_above (i s d : ℕ) (h : (i + 1) * 256 ≤ s) : H.bk ((i + 1) * 256) s d = H.bk (i * 256) s d := by
  unfold bk
  exact sum_range_of_zero _ (by omega) fun t _ ht => by rw [H.dz_of_le (by omega), mul_zero]
theorem bv_above (i s d : ℕ) (h : (i + 1) * 256 ≤ s) : H.bv ((i + 1) * 256) s d = H.bv (i * 256) s d := by
  unfold bv
  exact sum_range_of_zero _ (by omega) fun t _ ht => by rw [H.a_of_le (by omega), mul_zero]

theorem bk_last (s d : ℕ) : H.bk (32 * 256) s d = H.dk s d := rfl
theorem bv_last (s d : ℕ) : H.bv (32 * 256) s d = H.dv s d := rfl

theorem bq_last (i t d : ℕ) (hi : i < 32) (ht : t < (i + 1) * 256) : H.bq (i + 1) t d = H.dq t d := by
  unfold bq dq
  exact (sum_range_of_zero _ (by omega) fun s hs _ => by rw [H.dz_of_le (by omega), mul_zero]).symm

/-- The logs after key `s`: the row total less what came before and the block's own part up to `s`. -/
theorem bc_rest (i n t : ℕ) (h : n ≤ i) (hi : i < 32) (ht : t ≤ (i + 1) * 256) (c : ℕ) (hc : c < 256) :
    H.fc i (i + 1) t - H.bc n t - (∑ x : Fin 256, H.lk t (n * 256 + x.val) * (if x.val < c + 1 then 1 else 0)) = H.rest t (n * 256 + c) := by
  rw [fc_last]
  unfold bc rest
  rw [sum_block_lt _ _ _ (by omega)]
  have e1 : ∑ s ∈ range ((i + 1) * 256), H.lk t s
      = ∑ s ∈ range (n * 256), H.lk t s + (∑ s ∈ Ico (n * 256) (n * 256 + (c + 1)), H.lk t s + ∑ s ∈ Ico (n * 256 + (c + 1)) ((i + 1) * 256), H.lk t s) := by
    have : n * 256 + 256 ≤ (i + 1) * 256 := by omega
    rw [Finset.sum_Ico_consecutive _ (by omega) (by omega), Finset.range_eq_Ico, Finset.range_eq_Ico, Finset.sum_Ico_consecutive _ (by omega) (by omega)]
  rw [e1, sum_Ico_of_zero _ (l := n * 256 + c + 1) (m := (i + 1) * 256) (n := 8192) (by omega) (by omega) fun s hs => H.lk_of_le (by omega)]
  rw [← add_assoc (n * 256) c 1]
  ring

/-- The weighted cotangents before key `s`. -/
theorem bw_before (n t : ℕ) (c : ℕ) (hc : c < 256) :
    H.bw n t + (∑ x : Fin 256, H.w t (n * 256 + x.val) * (if x.val < c then 1 else 0)) = ∑ u ∈ range (n * 256 + c), H.w t u := by
  unfold bw
  rw [sum_block_lt _ _ _ (by omega), Finset.range_eq_Ico, Finset.range_eq_Ico, Finset.sum_Ico_consecutive _ (by omega) (by omega)]

end Head

end Cert.SbMath
-- ==== Proof.SbFwdTile.lean ====
/- The forward kernel's trip on real blocks: each value the trip forms, read at an index, is the real formula of one head. -/
module

public import proofs.«01_k».proof.Proof.SbPoint
public import proofs.«01_k».proof.Proof.SbMath
public import Idealize.ShloMosaic.Lib.Pointwise
public import Idealize.ShloMosaic.Lib.WordCmp

@[expose] public section

set_option maxRecDepth 16384

noncomputable section

namespace Cert.Stick

open Idealize.ShloMosaic Idealize.ShloMosaic.TcCoe
open Cert.SbIdeal Cert.SbIdeal.Gen Cert.SbMath

/-! ## Scalars -/

theorem sum_coe {ι : Type} (s : Finset ι) (f : ι → ℝ) : ∑ i ∈ s, (f i : EReal) = ((∑ i ∈ s, f i : ℝ) : EReal) := by
  induction s using Finset.cons_induction with
  | empty => rfl
  | cons a s ha ih => rw [Finset.sum_cons, Finset.sum_cons, EReal.coe_add, ih]

theorem ite_coe (p : Prop) [Decidable p] (a b : ℝ) : (if p then (a : EReal) else (b : EReal)) = ((if p then a else b : ℝ) : EReal) := by
  split <;> rfl

/-- The softplus as the kernel forms it. -/
theorem softplus_coe (x : ℝ) : max (x : EReal) 0 + Ideal.log (1 + Ideal.exp (0 - max (x : EReal) (-(x : EReal)))) = (sp x : EReal) := by
  have e : max (x : EReal) (-(x : EReal)) = ((|x| : ℝ) : EReal) := by
    rw [← EReal.coe_neg, abs_eq_max_neg, EReal.coe_strictMono.monotone.map_max]
  rw [e, zero_sub, ← EReal.coe_neg, Ideal.exp_coe, ← EReal.coe_one, ← EReal.coe_add, Ideal.log_coe,
    if_neg (not_le.mpr (one_add_exp_pos _)), ← EReal.coe_zero, ← EReal.coe_strictMono.monotone.map_max, ← EReal.coe_add, sp_split]

/-- A bit made of a proposition. -/
def bit (p : Prop) [Decidable p] : BitVec 1 := if p then 1 else 0
theorem select_bit {α : Type} (p : Prop) [Decidable p] (a b : α) : Scalar.select (bit p) a b = if p then a else b := by
  unfold Scalar.select bit; by_cases h : p <;> simp [h]
theorem ori_bit (p q : Prop) [Decidable p] [Decidable q] : IntOp.ori (bit p) (bit q) = bit (p ∨ q) := by
  unfold IntOp.ori bit; by_cases hp : p <;> by_cases hq : q <;> simp [hp, hq]
theorem slt_bit (a b : Fin 256) : IntOp.cmpi .slt (BitVec.ofNat 32 a.val) (BitVec.ofNat 32 b.val) = bit (a.val < b.val) := by
  rw [WordCmp.cmpi_slt_ofNat (by omega) (by omega)]; unfold bit; by_cases h : a.val < b.val <;> simp [h]
theorem sgt_bit (a b : Fin 256) : IntOp.cmpi .sgt (BitVec.ofNat 32 a.val) (BitVec.ofNat 32 b.val) = bit (b.val < a.val) :=
  (show _ = IntOp.cmpi .slt (BitVec.ofNat 32 b.val) (BitVec.ofNat 32 a.val) from rfl).trans (slt_bit b a)
theorem sle_bit (a b : Fin 256) : IntOp.cmpi .sle (BitVec.ofNat 32 a.val) (BitVec.ofNat 32 b.val) = bit (a.val ≤ b.val) := by
  rw [WordCmp.cmpi_sle_ofNat (by omega) (by omega)]; unfold bit; by_cases h : a.val ≤ b.val <;> simp [h]
/-- The bit read as a number. -/
theorem sitofp_bit (p : Prop) [Decidable p] : (FloatOps.sitofp .f32 ((bit p).setWidth 32) : Ideal .f32) = ((if p then 1 else 0 : ℝ) : EReal) := by
  unfold bit
  by_cases h : p
  · simp only [h, if_true]
    exact (show (FloatOps.sitofp .f32 ((1 : BitVec 1).setWidth 32) : Ideal .f32) = (((1 : ℤ) : ℝ) : EReal) from rfl).trans (by norm_num)
  · simp only [h, if_false]
    exact (show (FloatOps.sitofp .f32 ((0 : BitVec 1).setWidth 32) : Ideal .f32) = (((0 : ℤ) : ℝ) : EReal) from rfl).trans (by norm_num)

/-! ## The trip's blocks -/

theorem trips2 : ∀ i : Fin k0_t1_loop.trips, (k0_t2_loop i).trips = i.val + 1 := by decide +kernel
theorem keyBlock0 : ∀ (i : Fin k0_t1_loop.trips) (j : Fin (k0_t2_loop i).trips), k0_off2 i j = ![0, i.val - j.val, 0, 0] := by decide +kernel
theorem maskBit0 : ∀ (i : Fin k0_t1_loop.trips) (j : Fin (k0_t2_loop i).trips),
    Scalar.cmpi .slt (Scalar.subi (Scf.iv 0#32 1#32 i) (Scf.iv 0#32 1#32 j)) (Scf.iv 0#32 1#32 i) = bit (0 < j.val) := by decide +kernel

theorem tri0 (x c : Fin 256) : (k0_pay1 (F := Ideal)) (ix2 x c) = ((if c.val < x.val then 1 else 0 : ℝ) : EReal) := by
  pointwise [k0_pay1]
  rw [sgt_bit]
  exact sitofp_bit _

section
variable (H : Head) (i : Fin k0_t1_loop.trips) (j : Fin (k0_t2_loop i).trips)

/-- An entry lies in the mask exactly when its key comes before its row. -/
theorem mask0 (r c : Fin 256) : k0_pay12 k0_pay2 i (Scf.iv 0#32 1#32 i) 0#32 1#32 j (ix2 r c) = bit ((i.val - j.val) * 256 + c.val < i.val * 256 + r.val) := by
  have hj := lt_of_lt_of_eq j.isLt (trips2 i)
  unfold k0_pay12
  pointwise [k0_pay2]
  rw [maskBit0 i j, slt_bit, ori_bit]
  unfold bit
  congr 1
  apply propext
  constructor
  · rintro (h | h) <;> [skip; skip] <;> omega
  · intro h
    by_cases hz : j.val = 0
    · right; omega
    · left; omega

variable (Q : FVec Ideal S256x64 .bf16) (K V : Vec Ideal S1x1x64x256 .bf16)
  (hQ : ∀ (r : Fin 256) (d : Fin 64), Q (ix2 r d) = (H.q (i.val * 256 + r.val) d.val : EReal))
  (hK : ∀ (d : Fin 64) (c : Fin 256), K (ix4 0 0 d c) = (H.k ((i.val - j.val) * 256 + c.val) d.val : EReal))
  (hV : ∀ (d : Fin 64) (c : Fin 256), V (ix4 0 0 d c) = (H.v ((i.val - j.val) * 256 + c.val) d.val : EReal))

include hQ hK in
theorem score0 (r c : Fin 256) : k0_pay10 Q K (ix2 r c) = (H.z (i.val * 256 + r.val) ((i.val - j.val) * 256 + c.val) : EReal) := by
  pointwise [k0_pay10]
  simp only [hQ, hK, zero_add, ← EReal.coe_mul, sum_coe]
  unfold Head.z
  rw [Finset.sum_range]

include hQ hK in
theorem soft0 (r c : Fin 256) : k0_pay11 Q K (ix2 r c) = (sp (H.z (i.val * 256 + r.val) ((i.val - j.val) * 256 + c.val)) : EReal) := by
  pointwise [k0_pay11]
  rw [score0 H i j Q K hQ hK]
  exact softplus_coe _

include hQ hK in
theorem log0 (r c : Fin 256) : k0_pay13 k0_pay2 i (Scf.iv 0#32 1#32 i) Q 0#32 1#32 j K (ix2 r c)
    = (H.lk (i.val * 256 + r.val) ((i.val - j.val) * 256 + c.val) : EReal) := by
  pointwise [k0_pay13]
  rw [mask0, select_bit, soft0 H i j Q K hQ hK, zero_sub, ← EReal.coe_neg, ← EReal.coe_zero, ite_coe]
  rfl

include hQ hK in
/-- The row totals with the block added. -/
theorem total0 (C : FVec Ideal S256x1 .f32) (n : ℕ) (hn : n = j.val)
    (hC : ∀ r : Fin 256, C (ix2 r 0) = (H.fc i.val n (i.val * 256 + r.val) : EReal)) (r : Fin 256) :
    k0_pay6 C (k0_pay13 k0_pay2 i (Scf.iv 0#32 1#32 i) Q 0#32 1#32 j K) (ix2 r 0) = (H.fc i.val (n + 1) (i.val * 256 + r.val) : EReal) := by
  have hj := lt_of_lt_of_eq j.isLt (trips2 i)
  subst hn
  pointwise [k0_pay6]
  simp only [log0 H i j Q K hQ hK, hC, sum_coe, ← EReal.coe_add]
  rw [H.fc_succ _ _ _ (by omega)]

include hQ hK hV in
/-- The output with the block added. -/
theorem outTrip0 (C : FVec Ideal S256x1 .f32) (O : FVec Ideal S64x256 .f32) (n : ℕ) (hn : n = j.val)
    (hC : ∀ r : Fin 256, C (ix2 r 0) = (H.fc i.val n (i.val * 256 + r.val) : EReal))
    (hO : ∀ (d : Fin 64) (r : Fin 256), O (ix2 d r) = (H.fo i.val n (i.val * 256 + r.val) d.val : EReal)) (d : Fin 64) (r : Fin 256) :
    k0_pay14 k0_pay1 k0_pay2 i (Scf.iv 0#32 1#32 i) Q 0#32 1#32 j C O K V (ix2 d r) = (H.fo i.val (n + 1) (i.val * 256 + r.val) d.val : EReal) := by
  have hj := lt_of_lt_of_eq j.isLt (trips2 i)
  have hi : i.val < 32 := lt_of_lt_of_eq i.isLt (by decide +kernel)
  subst hn
  pointwise [k0_pay14]
  simp only [log0 H i j Q K hQ hK, score0 H i j Q K hQ hK, soft0 H i j Q K hQ hK, mask0, select_bit, hC, hO, hV, tri0, ← EReal.coe_sub, sub_self, ← EReal.coe_mul, zero_mul,
    EReal.coe_zero, zero_add, sum_coe, Finset.sum_const_zero, add_zero, ← EReal.coe_add]
  rw [H.fo_succ _ _ _ _ (by omega), EReal.coe_add, ← sum_coe]
  refine congrArg (_ + ·) (Finset.sum_congr rfl fun x _ => ?_)
  rw [H.fc_rest i.val j.val _ (by omega) hi (by omega) x.val x.isLt, Ideal.exp_coe, ← EReal.coe_mul, ← EReal.coe_zero, ite_coe]
  unfold Head.a
  rw [mul_ite, mul_zero]

end

/-! ## The loop -/

section
variable (H : Head) (x1 : Vec Ideal S1x32x256x64 .bf16) (x2 x3 : Vec Ideal S1x32x64x256 .bf16)
  (h1 : ∀ (b : Fin 32) (r : Fin 256) (d : Fin 64), x1 (ix4 0 b r d) = (H.q (b.val * 256 + r.val) d.val : EReal))
  (h2 : ∀ (b : Fin 32) (d : Fin 64) (c : Fin 256), x2 (ix4 0 b d c) = (H.k (b.val * 256 + c.val) d.val : EReal))
  (h3 : ∀ (b : Fin 32) (d : Fin 64) (c : Fin 256), x3 (ix4 0 b d c) = (H.v (b.val * 256 + c.val) d.val : EReal))

theorem trip_lt0 (i : Fin k0_t1_loop.trips) : i.val < 32 := lt_of_lt_of_eq i.isLt (by decide +kernel)

theorem rows0_at (i : Fin k0_t1_loop.trips) (r : Fin 256) (d : Fin 64) : fwdQ x1 i (ix4 0 0 r d) = x1 (ix4 0 ⟨i.val, trip_lt0 i⟩ r d) := by
  unfold fwdQ View.ld
  refine congrArg x1 (funext fun a => Fin.ext ?_)
  have e := k0_off1_eq i
  fin_cases a <;> simp [e]

theorem keys0_at (x : Vec Ideal S1x32x64x256 .bf16) (i : Fin k0_t1_loop.trips) (j : Fin (k0_t2_loop i).trips) (d : Fin 64) (c : Fin 256) :
    fwdK x i j (ix4 0 0 d c) = x (ix4 0 ⟨i.val - j.val, lt_of_le_of_lt (Nat.sub_le _ _) (trip_lt0 i)⟩ d c) := by
  unfold fwdK View.ld
  refine congrArg x (funext fun a => Fin.ext ?_)
  have e := keyBlock0 i j
  fin_cases a <;> simp [e]

include h1 h2 h3 in
/-- What the inner loop carries before trip `n`. -/
theorem carried0 (i : Fin k0_t1_loop.trips) : ∀ n : ℕ, n ≤ i.val + 1 →
    (∀ r : Fin 256, (fwdSt x1 x2 x3 i n).1 (ix2 r 0) = (H.fc i.val n (i.val * 256 + r.val) : EReal))
    ∧ ∀ (d : Fin 64) (r : Fin 256), (fwdSt x1 x2 x3 i n).2 (ix2 d r) = (H.fo i.val n (i.val * 256 + r.val) d.val : EReal)
  | 0, _ => by
    refine ⟨fun r => ?_, fun d r => ?_⟩
    · rw [H.fc_zero]; unfold fwdSt; pointwise [k0_pay4]; rfl
    · rw [H.fo_zero]; unfold fwdSt; pointwise [k0_pay5]; rfl
  | n + 1, hn => by
    have hj : n < (k0_t2_loop i).trips := lt_of_lt_of_eq (by omega) (trips2 i).symm
    obtain ⟨ihC, ihO⟩ := carried0 i n (by omega)
    have hQ : ∀ (r : Fin 256) (d : Fin 64), k0_pay3 (fwdQ x1 i) (ix2 r d) = (H.q (i.val * 256 + r.val) d.val : EReal) := fun r d => by
      pointwise [k0_pay3]
      rw [rows0_at, h1]
    have hK : ∀ (d : Fin 64) (c : Fin 256), fwdK x2 i ⟨n, hj⟩ (ix4 0 0 d c) = (H.k ((i.val - n) * 256 + c.val) d.val : EReal) := fun d c => by
      rw [keys0_at, h2]
    have hV : ∀ (d : Fin 64) (c : Fin 256), fwdK x3 i ⟨n, hj⟩ (ix4 0 0 d c) = (H.v ((i.val - n) * 256 + c.val) d.val : EReal) := fun d c => by
      rw [keys0_at, h3]
    rw [fwdSt, dif_pos hj]
    unfold fwdStep
    exact ⟨fun r => total0 H i ⟨n, hj⟩ _ _ hQ hK _ n rfl ihC r, fun d r => outTrip0 H i ⟨n, hj⟩ _ _ _ hQ hK hV _ _ n rfl ihC ihO d r⟩

include h1 h2 h3 in
/-- The attention output of the head, -/
theorem fwdOut_real (b : Fin 32) (d : Fin 64) (c : Fin 256) : fwdOut x1 x2 x3 (ix4 0 b d c) = (H.o (b.val * 256 + c.val) d.val : EReal) := by
  have hb := b.isLt
  have h := (carried0 H x1 x2 x3 h1 h2 h3 (tripOf0 b) (b.val + 1) le_rfl).2 d c
  unfold fwdOut
  rw [show (ix4 0 b d c : S1x32x64x256.Idx) 1 = b from rfl, trips2]
  refine Eq.trans ?_ (h.trans (congrArg _ (H.fo_last b.val _ d.val b.isLt (by show b.val * 256 + c.val < _; omega))))
  pointwise [k0_pay8]
  rfl

include h1 h2 h3 in
/-- and its row totals. -/
theorem fwdTot_real (b : Fin 32) (r : Fin 256) : fwdTot x1 x2 x3 (ix4 0 b r 0) = (H.fc b.val (b.val + 1) (b.val * 256 + r.val) : EReal) := by
  have h := (carried0 H x1 x2 x3 h1 h2 h3 (tripOf0 b) (b.val + 1) le_rfl).1 r
  unfold fwdTot
  rw [show (ix4 0 b r 0 : S1x32x256x1.Idx) 1 = b from rfl, trips2]
  refine Eq.trans ?_ h
  pointwise [k0_pay9]
  rfl

end

end Cert.Stick
-- ==== Proof.SbScan.lean ====
/- Running sums of real rows: what a window sum over a whole row, padded on one side, holds at an index. -/
module

public import proofs.«01_k».proof.Proof.SbFwdTile
public import Idealize.ShloMosaic.Lib.Claim
public import Idealize.ShloMosaic.Lib.KernelVsHost
public import Idealize.ShloMosaic.Lib.Pipeline.ValueKit

@[expose] public section

noncomputable section

namespace Cert.Stick

open Idealize.ShloMosaic Idealize.ShloMosaic.TcCoe

theorem foldl_add_sum {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

theorem row_index {N : ℕ} (y : (⟨3, ![1, 1, N]⟩ : Shape).Idx) : ∃ n : Fin N, (ix3 (0 : Fin 1) (0 : Fin 1) n : (⟨3, ![1, 1, N]⟩ : Shape).Idx) = y := by
  refine ⟨y 2, funext fun i => Fin.ext ?_⟩
  match i with
  | ⟨0, _⟩ => have : (y 0).val < 1 := (y 0).isLt; show 0 = (y 0).val; omega
  | ⟨1, _⟩ => have : (y 1).val < 1 := (y 1).isLt; show 0 = (y 1).val; omega
  | ⟨2, _⟩ => rfl

/-- The positions of a window of one plane, one row and `N` columns are its `N` columns. -/
theorem sum_window_row {N : ℕ} (g : (⟨3, ![1, 1, N]⟩ : Shape).Idx → EReal) : ∑ w, g w = ∑ n : Fin N, g (ix3 (0 : Fin 1) (0 : Fin 1) n) := by
  refine (Function.Bijective.sum_comp (e := fun n : Fin N => (ix3 (0 : Fin 1) (0 : Fin 1) n : (⟨3, ![1, 1, N]⟩ : Shape).Idx)) ⟨fun a b h => ?_, fun y => ?_⟩ g).symm
  · exact congrFun h 2
  · exact row_index y

theorem window_row {A B N lo hi : ℕ} (x : FVec Ideal (⟨3, ![A, B, N]⟩ : Shape) .f32) {u : Shape} (init : FVec Ideal u .f32)
    (h : (⟨3, ![A, B, N]⟩ : Shape).ReduceWindows (![1, 1, N] : Fin 3 → ℕ) ![1, 1, 1] ![0, 0, lo] ![0, 0, hi] (⟨3, ![A, B, N]⟩ : Shape)) (hu : 0 < u.numel)
    (a : Fin A) (b : Fin B) (c : Fin N) (f : ℕ → ℝ) (hx : ∀ s : Fin N, x (ix3 a b s) = (f s.val : EReal)) (h0 : ∀ i, init i = 0) :
    (Host.reduceWindowAdd ![1, 1, N] ![1, 1, 1] ![0, 0, lo] ![0, 0, hi] x init h hu : FVec Ideal (⟨3, ![A, B, N]⟩ : Shape) .f32) (ix3 a b c)
      = ((∑ n ∈ Finset.range N, if lo ≤ c.val + n ∧ c.val + n - lo < N then f (c.val + n - lo) else 0 : ℝ) : EReal) := by
  change Host.reduceWindow (· + ·) ![1, 1, N] ![1, 1, 1] ![0, 0, lo] ![0, 0, hi] x (fun _ : (⟨0, ![]⟩ : Shape).Idx => init (Shape.Idx.first hu)) h (by decide) (ix3 a b c) = _
  unfold Host.reduceWindow
  simp only [h0]
  rw [foldl_add_sum, zero_add, ← Fin.sum_univ_def]
  have key : ∀ w : (⟨3, ![1, 1, N]⟩ : Shape).Idx,
      (if hin : ∀ i : Fin 3, (![0, 0, lo] : Fin 3 → ℕ) i ≤ ((ix3 a b c : (⟨3, ![A, B, N]⟩ : Shape).Idx) (i.cast h.1.symm)).val * (![1, 1, 1] : Fin 3 → ℕ) i + (w i).val
          ∧ ((ix3 a b c : (⟨3, ![A, B, N]⟩ : Shape).Idx) (i.cast h.1.symm)).val * (![1, 1, 1] : Fin 3 → ℕ) i + (w i).val - (![0, 0, lo] : Fin 3 → ℕ) i < (⟨3, ![A, B, N]⟩ : Shape).size i
        then x (fun i => ⟨_, (hin i).2⟩) else 0)
      = ((if lo ≤ c.val + (w 2).val ∧ c.val + (w 2).val - lo < N then f (c.val + (w 2).val - lo) else 0 : ℝ) : EReal) := by
    intro w
    obtain ⟨w2, rfl⟩ := row_index w
    change _ = ((if lo ≤ c.val + w2.val ∧ c.val + w2.val - lo < N then f (c.val + w2.val - lo) else 0 : ℝ) : EReal)
    by_cases hc : lo ≤ c.val + w2.val ∧ c.val + w2.val - lo < N
    · have hin : ∀ i : Fin 3, (![0, 0, lo] : Fin 3 → ℕ) i ≤ ((ix3 a b c : (⟨3, ![A, B, N]⟩ : Shape).Idx) (i.cast h.1.symm)).val * (![1, 1, 1] : Fin 3 → ℕ) i + ((ix3 (0 : Fin 1) (0 : Fin 1) w2 : (⟨3, ![1, 1, N]⟩ : Shape).Idx) i).val
          ∧ ((ix3 a b c : (⟨3, ![A, B, N]⟩ : Shape).Idx) (i.cast h.1.symm)).val * (![1, 1, 1] : Fin 3 → ℕ) i + ((ix3 (0 : Fin 1) (0 : Fin 1) w2 : (⟨3, ![1, 1, N]⟩ : Shape).Idx) i).val - (![0, 0, lo] : Fin 3 → ℕ) i < (⟨3, ![A, B, N]⟩ : Shape).size i := by
        intro i
        match i with
        | ⟨0, _⟩ => exact ⟨Nat.zero_le _, by show a.val * 1 + 0 - 0 < A; omega⟩
        | ⟨1, _⟩ => exact ⟨Nat.zero_le _, by show b.val * 1 + 0 - 0 < B; omega⟩
        | ⟨2, _⟩ => exact ⟨by show lo ≤ c.val * 1 + w2.val; omega, by show c.val * 1 + w2.val - lo < N; omega⟩
      rw [dif_pos hin, if_pos hc, ← hx ⟨c.val + w2.val - lo, hc.2⟩]
      refine congrArg x (funext fun i => Fin.ext ?_)
      match i with
      | ⟨0, _⟩ => show a.val * 1 + 0 - 0 = a.val; omega
      | ⟨1, _⟩ => show b.val * 1 + 0 - 0 = b.val; omega
      | ⟨2, _⟩ => show c.val * 1 + w2.val - lo = c.val + w2.val - lo; omega
    · rw [dif_neg fun hin => hc ?_, if_neg hc]
      · rfl
      · have := hin 2
        change lo ≤ c.val * 1 + w2.val ∧ c.val * 1 + w2.val - lo < N at this
        omega
  refine ((⟨3, ![1, 1, N]⟩ : Shape).rowMajor.symm.sum_comp _).trans ((Finset.sum_congr rfl fun w _ => key w).trans ?_)
  rw [sum_window_row, sum_coe]
  exact congrArg _ (Fin.sum_univ_eq_sum_range (fun n => if lo ≤ c.val + n ∧ c.val + n - lo < N then f (c.val + n - lo) else 0) N)

/-- Padded on the right: the sum from the index on. -/
theorem window_after {N : ℕ} (f : ℕ → ℝ) (c : ℕ) :
    (∑ n ∈ Finset.range N, if 0 ≤ c + n ∧ c + n - 0 < N then f (c + n - 0) else 0) = ∑ s ∈ Finset.Ico c N, f s := by
  rw [Finset.sum_Ico_eq_sum_range, ← Finset.sum_filter]
  refine Finset.sum_congr ?_ fun n _ => rfl
  ext n; simp only [Finset.mem_filter, Finset.mem_range]; omega

/-- Padded on the left: the sum up to the index. -/
theorem window_upto {M N : ℕ} (hN : N = M + 1) (f : ℕ → ℝ) (c : ℕ) (hc : c ≤ M) :
    (∑ n ∈ Finset.range N, if M ≤ c + n ∧ c + n - M < N then f (c + n - M) else 0) = ∑ s ∈ Finset.range (c + 1), f s := by
  rw [← Finset.sum_filter]
  refine Finset.sum_nbij' (fun n => c + n - M) (fun s => s + M - c) ?_ ?_ ?_ ?_ ?_
  · intro n hn; simp only [Finset.mem_filter, Finset.mem_range] at hn ⊢; omega
  · intro s hs; simp only [Finset.mem_filter, Finset.mem_range] at hs ⊢; omega
  · intro n hn; simp only [Finset.mem_filter, Finset.mem_range] at hn; show c + n - M + M - c = n; omega
  · intro s hs; simp only [Finset.mem_range] at hs; show c + (s + M - c) - M = s; omega
  · intro n hn; rfl

/-- The running sum up to an index. -/
theorem window_left {A B M N : ℕ} (hN : N = M + 1) (x : FVec Ideal (⟨3, ![A, B, N]⟩ : Shape) .f32) {u : Shape} (init : FVec Ideal u .f32)
    (h : (⟨3, ![A, B, N]⟩ : Shape).ReduceWindows (![1, 1, N] : Fin 3 → ℕ) ![1, 1, 1] ![0, 0, M] ![0, 0, 0] (⟨3, ![A, B, N]⟩ : Shape)) (hu : 0 < u.numel)
    (a : Fin A) (b : Fin B) (c : Fin N) (f : ℕ → ℝ) (hx : ∀ s : Fin N, x (ix3 a b s) = (f s.val : EReal)) (h0 : ∀ i, init i = 0) :
    (Host.reduceWindowAdd ![1, 1, N] ![1, 1, 1] ![0, 0, M] ![0, 0, 0] x init h hu : FVec Ideal (⟨3, ![A, B, N]⟩ : Shape) .f32) (ix3 a b c)
      = ((∑ s ∈ Finset.range (c.val + 1), f s : ℝ) : EReal) :=
  (window_row x init h hu a b c f hx h0).trans (congrArg (fun x : ℝ => (x : EReal)) (window_upto hN f c.val (by omega)))

/-! ## A row made of all but one entry of another -/

theorem concat_last {A B M N : ℕ} {α : Type} (x : (⟨3, ![A, B, M]⟩ : Shape).Idx → α) (y : (⟨3, ![A, B, 1]⟩ : Shape).Idx → α)
    (h : Shape.Concatenates [(⟨3, ![A, B, M]⟩ : Shape), (⟨3, ![A, B, 1]⟩ : Shape)] (⟨3, ![A, B, N]⟩ : Shape) 2) (hN : N = M + 1) (a : Fin A) (b : Fin B) (s : Fin N) :
    concatenate (⟨3, ![A, B, N]⟩ : Shape) 2 [⟨(⟨3, ![A, B, M]⟩ : Shape), x⟩, ⟨(⟨3, ![A, B, 1]⟩ : Shape), y⟩] h (ix3 a b s)
      = if hs : s.val < M then x (ix3 a b ⟨s.val, hs⟩) else y (ix3 a b 0) := by
  by_cases hs : s.val < M
  · rw [dif_pos hs]
    refine concatenate_pair_apply_left (t := ⟨3, ![A, B, N]⟩) (s₁ := ⟨3, ![A, B, M]⟩) (s₂ := ⟨3, ![A, B, 1]⟩) 2 x y h (ix3 a b s) rfl (ix3 a b ⟨s.val, hs⟩) fun i => ?_
    match i with
    | ⟨0, _⟩ => rfl
    | ⟨1, _⟩ => rfl
    | ⟨2, _⟩ => rfl
  · rw [dif_neg hs]
    refine concatenate_pair_apply_right (t := ⟨3, ![A, B, N]⟩) (s₁ := ⟨3, ![A, B, M]⟩) (s₂ := ⟨3, ![A, B, 1]⟩) 2 x y h (ix3 a b s) rfl rfl (ix3 a b 0) (fun i hi => ?_) ?_
    · match i with
      | ⟨0, _⟩ => rfl
      | ⟨1, _⟩ => rfl
      | ⟨2, _⟩ => exact absurd rfl hi
    · show 0 + M = s.val
      omega

theorem pad_first {A B M N : ℕ} {α : Type} (x : (⟨3, ![A, B, M]⟩ : Shape).Idx → α) {u : Shape} (v : u.Idx → α)
    (h : (⟨3, ![A, B, M]⟩ : Shape).Pads (![0, 0, 1] : Fin 3 → ℕ) ![0, 0, 0] ![0, 0, 0] (⟨3, ![A, B, N]⟩ : Shape)) (hu : 0 < u.numel) (hN : N = M + 1)
    (a : Fin A) (b : Fin B) (s : Fin N) :
    pad (⟨3, ![A, B, N]⟩ : Shape) ![0, 0, 1] ![0, 0, 0] ![0, 0, 0] x v h hu (ix3 a b s)
      = if hs : s.val = 0 then v (Shape.Idx.first hu) else x (ix3 a b ⟨s.val - 1, by omega⟩) := by
  by_cases hs : s.val = 0
  · rw [dif_pos hs]
    refine pad_apply_of_not_inside (s := ⟨3, ![A, B, M]⟩) _ _ _ _ _ _ _ _ 2 ?_
    rintro ⟨h1, -⟩
    change 1 ≤ s.val at h1
    omega
  · rw [dif_neg hs]
    refine pad_apply_of_inside (s := ⟨3, ![A, B, M]⟩) _ _ _ _ _ _ _ _ (ix3 a b ⟨s.val - 1, by omega⟩) fun i => ?_
    match i with
    | ⟨0, _⟩ => show a.val = 0 + a.val * 1; omega
    | ⟨1, _⟩ => show b.val = 0 + b.val * 1; omega
    | ⟨2, _⟩ => show s.val = 1 + (s.val - 1) * 1; omega

end Cert.Stick
-- ==== Proof.SbRun.lean ====
/- The program of the two stick-breaking kernels run from its launch: the forward kernel's region, the host operations between,
   the backward kernel's region. One text for any float type: the arguments end as launched, every semaphore at zero, and the four
   results are the arrays the two pipelines leave. -/
module

public import proofs.«01_k».proof.Proof.Gen.SbIdeal.Regions
public import proofs.«01_k».proof.Proof.SbPoint

@[expose] public section

set_option maxRecDepth 16384

noncomputable section

namespace Cert.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SbIdeal Cert.SbIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the boundaries of the segments -/

/-- The buffers at launch. -/
abbrev vals0 (c : Dev nD) : Valuation τ sig (Elt F) := fun b => m (c, b)
/-- The buffers when the forward kernel is entered. -/
abbrev vals1 (c : Dev nD) : Valuation τ sig (Elt F) := StableHlo.after hostOps0 (vals0 m c)
abbrev in0 : (c : Dev nD) → (b : Ref sig .tc) → Buf (Elt F) ((c : Thread nD τ).loc b) := fun c b => vals1 m c b
/-- The buffers when the forward kernel is left. -/
def vals2 (c : Dev nD) : Valuation τ sig (Elt F) := Pipeline.withArrays spec0 c (vals1 m c) fun w => (data0 (in0 m) c).arrAt w cfg0.N
abbrev out0 : (c : Dev nD) → (b : Ref sig .tc) → Buf (Elt F) ((c : Thread nD τ).loc b) := fun c b => vals2 m c b
/-- The buffers when the backward kernel is entered. -/
abbrev vals3 (c : Dev nD) : Valuation τ sig (Elt F) := StableHlo.after hostOps1 (vals2 m c)
abbrev in1 : (c : Dev nD) → (b : Ref sig .tc) → Buf (Elt F) ((c : Thread nD τ).loc b) := fun c b => vals3 m c b
/-- The buffers at the end. -/
def vals4 (c : Dev nD) : Valuation τ sig (Elt F) := Pipeline.withArrays spec1 c (vals3 m c) fun w => (data1 (in1 m) c).arrAt w cfg1.N
abbrev out1 : (c : Dev nD) → (b : Ref sig .tc) → Buf (Elt F) ((c : Thread nD τ).loc b) := fun c b => vals4 m c b

theorem vals2_arr (c : Dev nD) (w : Fin cfg0.W) :
    vals2 m c (Proc.devRef .tc (Pipeline.arrRef spec0 w)) = (data0 (in0 m) c).arrAt w cfg0.N := by
  unfold vals2; exact Pipeline.withArrays_arr spec0 winFacts0.arr_inj c _ _ w
theorem vals2_of_ne (c : Dev nD) (b : Ref sig .tc) (hb : ∀ w, Pipeline.arrRef spec0 w ≠ b) :
    vals2 m c (Proc.devRef .tc b) = vals1 m c (Proc.devRef .tc b) := by
  unfold vals2; exact Pipeline.withArrays_of_ne spec0 c _ _ b hb
theorem vals4_arr (c : Dev nD) (w : Fin cfg1.W) :
    vals4 m c (Proc.devRef .tc (Pipeline.arrRef spec1 w)) = (data1 (in1 m) c).arrAt w cfg1.N := by
  unfold vals4; exact Pipeline.withArrays_arr spec1 winFacts1.arr_inj c _ _ w
theorem vals4_of_ne (c : Dev nD) (b : Ref sig .tc) (hb : ∀ w, Pipeline.arrRef spec1 w ≠ b) :
    vals4 m c (Proc.devRef .tc b) = vals3 m c (Proc.devRef .tc b) := by
  unfold vals4; exact Pipeline.withArrays_of_ne spec1 c _ _ b hb
theorem vals1_of (c : Dev nD) (r : Ref sig .tc) (h : r ∉ hostOps0_W) : vals1 m c (Proc.devRef .tc r) = vals0 m c (Proc.devRef .tc r) :=
  StableHlo.after_of_writes_sub hostOps0 _ hostOps0_writes h
theorem vals3_of (c : Dev nD) (r : Ref sig .tc) (h : r ∉ hostOps1_W) : vals3 m c (Proc.devRef .tc r) = vals2 m c (Proc.devRef .tc r) :=
  StableHlo.after_of_writes_sub hostOps1 _ hostOps1_writes h
/-- A buffer no kernel has as an array and no host operation writes ends as launched. -/
theorem vals4_kept (c : Dev nD) (r : Ref sig .tc) (h0 : r ∉ hostOps0_W) (h1 : r ∉ hostOps1_W)
    (a0 : ∀ w, Pipeline.arrRef spec0 w ≠ r) (a1 : ∀ w, Pipeline.arrRef spec1 w ≠ r) :
    vals4 m c (Proc.devRef .tc r) = m ((c : Thread nD τ).loc r) :=
  (vals4_of_ne m c r a1).trans ((vals3_of m c r h1).trans ((vals2_of_ne m c r a0).trans (vals1_of m c r h0)))
/-- The attention output ends as the forward kernel leaves it. -/
theorem vals4_o (c : Dev nD) : vals4 m c (Proc.devRef .tc main_v20_0) = (data0 (in0 m) c).arrAt 3 cfg0.N :=
  (vals4_of_ne m c main_v20_0 (by decide)).trans ((vals3_of m c main_v20_0 (by decide)).trans (vals2_arr m c 3))

/-! ## The regions and the host operations as segments -/

def pdats : (p : Fin 2) → (c : Dev nD) → Dat τ (Elt F) Unit ℕ (UR sig nD τ) ℕ (Pipeline.pin (pcfgs (F := F)) adm p) c
  | ⟨0, _⟩ => fun c => data0 (in0 m) c
  | ⟨1, _⟩ => fun c => data1 (in1 m) c
abbrev noLevels : GSem nD τ sig → Finset Unit := fun _ => ∅
abbrev level : GSem nD τ sig → Unit → ℕ := fun _ _ => 0
/-- What is held beside the buffers throughout: the core's generator register and its debts, which are none. -/
abbrev beside (c : Dev nD) : sProp 𝕄 := iprop((∃ r, prngReg c r) ∗ ∃ W, owes (c : Thread nD τ) (0 : CellTallies nD τ sig Unit) W)
/-- Every buffer that is not scoped, at the contents `W`. -/
abbrev heldAt (W : Dev nD → Valuation τ sig (Elt F)) (c : Dev nD) : sProp 𝕄 := StableHlo.held (c : Thread nD τ) (Pipeline.ucRefs τ sig) (W c)
abbrev hostPart (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels level :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
theorem held_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev atEnd (c : Dev nD) : sProp 𝕄 := iprop(heldAt (vals4 m) c ∗ ∃ r, prngReg c r)

set_option backward.isDefEq.respectTransparency.types false in
/-- Kernel 0 as a segment: its arrays are taken out of the buffers held at its entry and put back at what its pipeline leaves. -/
def kernel0 : Pipeline.RegionSeg (pcfgs (F := F)) adm (pdats m) () defs₀ Variants.none noLevels level 0 where
  win := winFacts0.to₀
  block_pos := block_pos0
  stage_whole := stage_whole0
  K := PEmpty
  osem k := k.elim
  ho := Pipeline.OwnSemFacts.none _
  hbody c := (obligation0 (in0 m) c).loose
  hwaits := Pipeline.hwaits_of_owed_zero _ _ _ _ noLevels level 0 fun _ _ => rfl
  pre c := iprop(heldAt (vals1 m) c ∗ beside c)
  post c := iprop(heldAt (vals2 m) c ∗ beside c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hs := Pipeline.arrays_of_unscopedBufs (p := 0) (pcfgs (F := F)) adm (pdats m) winFacts0 arr_whole0 c
      ((data0 (in0 m) c).share_full fun _ => rfl) (in0 m c) (data0_A (in0 m) c)
    rw [Pipeline.unscopedBufs_held] at hs
    iintro ⟨⟨Hb, Hp, HO⟩, -, -⟩
    ihave H := hs $$ Hb
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hj := Pipeline.unscopedBufs_of_arrays (p := 0) (pcfgs (F := F)) adm (Ix := Unit) (Name := ℕ) (U := UR sig nD τ) (Lvl := ℕ)
      winFacts0 arr_whole0 c (pdats m) ((data0 (in0 m) c).share_full fun _ => rfl)
      (in0 m c) (out0 m c) ((pdats m 0 c).arrAt · cfg0.N) (fun w => (vals2_arr m c w).symm)
      (fun r hr => vals2_of_ne m c r fun w e => hr (Finset.mem_image.mpr ⟨w, Finset.mem_univ _, e⟩))
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 as a segment: its arrays are taken out of the buffers held at its entry and put back at what its pipeline leaves. -/
def kernel1 : Pipeline.RegionSeg (pcfgs (F := F)) adm (pdats m) () defs₀ Variants.none noLevels level 1 where
  win := winFacts1.to₀
  block_pos := block_pos1
  stage_whole := stage_whole1
  K := PEmpty
  osem k := k.elim
  ho := Pipeline.OwnSemFacts.none _
  hbody c := (obligation1 (in1 m) c).loose
  hwaits := Pipeline.hwaits_of_owed_zero _ _ _ _ noLevels level 1 fun _ _ => rfl
  pre c := iprop(heldAt (vals3 m) c ∗ beside c)
  post c := iprop(atEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hs := Pipeline.arrays_of_unscopedBufs (p := 1) (pcfgs (F := F)) adm (pdats m) winFacts1 arr_whole1 c
      ((data1 (in1 m) c).share_full fun _ => rfl) (in1 m c) (data1_A (in1 m) c)
    rw [Pipeline.unscopedBufs_held] at hs
    iintro ⟨⟨Hb, Hp, HO⟩, -, -⟩
    ihave H := hs $$ Hb
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hj := Pipeline.unscopedBufs_of_arrays (p := 1) (pcfgs (F := F)) adm (Ix := Unit) (Name := ℕ) (U := UR sig nD τ) (Lvl := ℕ)
      winFacts1 arr_whole1 c (pdats m) ((data1 (in1 m) c).share_full fun _ => rfl)
      (in1 m c) (out1 m c) ((pdats m 1 c).arrAt · cfg1.N) (fun w => (vals4_arr m c w).symm)
      (fun r hr => vals4_of_ne m c r fun w e => hr (Finset.mem_image.mpr ⟨w, Finset.mem_univ _, e⟩))
    rw [Pipeline.unscopedBufs_held] at hj
    iintro ⟨Ha, HO, HY, Hrest⟩
    imodintro
    isplitl [Ha Hrest HY]
    · isplitl [Ha Hrest]
      · iapply hj; isplitl [Ha] <;> iassumption
      iexact HY
    unfold Pipeline.Dat.owesAt Pipeline.owesWithin
    icases HO with ⟨%W, -, HO⟩; iexists W; iexact HO

/-! ## The run -/

abbrev parts : List (Pipeline.Seg (pcfgs (F := F)) adm (pdats m) () defs₀ Variants.none noLevels level) :=
  [ .host (hostPart hostOps0 hostOps0_sub hostOps0_fresh (vals0 m)),
    .region (kernel0 m),
    .host (hostPart hostOps1 hostOps1_sub hostOps1_fresh (vals2 m)),
    .region (kernel1 m) ]
theorem main_parts (c : Dev nD) : main (F := F) c = Pipeline.Seg.run (parts m) := (main_chain c).trans (by chain_rfl)
theorem all_scoped : ∀ sm : SemLoc sig, sm.isScoped .tc = true := by decide

set_option backward.isDefEq.respectTransparency.types false in
/-- Run from any memory with every semaphore at zero, the program ends with its results at what the pipelines leave, its arguments as
    launched and every semaphore at zero. -/
theorem run_main : θ_run defs (onTc (τ := τ) (main (F := F))) ⟨m, fun _ => 0, ρ⟩ (fun r => (∀ c : Dev nD,
      r.2.mem ((c.tc : Thread nD τ).loc main_v20_0) = (data0 (in0 m) c).arrAt 3 cfg0.N
      ∧ r.2.mem ((c.tc : Thread nD τ).loc main_v25_0) = (data1 (in1 m) c).arrAt 7 cfg1.N
      ∧ r.2.mem ((c.tc : Thread nD τ).loc main_v25_1) = (data1 (in1 m) c).arrAt 8 cfg1.N
      ∧ r.2.mem ((c.tc : Thread nD τ).loc main_v25_2) = (data1 (in1 m) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m) () cellOf_inj emb₁ defs₀ Variants.none noLevels level m ρ main (parts m)
    (fun c Q => by rw [main_parts m c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(heldAt (vals0 m) c ∗ beside c)) (Tₙ := atEnd m)
    (hch := ⟨fun _ => .rfl, fun _ => .rfl, fun _ => .rfl, fun _ => .rfl, fun _ => .rfl⟩)
    (hinit := by
      refine Pipeline.initEach noLevels level fun c => ?_
      rw [show unscopedBufs c (fun b => m ((c : Thread nD τ).loc b)) = StableHlo.held (c : Thread nD τ) (Pipeline.ucRefs τ sig) (vals0 m c)
        from Pipeline.unscopedBufs_held c (vals0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = vals4 m c b)
    (hfin := fun c s' => by
      iintro ⟨⟨Hh, -⟩, HSI⟩
      unfold heldAt StableHlo.held
      imodintro
      iapply (pointsTo_read_all (Pipeline.ucRefs τ sig) (fun b => (((c : Thread nD τ)).1, b)) (vals4 m c) s')
      isplitl [Hh] <;> iassumption)
    (hQ := fun s h hz => ⟨(fun c =>
      ⟨(h c _ (held_mem main_v20_0 (by decide))).trans (vals4_o m c),
       (h c _ (held_mem main_v25_0 (by decide))).trans (vals4_arr m c 7),
       (h c _ (held_mem main_v25_1 (by decide))).trans (vals4_arr m c 8),
       (h c _ (held_mem main_v25_2 (by decide))).trans (vals4_arr m c 9),
       (h c _ (held_mem main_arg0 (by decide))).trans (vals4_kept m c main_arg0 (by decide) (by decide) (by decide) (by decide)),
       (h c _ (held_mem main_arg1 (by decide))).trans (vals4_kept m c main_arg1 (by decide) (by decide) (by decide) (by decide)),
       (h c _ (held_mem main_arg2 (by decide))).trans (vals4_kept m c main_arg2 (by decide) (by decide) (by decide) (by decide)),
       (h c _ (held_mem main_arg3 (by decide))).trans (vals4_kept m c main_arg3 (by decide) (by decide) (by decide) (by decide))⟩),
      funext fun g => hz g (.inr (all_scoped g.2))⟩)

/-- The frame: the arguments end as launched, every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2.2.2, h.2⟩) (run_main m ρ)

end Cert.Stick
-- ==== Proof.SbBwdTile.lean ====
/- The backward kernel on real blocks: each value a trip forms, read at an index, is the real formula of one head, and
   the loops add up to the three gradients. -/
module

public import proofs.«01_k».proof.Proof.SbFwdTile

@[expose] public section

set_option maxRecDepth 16384

noncomputable section

namespace Cert.Stick

open Idealize.ShloMosaic Idealize.ShloMosaic.TcCoe
open Cert.SbIdeal Cert.SbIdeal.Gen Cert.SbMath

/-- The seven blocks hold one head's arrays, in whole rows or transposed, with the row totals of the forward kernel. -/
structure Holds (H : Head) (x : BwdIn Ideal) : Prop where
  qn : ∀ (b : Fin 32) (r : Fin 256) (d : Fin 64), x.qn (ix4 0 b r d) = (H.q (b.val * 256 + r.val) d.val : EReal)
  qt : ∀ (b : Fin 32) (d : Fin 64) (c : Fin 256), x.qt (ix4 0 b d c) = (H.q (b.val * 256 + c.val) d.val : EReal)
  kt : ∀ (b : Fin 32) (d : Fin 64) (c : Fin 256), x.kt (ix4 0 b d c) = (H.k (b.val * 256 + c.val) d.val : EReal)
  vt : ∀ (b : Fin 32) (d : Fin 64) (c : Fin 256), x.vt (ix4 0 b d c) = (H.v (b.val * 256 + c.val) d.val : EReal)
  don : ∀ (b : Fin 32) (r : Fin 256) (d : Fin 64), x.don (ix4 0 b r d) = (H.g (b.val * 256 + r.val) d.val : EReal)
  dot : ∀ (b : Fin 32) (d : Fin 64) (c : Fin 256), x.dot (ix4 0 b d c) = (H.g (b.val * 256 + c.val) d.val : EReal)
  tl : ∀ (b : Fin 32) (r : Fin 256), x.tl (ix4 0 b r 0) = (H.fc b.val (b.val + 1) (b.val * 256 + r.val) : EReal)

/-! ## The trip's blocks -/

theorem trips3 : ∀ i : Fin k1_t1_loop.trips, (k1_t2_loop i).trips = i.val + 1 := by decide +kernel
theorem keyBlock1 : ∀ (i : Fin k1_t1_loop.trips) (j : Fin (k1_t2_loop i).trips), k1_off4 i j = ![0, j.val, 0, 0] := by decide +kernel
theorem maskBit1 : ∀ (i : Fin k1_t1_loop.trips) (j : Fin (k1_t2_loop i).trips),
    Scalar.cmpi .slt (Scf.iv 0#32 1#32 j) (Scf.iv 0#32 1#32 i) = bit (j.val < i.val) := by decide +kernel
theorem trip_lt1 (i : Fin k1_t1_loop.trips) : i.val < 32 := lt_of_lt_of_eq i.isLt (by decide +kernel)
theorem key_lt1 (i : Fin k1_t1_loop.trips) (j : Fin (k1_t2_loop i).trips) : j.val < 32 := by
  have := lt_of_lt_of_eq j.isLt (trips3 i); have := trip_lt1 i; omega

/-- The rows up to and including a column's, and those before it. -/
theorem upto1 (x c : Fin 256) : (k1_pay1 (F := Ideal)) (ix2 x c) = ((if x.val < c.val + 1 then 1 else 0 : ℝ) : EReal) := by
  pointwise [k1_pay1]
  rw [sle_bit]
  exact (sitofp_bit _).trans (by simp only [Nat.lt_succ_iff])
theorem before1 (x c : Fin 256) : (k1_pay2 (F := Ideal)) (ix2 x c) = ((if x.val < c.val then 1 else 0 : ℝ) : EReal) := by
  pointwise [k1_pay2]
  rw [slt_bit]
  exact sitofp_bit _

theorem rows1_at (x : Vec Ideal S1x32x256x64 .bf16) (i : Fin k1_t1_loop.trips) (r : Fin 256) (d : Fin 64) :
    bwdRows x i (ix4 0 0 r d) = x (ix4 0 ⟨i.val, trip_lt1 i⟩ r d) := by
  unfold bwdRows View.ld
  refine congrArg x (funext fun a => Fin.ext ?_)
  have e := k1_off1_eq i
  fin_cases a <;> simp [e]
theorem cols1_at (x : Vec Ideal S1x32x64x256 .bf16) (i : Fin k1_t1_loop.trips) (d : Fin 64) (c : Fin 256) :
    bwdCols x i (ix4 0 0 d c) = x (ix4 0 ⟨i.val, trip_lt1 i⟩ d c) := by
  unfold bwdCols View.ld
  refine congrArg x (funext fun a => Fin.ext ?_)
  have e := k1_off2_eq i
  fin_cases a <;> simp [e]
theorem tot1_at (x : Vec Ideal S1x32x256x1 .f32) (i : Fin k1_t1_loop.trips) (r : Fin 256) :
    bwdTot x i (ix4 0 0 r 0) = x (ix4 0 ⟨i.val, trip_lt1 i⟩ r 0) := by
  unfold bwdTot View.ld
  refine congrArg x (funext fun a => Fin.ext ?_)
  have e := k1_off3_eq i
  fin_cases a <;> simp [e]
theorem key1_at (x : Vec Ideal S1x32x64x256 .bf16) (i : Fin k1_t1_loop.trips) (j : Fin (k1_t2_loop i).trips) (d : Fin 64) (c : Fin 256) :
    bwdKey x i j (ix4 0 0 d c) = x (ix4 0 ⟨j.val, key_lt1 i j⟩ d c) := by
  unfold bwdKey View.ld
  refine congrArg x (funext fun a => Fin.ext ?_)
  have e := keyBlock1 i j
  fin_cases a <;> simp [e]
theorem old1_at (x : Vec Ideal S1x32x64x256 .f32) (i : Fin k1_t1_loop.trips) (j : Fin (k1_t2_loop i).trips) (d : Fin 64) (c : Fin 256) :
    bwdOld x i j (ix4 0 0 d c) = x (ix4 0 ⟨j.val, key_lt1 i j⟩ d c) := by
  unfold bwdOld View.ld
  refine congrArg x (funext fun a => Fin.ext ?_)
  have e := keyBlock1 i j
  fin_cases a <;> simp [e]

/-! ## One trip -/

section
variable {H : Head} {x : BwdIn Ideal} (hx : Holds H x) (i : Fin k1_t1_loop.trips) (j : Fin (k1_t2_loop i).trips)

theorem mask1 (r c : Fin 256) : bwdMask i j (ix2 r c) = bit (j.val * 256 + c.val < i.val * 256 + r.val) := by
  have hj := lt_of_lt_of_eq j.isLt (trips3 i)
  unfold bwdMask k1_pay19
  pointwise [k1_pay3]
  rw [maskBit1 i j, slt_bit, ori_bit]
  unfold bit
  congr 1
  apply propext
  constructor
  · rintro (h | h) <;> [skip; skip] <;> omega
  · intro h
    by_cases hz : j.val = i.val
    · right; omega
    · left; omega

include hx in
theorem qrows1 (r : Fin 256) (d : Fin 64) : k1_pay6 (bwdRows x.qn i) (ix2 r d) = (H.q (i.val * 256 + r.val) d.val : EReal) := by
  pointwise [k1_pay6]
  rw [rows1_at, hx.qn]
include hx in
theorem grows1 (r : Fin 256) (d : Fin 64) : k1_pay8 (bwdRows x.don i) (ix2 r d) = (H.g (i.val * 256 + r.val) d.val : EReal) := by
  pointwise [k1_pay8]
  rw [rows1_at, hx.don]
include hx in
theorem qcols1 (d : Fin 64) (r : Fin 256) : k1_pay7 (bwdCols x.qt i) (ix2 d r) = (H.q (i.val * 256 + r.val) d.val : EReal) := by
  pointwise [k1_pay7]
  rw [cols1_at, hx.qt]
include hx in
theorem gcols1 (d : Fin 64) (r : Fin 256) : k1_pay9 (bwdCols x.dot i) (ix2 d r) = (H.g (i.val * 256 + r.val) d.val : EReal) := by
  pointwise [k1_pay9]
  rw [cols1_at, hx.dot]
include hx in
theorem total1 (r : Fin 256) : k1_pay10 (bwdTot x.tl i) (ix2 r 0) = (H.fc i.val (i.val + 1) (i.val * 256 + r.val) : EReal) := by
  pointwise [k1_pay10]
  rw [tot1_at, hx.tl]
include hx in
theorem key1 (d : Fin 64) (c : Fin 256) : bwdKey x.kt i j (ix4 0 0 d c) = (H.k (j.val * 256 + c.val) d.val : EReal) := by
  rw [key1_at, hx.kt]
include hx in
theorem val1 (d : Fin 64) (c : Fin 256) : bwdKey x.vt i j (ix4 0 0 d c) = (H.v (j.val * 256 + c.val) d.val : EReal) := by
  rw [key1_at, hx.vt]

include hx in
theorem score1 (r c : Fin 256) : k1_pay17 (k1_pay6 (bwdRows x.qn i)) (bwdKey x.kt i j) (ix2 r c)
    = (H.z (i.val * 256 + r.val) (j.val * 256 + c.val) : EReal) := by
  pointwise [k1_pay17, k1_pay16]
  simp only [qrows1 hx i, key1 hx i j, zero_add, ← EReal.coe_mul, sum_coe]
  unfold Head.z
  rw [Finset.sum_range]

include hx in
theorem soft1 (r c : Fin 256) : k1_pay18 (k1_pay6 (bwdRows x.qn i)) (bwdKey x.kt i j) (ix2 r c)
    = (sp (H.z (i.val * 256 + r.val) (j.val * 256 + c.val)) : EReal) := by
  pointwise [k1_pay18]
  rw [score1 hx i j]
  exact softplus_coe _

include hx in
theorem logsig1 (r c : Fin 256) : k1_pay21 (k1_pay6 (bwdRows x.qn i)) (bwdKey x.kt i j) (ix2 r c)
    = (H.z (i.val * 256 + r.val) (j.val * 256 + c.val) - sp (H.z (i.val * 256 + r.val) (j.val * 256 + c.val)) : ℝ) := by
  pointwise [k1_pay21]
  rw [score1 hx i j, soft1 hx i j, ← EReal.coe_sub]

include hx in
theorem log1 (r c : Fin 256) : bwdLk x i j (ix2 r c) = (H.lk (i.val * 256 + r.val) (j.val * 256 + c.val) : EReal) := by
  have hm := mask1 i j r c
  unfold bwdMask at hm
  unfold bwdLk
  pointwise [k1_pay20]
  rw [hm, select_bit, soft1 hx i j, zero_sub, ← EReal.coe_neg, ← EReal.coe_zero, ite_coe]
  rfl

include hx in
theorem sig1 (r c : Fin 256) : bwdSig x i j (ix2 r c) = (sig (H.z (i.val * 256 + r.val) (j.val * 256 + c.val)) : EReal) := by
  unfold bwdSig
  pointwise [k1_pay23]
  rw [logsig1 hx i j, Ideal.exp_coe, exp_sub_sp]

variable (pre : FVec Ideal S256x1 .f32) (hpre : ∀ r : Fin 256, pre (ix2 r 0) = (H.bc j.val (i.val * 256 + r.val) : EReal))

include hx hpre in
theorem weight1 (r c : Fin 256) : bwdA x i j pre (ix2 r c) = (H.a (i.val * 256 + r.val) (j.val * 256 + c.val) : EReal) := by
  have hj := lt_of_lt_of_eq j.isLt (trips3 i)
  have hi := trip_lt1 i
  have hm := fun c => mask1 i j r c
  have hl := fun c => log1 hx i j r c
  unfold bwdMask at hm
  unfold bwdLk at hl
  unfold bwdA
  pointwise [k1_pay22]
  simp only [hm, hl, select_bit, logsig1 hx i j, total1 hx i, hpre, upto1, ← EReal.coe_sub, sub_self, ← EReal.coe_mul, zero_mul,
    EReal.coe_zero, zero_add, sum_coe, Finset.sum_const_zero, add_zero, ← EReal.coe_add, Ideal.exp_coe]
  rw [H.bc_rest i.val j.val _ (by omega) hi (by omega) c.val c.isLt, ← EReal.coe_zero, ite_coe]
  rfl

include hx hpre in
theorem grad1 (r c : Fin 256) : bwdG x i j pre (ix2 r c) = (H.w (i.val * 256 + r.val) (j.val * 256 + c.val) : EReal) := by
  have ha := weight1 hx i j pre hpre r c
  unfold bwdA at ha
  unfold bwdG
  pointwise [k1_pay24]
  simp only [ha, grows1 hx i, val1 hx i j, zero_add, ← EReal.coe_mul, sum_coe]
  unfold Head.w
  rw [Finset.sum_range]

include hx hpre in
theorem narrow1 (r c : Fin 256) : bwdGb x i j pre (ix2 r c) = (H.w (i.val * 256 + r.val) (j.val * 256 + c.val) : EReal) := by
  have hg := grad1 hx i j pre hpre r c
  unfold bwdG at hg
  unfold bwdGb
  pointwise [k1_pay25]
  exact hg

variable (pg : FVec Ideal S256x1 .f32) (hpg : ∀ r : Fin 256, pg (ix2 r 0) = (H.bw j.val (i.val * 256 + r.val) : EReal))

include hx hpre hpg in
theorem dscore1 (r c : Fin 256) : k1_pay26 k1_pay2 pg (bwdMask i j) (bwdSig x i j) (bwdG x i j pre) (bwdGb x i j pre) (ix2 r c)
    = (H.dz (i.val * 256 + r.val) (j.val * 256 + c.val) : EReal) := by
  pointwise [k1_pay26]
  simp only [mask1, select_bit, sig1 hx i j, grad1 hx i j pre hpre, narrow1 hx i j pre hpre, hpg, before1, ← EReal.coe_sub, sub_self,
    ← EReal.coe_mul, zero_mul, EReal.coe_zero, zero_add, sum_coe, Finset.sum_const_zero, add_zero, ← EReal.coe_add]
  rw [H.bw_before j.val _ c.val c.isLt, ← EReal.coe_zero, ite_coe]
  rfl

include hx in
theorem pre1 (r : Fin 256) : k1_pay30 pre (bwdLk x i j) (ix2 r 0) = pre (ix2 r 0) + (∑ c : Fin 256, H.lk (i.val * 256 + r.val) (j.val * 256 + c.val) : ℝ) := by
  pointwise [k1_pay30]
  simp only [log1 hx i j, sum_coe]

include hx hpre hpg in
theorem pg1 (r : Fin 256) : k1_pay13 pg (bwdG x i j pre) (ix2 r 0) = (H.bw (j.val + 1) (i.val * 256 + r.val) : EReal) := by
  pointwise [k1_pay13]
  simp only [grad1 hx i j pre hpre, hpg, sum_coe, ← EReal.coe_add]
  rw [H.bw_succ]

include hx hpre hpg in
theorem dq1 (O : FVec Ideal S64x256 .f32) (hO : ∀ (d : Fin 64) (r : Fin 256), O (ix2 d r) = (H.bq j.val (i.val * 256 + r.val) d.val : EReal))
    (d : Fin 64) (r : Fin 256) :
    k1_pay27 k1_pay2 pg O (k1_pay16 (bwdKey x.kt i j)) (bwdMask i j) (bwdSig x i j) (bwdG x i j pre) (bwdGb x i j pre) (ix2 d r)
      = (H.bq (j.val + 1) (i.val * 256 + r.val) d.val : EReal) := by
  pointwise [k1_pay27, k1_pay16]
  simp only [dscore1 hx i j pre hpre pg hpg, key1 hx i j, hO, zero_add, ← EReal.coe_mul, sum_coe, ← EReal.coe_add]
  rw [H.bq_succ]

include hx hpre hpg in
theorem dk1 (old : Vec Ideal S1x1x64x256 .f32) (d : Fin 64) (c : Fin 256)
    (hold : old (ix4 0 0 d c) = (H.bk (i.val * 256) (j.val * 256 + c.val) d.val : EReal)) :
    k1_pay28 k1_pay2 (k1_pay7 (bwdCols x.qt i)) pg (bwdMask i j) (bwdSig x i j) (bwdG x i j pre) (bwdGb x i j pre) old (ix4 0 0 d c)
      = (H.bk ((i.val + 1) * 256) (j.val * 256 + c.val) d.val : EReal) := by
  pointwise [k1_pay28]
  simp only [dscore1 hx i j pre hpre pg hpg, qcols1 hx i, hold, zero_add, ← EReal.coe_mul, sum_coe, ← EReal.coe_add]
  rw [H.bk_succ]

include hx hpre in
theorem dv1 (old : Vec Ideal S1x1x64x256 .f32) (d : Fin 64) (c : Fin 256)
    (hold : old (ix4 0 0 d c) = (H.bv (i.val * 256) (j.val * 256 + c.val) d.val : EReal)) :
    k1_pay29 (k1_pay9 (bwdCols x.dot i)) (bwdA x i j pre) old (ix4 0 0 d c)
      = (H.bv ((i.val + 1) * 256) (j.val * 256 + c.val) d.val : EReal) := by
  pointwise [k1_pay29]
  simp only [weight1 hx i j pre hpre, gcols1 hx i, hold, zero_add, ← EReal.coe_mul, sum_coe, ← EReal.coe_add]
  rw [H.bv_succ]

end

/-! ## The loops -/

theorem at4_ix (b : Fin 32) (d : Fin 64) (c : Fin 256) : at4 (ix4 0 b d c) = (ix4 0 0 d c : S1x1x64x256.Idx) := by
  funext a
  fin_cases a <;> rfl

section
variable {H : Head} {x : BwdIn Ideal} (hx : Holds H x)

/-- What the inner loop holds before trip `n`. -/
structure Inner (H : Head) (i n : ℕ) (s : BwdState Ideal) : Prop where
  pre : ∀ r : Fin 256, s.1.1 (ix2 r 0) = (H.bc n (i * 256 + r.val) : EReal)
  pg : ∀ r : Fin 256, s.1.2.1 (ix2 r 0) = (H.bw n (i * 256 + r.val) : EReal)
  dq : ∀ (d : Fin 64) (r : Fin 256), s.1.2.2 (ix2 d r) = (H.bq n (i * 256 + r.val) d.val : EReal)
  dk : ∀ (b : Fin 32) (d : Fin 64) (c : Fin 256),
    s.2.1 (ix4 0 b d c) = (H.bk (if b.val < n then (i + 1) * 256 else i * 256) (b.val * 256 + c.val) d.val : EReal)
  dv : ∀ (b : Fin 32) (d : Fin 64) (c : Fin 256),
    s.2.2 (ix4 0 b d c) = (H.bv (if b.val < n then (i + 1) * 256 else i * 256) (b.val * 256 + c.val) d.val : EReal)

include hx in
theorem inner1 (i : Fin k1_t1_loop.trips) (D : Vec Ideal S1x32x64x256 .f32 × Vec Ideal S1x32x64x256 .f32)
    (hk : ∀ (b : Fin 32) (d : Fin 64) (c : Fin 256), D.1 (ix4 0 b d c) = (H.bk (i.val * 256) (b.val * 256 + c.val) d.val : EReal))
    (hv : ∀ (b : Fin 32) (d : Fin 64) (c : Fin 256), D.2 (ix4 0 b d c) = (H.bv (i.val * 256) (b.val * 256 + c.val) d.val : EReal)) :
    ∀ n : ℕ, n ≤ i.val + 1 → Inner H i.val n (bwdSt x i D n)
  | 0, _ => by
    refine ⟨fun r => ?_, fun r => ?_, fun d r => ?_, fun b d c => ?_, fun b d c => ?_⟩
    · rw [H.bc_zero]; unfold bwdSt bwdInit; pointwise [k1_pay11]; rfl
    · rw [H.bw_zero]; unfold bwdSt bwdInit; pointwise [k1_pay11]; rfl
    · rw [H.bq_zero]; unfold bwdSt bwdInit; pointwise [k1_pay12]; rfl
    · rw [if_neg (by omega)]; exact hk b d c
    · rw [if_neg (by omega)]; exact hv b d c
  | n + 1, hn => by
    have hj : n < (k1_t2_loop i).trips := lt_of_lt_of_eq (by omega) (trips3 i).symm
    have ih := inner1 i D hk hv n (by omega)
    rw [bwdSt_succ x i D n hj]
    unfold bwdStep bwdAccStep
    refine ⟨fun r => ?_, fun r => pg1 hx i ⟨n, hj⟩ _ ih.pre _ ih.pg r, fun d r => dq1 hx i ⟨n, hj⟩ _ ih.pre _ ih.pg _ ih.dq d r, fun b d c => ?_, fun b d c => ?_⟩
    · refine (pre1 hx i ⟨n, hj⟩ _ r).trans ?_
      rw [ih.pre, ← EReal.coe_add, H.bc_succ]
    · dsimp only
      rw [keyBlock1, put4]
      by_cases e : b.val = n
      · subst e
        rw [if_pos (Nat.lt_succ_self _)]
        refine (if_pos rfl).trans ?_
        rw [at4_ix]
        refine dk1 hx i ⟨b.val, hj⟩ _ ih.pre _ ih.pg _ d c ?_
        rw [old1_at, ih.dk, if_neg (lt_irrefl _)]
      · refine (if_neg e).trans ?_
        rw [ih.dk]
        congr 3
        apply propext
        omega
    · dsimp only
      rw [keyBlock1, put4]
      by_cases e : b.val = n
      · subst e
        rw [if_pos (Nat.lt_succ_self _)]
        refine (if_pos rfl).trans ?_
        rw [at4_ix]
        refine dv1 hx i ⟨b.val, hj⟩ _ ih.pre _ d c ?_
        rw [old1_at, ih.dv, if_neg (lt_irrefl _)]
      · refine (if_neg e).trans ?_
        rw [ih.dv]
        congr 3
        apply propext
        omega

include hx in
/-- The two arrays added into, before trip `n` of the outer loop. -/
theorem outer1 : ∀ n : ℕ, n ≤ 32 →
    (∀ (b : Fin 32) (d : Fin 64) (c : Fin 256), (bwdAdd x n).1 (ix4 0 b d c) = (H.bk (n * 256) (b.val * 256 + c.val) d.val : EReal))
    ∧ ∀ (b : Fin 32) (d : Fin 64) (c : Fin 256), (bwdAdd x n).2 (ix4 0 b d c) = (H.bv (n * 256) (b.val * 256 + c.val) d.val : EReal)
  | 0, _ => by
    refine ⟨fun b d c => ?_, fun b d c => ?_⟩
    · rw [zero_mul, H.bk_zero]; unfold bwdAdd; pointwise [k1_pay4]; rfl
    · rw [zero_mul, H.bv_zero]; unfold bwdAdd; pointwise [k1_pay5]; rfl
  | n + 1, hn => by
    have hn' : n < k1_t1_loop.trips := lt_of_lt_of_eq (by omega) trips1.symm
    obtain ⟨ihk, ihv⟩ := outer1 n (by omega)
    have h := inner1 hx ⟨n, hn'⟩ (bwdAdd x n) ihk ihv (n + 1) le_rfl
    rw [bwdAdd_succ x n hn', trips3]
    refine ⟨fun b d c => ?_, fun b d c => ?_⟩
    · refine (h.dk b d c).trans ?_
      by_cases e : b.val < n + 1
      · rw [if_pos e]
      · rw [if_neg e]; exact congrArg _ (H.bk_above n _ _ (by show (n + 1) * 256 ≤ _; omega)).symm
    · refine (h.dv b d c).trans ?_
      by_cases e : b.val < n + 1
      · rw [if_pos e]
      · rw [if_neg e]; exact congrArg _ (H.bv_above n _ _ (by show (n + 1) * 256 ≤ _; omega)).symm

include hx in
/-- The three gradients of the head. -/
theorem bwdQ_real (b : Fin 32) (d : Fin 64) (c : Fin 256) : bwdQ x (ix4 0 b d c) = (H.dq (b.val * 256 + c.val) d.val : EReal) := by
  have hb := b.isLt
  obtain ⟨ihk, ihv⟩ := outer1 hx b.val (by omega)
  have h := (inner1 hx (tripOf1 b) (bwdAdd x b.val) ihk ihv (b.val + 1) le_rfl).dq d c
  unfold bwdQ
  rw [show (ix4 0 b d c : S1x32x64x256.Idx) 1 = b from rfl, trips3]
  refine Eq.trans ?_ (h.trans (congrArg _ (H.bq_last b.val _ d.val b.isLt (by show b.val * 256 + c.val < _; omega))))
  pointwise [k1_pay15]
  rfl

include hx in
theorem bwdK_real (b : Fin 32) (d : Fin 64) (c : Fin 256) : (bwdAdd x k1_t1_loop.trips).1 (ix4 0 b d c) = (H.dk (b.val * 256 + c.val) d.val : EReal) := by
  rw [trips1]; exact (outer1 hx 32 le_rfl).1 b d c

include hx in
theorem bwdV_real (b : Fin 32) (d : Fin 64) (c : Fin 256) : (bwdAdd x k1_t1_loop.trips).2 (ix4 0 b d c) = (H.dv (b.val * 256 + c.val) d.val : EReal) := by
  rw [trips1]; exact (outer1 hx 32 le_rfl).2 b d c

end

end Cert.Stick
-- ==== Proof.SbHost.lean ====
/- What the host's preparation hands the two kernels, and the arrays they return, on real arguments. -/
module

public import proofs.«01_k».proof.Proof.SbRun
public import proofs.«01_k».proof.Proof.SbBwdTile
public import Idealize.ShloMosaic.Lib.Claim
public import Idealize.ShloMosaic.Lib.Pipeline.ValueKit

@[expose] public section

set_option maxRecDepth 16384

noncomputable section

namespace Cert.Stick

open Idealize.ShloMosaic Idealize.ShloMosaic.TcCoe
open Cert.SbIdeal Cert.SbIdeal.Gen
open Cert.SbMath (Head)
open Idealize.ShloMosaic.Pipeline (Dat)

/-! ## The heads of four real arrays -/

/-- An array of rows read at natural numbers. -/
def cell (q : Fin 8192 → Fin 512 → ℝ) (t col : ℕ) : ℝ := if h : t < 8192 ∧ col < 512 then q ⟨t, h.1⟩ ⟨col, h.2⟩ else 0
theorem cell_eq (q : Fin 8192 → Fin 512 → ℝ) (t col : ℕ) (h : t < 8192) (h' : col < 512) : q ⟨t, h⟩ ⟨col, h'⟩ = cell q t col := by
  unfold cell
  rw [dif_pos ⟨h, h'⟩]
/-- Head `h` holds columns `64 h` to `64 h + 63`; the queries are scaled by an eighth. -/
def headOf (g q k v : Fin 8192 → Fin 512 → ℝ) (h : ℕ) : Head where
  q t d := cell q t (h * 64 + d) * (1 / 8)
  k t d := cell k t (h * 64 + d)
  v t d := cell v t (h * 64 + d)
  g t d := cell g t (h * 64 + d)

theorem eighth : Ideal.ofBits .bf16 15872#16 = ((1 / 8 : ℝ) : EReal) := by
  simp [Ideal.ofBits, Ideal.ieee]
  rw [← EReal.coe_mul]
  norm_num

section
variable (m : (ℓ : Loc nD τ sig) → Buf (Elt Ideal) ℓ) (c : Dev nD) (g q k v : Fin 8192 → Fin 512 → ℝ)
  (hg : ∀ t s, (show FVec Ideal S1x8192x512 .f32 from m ((c : Thread nD τ).loc main_arg0)) (ix3 0 t s) = (g t s : EReal))
  (hq : ∀ t s, (show FVec Ideal S1x8192x512 .f32 from m ((c : Thread nD τ).loc main_arg1)) (ix3 0 t s) = (q t s : EReal))
  (hk : ∀ t s, (show FVec Ideal S1x8192x512 .f32 from m ((c : Thread nD τ).loc main_arg2)) (ix3 0 t s) = (k t s : EReal))
  (hv : ∀ t s, (show FVec Ideal S1x8192x512 .f32 from m ((c : Thread nD τ).loc main_arg3)) (ix3 0 t s) = (v t s : EReal))

local notation "HH" => headOf g q k v

/-! ## The first host stretch -/

include hq in
theorem host11 (h : Fin 8) (b : Fin 32) (r : Fin 256) (d : Fin 64) :
    (show Vec Ideal S8x32x256x64 .bf16 from StableHlo.after hostOps0 (vals0 m c) (Proc.devRef .tc main_v11)) (ix4 h b r d)
      = ((HH h.val).q (b.val * 256 + r.val) d.val : EReal) := by
  entry_read
  pointwise
  rw [eighth]
  refine (congrArg (· * ((1 / 8 : ℝ) : EReal)) (hq ⟨b.val * 256 + r.val, by omega⟩ ⟨h.val * 64 + d.val, by omega⟩)).trans ?_
  rw [← EReal.coe_mul]
  exact congrArg (fun x : ℝ => ((x * (1 / 8) : ℝ) : EReal)) (cell_eq q _ _ _ _)

include hq in
theorem host15 (h : Fin 8) (b : Fin 32) (r : Fin 256) (d : Fin 64) :
    (show Vec Ideal S8x32x64x256 .bf16 from StableHlo.after hostOps0 (vals0 m c) (Proc.devRef .tc main_v15)) (ix4 h b d r)
      = ((HH h.val).q (b.val * 256 + r.val) d.val : EReal) := by
  entry_read
  pointwise
  rw [eighth]
  refine (congrArg (· * ((1 / 8 : ℝ) : EReal)) (hq ⟨b.val * 256 + r.val, by omega⟩ ⟨h.val * 64 + d.val, by omega⟩)).trans ?_
  rw [← EReal.coe_mul]
  exact congrArg (fun x : ℝ => ((x * (1 / 8) : ℝ) : EReal)) (cell_eq q _ _ _ _)

include hk in
theorem host17 (h : Fin 8) (b : Fin 32) (r : Fin 256) (d : Fin 64) :
    (show Vec Ideal S8x32x64x256 .bf16 from StableHlo.after hostOps0 (vals0 m c) (Proc.devRef .tc main_v17)) (ix4 h b d r)
      = ((HH h.val).k (b.val * 256 + r.val) d.val : EReal) := by
  entry_read
  pointwise
  exact (hk ⟨b.val * 256 + r.val, by omega⟩ ⟨h.val * 64 + d.val, by omega⟩).trans (congrArg _ (cell_eq k _ _ _ _))

include hv in
theorem host19 (h : Fin 8) (b : Fin 32) (r : Fin 256) (d : Fin 64) :
    (show Vec Ideal S8x32x64x256 .bf16 from StableHlo.after hostOps0 (vals0 m c) (Proc.devRef .tc main_v19)) (ix4 h b d r)
      = ((HH h.val).v (b.val * 256 + r.val) d.val : EReal) := by
  entry_read
  pointwise
  exact (hv ⟨b.val * 256 + r.val, by omega⟩ ⟨h.val * 64 + d.val, by omega⟩).trans (congrArg _ (cell_eq v _ _ _ _))

include hg in
theorem host7 (t : Fin 8192) (s : Fin 512) :
    (show Vec Ideal S8192x512 .bf16 from StableHlo.after hostOps0 (vals0 m c) (Proc.devRef .tc main_v7)) (ix2 t s) = (g t s : EReal) := by
  entry_read
  pointwise
  exact hg _ _

/-! ## The second -/

theorem vals2_v7 : vals2 m c (Proc.devRef .tc main_v7) = vals1 m c (Proc.devRef .tc main_v7) := vals2_of_ne m c main_v7 (by decide)

include hg in
theorem host22 (h : Fin 8) (b : Fin 32) (r : Fin 256) (d : Fin 64) :
    (show Vec Ideal S8x32x256x64 .bf16 from StableHlo.after hostOps1 (vals2 m c) (Proc.devRef .tc main_v22)) (ix4 h b r d)
      = ((HH h.val).g (b.val * 256 + r.val) d.val : EReal) := by
  entry_read
  pointwise
  refine (congrFun (vals2_v7 m c) _).trans ?_
  exact (host7 m c g hg ⟨b.val * 256 + r.val, by omega⟩ ⟨h.val * 64 + d.val, by omega⟩).trans (congrArg _ (cell_eq g _ _ _ _))
include hg in
theorem host24 (h : Fin 8) (b : Fin 32) (r : Fin 256) (d : Fin 64) :
    (show Vec Ideal S8x32x64x256 .bf16 from StableHlo.after hostOps1 (vals2 m c) (Proc.devRef .tc main_v24)) (ix4 h b d r)
      = ((HH h.val).g (b.val * 256 + r.val) d.val : EReal) := by
  entry_read
  pointwise
  refine (congrFun (vals2_v7 m c) _).trans ?_
  exact (host7 m c g hg ⟨b.val * 256 + r.val, by omega⟩ ⟨h.val * 64 + d.val, by omega⟩).trans (congrArg _ (cell_eq g _ _ _ _))

/-! ## The blocks of the forward kernel -/

theorem idx0 : ∀ t : Fin cfg0.N, win0_0.index t = ![t.val, 0, 0, 0] ∧ win0_1.index t = ![t.val, 0, 0, 0] ∧ win0_2.index t = ![t.val, 0, 0, 0] ∧ win0_3.index t = ![t.val, 0, 0, 0] ∧ win0_4.index t = ![t.val, 0, 0, 0] :=
  (by decide +kernel : ∀ t : Fin grid0.N, _)

theorem idx1 : ∀ t : Fin cfg1.N, win1_0.index t = ![t.val, 0, 0, 0] ∧ win1_1.index t = ![t.val, 0, 0, 0] ∧ win1_2.index t = ![t.val, 0, 0, 0] ∧ win1_3.index t = ![t.val, 0, 0, 0] ∧ win1_4.index t = ![t.val, 0, 0, 0] ∧ win1_5.index t = ![t.val, 0, 0, 0] ∧ win1_6.index t = ![t.val, 0, 0, 0] ∧ win1_7.index t = ![t.val, 0, 0, 0] ∧ win1_8.index t = ![t.val, 0, 0, 0] ∧ win1_9.index t = ![t.val, 0, 0, 0] :=
  (by decide +kernel : ∀ t : Fin grid1.N, _)

/-- A point of the grid is a head. -/
def headAt0 (t : Fin cfg0.N) : Fin 8 := ⟨t.val, lt_of_lt_of_eq t.isLt N_0⟩
def headAt1 (t : Fin cfg1.N) : Fin 8 := ⟨t.val, lt_of_lt_of_eq t.isLt N_1⟩

theorem blk0_0 (t : Fin cfg0.N) (b : Fin 32) (r : Fin 256) (d : Fin 64) :
    (show Vec Ideal S1x32x256x64 .bf16 from blk0 (in0 m) c 0 t) (ix4 0 b r d)
      = (show Vec Ideal S8x32x256x64 .bf16 from vals1 m c (Proc.devRef .tc main_v11)) (ix4 (headAt0 t) b r d) := by
  blk_point [blk0, headAt0, idx0 t]
theorem blk0_1 (t : Fin cfg0.N) (b : Fin 32) (d : Fin 64) (r : Fin 256) :
    (show Vec Ideal S1x32x64x256 .bf16 from blk0 (in0 m) c 1 t) (ix4 0 b d r)
      = (show Vec Ideal S8x32x64x256 .bf16 from vals1 m c (Proc.devRef .tc main_v17)) (ix4 (headAt0 t) b d r) := by
  blk_point [blk0, headAt0, idx0 t]
theorem blk0_2 (t : Fin cfg0.N) (b : Fin 32) (d : Fin 64) (r : Fin 256) :
    (show Vec Ideal S1x32x64x256 .bf16 from blk0 (in0 m) c 2 t) (ix4 0 b d r)
      = (show Vec Ideal S8x32x64x256 .bf16 from vals1 m c (Proc.devRef .tc main_v19)) (ix4 (headAt0 t) b d r) := by
  blk_point [blk0, headAt0, idx0 t]

/-! ## What the forward kernel returns -/

/-- The attention output, -/
def oArr : FVec Ideal S8x32x64x256 .f32 := fun p => ((HH (p 0).val).o ((p 1).val * 256 + (p 3).val) (p 2).val : EReal)
/-- and the row totals. -/
def tArr : FVec Ideal S8x32x256x1 .f32 := fun p => ((HH (p 0).val).fc (p 1).val ((p 1).val + 1) ((p 1).val * 256 + (p 2).val) : EReal)

include hq hk hv in
theorem final_o : (data0 (in0 m) c).arrAt 3 cfg0.N = oArr g q k v := by
  refine (data0 (in0 m) c).arrAt_eq_of_covers 3 _ (by decide +kernel) fun t _ y => ?_
  blk_simp
  rw [data0_after3]
  change S1x32x64x256.Idx at y
  idx_vars y
  have e : ((cfg0.win 3).blk t).view.emb (ix4 y0 y1 y2 y3 : S1x32x64x256.Idx) = (ix4 (headAt0 t) y1 y2 y3 : S8x32x64x256.Idx) := by
    blk_ext [headAt0, idx0 t]
  rw [e]
  obtain rfl : y0 = 0 := Subsingleton.elim _ _
  exact fwdOut_real (HH t.val) _ _ _ (fun b r d => (blk0_0 m c t b r d).trans (host11 m c g q k v hq _ _ _ _))
    (fun b d r => (blk0_1 m c t b d r).trans (host17 m c g q k v hk _ _ _ _)) (fun b d r => (blk0_2 m c t b d r).trans (host19 m c g q k v hv _ _ _ _)) y1 y2 y3

include hq hk hv in
theorem final_t : (data0 (in0 m) c).arrAt 4 cfg0.N = tArr g q k v := by
  refine (data0 (in0 m) c).arrAt_eq_of_covers 4 _ (by decide +kernel) fun t _ y => ?_
  blk_simp
  rw [data0_after4]
  change S1x32x256x1.Idx at y
  idx_vars y
  have e : ((cfg0.win 4).blk t).view.emb (ix4 y0 y1 y2 y3 : S1x32x256x1.Idx) = (ix4 (headAt0 t) y1 y2 y3 : S8x32x256x1.Idx) := by
    blk_ext [headAt0, idx0 t]
  rw [e]
  obtain rfl : y0 = 0 := Subsingleton.elim _ _
  obtain rfl : y3 = 0 := Subsingleton.elim _ _
  exact fwdTot_real (HH t.val) _ _ _ (fun b r d => (blk0_0 m c t b r d).trans (host11 m c g q k v hq _ _ _ _))
    (fun b d r => (blk0_1 m c t b d r).trans (host17 m c g q k v hk _ _ _ _)) (fun b d r => (blk0_2 m c t b d r).trans (host19 m c g q k v hv _ _ _ _)) y1 y2

/-! ## What the backward kernel finds -/

theorem vals3_v11 : vals3 m c (Proc.devRef .tc main_v11) = vals1 m c (Proc.devRef .tc main_v11) :=
  (vals3_of m c main_v11 (by decide)).trans ((vals2_arr m c 0).trans ((data0 (in0 m) c).arrAt_in 0 rfl _))
theorem vals3_v17 : vals3 m c (Proc.devRef .tc main_v17) = vals1 m c (Proc.devRef .tc main_v17) :=
  (vals3_of m c main_v17 (by decide)).trans ((vals2_arr m c 1).trans ((data0 (in0 m) c).arrAt_in 1 rfl _))
theorem vals3_v19 : vals3 m c (Proc.devRef .tc main_v19) = vals1 m c (Proc.devRef .tc main_v19) :=
  (vals3_of m c main_v19 (by decide)).trans ((vals2_arr m c 2).trans ((data0 (in0 m) c).arrAt_in 2 rfl _))
theorem vals3_v15 : vals3 m c (Proc.devRef .tc main_v15) = vals1 m c (Proc.devRef .tc main_v15) :=
  (vals3_of m c main_v15 (by decide)).trans (vals2_of_ne m c main_v15 (by decide))
include hq hk hv in
theorem vals3_t : vals3 m c (Proc.devRef .tc main_v20_1) = tArr g q k v :=
  (vals3_of m c main_v20_1 (by decide)).trans ((vals2_arr m c 4).trans (final_t m c g q k v hq hk hv))

theorem blk1_0 (t : Fin cfg1.N) (b : Fin 32) (r : Fin 256) (d : Fin 64) :
    (show Vec Ideal S1x32x256x64 .bf16 from blk1 (in1 m) c 0 t) (ix4 0 b r d)
      = (show Vec Ideal S8x32x256x64 .bf16 from vals3 m c (Proc.devRef .tc main_v11)) (ix4 (headAt1 t) b r d) := by
  blk_point [blk1, headAt1, idx1 t]
theorem blk1_1 (t : Fin cfg1.N) (b : Fin 32) (d : Fin 64) (r : Fin 256) :
    (show Vec Ideal S1x32x64x256 .bf16 from blk1 (in1 m) c 1 t) (ix4 0 b d r)
      = (show Vec Ideal S8x32x64x256 .bf16 from vals3 m c (Proc.devRef .tc main_v15)) (ix4 (headAt1 t) b d r) := by
  blk_point [blk1, headAt1, idx1 t]
theorem blk1_2 (t : Fin cfg1.N) (b : Fin 32) (d : Fin 64) (r : Fin 256) :
    (show Vec Ideal S1x32x64x256 .bf16 from blk1 (in1 m) c 2 t) (ix4 0 b d r)
      = (show Vec Ideal S8x32x64x256 .bf16 from vals3 m c (Proc.devRef .tc main_v17)) (ix4 (headAt1 t) b d r) := by
  blk_point [blk1, headAt1, idx1 t]
theorem blk1_3 (t : Fin cfg1.N) (b : Fin 32) (d : Fin 64) (r : Fin 256) :
    (show Vec Ideal S1x32x64x256 .bf16 from blk1 (in1 m) c 3 t) (ix4 0 b d r)
      = (show Vec Ideal S8x32x64x256 .bf16 from vals3 m c (Proc.devRef .tc main_v19)) (ix4 (headAt1 t) b d r) := by
  blk_point [blk1, headAt1, idx1 t]
theorem blk1_4 (t : Fin cfg1.N) (b : Fin 32) (r : Fin 256) (d : Fin 64) :
    (show Vec Ideal S1x32x256x64 .bf16 from blk1 (in1 m) c 4 t) (ix4 0 b r d)
      = (show Vec Ideal S8x32x256x64 .bf16 from vals3 m c (Proc.devRef .tc main_v22)) (ix4 (headAt1 t) b r d) := by
  blk_point [blk1, headAt1, idx1 t]
theorem blk1_5 (t : Fin cfg1.N) (b : Fin 32) (d : Fin 64) (r : Fin 256) :
    (show Vec Ideal S1x32x64x256 .bf16 from blk1 (in1 m) c 5 t) (ix4 0 b d r)
      = (show Vec Ideal S8x32x64x256 .bf16 from vals3 m c (Proc.devRef .tc main_v24)) (ix4 (headAt1 t) b d r) := by
  blk_point [blk1, headAt1, idx1 t]
theorem blk1_6 (t : Fin cfg1.N) (b : Fin 32) (r : Fin 256) :
    (show Vec Ideal S1x32x256x1 .f32 from blk1 (in1 m) c 6 t) (ix4 0 b r 0)
      = (show Vec Ideal S8x32x256x1 .f32 from vals3 m c (Proc.devRef .tc main_v20_1)) (ix4 (headAt1 t) b r 0) := by
  blk_point [blk1, headAt1, idx1 t]

/-- The seven blocks at a point of the grid. -/
abbrev bwdAt (t : Fin cfg1.N) : BwdIn Ideal :=
  bwdX (blk1 (in1 m) c 0 t) (blk1 (in1 m) c 1 t) (blk1 (in1 m) c 2 t) (blk1 (in1 m) c 3 t) (blk1 (in1 m) c 4 t) (blk1 (in1 m) c 5 t) (blk1 (in1 m) c 6 t)

include hg hq hk hv in
theorem holds1 (t : Fin cfg1.N) : Holds (HH t.val) (bwdAt m c t) where
  qn b r d := (blk1_0 m c t b r d).trans ((congrFun (vals3_v11 m c) _).trans (host11 m c g q k v hq (headAt1 t) b r d))
  qt b d r := (blk1_1 m c t b d r).trans ((congrFun (vals3_v15 m c) _).trans (host15 m c g q k v hq (headAt1 t) b r d))
  kt b d r := (blk1_2 m c t b d r).trans ((congrFun (vals3_v17 m c) _).trans (host17 m c g q k v hk (headAt1 t) b r d))
  vt b d r := (blk1_3 m c t b d r).trans ((congrFun (vals3_v19 m c) _).trans (host19 m c g q k v hv (headAt1 t) b r d))
  don b r d := (blk1_4 m c t b r d).trans (host22 m c g q k v hg (headAt1 t) b r d)
  dot b d r := (blk1_5 m c t b d r).trans (host24 m c g q k v hg (headAt1 t) b r d)
  tl b r := (blk1_6 m c t b r).trans (congrFun (vals3_t m c g q k v hq hk hv) _)

/-! ## What it returns -/

/-- The gradient in the scaled queries, -/
def dqArr : FVec Ideal S8x32x64x256 .f32 := fun p => ((HH (p 0).val).dq ((p 1).val * 256 + (p 3).val) (p 2).val : EReal)
include hg hq hk hv in
theorem final_dq : (data1 (in1 m) c).arrAt 7 cfg1.N = dqArr g q k v := by
  refine (data1 (in1 m) c).arrAt_eq_of_covers 7 _ (by decide +kernel) fun t _ y => ?_
  blk_simp
  rw [data1_after7]
  change S1x32x64x256.Idx at y
  idx_vars y
  have e : ((cfg1.win 7).blk t).view.emb (ix4 y0 y1 y2 y3 : S1x32x64x256.Idx) = (ix4 (headAt1 t) y1 y2 y3 : S8x32x64x256.Idx) := by
    blk_ext [headAt1, idx1 t]
  rw [e]
  obtain rfl : y0 = 0 := Subsingleton.elim _ _
  exact bwdQ_real (holds1 m c g q k v hg hq hk hv t) y1 y2 y3

/-- in the keys -/
def dkArr : FVec Ideal S8x32x64x256 .f32 := fun p => ((HH (p 0).val).dk ((p 1).val * 256 + (p 3).val) (p 2).val : EReal)
include hg hq hk hv in
theorem final_dk : (data1 (in1 m) c).arrAt 8 cfg1.N = dkArr g q k v := by
  refine (data1 (in1 m) c).arrAt_eq_of_covers 8 _ (by decide +kernel) fun t _ y => ?_
  blk_simp
  rw [data1_after8]
  change S1x32x64x256.Idx at y
  idx_vars y
  have e : ((cfg1.win 8).blk t).view.emb (ix4 y0 y1 y2 y3 : S1x32x64x256.Idx) = (ix4 (headAt1 t) y1 y2 y3 : S8x32x64x256.Idx) := by
    blk_ext [headAt1, idx1 t]
  rw [e]
  obtain rfl : y0 = 0 := Subsingleton.elim _ _
  exact bwdK_real (holds1 m c g q k v hg hq hk hv t) y1 y2 y3

/-- and in the values. -/
def dvArr : FVec Ideal S8x32x64x256 .f32 := fun p => ((HH (p 0).val).dv ((p 1).val * 256 + (p 3).val) (p 2).val : EReal)
include hg hq hk hv in
theorem final_dv : (data1 (in1 m) c).arrAt 9 cfg1.N = dvArr g q k v := by
  refine (data1 (in1 m) c).arrAt_eq_of_covers 9 _ (by decide +kernel) fun t _ y => ?_
  blk_simp
  rw [data1_after9]
  change S1x32x64x256.Idx at y
  idx_vars y
  have e : ((cfg1.win 9).blk t).view.emb (ix4 y0 y1 y2 y3 : S1x32x64x256.Idx) = (ix4 (headAt1 t) y1 y2 y3 : S8x32x64x256.Idx) := by
    blk_ext [headAt1, idx1 t]
  rw [e]
  obtain rfl : y0 = 0 := Subsingleton.elim _ _
  exact bwdV_real (holds1 m c g q k v hg hq hk hv t) y1 y2 y3

end

end Cert.Stick
-- ==== Proof.SbRef.lean ====
/- The reference for stick-breaking attention and its gradients, read one operation at a time on real arguments. -/
module

public import proofs.«01_k».proof.Proof.Gen.SbRefIdeal.Read
public import proofs.«01_k».proof.Proof.SbScan
public import proofs.«01_k».proof.Proof.SbHost
public import Idealize.ShloMosaic.Lib.KernelVsHost

@[expose] public section

set_option maxRecDepth 16384

noncomputable section

namespace Cert.SbRefIdeal.Read

open Idealize.ShloMosaic Idealize.ShloMosaic.TcCoe
open Cert.SbRefIdeal Cert.SbRefIdeal.Gen
open Cert.SbMath (Head sp)
open Cert.Stick (cell cell_eq headOf bit select_bit sum_coe ite_coe)

variable (x0 x1 x2 x3 : FVec Ideal S1x8192x512 .f32) (g q k v : Fin 8192 → Fin 512 → ℝ)
  (hg : ∀ t s, x0 (ix3 0 t s) = (g t s : EReal)) (hq : ∀ t s, x1 (ix3 0 t s) = (q t s : EReal))
  (hk : ∀ t s, x2 (ix3 0 t s) = (k t s : EReal)) (hv : ∀ t s, x3 (ix3 0 t s) = (v t s : EReal))

local notation "HH" => headOf g q k v

theorem eighth32 : Ideal.ofBits .f32 0x3E000000#32 = ((1 / 8 : ℝ) : EReal) := by
  simp [Ideal.ofBits, Ideal.ieee]
  rw [← EReal.coe_mul]
  norm_num
theorem inf32 : Ideal.ofBits .f32 0x7F800000#32 = (⊤ : EReal) := by
  simp [Ideal.ofBits, Ideal.ieee]
theorem zero_at : (id (constant (F := Ideal) S_ .f32 0#32)) ix0 = (0 : EReal) := by
  show Ideal.ofBits .f32 0#32 = (0 : EReal)
  simp [Ideal.ofBits, Ideal.ieee]
theorem zero32 : Ideal.ofBits .f32 0x00000000#32 = (0 : EReal) := by
  simp [Ideal.ofBits, Ideal.ieee]

/-- The softplus as the reference forms it. -/
theorem softplus_select (x : ℝ) : (if (x : EReal) ≠ (x : EReal) then (x : EReal) else max (x : EReal) 0 + Ideal.log1p (Ideal.exp (-(FloatOps.absf (x : EReal) : Ideal .f32)))) = (sp x : EReal) := by
  rw [if_neg (fun h => h rfl)]
  have e := Cert.Stick.softplus_coe x
  rw [zero_sub] at e
  exact e

/-- The logistic as the reference forms it. -/
theorem logistic_select (x : ℝ) : Ideal.exp ((if (x : EReal) = ⊤ then (0 : EReal) else (x : EReal)) - (if ((sp x : ℝ) : EReal) = ⊤ then (0 : EReal) else ((sp x : ℝ) : EReal)))
    = (Cert.SbMath.sig x : EReal) := by
  rw [if_neg (EReal.coe_ne_top _), if_neg (EReal.coe_ne_top _), ← EReal.coe_sub, Ideal.exp_coe, Cert.SbMath.exp_sub_sp]

/-! ## The heads -/

include hq in
theorem q_at (h : Fin 8) (t : Fin 8192) (d : Fin 64) : val_main_v11 (F := Ideal) x1 (ix3 h t d) = ((HH h.val).q t.val d.val : EReal) := by
  pointwise [val_main_v11, val_main_v3, val_main_v2, val_main_v1, val_main_v0, val_main_cst]
  rw [eighth32]
  refine (congrArg (· * ((1 / 8 : ℝ) : EReal)) (hq t ⟨h.val * 64 + d.val, by omega⟩)).trans ?_
  rw [← EReal.coe_mul]
  exact congrArg (fun x : ℝ => ((x * (1 / 8) : ℝ) : EReal)) (cell_eq q _ _ _ _)
include hk in
theorem k_at (h : Fin 8) (t : Fin 8192) (d : Fin 64) : val_main_v8 (F := Ideal) x2 (ix3 h t d) = ((HH h.val).k t.val d.val : EReal) := by
  pointwise [val_main_v8, val_main_v5, val_main_v4]
  exact (hk t ⟨h.val * 64 + d.val, by omega⟩).trans (congrArg _ (cell_eq k _ _ _ _))
include hv in
theorem v_at (h : Fin 8) (t : Fin 8192) (d : Fin 64) : val_main_v9 (F := Ideal) x3 (ix3 h t d) = ((HH h.val).v t.val d.val : EReal) := by
  pointwise [val_main_v9, val_main_v7, val_main_v6]
  exact (hv t ⟨h.val * 64 + d.val, by omega⟩).trans (congrArg _ (cell_eq v _ _ _ _))
include hg in
theorem g_at (h : Fin 8) (t : Fin 8192) (d : Fin 64) : val_main_v36 (F := Ideal) x0 (ix3 h t d) = ((HH h.val).g t.val d.val : EReal) := by
  pointwise [val_main_v36, val_main_v35, val_main_v34]
  exact (hg t ⟨h.val * 64 + d.val, by omega⟩).trans (congrArg _ (cell_eq g _ _ _ _))

/-! ## Scores -/

include hq hk in
theorem z_at (h : Fin 8) (t s : Fin 8192) : val_main_v12 (F := Ideal) x1 x2 (ix3 h t s) = ((HH h.val).z t.val s.val : EReal) := by
  pointwise [val_main_v12]
  simp only [q_at x1 g q k v hq, k_at x2 g q k v hk, ← EReal.coe_mul, sum_coe]
  exact congrArg _ (Fin.sum_univ_eq_sum_range (fun d => (HH h.val).q t.val d * (HH h.val).k s.val d) 64)

theorem mask_at (t s : Fin 8192) : val_main_v18 (F := Ideal) (ix2 t s) = bit (s.val < t.val) := by
  pointwise [val_main_v18, val_main_v17, val_main_v16, val_main_v15, val_main_v14, val_main_v13, val_main_v10]
  rw [WordCmp.cmpi_slt_ofNat (by omega) (by omega)]; unfold bit; by_cases h : s.val < t.val <;> simp [h]

include hq hk in
theorem z0_at (h : Fin 8) (t s : Fin 8192) : val_main_call0_v0 (F := Ideal) x1 x2 (ix3 h t s) = ((HH h.val).z t.val s.val : EReal) := by
  pointwise [val_main_call0_v0, val_main_v19]
  rw [z_at x1 x2 g q k v hq hk, neg_neg]

include hq hk in
theorem sp_at (h : Fin 8) (t s : Fin 8192) : val_main_call0_v1_0 (F := Ideal) x1 x2 (ix3 h t s) = (sp ((HH h.val).z t.val s.val) : EReal) := by
  pointwise [val_main_call0_v1_0, val_main_call0_call0_v4, val_main_call0_call0_v6, val_main_call0_call0_v11, val_main_call0_call0_v1,
    val_main_call0_call0_v10, val_main_call0_call0_v9, val_main_call0_call0_v8, val_main_call0_call0_v7, val_main_call0_call0_v3,
    val_main_call0_call0_v0, val_main_call0_call0_v2, val_main_call0_call0_v5, val_main_call0_call0_cst]
  rw [z0_at x1 x2 g q k v hq hk]
  exact softplus_select _

include hq hk in
theorem sig_at (h : Fin 8) (t s : Fin 8192) : val_main_v20_1 (F := Ideal) x1 x2 (ix3 h t s) = (Cert.SbMath.sig ((HH h.val).z t.val s.val) : EReal) := by
  pointwise [val_main_v20_1, val_main_call0_call0_v21, val_main_call0_call0_v20, val_main_call0_call0_v18, val_main_call0_call0_v19,
    val_main_call0_call0_v17, val_main_call0_call0_v16, val_main_call0_call0_v15, val_main_call0_call0_v14, val_main_call0_call0_v13,
    val_main_call0_call0_cst_0, val_main_call0_call0_cst_1, val_main_call0_call0_cst_2, val_main_call0_call0_cst_3]
  rw [z0_at x1 x2 g q k v hq hk, sp_at x1 x2 g q k v hq hk]
  simp only [inf32]
  exact logistic_select _

include hq hk in
theorem lk_at (h : Fin 8) (t s : Fin 8192) : val_main_v21_0 (F := Ideal) x1 x2 (ix3 h t s) = ((HH h.val).lk t.val s.val : EReal) := by
  pointwise [val_main_v21_0, val_main_v21_1, val_main_v20_0, val_main_call1_v2, val_main_call1_v0, val_main_cst_0]
  rw [sp_at x1 x2 g q k v hq hk, mask_at]
  rw [select_bit, zero_at, ← EReal.coe_neg, ← EReal.coe_zero, ite_coe]
  rfl

include hq hk in
theorem from_at (h : Fin 8) (t s : Fin 8192) : val_main_v22 (F := Ideal) x1 x2 (ix3 h t s)
    = ((∑ u ∈ Finset.Ico s.val 8192, (HH h.val).lk t.val u : ℝ) : EReal) := by
  rw [← Cert.Stick.window_after]
  refine Cert.Stick.window_row (val_main_v21_0 (F := Ideal) x1 x2) _ _ _ h t s _ (fun u => lk_at x1 x2 g q k v hq hk h t u) (fun i => ?_)
  pointwise [val_main_call2_v0, val_main_call2_cst]

include hq hk in
theorem rest_at (h : Fin 8) (t s : Fin 8192) : val_main_v26 (F := Ideal) x1 x2 (ix3 h t s) = ((HH h.val).rest t.val s.val : EReal) := by
  refine (Cert.Stick.concat_last (val_main_v23 (F := Ideal) x1 x2) (val_main_v25 (F := Ideal)) _ (by norm_num) h t s).trans ?_
  by_cases hs : s.val < 8191
  · rw [dif_pos hs]
    pointwise [val_main_v23]
    refine (from_at x1 x2 g q k v hq hk h t ⟨1 + s.val, by omega⟩).trans ?_
    show ((∑ u ∈ Finset.Ico (1 + s.val) 8192, (HH h.val).lk t.val u : ℝ) : EReal) = _
    rw [Nat.add_comm 1 s.val]
    rfl
  · rw [dif_neg hs]
    pointwise [val_main_v25, val_main_cst_1]
    unfold Head.rest
    rw [Finset.Ico_eq_empty (by omega), Finset.sum_empty]
    rfl

/-! ## Weights -/

include hq hk in
theorem nz_at (h : Fin 8) (t s : Fin 8192) : val_main_call3_v0 (F := Ideal) x1 x2 (ix3 h t s) = ((-(HH h.val).z t.val s.val : ℝ) : EReal) := by
  pointwise [val_main_call3_v0]
  rw [z_at x1 x2 g q k v hq hk, EReal.coe_neg]

include hq hk in
theorem spn_at (h : Fin 8) (t s : Fin 8192) : val_main_call3_v1_0 (F := Ideal) x1 x2 (ix3 h t s) = (sp (-(HH h.val).z t.val s.val) : EReal) := by
  pointwise [val_main_call3_v1_0, val_main_call3_call0_v4, val_main_call3_call0_v6, val_main_call3_call0_v11, val_main_call3_call0_v1,
    val_main_call3_call0_v10, val_main_call3_call0_v9, val_main_call3_call0_v8, val_main_call3_call0_v7, val_main_call3_call0_v3,
    val_main_call3_call0_v0, val_main_call3_call0_v2, val_main_call3_call0_v5, val_main_call3_call0_cst]
  rw [nz_at x1 x2 g q k v hq hk]
  exact softplus_select _

include hq hk in
theorem sign_at (h : Fin 8) (t s : Fin 8192) : val_main_v28_1 (F := Ideal) x1 x2 (ix3 h t s) = ((1 - Cert.SbMath.sig ((HH h.val).z t.val s.val) : ℝ) : EReal) := by
  pointwise [val_main_v28_1, val_main_call3_call0_v21, val_main_call3_call0_v20, val_main_call3_call0_v18, val_main_call3_call0_v19,
    val_main_call3_call0_v17, val_main_call3_call0_v16, val_main_call3_call0_v15, val_main_call3_call0_v14, val_main_call3_call0_v13,
    val_main_call3_call0_cst_0, val_main_call3_call0_cst_1, val_main_call3_call0_cst_2, val_main_call3_call0_cst_3]
  rw [nz_at x1 x2 g q k v hq hk, spn_at x1 x2 g q k v hq hk, ← Cert.SbMath.sig_neg]
  simp only [inf32]
  exact logistic_select _

/-- What the exponential of the log weight is before the mask. -/
def raw (H : Head) (t s : ℕ) : ℝ := Real.exp (H.z t s - sp (H.z t s) + H.rest t s)
theorem raw_of_lt (H : Head) {t s : ℕ} (h : s < t) : raw H t s = H.a t s := (if_pos h).symm

include hq hk in
theorem raw_at (h : Fin 8) (t s : Fin 8192) : val_main_v30 (F := Ideal) x1 x2 (ix3 h t s) = (raw (HH h.val) t.val s.val : EReal) := by
  pointwise [val_main_v30, val_main_v29, val_main_v28_0]
  rw [spn_at x1 x2 g q k v hq hk, rest_at x1 x2 g q k v hq hk, ← EReal.coe_neg, ← EReal.coe_add, Ideal.exp_coe, Cert.SbMath.neg_sp_neg]
  rfl

include hq hk in
theorem a_at (h : Fin 8) (t s : Fin 8192) : val_main_v31_0 (F := Ideal) x1 x2 (ix3 h t s) = ((HH h.val).a t.val s.val : EReal) := by
  pointwise [val_main_v31_0, val_main_v31_1, val_main_call4_v2, val_main_call4_v0, val_main_cst_3]
  rw [raw_at x1 x2 g q k v hq hk, mask_at]
  rw [select_bit, zero_at, ← EReal.coe_zero, ite_coe]
  rfl

include hg hv in
theorem gv_at (h : Fin 8) (t s : Fin 8192) : val_main_v39 (F := Ideal) x0 x3 (ix3 h t s)
    = ((∑ d ∈ Finset.range 64, (HH h.val).g t.val d * (HH h.val).v s.val d : ℝ) : EReal) := by
  pointwise [val_main_v39]
  simp only [g_at x0 g q k v hg, v_at x3 g q k v hv, ← EReal.coe_mul, sum_coe]
  exact congrArg _ (Fin.sum_univ_eq_sum_range (fun d => (HH h.val).g t.val d * (HH h.val).v s.val d) 64)

include hg hq hk hv in
theorem w_at (h : Fin 8) (t s : Fin 8192) : val_main_v41 (F := Ideal) x0 x1 x2 x3 (ix3 h t s) = ((HH h.val).w t.val s.val : EReal) := by
  pointwise [val_main_v41, val_main_v40, val_main_v31_1, val_main_call5_v0, val_main_call5_cst]
  rw [raw_at x1 x2 g q k v hq hk, gv_at x0 x3 g q k v hg hv, mask_at]
  rw [select_bit]
  unfold Head.w
  by_cases hs : s.val < t.val
  · rw [if_pos hs, raw_of_lt _ hs, ← EReal.coe_mul, mul_comm]
  · rw [if_neg hs, Head.a_of_le _ (by omega), zero_mul]
    rfl

include hg hq hk hv in
theorem upto_at (h : Fin 8) (t s : Fin 8192) : val_main_v45 (F := Ideal) x0 x1 x2 x3 (ix3 h t s)
    = ((if s.val = 0 then 0 else (HH h.val).w t.val (s.val - 1) : ℝ) : EReal) := by
  refine (Cert.Stick.pad_first (val_main_v43 (F := Ideal) x0 x1 x2 x3) (val_main_cst_4 (F := Ideal)) _ _ (by norm_num) h t s).trans ?_
  by_cases hs : s.val = 0
  · rw [dif_pos hs, if_pos hs]
    pointwise [val_main_cst_4]
    rfl
  · rw [dif_neg hs, if_neg hs]
    pointwise [val_main_v43]
    exact w_at x0 x1 x2 x3 g q k v hg hq hk hv h t ⟨s.val - 1, by omega⟩

theorem sum_shift (f : ℕ → ℝ) (n : ℕ) : ∑ s ∈ Finset.range (n + 1), (if s = 0 then 0 else f (s - 1)) = ∑ s ∈ Finset.range n, f s := by
  rw [Finset.sum_range_succ', if_pos rfl, add_zero]
  exact Finset.sum_congr rfl fun i _ => if_neg (Nat.succ_ne_zero i)

include hg hq hk hv in
theorem before_at (h : Fin 8) (t s : Fin 8192) : val_main_v46 (F := Ideal) x0 x1 x2 x3 (ix3 h t s)
    = ((∑ u ∈ Finset.range s.val, (HH h.val).w t.val u : ℝ) : EReal) := by
  rw [← sum_shift]
  refine Cert.Stick.window_left (by norm_num) (val_main_v45 (F := Ideal) x0 x1 x2 x3) _ _ _ h t s (fun n => if n = 0 then 0 else (HH h.val).w t.val (n - 1))
    (fun u => upto_at x0 x1 x2 x3 g q k v hg hq hk hv h t u) (fun i => ?_)
  pointwise [val_main_call7_v0, val_main_call7_cst]

include hg hq hk hv in
theorem dz_at (h : Fin 8) (t s : Fin 8192) : val_main_v50 (F := Ideal) x0 x1 x2 x3 (ix3 h t s) = ((HH h.val).dz t.val s.val : EReal) := by
  pointwise [val_main_v50, val_main_v49, val_main_v48, val_main_call9_v1, val_main_call9_v0, val_main_v47, val_main_v42, val_main_call6_v1,
    val_main_call6_v0, val_main_v21_1, val_main_call8_v0, val_main_call8_cst]
  rw [w_at x0 x1 x2 x3 g q k v hg hq hk hv, sign_at x1 x2 g q k v hq hk, before_at x0 x1 x2 x3 g q k v hg hq hk hv, sig_at x1 x2 g q k v hq hk, mask_at]
  rw [select_bit, ← EReal.coe_zero, ite_coe]
  simp only [← EReal.coe_neg, ← EReal.coe_mul, ← EReal.coe_add]
  refine congrArg _ ?_
  by_cases hs : s.val < t.val
  · unfold Head.dz
    rw [if_pos hs, if_pos hs]
    ring
  · rw [if_neg hs, Head.w_of_le _ (by omega), Head.dz_of_le _ (by omega)]
    ring

/-! ## Results -/

include hq hk hv in
theorem out_o : val_main_v57 (F := Ideal) x1 x2 x3 = Cert.Stick.oArr g q k v := by
  funext j
  change S8x32x64x256.Idx at j
  idx_vars j
  pointwise [val_main_v57, val_main_v56, val_main_v33, val_main_v32]
  simp only [a_at x1 x2 g q k v hq hk, v_at x3 g q k v hv, ← EReal.coe_mul, sum_coe]
  refine congrArg (fun x : ℝ => (x : EReal)) ?_
  exact (Fin.sum_univ_eq_sum_range (fun s => (HH j0.val).a (j1.val * 256 + j3.val) s * (HH j0.val).v s j2.val) 8192).trans (Finset.sum_congr rfl fun s _ => mul_comm _ _)

include hg hq hk hv in
theorem out_dq : val_main_v59 (F := Ideal) x0 x1 x2 x3 = Cert.Stick.dqArr g q k v := by
  funext j
  change S8x32x64x256.Idx at j
  idx_vars j
  pointwise [val_main_v59, val_main_v58, val_main_v53, val_main_v52]
  simp only [dz_at x0 x1 x2 x3 g q k v hg hq hk hv, k_at x2 g q k v hk, ← EReal.coe_mul, sum_coe]
  refine congrArg (fun x : ℝ => (x : EReal)) ?_
  exact (Fin.sum_univ_eq_sum_range (fun s => (HH j0.val).dz (j1.val * 256 + j3.val) s * (HH j0.val).k s j2.val) 8192).trans (Finset.sum_congr rfl fun s _ => mul_comm _ _)

include hg hq hk hv in
theorem out_dk : val_main_v61 (F := Ideal) x0 x1 x2 x3 = Cert.Stick.dkArr g q k v := by
  funext j
  change S8x32x64x256.Idx at j
  idx_vars j
  pointwise [val_main_v61, val_main_v60, val_main_v55, val_main_v51]
  simp only [dz_at x0 x1 x2 x3 g q k v hg hq hk hv, q_at x1 g q k v hq, ← EReal.coe_mul, sum_coe]
  refine congrArg (fun x : ℝ => (x : EReal)) ?_
  exact (Fin.sum_univ_eq_sum_range (fun s => (HH j0.val).dz s (j1.val * 256 + j3.val) * (HH j0.val).q s j2.val) 8192).trans (Finset.sum_congr rfl fun s _ => mul_comm _ _)

include hg hq hk in
theorem out_dv : val_main_v63 (F := Ideal) x0 x1 x2 = Cert.Stick.dvArr g q k v := by
  funext j
  change S8x32x64x256.Idx at j
  idx_vars j
  pointwise [val_main_v63, val_main_v62, val_main_v54, val_main_v38, val_main_v37]
  simp only [a_at x1 x2 g q k v hq hk, g_at x0 g q k v hg, ← EReal.coe_mul, sum_coe]
  refine congrArg (fun x : ℝ => (x : EReal)) ?_
  exact (Fin.sum_univ_eq_sum_range (fun s => (HH j0.val).g s j2.val * (HH j0.val).a s (j1.val * 256 + j3.val)) 8192).trans (Finset.sum_congr rfl fun s _ => rfl)

end Cert.SbRefIdeal.Read
-- ==== Proof.SbClaim.lean ====
/- The stick-breaking kernel against its reference: the finiteness the claim supposes gives the arguments as reals, and on reals
   both programs end with the same four arrays. -/
module

public import proofs.«01_k».proof.Defs
public import proofs.«01_k».proof.Proof.Gen.Sb
public import proofs.«01_k».proof.Proof.Gen.Pre_finite_sb
public import proofs.«01_k».proof.Proof.Gen.SbRefIdeal.Run
public import proofs.«01_k».proof.Proof.SbRef
public import proofs.«01_k».proof.Proof.Finite
public import Idealize.ShloMosaic.Lib.Claim

@[expose] public section

set_option maxRecDepth 16384

noncomputable section

namespace Cert.Stick

open Idealize.ShloMosaic Idealize.ShloMosaic.TcCoe Idealize.SL.Sem Cert.Norm
open Cert.SbIdeal (S1x8192x512)

theorem finite_at (a b d e : FVec Ideal S1x8192x512 .f32) (h : Cert.Pre_finite_sb.fn (F := Ideal) a b d e = fun _ => 1#1) :
    (∃ x : Fin 8192 → Fin 512 → ℝ, ∀ r k, a (ix3 0 r k) = (x r k : EReal)) ∧ (∃ x : Fin 8192 → Fin 512 → ℝ, ∀ r k, b (ix3 0 r k) = (x r k : EReal))
      ∧ (∃ x : Fin 8192 → Fin 512 → ℝ, ∀ r k, d (ix3 0 r k) = (x r k : EReal)) ∧ (∃ x : Fin 8192 → Fin 512 → ℝ, ∀ r k, e (ix3 0 r k) = (x r k : EReal)) := by
  have key : ∀ r k, (∃ u : ℝ, a (ix3 0 r k) = u) ∧ (∃ u : ℝ, b (ix3 0 r k) = u) ∧ (∃ u : ℝ, d (ix3 0 r k) = u) ∧ (∃ u : ℝ, e (ix3 0 r k) = u) := by
    intro r k
    have f := congrFun h (ix3 0 r k)
    revert f
    pointwise [Cert.Pre_finite_sb.fn]
    intro f
    obtain ⟨f, he⟩ := both _ _ f
    obtain ⟨f, hd⟩ := both _ _ f
    obtain ⟨ha, hb⟩ := both _ _ f
    exact ⟨real_of_bit _ ha, real_of_bit _ hb, real_of_bit _ hd, real_of_bit _ he⟩
  exact ⟨⟨fun r k => (key r k).1.choose, fun r k => (key r k).1.choose_spec⟩, ⟨fun r k => (key r k).2.1.choose, fun r k => (key r k).2.1.choose_spec⟩,
    ⟨fun r k => (key r k).2.2.1.choose, fun r k => (key r k).2.2.1.choose_spec⟩, ⟨fun r k => (key r k).2.2.2.choose, fun r k => (key r k).2.2.2.choose_spec⟩⟩

theorem frame_reference : Cert.quiescent_SbRefIdeal := fun m ρ _ =>
  (θ_run Cert.SbRefIdeal.defs _ _).mono (fun r h => ⟨fun c => (h c).2.2.2.2, sem_eq_zero_of_no_sems (by decide) r.2⟩)
    (Cert.SbRefIdeal.Value.run (F := Ideal) m ρ)

theorem frame_ideal : Cert.quiescent_SbIdeal := fun m ρ _ => frame_run (F := Ideal) m ρ

/-- The frame read at the machine's floats: the two programs are one text. -/
theorem frame_words : ∀ (m : (ℓ : Loc Cert.SbIdeal.nD Cert.SbIdeal.τ Cert.SbIdeal.sig) → Buf (Elt Bits) ℓ) (ρ : Dev Cert.SbIdeal.nD → PrngReg), True →
    θ_run (Cert.SbIdeal.defs (F := Bits)) (onTc (τ := Cert.SbIdeal.τ) (Cert.SbIdeal.main (F := Bits))) ⟨m, fun _ => 0, ρ⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3))
      ∧ r.2.sem = fun _ => 0) := fun m ρ _ => frame_run (F := Bits) m ρ

theorem frame_bits : Cert.quiescent_Sb := Eq.mp (by sl_kernel_rfl) frame_words

theorem algebraic : Cert.algebraic_SbIdeal_SbRefIdeal_pre_finite_sb := by
  pair_intro
  · run_from run_main m g
  · run_from Cert.SbRefIdeal.Value.run m' g'
    all_goals (obtain ⟨⟨w, hw⟩, ⟨q, hq⟩, ⟨k, hk⟩, v, hv⟩ := finite_at _ _ _ _ (hpre c))
    all_goals (have h0 := (hagree c).1; have h1 := (hagree c).2.1; have h2 := (hagree c).2.2.1; have h3 := (hagree c).2.2.2)
    · rw [final_o m c w q k v hq hk hv]
      refine (Cert.SbRefIdeal.Read.val_main_v57_eq _).trans ?_
      exact Cert.SbRefIdeal.Read.out_o _ _ _ w q k v (fun r s => (congrFun h1 (ix3 0 r s)).trans (hq r s))
        (fun r s => (congrFun h2 (ix3 0 r s)).trans (hk r s)) (fun r s => (congrFun h3 (ix3 0 r s)).trans (hv r s))
    · rw [final_dq m c w q k v hw hq hk hv]
      refine (Cert.SbRefIdeal.Read.val_main_v59_eq _).trans ?_
      exact Cert.SbRefIdeal.Read.out_dq _ _ _ _ w q k v (fun r s => (congrFun h0 (ix3 0 r s)).trans (hw r s))
        (fun r s => (congrFun h1 (ix3 0 r s)).trans (hq r s)) (fun r s => (congrFun h2 (ix3 0 r s)).trans (hk r s)) (fun r s => (congrFun h3 (ix3 0 r s)).trans (hv r s))
    · rw [final_dk m c w q k v hw hq hk hv]
      refine (Cert.SbRefIdeal.Read.val_main_v61_eq _).trans ?_
      exact Cert.SbRefIdeal.Read.out_dk _ _ _ _ w q k v (fun r s => (congrFun h0 (ix3 0 r s)).trans (hw r s))
        (fun r s => (congrFun h1 (ix3 0 r s)).trans (hq r s)) (fun r s => (congrFun h2 (ix3 0 r s)).trans (hk r s)) (fun r s => (congrFun h3 (ix3 0 r s)).trans (hv r s))
    · rw [final_dv m c w q k v hw hq hk hv]
      refine (Cert.SbRefIdeal.Read.val_main_v63_eq _).trans ?_
      exact Cert.SbRefIdeal.Read.out_dv _ _ _ w q k v (fun r s => (congrFun h0 (ix3 0 r s)).trans (hw r s))
        (fun r s => (congrFun h1 (ix3 0 r s)).trans (hq r s)) (fun r s => (congrFun h2 (ix3 0 r s)).trans (hk r s))

end Cert.Stick
-- ==== Proof.ProjBody.lean ====
module
public import proofs.«01_k».proof.Proof.Gen.ProjIdeal.Skeleton
public import proofs.«01_k».proof.Proof.Norm
@[expose] public section
set_option maxRecDepth 16384
noncomputable section

/-! What the body of the projection's backward call computes on one tile of 512 rows. -/
namespace Cert.ProjIdeal.Value
open Cert.ProjIdeal Cert.ProjIdeal.Gen Cert.Norm Idealize.ShloMosaic Idealize.ShloMosaic.TcCoe Idealize.SL.Sem

/-- One step of the product. -/
theorem part_at (y : FVec Ideal S512x256 .bf16) (w : FVec Ideal S256x1024 .bf16) (i : Fin 512) (d : Fin 1024) :
    k0_pay2 (F := Ideal) y w (ix2 i d) = ∑ s : Fin 256, y (ix2 i s) * w (ix2 s d) := by
  pointwise [k0_pay2, k0_pay1]

theorem step_at (y : FVec Ideal S512x256 .bf16) (w : FVec Ideal S256x1024 .bf16) (a : FVec Ideal S512x1024 .f32) (i : Fin 512) (d : Fin 1024) :
    k0_pay3 (F := Ideal) y w a (ix2 i d) = a (ix2 i d) + ∑ s : Fin 256, y (ix2 i s) * w (ix2 s d) := by
  pointwise [k0_pay3, k0_pay1]

variable (v14 v17 v43 : FVec Ideal S512x1024 .f32) (v16 : FVec Ideal S1x1024 .f32)
  (x h : Fin 512 → Fin 1024 → ℝ) (g : Fin 1024 → ℝ)
  (hx : ∀ i k, v14 (ix2 i k) = (x i k : EReal)) (hh : ∀ i k, v17 (ix2 i k) = (h i k : EReal))
  (hg : ∀ k, v16 (ix2 0 k) = (g k : EReal))
include hx

theorem pay6 (i : Fin 512) : k0_pay6 (F := Ideal) v14 (ix2 i 0) = (inv (x i) : EReal) := by
  pointwise [k0_pay6, k0_pay5]
  simp only [hx, ofBits_lanes, ofBits_eps, ← EReal.coe_mul, ← coe_sum, div_lanes, ← EReal.coe_add]
  exact rsqrt_ms (x i)

theorem pay7 (i : Fin 512) (k : Fin 1024) : k0_pay7 (F := Ideal) v14 (ix2 i k) = ((x i k * inv (x i) : ℝ) : EReal) := by
  pointwise [k0_pay7, k0_pay5, pay6 v14 x hx]
  rw [hx, EReal.coe_mul]

include hh
/-- The tile's part of the gradient in the norm's weight. -/
theorem dg_tile (j : Fin 1024) : k0_pay8 (F := Ideal) v14 v17 (ix2 0 j) = ((∑ i, h i j * (x i j * inv (x i)) : ℝ) : EReal) := by
  pointwise [k0_pay8]
  simp only [pay7 v14 x hx, hh, ← EReal.coe_mul, ← coe_sum]

include hg
/-- The tile's gradient in the residual stream, behind the gradient that passes by. -/
theorem dx_tile (i : Fin 512) (j : Fin 1024) :
    k0_pay9 (F := Ideal) v14 v16 v17 v43 (ix2 i j) = v43 (ix2 i j) + (bwd (x i) g (h i) j : EReal) := by
  pointwise [k0_pay9]
  simp only [pay6 v14 x hx, pay7 v14 x hx, hh, hg, ofBits_lanes, ← EReal.coe_mul, ← coe_sum, div_lanes, ← EReal.coe_sub]
  rfl

end Cert.ProjIdeal.Value
end
-- ==== Proof.ProjValue.lean ====
module
public import proofs.«01_k».proof.Proof.Gen.ProjIdeal.Frame
public import proofs.«01_k».proof.Proof.ProjBody
public import Idealize.ShloMosaic.Lib.Pipeline.ReadBack
public import Idealize.ShloMosaic.Lib.Claim
@[expose] public section
set_option maxRecDepth 16384
noncomputable section

/-! The two result arrays of the projection's backward call on real arguments. -/
namespace Cert.ProjIdeal.Value
open Cert.ProjIdeal Cert.ProjIdeal.Gen Cert.Norm Idealize.ShloMosaic Idealize.ShloMosaic.TcCoe Idealize.SL.Sem
open Idealize.ShloMosaic.Pipeline (Dat)

/-- The cotangent's pieces laid side by side as the host does it. -/
def dyArr (q1 : FVec Ideal S1x8192x512 .f32) (k1 v1 : FVec Ideal S1x8192x128 .f32) (q2 k2 v2 : FVec Ideal S1x8192x512 .f32)
    (g1 g2 : FVec Ideal S1x8192x1024 .f32) : FVec Ideal S8192x4352 .bf16 :=
  concatenate S8192x4352 1 [
    ⟨S8192x2304, truncf .bf16 (concatenate S8192x2304 1 [
      ⟨S8192x512, mulf (shapeCast S8192x512 q1 shapeCasts_S1x8192x512_S8192x512) (broadcastInDim S8192x512 ![] bcast_S_S8192x512 (constant S_ .f32 0x3E000000#32))⟩,
      ⟨S8192x128, shapeCast S8192x128 k1 shapeCasts_S1x8192x128_S8192x128⟩,
      ⟨S8192x128, shapeCast S8192x128 v1 shapeCasts_S1x8192x128_S8192x128⟩,
      ⟨S8192x512, mulf (shapeCast S8192x512 q2 shapeCasts_S1x8192x512_S8192x512) (broadcastInDim S8192x512 ![] bcast_S_S8192x512 (constant S_ .f32 0x3E000000#32))⟩,
      ⟨S8192x512, shapeCast S8192x512 k2 shapeCasts_S1x8192x512_S8192x512⟩,
      ⟨S8192x512, shapeCast S8192x512 v2 shapeCasts_S1x8192x512_S8192x512⟩]
      concatenates_S8192x512_S8192x128_S8192x128_S8192x512_S8192x512_S8192x512_S8192x2304_d1) bitsLt_bf16_f32⟩,
    ⟨S8192x2048, truncf .bf16 (concatenate S8192x2048 1 [⟨S8192x1024, shapeCast S8192x1024 g1 shapeCasts_S1x8192x1024_S8192x1024⟩,
      ⟨S8192x1024, shapeCast S8192x1024 g2 shapeCasts_S1x8192x1024_S8192x1024⟩] concatenates_S8192x1024_S8192x1024_S8192x2048_d1) bitsLt_bf16_f32⟩]
    concatenates_S8192x2304_S8192x2048_S8192x4352_d1

/-- The columns of the projection's cotangent laid side by side, those of the queries scaled. -/
def cat (q1 : FVec Ideal S1x8192x512 .f32) (k1 v1 : FVec Ideal S1x8192x128 .f32) (q2 k2 v2 : FVec Ideal S1x8192x512 .f32)
    (g1 g2 : FVec Ideal S1x8192x1024 .f32) (r : Fin 8192) (c : Fin 4352) : EReal :=
  if h : c.val < 512 then q1 (ix3 0 r ⟨c.val, h⟩) * Ideal.ofBits .f32 0x3E000000#32
  else if h : c.val < 640 then k1 (ix3 0 r ⟨c.val - 512, by omega⟩)
  else if h : c.val < 768 then v1 (ix3 0 r ⟨c.val - 640, by omega⟩)
  else if h : c.val < 1280 then q2 (ix3 0 r ⟨c.val - 768, by omega⟩) * Ideal.ofBits .f32 0x3E000000#32
  else if h : c.val < 1792 then k2 (ix3 0 r ⟨c.val - 1280, by omega⟩)
  else if h : c.val < 2304 then v2 (ix3 0 r ⟨c.val - 1792, by omega⟩)
  else if h : c.val < 3328 then g1 (ix3 0 r ⟨c.val - 2304, by omega⟩)
  else g2 (ix3 0 r ⟨c.val - 3328, by omega⟩)

variable (m : (ℓ : Loc nD τ sig) → Buf (Elt Ideal) ℓ)

theorem idx : ∀ t : Fin cfg0.N, win0_0.index t = ![t.val / 17, t.val % 17] ∧ win0_1.index t = ![t.val % 17, 0] ∧ win0_2.index t = ![t.val / 17, 0]
    ∧ win0_3.index t = ![0, 0] ∧ win0_4.index t = ![t.val / 17, 0] ∧ win0_5.index t = ![t.val / 17, 0] ∧ win0_6.index t = ![0, 0] :=
  (by decide +kernel : ∀ t : Fin grid0.N, _)

abbrev last : Fin cfg0.N := ⟨271, lt_of_lt_of_eq (by omega) N_0.symm⟩

theorem row_lt (t : Fin cfg0.N) (i : Fin 512) : t.val / 17 * 512 + i.val < 8192 := by
  have := t.isLt; have h : cfg0.N = 272 := N_0; omega
theorem col_lt (t : Fin cfg0.N) (i : Fin 256) : t.val % 17 * 256 + i.val < 4352 := by omega

variable (c : Dev nD)

/-- The product's left operand. -/
abbrev dyE (r : Fin 8192) (k : Fin 4352) : EReal := cat (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8)) r k

theorem host_eq : (show FVec Ideal S8192x4352 .bf16 from V m c main_v19) = dyArr (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8)) := by
  rfl

theorem arr_at (q1 : FVec Ideal S1x8192x512 .f32) (k1 v1 : FVec Ideal S1x8192x128 .f32) (q2 k2 v2 : FVec Ideal S1x8192x512 .f32)
    (g1 g2 : FVec Ideal S1x8192x1024 .f32) (r : Fin 8192) (k : Fin 4352) : dyArr q1 k1 v1 q2 k2 v2 g1 g2 (ix2 r k) = cat q1 k1 v1 q2 k2 v2 g1 g2 r k := by
  unfold dyArr
  pointwise
  unfold cat
  simp only [Nat.sub_sub, Nat.reduceAdd]
  have h : k.val < 512 ∨ (512 ≤ k.val ∧ k.val < 640) ∨ (640 ≤ k.val ∧ k.val < 768) ∨ (768 ≤ k.val ∧ k.val < 1280) ∨ (1280 ≤ k.val ∧ k.val < 1792)
    ∨ (1792 ≤ k.val ∧ k.val < 2304) ∨ (2304 ≤ k.val ∧ k.val < 3328) ∨ 3328 ≤ k.val := by omega
  rcases h with h | h | h | h | h | h | h | h <;> simp (discharger := omega) only [dif_pos, dif_neg]

theorem host_dy (r : Fin 8192) (k : Fin 4352) :
    (show FVec Ideal S8192x4352 .bf16 from V m c main_v19) (ix2 r k) = dyE m c r k := by
  rw [host_eq, arr_at]

variable (y : Fin 8192 → Fin 4352 → ℝ) (w : Fin 1024 → Fin 4352 → ℝ) (x : Fin 8192 → Fin 1024 → ℝ) (g : Fin 1024 → ℝ)
  (hy : ∀ r k, dyE m c r k = (y r k : EReal))
  (hw : ∀ d k, (show FVec Ideal S1x1024x4352 .f32 from m ((c : Thread nD τ).loc main_arg11)) (ix3 0 d k) = (w d k : EReal))
  (hx : ∀ r k, (show FVec Ideal S1x8192x1024 .f32 from m ((c : Thread nD τ).loc main_arg9)) (ix3 0 r k) = (x r k : EReal))
  (hg : ∀ k, (show FVec Ideal S1x1024 .f32 from m ((c : Thread nD τ).loc main_arg10)) (ix2 0 k) = (g k : EReal))

include hy in
theorem blk0 (p : Fin cfg0.N) (i : Fin 512) (k : Fin 256) :
    (show FVec Ideal S512x256 .bf16 from iblk m c 0 p) (ix2 i k) = (y ⟨p.val / 17 * 512 + i.val, row_lt p i⟩ ⟨p.val % 17 * 256 + k.val, col_lt p k⟩ : EReal) := by
  rw [← hy, ← host_dy]
  blk_point [iblk, idx p]

include hw in
theorem blk1 (p : Fin cfg0.N) (k : Fin 256) (d : Fin 1024) :
    (show FVec Ideal S256x1024 .bf16 from iblk m c 1 p) (ix2 k d) = (w d ⟨p.val % 17 * 256 + k.val, col_lt p k⟩ : EReal) := by
  rw [← hw]
  blk_point [iblk, V, idx p]

include hx in
theorem blk2 (p : Fin cfg0.N) (i : Fin 512) (k : Fin 1024) :
    (show FVec Ideal S512x1024 .f32 from iblk m c 2 p) (ix2 i k) = (x ⟨p.val / 17 * 512 + i.val, row_lt p i⟩ k : EReal) := by
  rw [← hx]
  blk_point [iblk, V, idx p]

include hg in
theorem blk3 (p : Fin cfg0.N) (k : Fin 1024) :
    (show FVec Ideal S1x1024 .f32 from iblk m c 3 p) (ix2 0 k) = (g k : EReal) := by
  rw [← hg]
  blk_point [iblk, V, idx p]

theorem blk4 (p : Fin cfg0.N) (i : Fin 512) (k : Fin 1024) :
    (show FVec Ideal S512x1024 .f32 from iblk m c 4 p) (ix2 i k)
      = (show FVec Ideal S1x8192x1024 .f32 from m ((c : Thread nD τ).loc main_arg0)) (ix3 0 ⟨p.val / 17 * 512 + i.val, row_lt p i⟩ k) := by
  blk_point [iblk, V, idx p]

/-- The gradient in the normed rows. -/
def dh (y : Fin 8192 → Fin 4352 → ℝ) (w : Fin 1024 → Fin 4352 → ℝ) (r : Fin 8192) (d : Fin 1024) : ℝ := ∑ k, y r k * w d k

/-- The gradient in the residual stream. -/
def dxVal (e : FVec Ideal S1x8192x1024 .f32) : FVec Ideal S8192x1024 .f32 := fun j => e (ix3 0 (j 0) (j 1)) + (bwd (x (j 0)) g (dh y w (j 0)) (j 1) : EReal)
/-- The gradient in the norm's weight. -/
def dgVal : FVec Ideal S1x1024 .f32 := fun j => ((∑ r, dh y w r (j 1) * (x r (j 1) * inv (x r)) : ℝ) : EReal)

theorem cases_of (p : Fin cfg0.N) (h : ¬p.val % 17 = 0) : 1 ≤ p.val % 17 := by omega
theorem zero_of (p : Fin cfg0.N) (h : p.val % 17 = 0) : ¬1 ≤ p.val % 17 ∧ ¬p.val % 17 = 16 := by omega

include hy hw in
/-- The scratch after the last point of a run holds the whole product. -/
theorem acc_at (p : Fin cfg0.N) (hp : p.val % 17 = 16) (i : Fin 512) (d : Fin 1024) :
    (outsAt0 m c p.val p.isLt).2.2 (ix2 i d) = (dh y w ⟨p.val / 17 * 512 + i.val, row_lt p i⟩ d : EReal) := by
  have e := Pipeline.eq_sum_fin_of_reset_step_apply_of_flush (fun n h => (outsAt0 m c n h).2.2) 17 (fun _ => (0 : EReal)) (fun q j =>
    (k0_pay2 (F := Ideal) (iblk m c 0 q) (iblk m c 1 q) j : EReal))
    (fun q h j => by rw [outsAt0_A m c q h (zero_of q h).1 (zero_of q h).2]; frame_out; rw [zero_add])
    (fun q h j => by
      by_cases h2 : q.val % 17 = 16
      · by_cases h3 : q.val < 17
        · rw [outsAt0_C m c q h (cases_of q h) h2 h3 (by omega)]; frame_out; idx_vars j; simp only [read_unread_whole]; rw [step_at, part_at]
        · rw [outsAt0_D m c q h (cases_of q h) h2 h3 (by omega)]; frame_out; idx_vars j; simp only [read_unread_whole]; rw [step_at, part_at]
      · rw [outsAt0_B m c q h (cases_of q h) h2]; frame_out; idx_vars j; simp only [read_unread_whole]; rw [step_at, part_at])
    p hp (ix2 i d)
  refine e.trans ?_
  rw [zero_add]
  simp only [part_at, blk0 m c y hy, blk1 m c w hw, ← EReal.coe_mul, ← coe_sum]
  refine congrArg _ ?_
  unfold dh
  refine Fin.sum_mul_add_congr fun s k hl => ?_
  refine congrArg₂ _ (congrArg₂ _ (Fin.ext ?_) (Fin.ext ?_)) (congrArg₂ _ rfl (Fin.ext ?_)) <;> simp only <;> omega

/-- At the last point of a run both outputs are computed from the scratch as it then stands. -/
theorem out_dx (p : Fin cfg0.N) (hp : p.val % 17 = 16) :
    (outsAt0 m c p.val p.isLt).1 = k0_pay9 (F := Ideal) (iblk m c 2 p) (iblk m c 3 p) (outsAt0 m c p.val p.isLt).2.2 (iblk m c 4 p) := by
  have h0 : ¬p.val % 17 = 0 := by omega
  by_cases h3 : p.val < 17
  · rw [outsAt0_C m c p h0 (cases_of p h0) hp h3 (by omega)]; frame_out
  · rw [outsAt0_D m c p h0 (cases_of p h0) hp h3 (by omega)]; frame_out

theorem out_dg_first (p : Fin cfg0.N) (hp : p.val % 17 = 16) (h3 : p.val < 17) :
    (outsAt0 m c p.val p.isLt).2.1 = k0_pay8 (F := Ideal) (iblk m c 2 p) (outsAt0 m c p.val p.isLt).2.2 := by
  have h0 : ¬p.val % 17 = 0 := by omega
  rw [outsAt0_C m c p h0 (cases_of p h0) hp h3 (by omega)]; frame_out

theorem out_dg_next (p : Fin cfg0.N) (hp : p.val % 17 = 16) (h3 : ¬p.val < 17) (j : Fin 1024) :
    (outsAt0 m c p.val p.isLt).2.1 (ix2 0 j) = (outsAt0 m c (p.val - 1) (Nat.lt_of_le_of_lt (Nat.sub_le _ _) p.isLt)).2.1 (ix2 0 j)
      + k0_pay8 (F := Ideal) (iblk m c 2 p) (outsAt0 m c p.val p.isLt).2.2 (ix2 0 j) := by
  have h0 : ¬p.val % 17 = 0 := by omega
  rw [outsAt0_D m c p h0 (cases_of p h0) hp h3 (by omega)]; frame_out; pointwise [k0_pay4]

theorem out_dg_held (p : Fin cfg0.N) (hp : ¬p.val % 17 = 16) :
    (outsAt0 m c p.val p.isLt).2.1 = (outsAt0 m c (p.val - 1) (Nat.lt_of_le_of_lt (Nat.sub_le _ _) p.isLt)).2.1 := by
  by_cases h0 : p.val % 17 = 0
  · rw [outsAt0_A m c p h0 (zero_of p h0).1 hp]; rfl
  · rw [outsAt0_B m c p h0 (cases_of p h0) hp]; rfl

include hy hw hx hg in
theorem final_dx : (dats m 0 c).arrAt 5 (cfgs 0).N = dxVal y w x g (m ((c : Thread nD τ).loc main_arg0)) := by
  refine (dats m 0 c).arrAt_eq_of_covers 5 _ (by decide +kernel) fun p hf j => ?_
  have hp : p.val % 17 = 16 := (flush0_5 p).mp hf
  blk_simp
  rw [after0_5, out_dx m c p hp]
  idx_vars j
  refine (dx_tile _ _ _ _ (fun i k => x ⟨p.val / 17 * 512 + i.val, row_lt p i⟩ k) (fun i d => dh y w ⟨p.val / 17 * 512 + i.val, row_lt p i⟩ d) g
    (blk2 m c x hx p) (acc_at m c y w hy hw p hp) (blk3 m c g hg p) j0 j1).trans ?_
  have e : ((View.whole main_v22_0).slice (win0_5.rect p)).emb (ix2 j0 j1)
      = (ix2 ⟨p.val / 17 * 512 + j0.val, row_lt p j0⟩ j1 : S8192x1024.Idx) := by blk_ext [idx p]
  rw [e]
  exact congrArg₂ (· + ·) (blk4 m c p j0 j1) rfl

include hy hw hx in
theorem dg_tile_at (p : Fin cfg0.N) (hp : p.val % 17 = 16) (j : Fin 1024) :
    k0_pay8 (F := Ideal) (iblk m c 2 p) (outsAt0 m c p.val p.isLt).2.2 (ix2 0 j)
      = ((∑ i : Fin 512, dh y w ⟨p.val / 17 * 512 + i.val, row_lt p i⟩ j * (x ⟨p.val / 17 * 512 + i.val, row_lt p i⟩ j * inv (x ⟨p.val / 17 * 512 + i.val, row_lt p i⟩)) : ℝ) : EReal) :=
  dg_tile _ _ (fun i k => x ⟨p.val / 17 * 512 + i.val, row_lt p i⟩ k) (fun i d => dh y w ⟨p.val / 17 * 512 + i.val, row_lt p i⟩ d)
    (blk2 m c x hx p) (acc_at m c y w hy hw p hp) j

/-- A tile's part of the gradient in the norm's weight, zero behind the last tile. -/
def part (y : Fin 8192 → Fin 4352 → ℝ) (w : Fin 1024 → Fin 4352 → ℝ) (x : Fin 8192 → Fin 1024 → ℝ) (j : Fin 1024) (q : ℕ) : ℝ :=
  ∑ i : Fin 512, if h : q * 512 + i.val < 8192 then dh y w ⟨q * 512 + i.val, h⟩ j * (x ⟨q * 512 + i.val, h⟩ j * inv (x ⟨q * 512 + i.val, h⟩)) else 0

include hy hw hx in
/-- From the first tile on the output holds the parts of the tiles met so far. -/
theorem dg_at (j : Fin 1024) : ∀ (n : ℕ) (h : n < cfg0.N), 16 ≤ n →
    (outsAt0 m c n h).2.1 (ix2 0 j) = ((∑ q ∈ Finset.range ((n + 1) / 17), part y w x j q : ℝ) : EReal)
  | 0, _, h0 => by omega
  | n + 1, h, h0 => by
    have tile (hp : (n + 1) % 17 = 16) : k0_pay8 (F := Ideal) (iblk m c 2 ⟨n + 1, h⟩) (outsAt0 m c (n + 1) h).2.2 (ix2 0 j)
        = (part y w x j ((n + 1) / 17) : EReal) := by
      rw [dg_tile_at m c y w x hy hw hx ⟨n + 1, h⟩ hp j]
      refine congrArg _ (Finset.sum_congr rfl fun i _ => ?_)
      rw [dif_pos (row_lt ⟨n + 1, h⟩ i)]
    by_cases hp : (n + 1) % 17 = 16
    · by_cases h3 : n + 1 < 17
      · rw [congrFun (out_dg_first m c ⟨n + 1, h⟩ hp h3) _, tile hp, show n + 1 = 16 by omega]
        simp
      · rw [out_dg_next m c ⟨n + 1, h⟩ hp h3 j, tile hp]
        refine (congrArg (fun u : EReal => u + _) (dg_at j n (by omega) (by omega))).trans ?_
        rw [← EReal.coe_add,
          show (n + 1 + 1) / 17 = (n + 1) / 17 + 1 by omega, Finset.sum_range_succ]
    · rw [congrFun (out_dg_held m c ⟨n + 1, h⟩ hp) _]
      refine (dg_at j n (by omega) (by omega)).trans ?_
      rw [show (n + 1 + 1) / 17 = (n + 1) / 17 by omega]

include hy hw hx in
theorem final_dg : (dats m 0 c).arrAt 6 (cfgs 0).N = dgVal y w x := by
  refine (dats m 0 c).arrAt_eq_of_after_last 6 last (by decide +kernel) _ fun j => ?_
  blk_simp
  rw [after0_6]
  idx_vars j
  obtain rfl : j0 = 0 := Subsingleton.elim _ _
  refine (dg_at m c y w x hy hw hx j1 271 last.isLt (by omega)).trans ?_
  change _ = ((∑ r, dh y w r j1 * (x r j1 * inv (x r)) : ℝ) : EReal)
  refine congrArg _ ((Fin.sum_univ_eq_sum_range _ 16).symm.trans ?_)
  refine Fin.sum_mul_add_congr fun s k hl => ?_
  rw [dif_pos hl]

end Cert.ProjIdeal.Value
end
-- ==== Proof.ProjRef.lean ====
module
public import proofs.«01_k».proof.Proof.Gen.ProjRefIdeal.Read
public import proofs.«01_k».proof.Proof.ProjValue
@[expose] public section
set_option maxRecDepth 16384
noncomputable section

/-! The two results of the projection's reference on real arguments. -/
namespace Cert.ProjRefIdeal.Read
open Cert.ProjRefIdeal Cert.ProjRefIdeal.Gen Cert.Norm Idealize.ShloMosaic Idealize.ShloMosaic.TcCoe Idealize.SL.Sem
open Cert.ProjIdeal.Value (cat dh dxVal dgVal)

/-- A reduction over two axes of extent one, each result having one preimage. -/
theorem reduce_one {s t : Shape} {axes : List (Fin s.rank)} (h : s.ReducesTo axes t) (v : s.Idx → EReal) (b : EReal) (j : t.Idx) (i : s.Idx)
    (hi : ∀ k, h.drop k = j ↔ k = i) : Ideal.hostReduceAdd h v b j = b + v i := by
  unfold Ideal.hostReduceAdd
  simp only [hi, Finset.filter_eq', Finset.mem_univ, if_true, Finset.sum_singleton]

theorem reduce_row (v : S1x1x1024.Idx → EReal) (b : EReal) (k : Fin 1024) :
    Ideal.hostReduceAdd reducesTo_S1x1x1024_S1024_d0_1 v b (ix1 k) = b + v (ix3 0 0 k) := by
  refine reduce_one _ v b _ _ fun i => ?_
  idx_vars i
  obtain rfl : i0 = 0 := Subsingleton.elim _ _
  obtain rfl : i1 = 0 := Subsingleton.elim _ _
  simp [funext_iff, Fin.ext_iff, Fin.forall_fin_one, Fin.forall_fin_succ]
  exact Iff.rfl

theorem reduce_col (v : S1x8192x1.Idx → EReal) (b : EReal) (k : Fin 8192) :
    Ideal.hostReduceAdd reducesTo_S1x8192x1_S8192_d0_2 v b (ix1 k) = b + v (ix3 0 k 0) := by
  refine reduce_one _ v b _ _ fun i => ?_
  idx_vars i
  obtain rfl : i0 = 0 := Subsingleton.elim _ _
  obtain rfl : i2 = 0 := Subsingleton.elim _ _
  simp [funext_iff, Fin.ext_iff, Fin.forall_fin_one, Fin.forall_fin_succ]
  exact Iff.rfl

variable (x0 : FVec Ideal S1x8192x1024 .f32) (x1 : FVec Ideal S1x8192x512 .f32) (x2 x3 : FVec Ideal S1x8192x128 .f32) (x4 x5 x6 : FVec Ideal S1x8192x512 .f32)
  (x7 x8 x9 : FVec Ideal S1x8192x1024 .f32) (x10 : FVec Ideal S1x1024 .f32) (x11 : FVec Ideal S1x1024x4352 .f32)
  (y : Fin 8192 → Fin 4352 → ℝ) (w : Fin 1024 → Fin 4352 → ℝ) (x : Fin 8192 → Fin 1024 → ℝ) (g : Fin 1024 → ℝ)
  (hy : ∀ r k, cat x1 x2 x3 x4 x5 x6 x7 x8 r k = (y r k : EReal))
  (hw : ∀ d k, x11 (ix3 0 d k) = (w d k : EReal)) (hx : ∀ r k, x9 (ix3 0 r k) = (x r k : EReal)) (hg : ∀ k, x10 (ix2 0 k) = (g k : EReal))

theorem v35_at (r : Fin 8192) (k : Fin 4352) : val_main_v35 (F := Ideal) x1 x2 x3 x4 x5 x6 x7 x8 (ix3 0 r k) = cat x1 x2 x3 x4 x5 x6 x7 x8 r k := by
  pointwise [val_main_v35, val_main_v34, val_main_v33, val_main_v32, val_main_v31, val_main_cst_5, val_main_cst_6]
  unfold cat
  simp only [Nat.sub_sub, Nat.reduceAdd]
  have h : k.val < 512 ∨ (512 ≤ k.val ∧ k.val < 640) ∨ (640 ≤ k.val ∧ k.val < 768) ∨ (768 ≤ k.val ∧ k.val < 1280) ∨ (1280 ≤ k.val ∧ k.val < 1792)
    ∨ (1792 ≤ k.val ∧ k.val < 2304) ∨ (2304 ≤ k.val ∧ k.val < 3328) ∨ 3328 ≤ k.val := by omega
  rcases h with h | h | h | h | h | h | h | h <;> simp (discharger := omega) only [dif_pos, dif_neg]

section
include hx
theorem v7_at (r : Fin 8192) : val_main_v7 (F := Ideal) x9 (ix3 0 r 0) = (ms (x r) : EReal) := by
  pointwise [val_main_v7, val_main_v6, val_main_v5, val_main_v4, val_main_v3, val_main_v2, val_main_v1, val_main_cst, val_main_cst_0, val_main_cst_1]
  simp only [hx, zero_add, ofBits_lanes, ofBits_eps, ← EReal.coe_mul, ← coe_sum, div_lanes, ← EReal.coe_add]; rfl
theorem v8_at (r : Fin 8192) : val_main_v8 (F := Ideal) x9 (ix3 0 r 0) = (inv (x r) : EReal) := by
  pointwise [val_main_v8]; rw [v7_at x9 x hx, rsqrt_ms]
theorem v11_at (r : Fin 8192) (c : Fin 1) : val_main_v11 (F := Ideal) x9 (ix3 0 r c) = ((-1 / 2 * (inv (x r) / ms (x r)) : ℝ) : EReal) := by
  obtain rfl : c = 0 := Subsingleton.elim _ _
  pointwise [val_main_v11, val_main_v10, val_main_v9, val_main_cst_2]
  rw [v7_at x9 x hx, v8_at x9 x hx, ofBits_neg_half, Ideal.div_coe (ms_pos _).ne', ← EReal.coe_mul, ← EReal.coe_mul]
  congr 2; ring
theorem v13_at (r : Fin 8192) (k : Fin 1024) : val_main_v13 (F := Ideal) x9 (ix3 0 r k) = ((x r k * inv (x r) : ℝ) : EReal) := by
  pointwise [val_main_v13, val_main_v12]; rw [hx, v8_at x9 x hx, EReal.coe_mul]
end

include hy hw in
theorem v36_at (r : Fin 8192) (d : Fin 1024) : val_main_v36 (F := Ideal) x1 x2 x3 x4 x5 x6 x7 x8 x11 (ix3 0 r d) = (dh y w r d : EReal) := by
  pointwise [val_main_v36, val_main_v17]
  simp only [v35_at, hy, hw, ← EReal.coe_mul, ← coe_sum]
  rfl

include hy hw hx in
theorem out_dg : val_main_v59 (F := Ideal) x1 x2 x3 x4 x5 x6 x7 x8 x9 x11 = dgVal y w x := by
  funext j
  idx_vars j
  pointwise [val_main_v59, val_main_v42, val_main_v39, val_main_v38, val_main_v37, val_main_cst_7, val_main_cst_8]
  rw [reduce_row]
  pointwise
  simp only [v13_at x9 x hx, v36_at x1 x2 x3 x4 x5 x6 x7 x8 x11 y w hy hw, zero_add, ← EReal.coe_mul, ← coe_sum, Fin.sum_univ_one]
  rw [dgVal]
  congr 1
  exact Finset.sum_congr rfl fun r _ => mul_comm _ _

include hy hw hx hg
theorem v41_at (r : Fin 8192) (k : Fin 1024) : val_main_v41 (F := Ideal) x1 x2 x3 x4 x5 x6 x7 x8 x10 x11 (ix3 0 r k) = ((dh y w r k * g k : ℝ) : EReal) := by
  pointwise [val_main_v41, val_main_v40, val_main_v14, val_main_v0]
  rw [v36_at x1 x2 x3 x4 x5 x6 x7 x8 x11 y w hy hw, hg, EReal.coe_mul]

theorem v54_at (r : Fin 8192) (k : Fin 1024) : val_main_v54 (F := Ideal) x1 x2 x3 x4 x5 x6 x7 x8 x9 x10 x11 (ix3 0 r k)
    = (((∑ k, x r k * (dh y w r k * g k)) * (-1 / 2 * (inv (x r) / ms (x r))) / 1024 : ℝ) : EReal) := by
  pointwise [val_main_v54, val_main_v53, val_main_v52, val_main_v51, val_main_v50, val_main_v49, val_main_v45, val_main_v44, val_main_v43,
    val_main_cst_9, val_main_cst_10, val_main_cst_11]
  rw [reduce_col]
  pointwise
  simp only [v11_at x9 x hx, hx, v41_at x1 x2 x3 x4 x5 x6 x7 x8 x9 x10 x11 y w x g hy hw hx hg, ofBits_lanes, zero_add, ← EReal.coe_mul, ← coe_sum, div_lanes,
    Fin.sum_univ_one]

theorem out_dx : val_main_v60 (F := Ideal) x0 x1 x2 x3 x4 x5 x6 x7 x8 x9 x10 x11 = dxVal y w x g x0 := by
  funext j
  idx_vars j
  pointwise [val_main_v60, val_main_v58, val_main_v57, val_main_v56, val_main_v55, val_main_v48, val_main_v47, val_main_v46]
  rw [v41_at x1 x2 x3 x4 x5 x6 x7 x8 x9 x10 x11 y w x g hy hw hx hg, v8_at x9 x hx, hx, v54_at x1 x2 x3 x4 x5 x6 x7 x8 x9 x10 x11 y w x g hy hw hx hg]
  simp only [← EReal.coe_mul, add_assoc, ← EReal.coe_add]
  rw [← add_assoc, vjp_eq_bwd (x j0) g (dh y w j0) j1 _ rfl]
  rfl

end Cert.ProjRefIdeal.Read
end
-- ==== Proof.ProjClaim.lean ====
module
public import proofs.«01_k».proof.Defs
public import proofs.«01_k».proof.Proof.Gen.ProjIdeal.Value
public import proofs.«01_k».proof.Proof.Gen.ProjRefIdeal.Run
public import proofs.«01_k».proof.Proof.Gen.Pre_finite_proj
public import proofs.«01_k».proof.Proof.ProjRef
public import proofs.«01_k».proof.Proof.Finite
public import Idealize.ShloMosaic.Lib.Claim
public import Idealize.ShloMosaic.Lib.ReduceAll
@[expose] public section
set_option maxRecDepth 16384
noncomputable section

/-! The projection's backward call against its reference. -/
namespace Cert.Proj
open Idealize.ShloMosaic Idealize.ShloMosaic.TcCoe Idealize.SL.Sem Cert.Norm
open Cert.ProjIdeal (S1x8192x512 S1x8192x128 S1x8192x1024 S1x1024 S1x1024x4352)
open Cert.ProjIdeal.Value (cat)

theorem eighth : Ideal.ofBits .f32 1040187392#32 = ((1 / 8 : ℝ) : EReal) := by
  simp [Ideal.ofBits, Ideal.ieee]
  rw [← EReal.coe_mul]
  norm_num

theorem finite_at (x1 : FVec Ideal S1x8192x512 .f32) (x2 x3 : FVec Ideal S1x8192x128 .f32) (x4 x5 x6 : FVec Ideal S1x8192x512 .f32)
    (x0 x7 x8 x9 : FVec Ideal S1x8192x1024 .f32) (x10 : FVec Ideal S1x1024 .f32) (x11 : FVec Ideal S1x1024x4352 .f32)
    (h : Cert.Pre_finite_proj.fn (F := Ideal) x0 x1 x2 x3 x4 x5 x6 x7 x8 x9 x10 x11 = fun _ => 1#1) :
    (∃ y : Fin 8192 → Fin 4352 → ℝ, ∀ r k, cat x1 x2 x3 x4 x5 x6 x7 x8 r k = (y r k : EReal))
      ∧ (∃ w : Fin 1024 → Fin 4352 → ℝ, ∀ d k, x11 (ix3 0 d k) = (w d k : EReal))
      ∧ (∃ x : Fin 8192 → Fin 1024 → ℝ, ∀ r k, x9 (ix3 0 r k) = (x r k : EReal)) ∧ (∃ g : Fin 1024 → ℝ, ∀ k, x10 (ix2 0 k) = (g k : EReal)) := by
  have e := congrFun h ix0
  dsimp only [Cert.Pre_finite_proj.fn] at e
  obtain ⟨e, e11⟩ := both _ _ e
  obtain ⟨e, e10⟩ := both _ _ e
  obtain ⟨e, e9⟩ := both _ _ e
  obtain ⟨e, e8⟩ := both _ _ e
  obtain ⟨e, e7⟩ := both _ _ e
  obtain ⟨e, e6⟩ := both _ _ e
  obtain ⟨e, e5⟩ := both _ _ e
  obtain ⟨e, e4⟩ := both _ _ e
  obtain ⟨e, e3⟩ := both _ _ e
  obtain ⟨e1, e2⟩ := both _ _ e
  replace e1 := all_real x1 _ _ _ _ _ (fun _ => rfl) e1
  replace e2 := all_real x2 _ _ _ _ _ (fun _ => rfl) e2
  replace e3 := all_real x3 _ _ _ _ _ (fun _ => rfl) e3
  replace e4 := all_real x4 _ _ _ _ _ (fun _ => rfl) e4
  replace e5 := all_real x5 _ _ _ _ _ (fun _ => rfl) e5
  replace e6 := all_real x6 _ _ _ _ _ (fun _ => rfl) e6
  replace e7 := all_real x7 _ _ _ _ _ (fun _ => rfl) e7
  replace e8 := all_real x8 _ _ _ _ _ (fun _ => rfl) e8
  replace e9 := all_real x9 _ _ _ _ _ (fun _ => rfl) e9
  replace e10 := all_real x10 _ _ _ _ _ (fun _ => rfl) e10
  replace e11 := all_real x11 _ _ _ _ _ (fun _ => rfl) e11
  refine ⟨?_, ⟨fun d k => (e11 (ix3 0 d k)).choose, fun d k => (e11 (ix3 0 d k)).choose_spec⟩,
    ⟨fun d k => (e9 (ix3 0 d k)).choose, fun d k => (e9 (ix3 0 d k)).choose_spec⟩, ⟨fun k => (e10 (ix2 0 k)).choose, fun k => (e10 (ix2 0 k)).choose_spec⟩⟩
  have key : ∀ r k, ∃ u : ℝ, cat x1 x2 x3 x4 x5 x6 x7 x8 r k = u := by
    intro r k
    unfold cat
    have scaled (a : EReal) : (∃ u : ℝ, a = u) → ∃ u : ℝ, a * Ideal.ofBits .f32 1040187392#32 = u := by
      rintro ⟨u, rfl⟩
      exact ⟨u * (1 / 8), by rw [eighth, EReal.coe_mul]⟩
    split_ifs
    · exact scaled _ (e1 _)
    · exact e2 _
    · exact e3 _
    · exact scaled _ (e4 _)
    · exact e5 _
    · exact e6 _
    · exact e7 _
    · exact e8 _
  exact ⟨fun r k => (key r k).choose, fun r k => (key r k).choose_spec⟩

theorem frame_reference : Cert.quiescent_ProjRefIdeal := fun m ρ _ =>
  (θ_run Cert.ProjRefIdeal.defs _ _).mono (fun r h => ⟨fun c => (h c).2.2, sem_eq_zero_of_no_sems (by decide) r.2⟩)
    (Cert.ProjRefIdeal.Value.run (F := Ideal) m ρ)

set_option maxHeartbeats 2000000 in
theorem algebraic : Cert.algebraic_ProjIdeal_ProjRefIdeal_pre_finite_proj := by
  pair_intro
  · run_from Cert.ProjIdeal.Gen.run_main m g
  · run_from Cert.ProjRefIdeal.Value.run m' g'
    all_goals (obtain ⟨⟨y, hy⟩, ⟨w, hw⟩, ⟨x, hx⟩, v, hv⟩ := finite_at _ _ _ _ _ _ _ _ _ _ _ _ (hpre c))
    all_goals (obtain ⟨h0, h1, h2, h3, h4, h5, h6, h7, h8, h9, h10, h11⟩ := hagree c)
    all_goals (have hy' := hy)
    all_goals (rw [← h1, ← h2, ← h3, ← h4, ← h5, ← h6, ← h7, ← h8] at hy')
    · rw [← h9] at hx
      rw [← h10] at hv
      rw [← h11] at hw
      refine (Cert.ProjRefIdeal.Read.val_main_v60_eq _ _).trans ((Cert.ProjRefIdeal.Read.out_dx _ _ _ _ _ _ _ _ _ _ _ _ y w x v hy' hw hx hv).trans ?_)
      rw [h9] at hx
      rw [h10] at hv
      rw [h11] at hw
      rw [h0]
      exact (Cert.ProjIdeal.Value.final_dx m c y w x v hy hw hx hv).symm
    · refine (Cert.ProjRefIdeal.Read.val_main_v59_eq _ _ _ _ _ _ _ _ _ _).trans ((Cert.ProjRefIdeal.Read.out_dg _ _ _ _ _ _ _ _ _ _ y w x hy' hw hx).trans ?_)
      exact (Cert.ProjIdeal.Value.final_dg m c y w x hy hw hx).symm

end Cert.Proj
end
-- ==== Proof.MergeRun.lean ====
/- The two kernels of the gated merge run from their launch, with the arrays they leave read off the last boundary's contents. -/
module

public import proofs.«01_k».proof.Proof.Gen.MergeIdeal.Frame

@[expose] public section

set_option maxRecDepth 16384

noncomputable section

namespace Cert.Gated

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MergeIdeal Cert.MergeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first kernel leaves is untouched by the host operation and the second kernel, -/
theorem kept (c : Dev nD) (w : Fin cfg0.W) (h : Pipeline.arrRef spec0 w ∉ hostOps1_W) (h' : ∀ v, Pipeline.arrRef spec1 v ≠ Pipeline.arrRef spec0 w) :
    W4 m ρ c (Proc.devRef .tc (Pipeline.arrRef spec0 w)) = (dat0 (V1 m ρ) c).arrAt w cfg0.N :=
  (W4_of_ne m ρ c _ h').trans ((W3_of m ρ c _ h).trans (W2_arr m ρ c w))

set_option backward.isDefEq.respectTransparency.types false in
/-- Every buffer ends at the last boundary's contents. -/
theorem ends : θ_run defs (onTc (τ := τ) (main (F := F))) ⟨m, fun _ => 0, ρ⟩ (fun r =>
      ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The eight results end at what the two pipelines leave, the arguments as launched. -/
theorem run_main : θ_run defs (onTc (τ := τ) (main (F := F))) ⟨m, fun _ => 0, ρ⟩ (fun r => ∀ c : Dev nD,
      r.2.mem ((c.tc : Thread nD τ).loc main_v16_0) = (dat0 (V1 m ρ) c).arrAt 8 cfg0.N
      ∧ r.2.mem ((c.tc : Thread nD τ).loc main_v16_1) = (dat0 (V1 m ρ) c).arrAt 9 cfg0.N
      ∧ r.2.mem ((c.tc : Thread nD τ).loc main_v18_0) = (dat1 (V3 m ρ) c).arrAt 8 cfg1.N
      ∧ r.2.mem ((c.tc : Thread nD τ).loc main_v18_1) = (dat1 (V3 m ρ) c).arrAt 9 cfg1.N
      ∧ r.2.mem ((c.tc : Thread nD τ).loc main_v18_2) = (dat1 (V3 m ρ) c).arrAt 10 cfg1.N
      ∧ r.2.mem ((c.tc : Thread nD τ).loc main_v18_3) = (dat1 (V3 m ρ) c).arrAt 11 cfg1.N
      ∧ r.2.mem ((c.tc : Thread nD τ).loc main_v18_4) = (dat1 (V3 m ρ) c).arrAt 12 cfg1.N
      ∧ r.2.mem ((c.tc : Thread nD τ).loc main_v18_5) = (dat1 (V3 m ρ) c).arrAt 13 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have e (b : Ref sig .tc) (hb : ¬ (Proc.devRef .tc b : DevRef τ sig).isScoped) :
      r.2.mem ((c.tc : Thread nD τ).loc b) = W4 m ρ c (Proc.devRef .tc b) := h c _ (mem_uc b hb)
    ⟨(e main_v16_0 (by decide)).trans (kept m ρ c 8 (by decide) (by decide)),
     (e main_v16_1 (by decide)).trans (kept m ρ c 9 (by decide) (by decide)),
     (e main_v18_0 (by decide)).trans (W4_arr m ρ c 8), (e main_v18_1 (by decide)).trans (W4_arr m ρ c 9),
     (e main_v18_2 (by decide)).trans (W4_arr m ρ c 10), (e main_v18_3 (by decide)).trans (W4_arr m ρ c 11),
     (e main_v18_4 (by decide)).trans (W4_arr m ρ c 12), (e main_v18_5 (by decide)).trans (W4_arr m ρ c 13),
     (e main_arg0 (by decide)).trans (W4_main_arg0 m ρ c), (e main_arg1 (by decide)).trans (W4_main_arg1 m ρ c), (e main_arg2 (by decide)).trans (W4_main_arg2 m ρ c),
     (e main_arg3 (by decide)).trans (W4_main_arg3 m ρ c), (e main_arg4 (by decide)).trans (W4_main_arg4 m ρ c), (e main_arg5 (by decide)).trans (W4_main_arg5 m ρ c),
     (e main_arg6 (by decide)).trans (W4_main_arg6 m ρ c), (e main_arg7 (by decide)).trans (W4_main_arg7 m ρ c), (e main_arg8 (by decide)).trans (W4_main_arg8 m ρ c)⟩) (ends m ρ)

end Cert.Gated
-- ==== Proof.MergeValue.lean ====
module
public import proofs.«01_k».proof.Proof.Gen.MergeIdeal.Frame
public import Idealize.ShloMosaic.Lib.Pipeline.ValueKit
public import Idealize.ShloMosaic.Lib.Claim
@[expose] public section
set_option maxRecDepth 16384
noncomputable section

/-! The arrays the two kernels of the gated merge leave. -/
namespace Cert.Gated
open Cert.MergeIdeal Cert.MergeIdeal.Gen Idealize.ShloMosaic Idealize.ShloMosaic.TcCoe Idealize.SL.Sem
open Idealize.ShloMosaic.Pipeline (Dat)

/-! ## The merge and its gradients on rows -/

/-- The arguments of the merge: the cotangent, the residual stream, the two gates, the two branches, their weights, the output's. -/
structure Rows where
  ct : Fin 8192 → Fin 1024 → EReal
  x : Fin 8192 → Fin 1024 → EReal
  ga : Fin 8192 → Fin 1024 → EReal
  gb : Fin 8192 → Fin 1024 → EReal
  oa : Fin 8192 → Fin 512 → EReal
  ob : Fin 8192 → Fin 512 → EReal
  wa : Fin 512 → Fin 1024 → EReal
  wb : Fin 512 → Fin 1024 → EReal
  wo : Fin 1024 → Fin 1024 → EReal

/-- The arguments read off their arrays. -/
def rows (a0 a1 a2 a3 : FVec Ideal S1x8192x1024 .f32) (a4 a5 : FVec Ideal S1x8192x512 .f32) (a6 a7 : FVec Ideal S1x512x1024 .f32)
    (a8 : FVec Ideal S1x1024x1024 .f32) : Rows where
  ct r d := a0 (ix3 0 r d)
  x r d := a1 (ix3 0 r d)
  ga r d := a2 (ix3 0 r d)
  gb r d := a3 (ix3 0 r d)
  oa r d := a4 (ix3 0 r d)
  ob r d := a5 (ix3 0 r d)
  wa r d := a6 (ix3 0 r d)
  wb r d := a7 (ix3 0 r d)
  wo r d := a8 (ix3 0 r d)

namespace Rows
variable (A : Rows)
def ba (r : Fin 8192) (d : Fin 1024) : EReal := ∑ k, A.oa r k * A.wa k d
def bb (r : Fin 8192) (d : Fin 1024) : EReal := ∑ k, A.ob r k * A.wb k d
def mg (r : Fin 8192) (d : Fin 1024) : EReal := Ideal.logistic (A.ga r d) * A.ba r d + Ideal.logistic (A.gb r d) * A.bb r d
def x2 (r : Fin 8192) (d : Fin 1024) : EReal := A.x r d + ∑ k, A.mg r k * A.wo k d
def dm (r : Fin 8192) (d : Fin 1024) : EReal := ∑ k, A.ct r k * A.wo d k
def dba (r : Fin 8192) (d : Fin 1024) : EReal := A.dm r d * Ideal.logistic (A.ga r d)
def dbb (r : Fin 8192) (d : Fin 1024) : EReal := A.dm r d * Ideal.logistic (A.gb r d)
def dga (r : Fin 8192) (d : Fin 1024) : EReal :=
  A.dm r d * A.ba r d * Ideal.logistic (A.ga r d) * (1 - Ideal.logistic (A.ga r d))
def dgb (r : Fin 8192) (d : Fin 1024) : EReal :=
  A.dm r d * A.bb r d * Ideal.logistic (A.gb r d) * (1 - Ideal.logistic (A.gb r d))
def doa (r : Fin 8192) (k : Fin 512) : EReal := ∑ d, A.dba r d * A.wa k d
def dob (r : Fin 8192) (k : Fin 512) : EReal := ∑ d, A.dbb r d * A.wb k d
end Rows

/-! ## One tile of 512 rows -/

section
variable (A : Rows) (s : Fin 512 → Fin 8192)
  (x0 x1 x2 : FVec Ideal S512x1024 .f32) (x3 x4 : FVec Ideal S512x512 .bf16) (y3 y4 : FVec Ideal S512x1024 .bf16)
  (x5 x6 : FVec Ideal S1024x512 .bf16) (x7 : FVec Ideal S1024x1024 .bf16)
  (h0 : ∀ i d, x0 (ix2 i d) = A.x (s i) d) (g0 : ∀ i d, x0 (ix2 i d) = A.ct (s i) d)
  (h1 : ∀ i d, x1 (ix2 i d) = A.ga (s i) d) (h2 : ∀ i d, x2 (ix2 i d) = A.gb (s i) d)
  (h3 : ∀ i d, x3 (ix2 i d) = A.oa (s i) d) (h4 : ∀ i d, x4 (ix2 i d) = A.ob (s i) d)
  (g3 : ∀ i d, y3 (ix2 i d) = A.ba (s i) d) (g4 : ∀ i d, y4 (ix2 i d) = A.bb (s i) d)
  (h5 : ∀ d k, x5 (ix2 d k) = A.wa k d) (h6 : ∀ d k, x6 (ix2 d k) = A.wb k d) (h7 : ∀ d k, x7 (ix2 d k) = A.wo d k)

include h3 h5 in
theorem pay_ba (i : Fin 512) (d : Fin 1024) : k0_pay1 (F := Ideal) x3 x5 (ix2 i d) = A.ba (s i) d := by
  pointwise [k0_pay1]
  simp only [h3, h5]; rfl
include h4 h6 in
theorem pay_bb (i : Fin 512) (d : Fin 1024) : k0_pay2 (F := Ideal) x4 x6 (ix2 i d) = A.bb (s i) d := by
  pointwise [k0_pay2]
  simp only [h4, h6]; rfl
include h1 h2 h3 h4 h5 h6 in
theorem pay_mg (i : Fin 512) (d : Fin 1024) : k0_pay3 (F := Ideal) x3 x5 x4 x6 x1 x2 (ix2 i d) = A.mg (s i) d := by
  pointwise [k0_pay3, pay_ba A s x3 x5 h3 h5, pay_bb A s x4 x6 h4 h6]
  simp only [h1, h2]; rfl
include h0 h1 h2 h3 h4 h5 h6 h7 in
theorem pay_x2 (i : Fin 512) (d : Fin 1024) : k0_pay6 (F := Ideal) x3 x5 x4 x6 x1 x2 x0 x7 (ix2 i d) = A.x2 (s i) d := by
  pointwise [k0_pay6, pay_mg A s x1 x2 x3 x4 x5 x6 h1 h2 h3 h4 h5 h6]
  simp only [h0, h7]; rfl

include g0 h7 in
theorem pay_dm (i : Fin 512) (d : Fin 1024) : k1_pay5 (F := Ideal) x0 x7 (ix2 i d) = A.dm (s i) d := by
  pointwise [k1_pay5, k1_pay4]
  simp only [g0, h7]; rfl
include g0 h1 h7 in
theorem pay_dba (i : Fin 512) (d : Fin 1024) : k1_pay8 (F := Ideal) x0 x7 x1 (ix2 i d) = A.dba (s i) d := by
  pointwise [k1_pay8, k1_pay6, pay_dm A s x0 x7 g0 h7]
  simp only [h1]; rfl
include g0 h2 h7 in
theorem pay_dbb (i : Fin 512) (d : Fin 1024) : k1_pay9 (F := Ideal) x0 x7 x2 (ix2 i d) = A.dbb (s i) d := by
  pointwise [k1_pay9, k1_pay7, pay_dm A s x0 x7 g0 h7]
  simp only [h2]; rfl
include g0 h1 g3 h7 in
theorem pay_dga (i : Fin 512) (d : Fin 1024) : k1_pay10 (F := Ideal) x0 x7 x1 y3 (ix2 i d) = A.dga (s i) d := by
  pointwise [k1_pay10, k1_pay6, pay_dm A s x0 x7 g0 h7]
  simp only [h1, g3]; rfl
include g0 h2 g4 h7 in
theorem pay_dgb (i : Fin 512) (d : Fin 1024) : k1_pay1 (F := Ideal) (k1_pay7 x2) (k1_pay11 x0 x7 y4) (ix2 i d) = A.dgb (s i) d := by
  pointwise [k1_pay1, k1_pay7, k1_pay11, pay_dm A s x0 x7 g0 h7]
  simp only [h2, g4]; rfl
include g0 h1 h5 h7 in
theorem pay_doa (i : Fin 512) (k : Fin 512) : k1_pay2 (F := Ideal) (k1_pay8 x0 x7 x1) x5 (ix2 i k) = A.doa (s i) k := by
  pointwise [k1_pay2, pay_dba A s x0 x1 x7 g0 h1 h7]
  simp only [h5]; rfl
include g0 h2 h6 h7 in
theorem pay_dob (i : Fin 512) (k : Fin 512) : k1_pay3 (F := Ideal) (k1_pay9 x0 x7 x2) x6 (ix2 i k) = A.dob (s i) k := by
  pointwise [k1_pay3, pay_dbb A s x0 x2 x7 g0 h2 h7]
  simp only [h6]; rfl
end

/-! ## What the host hands the kernels -/

variable (m : (ℓ : Loc nD τ sig) → Buf (Elt Ideal) ℓ) (ρ : Dev nD → PrngReg) (c : Dev nD)

/-- The launch's arguments. -/
abbrev rowsAt : Rows := rows (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8))

theorem host_x (r : Fin 8192) (d : Fin 1024) :
    (show FVec Ideal S8192x1024 .f32 from StableHlo.after hostOps0 (W0 m ρ c) (Proc.devRef .tc main_v15)) (ix2 r d) = (rowsAt m c).x r d := by
  entry_read
  pointwise
  rfl
theorem host_gates (r : Fin 8192) (d : Fin 2048) :
    (show FVec Ideal S8192x2048 .f32 from StableHlo.after hostOps0 (W0 m ρ c) (Proc.devRef .tc main_v2)) (ix2 r d)
      = if h : d.val < 1024 then (rowsAt m c).ga r ⟨d.val, h⟩ else (rowsAt m c).gb r ⟨d.val - 1024, by omega⟩ := by
  entry_read
  pointwise
  rfl
theorem host_oa (r : Fin 8192) (d : Fin 512) :
    (show FVec Ideal S8192x512 .bf16 from StableHlo.after hostOps0 (W0 m ρ c) (Proc.devRef .tc main_v12)) (ix2 r d) = (rowsAt m c).oa r d := by
  entry_read
  pointwise
  rfl
theorem host_ob (r : Fin 8192) (d : Fin 512) :
    (show FVec Ideal S8192x512 .bf16 from StableHlo.after hostOps0 (W0 m ρ c) (Proc.devRef .tc main_v14)) (ix2 r d) = (rowsAt m c).ob r d := by
  entry_read
  pointwise
  rfl
theorem host_wa (r : Fin 1024) (d : Fin 512) :
    (show FVec Ideal S1024x512 .bf16 from StableHlo.after hostOps0 (W0 m ρ c) (Proc.devRef .tc main_v5)) (ix2 r d) = (rowsAt m c).wa d r := by
  entry_read
  pointwise
  rfl
theorem host_wb (r : Fin 1024) (d : Fin 512) :
    (show FVec Ideal S1024x512 .bf16 from StableHlo.after hostOps0 (W0 m ρ c) (Proc.devRef .tc main_v8)) (ix2 r d) = (rowsAt m c).wb d r := by
  entry_read
  pointwise
  rfl
theorem host_wo (r : Fin 1024) (d : Fin 1024) :
    (show FVec Ideal S1024x1024 .bf16 from StableHlo.after hostOps0 (W0 m ρ c) (Proc.devRef .tc main_v10)) (ix2 r d) = (rowsAt m c).wo r d := by
  entry_read
  pointwise
  rfl
theorem host_ct (r : Fin 8192) (d : Fin 1024) :
    (show FVec Ideal S8192x1024 .f32 from StableHlo.after hostOps1 (W2 m ρ c) (Proc.devRef .tc main_v17)) (ix2 r d) = (rowsAt m c).ct r d := by
  entry_read
  pointwise
  exact congrFun (W2_args m ρ c main_arg0 (by decide)) _

/-! ## The blocks -/

theorem idx0 : ∀ t : Fin cfg0.N, win0_0.index t = ![t.val, 0] ∧ win0_1.index t = ![t.val, 0] ∧ win0_2.index t = ![t.val, 1] ∧ win0_3.index t = ![t.val, 0]
    ∧ win0_4.index t = ![t.val, 0] ∧ win0_5.index t = ![0, 0] ∧ win0_6.index t = ![0, 0] ∧ win0_7.index t = ![0, 0] ∧ win0_8.index t = ![t.val, 0]
    ∧ win0_9.index t = ![t.val, 0] ∧ win0_10.index t = ![t.val, 0] ∧ win0_11.index t = ![t.val, 0] :=
  (by decide +kernel : ∀ t : Fin grid0.N, _)
theorem idx1 : ∀ t : Fin cfg1.N, win1_0.index t = ![t.val, 0] ∧ win1_1.index t = ![t.val, 0] ∧ win1_2.index t = ![t.val, 1] ∧ win1_3.index t = ![t.val, 0]
    ∧ win1_4.index t = ![t.val, 0] ∧ win1_5.index t = ![0, 0] ∧ win1_6.index t = ![0, 0] ∧ win1_7.index t = ![0, 0] ∧ win1_8.index t = ![t.val, 0]
    ∧ win1_9.index t = ![t.val, 0] ∧ win1_10.index t = ![t.val, 0] ∧ win1_11.index t = ![t.val, 0] ∧ win1_12.index t = ![t.val, 0] ∧ win1_13.index t = ![t.val, 0] :=
  (by decide +kernel : ∀ t : Fin grid1.N, _)

/-- The row of the arrays that a tile's row is. -/
def rowOf0 (p : Fin cfg0.N) (i : Fin 512) : Fin 8192 := ⟨p.val * 512 + i.val, by have := p.isLt; have h : cfg0.N = 16 := N_0; omega⟩
def rowOf1 (p : Fin cfg1.N) (i : Fin 512) : Fin 8192 := ⟨p.val * 512 + i.val, by have := p.isLt; have h : cfg1.N = 16 := N_1; omega⟩

theorem blk0_0 (p : Fin cfg0.N) (i : Fin 512) (d : Fin 1024) :
    (show FVec Ideal S512x1024 .f32 from iblk0 (V1 m ρ) c 0 p) (ix2 i d) = (rowsAt m c).x (rowOf0 p i) d := by
  refine Eq.trans (b := (show FVec Ideal S8192x1024 .f32 from V1 m ρ c main_v15) (ix2 (rowOf0 p i) d)) ?_ ?_
  · blk_point [iblk0, rowOf0, idx0 p]
  · exact host_x m ρ c _ _
theorem blk0_1 (p : Fin cfg0.N) (i : Fin 512) (d : Fin 1024) :
    (show FVec Ideal S512x1024 .f32 from iblk0 (V1 m ρ) c 1 p) (ix2 i d) = (rowsAt m c).ga (rowOf0 p i) d := by
  refine Eq.trans (b := (show FVec Ideal S8192x2048 .f32 from V1 m ρ c main_v2) (ix2 (rowOf0 p i) ⟨d.val, by omega⟩)) ?_ ?_
  · blk_point [iblk0, rowOf0, idx0 p]
  · refine (host_gates m ρ c _ _).trans ?_
    exact dif_pos d.isLt
theorem blk0_2 (p : Fin cfg0.N) (i : Fin 512) (d : Fin 1024) :
    (show FVec Ideal S512x1024 .f32 from iblk0 (V1 m ρ) c 2 p) (ix2 i d) = (rowsAt m c).gb (rowOf0 p i) d := by
  refine Eq.trans (b := (show FVec Ideal S8192x2048 .f32 from V1 m ρ c main_v2) (ix2 (rowOf0 p i) ⟨1024 + d.val, by omega⟩)) ?_ ?_
  · blk_point [iblk0, rowOf0, idx0 p]
  · refine (host_gates m ρ c _ _).trans ?_
    exact (dif_neg (by simp)).trans (congrArg _ (Fin.ext (by simp)))
theorem blk0_3 (p : Fin cfg0.N) (i : Fin 512) (d : Fin 512) :
    (show FVec Ideal S512x512 .bf16 from iblk0 (V1 m ρ) c 3 p) (ix2 i d) = (rowsAt m c).oa (rowOf0 p i) d := by
  refine Eq.trans (b := (show FVec Ideal S8192x512 .bf16 from V1 m ρ c main_v12) (ix2 (rowOf0 p i) d)) ?_ ?_
  · blk_point [iblk0, rowOf0, idx0 p]
  · exact host_oa m ρ c _ _
theorem blk0_4 (p : Fin cfg0.N) (i : Fin 512) (d : Fin 512) :
    (show FVec Ideal S512x512 .bf16 from iblk0 (V1 m ρ) c 4 p) (ix2 i d) = (rowsAt m c).ob (rowOf0 p i) d := by
  refine Eq.trans (b := (show FVec Ideal S8192x512 .bf16 from V1 m ρ c main_v14) (ix2 (rowOf0 p i) d)) ?_ ?_
  · blk_point [iblk0, rowOf0, idx0 p]
  · exact host_ob m ρ c _ _
theorem blk0_5 (p : Fin cfg0.N) (i : Fin 1024) (d : Fin 512) :
    (show FVec Ideal S1024x512 .bf16 from iblk0 (V1 m ρ) c 5 p) (ix2 i d) = (rowsAt m c).wa d i := by
  refine Eq.trans (b := (show FVec Ideal S1024x512 .bf16 from V1 m ρ c main_v5) (ix2 i d)) ?_ ?_
  · blk_point [iblk0, rowOf0, idx0 p]
  · exact host_wa m ρ c _ _
theorem blk0_6 (p : Fin cfg0.N) (i : Fin 1024) (d : Fin 512) :
    (show FVec Ideal S1024x512 .bf16 from iblk0 (V1 m ρ) c 6 p) (ix2 i d) = (rowsAt m c).wb d i := by
  refine Eq.trans (b := (show FVec Ideal S1024x512 .bf16 from V1 m ρ c main_v8) (ix2 i d)) ?_ ?_
  · blk_point [iblk0, rowOf0, idx0 p]
  · exact host_wb m ρ c _ _
theorem blk0_7 (p : Fin cfg0.N) (i : Fin 1024) (d : Fin 1024) :
    (show FVec Ideal S1024x1024 .bf16 from iblk0 (V1 m ρ) c 7 p) (ix2 i d) = (rowsAt m c).wo i d := by
  refine Eq.trans (b := (show FVec Ideal S1024x1024 .bf16 from V1 m ρ c main_v10) (ix2 i d)) ?_ ?_
  · blk_point [iblk0, rowOf0, idx0 p]
  · exact host_wo m ρ c _ _

/-! ## What kernel 0 leaves -/

theorem final_x2 : (dat0 (V1 m ρ) c).arrAt 8 cfg0.N = (fun j : S8192x1024.Idx => (rowsAt m c).x2 (j 0) (j 1)) := by
  refine (dat0 (V1 m ρ) c).arrAt_eq_of_covers 8 _ (by decide +kernel) fun p _ y => ?_
  blk_simp
  rw [after0_8]
  change S512x1024.Idx at y
  idx_vars y
  have e : ((cfg0.win 8).blk p).view.emb (ix2 y0 y1 : S512x1024.Idx) = (ix2 (rowOf0 p y0) y1 : S8192x1024.Idx) := by
    blk_ext [rowOf0, idx0 p]
  rw [e]
  unfold out0_8
  frame_out
  exact pay_x2 _ (rowOf0 p) _ _ _ _ _ _ _ _ (blk0_0 m ρ c p) (blk0_1 m ρ c p) (blk0_2 m ρ c p) (blk0_3 m ρ c p) (blk0_4 m ρ c p) (blk0_5 m ρ c p) (blk0_6 m ρ c p) (blk0_7 m ρ c p) y0 y1
theorem final_mg : (dat0 (V1 m ρ) c).arrAt 9 cfg0.N = (fun j : S8192x1024.Idx => (rowsAt m c).mg (j 0) (j 1)) := by
  refine (dat0 (V1 m ρ) c).arrAt_eq_of_covers 9 _ (by decide +kernel) fun p _ y => ?_
  blk_simp
  rw [after0_9]
  change S512x1024.Idx at y
  idx_vars y
  have e : ((cfg0.win 9).blk p).view.emb (ix2 y0 y1 : S512x1024.Idx) = (ix2 (rowOf0 p y0) y1 : S8192x1024.Idx) := by
    blk_ext [rowOf0, idx0 p]
  rw [e]
  unfold out0_9
  frame_out
  exact pay_mg _ (rowOf0 p) _ _ _ _ _ _ (blk0_1 m ρ c p) (blk0_2 m ρ c p) (blk0_3 m ρ c p) (blk0_4 m ρ c p) (blk0_5 m ρ c p) (blk0_6 m ρ c p) y0 y1
theorem final_ba : (dat0 (V1 m ρ) c).arrAt 10 cfg0.N = (fun j : S8192x1024.Idx => (rowsAt m c).ba (j 0) (j 1)) := by
  refine (dat0 (V1 m ρ) c).arrAt_eq_of_covers 10 _ (by decide +kernel) fun p _ y => ?_
  blk_simp
  rw [after0_10]
  change S512x1024.Idx at y
  idx_vars y
  have e : ((cfg0.win 10).blk p).view.emb (ix2 y0 y1 : S512x1024.Idx) = (ix2 (rowOf0 p y0) y1 : S8192x1024.Idx) := by
    blk_ext [rowOf0, idx0 p]
  rw [e]
  unfold out0_10
  frame_out
  pointwise [k0_pay4, pay_ba _ (rowOf0 p) _ _ (blk0_3 m ρ c p) (blk0_5 m ρ c p) y0 y1]
theorem final_bb : (dat0 (V1 m ρ) c).arrAt 11 cfg0.N = (fun j : S8192x1024.Idx => (rowsAt m c).bb (j 0) (j 1)) := by
  refine (dat0 (V1 m ρ) c).arrAt_eq_of_covers 11 _ (by decide +kernel) fun p _ y => ?_
  blk_simp
  rw [after0_11]
  change S512x1024.Idx at y
  idx_vars y
  have e : ((cfg0.win 11).blk p).view.emb (ix2 y0 y1 : S512x1024.Idx) = (ix2 (rowOf0 p y0) y1 : S8192x1024.Idx) := by
    blk_ext [rowOf0, idx0 p]
  rw [e]
  unfold out0_11
  frame_out
  pointwise [k0_pay5, pay_bb _ (rowOf0 p) _ _ (blk0_4 m ρ c p) (blk0_6 m ρ c p) y0 y1]
/-! Between the kernels the arrays the first one reads stay. -/
theorem keep_v2 : V3 m ρ c main_v2 = V1 m ρ c main_v2 :=
  (W3_of m ρ c main_v2 (by decide)).trans ((W2_arr m ρ c 1).trans ((dat0 (V1 m ρ) c).arrAt_in 1 rfl _))
theorem keep_v5 : V3 m ρ c main_v5 = V1 m ρ c main_v5 :=
  (W3_of m ρ c main_v5 (by decide)).trans ((W2_arr m ρ c 5).trans ((dat0 (V1 m ρ) c).arrAt_in 5 rfl _))
theorem keep_v8 : V3 m ρ c main_v8 = V1 m ρ c main_v8 :=
  (W3_of m ρ c main_v8 (by decide)).trans ((W2_arr m ρ c 6).trans ((dat0 (V1 m ρ) c).arrAt_in 6 rfl _))
theorem keep_v10 : V3 m ρ c main_v10 = V1 m ρ c main_v10 :=
  (W3_of m ρ c main_v10 (by decide)).trans ((W2_arr m ρ c 7).trans ((dat0 (V1 m ρ) c).arrAt_in 7 rfl _))

theorem blk1_0 (p : Fin cfg1.N) (i : Fin 512) (d : Fin 1024) :
    (show FVec Ideal S512x1024 .f32 from iblk1 (V3 m ρ) c 0 p) (ix2 i d) = (rowsAt m c).ct (rowOf1 p i) d := by
  refine Eq.trans (b := (show FVec Ideal S8192x1024 .f32 from V3 m ρ c main_v17) (ix2 (rowOf1 p i) d)) ?_ ?_
  · blk_point [iblk1, rowOf1, idx1 p]
  · exact host_ct m ρ c _ _
theorem blk1_1 (p : Fin cfg1.N) (i : Fin 512) (d : Fin 1024) :
    (show FVec Ideal S512x1024 .f32 from iblk1 (V3 m ρ) c 1 p) (ix2 i d) = (rowsAt m c).ga (rowOf1 p i) d := by
  refine Eq.trans (b := (show FVec Ideal S8192x2048 .f32 from V3 m ρ c main_v2) (ix2 (rowOf1 p i) ⟨d.val, by omega⟩)) ?_ ?_
  · blk_point [iblk1, rowOf1, idx1 p]
  · refine (congrFun (keep_v2 m ρ c) _).trans ((host_gates m ρ c _ _).trans ?_)
    exact dif_pos d.isLt
theorem blk1_2 (p : Fin cfg1.N) (i : Fin 512) (d : Fin 1024) :
    (show FVec Ideal S512x1024 .f32 from iblk1 (V3 m ρ) c 2 p) (ix2 i d) = (rowsAt m c).gb (rowOf1 p i) d := by
  refine Eq.trans (b := (show FVec Ideal S8192x2048 .f32 from V3 m ρ c main_v2) (ix2 (rowOf1 p i) ⟨1024 + d.val, by omega⟩)) ?_ ?_
  · blk_point [iblk1, rowOf1, idx1 p]
  · refine (congrFun (keep_v2 m ρ c) _).trans ((host_gates m ρ c _ _).trans ?_)
    exact (dif_neg (by simp)).trans (congrArg _ (Fin.ext (by simp)))
theorem blk1_3 (p : Fin cfg1.N) (i : Fin 512) (d : Fin 1024) :
    (show FVec Ideal S512x1024 .bf16 from iblk1 (V3 m ρ) c 3 p) (ix2 i d) = (rowsAt m c).ba (rowOf1 p i) d := by
  refine Eq.trans (b := (show FVec Ideal S8192x1024 .bf16 from V3 m ρ c main_v16_2) (ix2 (rowOf1 p i) d)) ?_ ?_
  · blk_point [iblk1, rowOf1, idx1 p]
  · exact congrFun ((W3_of m ρ c main_v16_2 (by decide)).trans ((W2_arr m ρ c 10).trans (final_ba m ρ c))) _
theorem blk1_4 (p : Fin cfg1.N) (i : Fin 512) (d : Fin 1024) :
    (show FVec Ideal S512x1024 .bf16 from iblk1 (V3 m ρ) c 4 p) (ix2 i d) = (rowsAt m c).bb (rowOf1 p i) d := by
  refine Eq.trans (b := (show FVec Ideal S8192x1024 .bf16 from V3 m ρ c main_v16_3) (ix2 (rowOf1 p i) d)) ?_ ?_
  · blk_point [iblk1, rowOf1, idx1 p]
  · exact congrFun ((W3_of m ρ c main_v16_3 (by decide)).trans ((W2_arr m ρ c 11).trans (final_bb m ρ c))) _
theorem blk1_5 (p : Fin cfg1.N) (i : Fin 1024) (d : Fin 512) :
    (show FVec Ideal S1024x512 .bf16 from iblk1 (V3 m ρ) c 5 p) (ix2 i d) = (rowsAt m c).wa d i := by
  refine Eq.trans (b := (show FVec Ideal S1024x512 .bf16 from V3 m ρ c main_v5) (ix2 i d)) ?_ ?_
  · blk_point [iblk1, rowOf1, idx1 p]
  · exact (congrFun (keep_v5 m ρ c) _).trans (host_wa m ρ c _ _)
theorem blk1_6 (p : Fin cfg1.N) (i : Fin 1024) (d : Fin 512) :
    (show FVec Ideal S1024x512 .bf16 from iblk1 (V3 m ρ) c 6 p) (ix2 i d) = (rowsAt m c).wb d i := by
  refine Eq.trans (b := (show FVec Ideal S1024x512 .bf16 from V3 m ρ c main_v8) (ix2 i d)) ?_ ?_
  · blk_point [iblk1, rowOf1, idx1 p]
  · exact (congrFun (keep_v8 m ρ c) _).trans (host_wb m ρ c _ _)
theorem blk1_7 (p : Fin cfg1.N) (i : Fin 1024) (d : Fin 1024) :
    (show FVec Ideal S1024x1024 .bf16 from iblk1 (V3 m ρ) c 7 p) (ix2 i d) = (rowsAt m c).wo i d := by
  refine Eq.trans (b := (show FVec Ideal S1024x1024 .bf16 from V3 m ρ c main_v10) (ix2 i d)) ?_ ?_
  · blk_point [iblk1, rowOf1, idx1 p]
  · exact (congrFun (keep_v10 m ρ c) _).trans (host_wo m ρ c _ _)

/-! ## What kernel 1 leaves -/

theorem final_ct : (dat1 (V3 m ρ) c).arrAt 8 cfg1.N = (fun j : S8192x1024.Idx => (rowsAt m c).ct (j 0) (j 1)) := by
  refine (dat1 (V3 m ρ) c).arrAt_eq_of_covers 8 _ (by decide +kernel) fun p _ y => ?_
  blk_simp
  rw [after1_8]
  change S512x1024.Idx at y
  idx_vars y
  have e : ((cfg1.win 8).blk p).view.emb (ix2 y0 y1 : S512x1024.Idx) = (ix2 (rowOf1 p y0) y1 : S8192x1024.Idx) := by
    blk_ext [rowOf1, idx1 p]
  rw [e]
  unfold out1_8
  frame_out
  pointwise [k1_pay4]
  exact blk1_0 m ρ c p y0 y1
theorem final_dba : (dat1 (V3 m ρ) c).arrAt 9 cfg1.N = (fun j : S8192x1024.Idx => (rowsAt m c).dba (j 0) (j 1)) := by
  refine (dat1 (V3 m ρ) c).arrAt_eq_of_covers 9 _ (by decide +kernel) fun p _ y => ?_
  blk_simp
  rw [after1_9]
  change S512x1024.Idx at y
  idx_vars y
  have e : ((cfg1.win 9).blk p).view.emb (ix2 y0 y1 : S512x1024.Idx) = (ix2 (rowOf1 p y0) y1 : S8192x1024.Idx) := by
    blk_ext [rowOf1, idx1 p]
  rw [e]
  unfold out1_9
  frame_out
  exact pay_dba _ (rowOf1 p) _ _ _ (blk1_0 m ρ c p) (blk1_1 m ρ c p) (blk1_7 m ρ c p) y0 y1
theorem final_dbb : (dat1 (V3 m ρ) c).arrAt 10 cfg1.N = (fun j : S8192x1024.Idx => (rowsAt m c).dbb (j 0) (j 1)) := by
  refine (dat1 (V3 m ρ) c).arrAt_eq_of_covers 10 _ (by decide +kernel) fun p _ y => ?_
  blk_simp
  rw [after1_10]
  change S512x1024.Idx at y
  idx_vars y
  have e : ((cfg1.win 10).blk p).view.emb (ix2 y0 y1 : S512x1024.Idx) = (ix2 (rowOf1 p y0) y1 : S8192x1024.Idx) := by
    blk_ext [rowOf1, idx1 p]
  rw [e]
  unfold out1_10
  frame_out
  exact pay_dbb _ (rowOf1 p) _ _ _ (blk1_0 m ρ c p) (blk1_2 m ρ c p) (blk1_7 m ρ c p) y0 y1
theorem final_doa : (dat1 (V3 m ρ) c).arrAt 12 cfg1.N = (fun j : S8192x512.Idx => (rowsAt m c).doa (j 0) (j 1)) := by
  refine (dat1 (V3 m ρ) c).arrAt_eq_of_covers 12 _ (by decide +kernel) fun p _ y => ?_
  blk_simp
  rw [after1_12]
  change S512x512.Idx at y
  idx_vars y
  have e : ((cfg1.win 12).blk p).view.emb (ix2 y0 y1 : S512x512.Idx) = (ix2 (rowOf1 p y0) y1 : S8192x512.Idx) := by
    blk_ext [rowOf1, idx1 p]
  rw [e]
  unfold out1_12
  frame_out
  exact pay_doa _ (rowOf1 p) _ _ _ _ (blk1_0 m ρ c p) (blk1_1 m ρ c p) (blk1_5 m ρ c p) (blk1_7 m ρ c p) y0 y1
theorem final_dob : (dat1 (V3 m ρ) c).arrAt 13 cfg1.N = (fun j : S8192x512.Idx => (rowsAt m c).dob (j 0) (j 1)) := by
  refine (dat1 (V3 m ρ) c).arrAt_eq_of_covers 13 _ (by decide +kernel) fun p _ y => ?_
  blk_simp
  rw [after1_13]
  change S512x512.Idx at y
  idx_vars y
  have e : ((cfg1.win 13).blk p).view.emb (ix2 y0 y1 : S512x512.Idx) = (ix2 (rowOf1 p y0) y1 : S8192x512.Idx) := by
    blk_ext [rowOf1, idx1 p]
  rw [e]
  unfold out1_13
  frame_out
  exact pay_dob _ (rowOf1 p) _ _ _ _ (blk1_0 m ρ c p) (blk1_2 m ρ c p) (blk1_6 m ρ c p) (blk1_7 m ρ c p) y0 y1

end Cert.Gated
end
-- ==== Proof.MergeGates.lean ====
module
public import proofs.«01_k».proof.Proof.MergeValue
@[expose] public section
set_option maxRecDepth 16384
noncomputable section

/-! The gates' gradient: two stores side by side in one block. -/
namespace Cert.Gated
open Cert.MergeIdeal Cert.MergeIdeal.Gen Idealize.ShloMosaic Idealize.ShloMosaic.TcCoe Idealize.SL.Sem

variable (m : (ℓ : Loc nD τ sig) → Buf (Elt Ideal) ℓ) (ρ : Dev nD → PrngReg) (c : Dev nD)

/-- The gates' gradient: the first gate's columns, then the second's. -/
def dgates (A : Rows) (r : Fin 8192) (d : Fin 2048) : EReal := if h : d.val < 1024 then A.dga r ⟨d.val, h⟩ else A.dgb r ⟨d.val - 1024, by omega⟩
theorem dgates_left (A : Rows) (r : Fin 8192) (d : Fin 2048) (k : Fin 1024) (h : d.val = k.val) : dgates A r d = A.dga r k := by
  obtain ⟨d, hd⟩ := d
  simp only at h
  subst h
  exact dif_pos k.isLt

theorem dgates_right (A : Rows) (r : Fin 8192) (d : Fin 2048) (k : Fin 1024) (h : d.val = 1024 + k.val) : dgates A r d = A.dgb r k := by
  obtain ⟨d, hd⟩ := d
  simp only at h
  subst h
  exact (dif_neg (by simp)).trans (congrArg _ (Fin.ext (by simp)))

theorem final_dgates : (dat1 (V3 m ρ) c).arrAt 11 cfg1.N = (fun j : S8192x2048.Idx => dgates (rowsAt m c) (j 0) (j 1)) := by
  refine (dat1 (V3 m ρ) c).arrAt_eq_of_covers 11 _ (by decide +kernel) fun p _ y => ?_
  blk_simp
  rw [after1_11]
  change S512x2048.Idx at y
  idx_vars y
  have e : ((cfg1.win 11).blk p).view.emb (ix2 y0 y1 : S512x2048.Idx) = (ix2 (rowOf1 p y0) y1 : S8192x2048.Idx) := by
    blk_ext [rowOf1, idx1 p]
  rw [e]
  unfold out1_11
  refine View.canon_eq_of_allAt _ _ _ (cover1_11 _ _ _) (View.allAt_cons_unit _ _ _ _ _ (fun x hx => ?_) (View.allAt_cons_unit _ _ _ _ _ (fun x hx => ?_) (View.allAt_nil _ _)))
  all_goals
    change S512x1024.Idx at x
    idx_vars x
    have h0 : y0.val = x0.val := by have := hx 0; simpa using this
    have h1 := hx 1
    obtain rfl : y0 = x0 := Fin.ext h0
    frame_out
  · have h1 : y1.val = 1024 + x1.val := h1
    refine (pay_dgb _ (rowOf1 p) _ _ _ _ (blk1_0 m ρ c p) (blk1_2 m ρ c p) (blk1_4 m ρ c p) (blk1_7 m ρ c p) y0 x1).trans ?_
    exact (dgates_right _ _ _ _ h1).symm
  · have h1 : y1.val = x1.val := by have h : y1.val = 0 + x1.val := h1; omega
    refine (pay_dga _ (rowOf1 p) _ _ _ _ (blk1_0 m ρ c p) (blk1_1 m ρ c p) (blk1_3 m ρ c p) (blk1_7 m ρ c p) y0 x1).trans ?_
    exact (dgates_left _ _ _ _ h1).symm

end Cert.Gated
end
-- ==== Proof.MergeRef.lean ====
module
public import proofs.«01_k».proof.Proof.Gen.MergeRefIdeal.Read
public import proofs.«01_k».proof.Proof.MergeGates
@[expose] public section
set_option maxRecDepth 16384
noncomputable section

/-! The reference of the gated merge read at one element: the same sums and products in another order. -/
namespace Cert.MergeRefIdeal.Read
open Cert.MergeRefIdeal Cert.MergeRefIdeal.Gen Cert.Gated Idealize.ShloMosaic Idealize.ShloMosaic.TcCoe Idealize.SL.Sem

variable (a0 a1 a2 a3 : FVec Ideal S1x8192x1024 .f32) (a4 a5 : FVec Ideal S1x8192x512 .f32) (a6 a7 : FVec Ideal S1x512x1024 .f32)
    (a8 : FVec Ideal S1x1024x1024 .f32)

theorem gate_a (r : Fin 8192) (d : Fin 1024) : val_main_v6 (F := Ideal) a2 (ix3 0 r d) = Ideal.logistic ((rows a0 a1 a2 a3 a4 a5 a6 a7 a8).ga r d) := by
  pointwise [val_main_v6, val_main_v5, val_main_v4, val_main_v3, val_main_v2, val_main_v1, val_main_cst_0, val_main_cst_1]
  rfl
theorem gate_b (r : Fin 8192) (d : Fin 1024) : val_main_v19 (F := Ideal) a3 (ix3 0 r d) = Ideal.logistic ((rows a0 a1 a2 a3 a4 a5 a6 a7 a8).gb r d) := by
  pointwise [val_main_v19, val_main_v18, val_main_v17, val_main_v16, val_main_v15, val_main_v14, val_main_cst_3, val_main_cst_4]
  rfl
theorem branch_a (r : Fin 8192) (d : Fin 1024) : val_main_v12 (F := Ideal) a4 a6 (ix3 0 r d) = (rows a0 a1 a2 a3 a4 a5 a6 a7 a8).ba r d := by
  pointwise [val_main_v12, val_main_v11, val_main_v10, val_main_v0, val_main_cst]
  rfl
theorem branch_b (r : Fin 8192) (d : Fin 1024) : val_main_v25 (F := Ideal) a5 a7 (ix3 0 r d) = (rows a0 a1 a2 a3 a4 a5 a6 a7 a8).bb r d := by
  pointwise [val_main_v25, val_main_v24, val_main_v23, val_main_v0, val_main_cst]
  rfl
theorem dm_at (r : Fin 8192) (d : Fin 1024) : val_main_v32 (F := Ideal) a0 a8 (ix3 0 r d) = (rows a0 a1 a2 a3 a4 a5 a6 a7 a8).dm r d := by
  pointwise [val_main_v32, val_main_v31, val_main_v28]
  rfl

theorem out_x2 : val_main_v41 (F := Ideal) a1 a2 a3 a4 a5 a6 a7 a8 = fun j => (rows a0 a1 a2 a3 a4 a5 a6 a7 a8).x2 (j 0) (j 1) := by
  funext j
  idx_vars j
  pointwise [val_main_v41, val_main_v30, val_main_v29, val_main_v28, val_main_v27, val_main_v26, val_main_v13]
  simp only [gate_a a0 a1 a2 a3 a4 a5 a6 a7 a8, gate_b a0 a1 a2 a3 a4 a5 a6 a7 a8, branch_a a0 a1 a2 a3 a4 a5 a6 a7 a8, branch_b a0 a1 a2 a3 a4 a5 a6 a7 a8]
  rfl
theorem out_mg : val_main_v43 (F := Ideal) a2 a3 a4 a5 a6 a7 = fun j => (rows a0 a1 a2 a3 a4 a5 a6 a7 a8).mg (j 0) (j 1) := by
  funext j
  idx_vars j
  pointwise [val_main_v43, val_main_v42, val_main_v27, val_main_v26, val_main_v13, gate_a a0 a1 a2 a3 a4 a5 a6 a7 a8, gate_b a0 a1 a2 a3 a4 a5 a6 a7 a8, branch_a a0 a1 a2 a3 a4 a5 a6 a7 a8, branch_b a0 a1 a2 a3 a4 a5 a6 a7 a8]
  rfl
theorem out_ct : val_main_v45 (F := Ideal) a0 = fun j => (rows a0 a1 a2 a3 a4 a5 a6 a7 a8).ct (j 0) (j 1) := by
  funext j
  idx_vars j
  pointwise [val_main_v45, val_main_v44]
  rfl
theorem out_dba : val_main_v47 (F := Ideal) a0 a2 a8 = fun j => (rows a0 a1 a2 a3 a4 a5 a6 a7 a8).dba (j 0) (j 1) := by
  funext j
  idx_vars j
  pointwise [val_main_v47, val_main_v46, val_main_v37, gate_a a0 a1 a2 a3 a4 a5 a6 a7 a8, dm_at a0 a1 a2 a3 a4 a5 a6 a7 a8]
  exact mul_comm _ _
theorem out_dbb : val_main_v49 (F := Ideal) a0 a3 a8 = fun j => (rows a0 a1 a2 a3 a4 a5 a6 a7 a8).dbb (j 0) (j 1) := by
  funext j
  idx_vars j
  pointwise [val_main_v49, val_main_v48, val_main_v33, gate_b a0 a1 a2 a3 a4 a5 a6 a7 a8, dm_at a0 a1 a2 a3 a4 a5 a6 a7 a8]
  exact mul_comm _ _
theorem out_doa : val_main_v54 (F := Ideal) a0 a2 a6 a8 = fun j => (rows a0 a1 a2 a3 a4 a5 a6 a7 a8).doa (j 0) (j 1) := by
  funext j
  idx_vars j
  pointwise [val_main_v54, val_main_v39, val_main_v37, val_main_v10, gate_a a0 a1 a2 a3 a4 a5 a6 a7 a8, dm_at a0 a1 a2 a3 a4 a5 a6 a7 a8]
  try simp only [gate_a a0 a1 a2 a3 a4 a5 a6 a7 a8, dm_at a0 a1 a2 a3 a4 a5 a6 a7 a8]
  exact Finset.sum_congr rfl fun d _ => congrArg (· * _) (mul_comm _ _)
theorem out_dob : val_main_v55 (F := Ideal) a0 a3 a7 a8 = fun j => (rows a0 a1 a2 a3 a4 a5 a6 a7 a8).dob (j 0) (j 1) := by
  funext j
  idx_vars j
  pointwise [val_main_v55, val_main_v35, val_main_v33, val_main_v23]
  simp only [gate_b a0 a1 a2 a3 a4 a5 a6 a7 a8, dm_at a0 a1 a2 a3 a4 a5 a6 a7 a8]
  exact Finset.sum_congr rfl fun d _ => congrArg (· * _) (mul_comm _ _)
theorem out_dgates : val_main_v53 (F := Ideal) a0 a2 a3 a4 a5 a6 a7 a8 = fun j => dgates (rows a0 a1 a2 a3 a4 a5 a6 a7 a8) (j 0) (j 1) := by
  funext j
  idx_vars j
  pointwise [val_main_v53, val_main_v52, val_main_v51, val_main_v50, val_main_v40, val_main_v38, val_main_v36, val_main_v34, val_main_v22, val_main_v21, val_main_v20, val_main_v9, val_main_v8, val_main_v7, val_main_cst_2, val_main_cst_5]
  unfold dgates
  split
  · simp only [gate_a a0 a1 a2 a3 a4 a5 a6 a7 a8, dm_at a0 a1 a2 a3 a4 a5 a6 a7 a8, branch_a a0 a1 a2 a3 a4 a5 a6 a7 a8]
    exact (mul_assoc _ _ _).symm
  · simp only [gate_b a0 a1 a2 a3 a4 a5 a6 a7 a8, dm_at a0 a1 a2 a3 a4 a5 a6 a7 a8, branch_b a0 a1 a2 a3 a4 a5 a6 a7 a8]
    exact (mul_assoc _ _ _).symm

end Cert.MergeRefIdeal.Read
end
-- ==== Proof.MergeClaim.lean ====
module
public import proofs.«01_k».proof.Defs
public import proofs.«01_k».proof.Proof.Gen.MergeRefIdeal.Run
public import proofs.«01_k».proof.Proof.MergeRun
public import proofs.«01_k».proof.Proof.MergeRef
public import Idealize.ShloMosaic.Lib.Claim
@[expose] public section
set_option maxRecDepth 16384
noncomputable section

/-! The gated merge and its gradient against their reference. -/
namespace Cert.Gated
open Idealize.ShloMosaic Idealize.ShloMosaic.TcCoe Idealize.SL.Sem
open Cert.MergeRefIdeal.Read

theorem frame_reference : Cert.quiescent_MergeRefIdeal := fun m ρ _ =>
  (θ_run Cert.MergeRefIdeal.defs _ _).mono (fun r h => ⟨fun c => (h c).2.2.2.2.2.2.2.2, sem_eq_zero_of_no_sems (by decide) r.2⟩)
    (Cert.MergeRefIdeal.Value.run (F := Ideal) m ρ)

variable (m : (ℓ : Loc Cert.MergeIdeal.nD Cert.MergeIdeal.τ Cert.MergeIdeal.sig) → Buf (Elt Ideal) ℓ) (g : Dev Cert.MergeIdeal.nD → PrngReg) (c : Dev Cert.MergeIdeal.nD)

theorem eq_x2 : val_main_v41 (F := Ideal) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) = (Cert.MergeIdeal.Gen.dat0 (Cert.MergeIdeal.Gen.V1 m g) c).arrAt 8 Cert.MergeIdeal.cfg0.N :=
  (out_x2 (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).trans (final_x2 m g c).symm

theorem eq_mg : val_main_v43 (F := Ideal) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) = (Cert.MergeIdeal.Gen.dat0 (Cert.MergeIdeal.Gen.V1 m g) c).arrAt 9 Cert.MergeIdeal.cfg0.N :=
  (out_mg (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).trans (final_mg m g c).symm

theorem eq_ct : val_main_v45 (F := Ideal) (m ((c.tc : Thread Cert.MergeIdeal.nD Cert.MergeIdeal.τ).loc Cert.MergeIdeal.main_arg0)) = (Cert.MergeIdeal.Gen.dat1 (Cert.MergeIdeal.Gen.V3 m g) c).arrAt 8 Cert.MergeIdeal.cfg1.N :=
  (out_ct (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).trans (final_ct m g c).symm

theorem eq_dba : val_main_v47 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg2)) (m ((c.tc : Thread Cert.MergeIdeal.nD Cert.MergeIdeal.τ).loc Cert.MergeIdeal.main_arg8)) = (Cert.MergeIdeal.Gen.dat1 (Cert.MergeIdeal.Gen.V3 m g) c).arrAt 9 Cert.MergeIdeal.cfg1.N :=
  (out_dba (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).trans (final_dba m g c).symm

theorem eq_dbb : val_main_v49 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg3)) (m ((c.tc : Thread Cert.MergeIdeal.nD Cert.MergeIdeal.τ).loc Cert.MergeIdeal.main_arg8)) = (Cert.MergeIdeal.Gen.dat1 (Cert.MergeIdeal.Gen.V3 m g) c).arrAt 10 Cert.MergeIdeal.cfg1.N :=
  (out_dbb (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).trans (final_dbb m g c).symm

theorem eq_dgates : val_main_v53 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) = (Cert.MergeIdeal.Gen.dat1 (Cert.MergeIdeal.Gen.V3 m g) c).arrAt 11 Cert.MergeIdeal.cfg1.N :=
  (out_dgates (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).trans (final_dgates m g c).symm

theorem eq_doa : val_main_v54 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg2)) (m ((c.tc : Thread Cert.MergeIdeal.nD Cert.MergeIdeal.τ).loc Cert.MergeIdeal.main_arg6)) (m ((c.tc : Thread Cert.MergeIdeal.nD Cert.MergeIdeal.τ).loc Cert.MergeIdeal.main_arg8)) = (Cert.MergeIdeal.Gen.dat1 (Cert.MergeIdeal.Gen.V3 m g) c).arrAt 12 Cert.MergeIdeal.cfg1.N :=
  (out_doa (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).trans (final_doa m g c).symm

theorem eq_dob : val_main_v55 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg3)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) = (Cert.MergeIdeal.Gen.dat1 (Cert.MergeIdeal.Gen.V3 m g) c).arrAt 13 Cert.MergeIdeal.cfg1.N :=
  (out_dob (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).trans (final_dob m g c).symm

set_option maxHeartbeats 2000000 in
theorem algebraic : Cert.algebraic_MergeIdeal_MergeRefIdeal := by
  pair_intro
  · run_from run_main m g
  · run_from Cert.MergeRefIdeal.Value.run m' g'
    · exact (val_main_v41_eq _ _ _ _ _ _ _ _).trans (eq_x2 m g c)
    · exact (val_main_v43_eq _ _ _ _ _ _).trans (eq_mg m g c)
    · exact (val_main_v45_eq _).trans (eq_ct m g c)
    · exact (val_main_v47_eq _ _ _).trans (eq_dba m g c)
    · exact (val_main_v49_eq _ _ _).trans (eq_dbb m g c)
    · refine (val_main_v53_eq _ _ _ _ _ _ _ _).trans ?_
      obtain ⟨-, -, h2, h3, h4, h5, h6, h7, h8⟩ := hagree c
      rw [h2, h3, h4, h5, h6, h7, h8]
      exact eq_dgates m g c
    · exact (val_main_v54_eq _ _ _ _).trans (eq_doa m g c)
    · exact (val_main_v55_eq _ _ _ _).trans (eq_dob m g c)

end Cert.Gated
end
-- ==== Proof.FfnTile.lean ====
/- The feed-forward layer over the reals: what it computes, its gradients, and what one tile of the two kernels computes of them. -/
module

public import proofs.«01_k».proof.Proof.Gen.FfnIdeal.Skeleton
public import proofs.«01_k».proof.Proof.Norm
public import Idealize.ShloMosaic.Lib.Claim

@[expose] public section

set_option maxRecDepth 16384

noncomputable section

namespace Cert.Ffn

open Idealize.ShloMosaic Idealize.ShloMosaic.TcCoe Idealize.SL.Sem Cert.Norm
open Cert.FfnIdeal Cert.FfnIdeal.Gen

/-- The logistic function. -/
def sg (x : ℝ) : ℝ := (1 + Real.exp (-x))⁻¹

/-- The layer's arguments: the cotangent, the residual stream, the norm's weight and the three weights of the gated block. -/
structure Args where
  t : Fin 8192 → Fin 1024 → ℝ
  x : Fin 8192 → Fin 1024 → ℝ
  g : Fin 1024 → ℝ
  w1 : Fin 1024 → Fin 2816 → ℝ
  w3 : Fin 1024 → Fin 2816 → ℝ
  w2 : Fin 2816 → Fin 1024 → ℝ

namespace Args
variable (A : Args) (r : Fin 8192)
/-- The normalised rows, -/
def h (d : Fin 1024) : ℝ := A.x r d * inv (A.x r) * A.g d
/-- their two products, -/
def a (n : Fin 2816) : ℝ := ∑ d, A.h r d * A.w1 d n
def b (n : Fin 2816) : ℝ := ∑ d, A.h r d * A.w3 d n
/-- the hidden units -/
def u (n : Fin 2816) : ℝ := A.a r n * sg (A.a r n) * A.b r n
/-- and the layer's result. -/
def x3 (d : Fin 1024) : ℝ := A.x r d + 1 / 2 * ∑ n, A.u r n * A.w2 n d
/-- The gradients: in the gated block's result, -/
def dz (d : Fin 1024) : ℝ := 1 / 2 * A.t r d
/-- in the hidden units, -/
def du (n : Fin 2816) : ℝ := ∑ d, A.dz r d * A.w2 n d
/-- in the two products, -/
def da (n : Fin 2816) : ℝ := A.du r n * A.b r n * (sg (A.a r n) * (1 + A.a r n * (1 - sg (A.a r n))))
def db (n : Fin 2816) : ℝ := A.du r n * (A.a r n * sg (A.a r n))
/-- in the normalised rows, -/
def dh (d : Fin 1024) : ℝ := ∑ n, (A.da r n * A.w1 d n + A.db r n * A.w3 d n)
/-- in the residual stream -/
def dx (d : Fin 1024) : ℝ := A.t r d + bwd (A.x r) A.g (A.dh r) d
/-- and in the norm's weight. -/
def dg (d : Fin 1024) : ℝ := ∑ r, A.dh r d * (A.x r d * inv (A.x r))
end Args

theorem div_one_exp (x : ℝ) : Ideal.div (1 : EReal) (1 + Ideal.exp (-(x : EReal))) = (sg x : EReal) := by
  rw [← EReal.coe_neg, Ideal.exp_coe, ← EReal.coe_one, ← EReal.coe_add, Ideal.div_coe (by positivity), ← EReal.coe_mul, sg, one_mul, one_div]

theorem logistic_real (x : ℝ) : Ideal.logistic (x : EReal) = (sg x : EReal) := div_one_exp x

/-! ## One tile of the forward kernel -/

section
variable (vx acc : FVec Ideal S512x1024 .f32) (vg : FVec Ideal S1x1024 .f32) (vh : FVec Ideal S512x1024 .bf16) (v1 v3 v2 : FVec Ideal S256x1024 .bf16)
  (x h : Fin 512 → Fin 1024 → ℝ) (g : Fin 1024 → ℝ) (w1 w3 w2 : Fin 256 → Fin 1024 → ℝ)

section
variable (hx : ∀ i k, vx (ix2 i k) = (x i k : EReal)) (hg : ∀ k, vg (ix2 0 k) = (g k : EReal))
include hx hg
theorem norm_tile (i : Fin 512) (k : Fin 1024) : k0_pay1 (F := Ideal) vx vg (ix2 i k) = ((x i k * inv (x i) * g k : ℝ) : EReal) := by
  pointwise [k0_pay1]
  simp only [hx, hg, ofBits_lanes, ofBits_eps, ← EReal.coe_mul, ← coe_sum, div_lanes, ← EReal.coe_add]
  rw [show Ideal.rsqrt ((((∑ k, x i k * x i k) / 1024 + eps : ℝ) : EReal)) = (inv (x i) : EReal) from rsqrt_ms (x i)]
  simp only [← EReal.coe_mul]
theorem norm_tile' (i : Fin 512) (k : Fin 1024) : k0_pay2 (F := Ideal) vx vg (ix2 i k) = ((x i k * inv (x i) * g k : ℝ) : EReal) := by
  pointwise [k0_pay2]
  exact norm_tile vx vg x g hx hg i k
end

variable (hh : ∀ i k, vh (ix2 i k) = (h i k : EReal)) (h1 : ∀ s k, v1 (ix2 s k) = (w1 s k : EReal))
  (h3 : ∀ s k, v3 (ix2 s k) = (w3 s k : EReal)) (h2 : ∀ s k, v2 (ix2 s k) = (w2 s k : EReal))

section
include hh h1
theorem prod_tile (i : Fin 512) (s : Fin 256) : k0_pay4 (F := Ideal) vh v1 (ix2 i s) = ((∑ d, h i d * w1 s d : ℝ) : EReal) := by
  pointwise [k0_pay4]
  simp only [hh, h1, ← EReal.coe_mul, ← coe_sum]
theorem prod_tile' (i : Fin 512) (s : Fin 256) : k0_pay5 (F := Ideal) vh v1 (ix2 i s) = ((∑ d, h i d * w1 s d : ℝ) : EReal) := by
  pointwise [k0_pay5]
  simp only [hh, h1, ← EReal.coe_mul, ← coe_sum]
end

include hh h1 h3 h2
theorem acc_tile (i : Fin 512) (d : Fin 1024) : k0_pay8 (F := Ideal) vh v1 v3 acc v2 (ix2 i d)
    = acc (ix2 i d) + ((∑ s, ((∑ d, h i d * w1 s d) * sg (∑ d, h i d * w1 s d) * ∑ d, h i d * w3 s d) * w2 s d : ℝ) : EReal) := by
  pointwise [k0_pay8]
  simp only [prod_tile vh v1 h w1 hh h1, prod_tile' vh v3 h w3 hh h3, h2, logistic_real, ← EReal.coe_mul, ← coe_sum]
end

theorem res_tile (vx acc : FVec Ideal S512x1024 .f32) (i : Fin 512) (d : Fin 1024) (x s : ℝ) (hx : vx (ix2 i d) = (x : EReal)) (hs : acc (ix2 i d) = (s : EReal)) :
    k0_pay9 (F := Ideal) vx acc (ix2 i d) = ((x + 1 / 2 * s : ℝ) : EReal) := by
  pointwise [k0_pay9]
  rw [hx, hs, ofBits_half, ← EReal.coe_mul, ← EReal.coe_add]

/-! ## One tile of the backward kernel -/

theorem dz_tile (vt : FVec Ideal S512x1024 .f32) (i : Fin 512) (d : Fin 1024) (t : ℝ) (ht : vt (ix2 i d) = (t : EReal)) :
    k1_pay8 (F := Ideal) vt (ix2 i d) = ((1 / 2 * t : ℝ) : EReal) := by
  pointwise [k1_pay8]
  rw [ht, ofBits_half, ← EReal.coe_mul]
theorem dz_tile' (vt : FVec Ideal S512x1024 .f32) (i : Fin 512) (d : Fin 1024) (t : ℝ) (ht : vt (ix2 i d) = (t : EReal)) :
    k1_pay9 (F := Ideal) vt (ix2 i d) = ((1 / 2 * t : ℝ) : EReal) := by
  pointwise [k1_pay9]
  exact dz_tile vt i d t ht

section
variable (vz : FVec Ideal S512x1024 .bf16) (v2 : FVec Ideal S256x1024 .bf16) (va vb : FVec Ideal S512x256 .bf16)
  (z : Fin 512 → Fin 1024 → ℝ) (w2 : Fin 256 → Fin 1024 → ℝ) (a b : Fin 512 → Fin 256 → ℝ)
  (hz : ∀ i k, vz (ix2 i k) = (z i k : EReal)) (h2 : ∀ s k, v2 (ix2 s k) = (w2 s k : EReal))
  (ha : ∀ i s, va (ix2 i s) = (a i s : EReal)) (hb : ∀ i s, vb (ix2 i s) = (b i s : EReal))

section
include ha
theorem a_tile (i : Fin 512) (s : Fin 256) : k1_pay12 (F := Ideal) va (ix2 i s) = (a i s : EReal) := by
  pointwise [k1_pay12]
  exact ha i s
theorem sg_tile (i : Fin 512) (s : Fin 256) : k1_pay14 (F := Ideal) va (ix2 i s) = (sg (a i s) : EReal) := by
  pointwise [k1_pay14]
  rw [a_tile va a ha, logistic_real]
theorem silu_tile (i : Fin 512) (s : Fin 256) : k1_pay15 (F := Ideal) va (ix2 i s) = ((a i s * sg (a i s) : ℝ) : EReal) := by
  pointwise [k1_pay15]
  rw [a_tile va a ha, sg_tile va a ha, ← EReal.coe_mul]
end
section
include hb
theorem b_tile (i : Fin 512) (s : Fin 256) : k1_pay13 (F := Ideal) vb (ix2 i s) = (b i s : EReal) := by
  pointwise [k1_pay13]
  exact hb i s
end
section
include ha hb
theorem u_tile (i : Fin 512) (s : Fin 256) : k1_pay18 (F := Ideal) va vb (ix2 i s) = ((a i s * sg (a i s) * b i s : ℝ) : EReal) := by
  pointwise [k1_pay18]
  rw [silu_tile va a ha, b_tile vb b hb, ← EReal.coe_mul]
end
section
include hz h2
theorem du_tile (i : Fin 512) (s : Fin 256) : k1_pay11 (F := Ideal) vz v2 (ix2 i s) = ((∑ d, z i d * w2 s d : ℝ) : EReal) := by
  pointwise [k1_pay11]
  simp only [hz, h2, ← EReal.coe_mul, ← coe_sum]
include ha
theorem db_tile (i : Fin 512) (s : Fin 256) : k1_pay16 (F := Ideal) vz v2 va (ix2 i s) = (((∑ d, z i d * w2 s d) * (a i s * sg (a i s)) : ℝ) : EReal) := by
  pointwise [k1_pay16]
  rw [du_tile vz v2 z w2 hz h2, silu_tile va a ha, ← EReal.coe_mul]
include hb
theorem da_tile (i : Fin 512) (s : Fin 256) : k1_pay17 (F := Ideal) vz v2 va vb (ix2 i s)
    = (((∑ d, z i d * w2 s d) * b i s * (sg (a i s) * (1 + a i s * (1 - sg (a i s)))) : ℝ) : EReal) := by
  pointwise [k1_pay17]
  rw [du_tile vz v2 z w2 hz h2, b_tile vb b hb, a_tile va a ha, sg_tile va a ha]
  simp only [← EReal.coe_one, ← EReal.coe_mul, ← EReal.coe_add, ← EReal.coe_sub]
end
end

section
variable (vdb vda : FVec Ideal S512x256 .bf16) (acc : FVec Ideal S512x1024 .f32) (v1 v3 : FVec Ideal S256x1024 .bf16)
  (db da : Fin 512 → Fin 256 → ℝ) (w1 w3 : Fin 256 → Fin 1024 → ℝ)
  (hdb : ∀ i s, vdb (ix2 i s) = (db i s : EReal)) (hda : ∀ i s, vda (ix2 i s) = (da i s : EReal))
  (h1 : ∀ s k, v1 (ix2 s k) = (w1 s k : EReal)) (h3 : ∀ s k, v3 (ix2 s k) = (w3 s k : EReal))
include hdb hda h1 h3
theorem dh_tile (i : Fin 512) (d : Fin 1024) : k1_pay1 (F := Ideal) vdb vda acc v1 v3 (ix2 i d)
    = acc (ix2 i d) + ((∑ s, (da i s * w1 s d + db i s * w3 s d) : ℝ) : EReal) := by
  pointwise [k1_pay1]
  simp only [hdb, hda, h1, h3, ← EReal.coe_mul, ← coe_sum, ← EReal.coe_add, Finset.sum_add_distrib]
end

section
variable (vx vh vt : FVec Ideal S512x1024 .f32) (vg : FVec Ideal S1x1024 .f32)
  (x h t : Fin 512 → Fin 1024 → ℝ) (g : Fin 1024 → ℝ)
  (hx : ∀ i k, vx (ix2 i k) = (x i k : EReal)) (hh : ∀ i k, vh (ix2 i k) = (h i k : EReal))
  (ht : ∀ i k, vt (ix2 i k) = (t i k : EReal)) (hg : ∀ k, vg (ix2 0 k) = (g k : EReal))
include hx
theorem inv_tile (i : Fin 512) : k1_pay4 (F := Ideal) vx (ix2 i 0) = (inv (x i) : EReal) := by
  pointwise [k1_pay4, k1_pay3]
  simp only [hx, ofBits_lanes, ofBits_eps, ← EReal.coe_mul, ← coe_sum, div_lanes, ← EReal.coe_add]
  exact rsqrt_ms (x i)
theorem scaled_tile (i : Fin 512) (k : Fin 1024) : k1_pay5 (F := Ideal) vx (ix2 i k) = ((x i k * inv (x i) : ℝ) : EReal) := by
  pointwise [k1_pay5, k1_pay3, inv_tile vx x hx]
  rw [hx, EReal.coe_mul]
include hh
theorem dg_tile (j : Fin 1024) : k1_pay6 (F := Ideal) vx vh (ix2 0 j) = ((∑ i, h i j * (x i j * inv (x i)) : ℝ) : EReal) := by
  pointwise [k1_pay6]
  simp only [scaled_tile vx x hx, hh, ← EReal.coe_mul, ← coe_sum]
include ht hg
theorem dx_tile (i : Fin 512) (j : Fin 1024) : k1_pay7 (F := Ideal) vx vg vh vt (ix2 i j) = ((t i j + bwd (x i) g (h i) j : ℝ) : EReal) := by
  pointwise [k1_pay7]
  simp only [inv_tile vx x hx, scaled_tile vx x hx, hh, hg, ht, ofBits_lanes, ← EReal.coe_mul, ← coe_sum, div_lanes, ← EReal.coe_sub, ← EReal.coe_add]
  rfl
end

end Cert.Ffn
-- ==== Proof.FfnRef.lean ====
/- The results of the feed-forward layer's reference on real arguments. -/
module

public import proofs.«01_k».proof.Proof.Gen.FfnRefIdeal.Read
public import proofs.«01_k».proof.Proof.FfnTile

@[expose] public section

set_option maxRecDepth 16384

noncomputable section

namespace Cert.FfnRefIdeal.Read

open Cert.FfnRefIdeal Cert.FfnRefIdeal.Gen Cert.Norm Idealize.ShloMosaic Idealize.ShloMosaic.TcCoe Idealize.SL.Sem
open Cert.Ffn (Args sg div_one_exp)

/-- A reduction each of whose results has one preimage. -/
theorem reduce_single {s t : Shape} {axes : List (Fin s.rank)} (h : s.ReducesTo axes t) (v : s.Idx → EReal) (b : EReal) (j : t.Idx) (i : s.Idx)
    (hi : ∀ k, h.drop k = j ↔ k = i) : Ideal.hostReduceAdd h v b j = b + v i := by
  unfold Ideal.hostReduceAdd
  simp only [hi, Finset.filter_eq', Finset.mem_univ, if_true, Finset.sum_singleton]
theorem reduce_row (v : S1x1x1024.Idx → EReal) (b : EReal) (k : Fin 1024) :
    Ideal.hostReduceAdd reducesTo_S1x1x1024_S1024_d0_1 v b (ix1 k) = b + v (ix3 0 0 k) := by
  refine reduce_single _ v b _ _ fun i => ?_
  idx_vars i
  obtain rfl : i0 = 0 := Subsingleton.elim _ _
  obtain rfl : i1 = 0 := Subsingleton.elim _ _
  simp [funext_iff, Fin.ext_iff, Fin.forall_fin_one, Fin.forall_fin_succ]
  exact Iff.rfl
theorem reduce_col (v : S1x8192x1.Idx → EReal) (b : EReal) (k : Fin 8192) :
    Ideal.hostReduceAdd reducesTo_S1x8192x1_S8192_d0_2 v b (ix1 k) = b + v (ix3 0 k 0) := by
  refine reduce_single _ v b _ _ fun i => ?_
  idx_vars i
  obtain rfl : i0 = 0 := Subsingleton.elim _ _
  obtain rfl : i2 = 0 := Subsingleton.elim _ _
  simp [funext_iff, Fin.ext_iff, Fin.forall_fin_one, Fin.forall_fin_succ]
  exact Iff.rfl

/-- The arguments are the real numbers `A`. -/
structure Given (A : Args) (x0 x1 : FVec Ideal S1x8192x1024 .f32) (x2 : FVec Ideal S1x1024 .f32) (x3 x4 : FVec Ideal S1x1024x2816 .f32)
    (x5 : FVec Ideal S1x2816x1024 .f32) : Prop where
  t : ∀ r d, x0 (ix3 0 r d) = (A.t r d : EReal)
  x : ∀ r d, x1 (ix3 0 r d) = (A.x r d : EReal)
  g : ∀ d, x2 (ix2 0 d) = (A.g d : EReal)
  w1 : ∀ d n, x3 (ix3 0 d n) = (A.w1 d n : EReal)
  w3 : ∀ d n, x4 (ix3 0 d n) = (A.w3 d n : EReal)
  w2 : ∀ n d, x5 (ix3 0 n d) = (A.w2 n d : EReal)

variable {A : Args} {x0 x1 : FVec Ideal S1x8192x1024 .f32} {x2 : FVec Ideal S1x1024 .f32} {x3 x4 : FVec Ideal S1x1024x2816 .f32}
  {x5 : FVec Ideal S1x2816x1024 .f32} (G : Given A x0 x1 x2 x3 x4 x5)
include G

/-! ## Forward -/

theorem v9_at (r : Fin 8192) : val_main_v9 (F := Ideal) x1 (ix3 0 r 0) = (ms (A.x r) : EReal) := by
  pointwise [val_main_v9, val_main_v8, val_main_v7, val_main_v6, val_main_v5, val_main_v4, val_main_v3, val_main_cst_1, val_main_cst_2, val_main_cst_3]
  simp only [G.x, zero_add, ofBits_lanes, ofBits_eps, ← EReal.coe_mul, ← coe_sum, div_lanes, ← EReal.coe_add]; rfl
theorem v10_at (r : Fin 8192) : val_main_v10 (F := Ideal) x1 (ix3 0 r 0) = (inv (A.x r) : EReal) := by
  pointwise [val_main_v10]; rw [v9_at G, rsqrt_ms]
theorem v13_at (r : Fin 8192) : val_main_v13 (F := Ideal) x1 (ix3 0 r 0) = ((-1 / 2 * (inv (A.x r) / ms (A.x r)) : ℝ) : EReal) := by
  pointwise [val_main_v13, val_main_v12, val_main_v11, val_main_cst_4]
  rw [v9_at G, v10_at G, ofBits_neg_half, Ideal.div_coe (ms_pos _).ne', ← EReal.coe_mul, ← EReal.coe_mul]
  congr 2; ring
theorem v15_at (r : Fin 8192) (d : Fin 1024) : val_main_v15 (F := Ideal) x1 (ix3 0 r d) = ((A.x r d * inv (A.x r) : ℝ) : EReal) := by
  pointwise [val_main_v15, val_main_v14]; rw [G.x, v10_at G, EReal.coe_mul]
theorem v18_at (r : Fin 8192) (d : Fin 1024) : val_main_v18 (F := Ideal) x1 x2 (ix3 0 r d) = (A.h r d : EReal) := by
  pointwise [val_main_v18, val_main_v17, val_main_v16, val_main_v2]
  rw [v15_at G, G.g, ← EReal.coe_mul]; rfl
theorem v23_at (r : Fin 8192) (n : Fin 2816) : val_main_v23 (F := Ideal) x1 x2 x3 (ix3 0 r n) = (A.a r n : EReal) := by
  pointwise [val_main_v23, val_main_v22, val_main_v19, val_main_v0, val_main_cst]
  simp only [v18_at G, G.w1, ← EReal.coe_mul, ← coe_sum, add_zero]; rfl
theorem v26_at (r : Fin 8192) (n : Fin 2816) : val_main_v26 (F := Ideal) x1 x2 x4 (ix3 0 r n) = (A.b r n : EReal) := by
  pointwise [val_main_v26, val_main_v25, val_main_v20, val_main_v0, val_main_cst]
  simp only [v18_at G, G.w3, ← EReal.coe_mul, ← coe_sum, add_zero]; rfl
theorem sg_at (r : Fin 8192) (n : Fin 2816) : val_main_v24_2 (F := Ideal) x1 x2 x3 (ix3 0 r n) = (sg (A.a r n) : EReal) := by
  pointwise [val_main_v24_2, val_main_call0_v4, val_main_call0_v3, val_main_call0_v2, val_main_call0_v1, val_main_call0_v0, val_main_call0_cst, val_main_call0_cst_0]
  rw [v23_at G]
  exact div_one_exp _
theorem v24_0_at (r : Fin 8192) (n : Fin 2816) : val_main_v24_0 (F := Ideal) x1 x2 x3 (ix3 0 r n) = ((A.a r n * sg (A.a r n) : ℝ) : EReal) := by
  pointwise [val_main_v24_0]
  rw [v23_at G, sg_at G, EReal.coe_mul]
theorem v24_1_at (r : Fin 8192) (n : Fin 2816) : val_main_v24_1 (F := Ideal) x1 x2 x3 (ix3 0 r n) = ((sg (A.a r n) * (1 - sg (A.a r n)) : ℝ) : EReal) := by
  pointwise [val_main_v24_1, val_main_call0_v7, val_main_call0_v6, val_main_call0_cst_1]
  rw [sg_at G, ← EReal.coe_one, ← EReal.coe_sub, ← EReal.coe_mul]
theorem v27_at (r : Fin 8192) (n : Fin 2816) : val_main_v27 (F := Ideal) x1 x2 x3 x4 (ix3 0 r n) = (A.u r n : EReal) := by
  pointwise [val_main_v27]
  rw [v24_0_at G, v26_at G, ← EReal.coe_mul]; rfl
theorem v32_at (r : Fin 8192) (d : Fin 1024) : val_main_v32 (F := Ideal) x1 x2 x3 x4 x5 (ix3 0 r d) = (A.x3 r d : EReal) := by
  pointwise [val_main_v32, val_main_v31, val_main_v30, val_main_v29, val_main_v28, val_main_v21, val_main_v1, val_main_cst_0, val_main_cst_5]
  simp only [v27_at G, G.w2, G.x, ofBits_half, ← EReal.coe_mul, ← coe_sum, add_zero, ← EReal.coe_add]; rfl

/-! ## Backward -/

theorem v35_at (r : Fin 8192) (d : Fin 1024) : val_main_v35 (F := Ideal) x0 (ix3 0 r d) = (A.dz r d : EReal) := by
  pointwise [val_main_v35, val_main_v34, val_main_v33, val_main_cst_6]
  rw [G.t, ofBits_half, ← EReal.coe_mul]; rfl
theorem v36_at (r : Fin 8192) (n : Fin 2816) : val_main_v36 (F := Ideal) x0 x5 (ix3 0 r n) = (A.du r n : EReal) := by
  pointwise [val_main_v36, val_main_v21]
  simp only [v35_at G, G.w2, ← EReal.coe_mul, ← coe_sum]; rfl
theorem v37_at (r : Fin 8192) (n : Fin 2816) : val_main_v37 (F := Ideal) x0 x1 x2 x3 x5 (ix3 0 r n) = (A.db r n : EReal) := by
  pointwise [val_main_v37]
  simp only [v24_0_at G, v36_at G, ← EReal.coe_mul]
  rw [Args.db, mul_comm]
theorem v40_at (r : Fin 8192) (n : Fin 2816) : val_main_v40 (F := Ideal) x0 x1 x2 x3 x4 x5 (ix3 0 r n) = (A.da r n : EReal) := by
  pointwise [val_main_v40, val_main_call1_v0, val_main_call1_v1, val_main_call1_v2, val_main_v38]
  simp only [v23_at G, sg_at G, v24_1_at G, v26_at G, v36_at G, ← EReal.coe_mul, ← EReal.coe_add]
  rw [Args.da]
  congr 1; ring
theorem v42_at (r : Fin 8192) (d : Fin 1024) : val_main_v42 (F := Ideal) x0 x1 x2 x3 x4 x5 (ix3 0 r d) = (A.dh r d : EReal) := by
  pointwise [val_main_v42, val_main_v41, val_main_v39, val_main_v20, val_main_v19]
  simp only [v37_at G, v40_at G, G.w1, G.w3, ← EReal.coe_mul, ← coe_sum, ← EReal.coe_add]
  rw [Args.dh, Finset.sum_add_distrib, add_comm]
theorem v47_at (r : Fin 8192) (d : Fin 1024) : val_main_v47 (F := Ideal) x0 x1 x2 x3 x4 x5 (ix3 0 r d) = ((A.dh r d * A.g d : ℝ) : EReal) := by
  pointwise [val_main_v47, val_main_v46, val_main_v16, val_main_v2]
  rw [v42_at G, G.g, EReal.coe_mul]
theorem v60_at (r : Fin 8192) (d : Fin 1024) : val_main_v60 (F := Ideal) x0 x1 x2 x3 x4 x5 (ix3 0 r d)
    = (((∑ k, A.x r k * (A.dh r k * A.g k)) * (-1 / 2 * (inv (A.x r) / ms (A.x r))) / 1024 : ℝ) : EReal) := by
  pointwise [val_main_v60, val_main_v59, val_main_v58, val_main_v57, val_main_v56, val_main_v55, val_main_v51, val_main_v50, val_main_v49,
    val_main_cst_9, val_main_cst_10, val_main_cst_11]
  rw [reduce_col]
  pointwise
  simp only [v13_at G, G.x, v47_at G, ofBits_lanes, zero_add, ← EReal.coe_mul, ← coe_sum, div_lanes, Fin.sum_univ_one]

/-! ## The results -/

theorem out_x3 (r : Fin 8192) (d : Fin 1024) : val_main_v66 (F := Ideal) x1 x2 x3 x4 x5 (ix2 r d) = (A.x3 r d : EReal) := by
  pointwise [val_main_v66]; exact v32_at G r d
theorem out_h (r : Fin 8192) (d : Fin 1024) : val_main_v68 (F := Ideal) x1 x2 (ix2 r d) = (A.h r d : EReal) := by
  pointwise [val_main_v68, val_main_v67]; exact v18_at G r d
theorem out_dz (r : Fin 8192) (d : Fin 1024) : val_main_v71 (F := Ideal) x0 (ix2 r d) = (A.dz r d : EReal) := by
  pointwise [val_main_v71, val_main_v70]; exact v35_at G r d
theorem out_da (r : Fin 8192) (n : Fin 2816) : val_main_v73 (F := Ideal) x0 x1 x2 x3 x4 x5 (ix2 r n) = (A.da r n : EReal) := by
  pointwise [val_main_v73, val_main_v72]; exact v40_at G r n
theorem out_db (r : Fin 8192) (n : Fin 2816) : val_main_v75 (F := Ideal) x0 x1 x2 x3 x5 (ix2 r n) = (A.db r n : EReal) := by
  pointwise [val_main_v75, val_main_v74]; exact v37_at G r n
theorem out_u (r : Fin 8192) (n : Fin 2816) : val_main_v77 (F := Ideal) x1 x2 x3 x4 (ix2 r n) = (A.u r n : EReal) := by
  pointwise [val_main_v77, val_main_v76]; exact v27_at G r n
theorem out_dg (d : Fin 1024) : val_main_v65 (F := Ideal) x0 x1 x2 x3 x4 x5 (ix2 0 d) = (A.dg d : EReal) := by
  pointwise [val_main_v65, val_main_v48, val_main_v45, val_main_v44, val_main_v43, val_main_cst_7, val_main_cst_8]
  rw [reduce_row]
  pointwise
  simp only [v15_at G, v42_at G, zero_add, ← EReal.coe_mul, ← coe_sum, Fin.sum_univ_one]
  rw [Args.dg]
  congr 1
  exact Finset.sum_congr rfl fun r _ => mul_comm _ _
theorem out_dx (r : Fin 8192) (d : Fin 1024) : val_main_v69 (F := Ideal) x0 x1 x2 x3 x4 x5 (ix2 r d) = (A.dx r d : EReal) := by
  pointwise [val_main_v69, val_main_v64, val_main_v63, val_main_v62, val_main_v61, val_main_v54, val_main_v53, val_main_v52]
  rw [v47_at G, v10_at G, G.x, v60_at G, G.t]
  simp only [← EReal.coe_mul, add_assoc, ← EReal.coe_add]
  rw [← add_assoc (A.dh r d * A.g d * inv (A.x r)), vjp_eq_bwd (A.x r) A.g (A.dh r) d _ rfl]
  rfl

end Cert.FfnRefIdeal.Read

end
-- ==== Proof.FfnFwd.lean ====
/- The feed-forward layer's forward kernel at one grid point: what it leaves in its buffers as a function of its input blocks, of the
   scratch it carries from point to point and of the output it keeps. -/
module

public import proofs.«01_k».proof.Proof.Gen.FfnIdeal.Launch
public import proofs.«01_k».proof.Proof.Gen.FfnIdeal.Skeleton
public import proofs.«01_k».proof.Proof.Gen.FfnIdeal.Points
public import proofs.«01_k».proof.Proof.Gen.FfnIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Pipeline.ReadBack
public import Idealize.ShloMosaic.Lib.Pipeline.ValueKit
public import Idealize.ShloMosaic.Lib.VecWindow
public import Idealize.ShloMosaic.Lib.Ring
public import Idealize.ShloMosaic.Lib.Tactic

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

/-- A buffer filled whole reads as the last fill. -/
theorem read_full [∀ e, Nonempty (Elt F e)] {κ : Kind} {sp : Space} {s : Shape} {e : EltTy} (v : View sig κ sp s e) (f : v.ty.Contents (Elt F))
    {off : Fin s.rank → ℕ} (inb : ∀ a, off a + s.size a ≤ s.size a) (w : (Rect.unit off s.size inb).shape.Idx → Elt F e)
    (L : List (View.Piece (Elt F) s e)) : v.read (Elt F) (v.writes (Elt F) f (⟨Rect.unit off (no_index s.size) inb, w⟩ :: L)) = w :=
  View.read_writes_full v f inb w L

/-! ## The forward kernel -/

/-- The normalised block a point of the forward kernel works on: computed at a row's first column tile, carried after. -/
def hs0 (i : grid0.Coords) (x : Vec F S512x1024 .f32) (g : Vec F S1x1024 .f32) (hs : Vec F S512x1024 .bf16) : Vec F S512x1024 .bf16 :=
  if k0_cond1 i = 1#1 then k0_pay2 x g else hs

/-- The sum over the column tiles so far, started from zero at a row's first one. -/
def acc0 (i : grid0.Coords) (x : Vec F S512x1024 .f32) (g : Vec F S1x1024 .f32) (w1 w3 w2 : Vec F S256x1024 .bf16)
    (hs : Vec F S512x1024 .bf16) (acc : Vec F S512x1024 .f32) : Vec F S512x1024 .f32 :=
  k0_pay8 (hs0 i x g hs) w1 w3 (if k0_cond1 i = 1#1 then k0_pay3 else acc) w2

/-- The normalised block as it is written out, once for each row. -/
def ho0 (i : grid0.Coords) (x : Vec F S512x1024 .f32) (g : Vec F S1x1024 .f32) (ho : Vec F S512x1024 .bf16) : Vec F S512x1024 .bf16 :=
  if k0_cond1 i = 1#1 then k0_pay1 x g else ho

set_option maxHeartbeats 1000000 in
/-- The body of the forward kernel on whole buffers. -/
theorem sound0 (c : Dev nD) (E : Set ℕ) (i : grid0.Coords) (arg2 : Memref sig .tc .vmem S512x1024 .f32) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x1024 .bf16) (harg11 : arg11.IsWhole) (arg12 : Memref sig .tc .vmem S512x1024 .f32) (harg12 : arg12.IsWhole)
    (x xo acc : Vec F S512x1024 .f32) (g : Vec F S1x1024 .f32) (w1 w3 w2 : Vec F S256x1024 .bf16) (ho hs : Vec F S512x1024 .bf16) (K : PUnit → sProp 𝕄) :
    iprop(owns (c : Thread nD τ) arg2 fullShare x
        ∗ owns (c : Thread nD τ) arg3 fullShare g
        ∗ owns (c : Thread nD τ) arg4 fullShare w1
        ∗ owns (c : Thread nD τ) arg5 fullShare w3
        ∗ owns (c : Thread nD τ) arg6 fullShare w2
        ∗ owns (c : Thread nD τ) arg7 fullShare xo
        ∗ owns (c : Thread nD τ) arg8 fullShare ho
        ∗ (∃ d, owns (c : Thread nD τ) arg9 fullShare d)
        ∗ (∃ d, owns (c : Thread nD τ) arg10 fullShare d)
        ∗ owns (c : Thread nD τ) arg11 fullShare hs
        ∗ owns (c : Thread nD τ) arg12 fullShare acc
        ∗ (iprop(owns (c : Thread nD τ) arg2 fullShare x
          ∗ owns (c : Thread nD τ) arg3 fullShare g
          ∗ owns (c : Thread nD τ) arg4 fullShare w1
          ∗ owns (c : Thread nD τ) arg5 fullShare w3
          ∗ owns (c : Thread nD τ) arg6 fullShare w2
          ∗ owns (c : Thread nD τ) arg7 fullShare (if k0_cond2 i = 1#1 then k0_pay9 x (acc0 i x g w1 w3 w2 hs acc) else xo)
          ∗ owns (c : Thread nD τ) arg8 fullShare (ho0 i x g ho)
          ∗ owns (c : Thread nD τ) arg9 fullShare (k0_pay6 (hs0 i x g hs) w1)
          ∗ owns (c : Thread nD τ) arg10 fullShare (k0_pay7 (hs0 i x g hs) w3)
          ∗ owns (c : Thread nD τ) arg11 fullShare (hs0 i x g hs)
          ∗ owns (c : Thread nD τ) arg12 fullShare (acc0 i x g w1 w3 w2 hs acc)) -∗ K ⟨⟩))
      ⊢ wp frame (wpE (defs₀ (F := F)) Variants.none c none) E (cc0_ffn2_fwd i arg2 harg2 arg3 harg3 arg4 harg4 arg5 harg5 arg6 harg6 arg7 harg7 arg8 harg8 arg9 harg9 arg10 harg10 arg11 harg11 arg12 harg12) K := by
  unfold acc0 hs0 ho0
  by_cases h1 : k0_cond1 i = 1#1 <;> by_cases h2 : k0_cond2 i = 1#1 <;>
  · simp only [h1, h2, ↓reduceIte]
    simp only [cc0_ffn2_fwd_eq_skeleton]; unfold cc0_ffn2_fwd_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg11.eq_unread hf11
    obtain rfl := harg12.eq_unread hf12
    sl_exec (disch := first | sl_exact h1 | sl_exact h2)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; first | with_reducible exact harg7.read_unread _ | frame_out [read_full]
    isplitl [H8]
    · iexists _; isplitr; swap; · iexact H8
      ipureintro; first | with_reducible exact harg8.read_unread _ | frame_out [read_full]
    isplitl [H9]
    · iexists _; isplitr; swap; · iexact H9
      ipureintro; first | with_reducible exact harg9.read_unread _ | frame_out [read_full]
    isplitl [H10]
    · iexists _; isplitr; swap; · iexact H10
      ipureintro; first | with_reducible exact harg10.read_unread _ | frame_out [read_full]
    isplitl [H11]
    · iexists _; isplitr; swap; · iexact H11
      ipureintro; first | with_reducible exact harg11.read_unread _ | frame_out [read_full]
    iexists _; isplitr; swap; · iexact H12
    ipureintro; first | with_reducible exact harg12.read_unread _ | frame_out [read_full]

end Cert.Ffn
-- ==== Proof.FfnPoint0.lean ====
/- The proof data of the feed-forward layer's forward pipeline, over any entry contents. -/
module

public import proofs.«01_k».proof.Proof.Gen.FfnIdeal.Launch
public import proofs.«01_k».proof.Proof.Gen.FfnIdeal.Skeleton
public import proofs.«01_k».proof.Proof.Gen.FfnIdeal.Points
public import proofs.«01_k».proof.Proof.Gen.FfnIdeal.Regions
public import proofs.«01_k».proof.Proof.FfnFwd
public import Idealize.ShloMosaic.Lib.Pipeline.TableIdle
public import Idealize.ShloMosaic.Lib.Pipeline.FrameBody
public import Idealize.ShloMosaic.Lib.Pipeline.RegionsLoop
public import Idealize.ShloMosaic.Lib.Pipeline.FrameSuffix
public import Idealize.ShloMosaic.Lib.Pipeline.ReadBack
public import Idealize.ShloMosaic.Lib.Pipeline.ValueKit
public import Idealize.ShloMosaic.Lib.VecWindow
public import Idealize.ShloMosaic.Lib.Ring
public import Idealize.ShloMosaic.Lib.Tactic

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

/-! ## The pipeline of the forward kernel over any entry contents -/

theorem c0_1 : ∀ t : Fin cfg0.N, k0_cond1 (grid0.coords t) = 1#1 ↔ t.val % 11 = 0 := by decide +kernel
theorem c0_2 : ∀ t : Fin cfg0.N, k0_cond2 (grid0.coords t) = 1#1 ↔ t.val % 11 = 10 := by decide +kernel
theorem idle0_last : ∀ t : Fin cfg0.N, cfg0.idle 5 (grid0.coords t) = !decide (t.val % 11 = 10) := by decide +kernel
theorem idle0_kept : ∀ t : Fin cfg0.N, cfg0.idle 6 (grid0.coords t) = !decide (t.val % 11 = 0) := by decide +kernel
/-- The kept output's buffer holds nothing of the row's before the row's first point. -/
theorem fresh0_kept (t : Fin cfg0.N) : cfg0.fresh 6 t.val = decide (t.val % 11 = 0) :=
  Pipeline.Cfg.fresh_tab cfg0 6 (fun n => decide (n % 11 = 0)) rfl (by decide +kernel) t.val (Nat.le_of_lt t.isLt)

section
variable (V : (c : Dev nD) → (b : Ref sig .tc) → Buf (Elt F) ((c : Thread nD τ).loc b))

/-- Window `w`'s block at grid point `t`, cut from its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two scratch buffers and the kept output after point `t`, from what was there before it. -/
def step0 (c : Dev nD) (t : Fin cfg0.N) (s : Vec F S512x1024 .bf16 × Vec F S512x1024 .f32 × Vec F S512x1024 .bf16) : Vec F S512x1024 .bf16 × Vec F S512x1024 .f32 × Vec F S512x1024 .bf16 :=
  (hs0 (grid0.coords t) (blk0 V c 0 t) (blk0 V c 1 t) s.1,
   acc0 (grid0.coords t) (blk0 V c 0 t) (blk0 V c 1 t) (blk0 V c 2 t) (blk0 V c 3 t) (blk0 V c 4 t) s.1 s.2.1,
   ho0 (grid0.coords t) (blk0 V c 0 t) (blk0 V c 1 t) s.2.2)

/-- The two scratch buffers and the kept output after point `n`. -/
def st0 (c : Dev nD) : (n : ℕ) → n < cfg0.N → Vec F S512x1024 .bf16 × Vec F S512x1024 .f32 × Vec F S512x1024 .bf16
  | 0, h => step0 V c ⟨0, h⟩ (k0_pay2 (blk0 V c 0 ⟨0, h⟩) (blk0 V c 1 ⟨0, h⟩), k0_pay3, k0_pay1 (blk0 V c 0 ⟨0, h⟩) (blk0 V c 1 ⟨0, h⟩))
  | n + 1, h => step0 V c ⟨n + 1, h⟩ (st0 c n (Nat.lt_of_succ_lt h))

theorem pred_lt0 (t : Fin cfg0.N) : t.val - 1 < cfg0.N := Nat.lt_of_le_of_lt (Nat.sub_le _ _) t.isLt

/-- A row's first point starts afresh. -/
theorem step0_reset (c : Dev nD) (t : Fin cfg0.N) (h : t.val % 11 = 0) (s s' : Vec F S512x1024 .bf16 × Vec F S512x1024 .f32 × Vec F S512x1024 .bf16) : step0 V c t s = step0 V c t s' := by
  unfold step0 acc0 hs0 ho0
  simp only [(c0_1 t).mpr h, ↓reduceIte]

theorem st0_at (c : Dev nD) (t : Fin cfg0.N) (s : Vec F S512x1024 .bf16 × Vec F S512x1024 .f32 × Vec F S512x1024 .bf16)
    (h : t.val % 11 ≠ 0 → s = st0 V c (t.val - 1) (pred_lt0 t)) : step0 V c t s = st0 V c t.val t.isLt := by
  obtain ⟨n, hn⟩ := t
  cases n with
  | zero => exact step0_reset V c ⟨0, hn⟩ rfl _ _
  | succ n =>
    by_cases h0 : (n + 1) % 11 = 0
    · exact step0_reset V c ⟨n + 1, hn⟩ h0 _ _
    · rw [h h0]; rfl

/-- The invariant between points: before the first one the scratch at anything, later at what the point before left. -/
def between0 (c : Dev nD) : (n : ℕ) → n ≤ cfg0.N → sProp 𝕄
  | 0, _ => Pipeline.ΦA spec0 c
  | n + 1, h => iprop(owns (c : Thread nD τ) (Memref.whole cc0_scratch0) fullShare (st0 V c n h).1
      ∗ owns (c : Thread nD τ) (Memref.whole cc0_scratch1) fullShare (st0 V c n h).2.1
      ∗ Pipeline.scopedRestBut (Ix := Unit) (Name := ℕ) (U := UR sig nD τ) (Lvl := ℕ) (Val := Elt F) spec0 c [cc0_scratch0, cc0_scratch1]
      ∗ ∃ r, prngReg c r)

/-- The pipeline's proof data: the arrays as found, every input block left in place, the outputs and the scratch as the body leaves them. -/
def data0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => k0_pay9 (blk0 V c 0 t) (st0 V c t.val t.isLt).2.1
    | ⟨6, _⟩ => (st0 V c t.val t.isLt).2.2
    | ⟨7, _⟩ => k0_pay6 (st0 V c t.val t.isLt).1 (blk0 V c 2 t)
    | ⟨8, _⟩ => k0_pay7 (st0 V c t.val t.isLt).1 (blk0 V c 3 t)
  Φ t := between0 V c t.val (Nat.le_of_lt_succ t.isLt)
  q _ := fullShare
  owed _ := 0

theorem data0_A (c : Dev nD) (w : Fin cfg0.W) : (data0 V c).A w = V c (Pipeline.arrRef spec0 w) := by dsimp only [data0]

theorem data0_after0 (c : Dev nD) (t : Fin cfg0.N) : (data0 V c).after 0 t = blk0 V c 0 t := by dsimp only [data0]
theorem data0_after1 (c : Dev nD) (t : Fin cfg0.N) : (data0 V c).after 1 t = blk0 V c 1 t := by dsimp only [data0]
theorem data0_after2 (c : Dev nD) (t : Fin cfg0.N) : (data0 V c).after 2 t = blk0 V c 2 t := by dsimp only [data0]
theorem data0_after3 (c : Dev nD) (t : Fin cfg0.N) : (data0 V c).after 3 t = blk0 V c 3 t := by dsimp only [data0]
theorem data0_after4 (c : Dev nD) (t : Fin cfg0.N) : (data0 V c).after 4 t = blk0 V c 4 t := by dsimp only [data0]
theorem data0_after5 (c : Dev nD) (t : Fin cfg0.N) : (data0 V c).after 5 t = k0_pay9 (blk0 V c 0 t) (st0 V c t.val t.isLt).2.1 := by dsimp only [data0]
theorem data0_after6 (c : Dev nD) (t : Fin cfg0.N) : (data0 V c).after 6 t = (st0 V c t.val t.isLt).2.2 := by dsimp only [data0]
theorem data0_after7 (c : Dev nD) (t : Fin cfg0.N) : (data0 V c).after 7 t = k0_pay6 (st0 V c t.val t.isLt).1 (blk0 V c 2 t) := by dsimp only [data0]
theorem data0_after8 (c : Dev nD) (t : Fin cfg0.N) : (data0 V c).after 8 t = k0_pay7 (st0 V c t.val t.isLt).1 (blk0 V c 3 t) := by dsimp only [data0]
theorem data0_before0 (c : Dev nD) (t : Fin cfg0.N) (d) : (data0 V c).before 0 t d = blk0 V c 0 t :=
  ((data0 V c).before_in_eq_fetched 0 rfl (fun _ => rfl) (fun _ _ _ => rfl)
    (fun t => by rw [data0_after0]; unfold Dat.blockOf blk0; rw [data0_A]; try rfl) t d).trans
    (by unfold Dat.fetched Dat.blockOf blk0; rw [data0_A]; try rfl)
theorem data0_before1 (c : Dev nD) (t : Fin cfg0.N) (d) : (data0 V c).before 1 t d = blk0 V c 1 t :=
  ((data0 V c).before_in_eq_fetched 1 rfl (fun _ => rfl) (fun _ _ _ => rfl)
    (fun t => by rw [data0_after1]; unfold Dat.blockOf blk0; rw [data0_A]; try rfl) t d).trans
    (by unfold Dat.fetched Dat.blockOf blk0; rw [data0_A]; try rfl)
theorem data0_before2 (c : Dev nD) (t : Fin cfg0.N) (d) : (data0 V c).before 2 t d = blk0 V c 2 t :=
  ((data0 V c).before_in_eq_fetched 2 rfl (fun _ => rfl) (fun _ _ _ => rfl)
    (fun t => by rw [data0_after2]; unfold Dat.blockOf blk0; rw [data0_A]; try rfl) t d).trans
    (by unfold Dat.fetched Dat.blockOf blk0; rw [data0_A]; try rfl)
theorem data0_before3 (c : Dev nD) (t : Fin cfg0.N) (d) : (data0 V c).before 3 t d = blk0 V c 3 t :=
  ((data0 V c).before_in_eq_fetched 3 rfl (fun _ => rfl) (fun _ _ _ => rfl)
    (fun t => by rw [data0_after3]; unfold Dat.blockOf blk0; rw [data0_A]; try rfl) t d).trans
    (by unfold Dat.fetched Dat.blockOf blk0; rw [data0_A]; try rfl)
theorem data0_before4 (c : Dev nD) (t : Fin cfg0.N) (d) : (data0 V c).before 4 t d = blk0 V c 4 t :=
  ((data0 V c).before_in_eq_fetched 4 rfl (fun _ => rfl) (fun _ _ _ => rfl)
    (fun t => by rw [data0_after4]; unfold Dat.blockOf blk0; rw [data0_A]; try rfl) t d).trans
    (by unfold Dat.fetched Dat.blockOf blk0; rw [data0_A]; try rfl)

/-- At a point that is not a row's first the kept output holds what the point before left. -/
theorem data0_before6 (c : Dev nD) (t : Fin cfg0.N) (h : t.val % 11 ≠ 0) (d) :
    (data0 V c).before 6 t d = (st0 V c (t.val - 1) (pred_lt0 t)).2.2 := by
  rw [Dat.before_out_traj _ 6 rfl (fun _ _ => rfl) (fun u _ hi _ => ?_) t.val t rfl d, fresh0_kept t, if_neg (by simpa using h), data0_after6]
  rw [idle0_kept u] at hi
  rw [data0_after6, data0_after6, ← st0_at V c u _ fun _ => rfl]
  exact if_neg fun e => absurd ((c0_1 u).mp e) (by simpa using hi)

theorem between0_castSucc (c : Dev nD) (t : Fin cfg0.N) : (data0 V c).Φ t.castSucc = between0 V c t.val (Nat.le_of_lt t.isLt) := by
  dsimp only [data0]; exact Pipeline.Dat.Φ_castSucc (between0 V c) t

theorem rest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
          ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] (by decide) (by decide)

/-- Opened at any point: the scratch at some contents, which past a point are what that point left. -/
theorem between0_open (c : Dev nD) : (n : ℕ) → (h : n ≤ cfg0.N) → between0 V c n h ⊢
    iprop(∃ (s0 : Vec F S512x1024 .bf16) (s1 : Vec F S512x1024 .f32),
      ⌜∀ h0 : n ≠ 0, s0 = (st0 V c (n - 1) (by omega)).1 ∧ s1 = (st0 V c (n - 1) (by omega)).2.1⌝
      ∗ owns (c : Thread nD τ) (Memref.whole cc0_scratch0) fullShare s0
      ∗ owns (c : Thread nD τ) (Memref.whole cc0_scratch1) fullShare s1
      ∗ Pipeline.scopedRestBut (Ix := Unit) (Name := ℕ) (U := UR sig nD τ) (Lvl := ℕ) (Val := Elt F) spec0 c [cc0_scratch0, cc0_scratch1]
      ∗ ∃ r, prngReg c r)
  | 0, _ => by
    unfold between0 Pipeline.ΦA; rw [rest0_split]; simp only [owns_whole]
    iintro ⟨⟨⟨⟨%s0, H0⟩, ⟨%s1, H1⟩⟩, Hr⟩, Hg⟩
    iexists s0; iexists s1
    isplitr; · ipureintro; exact fun h => absurd rfl h
    isplitl [H0]; · iexact H0
    isplitl [H1]; · iexact H1
    isplitl [Hr]; · iexact Hr
    iexact Hg
  | n + 1, _ => by
    unfold between0
    iintro ⟨H0, H1, Hr, Hg⟩
    iexists _; iexists _
    isplitr; swap
    · isplitl [H0]; · iexact H0
      isplitl [H1]; · iexact H1
      isplitl [Hr]; · iexact Hr
      iexact Hg
    ipureintro; exact fun _ => ⟨rfl, rfl⟩

/-- Opened and closed again the scratch is at anything. -/
theorem between0_out (c : Dev nD) (n : ℕ) (h : n ≤ cfg0.N) : between0 V c n h ⊢ Pipeline.ΦA spec0 c := by
  refine (between0_open V c n h).trans ?_
  unfold Pipeline.ΦA; rw [rest0_split]; simp only [owns_whole]
  iintro ⟨%s0, %s1, -, H0, H1, Hr, Hg⟩
  isplitr [Hg]; swap; · iexact Hg
  isplitr [Hr]; swap; · iexact Hr
  isplitl [H0]
  · iexists s0; iexact H0
  iexists s1; iexact H1

/-- The last column tile's output: written there, handed on untouched elsewhere. -/
theorem leaves0_last (c : Dev nD) (t : Fin cfg0.N) (d) :
    owns (c : Thread nD τ) (st0_5 t) fullShare (if k0_cond2 (grid0.coords t) = 1#1 then (data0 V c).after 5 t else (data0 V c).before 5 t d)
      ⊢ (data0 V c).leavesExact 5 t := by
  by_cases h : t.val % 11 = 10
  · rw [if_pos ((c0_2 t).mpr h), show (data0 V c).leavesExact 5 t = owns (c : Thread nD τ) (st0_5 t) fullShare ((data0 V c).after 5 t) from by
      unfold Dat.leavesExact; rw [show cfg0.idle 5 (cfg0.grid.coords t) = false from by rw [idle0_last t]; simpa using h]]
  · rw [if_neg fun e => h ((c0_2 t).mp e), Dat.leavesExact_idle (data0 V c) 5 t (by rw [idle0_last t]; simpa using h)
      (Bool.eq_false_iff.mpr fun e => h ((flush0_5 t).mp e))]
    iintro H; iexists d; iexact H

/-- The kept output: written at a row's first point, kept at the others, written back after the last. -/
theorem leaves0_kept (c : Dev nD) (t : Fin cfg0.N) (d) (X : Vec F S512x1024 .bf16) (hX : X = (data0 V c).after 6 t)
    (hk : t.val % 11 ≠ 0 → X = (data0 V c).before 6 t d) :
    owns (c : Thread nD τ) (st0_6 t) fullShare X ⊢ (data0 V c).leavesExact 6 t := by
  by_cases h : t.val % 11 = 0
  · rw [hX, show (data0 V c).leavesExact 6 t = owns (c : Thread nD τ) (st0_6 t) fullShare ((data0 V c).after 6 t) from by
      unfold Dat.leavesExact; rw [show cfg0.idle 6 (cfg0.grid.coords t) = false from by rw [idle0_kept t]; simpa using h]]
  have hi : cfg0.idle 6 (cfg0.grid.coords t) = true := by rw [idle0_kept t]; simpa using h
  by_cases hf : (cfg0.win 6).flush t = true
  · rw [hX, show (data0 V c).leavesExact 6 t = owns (c : Thread nD τ) (st0_6 t) fullShare ((data0 V c).after 6 t) from by
      unfold Dat.leavesExact; rw [hi, hf]]
  · rw [hk h, Dat.leavesExact_idle (data0 V c) 6 t hi (Bool.eq_false_iff.mpr hf)]
    iintro H; iexists d; iexact H

/-- The body at any grid point. -/
theorem body0 (c : Dev nD) (t : Fin cfg0.N) :
    iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d))
    ∗ (∃ d, owns (c : Thread nD τ) (st0_4 t) fullShare ((data0 V c).before 4 t d))
    ∗ (∃ d, owns (c : Thread nD τ) (st0_5 t) fullShare ((data0 V c).before 5 t d))
    ∗ (∃ d, owns (c : Thread nD τ) (st0_6 t) fullShare ((data0 V c).before 6 t d))
    ∗ (∃ d, owns (c : Thread nD τ) (st0_7 t) fullShare ((data0 V c).before 7 t d))
    ∗ (∃ d, owns (c : Thread nD τ) (st0_8 t) fullShare ((data0 V c).before 8 t d)))
    ⊢ wp frame (wpE (defs₀ (F := F)) Variants.none c none) Set.univ (bodyAt0 t) (fun _ =>
      iprop((data0 V c).Φ t.succ ∗ (data0 V c).owesAt () t.succ
    ∗ (data0 V c).leavesExact 0 t
    ∗ (data0 V c).leavesExact 1 t
    ∗ (data0 V c).leavesExact 2 t
    ∗ (data0 V c).leavesExact 3 t
    ∗ (data0 V c).leavesExact 4 t
    ∗ (data0 V c).leavesExact 5 t
    ∗ (data0 V c).leavesExact 6 t
    ∗ (data0 V c).leavesExact 7 t
    ∗ (data0 V c).leavesExact 8 t)) := by
  unfold bodyAt0
  simp only [data0_before0, data0_before1, data0_before2, data0_before3, data0_before4]
  rw [show (data0 V c).owesAt () t.succ = (data0 V c).owesAt () t.castSucc from rfl, between0_castSucc]
  rw [show (data0 V c).leavesExact 0 t = owns (c : Thread nD τ) (st0_0 t) fullShare ((data0 V c).after 0 t) from rfl, data0_after0]
  rw [show (data0 V c).leavesExact 1 t = owns (c : Thread nD τ) (st0_1 t) fullShare ((data0 V c).after 1 t) from rfl, data0_after1]
  rw [show (data0 V c).leavesExact 2 t = owns (c : Thread nD τ) (st0_2 t) fullShare ((data0 V c).after 2 t) from rfl, data0_after2]
  rw [show (data0 V c).leavesExact 3 t = owns (c : Thread nD τ) (st0_3 t) fullShare ((data0 V c).after 3 t) from rfl, data0_after3]
  rw [show (data0 V c).leavesExact 4 t = owns (c : Thread nD τ) (st0_4 t) fullShare ((data0 V c).after 4 t) from rfl, data0_after4]
  rw [show (data0 V c).leavesExact 7 t = owns (c : Thread nD τ) (st0_7 t) fullShare ((data0 V c).after 7 t) from rfl, data0_after7]
  rw [show (data0 V c).leavesExact 8 t = owns (c : Thread nD τ) (st0_8 t) fullShare ((data0 V c).after 8 t) from rfl, data0_after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave H := (between0_open V c t.val (Nat.le_of_lt t.isLt)) $$ HΦ
  icases H with ⟨%s0, %s1, %hs, HS0, HS1, Hr, Hg⟩
  have e : step0 V c t (s0, s1, (data0 V c).before 6 t d6) = st0 V c t.val t.isLt :=
    st0_at V c t _ fun h0 => by
      obtain ⟨e0, e1⟩ := hs (by omega)
      rw [e0, e1, data0_before6 V c t h0]
  have e0 := congrArg Prod.fst e
  have e1 := congrArg (fun z => z.2.1) e
  have e2 := congrArg (fun z => z.2.2) e
  dsimp only [step0] at e0 e1 e2
  iapply (sound0 c Set.univ (grid0.coords t) _ _ _ _ _ _ _ _ _ _ _ _ _ _ _ _ _ _ _ _ _ _ (blk0 V c 0 t) ((data0 V c).before 5 t d5) s1 (blk0 V c 1 t) (blk0 V c 2 t) (blk0 V c 3 t) (blk0 V c 4 t) ((data0 V c).before 6 t d6) s0 _)

  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  rw [e0, e1]
  isplitl [HS0 HS1 Hr Hg]
  · rw [show (data0 V c).Φ t.succ = between0 V c (t.val + 1) t.isLt from rfl]; unfold between0
    isplitl [HS0]; · iexact HS0
    isplitl [HS1]; · iexact HS1
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (leaves0_last V c t d5); rw [data0_after5]; iexact H5
  isplitl [H6]; · iapply (leaves0_kept V c t d6 _ (e2.trans (data0_after6 V c t).symm) fun h => if_neg fun q => h ((c0_1 t).mp q)); iexact H6
  isplitl [H7]; · iexact H7
  iexact H8

theorem row0 (t : Fin cfg0.N) : defs₀ (F := F) .tc cfg0.body (cfg0.bodyArgs t (cfg0.slots t)) = bodyAt0 t := by
  unfold defs₀; rw [Defs.onTc_tc]

theorem obligation0 (c : Dev nD) : BodyObligation (data0 (F := F) V c) (defs₀ (F := F)) Variants.none () Set.univ := fun t => by
  rw [bigSep_W0, bigSep_W0, row0]
  exact triple_restated (body0 V c t) rfl .rfl fun _ => .rfl

end

end Cert.Ffn
-- ==== Proof.FfnBwd.lean ====
/- The feed-forward layer's backward kernel at one grid point: what it leaves in its buffers as a function of its input blocks, of the
   scratch it carries from point to point and of the outputs it keeps. -/
module

public import proofs.«01_k».proof.Proof.Gen.FfnIdeal.Launch
public import proofs.«01_k».proof.Proof.Gen.FfnIdeal.Skeleton
public import proofs.«01_k».proof.Proof.Gen.FfnIdeal.Points
public import proofs.«01_k».proof.Proof.Gen.FfnIdeal.Regions
public import proofs.«01_k».proof.Proof.FfnFwd
public import Idealize.ShloMosaic.Lib.Pipeline.FrameBody
public import Idealize.ShloMosaic.Lib.Pipeline.RegionsLoop
public import Idealize.ShloMosaic.Lib.Pipeline.FrameSuffix
public import Idealize.ShloMosaic.Lib.Pipeline.ReadBack
public import Idealize.ShloMosaic.Lib.Pipeline.ValueKit
public import Idealize.ShloMosaic.Lib.VecWindow
public import Idealize.ShloMosaic.Lib.Ring
public import Idealize.ShloMosaic.Lib.Tactic

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

/-! ## The backward kernel -/

/-- The scaled cotangent block a point of the backward kernel works on: computed at a row's first column tile, carried after. -/
def dzs1 (i : grid1.Coords) (dxo : Vec F S512x1024 .f32) (dzs : Vec F S512x1024 .bf16) : Vec F S512x1024 .bf16 :=
  if k1_cond1 i = 1#1 then k1_pay9 dxo else dzs

/-- The scaled cotangent block as it is written out, once for each row. -/
def dzo1 (i : grid1.Coords) (dxo : Vec F S512x1024 .f32) (dzo : Vec F S512x1024 .bf16) : Vec F S512x1024 .bf16 :=
  if k1_cond1 i = 1#1 then k1_pay8 dxo else dzo

/-- The gradient in the normalised block summed over the column tiles so far, started from zero at a row's first one. -/
def acc1 (i : grid1.Coords) (dxo : Vec F S512x1024 .f32) (a b : Vec F S512x256 .bf16) (w1 w3 w2 : Vec F S256x1024 .bf16)
    (dzs : Vec F S512x1024 .bf16) (acc : Vec F S512x1024 .f32) : Vec F S512x1024 .f32 :=
  k1_pay1 (k1_pay16 (dzs1 i dxo dzs) w2 a) (k1_pay17 (dzs1 i dxo dzs) w2 a b) (if k1_cond1 i = 1#1 then k1_pay10 else acc) w1 w3

/-- The gradient in the norm's weight, added to at a row's last column tile, whose accumulator is `acc`; started at the first row. -/
def dgs1 (i : grid1.Coords) (x acc : Vec F S512x1024 .f32) (dg : Vec F S1x1024 .f32) : Vec F S1x1024 .f32 :=
  if k1_cond2 i = 1#1 then (if k1_cond3 i = 1#1 then k1_pay6 x acc else k1_pay2 (k1_pay6 x acc) dg) else dg

/-- At a row's last column tile the gradient in the norm's weight is started or added to, never both. -/
theorem cond4 (i : grid1.Coords) : k1_cond4 i = 1#1 ↔ ¬k1_cond3 i = 1#1 := by revert i; decide +kernel

set_option maxHeartbeats 8000000 in
/-- The body of the backward kernel on whole buffers. -/
theorem sound1 (c : Dev nD) (E : Set ℕ) (i : grid1.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x256 .bf16) (harg5 : arg5.IsWhole) (arg6 : Memref sig .tc .vmem S512x256 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x1024 .bf16) (harg16 : arg16.IsWhole) (arg17 : Memref sig .tc .vmem S512x1024 .f32) (harg17 : arg17.IsWhole)
    (dxo x dx acc : Vec F S512x1024 .f32) (g dg : Vec F S1x1024 .f32) (a b : Vec F S512x256 .bf16) (w1 w3 w2 : Vec F S256x1024 .bf16) (dzo dzs : Vec F S512x1024 .bf16) (K : PUnit → sProp 𝕄) :
    iprop(owns (c : Thread nD τ) arg2 fullShare dxo
        ∗ owns (c : Thread nD τ) arg3 fullShare x
        ∗ owns (c : Thread nD τ) arg4 fullShare g
        ∗ owns (c : Thread nD τ) arg5 fullShare a
        ∗ owns (c : Thread nD τ) arg6 fullShare b
        ∗ owns (c : Thread nD τ) arg7 fullShare w1
        ∗ owns (c : Thread nD τ) arg8 fullShare w3
        ∗ owns (c : Thread nD τ) arg9 fullShare w2
        ∗ owns (c : Thread nD τ) arg10 fullShare dx
        ∗ owns (c : Thread nD τ) arg11 fullShare dg
        ∗ owns (c : Thread nD τ) arg12 fullShare dzo
        ∗ (∃ d, owns (c : Thread nD τ) arg13 fullShare d)
        ∗ (∃ d, owns (c : Thread nD τ) arg14 fullShare d)
        ∗ (∃ d, owns (c : Thread nD τ) arg15 fullShare d)
        ∗ owns (c : Thread nD τ) arg16 fullShare dzs
        ∗ owns (c : Thread nD τ) arg17 fullShare acc
        ∗ (iprop(owns (c : Thread nD τ) arg2 fullShare dxo
          ∗ owns (c : Thread nD τ) arg3 fullShare x
          ∗ owns (c : Thread nD τ) arg4 fullShare g
          ∗ owns (c : Thread nD τ) arg5 fullShare a
          ∗ owns (c : Thread nD τ) arg6 fullShare b
          ∗ owns (c : Thread nD τ) arg7 fullShare w1
          ∗ owns (c : Thread nD τ) arg8 fullShare w3
          ∗ owns (c : Thread nD τ) arg9 fullShare w2
          ∗ owns (c : Thread nD τ) arg10 fullShare (if k1_cond2 i = 1#1 then k1_pay7 x g (acc1 i dxo a b w1 w3 w2 dzs acc) dxo else dx)
          ∗ owns (c : Thread nD τ) arg11 fullShare (dgs1 i x (acc1 i dxo a b w1 w3 w2 dzs acc) dg)
          ∗ owns (c : Thread nD τ) arg12 fullShare (dzo1 i dxo dzo)
          ∗ owns (c : Thread nD τ) arg13 fullShare (k1_pay17 (dzs1 i dxo dzs) w2 a b)
          ∗ owns (c : Thread nD τ) arg14 fullShare (k1_pay16 (dzs1 i dxo dzs) w2 a)
          ∗ owns (c : Thread nD τ) arg15 fullShare (k1_pay18 a b)
          ∗ owns (c : Thread nD τ) arg16 fullShare (dzs1 i dxo dzs)
          ∗ owns (c : Thread nD τ) arg17 fullShare (acc1 i dxo a b w1 w3 w2 dzs acc)) -∗ K ⟨⟩))
      ⊢ wp frame (wpE (defs₀ (F := F)) Variants.none c none) E (cc1_ffn2_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold acc1 dzs1 dzo1 dgs1
  by_cases h1 : k1_cond1 i = 1#1 <;> by_cases h2 : k1_cond2 i = 1#1 <;> by_cases h3 : k1_cond3 i = 1#1 <;>
  · have h4 := cond4 i
    simp only [h3, not_true_eq_false, not_false_eq_true, iff_false, iff_true] at h4
    simp only [h1, h2, h3, ↓reduceIte]
    simp only [cc1_ffn2_bwd_eq_skeleton]; unfold cc1_ffn2_bwd_skel
    simp only [k1_part2_eq_skeleton, k1_part1_eq_skeleton]; unfold k1_part2_skel k1_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg16.eq_unread hf16
    obtain rfl := harg17.eq_unread hf17
    sl_exec (disch := first | sl_exact h1 | sl_exact h2 | sl_exact h3 | sl_exact h4)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; first | with_reducible exact harg10.read_unread _ | frame_out [read_full]
    isplitl [H11]
    · iexists _; isplitr; swap; · iexact H11
      ipureintro; first | with_reducible exact harg11.read_unread _ | frame_out [read_full]
    isplitl [H12]
    · iexists _; isplitr; swap; · iexact H12
      ipureintro; first | with_reducible exact harg12.read_unread _ | frame_out [read_full]
    isplitl [H13]
    · iexists _; isplitr; swap; · iexact H13
      ipureintro; first | with_reducible exact harg13.read_unread _ | frame_out [read_full]
    isplitl [H14]
    · iexists _; isplitr; swap; · iexact H14
      ipureintro; first | with_reducible exact harg14.read_unread _ | frame_out [read_full]
    isplitl [H15]
    · iexists _; isplitr; swap; · iexact H15
      ipureintro; first | with_reducible exact harg15.read_unread _ | frame_out [read_full]
    isplitl [H16]
    · iexists _; isplitr; swap; · iexact H16
      ipureintro; first | with_reducible exact harg16.read_unread _ | frame_out [read_full]
    iexists _; isplitr; swap; · iexact H17
    ipureintro; first | with_reducible exact harg17.read_unread _ | frame_out [read_full]

end Cert.Ffn
-- ==== Proof.FfnPoint1.lean ====
/- The proof data of the feed-forward layer's backward pipeline, over any entry contents. -/
module

public import proofs.«01_k».proof.Proof.Gen.FfnIdeal.Launch
public import proofs.«01_k».proof.Proof.Gen.FfnIdeal.Skeleton
public import proofs.«01_k».proof.Proof.Gen.FfnIdeal.Points
public import proofs.«01_k».proof.Proof.Gen.FfnIdeal.Regions
public import proofs.«01_k».proof.Proof.FfnBwd
public import Idealize.ShloMosaic.Lib.Pipeline.TableIdle
public import Idealize.ShloMosaic.Lib.Pipeline.FrameBody
public import Idealize.ShloMosaic.Lib.Pipeline.RegionsLoop
public import Idealize.ShloMosaic.Lib.Pipeline.FrameSuffix
public import Idealize.ShloMosaic.Lib.Pipeline.ReadBack
public import Idealize.ShloMosaic.Lib.Pipeline.ValueKit
public import Idealize.ShloMosaic.Lib.VecWindow
public import Idealize.ShloMosaic.Lib.Ring
public import Idealize.ShloMosaic.Lib.Tactic

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

/-! ## The pipeline of the backward kernel over any entry contents -/

theorem c1_1 : ∀ t : Fin cfg1.N, k1_cond1 (grid1.coords t) = 1#1 ↔ t.val % 11 = 0 := by decide +kernel
theorem c1_2 : ∀ t : Fin cfg1.N, k1_cond2 (grid1.coords t) = 1#1 ↔ t.val % 11 = 10 := by decide +kernel
theorem idle1_last : ∀ t : Fin cfg1.N, cfg1.idle 8 (grid1.coords t) = !decide (t.val % 11 = 10) := by decide +kernel
theorem idle1_kept : ∀ t : Fin cfg1.N, cfg1.idle 10 (grid1.coords t) = !decide (t.val % 11 = 0) := by decide +kernel
/-- The kept output's buffer holds nothing of the row's before the row's first point. -/
theorem fresh1_kept (t : Fin cfg1.N) : cfg1.fresh 10 t.val = decide (t.val % 11 = 0) :=
  Pipeline.Cfg.fresh_tab cfg1 10 (fun n => decide (n % 11 = 0)) rfl (by decide +kernel) t.val (Nat.le_of_lt t.isLt)

theorem c1_3 : ∀ t : Fin cfg1.N, k1_cond3 (grid1.coords t) = 1#1 ↔ t.val < 11 := by decide +kernel
theorem idle1_dg : ∀ t : Fin cfg1.N, cfg1.idle 9 (grid1.coords t) = !decide (t.val % 11 = 10) := by decide +kernel
/-- The buffer of the gradient in the norm's weight holds nothing before the first row's last point has run. -/
theorem fresh1_dg (t : Fin cfg1.N) : cfg1.fresh 9 t.val = decide (t.val < 11 ∨ t.val = 176) :=
  Pipeline.Cfg.fresh_tab cfg1 9 (fun n => decide (n < 11 ∨ n = 176)) rfl (by decide +kernel) t.val (Nat.le_of_lt t.isLt)

section
variable (V : (c : Dev nD) → (b : Ref sig .tc) → Buf (Elt F) ((c : Thread nD τ).loc b))

/-- Window `w`'s block at grid point `t`, cut from its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch buffers and the kept output after point `t`, from what was there before it. -/
def step1 (c : Dev nD) (t : Fin cfg1.N) (s : Vec F S512x1024 .bf16 × Vec F S512x1024 .f32 × Vec F S512x1024 .bf16) : Vec F S512x1024 .bf16 × Vec F S512x1024 .f32 × Vec F S512x1024 .bf16 :=
  (dzs1 (grid1.coords t) (blk1 V c 0 t) s.1,
   acc1 (grid1.coords t) (blk1 V c 0 t) (blk1 V c 3 t) (blk1 V c 4 t) (blk1 V c 5 t) (blk1 V c 6 t) (blk1 V c 7 t) s.1 s.2.1,
   dzo1 (grid1.coords t) (blk1 V c 0 t) s.2.2)

/-- The two scratch buffers and the kept output after point `n`. -/
def st1 (c : Dev nD) : (n : ℕ) → n < cfg1.N → Vec F S512x1024 .bf16 × Vec F S512x1024 .f32 × Vec F S512x1024 .bf16
  | 0, h => step1 V c ⟨0, h⟩ (k1_pay9 (blk1 V c 0 ⟨0, h⟩), k1_pay10, k1_pay8 (blk1 V c 0 ⟨0, h⟩))
  | n + 1, h => step1 V c ⟨n + 1, h⟩ (st1 c n (Nat.lt_of_succ_lt h))

theorem pred_lt1 (t : Fin cfg1.N) : t.val - 1 < cfg1.N := Nat.lt_of_le_of_lt (Nat.sub_le _ _) t.isLt

/-- A row's first point starts afresh. -/
theorem step1_reset (c : Dev nD) (t : Fin cfg1.N) (h : t.val % 11 = 0) (s s' : Vec F S512x1024 .bf16 × Vec F S512x1024 .f32 × Vec F S512x1024 .bf16) : step1 V c t s = step1 V c t s' := by
  unfold step1 acc1 dzs1 dzo1
  simp only [(c1_1 t).mpr h, ↓reduceIte]

theorem st1_at (c : Dev nD) (t : Fin cfg1.N) (s : Vec F S512x1024 .bf16 × Vec F S512x1024 .f32 × Vec F S512x1024 .bf16)
    (h : t.val % 11 ≠ 0 → s = st1 V c (t.val - 1) (pred_lt1 t)) : step1 V c t s = st1 V c t.val t.isLt := by
  obtain ⟨n, hn⟩ := t
  cases n with
  | zero => exact step1_reset V c ⟨0, hn⟩ rfl _ _
  | succ n =>
    by_cases h0 : (n + 1) % 11 = 0
    · exact step1_reset V c ⟨n + 1, hn⟩ h0 _ _
    · rw [h h0]; rfl

/-- The invariant between points: before the first one the scratch at anything, later at what the point before left. -/
def between1 (c : Dev nD) : (n : ℕ) → n ≤ cfg1.N → sProp 𝕄
  | 0, _ => Pipeline.ΦA spec1 c
  | n + 1, h => iprop(owns (c : Thread nD τ) (Memref.whole cc1_scratch0) fullShare (st1 V c n h).1
      ∗ owns (c : Thread nD τ) (Memref.whole cc1_scratch1) fullShare (st1 V c n h).2.1
      ∗ Pipeline.scopedRestBut (Ix := Unit) (Name := ℕ) (U := UR sig nD τ) (Lvl := ℕ) (Val := Elt F) spec1 c [cc1_scratch0, cc1_scratch1]
      ∗ ∃ r, prngReg c r)

/-- The gradient in the norm's weight after point `n`. -/
def dgAt (c : Dev nD) : (n : ℕ) → n < cfg1.N → Vec F S1x1024 .f32
  | 0, h => k1_pay6 (blk1 V c 1 ⟨0, h⟩) (st1 V c 0 h).2.1
  | n + 1, h => dgs1 (grid1.coords ⟨n + 1, h⟩) (blk1 V c 1 ⟨n + 1, h⟩) (st1 V c (n + 1) h).2.1 (dgAt c n (Nat.lt_of_succ_lt h))

theorem dgAt_step (c : Dev nD) (t : Fin cfg1.N) (h : t.val ≠ 0) : dgAt V c t.val t.isLt
    = dgs1 (grid1.coords t) (blk1 V c 1 t) (st1 V c t.val t.isLt).2.1 (dgAt V c (t.val - 1) (pred_lt1 t)) := by
  obtain ⟨n, hn⟩ := t
  cases n with
  | zero => exact absurd rfl h
  | succ n => rfl

/-- The pipeline's proof data: the arrays as found, every input block left in place, the outputs and the scratch as the body leaves them. -/
def data1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => k1_pay7 (blk1 V c 1 t) (blk1 V c 2 t) (st1 V c t.val t.isLt).2.1 (blk1 V c 0 t)
    | ⟨9, _⟩ => dgAt V c t.val t.isLt
    | ⟨10, _⟩ => (st1 V c t.val t.isLt).2.2
    | ⟨11, _⟩ => k1_pay17 (st1 V c t.val t.isLt).1 (blk1 V c 7 t) (blk1 V c 3 t) (blk1 V c 4 t)
    | ⟨12, _⟩ => k1_pay16 (st1 V c t.val t.isLt).1 (blk1 V c 7 t) (blk1 V c 3 t)
    | ⟨13, _⟩ => k1_pay18 (blk1 V c 3 t) (blk1 V c 4 t)
  Φ t := between1 V c t.val (Nat.le_of_lt_succ t.isLt)
  q _ := fullShare
  owed _ := 0

theorem data1_A (c : Dev nD) (w : Fin cfg1.W) : (data1 V c).A w = V c (Pipeline.arrRef spec1 w) := by dsimp only [data1]

theorem data1_after0 (c : Dev nD) (t : Fin cfg1.N) : (data1 V c).after 0 t = blk1 V c 0 t := by dsimp only [data1]
theorem data1_after1 (c : Dev nD) (t : Fin cfg1.N) : (data1 V c).after 1 t = blk1 V c 1 t := by dsimp only [data1]
theorem data1_after2 (c : Dev nD) (t : Fin cfg1.N) : (data1 V c).after 2 t = blk1 V c 2 t := by dsimp only [data1]
theorem data1_after3 (c : Dev nD) (t : Fin cfg1.N) : (data1 V c).after 3 t = blk1 V c 3 t := by dsimp only [data1]
theorem data1_after4 (c : Dev nD) (t : Fin cfg1.N) : (data1 V c).after 4 t = blk1 V c 4 t := by dsimp only [data1]
theorem data1_after5 (c : Dev nD) (t : Fin cfg1.N) : (data1 V c).after 5 t = blk1 V c 5 t := by dsimp only [data1]
theorem data1_after6 (c : Dev nD) (t : Fin cfg1.N) : (data1 V c).after 6 t = blk1 V c 6 t := by dsimp only [data1]
theorem data1_after7 (c : Dev nD) (t : Fin cfg1.N) : (data1 V c).after 7 t = blk1 V c 7 t := by dsimp only [data1]
theorem data1_after8 (c : Dev nD) (t : Fin cfg1.N) : (data1 V c).after 8 t = k1_pay7 (blk1 V c 1 t) (blk1 V c 2 t) (st1 V c t.val t.isLt).2.1 (blk1 V c 0 t) := by dsimp only [data1]
theorem data1_after9 (c : Dev nD) (t : Fin cfg1.N) : (data1 V c).after 9 t = dgAt V c t.val t.isLt := by dsimp only [data1]
theorem data1_after10 (c : Dev nD) (t : Fin cfg1.N) : (data1 V c).after 10 t = (st1 V c t.val t.isLt).2.2 := by dsimp only [data1]
theorem data1_after11 (c : Dev nD) (t : Fin cfg1.N) : (data1 V c).after 11 t = k1_pay17 (st1 V c t.val t.isLt).1 (blk1 V c 7 t) (blk1 V c 3 t) (blk1 V c 4 t) := by dsimp only [data1]
theorem data1_after12 (c : Dev nD) (t : Fin cfg1.N) : (data1 V c).after 12 t = k1_pay16 (st1 V c t.val t.isLt).1 (blk1 V c 7 t) (blk1 V c 3 t) := by dsimp only [data1]
theorem data1_after13 (c : Dev nD) (t : Fin cfg1.N) : (data1 V c).after 13 t = k1_pay18 (blk1 V c 3 t) (blk1 V c 4 t) := by dsimp only [data1]
theorem data1_before0 (c : Dev nD) (t : Fin cfg1.N) (d) : (data1 V c).before 0 t d = blk1 V c 0 t :=
  ((data1 V c).before_in_eq_fetched 0 rfl (fun _ => rfl) (fun _ _ _ => rfl)
    (fun t => by rw [data1_after0]; unfold Dat.blockOf blk1; rw [data1_A]; try rfl) t d).trans
    (by unfold Dat.fetched Dat.blockOf blk1; rw [data1_A]; try rfl)
theorem data1_before1 (c : Dev nD) (t : Fin cfg1.N) (d) : (data1 V c).before 1 t d = blk1 V c 1 t :=
  ((data1 V c).before_in_eq_fetched 1 rfl (fun _ => rfl) (fun _ _ _ => rfl)
    (fun t => by rw [data1_after1]; unfold Dat.blockOf blk1; rw [data1_A]; try rfl) t d).trans
    (by unfold Dat.fetched Dat.blockOf blk1; rw [data1_A]; try rfl)
theorem data1_before2 (c : Dev nD) (t : Fin cfg1.N) (d) : (data1 V c).before 2 t d = blk1 V c 2 t :=
  ((data1 V c).before_in_eq_fetched 2 rfl (fun _ => rfl) (fun _ _ _ => rfl)
    (fun t => by rw [data1_after2]; unfold Dat.blockOf blk1; rw [data1_A]; try rfl) t d).trans
    (by unfold Dat.fetched Dat.blockOf blk1; rw [data1_A]; try rfl)
theorem data1_before3 (c : Dev nD) (t : Fin cfg1.N) (d) : (data1 V c).before 3 t d = blk1 V c 3 t :=
  ((data1 V c).before_in_eq_fetched 3 rfl (fun _ => rfl) (fun _ _ _ => rfl)
    (fun t => by rw [data1_after3]; unfold Dat.blockOf blk1; rw [data1_A]; try rfl) t d).trans
    (by unfold Dat.fetched Dat.blockOf blk1; rw [data1_A]; try rfl)
theorem data1_before4 (c : Dev nD) (t : Fin cfg1.N) (d) : (data1 V c).before 4 t d = blk1 V c 4 t :=
  ((data1 V c).before_in_eq_fetched 4 rfl (fun _ => rfl) (fun _ _ _ => rfl)
    (fun t => by rw [data1_after4]; unfold Dat.blockOf blk1; rw [data1_A]; try rfl) t d).trans
    (by unfold Dat.fetched Dat.blockOf blk1; rw [data1_A]; try rfl)
theorem data1_before5 (c : Dev nD) (t : Fin cfg1.N) (d) : (data1 V c).before 5 t d = blk1 V c 5 t :=
  ((data1 V c).before_in_eq_fetched 5 rfl (fun _ => rfl) (fun _ _ _ => rfl)
    (fun t => by rw [data1_after5]; unfold Dat.blockOf blk1; rw [data1_A]; try rfl) t d).trans
    (by unfold Dat.fetched Dat.blockOf blk1; rw [data1_A]; try rfl)
theorem data1_before6 (c : Dev nD) (t : Fin cfg1.N) (d) : (data1 V c).before 6 t d = blk1 V c 6 t :=
  ((data1 V c).before_in_eq_fetched 6 rfl (fun _ => rfl) (fun _ _ _ => rfl)
    (fun t => by rw [data1_after6]; unfold Dat.blockOf blk1; rw [data1_A]; try rfl) t d).trans
    (by unfold Dat.fetched Dat.blockOf blk1; rw [data1_A]; try rfl)
theorem data1_before7 (c : Dev nD) (t : Fin cfg1.N) (d) : (data1 V c).before 7 t d = blk1 V c 7 t :=
  ((data1 V c).before_in_eq_fetched 7 rfl (fun _ => rfl) (fun _ _ _ => rfl)
    (fun t => by rw [data1_after7]; unfold Dat.blockOf blk1; rw [data1_A]; try rfl) t d).trans
    (by unfold Dat.fetched Dat.blockOf blk1; rw [data1_A]; try rfl)

/-- At a point that is not a row's first the kept output holds what the point before left. -/
theorem data1_before10 (c : Dev nD) (t : Fin cfg1.N) (h : t.val % 11 ≠ 0) (d) :
    (data1 V c).before 10 t d = (st1 V c (t.val - 1) (pred_lt1 t)).2.2 := by
  rw [Dat.before_out_traj _ 10 rfl (fun _ _ => rfl) (fun u _ hi _ => ?_) t.val t rfl d, fresh1_kept t, if_neg (by simpa using h), data1_after10]
  rw [idle1_kept u] at hi
  rw [data1_after10, data1_after10, ← st1_at V c u _ fun _ => rfl]
  exact if_neg fun e => absurd ((c1_1 u).mp e) (by simpa using hi)

theorem between1_castSucc (c : Dev nD) (t : Fin cfg1.N) : (data1 V c).Φ t.castSucc = between1 V c t.val (Nat.le_of_lt t.isLt) := by
  dsimp only [data1]; exact Pipeline.Dat.Φ_castSucc (between1 V c) t

theorem rest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))
          ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] (by decide) (by decide)

/-- Opened at any point: the scratch at some contents, which past a point are what that point left. -/
theorem between1_open (c : Dev nD) : (n : ℕ) → (h : n ≤ cfg1.N) → between1 V c n h ⊢
    iprop(∃ (s0 : Vec F S512x1024 .bf16) (s1 : Vec F S512x1024 .f32),
      ⌜∀ h0 : n ≠ 0, s0 = (st1 V c (n - 1) (by omega)).1 ∧ s1 = (st1 V c (n - 1) (by omega)).2.1⌝
      ∗ owns (c : Thread nD τ) (Memref.whole cc1_scratch0) fullShare s0
      ∗ owns (c : Thread nD τ) (Memref.whole cc1_scratch1) fullShare s1
      ∗ Pipeline.scopedRestBut (Ix := Unit) (Name := ℕ) (U := UR sig nD τ) (Lvl := ℕ) (Val := Elt F) spec1 c [cc1_scratch0, cc1_scratch1]
      ∗ ∃ r, prngReg c r)
  | 0, _ => by
    unfold between1 Pipeline.ΦA; rw [rest1_split]; simp only [owns_whole]
    iintro ⟨⟨⟨⟨%s0, H0⟩, ⟨%s1, H1⟩⟩, Hr⟩, Hg⟩
    iexists s0; iexists s1
    isplitr; · ipureintro; exact fun h => absurd rfl h
    isplitl [H0]; · iexact H0
    isplitl [H1]; · iexact H1
    isplitl [Hr]; · iexact Hr
    iexact Hg
  | n + 1, _ => by
    unfold between1
    iintro ⟨H0, H1, Hr, Hg⟩
    iexists _; iexists _
    isplitr; swap
    · isplitl [H0]; · iexact H0
      isplitl [H1]; · iexact H1
      isplitl [Hr]; · iexact Hr
      iexact Hg
    ipureintro; exact fun _ => ⟨rfl, rfl⟩

/-- Opened and closed again the scratch is at anything. -/
theorem between1_out (c : Dev nD) (n : ℕ) (h : n ≤ cfg1.N) : between1 V c n h ⊢ Pipeline.ΦA spec1 c := by
  refine (between1_open V c n h).trans ?_
  unfold Pipeline.ΦA; rw [rest1_split]; simp only [owns_whole]
  iintro ⟨%s0, %s1, -, H0, H1, Hr, Hg⟩
  isplitr [Hg]; swap; · iexact Hg
  isplitr [Hr]; swap; · iexact Hr
  isplitl [H0]
  · iexists s0; iexact H0
  iexists s1; iexact H1

/-- The last column tile's output: written there, handed on untouched elsewhere. -/
theorem leaves1_last (c : Dev nD) (t : Fin cfg1.N) (d) :
    owns (c : Thread nD τ) (st1_8 t) fullShare (if k1_cond2 (grid1.coords t) = 1#1 then (data1 V c).after 8 t else (data1 V c).before 8 t d)
      ⊢ (data1 V c).leavesExact 8 t := by
  by_cases h : t.val % 11 = 10
  · rw [if_pos ((c1_2 t).mpr h), show (data1 V c).leavesExact 8 t = owns (c : Thread nD τ) (st1_8 t) fullShare ((data1 V c).after 8 t) from by
      unfold Dat.leavesExact; rw [show cfg1.idle 8 (cfg1.grid.coords t) = false from by rw [idle1_last t]; simpa using h]]
  · rw [if_neg fun e => h ((c1_2 t).mp e), Dat.leavesExact_idle (data1 V c) 8 t (by rw [idle1_last t]; simpa using h)
      (Bool.eq_false_iff.mpr fun e => h ((flush1_8 t).mp e))]
    iintro H; iexists d; iexact H

/-- The kept output: written at a row's first point, kept at the others, written back after the last. -/
theorem leaves1_kept (c : Dev nD) (t : Fin cfg1.N) (d) (X : Vec F S512x1024 .bf16) (hX : X = (data1 V c).after 10 t)
    (hk : t.val % 11 ≠ 0 → X = (data1 V c).before 10 t d) :
    owns (c : Thread nD τ) (st1_10 t) fullShare X ⊢ (data1 V c).leavesExact 10 t := by
  by_cases h : t.val % 11 = 0
  · rw [hX, show (data1 V c).leavesExact 10 t = owns (c : Thread nD τ) (st1_10 t) fullShare ((data1 V c).after 10 t) from by
      unfold Dat.leavesExact; rw [show cfg1.idle 10 (cfg1.grid.coords t) = false from by rw [idle1_kept t]; simpa using h]]
  have hi : cfg1.idle 10 (cfg1.grid.coords t) = true := by rw [idle1_kept t]; simpa using h
  by_cases hf : (cfg1.win 10).flush t = true
  · rw [hX, show (data1 V c).leavesExact 10 t = owns (c : Thread nD τ) (st1_10 t) fullShare ((data1 V c).after 10 t) from by
      unfold Dat.leavesExact; rw [hi, hf]]
  · rw [hk h, Dat.leavesExact_idle (data1 V c) 10 t hi (Bool.eq_false_iff.mpr hf)]
    iintro H; iexists d; iexact H

/-- Past the first row's last point the buffer of the gradient in the norm's weight holds what the point before left. -/
theorem data1_before9 (c : Dev nD) (t : Fin cfg1.N) (h : 11 ≤ t.val) (d) :
    (data1 V c).before 9 t d = dgAt V c (t.val - 1) (pred_lt1 t) := by
  have hN : t.val < 176 := t.isLt
  rw [Dat.before_out_traj _ 9 rfl (fun _ _ => rfl) (fun u hu hi _ => ?_) t.val t rfl d, fresh1_dg t, if_neg (by simp; omega), data1_after9]
  rw [idle1_dg u] at hi
  rw [data1_after9, data1_after9, dgAt_step V c u hu]
  exact if_neg fun e => absurd ((c1_2 u).mp e) (by simpa using hi)

/-- The gradient in the norm's weight: added to at a row's last point, handed on untouched elsewhere. -/
theorem leaves1_dg (c : Dev nD) (t : Fin cfg1.N) (d) :
    owns (c : Thread nD τ) (st1_9 t) fullShare (dgs1 (grid1.coords t) (blk1 V c 1 t) (st1 V c t.val t.isLt).2.1 ((data1 V c).before 9 t d))
      ⊢ (data1 V c).leavesExact 9 t := by
  have hN : t.val < 176 := t.isLt
  by_cases h : t.val % 11 = 10
  · rw [show (data1 V c).leavesExact 9 t = owns (c : Thread nD τ) (st1_9 t) fullShare ((data1 V c).after 9 t) from by
      unfold Dat.leavesExact; rw [show cfg1.idle 9 (cfg1.grid.coords t) = false from by rw [idle1_dg t]; simpa using h],
      data1_after9, dgAt_step V c t (by omega)]
    by_cases h3 : t.val < 11
    · rw [dgs1, dgs1, if_pos ((c1_2 t).mpr h), if_pos ((c1_2 t).mpr h), if_pos ((c1_3 t).mpr h3), if_pos ((c1_3 t).mpr h3)]
    · rw [data1_before9 V c t (by omega) d]
  · rw [Dat.leavesExact_idle (data1 V c) 9 t (by rw [idle1_dg t]; simpa using h)
      (Bool.eq_false_iff.mpr fun e => h (by have := (flush1_9 t).mp e; omega)), dgs1, if_neg fun e => h ((c1_2 t).mp e)]
    iintro H; iexists d; iexact H

/-- The body at any grid point. -/
theorem body1 (c : Dev nD) (t : Fin cfg1.N) :
    iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d))
    ∗ (∃ d, owns (c : Thread nD τ) (st1_5 t) fullShare ((data1 V c).before 5 t d))
    ∗ (∃ d, owns (c : Thread nD τ) (st1_6 t) fullShare ((data1 V c).before 6 t d))
    ∗ (∃ d, owns (c : Thread nD τ) (st1_7 t) fullShare ((data1 V c).before 7 t d))
    ∗ (∃ d, owns (c : Thread nD τ) (st1_8 t) fullShare ((data1 V c).before 8 t d))
    ∗ (∃ d, owns (c : Thread nD τ) (st1_9 t) fullShare ((data1 V c).before 9 t d))
    ∗ (∃ d, owns (c : Thread nD τ) (st1_10 t) fullShare ((data1 V c).before 10 t d))
    ∗ (∃ d, owns (c : Thread nD τ) (st1_11 t) fullShare ((data1 V c).before 11 t d))
    ∗ (∃ d, owns (c : Thread nD τ) (st1_12 t) fullShare ((data1 V c).before 12 t d))
    ∗ (∃ d, owns (c : Thread nD τ) (st1_13 t) fullShare ((data1 V c).before 13 t d)))
    ⊢ wp frame (wpE (defs₀ (F := F)) Variants.none c none) Set.univ (bodyAt1 t) (fun _ =>
      iprop((data1 V c).Φ t.succ ∗ (data1 V c).owesAt () t.succ
    ∗ (data1 V c).leavesExact 0 t
    ∗ (data1 V c).leavesExact 1 t
    ∗ (data1 V c).leavesExact 2 t
    ∗ (data1 V c).leavesExact 3 t
    ∗ (data1 V c).leavesExact 4 t
    ∗ (data1 V c).leavesExact 5 t
    ∗ (data1 V c).leavesExact 6 t
    ∗ (data1 V c).leavesExact 7 t
    ∗ (data1 V c).leavesExact 8 t
    ∗ (data1 V c).leavesExact 9 t
    ∗ (data1 V c).leavesExact 10 t
    ∗ (data1 V c).leavesExact 11 t
    ∗ (data1 V c).leavesExact 12 t
    ∗ (data1 V c).leavesExact 13 t)) := by
  unfold bodyAt1
  simp only [data1_before0, data1_before1, data1_before2, data1_before3, data1_before4, data1_before5, data1_before6, data1_before7]
  rw [show (data1 V c).owesAt () t.succ = (data1 V c).owesAt () t.castSucc from rfl, between1_castSucc]
  rw [show (data1 V c).leavesExact 0 t = owns (c : Thread nD τ) (st1_0 t) fullShare ((data1 V c).after 0 t) from rfl, data1_after0]
  rw [show (data1 V c).leavesExact 1 t = owns (c : Thread nD τ) (st1_1 t) fullShare ((data1 V c).after 1 t) from rfl, data1_after1]
  rw [show (data1 V c).leavesExact 2 t = owns (c : Thread nD τ) (st1_2 t) fullShare ((data1 V c).after 2 t) from rfl, data1_after2]
  rw [show (data1 V c).leavesExact 3 t = owns (c : Thread nD τ) (st1_3 t) fullShare ((data1 V c).after 3 t) from rfl, data1_after3]
  rw [show (data1 V c).leavesExact 4 t = owns (c : Thread nD τ) (st1_4 t) fullShare ((data1 V c).after 4 t) from rfl, data1_after4]
  rw [show (data1 V c).leavesExact 5 t = owns (c : Thread nD τ) (st1_5 t) fullShare ((data1 V c).after 5 t) from rfl, data1_after5]
  rw [show (data1 V c).leavesExact 6 t = owns (c : Thread nD τ) (st1_6 t) fullShare ((data1 V c).after 6 t) from rfl, data1_after6]
  rw [show (data1 V c).leavesExact 7 t = owns (c : Thread nD τ) (st1_7 t) fullShare ((data1 V c).after 7 t) from rfl, data1_after7]
  rw [show (data1 V c).leavesExact 11 t = owns (c : Thread nD τ) (st1_11 t) fullShare ((data1 V c).after 11 t) from rfl, data1_after11]
  rw [show (data1 V c).leavesExact 12 t = owns (c : Thread nD τ) (st1_12 t) fullShare ((data1 V c).after 12 t) from rfl, data1_after12]
  rw [show (data1 V c).leavesExact 13 t = owns (c : Thread nD τ) (st1_13 t) fullShare ((data1 V c).after 13 t) from rfl, data1_after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave H := (between1_open V c t.val (Nat.le_of_lt t.isLt)) $$ HΦ
  icases H with ⟨%s0, %s1, %hs, HS0, HS1, Hr, Hg⟩
  have e : step1 V c t (s0, s1, (data1 V c).before 10 t d10) = st1 V c t.val t.isLt :=
    st1_at V c t _ fun h0 => by
      obtain ⟨e0, e1⟩ := hs (by omega)
      rw [e0, e1, data1_before10 V c t h0]
  have e0 := congrArg Prod.fst e
  have e1 := congrArg (fun z => z.2.1) e
  have e2 := congrArg (fun z => z.2.2) e
  dsimp only [step1] at e0 e1 e2
  iapply (sound1 c Set.univ (grid1.coords t) _ _ _ _ _ _ _ _ _ _ _ _ _ _ _ _ _ _ _ _ _ _ _ _ _ _ _ _ _ _ _ _ (blk1 V c 0 t) (blk1 V c 1 t) ((data1 V c).before 8 t d8) s1 (blk1 V c 2 t) ((data1 V c).before 9 t d9) (blk1 V c 3 t) (blk1 V c 4 t) (blk1 V c 5 t) (blk1 V c 6 t) (blk1 V c 7 t) ((data1 V c).before 10 t d10) s0 _)

  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [HS0]; · iexact HS0
  isplitl [HS1]; · iexact HS1
  iintro ⟨H0, H1, H2, H3, H4, H5, H6, H7, H8, H9, H10, H11, H12, H13, HS0, HS1⟩
  rw [e0, e1]
  isplitl [HS0 HS1 Hr Hg]
  · rw [show (data1 V c).Φ t.succ = between1 V c (t.val + 1) t.isLt from rfl]; unfold between1
    isplitl [HS0]; · iexact HS0
    isplitl [HS1]; · iexact HS1
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves1_last V c t d8); rw [data1_after8]; iexact H8
  isplitl [H9]; · iapply (leaves1_dg V c t d9); iexact H9
  isplitl [H10]; · iapply (leaves1_kept V c t d10 _ (e2.trans (data1_after10 V c t).symm) fun h => if_neg fun q => h ((c1_1 t).mp q)); iexact H10
  isplitl [H11]; · iexact H11
  isplitl [H12]; · iexact H12
  iexact H13

theorem row1 (t : Fin cfg1.N) : defs₀ (F := F) .tc cfg1.body (cfg1.bodyArgs t (cfg1.slots t)) = bodyAt1 t := by
  unfold defs₀; rw [Defs.onTc_tc]

theorem obligation1 (c : Dev nD) : BodyObligation (data1 (F := F) V c) (defs₀ (F := F)) Variants.none () Set.univ := fun t => by
  rw [bigSep_W1, bigSep_W1, row1]
  exact triple_restated (body1 V c t) rfl .rfl fun _ => .rfl

end

end Cert.Ffn
-- ==== Proof.FfnRun.lean ====
/- The program of the feed-forward layer's two kernels run from its launch: the forward kernel's region, the host operations
   between, the backward kernel's region. One text for any float type: the arguments end as launched, every semaphore at zero, and
   the eight results are the arrays the two pipelines leave. -/
module

public import proofs.«01_k».proof.Proof.Gen.FfnIdeal.Regions
public import proofs.«01_k».proof.Proof.FfnPoint0
public import proofs.«01_k».proof.Proof.FfnPoint1

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the boundaries of the segments -/

/-- The buffers at launch. -/
abbrev vals0 (c : Dev nD) : Valuation τ sig (Elt F) := fun b => m (c, b)
/-- The buffers when the forward kernel is entered. -/
abbrev vals1 (c : Dev nD) : Valuation τ sig (Elt F) := StableHlo.after hostOps0 (vals0 m c)
abbrev in0 : (c : Dev nD) → (b : Ref sig .tc) → Buf (Elt F) ((c : Thread nD τ).loc b) := fun c b => vals1 m c b
/-- The buffers when the forward kernel is left. -/
def vals2 (c : Dev nD) : Valuation τ sig (Elt F) := Pipeline.withArrays spec0 c (vals1 m c) fun w => (data0 (in0 m) c).arrAt w cfg0.N
abbrev out0 : (c : Dev nD) → (b : Ref sig .tc) → Buf (Elt F) ((c : Thread nD τ).loc b) := fun c b => vals2 m c b
/-- The buffers when the backward kernel is entered. -/
abbrev vals3 (c : Dev nD) : Valuation τ sig (Elt F) := StableHlo.after hostOps1 (vals2 m c)
abbrev in1 : (c : Dev nD) → (b : Ref sig .tc) → Buf (Elt F) ((c : Thread nD τ).loc b) := fun c b => vals3 m c b
/-- The buffers at the end. -/
def vals4 (c : Dev nD) : Valuation τ sig (Elt F) := Pipeline.withArrays spec1 c (vals3 m c) fun w => (data1 (in1 m) c).arrAt w cfg1.N
abbrev out1 : (c : Dev nD) → (b : Ref sig .tc) → Buf (Elt F) ((c : Thread nD τ).loc b) := fun c b => vals4 m c b

theorem vals2_arr (c : Dev nD) (w : Fin cfg0.W) :
    vals2 m c (Proc.devRef .tc (Pipeline.arrRef spec0 w)) = (data0 (in0 m) c).arrAt w cfg0.N := by
  unfold vals2; exact Pipeline.withArrays_arr spec0 winFacts0.arr_inj c _ _ w
theorem vals2_of_ne (c : Dev nD) (b : Ref sig .tc) (hb : ∀ w, Pipeline.arrRef spec0 w ≠ b) :
    vals2 m c (Proc.devRef .tc b) = vals1 m c (Proc.devRef .tc b) := by
  unfold vals2; exact Pipeline.withArrays_of_ne spec0 c _ _ b hb
theorem vals4_arr (c : Dev nD) (w : Fin cfg1.W) :
    vals4 m c (Proc.devRef .tc (Pipeline.arrRef spec1 w)) = (data1 (in1 m) c).arrAt w cfg1.N := by
  unfold vals4; exact Pipeline.withArrays_arr spec1 winFacts1.arr_inj c _ _ w
theorem vals4_of_ne (c : Dev nD) (b : Ref sig .tc) (hb : ∀ w, Pipeline.arrRef spec1 w ≠ b) :
    vals4 m c (Proc.devRef .tc b) = vals3 m c (Proc.devRef .tc b) := by
  unfold vals4; exact Pipeline.withArrays_of_ne spec1 c _ _ b hb
theorem vals1_of (c : Dev nD) (r : Ref sig .tc) (h : r ∉ hostOps0_W) : vals1 m c (Proc.devRef .tc r) = vals0 m c (Proc.devRef .tc r) :=
  StableHlo.after_of_writes_sub hostOps0 _ hostOps0_writes h
theorem vals3_of (c : Dev nD) (r : Ref sig .tc) (h : r ∉ hostOps1_W) : vals3 m c (Proc.devRef .tc r) = vals2 m c (Proc.devRef .tc r) :=
  StableHlo.after_of_writes_sub hostOps1 _ hostOps1_writes h
/-- A buffer no kernel has as an array and no host operation writes ends as launched. -/
theorem vals4_kept (c : Dev nD) (r : Ref sig .tc) (h0 : r ∉ hostOps0_W) (h1 : r ∉ hostOps1_W)
    (a0 : ∀ w, Pipeline.arrRef spec0 w ≠ r) (a1 : ∀ w, Pipeline.arrRef spec1 w ≠ r) :
    vals4 m c (Proc.devRef .tc r) = m ((c : Thread nD τ).loc r) :=
  (vals4_of_ne m c r a1).trans ((vals3_of m c r h1).trans ((vals2_of_ne m c r a0).trans (vals1_of m c r h0)))
/-- A result of the forward kernel ends as that kernel leaves it. -/
theorem vals4_fwd (c : Dev nD) (w : Fin cfg0.W) (h1 : Pipeline.arrRef spec0 w ∉ hostOps1_W)
    (a1 : ∀ v, Pipeline.arrRef spec1 v ≠ Pipeline.arrRef spec0 w) :
    vals4 m c (Proc.devRef .tc (Pipeline.arrRef spec0 w)) = (data0 (in0 m) c).arrAt w cfg0.N :=
  (vals4_of_ne m c _ a1).trans ((vals3_of m c _ h1).trans (vals2_arr m c w))

/-- The norm's weight is read by both kernels and ends as it began. -/
theorem vals4_arg2 (c : Dev nD) : vals4 m c (Proc.devRef .tc main_arg2) = m ((c : Thread nD τ).loc main_arg2) :=
  (vals4_arr m c 2).trans (((data1 (in1 m) c).arrAt_in 2 rfl _).trans ((vals3_of m c main_arg2 (by decide)).trans
    ((vals2_arr m c 1).trans (((data0 (in0 m) c).arrAt_in 1 rfl _).trans (vals1_of m c main_arg2 (by decide))))))

/-! ## The regions and the host operations as segments -/

def pdats : (p : Fin 2) → (c : Dev nD) → Dat τ (Elt F) Unit ℕ (UR sig nD τ) ℕ (Pipeline.pin (pcfgs (F := F)) adm p) c
  | ⟨0, _⟩ => fun c => data0 (in0 m) c
  | ⟨1, _⟩ => fun c => data1 (in1 m) c
abbrev noLevels : GSem nD τ sig → Finset Unit := fun _ => ∅
abbrev level : GSem nD τ sig → Unit → ℕ := fun _ _ => 0
/-- What is held beside the buffers throughout: the core's generator register and its debts, which are none. -/
abbrev beside (c : Dev nD) : sProp 𝕄 := iprop((∃ r, prngReg c r) ∗ ∃ W, owes (c : Thread nD τ) (0 : CellTallies nD τ sig Unit) W)
/-- Every buffer that is not scoped, at the contents `W`. -/
abbrev heldAt (W : Dev nD → Valuation τ sig (Elt F)) (c : Dev nD) : sProp 𝕄 := StableHlo.held (c : Thread nD τ) (Pipeline.ucRefs τ sig) (W c)
abbrev hostPart (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels level :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
theorem held_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev atEnd (c : Dev nD) : sProp 𝕄 := iprop(heldAt (vals4 m) c ∗ ∃ r, prngReg c r)

set_option backward.isDefEq.respectTransparency.types false in
/-- Kernel 0 as a segment: its arrays are taken out of the buffers held at its entry and put back at what its pipeline leaves. -/
def kernel0 : Pipeline.RegionSeg (pcfgs (F := F)) adm (pdats m) () defs₀ Variants.none noLevels level 0 where
  win := winFacts0.to₀
  block_pos := block_pos0
  stage_whole := stage_whole0
  K := PEmpty
  osem k := k.elim
  ho := Pipeline.OwnSemFacts.none _
  hbody c := (obligation0 (in0 m) c).loose
  hwaits := Pipeline.hwaits_of_owed_zero _ _ _ _ noLevels level 0 fun _ _ => rfl
  pre c := iprop(heldAt (vals1 m) c ∗ beside c)
  post c := iprop(heldAt (vals2 m) c ∗ beside c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hs := Pipeline.arrays_of_unscopedBufs (p := 0) (pcfgs (F := F)) adm (pdats m) winFacts0 arr_whole0 c
      ((data0 (in0 m) c).share_full fun _ => rfl) (in0 m c) (data0_A (in0 m) c)
    rw [Pipeline.unscopedBufs_held] at hs
    iintro ⟨⟨Hb, Hp, HO⟩, -, -⟩
    ihave H := hs $$ Hb
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from between0_out (in0 m) c cfg0.N le_rfl).trans ?_
    unfold Pipeline.ΦA
    iintro ⟨Hr, Hp⟩
    isplitl [Hp]; · iexact Hp
    isplitr; · iempintro
    iexact Hr
  hexit c := by
    have hj := Pipeline.unscopedBufs_of_arrays (p := 0) (pcfgs (F := F)) adm (Ix := Unit) (Name := ℕ) (U := UR sig nD τ) (Lvl := ℕ)
      winFacts0 arr_whole0 c (pdats m) ((data0 (in0 m) c).share_full fun _ => rfl)
      (in0 m c) (out0 m c) ((pdats m 0 c).arrAt · cfg0.N) (fun w => (vals2_arr m c w).symm)
      (fun r hr => vals2_of_ne m c r fun w e => hr (Finset.mem_image.mpr ⟨w, Finset.mem_univ _, e⟩))
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 as a segment: its arrays are taken out of the buffers held at its entry and put back at what its pipeline leaves. -/
def kernel1 : Pipeline.RegionSeg (pcfgs (F := F)) adm (pdats m) () defs₀ Variants.none noLevels level 1 where
  win := winFacts1.to₀
  block_pos := block_pos1
  stage_whole := stage_whole1
  K := PEmpty
  osem k := k.elim
  ho := Pipeline.OwnSemFacts.none _
  hbody c := (obligation1 (in1 m) c).loose
  hwaits := Pipeline.hwaits_of_owed_zero _ _ _ _ noLevels level 1 fun _ _ => rfl
  pre c := iprop(heldAt (vals3 m) c ∗ beside c)
  post c := iprop(atEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hs := Pipeline.arrays_of_unscopedBufs (p := 1) (pcfgs (F := F)) adm (pdats m) winFacts1 arr_whole1 c
      ((data1 (in1 m) c).share_full fun _ => rfl) (in1 m c) (data1_A (in1 m) c)
    rw [Pipeline.unscopedBufs_held] at hs
    iintro ⟨⟨Hb, Hp, HO⟩, -, -⟩
    ihave H := hs $$ Hb
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from between1_out (in1 m) c cfg1.N le_rfl).trans ?_
    unfold Pipeline.ΦA
    iintro ⟨Hr, Hp⟩
    isplitl [Hp]; · iexact Hp
    isplitr; · iempintro
    iexact Hr
  hexit c := by
    have hj := Pipeline.unscopedBufs_of_arrays (p := 1) (pcfgs (F := F)) adm (Ix := Unit) (Name := ℕ) (U := UR sig nD τ) (Lvl := ℕ)
      winFacts1 arr_whole1 c (pdats m) ((data1 (in1 m) c).share_full fun _ => rfl)
      (in1 m c) (out1 m c) ((pdats m 1 c).arrAt · cfg1.N) (fun w => (vals4_arr m c w).symm)
      (fun r hr => vals4_of_ne m c r fun w e => hr (Finset.mem_image.mpr ⟨w, Finset.mem_univ _, e⟩))
    rw [Pipeline.unscopedBufs_held] at hj
    iintro ⟨Ha, HO, HY, Hrest⟩
    imodintro
    isplitl [Ha Hrest HY]
    · isplitl [Ha Hrest]
      · iapply hj; isplitl [Ha] <;> iassumption
      iexact HY
    unfold Pipeline.Dat.owesAt Pipeline.owesWithin
    icases HO with ⟨%W, -, HO⟩; iexists W; iexact HO

/-! ## The run -/

abbrev parts : List (Pipeline.Seg (pcfgs (F := F)) adm (pdats m) () defs₀ Variants.none noLevels level) :=
  [ .host (hostPart hostOps0 hostOps0_sub hostOps0_fresh (vals0 m)),
    .region (kernel0 m),
    .host (hostPart hostOps1 hostOps1_sub hostOps1_fresh (vals2 m)),
    .region (kernel1 m) ]
theorem main_parts (c : Dev nD) : main (F := F) c = Pipeline.Seg.run (parts m) := (main_chain c).trans (by chain_rfl)
theorem all_scoped : ∀ sm : SemLoc sig, sm.isScoped .tc = true := by decide

set_option backward.isDefEq.respectTransparency.types false in
/-- Run from any memory with every semaphore at zero, the program ends with its results at what the pipelines leave, its arguments as
    launched and every semaphore at zero. -/
theorem run_main : θ_run defs (onTc (τ := τ) (main (F := F))) ⟨m, fun _ => 0, ρ⟩ (fun r => (∀ c : Dev nD,
      r.2.mem ((c.tc : Thread nD τ).loc main_v9_0) = (data0 (in0 m) c).arrAt 5 cfg0.N
      ∧ r.2.mem ((c.tc : Thread nD τ).loc main_v9_1) = (data0 (in0 m) c).arrAt 6 cfg0.N
      ∧ r.2.mem ((c.tc : Thread nD τ).loc main_v12_0) = (data1 (in1 m) c).arrAt 8 cfg1.N
      ∧ r.2.mem ((c.tc : Thread nD τ).loc main_v12_1) = (data1 (in1 m) c).arrAt 9 cfg1.N
      ∧ r.2.mem ((c.tc : Thread nD τ).loc main_v12_2) = (data1 (in1 m) c).arrAt 10 cfg1.N
      ∧ r.2.mem ((c.tc : Thread nD τ).loc main_v12_3) = (data1 (in1 m) c).arrAt 11 cfg1.N
      ∧ r.2.mem ((c.tc : Thread nD τ).loc main_v12_4) = (data1 (in1 m) c).arrAt 12 cfg1.N
      ∧ r.2.mem ((c.tc : Thread nD τ).loc main_v12_5) = (data1 (in1 m) c).arrAt 13 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m) () cellOf_inj emb₁ defs₀ Variants.none noLevels level m ρ main (parts m)
    (fun c Q => by rw [main_parts m c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(heldAt (vals0 m) c ∗ beside c)) (Tₙ := atEnd m)
    (hch := ⟨fun _ => .rfl, fun _ => .rfl, fun _ => .rfl, fun _ => .rfl, fun _ => .rfl⟩)
    (hinit := by
      refine Pipeline.initEach noLevels level fun c => ?_
      rw [show unscopedBufs c (fun b => m ((c : Thread nD τ).loc b)) = StableHlo.held (c : Thread nD τ) (Pipeline.ucRefs τ sig) (vals0 m c)
        from Pipeline.unscopedBufs_held c (vals0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = vals4 m c b)
    (hfin := fun c s' => by
      iintro ⟨⟨Hh, -⟩, HSI⟩
      unfold heldAt StableHlo.held
      imodintro
      iapply (pointsTo_read_all (Pipeline.ucRefs τ sig) (fun b => (((c : Thread nD τ)).1, b)) (vals4 m c) s')
      isplitl [Hh] <;> iassumption)
    (hQ := fun s h hz => ⟨(fun c =>
      have kept := fun (r : Ref sig .tc) (hr : ¬ (Proc.devRef .tc r : DevRef τ sig).isScoped) h0 h1 a0 a1 =>
        (h c _ (held_mem r hr)).trans (vals4_kept m c r h0 h1 a0 a1)
      ⟨(h c _ (held_mem main_v9_0 (by decide))).trans (vals4_fwd m c 5 (by decide) (by decide)),
       (h c _ (held_mem main_v9_1 (by decide))).trans (vals4_fwd m c 6 (by decide) (by decide)),
       (h c _ (held_mem main_v12_0 (by decide))).trans (vals4_arr m c 8),
       (h c _ (held_mem main_v12_1 (by decide))).trans (vals4_arr m c 9),
       (h c _ (held_mem main_v12_2 (by decide))).trans (vals4_arr m c 10),
       (h c _ (held_mem main_v12_3 (by decide))).trans (vals4_arr m c 11),
       (h c _ (held_mem main_v12_4 (by decide))).trans (vals4_arr m c 12),
       (h c _ (held_mem main_v12_5 (by decide))).trans (vals4_arr m c 13),
       kept main_arg0 (by decide) (by decide) (by decide) (by decide) (by decide),
       kept main_arg1 (by decide) (by decide) (by decide) (by decide) (by decide),
       (h c _ (held_mem main_arg2 (by decide))).trans (vals4_arg2 m c),
       kept main_arg3 (by decide) (by decide) (by decide) (by decide) (by decide),
       kept main_arg4 (by decide) (by decide) (by decide) (by decide) (by decide),
       kept main_arg5 (by decide) (by decide) (by decide) (by decide) (by decide)⟩),
      funext fun g => hz g (.inr (all_scoped g.2))⟩)

/-- The frame: the arguments end as launched, every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2.2.2.2.2.2.2.2, h.2⟩) (run_main m ρ)

end Cert.Ffn
-- ==== Proof.FfnValue.lean ====
/- The eight arrays the feed-forward layer's two kernels return, on real arguments. -/
module

public import proofs.«01_k».proof.Proof.FfnRun
public import proofs.«01_k».proof.Proof.FfnTile
public import Idealize.ShloMosaic.Lib.Claim
public import Idealize.ShloMosaic.Lib.Pipeline.ValueKit

@[expose] public section

set_option maxRecDepth 16384

noncomputable section

namespace Cert.Ffn

open Idealize.ShloMosaic Idealize.ShloMosaic.TcCoe Cert.Norm
open Cert.FfnIdeal Cert.FfnIdeal.Gen
open Idealize.ShloMosaic.Pipeline (Dat)

/-! ## Rows, column tiles and sums over tiles -/

theorem idx0 : ∀ t : Fin cfg0.N, win0_0.index t = ![t.val / 11, 0] ∧ win0_1.index t = ![0, 0] ∧ win0_2.index t = ![t.val % 11, 0]
    ∧ win0_3.index t = ![t.val % 11, 0] ∧ win0_4.index t = ![t.val % 11, 0] ∧ win0_5.index t = ![t.val / 11, 0] ∧ win0_6.index t = ![t.val / 11, 0]
    ∧ win0_7.index t = ![t.val / 11, t.val % 11] ∧ win0_8.index t = ![t.val / 11, t.val % 11] := (by decide +kernel : ∀ t : Fin grid0.N, _)
theorem idx1 : ∀ t : Fin cfg1.N, win1_0.index t = ![t.val / 11, 0] ∧ win1_1.index t = ![t.val / 11, 0] ∧ win1_2.index t = ![0, 0]
    ∧ win1_3.index t = ![t.val / 11, t.val % 11] ∧ win1_4.index t = ![t.val / 11, t.val % 11] ∧ win1_5.index t = ![t.val % 11, 0]
    ∧ win1_6.index t = ![t.val % 11, 0] ∧ win1_7.index t = ![t.val % 11, 0] ∧ win1_8.index t = ![t.val / 11, 0] ∧ win1_9.index t = ![0, 0]
    ∧ win1_10.index t = ![t.val / 11, 0] ∧ win1_11.index t = ![t.val / 11, t.val % 11] ∧ win1_12.index t = ![t.val / 11, t.val % 11]
    ∧ win1_13.index t = ![t.val / 11, t.val % 11] := (by decide +kernel : ∀ t : Fin grid1.N, _)

/-- Row `i` of the block of rows grid point `n` works on, -/
def row (n : Fin 176) (i : Fin 512) : Fin 8192 := ⟨n.val / 11 * 512 + i.val, by omega⟩
/-- and column `s` of its tile of columns. -/
def col (n : Fin 176) (s : Fin 256) : Fin 2816 := ⟨n.val % 11 * 256 + s.val, by omega⟩
abbrev pt0 (t : Fin cfg0.N) : Fin 176 := ⟨t.val, lt_of_lt_of_eq t.isLt N_0⟩
abbrev pt1 (t : Fin cfg1.N) : Fin 176 := ⟨t.val, lt_of_lt_of_eq t.isLt N_1⟩

/-- The backward grid's last point. -/
def last : Fin cfg1.N := ⟨175, lt_of_lt_of_eq (by omega) N_1.symm⟩

/-- A sum over column tile `q`, zero behind the last tile. -/
def tile (f : Fin 2816 → ℝ) (q : ℕ) : ℝ := ∑ s : Fin 256, if h : q * 256 + s.val < 2816 then f ⟨q * 256 + s.val, h⟩ else 0
theorem tile_at (f : Fin 2816 → ℝ) (n : Fin 176) : tile f (n.val % 11) = ∑ s, f (col n s) :=
  Finset.sum_congr rfl fun s _ => dif_pos _
theorem tile_all (f : Fin 2816 → ℝ) : ∑ q ∈ Finset.range 11, tile f q = ∑ n, f n := by
  refine (Fin.sum_univ_eq_sum_range _ 11).symm.trans ?_
  refine Fin.sum_mul_add_congr fun s k hl => ?_
  rw [dif_pos hl]

/-- A sum over the rows of block `q`, zero behind the last block. -/
def rows (f : Fin 8192 → ℝ) (q : ℕ) : ℝ := ∑ i : Fin 512, if h : q * 512 + i.val < 8192 then f ⟨q * 512 + i.val, h⟩ else 0
theorem rows_at (f : Fin 8192 → ℝ) (n : Fin 176) : rows f (n.val / 11) = ∑ i, f (row n i) :=
  Finset.sum_congr rfl fun i _ => dif_pos _
theorem rows_all (f : Fin 8192 → ℝ) : ∑ q ∈ Finset.range 16, rows f q = ∑ r, f r := by
  refine (Fin.sum_univ_eq_sum_range _ 16).symm.trans ?_
  refine Fin.sum_mul_add_congr fun s k hl => ?_
  rw [dif_pos hl]

theorem row_pred (n : ℕ) (h : n + 1 < 176) (h0 : (n + 1) % 11 ≠ 0) (i : Fin 512) : row ⟨n + 1, h⟩ i = row ⟨n, by omega⟩ i :=
  Fin.ext (by simp only [row]; omega)
/-- Inside a row of tiles the sum a point finds is the one over the tiles before its own. -/
theorem carried (f : Fin 8192 → Fin 2816 → ℝ) (n : ℕ) (h : n + 1 < 176) (h0 : (n + 1) % 11 ≠ 0) (i : Fin 512) :
    ∑ q ∈ Finset.range (n % 11 + 1), tile (f (row ⟨n, by omega⟩ i)) q = ∑ q ∈ Finset.range ((n + 1) % 11), tile (f (row ⟨n + 1, h⟩ i)) q := by
  rw [row_pred n h h0 i, show (n + 1) % 11 = n % 11 + 1 by omega]

/-- An array whose entries are the real numbers `f`. -/
def mat {k l : ℕ} (f : Fin k → Fin l → ℝ) : (⟨2, ![k, l]⟩ : Shape).Idx → EReal := fun j => (f (j 0) (j 1) : EReal)

section
variable (m : (ℓ : Loc nD τ sig) → Buf (Elt Ideal) ℓ) (c : Dev nD)

/-- The arguments are the real arrays `A`. -/
structure Holds (A : Args) : Prop where
  t : ∀ r d, (show FVec Ideal S1x8192x1024 .f32 from m ((c : Thread nD τ).loc main_arg0)) (ix3 0 r d) = (A.t r d : EReal)
  x : ∀ r d, (show FVec Ideal S1x8192x1024 .f32 from m ((c : Thread nD τ).loc main_arg1)) (ix3 0 r d) = (A.x r d : EReal)
  g : ∀ d, (show FVec Ideal S1x1024 .f32 from m ((c : Thread nD τ).loc main_arg2)) (ix2 0 d) = (A.g d : EReal)
  w1 : ∀ d n, (show FVec Ideal S1x1024x2816 .f32 from m ((c : Thread nD τ).loc main_arg3)) (ix3 0 d n) = (A.w1 d n : EReal)
  w3 : ∀ d n, (show FVec Ideal S1x1024x2816 .f32 from m ((c : Thread nD τ).loc main_arg4)) (ix3 0 d n) = (A.w3 d n : EReal)
  w2 : ∀ n d, (show FVec Ideal S1x2816x1024 .f32 from m ((c : Thread nD τ).loc main_arg5)) (ix3 0 n d) = (A.w2 n d : EReal)

variable {m c} {A : Args} (H : Holds m c A)
include H

/-! ## What the host hands the forward kernel -/

theorem host_w1 (n : Fin 2816) (d : Fin 1024) :
    (show Vec Ideal S2816x1024 .bf16 from StableHlo.after hostOps0 (vals0 m c) (Proc.devRef .tc main_v2)) (ix2 n d) = (A.w1 d n : EReal) := by
  entry_read
  pointwise
  exact H.w1 d n
theorem host_w3 (n : Fin 2816) (d : Fin 1024) :
    (show Vec Ideal S2816x1024 .bf16 from StableHlo.after hostOps0 (vals0 m c) (Proc.devRef .tc main_v5)) (ix2 n d) = (A.w3 d n : EReal) := by
  entry_read
  pointwise
  exact H.w3 d n
theorem host_w2 (n : Fin 2816) (d : Fin 1024) :
    (show Vec Ideal S2816x1024 .bf16 from StableHlo.after hostOps0 (vals0 m c) (Proc.devRef .tc main_v7)) (ix2 n d) = (A.w2 n d : EReal) := by
  entry_read
  pointwise
  exact H.w2 n d
theorem host_x (r : Fin 8192) (d : Fin 1024) :
    (show Vec Ideal S8192x1024 .f32 from StableHlo.after hostOps0 (vals0 m c) (Proc.devRef .tc main_v8)) (ix2 r d) = (A.x r d : EReal) := by
  entry_read
  pointwise
  exact H.x r d
theorem host_g (d : Fin 1024) :
    (show Vec Ideal S1x1024 .f32 from vals1 m c (Proc.devRef .tc main_arg2)) (ix2 0 d) = (A.g d : EReal) :=
  (congrFun (vals1_of m c main_arg2 (by decide)) _).trans (H.g d)

theorem blk0_x (t : Fin cfg0.N) (i : Fin 512) (k : Fin 1024) :
    (show Vec Ideal S512x1024 .f32 from blk0 (in0 m) c 0 t) (ix2 i k) = (A.x (row (pt0 t) i) k : EReal) := by
  rw [← host_x H]
  blk_point [blk0, row, idx0 t]
theorem blk0_g (t : Fin cfg0.N) (k : Fin 1024) :
    (show Vec Ideal S1x1024 .f32 from blk0 (in0 m) c 1 t) (ix2 0 k) = (A.g k : EReal) := by
  rw [← host_g H]
  blk_point [blk0, idx0 t]
theorem blk0_w1 (t : Fin cfg0.N) (s : Fin 256) (k : Fin 1024) :
    (show Vec Ideal S256x1024 .bf16 from blk0 (in0 m) c 2 t) (ix2 s k) = (A.w1 k (col (pt0 t) s) : EReal) := by
  rw [← host_w1 H]
  blk_point [blk0, col, idx0 t]
theorem blk0_w3 (t : Fin cfg0.N) (s : Fin 256) (k : Fin 1024) :
    (show Vec Ideal S256x1024 .bf16 from blk0 (in0 m) c 3 t) (ix2 s k) = (A.w3 k (col (pt0 t) s) : EReal) := by
  rw [← host_w3 H]
  blk_point [blk0, col, idx0 t]
theorem blk0_w2 (t : Fin cfg0.N) (s : Fin 256) (k : Fin 1024) :
    (show Vec Ideal S256x1024 .bf16 from blk0 (in0 m) c 4 t) (ix2 s k) = (A.w2 (col (pt0 t) s) k : EReal) := by
  rw [← host_w2 H]
  blk_point [blk0, col, idx0 t]

/-! ## The forward kernel -/

omit H in
/-- What the two scratch buffers and the kept output hold after point `n`. -/
def After0 (A : Args) (n : Fin 176) (s : Vec Ideal S512x1024 .bf16 × Vec Ideal S512x1024 .f32 × Vec Ideal S512x1024 .bf16) : Prop :=
  (∀ i d, s.1 (ix2 i d) = (A.h (row n i) d : EReal))
    ∧ (∀ i d, s.2.1 (ix2 i d) = ((∑ q ∈ Finset.range (n.val % 11 + 1), tile (fun k => A.u (row n i) k * A.w2 k d) q : ℝ) : EReal))
    ∧ ∀ i d, s.2.2 (ix2 i d) = (A.h (row n i) d : EReal)

theorem step0_real (t : Fin cfg0.N) (s : Vec Ideal S512x1024 .bf16 × Vec Ideal S512x1024 .f32 × Vec Ideal S512x1024 .bf16)
    (hs : t.val % 11 ≠ 0 → ∀ h : t.val - 1 < 176, After0 A ⟨t.val - 1, h⟩ s) : After0 A (pt0 t) (step0 (in0 m) c t s) := by
  have e0 : ∀ i d, (hs0 (grid0.coords t) (blk0 (in0 m) c 0 t) (blk0 (in0 m) c 1 t) s.1 : Vec Ideal S512x1024 .bf16) (ix2 i d) = (A.h (row (pt0 t) i) d : EReal) := by
    intro i d
    unfold hs0
    by_cases h : t.val % 11 = 0
    · rw [if_pos ((c0_1 t).mpr h)]
      exact norm_tile' _ _ (fun i => A.x (row (pt0 t) i)) A.g (blk0_x H t) (blk0_g H t) i d
    · rw [if_neg fun e => h ((c0_1 t).mp e), (hs h (by have := (pt0 t).isLt; simp at this; omega)).1 i d]
      obtain ⟨_ | n, hn⟩ := t
      · exact absurd rfl h
      · exact congrArg (fun r => (A.h r d : EReal)) (row_pred n (lt_of_lt_of_eq hn N_0) h i).symm
  refine ⟨e0, fun i d => ?_, fun i d => ?_⟩
  · refine (acc_tile _ _ _ _ _ (fun i => A.h (row (pt0 t) i)) (fun s k => A.w1 k (col (pt0 t) s)) (fun s k => A.w3 k (col (pt0 t) s))
      (fun s k => A.w2 (col (pt0 t) s) k) e0 (blk0_w1 H t) (blk0_w3 H t) (blk0_w2 H t) i d).trans ?_
    have ht : tile (fun k => A.u (row (pt0 t) i) k * A.w2 k d) (t.val % 11)
      = ∑ s, ((∑ d, A.h (row (pt0 t) i) d * A.w1 d (col (pt0 t) s)) * sg (∑ d, A.h (row (pt0 t) i) d * A.w1 d (col (pt0 t) s))
          * ∑ d, A.h (row (pt0 t) i) d * A.w3 d (col (pt0 t) s)) * A.w2 (col (pt0 t) s) d := tile_at _ (pt0 t)
    rw [← ht, Finset.sum_range_succ, EReal.coe_add]
    refine congrArg (fun z : EReal => z + _) ?_
    by_cases h : t.val % 11 = 0
    · rw [if_pos ((c0_1 t).mpr h), h]
      pointwise [k0_pay3]
      simp
    · rw [if_neg fun e => h ((c0_1 t).mp e), (hs h (by have := (pt0 t).isLt; simp at this; omega)).2.1 i d]
      obtain ⟨_ | n, hn⟩ := t
      · exact absurd rfl h
      · exact congrArg (fun z : ℝ => (z : EReal)) (carried (fun r k => A.u r k * A.w2 k d) n (lt_of_lt_of_eq hn N_0) h i)
  · show ho0 _ _ _ _ _ = _
    unfold ho0
    by_cases h : t.val % 11 = 0
    · rw [if_pos ((c0_1 t).mpr h)]
      exact norm_tile _ _ (fun i => A.x (row (pt0 t) i)) A.g (blk0_x H t) (blk0_g H t) i d
    · rw [if_neg fun e => h ((c0_1 t).mp e), (hs h (by have := (pt0 t).isLt; simp at this; omega)).2.2 i d]
      obtain ⟨_ | n, hn⟩ := t
      · exact absurd rfl h
      · exact congrArg (fun r => (A.h r d : EReal)) (row_pred n (lt_of_lt_of_eq hn N_0) h i).symm

theorem st0_real : ∀ (n : ℕ) (h : n < cfg0.N), After0 A (pt0 ⟨n, h⟩) (st0 (in0 m) c n h)
  | 0, h => step0_real H ⟨0, h⟩ _ fun e => absurd rfl e
  | n + 1, h => step0_real H ⟨n + 1, h⟩ _ fun _ _ => st0_real n (Nat.lt_of_succ_lt h)

omit H in
theorem emb0_row (t : Fin cfg0.N) (i : Fin 512) (d : Fin 1024) :
    ((cfg0.win 5).blk t).view.emb (ix2 i d : S512x1024.Idx) = (ix2 (row (pt0 t) i) d : S8192x1024.Idx) := by
  blk_ext [row, idx0 t]

/-- The forward kernel leaves the layer's result, -/
theorem final_x3 : (data0 (in0 m) c).arrAt 5 cfg0.N = mat A.x3 := by
  refine (data0 (in0 m) c).arrAt_eq_of_covers 5 _ (by decide +kernel) fun t hf y => ?_
  have ht : t.val % 11 = 10 := (flush0_5 t).mp hf
  blk_simp
  rw [data0_after5]
  change S512x1024.Idx at y
  idx_vars y
  rw [emb0_row]
  refine (res_tile _ _ y0 y1 _ _ (blk0_x H t y0 y1) ((st0_real H t.val t.isLt).2.1 y0 y1)).trans ?_
  change ((_ : ℝ) : EReal) = ((A.x3 (row (pt0 t) y0) y1 : ℝ) : EReal)
  rw [Args.x3, show (pt0 t).val % 11 + 1 = 11 by simp only; omega, tile_all]
/-- the normalised rows -/
theorem final_h : (data0 (in0 m) c).arrAt 6 cfg0.N = mat A.h := by
  refine (data0 (in0 m) c).arrAt_eq_of_covers 6 _ (by decide +kernel) fun t hf y => ?_
  blk_simp
  rw [data0_after6]
  change S512x1024.Idx at y
  idx_vars y
  have e : ((cfg0.win 6).blk t).view.emb (ix2 y0 y1 : S512x1024.Idx) = (ix2 (row (pt0 t) y0) y1 : S8192x1024.Idx) := by
    blk_ext [row, idx0 t]
  rw [e]
  exact (st0_real H t.val t.isLt).2.2 y0 y1
/-- and their two products. -/
theorem final_a : (data0 (in0 m) c).arrAt 7 cfg0.N = mat A.a := by
  refine (data0 (in0 m) c).arrAt_eq_of_covers 7 _ (by decide +kernel) fun t hf y => ?_
  blk_simp
  rw [data0_after7]
  change S512x256.Idx at y
  idx_vars y
  have e : ((cfg0.win 7).blk t).view.emb (ix2 y0 y1 : S512x256.Idx) = (ix2 (row (pt0 t) y0) (col (pt0 t) y1) : S8192x2816.Idx) := by
    blk_ext [row, col, idx0 t]
  rw [e]
  have p := prod_tile _ _ (fun i => A.h (row (pt0 t) i)) (fun s k => A.w1 k (col (pt0 t) s)) (st0_real H t.val t.isLt).1 (blk0_w1 H t) y0 y1
  pointwise [k0_pay6]
  exact p
theorem final_b : (data0 (in0 m) c).arrAt 8 cfg0.N = mat A.b := by
  refine (data0 (in0 m) c).arrAt_eq_of_covers 8 _ (by decide +kernel) fun t hf y => ?_
  blk_simp
  rw [data0_after8]
  change S512x256.Idx at y
  idx_vars y
  have e : ((cfg0.win 8).blk t).view.emb (ix2 y0 y1 : S512x256.Idx) = (ix2 (row (pt0 t) y0) (col (pt0 t) y1) : S8192x2816.Idx) := by
    blk_ext [row, col, idx0 t]
  rw [e]
  have p := prod_tile' _ _ (fun i => A.h (row (pt0 t) i)) (fun s k => A.w3 k (col (pt0 t) s)) (st0_real H t.val t.isLt).1 (blk0_w3 H t) y0 y1
  pointwise [k0_pay7]
  exact p

/-! ## What the backward kernel is handed -/

theorem entry_t (r : Fin 8192) (d : Fin 1024) :
    (show Vec Ideal S8192x1024 .f32 from StableHlo.after hostOps1 (vals2 m c) (Proc.devRef .tc main_v10)) (ix2 r d) = (A.t r d : EReal) := by
  entry_read
  pointwise
  exact (congrFun ((vals2_of_ne m c main_arg0 (by decide)).trans (vals1_of m c main_arg0 (by decide))) _).trans (H.t r d)
theorem entry_x (r : Fin 8192) (d : Fin 1024) :
    (show Vec Ideal S8192x1024 .f32 from StableHlo.after hostOps1 (vals2 m c) (Proc.devRef .tc main_v11)) (ix2 r d) = (A.x r d : EReal) := by
  entry_read
  pointwise
  exact (congrFun ((vals2_of_ne m c main_arg1 (by decide)).trans (vals1_of m c main_arg1 (by decide))) _).trans (H.x r d)
/-- A forward argument the backward kernel reads too holds what the forward kernel was handed. -/
theorem entry_kept (r : Ref sig .tc) (h1 : r ∉ hostOps1_W) (w : Fin cfg0.W) (hr : Pipeline.arrRef spec0 w = r)
    (hw : (data0 (in0 m) c).arrAt w cfg0.N = in0 m c (Pipeline.arrRef spec0 w)) :
    vals3 m c (Proc.devRef .tc r) = vals1 m c (Proc.devRef .tc r) := by
  subst hr
  exact (vals3_of m c _ h1).trans ((vals2_arr m c w).trans hw)
theorem entry_g (d : Fin 1024) : (show Vec Ideal S1x1024 .f32 from vals3 m c (Proc.devRef .tc main_arg2)) (ix2 0 d) = (A.g d : EReal) :=
  (congrFun (entry_kept H main_arg2 (by decide) 1 rfl ((data0 (in0 m) c).arrAt_in 1 rfl _)) _).trans (host_g H d)
theorem entry_w1 (n : Fin 2816) (d : Fin 1024) : (show Vec Ideal S2816x1024 .bf16 from vals3 m c (Proc.devRef .tc main_v2)) (ix2 n d) = (A.w1 d n : EReal) :=
  (congrFun (entry_kept H main_v2 (by decide) 2 rfl ((data0 (in0 m) c).arrAt_in 2 rfl _)) _).trans (host_w1 H n d)
theorem entry_w3 (n : Fin 2816) (d : Fin 1024) : (show Vec Ideal S2816x1024 .bf16 from vals3 m c (Proc.devRef .tc main_v5)) (ix2 n d) = (A.w3 d n : EReal) :=
  (congrFun (entry_kept H main_v5 (by decide) 3 rfl ((data0 (in0 m) c).arrAt_in 3 rfl _)) _).trans (host_w3 H n d)
theorem entry_w2 (n : Fin 2816) (d : Fin 1024) : (show Vec Ideal S2816x1024 .bf16 from vals3 m c (Proc.devRef .tc main_v7)) (ix2 n d) = (A.w2 n d : EReal) :=
  (congrFun (entry_kept H main_v7 (by decide) 4 rfl ((data0 (in0 m) c).arrAt_in 4 rfl _)) _).trans (host_w2 H n d)
theorem entry_a (r : Fin 8192) (n : Fin 2816) : (show Vec Ideal S8192x2816 .bf16 from vals3 m c (Proc.devRef .tc main_v9_2)) (ix2 r n) = (A.a r n : EReal) :=
  congrFun ((vals3_of m c main_v9_2 (by decide)).trans ((vals2_arr m c 7).trans (final_a H))) _
theorem entry_b (r : Fin 8192) (n : Fin 2816) : (show Vec Ideal S8192x2816 .bf16 from vals3 m c (Proc.devRef .tc main_v9_3)) (ix2 r n) = (A.b r n : EReal) :=
  congrFun ((vals3_of m c main_v9_3 (by decide)).trans ((vals2_arr m c 8).trans (final_b H))) _

theorem blk1_t (t : Fin cfg1.N) (i : Fin 512) (k : Fin 1024) :
    (show Vec Ideal S512x1024 .f32 from blk1 (in1 m) c 0 t) (ix2 i k) = (A.t (row (pt1 t) i) k : EReal) := by
  rw [← entry_t H]
  blk_point [blk1, row, idx1 t]
theorem blk1_x (t : Fin cfg1.N) (i : Fin 512) (k : Fin 1024) :
    (show Vec Ideal S512x1024 .f32 from blk1 (in1 m) c 1 t) (ix2 i k) = (A.x (row (pt1 t) i) k : EReal) := by
  rw [← entry_x H]
  blk_point [blk1, row, idx1 t]
theorem blk1_g (t : Fin cfg1.N) (k : Fin 1024) :
    (show Vec Ideal S1x1024 .f32 from blk1 (in1 m) c 2 t) (ix2 0 k) = (A.g k : EReal) := by
  rw [← entry_g H]
  blk_point [blk1, idx1 t]
theorem blk1_a (t : Fin cfg1.N) (i : Fin 512) (s : Fin 256) :
    (show Vec Ideal S512x256 .bf16 from blk1 (in1 m) c 3 t) (ix2 i s) = (A.a (row (pt1 t) i) (col (pt1 t) s) : EReal) := by
  rw [← entry_a H]
  blk_point [blk1, row, col, idx1 t]
theorem blk1_b (t : Fin cfg1.N) (i : Fin 512) (s : Fin 256) :
    (show Vec Ideal S512x256 .bf16 from blk1 (in1 m) c 4 t) (ix2 i s) = (A.b (row (pt1 t) i) (col (pt1 t) s) : EReal) := by
  rw [← entry_b H]
  blk_point [blk1, row, col, idx1 t]
theorem blk1_w1 (t : Fin cfg1.N) (s : Fin 256) (k : Fin 1024) :
    (show Vec Ideal S256x1024 .bf16 from blk1 (in1 m) c 5 t) (ix2 s k) = (A.w1 k (col (pt1 t) s) : EReal) := by
  rw [← entry_w1 H]
  blk_point [blk1, col, idx1 t]
theorem blk1_w3 (t : Fin cfg1.N) (s : Fin 256) (k : Fin 1024) :
    (show Vec Ideal S256x1024 .bf16 from blk1 (in1 m) c 6 t) (ix2 s k) = (A.w3 k (col (pt1 t) s) : EReal) := by
  rw [← entry_w3 H]
  blk_point [blk1, col, idx1 t]
theorem blk1_w2 (t : Fin cfg1.N) (s : Fin 256) (k : Fin 1024) :
    (show Vec Ideal S256x1024 .bf16 from blk1 (in1 m) c 7 t) (ix2 s k) = (A.w2 (col (pt1 t) s) k : EReal) := by
  rw [← entry_w2 H]
  blk_point [blk1, col, idx1 t]

/-! ## The backward kernel -/

omit H in
/-- What the two scratch buffers and the kept output hold after point `n`. -/
def After1 (A : Args) (n : Fin 176) (s : Vec Ideal S512x1024 .bf16 × Vec Ideal S512x1024 .f32 × Vec Ideal S512x1024 .bf16) : Prop :=
  (∀ i d, s.1 (ix2 i d) = (A.dz (row n i) d : EReal))
    ∧ (∀ i d, s.2.1 (ix2 i d) = ((∑ q ∈ Finset.range (n.val % 11 + 1),
        tile (fun k => A.da (row n i) k * A.w1 d k + A.db (row n i) k * A.w3 d k) q : ℝ) : EReal))
    ∧ ∀ i d, s.2.2 (ix2 i d) = (A.dz (row n i) d : EReal)

/-- The two gradients in the products and the hidden units, a tile of columns at a time. -/
theorem tiles1 (t : Fin cfg1.N) (z : Vec Ideal S512x1024 .bf16) (hz : ∀ i d, z (ix2 i d) = (A.dz (row (pt1 t) i) d : EReal)) (i : Fin 512) (s : Fin 256) :
    (k1_pay17 z (blk1 (in1 m) c 7 t) (blk1 (in1 m) c 3 t) (blk1 (in1 m) c 4 t) : Vec Ideal S512x256 .bf16) (ix2 i s) = (A.da (row (pt1 t) i) (col (pt1 t) s) : EReal)
      ∧ (k1_pay16 z (blk1 (in1 m) c 7 t) (blk1 (in1 m) c 3 t) : Vec Ideal S512x256 .bf16) (ix2 i s) = (A.db (row (pt1 t) i) (col (pt1 t) s) : EReal) :=
  ⟨da_tile _ _ _ _ (fun i => A.dz (row (pt1 t) i)) (fun s k => A.w2 (col (pt1 t) s) k) (fun i s => A.a (row (pt1 t) i) (col (pt1 t) s))
      (fun i s => A.b (row (pt1 t) i) (col (pt1 t) s)) hz (blk1_w2 H t) (blk1_a H t) (blk1_b H t) i s,
    db_tile _ _ _ (fun i => A.dz (row (pt1 t) i)) (fun s k => A.w2 (col (pt1 t) s) k) (fun i s => A.a (row (pt1 t) i) (col (pt1 t) s)) hz
      (blk1_w2 H t) (blk1_a H t) i s⟩

theorem step1_real (t : Fin cfg1.N) (s : Vec Ideal S512x1024 .bf16 × Vec Ideal S512x1024 .f32 × Vec Ideal S512x1024 .bf16)
    (hs : t.val % 11 ≠ 0 → ∀ h : t.val - 1 < 176, After1 A ⟨t.val - 1, h⟩ s) : After1 A (pt1 t) (step1 (in1 m) c t s) := by
  have e0 : ∀ i d, (dzs1 (grid1.coords t) (blk1 (in1 m) c 0 t) s.1 : Vec Ideal S512x1024 .bf16) (ix2 i d) = (A.dz (row (pt1 t) i) d : EReal) := by
    intro i d
    unfold dzs1
    by_cases h : t.val % 11 = 0
    · rw [if_pos ((c1_1 t).mpr h)]
      exact dz_tile' _ i d _ (blk1_t H t i d)
    · rw [if_neg fun e => h ((c1_1 t).mp e), (hs h (by have := (pt1 t).isLt; simp at this; omega)).1 i d]
      obtain ⟨_ | n, hn⟩ := t
      · exact absurd rfl h
      · exact congrArg (fun r => (A.dz r d : EReal)) (row_pred n (lt_of_lt_of_eq hn N_1) h i).symm
  refine ⟨e0, fun i d => ?_, fun i d => ?_⟩
  · refine (dh_tile _ _ _ _ _ (fun i s => A.db (row (pt1 t) i) (col (pt1 t) s)) (fun i s => A.da (row (pt1 t) i) (col (pt1 t) s))
      (fun s k => A.w1 k (col (pt1 t) s)) (fun s k => A.w3 k (col (pt1 t) s)) (fun i s => (tiles1 H t _ e0 i s).2) (fun i s => (tiles1 H t _ e0 i s).1)
      (blk1_w1 H t) (blk1_w3 H t) i d).trans ?_
    have ht : tile (fun k => A.da (row (pt1 t) i) k * A.w1 d k + A.db (row (pt1 t) i) k * A.w3 d k) (t.val % 11)
      = ∑ s, (A.da (row (pt1 t) i) (col (pt1 t) s) * A.w1 d (col (pt1 t) s) + A.db (row (pt1 t) i) (col (pt1 t) s) * A.w3 d (col (pt1 t) s)) :=
      tile_at _ (pt1 t)
    rw [← ht, Finset.sum_range_succ, EReal.coe_add]
    refine congrArg (fun z : EReal => z + _) ?_
    by_cases h : t.val % 11 = 0
    · rw [if_pos ((c1_1 t).mpr h), h]
      pointwise [k1_pay10]
      simp
    · rw [if_neg fun e => h ((c1_1 t).mp e), (hs h (by have := (pt1 t).isLt; simp at this; omega)).2.1 i d]
      obtain ⟨_ | n, hn⟩ := t
      · exact absurd rfl h
      · exact congrArg (fun z : ℝ => (z : EReal)) (carried (fun r k => A.da r k * A.w1 d k + A.db r k * A.w3 d k) n (lt_of_lt_of_eq hn N_1) h i)
  · show dzo1 _ _ _ _ = _
    unfold dzo1
    by_cases h : t.val % 11 = 0
    · rw [if_pos ((c1_1 t).mpr h)]
      exact dz_tile _ i d _ (blk1_t H t i d)
    · rw [if_neg fun e => h ((c1_1 t).mp e), (hs h (by have := (pt1 t).isLt; simp at this; omega)).2.2 i d]
      obtain ⟨_ | n, hn⟩ := t
      · exact absurd rfl h
      · exact congrArg (fun r => (A.dz r d : EReal)) (row_pred n (lt_of_lt_of_eq hn N_1) h i).symm

theorem st1_real : ∀ (n : ℕ) (h : n < cfg1.N), After1 A (pt1 ⟨n, h⟩) (st1 (in1 m) c n h)
  | 0, h => step1_real H ⟨0, h⟩ _ fun e => absurd rfl e
  | n + 1, h => step1_real H ⟨n + 1, h⟩ _ fun _ _ => st1_real n (Nat.lt_of_succ_lt h)

/-- At a row's last point the gradient in the normalised rows is whole. -/
theorem dh_real (t : Fin cfg1.N) (ht : t.val % 11 = 10) (i : Fin 512) (d : Fin 1024) :
    (st1 (in1 m) c t.val t.isLt).2.1 (ix2 i d) = (A.dh (row (pt1 t) i) d : EReal) := by
  rw [(st1_real H t.val t.isLt).2.1 i d, show (pt1 t).val % 11 + 1 = 11 by simp only; omega, tile_all]
  rfl

/-- The backward kernel leaves the gradients: in the residual stream, -/
theorem final_dx : (data1 (in1 m) c).arrAt 8 cfg1.N = mat A.dx := by
  refine (data1 (in1 m) c).arrAt_eq_of_covers 8 _ (by decide +kernel) fun t hf y => ?_
  have ht : t.val % 11 = 10 := (flush1_8 t).mp hf
  blk_simp
  rw [data1_after8]
  change S512x1024.Idx at y
  idx_vars y
  have e : ((cfg1.win 8).blk t).view.emb (ix2 y0 y1 : S512x1024.Idx) = (ix2 (row (pt1 t) y0) y1 : S8192x1024.Idx) := by
    blk_ext [row, idx1 t]
  rw [e]
  exact dx_tile _ _ _ _ (fun i => A.x (row (pt1 t) i)) (fun i => A.dh (row (pt1 t) i)) (fun i => A.t (row (pt1 t) i)) A.g
    (blk1_x H t) (dh_real H t ht) (blk1_t H t) (blk1_g H t) y0 y1
/-- in the gated block's result, -/
theorem final_dz : (data1 (in1 m) c).arrAt 10 cfg1.N = mat A.dz := by
  refine (data1 (in1 m) c).arrAt_eq_of_covers 10 _ (by decide +kernel) fun t hf y => ?_
  blk_simp
  rw [data1_after10]
  change S512x1024.Idx at y
  idx_vars y
  have e : ((cfg1.win 10).blk t).view.emb (ix2 y0 y1 : S512x1024.Idx) = (ix2 (row (pt1 t) y0) y1 : S8192x1024.Idx) := by
    blk_ext [row, idx1 t]
  rw [e]
  exact (st1_real H t.val t.isLt).2.2 y0 y1
/-- in the two products -/
theorem final_da : (data1 (in1 m) c).arrAt 11 cfg1.N = mat A.da := by
  refine (data1 (in1 m) c).arrAt_eq_of_covers 11 _ (by decide +kernel) fun t hf y => ?_
  blk_simp
  rw [data1_after11]
  change S512x256.Idx at y
  idx_vars y
  have e : ((cfg1.win 11).blk t).view.emb (ix2 y0 y1 : S512x256.Idx) = (ix2 (row (pt1 t) y0) (col (pt1 t) y1) : S8192x2816.Idx) := by
    blk_ext [row, col, idx1 t]
  rw [e]
  exact (tiles1 H t _ (st1_real H t.val t.isLt).1 y0 y1).1
theorem final_db : (data1 (in1 m) c).arrAt 12 cfg1.N = mat A.db := by
  refine (data1 (in1 m) c).arrAt_eq_of_covers 12 _ (by decide +kernel) fun t hf y => ?_
  blk_simp
  rw [data1_after12]
  change S512x256.Idx at y
  idx_vars y
  have e : ((cfg1.win 12).blk t).view.emb (ix2 y0 y1 : S512x256.Idx) = (ix2 (row (pt1 t) y0) (col (pt1 t) y1) : S8192x2816.Idx) := by
    blk_ext [row, col, idx1 t]
  rw [e]
  exact (tiles1 H t _ (st1_real H t.val t.isLt).1 y0 y1).2
/-- and beside them the hidden units. -/
theorem final_u : (data1 (in1 m) c).arrAt 13 cfg1.N = mat A.u := by
  refine (data1 (in1 m) c).arrAt_eq_of_covers 13 _ (by decide +kernel) fun t hf y => ?_
  blk_simp
  rw [data1_after13]
  change S512x256.Idx at y
  idx_vars y
  have e : ((cfg1.win 13).blk t).view.emb (ix2 y0 y1 : S512x256.Idx) = (ix2 (row (pt1 t) y0) (col (pt1 t) y1) : S8192x2816.Idx) := by
    blk_ext [row, col, idx1 t]
  rw [e]
  exact u_tile _ _ (fun i s => A.a (row (pt1 t) i) (col (pt1 t) s)) (fun i s => A.b (row (pt1 t) i) (col (pt1 t) s)) (blk1_a H t) (blk1_b H t) y0 y1

/-- A block of rows' part of the gradient in the norm's weight. -/
theorem dg_part (t : Fin cfg1.N) (ht : t.val % 11 = 10) (j : Fin 1024) :
    (k1_pay6 (blk1 (in1 m) c 1 t) (st1 (in1 m) c t.val t.isLt).2.1 : Vec Ideal S1x1024 .f32) (ix2 0 j)
      = (rows (fun r => A.dh r j * (A.x r j * inv (A.x r))) (t.val / 11) : EReal) :=
  (dg_tile _ _ (fun i => A.x (row (pt1 t) i)) (fun i => A.dh (row (pt1 t) i)) (blk1_x H t) (dh_real H t ht) j).trans
    (congrArg _ (rows_at (fun r => A.dh r j * (A.x r j * inv (A.x r))) (pt1 t)).symm)

/-- From the first row's last point on the gradient in the norm's weight holds the parts of the blocks met so far. -/
theorem dg_at (j : Fin 1024) : ∀ (n : ℕ) (h : n < cfg1.N), 10 ≤ n →
    dgAt (in1 m) c n h (ix2 0 j) = ((∑ q ∈ Finset.range ((n + 1) / 11), rows (fun r => A.dh r j * (A.x r j * inv (A.x r))) q : ℝ) : EReal)
  | 0, _, h0 => by omega
  | n + 1, h, h0 => by
    rw [dgAt_step (in1 m) c ⟨n + 1, h⟩ (Nat.succ_ne_zero n)]
    by_cases hp : (n + 1) % 11 = 10
    · have tl := dg_part H ⟨n + 1, h⟩ hp j
      by_cases h3 : n + 1 < 11
      · rw [dgs1, if_pos ((c1_2 ⟨n + 1, h⟩).mpr hp), if_pos ((c1_3 ⟨n + 1, h⟩).mpr h3)]
        refine tl.trans ?_
        obtain rfl : n = 9 := by omega
        simp
      · rw [dgs1, if_pos ((c1_2 ⟨n + 1, h⟩).mpr hp), if_neg fun e => h3 ((c1_3 ⟨n + 1, h⟩).mp e)]
        have ad (p q : Vec Ideal S1x1024 .f32) : (k1_pay2 p q : Vec Ideal S1x1024 .f32) (ix2 0 j) = q (ix2 0 j) + p (ix2 0 j) := by
          pointwise [k1_pay2]
        refine (ad _ _).trans ?_
        rw [tl]
        refine (congrArg (fun z : EReal => z + _) (dg_at j n (Nat.lt_of_succ_lt h) (by omega))).trans ?_
        rw [← EReal.coe_add, show (n + 1 + 1) / 11 = (n + 1) / 11 + 1 by omega, Finset.sum_range_succ]
    · rw [dgs1, if_neg fun e => hp ((c1_2 ⟨n + 1, h⟩).mp e)]
      refine (dg_at j n (Nat.lt_of_succ_lt h) (by omega)).trans ?_
      rw [show (n + 1 + 1) / 11 = (n + 1) / 11 by omega]

/-- In the norm's weight. -/
theorem final_dg : (data1 (in1 m) c).arrAt 9 cfg1.N = mat (k := 1) fun _ => A.dg := by
  refine (data1 (in1 m) c).arrAt_eq_of_after_last 9 last (by decide +kernel) _ fun y => ?_
  blk_simp
  rw [data1_after9]
  change S1x1024.Idx at y
  idx_vars y
  obtain rfl : y0 = 0 := Subsingleton.elim _ _
  refine (dg_at H y1 175 last.isLt (by omega)).trans ?_
  rw [show (175 + 1) / 11 = 16 from rfl, rows_all]
  rfl
end
end Cert.Ffn
-- ==== Proof.FfnClaim.lean ====
/- The feed-forward layer's two kernels against their reference: the finiteness the claim supposes gives the arguments as reals, and on
   reals both programs end with the same eight arrays. -/
module

public import proofs.«01_k».proof.Defs
public import proofs.«01_k».proof.Proof.Gen.Ffn
public import proofs.«01_k».proof.Proof.Gen.Pre_finite_ffn
public import proofs.«01_k».proof.Proof.Gen.FfnRefIdeal.Run
public import proofs.«01_k».proof.Proof.FfnRef
public import proofs.«01_k».proof.Proof.FfnValue
public import proofs.«01_k».proof.Proof.Finite
public import Idealize.ShloMosaic.Lib.Claim
public import Idealize.ShloMosaic.Lib.ReduceAll

@[expose] public section

set_option maxRecDepth 16384

noncomputable section

namespace Cert.Ffn

open Idealize.ShloMosaic Idealize.ShloMosaic.TcCoe Idealize.SL.Sem Cert.Norm
open Cert.FfnIdeal (S1x8192x1024 S1x1024 S1x1024x2816 S1x2816x1024)
open Cert.FfnRefIdeal.Read (Given)

theorem finite_at (x0 x1 : FVec Ideal S1x8192x1024 .f32) (x2 : FVec Ideal S1x1024 .f32) (x3 x4 : FVec Ideal S1x1024x2816 .f32)
    (x5 : FVec Ideal S1x2816x1024 .f32) (h : Cert.Pre_finite_ffn.fn (F := Ideal) x0 x1 x2 x3 x4 x5 = fun _ => 1#1) :
    ∃ A : Args, Given A x0 x1 x2 x3 x4 x5 := by
  have e := congrFun h ix0
  dsimp only [Cert.Pre_finite_ffn.fn] at e
  obtain ⟨e, e5⟩ := both _ _ e
  obtain ⟨e, e4⟩ := both _ _ e
  obtain ⟨e, e3⟩ := both _ _ e
  obtain ⟨e, e2⟩ := both _ _ e
  obtain ⟨e0, e1⟩ := both _ _ e
  replace e0 := all_real x0 _ _ _ _ _ (fun _ => rfl) e0
  replace e1 := all_real x1 _ _ _ _ _ (fun _ => rfl) e1
  replace e2 := all_real x2 _ _ _ _ _ (fun _ => rfl) e2
  replace e3 := all_real x3 _ _ _ _ _ (fun _ => rfl) e3
  replace e4 := all_real x4 _ _ _ _ _ (fun _ => rfl) e4
  replace e5 := all_real x5 _ _ _ _ _ (fun _ => rfl) e5
  exact ⟨⟨fun r d => (e0 (ix3 0 r d)).choose, fun r d => (e1 (ix3 0 r d)).choose, fun d => (e2 (ix2 0 d)).choose, fun d n => (e3 (ix3 0 d n)).choose,
      fun d n => (e4 (ix3 0 d n)).choose, fun n d => (e5 (ix3 0 n d)).choose⟩,
    ⟨fun r d => (e0 (ix3 0 r d)).choose_spec, fun r d => (e1 (ix3 0 r d)).choose_spec, fun d => (e2 (ix2 0 d)).choose_spec,
      fun d n => (e3 (ix3 0 d n)).choose_spec, fun d n => (e4 (ix3 0 d n)).choose_spec, fun n d => (e5 (ix3 0 n d)).choose_spec⟩⟩

theorem frame_reference : Cert.quiescent_FfnRefIdeal := fun m ρ _ =>
  (θ_run Cert.FfnRefIdeal.defs _ _).mono (fun r h => ⟨fun c => (h c).2.2.2.2.2.2.2.2, sem_eq_zero_of_no_sems (by decide) r.2⟩)
    (Cert.FfnRefIdeal.Value.run (F := Ideal) m ρ)

theorem frame_ideal : Cert.quiescent_FfnIdeal := fun m ρ _ => frame_run (F := Ideal) m ρ

/-- The frame read at the machine's floats: the two programs are one text. -/
theorem frame_words : ∀ (m : (ℓ : Loc Cert.FfnIdeal.nD Cert.FfnIdeal.τ Cert.FfnIdeal.sig) → Buf (Elt Bits) ℓ) (ρ : Dev Cert.FfnIdeal.nD → PrngReg), True →
    θ_run (Cert.FfnIdeal.defs (F := Bits)) (onTc (τ := Cert.FfnIdeal.τ) (Cert.FfnIdeal.main (F := Bits))) ⟨m, fun _ => 0, ρ⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0) := fun m ρ _ => frame_run (F := Bits) m ρ

theorem frame_bits : Cert.quiescent_Ffn := Eq.mp (by sl_kernel_rfl) frame_words

set_option maxHeartbeats 2000000 in
theorem algebraic : Cert.algebraic_FfnIdeal_FfnRefIdeal_pre_finite_ffn := by
  pair_intro
  · run_from run_main m g
  · run_from Cert.FfnRefIdeal.Value.run m' g'
    all_goals (obtain ⟨A, G⟩ := finite_at _ _ _ _ _ _ (hpre c))
    all_goals (have H : Holds m c A := ⟨G.t, G.x, G.g, G.w1, G.w3, G.w2⟩)
    all_goals (obtain ⟨h0, h1, h2, h3, h4, h5⟩ := hagree c)
    all_goals (have G' := G)
    all_goals (rw [← h0, ← h1, ← h2, ← h3, ← h4, ← h5] at G')
    · refine (Cert.FfnRefIdeal.Read.val_main_v66_eq _ _ _ _ _).trans (Eq.trans (funext fun j => ?_) (final_x3 H).symm)
      idx_vars j
      exact Cert.FfnRefIdeal.Read.out_x3 G j0 j1
    · refine (Cert.FfnRefIdeal.Read.val_main_v68_eq _ _).trans (Eq.trans (funext fun j => ?_) (final_h H).symm)
      idx_vars j
      exact Cert.FfnRefIdeal.Read.out_h G j0 j1
    · refine (Cert.FfnRefIdeal.Read.val_main_v69_eq _ _).trans (Eq.trans (funext fun j => ?_) (final_dx H).symm)
      idx_vars j
      exact Cert.FfnRefIdeal.Read.out_dx G' j0 j1
    · refine (Cert.FfnRefIdeal.Read.val_main_v65_eq _ _).trans (Eq.trans (funext fun j => ?_) (final_dg H).symm)
      idx_vars j
      obtain rfl : j0 = 0 := Subsingleton.elim _ _
      exact Cert.FfnRefIdeal.Read.out_dg G' j1
    · refine (Cert.FfnRefIdeal.Read.val_main_v71_eq _).trans (Eq.trans (funext fun j => ?_) (final_dz H).symm)
      idx_vars j
      exact Cert.FfnRefIdeal.Read.out_dz G j0 j1
    · refine (Cert.FfnRefIdeal.Read.val_main_v73_eq _ _).trans (Eq.trans (funext fun j => ?_) (final_da H).symm)
      idx_vars j
      exact Cert.FfnRefIdeal.Read.out_da G' j0 j1
    · refine (Cert.FfnRefIdeal.Read.val_main_v75_eq _ _ _ _ _).trans (Eq.trans (funext fun j => ?_) (final_db H).symm)
      idx_vars j
      exact Cert.FfnRefIdeal.Read.out_db G j0 j1
    · refine (Cert.FfnRefIdeal.Read.val_main_v77_eq _ _ _ _).trans (Eq.trans (funext fun j => ?_) (final_u H).symm)
      idx_vars j
      exact Cert.FfnRefIdeal.Read.out_u G j0 j1

end Cert.Ffn

end
-- ==== Proof.BiasBucket.lean ====
module
public import proofs.«01_k».proof.Proof.Finite
public import proofs.«01_k».proof.Proof.Gen.BiasRefIdeal.Read
public import Idealize.ShloMosaic.Lib.Pipeline.ValueKit
@[expose] public section
set_option maxRecDepth 16384
noncomputable section

/-! The bucket of a distance, between 0 and 31. -/
namespace Cert.Relative
open Idealize.ShloMosaic Idealize.ShloMosaic.TcCoe Idealize.SL.Sem

/-- The distance of a query of the second block and a key of either, at least 0. -/
def dist (q k : ℕ) : BitVec 32 := IntOp.maxsi (IntOp.subi (IntOp.addi (BitVec.ofNat 32 q) 128#32) (BitVec.ofNat 32 k)) 0#32

theorem dist_le : ∀ q : Fin 128, ∀ k : Fin 256, (dist q.val k.val).toNat ≤ 255 := by
  decide +kernel

/-- The bucket of a distance: itself below 16, from there on by the logarithm. -/
def bucket (n : BitVec 32) : BitVec 32 :=
  Scalar.select (IntOp.cmpi .slt n 16#32) n
    (IntOp.minsi (IntOp.addi 16#32 (Ideal.fptosi 32
      (Ideal.div (Ideal.log (Ideal.div (((IntOp.maxsi n 1#32).toInt : ℝ) : EReal) (Ideal.ofBits .f32 0x41800000#32)))
        (Ideal.ofBits .f32 0x40051592#32) * Ideal.ofBits .f32 0x41800000#32))) 31#32)

theorem val_dist (q : Fin 128) (k : Fin 256) :
    Cert.BiasRefIdeal.Read.val_main_v10 (F := Ideal) (ix2 q k) = dist q.val k.val := by
  pointwise [Cert.BiasRefIdeal.Read.val_main_v10, Cert.BiasRefIdeal.Read.val_main_v8, Cert.BiasRefIdeal.Read.val_main_v9,
    Cert.BiasRefIdeal.Read.val_main_c_0, Cert.BiasRefIdeal.Read.val_main_v6, Cert.BiasRefIdeal.Read.val_main_v7, Cert.BiasRefIdeal.Read.val_main_v3,
    Cert.BiasRefIdeal.Read.val_main_v5, Cert.BiasRefIdeal.Read.val_main_v1, Cert.BiasRefIdeal.Read.val_main_v2, Cert.BiasRefIdeal.Read.val_main_c,
    Cert.BiasRefIdeal.Read.val_main_v4, Cert.BiasRefIdeal.Read.val_main_v0]
  rfl

theorem val_bucket (q : Fin 128) (k : Fin 256) :
    Cert.BiasRefIdeal.Read.val_main_v28 (F := Ideal) (ix2 q k) = bucket (dist q.val k.val) := by
  rw [← val_dist q k]
  pointwise [Cert.BiasRefIdeal.Read.val_main_v28, Cert.BiasRefIdeal.Read.val_main_v27, Cert.BiasRefIdeal.Read.val_main_v25,
    Cert.BiasRefIdeal.Read.val_main_v26, Cert.BiasRefIdeal.Read.val_main_c_6, Cert.BiasRefIdeal.Read.val_main_v24, Cert.BiasRefIdeal.Read.val_main_c_5,
    Cert.BiasRefIdeal.Read.val_main_v23, Cert.BiasRefIdeal.Read.val_main_v22, Cert.BiasRefIdeal.Read.val_main_c_4, Cert.BiasRefIdeal.Read.val_main_v21,
    Cert.BiasRefIdeal.Read.val_main_v20, Cert.BiasRefIdeal.Read.val_main_v19, Cert.BiasRefIdeal.Read.val_main_cst_3, Cert.BiasRefIdeal.Read.val_main_v18,
    Cert.BiasRefIdeal.Read.val_main_v17, Cert.BiasRefIdeal.Read.val_main_cst_2, Cert.BiasRefIdeal.Read.val_main_v16, Cert.BiasRefIdeal.Read.val_main_v15,
    Cert.BiasRefIdeal.Read.val_main_v14, Cert.BiasRefIdeal.Read.val_main_cst, Cert.BiasRefIdeal.Read.val_main_v13, Cert.BiasRefIdeal.Read.val_main_v12,
    Cert.BiasRefIdeal.Read.val_main_v11, Cert.BiasRefIdeal.Read.val_main_c_1]
  rfl

theorem sixteen : Ideal.ofBits .f32 0x41800000#32 = ((16 : ℝ) : EReal) := by
  simp [Ideal.ofBits, Ideal.ieee]
  rw [← EReal.coe_mul]
  norm_num
theorem scale : Ideal.ofBits .f32 0x40051592#32 = ((8721810 / 4194304 : ℝ) : EReal) := by
  simp [Ideal.ofBits, Ideal.ieee]
  rw [← EReal.coe_mul]
  norm_num

theorem small : ∀ d : Fin 16, IntOp.cmpi .slt (BitVec.ofNat 32 d.val) 16#32 = 1#1 := by decide +kernel
theorem large : ∀ d : Fin 256, 16 ≤ d.val → IntOp.cmpi .slt (BitVec.ofNat 32 d.val) 16#32 = 0#1
    ∧ (IntOp.maxsi (BitVec.ofNat 32 d.val) 1#32).toInt = d.val := by decide +kernel
theorem capped : ∀ w : Fin 241, ∃ b : Fin 32, IntOp.minsi (IntOp.addi 16#32 (BitVec.ofNat 32 w.val)) 31#32 = BitVec.ofNat 32 b.val := by
  decide +kernel

theorem bucket_lt (n : BitVec 32) (h : n.toNat ≤ 255) : ∃ b : Fin 32, bucket n = BitVec.ofNat 32 b.val := by
  obtain ⟨d, rfl⟩ : ∃ d : Fin 256, n = BitVec.ofNat 32 d.val := ⟨⟨n.toNat, by omega⟩, by simp⟩
  clear h
  unfold bucket
  rcases Nat.lt_or_ge d.val 16 with hd | hd
  · refine ⟨⟨d.val, by omega⟩, ?_⟩
    rw [small ⟨d.val, hd⟩]; rfl
  · obtain ⟨e0, e1⟩ := large d hd
    rw [e0, e1, sixteen, scale]
    have hx : (1 : ℝ) ≤ d.val / 16 := by
      have : (16 : ℝ) ≤ d.val := by exact_mod_cast hd
      linarith
    have hx' : (d.val : ℝ) / 16 ≤ 16 := by
      have : (d.val : ℝ) ≤ 256 := by exact_mod_cast d.isLt.le
      linarith
    have l0 : 0 ≤ Real.log (d.val / 16) := Real.log_nonneg hx
    have l1 : Real.log (d.val / 16) ≤ 15 := by
      have := Real.log_le_sub_one_of_pos (show (0 : ℝ) < d.val / 16 by linarith)
      linarith
    set t : ℝ := Real.log (d.val / 16) * (1 / (8721810 / 4194304)) * 16 with ht
    have t0 : 0 ≤ t := by positivity
    have t1 : t < 241 := by rw [ht]; nlinarith
    have e : Ideal.div (Ideal.log (Ideal.div (((d.val : ℤ) : ℝ) : EReal) ((16 : ℝ) : EReal))) ((8721810 / 4194304 : ℝ) : EReal) * ((16 : ℝ) : EReal) = (t : EReal) := by
      have ed : Ideal.div (((d.val : ℤ) : ℝ) : EReal) ((16 : ℝ) : EReal) = ((d.val / 16 : ℝ) : EReal) := by
        rw [Ideal.div_coe (by norm_num), ← EReal.coe_mul, mul_one_div, Int.cast_natCast]
      rw [ed, Ideal.log_coe, if_neg (by linarith), Ideal.div_coe (by norm_num), ← EReal.coe_mul, ← EReal.coe_mul, ht]
    rw [e]
    have f0 : 0 ≤ ⌊t⌋ := Int.floor_nonneg.mpr t0
    have f1 : ⌊t⌋ < 241 := Int.floor_lt.mpr (by exact_mod_cast t1)
    have ef : Ideal.fptosi 32 (t : EReal) = BitVec.ofNat 32 ⌊t⌋.toNat := by
      show BitVec.ofInt 32 (max _ (min _ (if 0 ≤ t then ⌊t⌋ else ⌈t⌉))) = _
      rw [if_pos t0, min_eq_right (by norm_num; omega), max_eq_right (by norm_num; omega)]
      conv_lhs => rw [← Int.toNat_of_nonneg f0]
      exact BitVec.ofInt_natCast ..
    rw [ef]
    exact capped ⟨⌊t⌋.toNat, by omega⟩

/-- The bucket of a query and a key. -/
def slot (q : Fin 128) (k : Fin 256) : Fin 32 := (bucket_lt _ (dist_le q k)).choose
theorem slot_spec (q : Fin 128) (k : Fin 256) : Cert.BiasRefIdeal.Read.val_main_v28 (F := Ideal) (ix2 q k) = BitVec.ofNat 32 (slot q k).val :=
  (val_bucket q k).trans (bucket_lt _ (dist_le q k)).choose_spec

/-! ## The reference: a gather of the table's rows, and the sum of the cotangents over a bucket -/

theorem wrapped : ∀ b : Fin 32, Scalar.select (IntOp.cmpi .slt (BitVec.ofNat 32 b.val) 0#32) (IntOp.addi (BitVec.ofNat 32 b.val) 32#32) (BitVec.ofNat 32 b.val)
    = BitVec.ofNat 32 b.val ∧ (BitVec.ofNat 32 b.val).toInt = b.val := by decide +kernel

open Cert.BiasRefIdeal Cert.BiasRefIdeal.Read

theorem val_row (i : S128x256x1.Idx) : val_main_v34 (F := Ideal) i
    = BitVec.ofNat 32 (slot ⟨(i 0).val, (i 0).isLt⟩ ⟨(i 1).val, (i 1).isLt⟩).val := by
  rw [val_main_v34_apply, val_main_v33_apply, val_main_v32_apply, val_main_v30_apply, val_main_v31_apply, val_main_v29_apply, val_main_c_8_apply,
    val_main_c_7_apply]
  have e : idx_main_v34 i = ix2 (⟨(i 0).val, (i 0).isLt⟩ : Fin 128) (⟨(i 1).val, (i 1).isLt⟩ : Fin 256) := by
    funext a
    match a with
    | ⟨0, _⟩ => rfl
    | ⟨1, _⟩ => rfl
  rw [e, slot_spec]
  exact (wrapped _).1

theorem ref_bias (x1 : FVec Ideal S32x8 .f32) (h : Fin 8) (q : Fin 128) (k : Fin 256) :
    val_main_v36 (F := Ideal) x1 (ix3 h q k) = x1 (ix2 (slot q k) h) := by
  rw [val_main_v36_apply]
  unfold val_main_v35 Host.gather
  congr 1
  funext a
  refine Fin.ext ?_
  set D := gather_S32x8_S128x256x1_S128x256x8_2_0_n_n_0_2_18
  show D.start _ _ a + D.batchCoord _ a + D.offCoord _ a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp [D, gather_S32x8_S128x256x1_S128x256x8_2_0_n_n_0_2_18] at h),
      GatherDims.offCoord_eq_zero _ _ _ (fun h => ((GatherDims.mem_sKept _ _).mp h).1 (List.mem_singleton.mpr rfl))]
    unfold GatherDims.start
    rw [dif_pos (show (0 : Fin 2) ∈ D.startIndexMap from List.mem_singleton.mpr rfl), val_row, (wrapped _).2]
    have := (slot q k).isLt
    show min (slot q k).val 31 + 0 + 0 = (slot q k).val
    omega
  · rw [GatherDims.batchCoord_eq_zero _ _ _ (fun h => by simp [D, gather_S32x8_S128x256x1_S128x256x8_2_0_n_n_0_2_18] at h)]
    unfold GatherDims.start GatherDims.offCoord
    rw [dif_neg (show (1 : Fin 2) ∉ D.startIndexMap from by decide),
      dif_pos (show (1 : Fin 2) ∈ D.sKept from (GatherDims.mem_sKept _ _).mpr ⟨by decide, by decide⟩)]
    show 0 + 0 + h.val = h.val
    omega

/-- Where an update goes: to its row's bucket, in its own column. -/
theorem lands (j : S128x256x8.Idx) (r : Fin 32) (h : Fin 8) :
    scatter_S32x8_S128x256x1_S128x256x8_2_0_0_2.resultIdx? j (val_main_v34 (F := Ideal)) = some (ix2 r h)
      ↔ slot ⟨(j 0).val, (j 0).isLt⟩ ⟨(j 1).val, (j 1).isLt⟩ = r ∧ (j 2).val = h.val := by
  set D := scatter_S32x8_S128x256x1_S128x256x8_2_0_0_2
  have e0 : D.start j (val_main_v34 (F := Ideal)) (0 : Fin 2) + D.window j (0 : Fin 2) = (slot ⟨(j 0).val, (j 0).isLt⟩ ⟨(j 1).val, (j 1).isLt⟩).val := by
    unfold ScatterDims.start ScatterDims.window
    rw [dif_pos (show (0 : Fin 2) ∈ D.scatterDimsToOperandDims from List.mem_singleton.mpr rfl), dif_neg (show (0 : Fin 2) ∉ D.sKept from by decide),
      val_row, (wrapped _).2]
    rfl
  have e1 : D.start j (val_main_v34 (F := Ideal)) (1 : Fin 2) + D.window j (1 : Fin 2) = (j 2).val := by
    unfold ScatterDims.start ScatterDims.window
    rw [dif_neg (show (1 : Fin 2) ∉ D.scatterDimsToOperandDims from by decide), dif_pos (show (1 : Fin 2) ∈ D.sKept from by decide)]
    show 0 + ((j 2).val : ℤ) = _
    omega
  have b0 := (slot ⟨(j 0).val, (j 0).isLt⟩ ⟨(j 1).val, (j 1).isLt⟩).isLt
  have b1 : (j 2).val < 8 := (j 2).isLt
  unfold ScatterDims.resultIdx?
  rw [dif_pos (fun a => by
    have h01 : a = 0 ∨ a = 1 := by
      match a with
      | ⟨0, _⟩ => exact Or.inl rfl
      | ⟨1, _⟩ => exact Or.inr rfl
    rcases h01 with rfl | rfl
    · rw [e0]; exact ⟨by omega, by show _ < ((32 : ℕ) : ℤ); omega⟩
    · rw [e1]; exact ⟨by omega, by show _ < ((8 : ℕ) : ℤ); omega⟩), Option.some.injEq]
  constructor
  · intro e
    have f0 := congrArg Fin.val (congrFun e (0 : Fin 2))
    have f1 := congrArg Fin.val (congrFun e (1 : Fin 2))
    simp only [e0, e1] at f0 f1
    exact ⟨Fin.ext f0, f1⟩
  · rintro ⟨f0, f1⟩
    funext a
    refine Fin.ext ?_
    have h01 : a = 0 ∨ a = 1 := by
      match a with
      | ⟨0, _⟩ => exact Or.inl rfl
      | ⟨1, _⟩ => exact Or.inr rfl
    rcases h01 with rfl | rfl
    · simp only [e0, f0]; rfl
    · simp only [e1, f1]; rfl

theorem ref_table (x0 : FVec Ideal S8x128x256 .f32) (r : Fin 32) (h : Fin 8) :
    val_main_v39 (F := Ideal) x0 (ix2 r h) = ∑ q : Fin 128, ∑ k : Fin 256, if slot q k = r then x0 (ix3 h q k) else 0 := by
  unfold val_main_v39
  show Ideal.hostScatterAdd _ _ _ _ _ = _
  unfold Ideal.hostScatterAdd
  rw [Finset.sum_filter]
  simp only [lands]
  have z : val_main_v38 (F := Ideal) (ix2 r h) = 0 := by
    rw [val_main_v38_apply, val_main_cst_9_apply]
    exact Ideal.ofBits_zero ..
  rw [z, zero_add]
  refine (Idealize.ShloMosaic.sum_idx3 _).trans ?_
  refine Finset.sum_congr rfl fun q _ => Finset.sum_congr rfl fun k _ => ?_
  rw [Finset.sum_eq_single h]
  · show (if slot q k = r ∧ h.val = h.val then _ else _) = _
    simp only [and_true]
    rw [val_main_v37_apply]
    have e : idx_main_v37 (ix3 q k h) = ix3 h q k := by
      funext a
      match a with
      | ⟨0, _⟩ => rfl
      | ⟨1, _⟩ => rfl
      | ⟨2, _⟩ => rfl
    rw [e]
  · intro b _ hb
    exact if_neg fun f => hb (Fin.ext f.2)
  · intro f
    exact absurd (Finset.mem_univ _) f

end Cert.Relative
end
-- ==== Proof.BiasRun.lean ====
/- The two kernels of the relative bias run from their launch, with the arrays they leave read off the last boundary's contents. -/
module

public import proofs.«01_k».proof.Proof.Gen.BiasIdeal.Frame
public import Idealize.ShloMosaic.Lib.Pipeline.ValueKit
public import Idealize.ShloMosaic.Lib.Claim

@[expose] public section

set_option maxRecDepth 16384

noncomputable section

namespace Cert.Relative

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.BiasIdeal Cert.BiasIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result is the array the first kernel leaves, reshaped; -/
theorem kept_bias (c : Dev nD) : (show FVec F S8x128x256 .f32 from W7 m ρ c (Proc.devRef .tc main_v38))
    = shapeCast S8x128x256 (show FVec F S8x32768 .f32 from (dat0 (V3 m ρ) c).arrAt 2 cfg0.N) shapeCasts_S8x32768_S8x128x256 := by
  refine (W7_of m ρ c main_v38 (by decide)).trans ((W6_of_ne m ρ c main_v38 (by decide)).trans ?_)
  show StableHlo.after hostOps1 (W4 m ρ c) (Proc.devRef .tc main_v38) = _
  entry_read
  exact congrArg (fun z : FVec F S8x32768 .f32 => shapeCast S8x128x256 z shapeCasts_S8x32768_S8x128x256) (W4_arr m ρ c 2)

/-- the second is the array the second kernel leaves, transposed. -/
theorem kept_table (c : Dev nD) : (show FVec F S32x8 .f32 from W7 m ρ c (Proc.devRef .tc main_v41))
    = transpose S32x8 [1, 0] (show FVec F S8x32 .f32 from (dat1 (V5 m ρ) c).arrAt 2 cfg1.N) transposes_S8x32_S32x8_1_0 := by
  show StableHlo.after hostOps2 (W6 m ρ c) (Proc.devRef .tc main_v41) = _
  entry_read
  exact congrArg (fun z : FVec F S8x32 .f32 => transpose S32x8 [1, 0] z transposes_S8x32_S32x8_1_0) (W6_arr m ρ c 2)

set_option backward.isDefEq.respectTransparency.types false in
/-- Every buffer ends at the last boundary's contents. -/
theorem ends : θ_run defs (onTc (τ := τ) (main (F := F))) ⟨m, fun _ => 0, ρ⟩ (fun r =>
      ∀ c : Dev nD, ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

/-- The two results end at what the two pipelines leave, the arguments as launched. -/
theorem run_main : θ_run defs (onTc (τ := τ) (main (F := F))) ⟨m, fun _ => 0, ρ⟩ (fun r => ∀ c : Dev nD,
      r.2.mem ((c.tc : Thread nD τ).loc main_v38)
        = shapeCast S8x128x256 (show FVec F S8x32768 .f32 from (dat0 (V3 m ρ) c).arrAt 2 cfg0.N) shapeCasts_S8x32768_S8x128x256
      ∧ r.2.mem ((c.tc : Thread nD τ).loc main_v41)
        = transpose S32x8 [1, 0] (show FVec F S8x32 .f32 from (dat1 (V5 m ρ) c).arrAt 2 cfg1.N) transposes_S8x32_S32x8_1_0
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    have e (b : Ref sig .tc) (hb : ¬ (Proc.devRef .tc b : DevRef τ sig).isScoped) :
      r.2.mem ((c.tc : Thread nD τ).loc b) = W7 m ρ c (Proc.devRef .tc b) := h c _ (mem_uc b hb)
    ⟨(e main_v38 (by decide)).trans (kept_bias m ρ c), (e main_v41 (by decide)).trans (kept_table m ρ c),
     (e main_arg0 (by decide)).trans (W7_main_arg0 m ρ c), (e main_arg1 (by decide)).trans (W7_main_arg1 m ρ c)⟩) (ends m ρ)

end Cert.Relative
-- ==== Proof.BiasValue.lean ====
module
public import proofs.«01_k».proof.Proof.BiasBucket
public import proofs.«01_k».proof.Proof.BiasRun
@[expose] public section
set_option maxRecDepth 16384
noncomputable section

/-! What the two kernels of the relative bias leave: the table spread over the buckets, and a cotangent summed over each bucket. -/
namespace Cert.Relative
open Idealize.ShloMosaic Idealize.ShloMosaic.TcCoe Idealize.SL.Sem
open Cert.BiasIdeal Cert.BiasIdeal.Gen

/-! ## The payloads: of the three parts of a finite number only the first is not zero -/

theorem less_self (x : EReal) (h : ∃ r : ℝ, x = r) : x - x = 0 := by
  obtain ⟨r, rfl⟩ := h
  rw [← EReal.coe_sub, sub_self]; rfl

theorem pay_expand (x : FVec Ideal S8x32 .f32) (o : FVec Ideal S32x32768 .bf16) (hx : ∀ j, ∃ r : ℝ, x j = r) (h : Fin 8) (i : Fin 32768) :
    k0_pay1 (F := Ideal) x o (ix2 h i) = ∑ r : Fin 32, x (ix2 h r) * o (ix2 r i) := by
  pointwise [k0_pay1]
  simp only [less_self _ (hx _), sub_zero, zero_mul, Finset.sum_const_zero, add_zero]

theorem pay_reduce (x : FVec Ideal S8x32768 .f32) (o : FVec Ideal S32x32768 .bf16) (hx : ∀ j, ∃ r : ℝ, x j = r) (h : Fin 8) (r : Fin 32) :
    k1_pay1 (F := Ideal) x o (ix2 h r) = ∑ i : Fin 32768, x (ix2 h i) * o (ix2 r i) := by
  pointwise [k1_pay1]
  simp only [less_self _ (hx _), sub_zero, zero_mul, Finset.sum_const_zero, add_zero]

/-! ## The host's arrays -/

variable (m : (ℓ : Loc nD τ sig) → Buf (Elt Ideal) ℓ) (ρ : Dev nD → PrngReg) (c : Dev nD)

abbrev ctAt : FVec Ideal S8x128x256 .f32 := m ((c : Thread nD τ).loc main_arg0)
abbrev tableAt : FVec Ideal S32x8 .f32 := m ((c : Thread nD τ).loc main_arg1)

theorem chosen (W : Valuation τ sig (Elt Ideal)) : (show IVec S128x256 32 from StableHlo.after hostOps0_1 W (Proc.devRef .tc main_v28))
    = select (show IVec S128x256 1 from W (Proc.devRef .tc main_v27)) (show IVec S128x256 32 from W (Proc.devRef .tc main_v10))
      (show IVec S128x256 32 from W (Proc.devRef .tc main_v25)) := by
  entry_read
  rfl
theorem before_dist (W : Valuation τ sig (Elt Ideal)) :
    (show IVec S128x256 32 from StableHlo.after hostOps0 W (Proc.devRef .tc main_v10)) = Cert.BiasRefIdeal.Read.val_main_v10 (F := Ideal) := by
  entry_read
  rfl
theorem before_near (W : Valuation τ sig (Elt Ideal)) :
    (show IVec S128x256 1 from StableHlo.after hostOps0 W (Proc.devRef .tc main_v27)) = Cert.BiasRefIdeal.Read.val_main_v27 (F := Ideal) := by
  entry_read
  rfl
theorem before_far (W : Valuation τ sig (Elt Ideal)) :
    (show IVec S128x256 32 from StableHlo.after hostOps0 W (Proc.devRef .tc main_v25)) = Cert.BiasRefIdeal.Read.val_main_v25 (F := Ideal) := by
  entry_read
  rfl

theorem host_bucket : (show IVec S128x256 32 from W2 m ρ c (Proc.devRef .tc main_v28)) = Cert.BiasRefIdeal.Read.val_main_v28 (F := Ideal) := by
  have e (a a' : IVec S128x256 1) (b b' d d' : IVec S128x256 32) (ha : a = a') (hb : b = b') (hd : d = d') : select a b d = select a' b' d' := by
    rw [ha, hb, hd]
  exact (chosen (W1 m ρ c)).trans (e _ _ _ _ _ _ (before_near (W0 m ρ c)) (before_dist (W0 m ρ c)) (before_far (W0 m ρ c)))

theorem mark : ∀ b r : Fin 32, FloatOps.uitofp (F := Ideal) .bf16 (IntOp.cmpi .eq (BitVec.ofNat 32 b.val) (BitVec.ofNat 32 r.val)) = if b = r then 1 else 0 := by
  have d : ∀ b r : Fin 32, IntOp.cmpi .eq (BitVec.ofNat 32 b.val) (BitVec.ofNat 32 r.val) = if b = r then 1#1 else 0#1 := by decide +kernel
  intro b r
  rw [d]
  split
  · show (((1#1).toNat : ℝ) : EReal) = 1
    simp
  · show (((0#1).toNat : ℝ) : EReal) = 0
    simp

theorem marks (W : Valuation τ sig (Elt Ideal)) (r : Fin 32) (i : Fin 32768) :
    (show FVec Ideal S32x32768 .bf16 from StableHlo.after hostOps0_2 W (Proc.devRef .tc main_v35)) (ix2 r i)
      = FloatOps.uitofp (F := Ideal) .bf16 (IntOp.cmpi .eq ((show IVec S128x256 32 from W (Proc.devRef .tc main_v28))
        (ix2 (⟨i.val / 256, by omega⟩ : Fin 128) (⟨i.val % 256, by omega⟩ : Fin 256))) (BitVec.ofNat 32 r.val)) := by
  entry_read
  pointwise

theorem host_onehot (r : Fin 32) (i : Fin 32768) :
    (show FVec Ideal S32x32768 .bf16 from W3 m ρ c (Proc.devRef .tc main_v35)) (ix2 r i)
      = if slot ⟨i.val / 256, by omega⟩ ⟨i.val % 256, by omega⟩ = r then 1 else 0 := by
  refine (marks (W2 m ρ c) r i).trans ?_
  rw [host_bucket, slot_spec]
  exact mark _ _

theorem turned (W : Valuation τ sig (Elt Ideal)) (h : Fin 8) (r : Fin 32) :
    (show FVec Ideal S8x32 .f32 from StableHlo.after hostOps0_2 W (Proc.devRef .tc main_v36)) (ix2 h r)
      = (show FVec Ideal S32x8 .f32 from W (Proc.devRef .tc main_arg1)) (ix2 r h) := by
  entry_read
  pointwise
theorem host_table (h : Fin 8) (r : Fin 32) :
    (show FVec Ideal S8x32 .f32 from W3 m ρ c (Proc.devRef .tc main_v36)) (ix2 h r) = tableAt m c (ix2 r h) :=
  (turned (W2 m ρ c) h r).trans (congrFun (W2_args m ρ c main_arg1 (by decide)) _)

theorem host_ct (h : Fin 8) (i : Fin 32768) :
    (show FVec Ideal S8x32768 .f32 from W5 m ρ c (Proc.devRef .tc main_v39)) (ix2 h i)
      = ctAt m c (ix3 h ⟨i.val / 256, by omega⟩ ⟨i.val % 256, by omega⟩) := by
  show (show FVec Ideal S8x32768 .f32 from StableHlo.after hostOps1 (W4 m ρ c) (Proc.devRef .tc main_v39)) (ix2 h i) = _
  entry_read
  pointwise
  exact congrFun (W4_args m ρ c main_arg0 (by decide)) _

theorem host_onehot' (r : Fin 32) (i : Fin 32768) :
    (show FVec Ideal S32x32768 .bf16 from W5 m ρ c (Proc.devRef .tc main_v35)) (ix2 r i)
      = if slot ⟨i.val / 256, by omega⟩ ⟨i.val % 256, by omega⟩ = r then 1 else 0 :=
  (congrFun ((W5_of m ρ c main_v35 (by decide)).trans (W4_of m ρ c main_v35 (by decide))) (ix2 r i)).trans (host_onehot m ρ c r i)

/-! ## The arrays the pipelines leave -/

theorem idx0 : ∀ t : Fin cfg0.N, win0_0.index t = ![0, 0] ∧ win0_1.index t = ![0, 0] ∧ win0_2.index t = ![0, 0] :=
  (by decide +kernel : ∀ t : Fin grid0.N, _)
theorem idx1 : ∀ t : Fin cfg1.N, win1_0.index t = ![0, 0] ∧ win1_1.index t = ![0, 0] ∧ win1_2.index t = ![0, 0] :=
  (by decide +kernel : ∀ t : Fin grid1.N, _)

theorem blk0_0 (p : Fin cfg0.N) (h : Fin 8) (r : Fin 32) :
    (show FVec Ideal S8x32 .f32 from iblk0 (V3 m ρ) c 0 p) (ix2 h r) = tableAt m c (ix2 r h) := by
  refine Eq.trans (b := (show FVec Ideal S8x32 .f32 from V3 m ρ c main_v36) (ix2 h r)) ?_ (host_table m ρ c h r)
  blk_point [iblk0, idx0 p]
theorem blk0_1 (p : Fin cfg0.N) (r : Fin 32) (i : Fin 32768) :
    (show FVec Ideal S32x32768 .bf16 from iblk0 (V3 m ρ) c 1 p) (ix2 r i)
      = if slot ⟨i.val / 256, by omega⟩ ⟨i.val % 256, by omega⟩ = r then 1 else 0 := by
  refine Eq.trans (b := (show FVec Ideal S32x32768 .bf16 from V3 m ρ c main_v35) (ix2 r i)) ?_ (host_onehot m ρ c r i)
  blk_point [iblk0, idx0 p]
theorem blk1_0 (p : Fin cfg1.N) (h : Fin 8) (i : Fin 32768) :
    (show FVec Ideal S8x32768 .f32 from iblk1 (V5 m ρ) c 0 p) (ix2 h i) = ctAt m c (ix3 h ⟨i.val / 256, by omega⟩ ⟨i.val % 256, by omega⟩) := by
  refine Eq.trans (b := (show FVec Ideal S8x32768 .f32 from V5 m ρ c main_v39) (ix2 h i)) ?_ (host_ct m ρ c h i)
  blk_point [iblk1, idx1 p]
theorem blk1_1 (p : Fin cfg1.N) (r : Fin 32) (i : Fin 32768) :
    (show FVec Ideal S32x32768 .bf16 from iblk1 (V5 m ρ) c 1 p) (ix2 r i)
      = if slot ⟨i.val / 256, by omega⟩ ⟨i.val % 256, by omega⟩ = r then 1 else 0 := by
  refine Eq.trans (b := (show FVec Ideal S32x32768 .bf16 from V5 m ρ c main_v35) (ix2 r i)) ?_ (host_onehot' m ρ c r i)
  blk_point [iblk1, idx1 p]

/-- The table's entry for a head at a position's bucket, -/
def spread (T : FVec Ideal S32x8 .f32) (h : Fin 8) (i : Fin 32768) : EReal := T (ix2 (slot ⟨i.val / 256, by omega⟩ ⟨i.val % 256, by omega⟩) h)
/-- and the sum of a head's cotangents over a bucket's positions. -/
def gathered (X : FVec Ideal S8x128x256 .f32) (h : Fin 8) (r : Fin 32) : EReal := ∑ q : Fin 128, ∑ k : Fin 256, if slot q k = r then X (ix3 h q k) else 0

theorem final_bias (hx : ∀ j, ∃ r : ℝ, tableAt m c j = r) : (dat0 (V3 m ρ) c).arrAt 2 cfg0.N
    = (fun j : S8x32768.Idx => spread (tableAt m c) (j 0) (j 1)) := by
  refine (dat0 (V3 m ρ) c).arrAt_eq_of_covers 2 _ (by decide +kernel) fun p _ y => ?_
  blk_simp
  rw [after0_2]
  change S8x32768.Idx at y
  idx_vars y
  have e : ((cfg0.win 2).blk p).view.emb (ix2 y0 y1 : S8x32768.Idx) = (ix2 y0 y1 : S8x32768.Idx) := by
    blk_ext [idx0 p]
  rw [e]
  unfold out0_2
  frame_out
  refine (pay_expand _ _ (fun j => ?_) y0 y1).trans ?_
  · change S8x32.Idx at j
    idx_vars j
    obtain ⟨r, hr⟩ := hx (ix2 j1 j0)
    exact ⟨r, (blk0_0 m ρ c p j0 j1).trans hr⟩
  · refine (Finset.sum_congr rfl fun r _ => congrArg₂ (· * ·) (blk0_0 m ρ c p y0 r) (blk0_1 m ρ c p r y1)).trans ?_
    simp only [mul_ite, mul_one, mul_zero, Finset.sum_ite_eq, Finset.mem_univ, if_true]
    rfl

theorem final_table (hx : ∀ j, ∃ r : ℝ, ctAt m c j = r) : (dat1 (V5 m ρ) c).arrAt 2 cfg1.N
    = (fun j : S8x32.Idx => gathered (ctAt m c) (j 0) (j 1)) := by
  refine (dat1 (V5 m ρ) c).arrAt_eq_of_covers 2 _ (by decide +kernel) fun p _ y => ?_
  blk_simp
  rw [after1_2]
  change S8x32.Idx at y
  idx_vars y
  have e : ((cfg1.win 2).blk p).view.emb (ix2 y0 y1 : S8x32.Idx) = (ix2 y0 y1 : S8x32.Idx) := by
    blk_ext [idx1 p]
  rw [e]
  unfold out1_2
  frame_out
  refine (pay_reduce _ _ (fun j => ?_) y0 y1).trans ?_
  · change S8x32768.Idx at j
    idx_vars j
    obtain ⟨r, hr⟩ := hx (ix3 j0 ⟨j1.val / 256, by omega⟩ ⟨j1.val % 256, by omega⟩)
    exact ⟨r, (blk1_0 m ρ c p j0 j1).trans hr⟩
  · refine (Finset.sum_congr rfl fun i _ => congrArg₂ (· * ·) (blk1_0 m ρ c p y0 i) (blk1_1 m ρ c p y1 i)).trans ?_
    simp only [mul_ite, mul_one, mul_zero]
    have s : ∀ f : Fin 128 × Fin 256 → EReal, ∑ i : Fin 32768, f (⟨i.val / 256, by omega⟩, ⟨i.val % 256, by omega⟩) = ∑ q, ∑ k, f (q, k) := fun f => by
      rw [← Fintype.sum_prod_type' (fun q k => f (q, k))]
      exact Fintype.sum_equiv (finProdFinEquiv (m := 128) (n := 256)).symm _ _ fun i => rfl
    exact s (fun qk => if slot qk.1 qk.2 = y1 then ctAt m c (ix3 y0 qk.1 qk.2) else 0)

end Cert.Relative
end
-- ==== Proof.BiasClaim.lean ====
module
public import proofs.«01_k».proof.Defs
public import proofs.«01_k».proof.Proof.Gen.BiasRefIdeal.Run
public import proofs.«01_k».proof.Proof.Gen.Pre_finite_bias
public import proofs.«01_k».proof.Proof.BiasValue
public import Idealize.ShloMosaic.Lib.Claim
@[expose] public section
set_option maxRecDepth 16384
noncomputable section

/-! The relative bias and the gradient in its table against their reference. -/
namespace Cert.Relative
open Idealize.ShloMosaic Idealize.ShloMosaic.TcCoe Idealize.ShloMosaic.Tactic Idealize.SL.Sem
open Cert.BiasIdeal Cert.BiasIdeal.Gen

theorem frame_reference : Cert.quiescent_BiasRefIdeal := fun m ρ _ =>
  (θ_run Cert.BiasRefIdeal.defs _ _).mono (fun r h => ⟨fun c => (h c).2.2, sem_eq_zero_of_no_sems (by decide) r.2⟩)
    (Cert.BiasRefIdeal.Value.run (F := Ideal) m ρ)

theorem finite_at (x0 : FVec Ideal Cert.BiasIdeal.S8x128x256 .f32) (x1 : FVec Ideal Cert.BiasIdeal.S32x8 .f32)
    (h : Cert.Pre_finite_bias.fn (F := Ideal) x0 x1 = fun _ => 1#1) : (∀ j, ∃ r : ℝ, x0 j = r) ∧ ∀ j, ∃ r : ℝ, x1 j = r := by
  have e := congrFun h ix0
  dsimp only [Cert.Pre_finite_bias.fn] at e
  obtain ⟨e0, e1⟩ := Norm.both _ _ e
  exact ⟨Norm.all_real x0 _ _ _ _ _ (fun _ => rfl) e0, Norm.all_real x1 _ _ _ _ _ (fun _ => rfl) e1⟩

variable (m : (ℓ : Loc Cert.BiasIdeal.nD Cert.BiasIdeal.τ Cert.BiasIdeal.sig) → Buf (Elt Ideal) ℓ) (g : Dev Cert.BiasIdeal.nD → PrngReg) (c : Dev Cert.BiasIdeal.nD)

theorem unrolled (X : FVec Ideal S8x32768 .f32) (h : Fin 8) (q : Fin 128) (k : Fin 256) :
    shapeCast S8x128x256 X shapeCasts_S8x32768_S8x128x256 (ix3 h q k) = X (ix2 h (⟨q.val * 256 + k.val, by omega⟩ : Fin 32768)) := by
  pointwise

/-- The bias the kernel leaves is the reference's. -/
theorem same_bias (x1 : FVec Ideal Cert.BiasIdeal.S32x8 .f32) (e : x1 = tableAt m c) (hx : ∀ j, ∃ r : ℝ, tableAt m c j = r) :
    Cert.BiasRefIdeal.Read.val_main_v36 (F := Ideal) x1
      = shapeCast S8x128x256 ((dat0 (V3 m g) c).arrAt 2 cfg0.N) shapeCasts_S8x32768_S8x128x256 := by
  rw [e]
  funext j
  change S8x128x256.Idx at j
  idx_vars j
  refine (ref_bias (tableAt m c) j0 j1 j2).trans ?_
  refine Eq.trans ?_ (unrolled _ j0 j1 j2).symm
  rw [final_bias m g c hx]
  show _ = spread (tableAt m c) j0 ⟨j1.val * 256 + j2.val, _⟩
  have a : (⟨(j1.val * 256 + j2.val) / 256, by omega⟩ : Fin 128) = j1 := Fin.ext (show (j1.val * 256 + j2.val) / 256 = j1.val by omega)
  have b : (⟨(j1.val * 256 + j2.val) % 256, by omega⟩ : Fin 256) = j2 := Fin.ext (show (j1.val * 256 + j2.val) % 256 = j2.val by omega)
  unfold spread
  rw [a, b]

/-- And so is the gradient in the table. -/
theorem same_table (x0 : FVec Ideal Cert.BiasIdeal.S8x128x256 .f32) (e : x0 = ctAt m c) (hx : ∀ j, ∃ r : ℝ, ctAt m c j = r) :
    Cert.BiasRefIdeal.Read.val_main_v39 (F := Ideal) x0
      = transpose S32x8 [1, 0] ((dat1 (V5 m g) c).arrAt 2 cfg1.N) transposes_S8x32_S32x8_1_0 := by
  rw [final_table m g c hx, e]
  funext j
  change S32x8.Idx at j
  idx_vars j
  rw [ref_table]
  pointwise
  rfl

/-- From finite arguments that agree, both programs end with the same bias and the same gradient in the table. -/
theorem algebraic : Cert.algebraic_BiasIdeal_BiasRefIdeal_pre_finite_bias := fun m g m' g' hpre hagree =>
  ⟨fun c => _, fun c => _, (θ_run _ _ _).mono (fun _ h => h) (run_main m g), (θ_run _ _ _).mono (fun r h c => by
    obtain ⟨G0, G1⟩ := finite_at _ _ (hpre c)
    obtain ⟨a0, a1⟩ := hagree c
    obtain ⟨h0, h1, h2⟩ := h c
    refine ⟨h0.trans ((Cert.BiasRefIdeal.Read.val_main_v36_eq _ _).trans (same_bias m g c _ a1 G1)),
      h1.trans ((Cert.BiasRefIdeal.Read.val_main_v39_eq _ _).trans (same_table m g c _ a0 G0)), h2⟩) (Cert.BiasRefIdeal.Value.run m' g')⟩

end Cert.Relative
end
-- ==== Proof.SwaRun.lean ====
/- The two kernels of the forward sliding window run from their launch, with the output read off the last boundary's contents. -/
module

public import proofs.«01_k».proof.Proof.Gen.SwaIdeal.Frame

@[expose] public section

set_option maxRecDepth 16384

noncomputable section

namespace Cert.Window

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SwaIdeal Cert.SwaIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer ends at the last boundary's contents. -/
theorem ends : θ_run defs (onTc (τ := τ) (main (F := F))) ⟨m, fun _ => 0, ρ⟩ (fun r =>
      ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- The output ends at what the second pipeline leaves, the arguments as launched. -/
theorem run_main : θ_run defs (onTc (τ := τ) (main (F := F))) ⟨m, fun _ => 0, ρ⟩ (fun r => ∀ c : Dev nD,
      r.2.mem ((c.tc : Thread nD τ).loc main_v54) = (dat1 (V5 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    have e (b : Ref sig .tc) (hb : ¬ (Proc.devRef .tc b : DevRef τ sig).isScoped) :
      r.2.mem ((c.tc : Thread nD τ).loc b) = W6 m ρ c (Proc.devRef .tc b) := h c _ (mem_uc b hb)
    ⟨(e main_v54 (by decide)).trans (W6_arr m ρ c 7),
     (e main_arg0 (by decide)).trans (W6_main_arg0 m ρ c), (e main_arg1 (by decide)).trans (W6_main_arg1 m ρ c), (e main_arg2 (by decide)).trans (W6_main_arg2 m ρ c), (e main_arg3 (by decide)).trans (W6_main_arg3 m ρ c), (e main_arg4 (by decide)).trans (W6_main_arg4 m ρ c)⟩) (ends m ρ)

end Cert.Window
-- ==== Proof.SwaMath.lean ====
/- A row of sliding-window attention over the extended reals: the two halves of the window against the whole of it. -/
module

public import Idealize.ShloMosaic.Lib.Pipeline.ValueKit
public import Idealize.ShloMosaic.Lib.Claim

@[expose] public section

noncomputable section

namespace Cert.Window

open Idealize.ShloMosaic

/-- The row's shift: the largest logit of the two halves or the sink. -/
def peak (P C : Fin 128 → EReal) (s : EReal) : EReal := max (max (Finset.univ.sup P) (Finset.univ.sup C)) s
/-- The row's total. -/
def total (P C : Fin 128 → EReal) (s : EReal) : EReal :=
  (∑ j, Ideal.exp (P j - peak P C s)) + (∑ j, Ideal.exp (C j - peak P C s)) + Ideal.exp (s - peak P C s)
/-- One element of the output from the two halves' logits, the sink and the two halves' values. -/
def mixed (P C : Fin 128 → EReal) (s : EReal) (vp vc : Fin 128 → EReal) : EReal :=
  (∑ j, vp j * (Ideal.exp (P j - peak P C s) * Ideal.div 1 (total P C s)))
    + ∑ j, vc j * (Ideal.exp (C j - peak P C s) * Ideal.div 1 (total P C s))

theorem mixed_congr {P P' C C' : Fin 128 → EReal} {s s' : EReal} {vp vp' vc vc' : Fin 128 → EReal} (hP : ∀ j, P j = P' j) (hC : ∀ j, C j = C' j) (hs : s = s')
    (hp : ∀ j, vp j = vp' j) (hc : ∀ j, vc j = vc' j) : mixed P C s vp vc = mixed P' C' s' vp' vc' := by
  rw [funext hP, funext hC, hs, funext hp, funext hc]

/-- The same element from the whole window. -/
def whole (L : Fin 256 → EReal) (s : EReal) (V : Fin 256 → EReal) : EReal :=
  ∑ j, V j * Ideal.div (Ideal.exp (L j - max (Finset.univ.sup L) s))
    ((∑ k, Ideal.exp (L k - max (Finset.univ.sup L) s)) + Ideal.exp (s - max (Finset.univ.sup L) s))

theorem fold_sup {n : ℕ} (f : Fin n → EReal) : Finset.univ.fold max ⊥ f = Finset.univ.sup f := rfl

def lo (j : Fin 128) : Fin 256 := ⟨j.val, by omega⟩
def hi (j : Fin 128) : Fin 256 := ⟨128 + j.val, by omega⟩

theorem sum_halves (f : Fin 256 → EReal) : ∑ j, f j = (∑ j, f (lo j)) + ∑ j, f (hi j) :=
  (Fin.sum_univ_add (a := 128) (b := 128) f)

theorem sup_halves (f : Fin 256 → EReal) : Finset.univ.sup f = max (Finset.univ.sup fun j => f (lo j)) (Finset.univ.sup fun j => f (hi j)) := by
  apply le_antisymm
  · refine Finset.sup_le fun j _ => ?_
    by_cases h : j.val < 128
    · exact le_trans (Finset.le_sup (f := fun j => f (lo j)) (Finset.mem_univ (⟨j.val, h⟩ : Fin 128))) (le_max_left _ _)
    · have e : hi ⟨j.val - 128, by omega⟩ = j := Fin.ext (show 128 + (j.val - 128) = j.val by omega)
      refine le_trans (le_of_eq ?_) (le_trans (Finset.le_sup (f := fun j => f (hi j)) (Finset.mem_univ (⟨j.val - 128, by omega⟩ : Fin 128))) (le_max_right _ _))
      show f j = f (hi ⟨j.val - 128, by omega⟩)
      rw [e]
  · exact max_le (Finset.sup_le fun j _ => Finset.le_sup (Finset.mem_univ (lo j))) (Finset.sup_le fun j _ => Finset.le_sup (Finset.mem_univ (hi j)))

/-- The shift is a real number. -/
theorem peak_real (P C : Fin 128 → EReal) (s : ℝ) (hP : ∀ j, P j ≠ ⊤) (hC : ∀ j, C j ≠ ⊤) : ∃ m : ℝ, peak P C s = m := by
  have top : peak P C s ≠ ⊤ := by
    refine (max_lt (max_lt ?_ ?_) (EReal.coe_lt_top s)).ne
    · exact (Finset.sup_lt_iff bot_lt_top).2 fun j _ => lt_top_iff_ne_top.2 (hP j)
    · exact (Finset.sup_lt_iff bot_lt_top).2 fun j _ => lt_top_iff_ne_top.2 (hC j)
  have bot : peak P C s ≠ ⊥ := (lt_of_lt_of_le (EReal.bot_lt_coe s) (le_max_right _ _)).ne'
  exact ⟨_, (EReal.coe_toReal top bot).symm⟩

theorem exp_real (x : EReal) (m : ℝ) (hx : x ≠ ⊤) : ∃ r : ℝ, 0 ≤ r ∧ Ideal.exp (x - m) = r := by
  induction x using EReal.rec with
  | bot => exact ⟨0, le_refl _, by rw [EReal.bot_sub]; rfl⟩
  | coe x => exact ⟨Real.exp (x - m), (Real.exp_pos _).le, by rw [← EReal.coe_sub, Ideal.exp_coe]⟩
  | top => exact absurd rfl hx

theorem sum_real {n : ℕ} (f : Fin n → EReal) (h : ∀ j, ∃ r : ℝ, 0 ≤ r ∧ f j = r) : ∃ r : ℝ, 0 ≤ r ∧ ∑ j, f j = r := by
  choose r hr e using h
  refine ⟨∑ j, r j, Finset.sum_nonneg fun j _ => hr j, ?_⟩
  exact (Finset.sum_congr rfl fun j _ => e j).trans (map_sum (⟨⟨Real.toEReal, EReal.coe_zero⟩, EReal.coe_add⟩ : ℝ →+ EReal) r Finset.univ).symm

theorem total_real (P C : Fin 128 → EReal) (s : ℝ) (hP : ∀ j, P j ≠ ⊤) (hC : ∀ j, C j ≠ ⊤) : ∃ t : ℝ, 0 < t ∧ total P C s = t := by
  obtain ⟨m, hm⟩ := peak_real P C s hP hC
  unfold total
  rw [hm]
  obtain ⟨a, ha, ea⟩ := sum_real _ fun j => exp_real (P j) m (hP j)
  obtain ⟨b, hb, eb⟩ := sum_real _ fun j => exp_real (C j) m (hC j)
  refine ⟨a + b + Real.exp (s - m), by positivity, ?_⟩
  rw [ea, eb, ← EReal.coe_sub, Ideal.exp_coe]
  rfl

/-- The whole window is its two halves, whatever values stand where a logit is masked. -/
theorem whole_eq (L V : Fin 256 → EReal) (P C vp vc : Fin 128 → EReal) (s : ℝ) (hP : ∀ j, P j ≠ ⊤) (hC : ∀ j, C j ≠ ⊤)
    (eP : ∀ j, L (lo j) = P j) (eC : ∀ j, L (hi j) = C j) (vP : ∀ j, P j ≠ ⊥ → V (lo j) = vp j) (vC : ∀ j, V (hi j) = vc j) :
    whole L s V = mixed P C s vp vc := by
  have pk : max (Finset.univ.sup L) (s : EReal) = peak P C s := by
    rw [sup_halves]
    simp only [eP, eC]
    rfl
  unfold whole mixed
  rw [pk, sum_halves fun k => Ideal.exp (L k - peak P C s), sum_halves]
  simp only [eP, eC, vC]
  show (∑ j, V (lo j) * Ideal.div (Ideal.exp (P j - peak P C s)) (total P C s)) + (∑ j, vc j * Ideal.div (Ideal.exp (C j - peak P C s)) (total P C s)) = _
  obtain ⟨m, hm⟩ := peak_real P C s hP hC
  obtain ⟨t, ht, et⟩ := total_real P C s hP hC
  rw [et, hm]
  have d (x : EReal) (hx : x ≠ ⊤) : Ideal.div (Ideal.exp (x - m)) (t : EReal) = Ideal.exp (x - m) * Ideal.div 1 (t : EReal) := by
    obtain ⟨r, -, er⟩ := exp_real x m hx
    rw [er, ← EReal.coe_one, Ideal.div_coe ht.ne', Ideal.div_coe ht.ne', EReal.coe_one, one_mul]
  refine congrArg₂ (· + ·) (Finset.sum_congr rfl fun j _ => ?_) (Finset.sum_congr rfl fun j _ => congrArg _ (d _ (hC j)))
  rw [d _ (hP j)]
  by_cases h : P j = ⊥
  · have z : Ideal.exp (P j - m) = 0 := by rw [h, EReal.bot_sub]; rfl
    rw [z, zero_mul, mul_zero, mul_zero]
  · rw [vP j h]

/-! ## The logits -/

theorem sums_real {n : ℕ} (f : Fin n → EReal) (h : ∀ j, ∃ r : ℝ, f j = r) : ∃ r : ℝ, ∑ j, f j = r := by
  choose r e using h
  exact ⟨∑ j, r j, (Finset.sum_congr rfl fun j _ => e j).trans (map_sum (⟨⟨Real.toEReal, EReal.coe_zero⟩, EReal.coe_add⟩ : ℝ →+ EReal) r Finset.univ).symm⟩

/-- A factor of every query may be taken out of a product of real numbers. -/
theorem scaled (q k : Fin 64 → EReal) (z : ℝ) (hq : ∀ d, ∃ r : ℝ, q d = r) (hk : ∀ d, ∃ r : ℝ, k d = r) :
    (∑ d, k d * q d) * (z : EReal) = ∑ d, q d * (z : EReal) * k d := by
  choose a ea using hq
  choose b eb using hk
  simp only [ea, eb, ← EReal.coe_mul]
  have e (f : Fin 64 → ℝ) : ∑ d, (f d : EReal) = ((∑ d, f d : ℝ) : EReal) :=
    (map_sum (⟨⟨Real.toEReal, EReal.coe_zero⟩, EReal.coe_add⟩ : ℝ →+ EReal) f Finset.univ).symm
  rw [e, e, ← EReal.coe_mul, Finset.sum_mul]
  exact congrArg _ (Finset.sum_congr rfl fun d _ => by ring)

theorem logit_real (q k : Fin 64 → EReal) (z : ℝ) (b : EReal) (hq : ∀ d, ∃ r : ℝ, q d = r) (hk : ∀ d, ∃ r : ℝ, k d = r) (hb : ∃ r : ℝ, b = r) :
    (∑ d, q d * (z : EReal) * k d) + b ≠ ⊤ := by
  obtain ⟨t, et⟩ := sums_real (fun d => q d * (z : EReal) * k d) fun d => by
    obtain ⟨a, ea⟩ := hq d
    obtain ⟨w, ew⟩ := hk d
    exact ⟨a * z * w, by rw [ea, ew, EReal.coe_mul, EReal.coe_mul]⟩
  obtain ⟨w, rfl⟩ := hb
  rw [et, ← EReal.coe_add]
  exact EReal.coe_ne_top _

end Cert.Window
-- ==== Proof.SwaHost.lean ====
/- What the forward kernel of the sliding window is given: the bias spread over the positions, the scaled queries, the keys and values by block. -/
module

public import proofs.«01_k».proof.Proof.BiasValue
public import proofs.«01_k».proof.Proof.SwaMath
public import proofs.«01_k».proof.Proof.SwaRun

@[expose] public section

set_option maxRecDepth 16384

noncomputable section

namespace Cert.Window

open Idealize.ShloMosaic Idealize.ShloMosaic.TcCoe Idealize.SL.Sem
open Cert.SwaIdeal Cert.SwaIdeal.Gen
open Cert.Relative (slot slot_spec mark spread pay_expand)

variable (m : (ℓ : Loc nD τ sig) → Buf (Elt Ideal) ℓ) (ρ : Dev nD → PrngReg) (c : Dev nD)

abbrev queries : FVec Ideal S1x8192x512 .f32 := m ((c : Thread nD τ).loc main_arg0)
abbrev keys : FVec Ideal S1x8192x128 .f32 := m ((c : Thread nD τ).loc main_arg1)
abbrev values : FVec Ideal S1x8192x128 .f32 := m ((c : Thread nD τ).loc main_arg2)
abbrev sinks : FVec Ideal S1x8 .f32 := m ((c : Thread nD τ).loc main_arg3)
abbrev table : FVec Ideal S32x8 .f32 := m ((c : Thread nD τ).loc main_arg4)

/-! ## The bias -/

theorem chosen (W : Valuation τ sig (Elt Ideal)) : (show IVec S128x256 32 from StableHlo.after hostOps0_1 W (Proc.devRef .tc main_v34))
    = select (show IVec S128x256 1 from W (Proc.devRef .tc main_v33)) (show IVec S128x256 32 from W (Proc.devRef .tc main_v16))
      (show IVec S128x256 32 from W (Proc.devRef .tc main_v31)) := by
  entry_read
  rfl
theorem before_dist (W : Valuation τ sig (Elt Ideal)) :
    (show IVec S128x256 32 from StableHlo.after hostOps0 W (Proc.devRef .tc main_v16)) = Cert.BiasRefIdeal.Read.val_main_v10 (F := Ideal) := by
  entry_read
  rfl
theorem before_near (W : Valuation τ sig (Elt Ideal)) :
    (show IVec S128x256 1 from StableHlo.after hostOps0 W (Proc.devRef .tc main_v33)) = Cert.BiasRefIdeal.Read.val_main_v27 (F := Ideal) := by
  entry_read
  rfl
theorem before_far (W : Valuation τ sig (Elt Ideal)) :
    (show IVec S128x256 32 from StableHlo.after hostOps0 W (Proc.devRef .tc main_v31)) = Cert.BiasRefIdeal.Read.val_main_v25 (F := Ideal) := by
  entry_read
  rfl

theorem host_bucket : (show IVec S128x256 32 from W2 m ρ c (Proc.devRef .tc main_v34)) = Cert.BiasRefIdeal.Read.val_main_v28 (F := Ideal) := by
  have e (a a' : IVec S128x256 1) (b b' d d' : IVec S128x256 32) (ha : a = a') (hb : b = b') (hd : d = d') : select a b d = select a' b' d' := by
    rw [ha, hb, hd]
  exact (chosen (W1 m ρ c)).trans (e _ _ _ _ _ _ (before_near (W0 m ρ c)) (before_dist (W0 m ρ c)) (before_far (W0 m ρ c)))

theorem marks (W : Valuation τ sig (Elt Ideal)) (r : Fin 32) (i : Fin 32768) :
    (show FVec Ideal S32x32768 .bf16 from StableHlo.after hostOps0_2 W (Proc.devRef .tc main_v41)) (ix2 r i)
      = FloatOps.uitofp (F := Ideal) .bf16 (IntOp.cmpi .eq ((show IVec S128x256 32 from W (Proc.devRef .tc main_v34))
        (ix2 (⟨i.val / 256, by omega⟩ : Fin 128) (⟨i.val % 256, by omega⟩ : Fin 256))) (BitVec.ofNat 32 r.val)) := by
  entry_read
  pointwise

theorem host_onehot (r : Fin 32) (i : Fin 32768) :
    (show FVec Ideal S32x32768 .bf16 from W3 m ρ c (Proc.devRef .tc main_v41)) (ix2 r i)
      = if slot ⟨i.val / 256, by omega⟩ ⟨i.val % 256, by omega⟩ = r then 1 else 0 := by
  refine (marks (W2 m ρ c) r i).trans ?_
  rw [host_bucket, slot_spec]
  exact mark _ _

theorem turned (W : Valuation τ sig (Elt Ideal)) (h : Fin 8) (r : Fin 32) :
    (show FVec Ideal S8x32 .f32 from StableHlo.after hostOps0_2 W (Proc.devRef .tc main_v42)) (ix2 h r)
      = (show FVec Ideal S32x8 .f32 from W (Proc.devRef .tc main_arg4)) (ix2 r h) := by
  entry_read
  pointwise
theorem host_table (h : Fin 8) (r : Fin 32) :
    (show FVec Ideal S8x32 .f32 from W3 m ρ c (Proc.devRef .tc main_v42)) (ix2 h r) = table m c (ix2 r h) :=
  (turned (W2 m ρ c) h r).trans (congrFun (W2_args m ρ c main_arg4 (by decide)) _)

theorem expanded (x : FVec Ideal S8x32 .f32) (o : FVec Ideal S32x32768 .bf16) (hx : ∀ j, ∃ r : ℝ, x j = r) (h : Fin 8) (i : Fin 32768) :
    k0_pay1 (F := Ideal) x o (ix2 h i) = ∑ r : Fin 32, x (ix2 h r) * o (ix2 r i) := pay_expand x o hx h i

theorem idx0 : ∀ t : Fin cfg0.N, win0_0.index t = ![0, 0] ∧ win0_1.index t = ![0, 0] ∧ win0_2.index t = ![0, 0] :=
  (by decide +kernel : ∀ t : Fin grid0.N, _)
theorem blk0_0 (p : Fin cfg0.N) (h : Fin 8) (r : Fin 32) :
    (show FVec Ideal S8x32 .f32 from iblk0 (V3 m ρ) c 0 p) (ix2 h r) = table m c (ix2 r h) := by
  refine Eq.trans (b := (show FVec Ideal S8x32 .f32 from V3 m ρ c main_v42) (ix2 h r)) ?_ (host_table m ρ c h r)
  blk_point [iblk0, idx0 p]
theorem blk0_1 (p : Fin cfg0.N) (r : Fin 32) (i : Fin 32768) :
    (show FVec Ideal S32x32768 .bf16 from iblk0 (V3 m ρ) c 1 p) (ix2 r i)
      = if slot ⟨i.val / 256, by omega⟩ ⟨i.val % 256, by omega⟩ = r then 1 else 0 := by
  refine Eq.trans (b := (show FVec Ideal S32x32768 .bf16 from V3 m ρ c main_v41) (ix2 r i)) ?_ (host_onehot m ρ c r i)
  blk_point [iblk0, idx0 p]
theorem final_bias (hx : ∀ j, ∃ r : ℝ, table m c j = r) : (dat0 (V3 m ρ) c).arrAt 2 cfg0.N
    = (fun j : S8x32768.Idx => spread (table m c) (j 0) (j 1)) := by
  refine (dat0 (V3 m ρ) c).arrAt_eq_of_covers 2 _ (by decide +kernel) fun p _ y => ?_
  blk_simp
  rw [after0_2]
  change S8x32768.Idx at y
  idx_vars y
  have e : ((cfg0.win 2).blk p).view.emb (ix2 y0 y1 : S8x32768.Idx) = (ix2 y0 y1 : S8x32768.Idx) := by
    blk_ext [idx0 p]
  rw [e]
  unfold out0_2
  frame_out
  refine (expanded _ _ (fun j => ?_) y0 y1).trans ?_
  · change S8x32.Idx at j
    idx_vars j
    obtain ⟨r, hr⟩ := hx (ix2 j1 j0)
    exact ⟨r, (blk0_0 m ρ c p j0 j1).trans hr⟩
  · refine (Finset.sum_congr rfl fun r _ => congrArg₂ (· * ·) (blk0_0 m ρ c p y0 r) (blk0_1 m ρ c p r y1)).trans ?_
    simp only [mul_ite, mul_one, mul_zero, Finset.sum_ite_eq, Finset.mem_univ, if_true]
    rfl

/-! ## The arrays in front of the second kernel -/

theorem laid_bias (W : Valuation τ sig (Elt Ideal)) (h : Fin 8) (q : Fin 128) (k : Fin 256) :
    (show FVec Ideal S8x128x256 .f32 from StableHlo.after hostOps1 W (Proc.devRef .tc main_v44)) (ix3 h q k)
      = (show FVec Ideal S8x32768 .f32 from W (Proc.devRef .tc main_v43)) (ix2 h (⟨q.val * 256 + k.val, by omega⟩ : Fin 32768)) := by
  entry_read
  pointwise
theorem laid_sink (W : Valuation τ sig (Elt Ideal)) (h : Fin 8) :
    (show FVec Ideal S8 .f32 from StableHlo.after hostOps1 W (Proc.devRef .tc main_v45)) (ix1 h)
      = (show FVec Ideal S1x8 .f32 from W (Proc.devRef .tc main_arg3)) (ix2 0 h) := by
  entry_read
  pointwise
theorem laid_query (W : Valuation τ sig (Elt Ideal)) (h : Fin 8) (n : Fin 64) (i : Fin 128) (d : Fin 64) :
    (show FVec Ideal S8x64x128x64 .bf16 from StableHlo.after hostOps1 W (Proc.devRef .tc main_v49)) (ix4 h n i d)
      = (show FVec Ideal S8192x512 .bf16 from W (Proc.devRef .tc main_v1)) (ix2 (⟨n.val * 128 + i.val, by omega⟩ : Fin 8192) (⟨h.val * 64 + d.val, by omega⟩ : Fin 512))
        * Ideal.ofBits .bf16 0x3E00#16 := by
  entry_read
  pointwise
theorem laid_key (W : Valuation τ sig (Elt Ideal)) (g : Fin 2) (n d : Fin 64) (j : Fin 128) :
    (show FVec Ideal S2x64x64x128 .bf16 from StableHlo.after hostOps1 W (Proc.devRef .tc main_v51)) (ix4 g n d j)
      = (show FVec Ideal S8192x128 .bf16 from W (Proc.devRef .tc main_v3)) (ix2 (⟨n.val * 128 + j.val, by omega⟩ : Fin 8192) (⟨g.val * 64 + d.val, by omega⟩ : Fin 128)) := by
  entry_read
  pointwise
theorem laid_value (W : Valuation τ sig (Elt Ideal)) (g : Fin 2) (n d : Fin 64) (j : Fin 128) :
    (show FVec Ideal S2x64x64x128 .bf16 from StableHlo.after hostOps1 W (Proc.devRef .tc main_v53)) (ix4 g n d j)
      = (show FVec Ideal S8192x128 .bf16 from W (Proc.devRef .tc main_v5)) (ix2 (⟨n.val * 128 + j.val, by omega⟩ : Fin 8192) (⟨g.val * 64 + d.val, by omega⟩ : Fin 128)) := by
  entry_read
  pointwise
theorem flat_query (W : Valuation τ sig (Elt Ideal)) (r : Fin 8192) (s : Fin 512) :
    (show FVec Ideal S8192x512 .bf16 from StableHlo.after hostOps0 W (Proc.devRef .tc main_v1)) (ix2 r s)
      = (show FVec Ideal S1x8192x512 .f32 from W (Proc.devRef .tc main_arg0)) (ix3 0 r s) := by
  entry_read
  pointwise
theorem flat_key (W : Valuation τ sig (Elt Ideal)) (r : Fin 8192) (s : Fin 128) :
    (show FVec Ideal S8192x128 .bf16 from StableHlo.after hostOps0 W (Proc.devRef .tc main_v3)) (ix2 r s)
      = (show FVec Ideal S1x8192x128 .f32 from W (Proc.devRef .tc main_arg1)) (ix3 0 r s) := by
  entry_read
  pointwise
theorem flat_value (W : Valuation τ sig (Elt Ideal)) (r : Fin 8192) (s : Fin 128) :
    (show FVec Ideal S8192x128 .bf16 from StableHlo.after hostOps0 W (Proc.devRef .tc main_v5)) (ix2 r s)
      = (show FVec Ideal S1x8192x128 .f32 from W (Proc.devRef .tc main_arg2)) (ix3 0 r s) := by
  entry_read
  pointwise

/-- A buffer that only the first host stretch writes keeps its contents through the first kernel. -/
theorem through (b : Ref sig .tc) (h1 : b ∉ hostOps0_1_W) (h2 : b ∉ hostOps0_2_W) (h3 : ∀ w, Pipeline.arrRef spec0 w ≠ b) :
    W4 m ρ c (Proc.devRef .tc b) = W1 m ρ c (Proc.devRef .tc b) :=
  (W4_of_ne m ρ c b h3).trans ((W3_of m ρ c b h2).trans (W2_of m ρ c b h1))

theorem eighth16 : Ideal.ofBits .bf16 0x3E00#16 = ((1 / 8 : ℝ) : EReal) := by
  simp [Ideal.ofBits, Ideal.ieee]
  rw [← EReal.coe_mul]
  norm_num

theorem given_query (h : Fin 8) (n : Fin 64) (i : Fin 128) (d : Fin 64) :
    (show FVec Ideal S8x64x128x64 .bf16 from V5 m ρ c main_v49) (ix4 h n i d)
      = queries m c (ix3 0 (⟨n.val * 128 + i.val, by omega⟩ : Fin 8192) (⟨h.val * 64 + d.val, by omega⟩ : Fin 512)) * ((1 / 8 : ℝ) : EReal) := by
  refine (laid_query (W4 m ρ c) h n i d).trans ?_
  rw [eighth16]
  exact congrArg (· * ((1 / 8 : ℝ) : EReal)) ((congrFun (through m ρ c main_v1 (by decide) (by decide) (by decide)) _).trans (flat_query (W0 m ρ c) _ _))
theorem given_key (g : Fin 2) (n d : Fin 64) (j : Fin 128) :
    (show FVec Ideal S2x64x64x128 .bf16 from V5 m ρ c main_v51) (ix4 g n d j)
      = keys m c (ix3 0 (⟨n.val * 128 + j.val, by omega⟩ : Fin 8192) (⟨g.val * 64 + d.val, by omega⟩ : Fin 128)) :=
  (laid_key (W4 m ρ c) g n d j).trans ((congrFun (through m ρ c main_v3 (by decide) (by decide) (by decide)) _).trans (flat_key (W0 m ρ c) _ _))
theorem given_value (g : Fin 2) (n d : Fin 64) (j : Fin 128) :
    (show FVec Ideal S2x64x64x128 .bf16 from V5 m ρ c main_v53) (ix4 g n d j)
      = values m c (ix3 0 (⟨n.val * 128 + j.val, by omega⟩ : Fin 8192) (⟨g.val * 64 + d.val, by omega⟩ : Fin 128)) :=
  (laid_value (W4 m ρ c) g n d j).trans ((congrFun (through m ρ c main_v5 (by decide) (by decide) (by decide)) _).trans (flat_value (W0 m ρ c) _ _))
theorem given_sink (h : Fin 8) : (show FVec Ideal S8 .f32 from V5 m ρ c main_v45) (ix1 h) = sinks m c (ix2 0 h) :=
  (laid_sink (W4 m ρ c) h).trans (congrFun (W4_args m ρ c main_arg3 (by decide)) _)
theorem given_bias (hx : ∀ j, ∃ r : ℝ, table m c j = r) (h : Fin 8) (q : Fin 128) (k : Fin 256) :
    (show FVec Ideal S8x128x256 .f32 from V5 m ρ c main_v44) (ix3 h q k) = table m c (ix2 (slot q k) h) := by
  refine (laid_bias (W4 m ρ c) h q k).trans ((congrFun ((W4_arr m ρ c 2).trans (final_bias m ρ c hx)) (ix2 h _)).trans ?_)
  show spread (table m c) h ⟨q.val * 256 + k.val, _⟩ = _
  have a : (⟨(q.val * 256 + k.val) / 256, by omega⟩ : Fin 128) = q := Fin.ext (show (q.val * 256 + k.val) / 256 = q.val by omega)
  have b : (⟨(q.val * 256 + k.val) % 256, by omega⟩ : Fin 256) = k := Fin.ext (show (q.val * 256 + k.val) % 256 = k.val by omega)
  unfold spread
  rw [a, b]

end Cert.Window
-- ==== Proof.SwaPay.lean ====
/- The forward kernel of the sliding window at one point: its payloads over the extended reals. -/
module

public import proofs.«01_k».proof.Proof.SwaMath
public import proofs.«01_k».proof.Proof.SwaRun

@[expose] public section

set_option maxRecDepth 16384

noncomputable section

namespace Cert.Window

open Idealize.ShloMosaic Idealize.ShloMosaic.TcCoe Idealize.SL.Sem
open Cert.SwaIdeal Cert.SwaIdeal.Gen

theorem later : ∀ r j : Fin 128, IntOp.cmpi .sgt (BitVec.ofNat 32 j.val) (BitVec.ofNat 32 r.val) = if r.val < j.val then 1#1 else 0#1 := by decide +kernel
theorem upto : ∀ r j : Fin 128, IntOp.cmpi .sle (BitVec.ofNat 32 j.val) (BitVec.ofNat 32 r.val) = if j.val ≤ r.val then 1#1 else 0#1 := by decide +kernel
theorem after_first : ∀ n : Fin 64, Scalar.xori (Scalar.cmpi .eq (BitVec.ofNat 32 n.val) 0#32) 1#1 = if n.val = 0 then 0#1 else 1#1 := by decide +kernel
theorem low_mask : (Named.named κ "mask" 0xF149F2CA#32 : Ideal .f32) = (⊥ : EReal) := rfl

theorem low_word : Ideal.ofBits .f32 0xFF800000#32 = (⊥ : EReal) := by
  simp [Ideal.ofBits, Ideal.ieee]

theorem pay_prev (i : grid1.Coords) (q : FVec Ideal S1x1x128x64 .bf16) (k : FVec Ideal S1x1x64x128 .bf16) (b : FVec Ideal S1x128x256 .f32) (r j : Fin 128) :
    k1_pay4 (F := Ideal) i q k b (ix2 r j)
      = if r.val < j.val ∧ (i 1).val ≠ 0 then (∑ d : Fin 64, q (ix4 0 0 r d) * k (ix4 0 0 d j)) + b (ix3 0 r (lo j)) else ⊥ := by
  pointwise [k1_pay4, k1_pay2, k1_pay3]
  rw [later, low_mask, after_first (i 1)]
  by_cases a : r.val < j.val <;> by_cases b0 : (i 1).val = 0
  · rw [if_pos a, if_pos b0, if_neg fun h => h.2 b0]; rfl
  · rw [if_pos a, if_neg b0, if_pos ⟨a, b0⟩]; rfl
  · rw [if_neg a, if_pos b0, if_neg fun h => h.2 b0]; rfl
  · rw [if_neg a, if_neg b0, if_neg fun h => a h.1]; rfl
theorem pay_cur (q : FVec Ideal S1x1x128x64 .bf16) (k : FVec Ideal S1x1x64x128 .bf16) (b : FVec Ideal S1x128x256 .f32) (r j : Fin 128) :
    k1_pay5 (F := Ideal) q k b (ix2 r j) = if j.val ≤ r.val then (∑ d : Fin 64, q (ix4 0 0 r d) * k (ix4 0 0 d j)) + b (ix3 0 r (hi j)) else ⊥ := by
  pointwise [k1_pay5, k1_pay2, k1_pay3]
  rw [upto, low_mask]
  by_cases a : j.val ≤ r.val
  · rw [if_pos a, if_pos a]; rfl
  · rw [if_neg a, if_neg a]; rfl
theorem pay_peak (i : grid1.Coords) (q : FVec Ideal S1x1x128x64 .bf16) (kp kc : FVec Ideal S1x1x64x128 .bf16) (b : FVec Ideal S1x128x256 .f32) (s : EReal) (r : Fin 128) :
    k1_pay6 (F := Ideal) i q kp kc b s (ix2 r 0)
      = peak (fun j => k1_pay4 (F := Ideal) i q kp b (ix2 r j)) (fun j => k1_pay5 (F := Ideal) q kc b (ix2 r j)) s := by
  pointwise [k1_pay6]
  rw [low_word, fold_sup, fold_sup]
  rfl
theorem pay_out (s : EReal) (P C : FVec Ideal S128x128 .f32) (M : FVec Ideal S128x1 .f32) (vp vc : FVec Ideal S1x1x64x128 .bf16) (d : Fin 64) (r : Fin 128)
    (hM : M (ix2 r 0) = peak (fun j => P (ix2 r j)) (fun j => C (ix2 r j)) s) :
    k1_pay1 (F := Ideal) s P C M vp vc (ix4 0 0 d r) = mixed (fun j => P (ix2 r j)) (fun j => C (ix2 r j)) s (fun j => vp (ix4 0 0 d j)) (fun j => vc (ix4 0 0 d j)) := by
  unfold mixed total
  rw [← hM]
  pointwise [k1_pay1]

/-- One point: the output's element from the blocks it is given. -/
theorem pay_point (i : grid1.Coords) (q : FVec Ideal S1x1x128x64 .bf16) (kp kc vp vc : FVec Ideal S1x1x64x128 .bf16) (b : FVec Ideal S1x128x256 .f32) (s : EReal) (d : Fin 64) (r : Fin 128) :
    k1_pay1 (F := Ideal) s (k1_pay4 i q kp b) (k1_pay5 q kc b) (k1_pay6 i q kp kc b s) vp vc (ix4 0 0 d r)
      = mixed (fun j => if r.val < j.val ∧ (i 1).val ≠ 0 then (∑ d : Fin 64, q (ix4 0 0 r d) * kp (ix4 0 0 d j)) + b (ix3 0 r (lo j)) else ⊥)
        (fun j => if j.val ≤ r.val then (∑ d : Fin 64, q (ix4 0 0 r d) * kc (ix4 0 0 d j)) + b (ix3 0 r (hi j)) else ⊥) s
        (fun j => vp (ix4 0 0 d j)) (fun j => vc (ix4 0 0 d j)) := by
  rw [pay_out s _ _ _ vp vc d r (pay_peak i q kp kc b s r)]
  simp only [pay_prev, pay_cur]

end Cert.Window
-- ==== Proof.SwaRef.lean ====
/- The reference of sliding-window attention read at an element: the whole window of a row. -/
module

public import proofs.«01_k».proof.Proof.Gen.SwaRefIdeal.Read
public import proofs.«01_k».proof.Proof.BiasBucket
public import proofs.«01_k».proof.Proof.SwaMath

@[expose] public section

set_option maxRecDepth 16384

noncomputable section

namespace Cert.Window

open Idealize.ShloMosaic Idealize.ShloMosaic.TcCoe
open Cert.SwaRefIdeal Cert.SwaRefIdeal.Gen Cert.SwaRefIdeal.Read
open Cert.Relative (slot)

variable (x0 : FVec Ideal S1x8192x512 .f32) (x1 x2 : FVec Ideal S1x8192x128 .f32) (x3 : FVec Ideal S1x8 .f32) (x4 : FVec Ideal S32x8 .f32)

/-- A head's query at a row of a block, -/
def query (h : Fin 8) (n : Fin 64) (i : Fin 128) (d : Fin 64) : EReal := x0 (ix3 0 (⟨n.val * 128 + i.val, by omega⟩ : Fin 8192) (⟨h.val * 64 + d.val, by omega⟩ : Fin 512))
/-- and a key or a value of a group of heads. -/
def kept (x : FVec Ideal S1x8192x128 .f32) (g : Fin 2) (n : Fin 64) (j : Fin 128) (d : Fin 64) : EReal :=
  x (ix3 0 (⟨n.val * 128 + j.val, by omega⟩ : Fin 8192) (⟨g.val * 64 + d.val, by omega⟩ : Fin 128))
def back (n : Fin 64) : Fin 64 := ⟨n.val - 1, by omega⟩
def headOf (g : Fin 2) (a : Fin 4) : Fin 8 := ⟨g.val * 4 + a.val, by omega⟩

theorem ref_query (n : Fin 64) (i : Fin 128) (g : Fin 2) (a : Fin 4) (d : Fin 64) :
    val_main_v7 (F := Ideal) x0 (ix5 n i g a d) = query x0 (headOf g a) n i d := by
  pointwise [val_main_v7, val_main_v1, val_main_v0]
  rfl
theorem ref_key (n : Fin 64) (j : Fin 128) (g : Fin 2) (d : Fin 64) : val_main_v8 (F := Ideal) x1 (ix4 n j g d) = kept x1 g n j d := by
  pointwise [val_main_v8, val_main_v3, val_main_v2]
  rfl
theorem ref_value (n : Fin 64) (j : Fin 128) (g : Fin 2) (d : Fin 64) : val_main_v9 (F := Ideal) x2 (ix4 n j g d) = kept x2 g n j d := by
  pointwise [val_main_v9, val_main_v5, val_main_v4]
  rfl

theorem keys_lo (n : Fin 64) (j : Fin 128) (g : Fin 2) (d : Fin 64) (hn : n.val ≠ 0) : val_main_v14 (F := Ideal) x1 (ix4 n (lo j) g d) = kept x1 g (back n) j d := by
  pointwise [val_main_v14, val_main_v13, val_main_v12, val_main_v11]
  rw [dif_pos (show (lo j).val < 128 from j.isLt), dif_neg (show ¬ n.val < 1 by omega)]
  exact ref_key x1 (back n) j g d
theorem keys_hi (n : Fin 64) (j : Fin 128) (g : Fin 2) (d : Fin 64) : val_main_v14 (F := Ideal) x1 (ix4 n (hi j) g d) = kept x1 g n j d := by
  pointwise [val_main_v14, val_main_v13, val_main_v12, val_main_v11]
  rw [dif_neg (show ¬ (hi j).val < 128 from not_lt.2 (Nat.le_add_right 128 j.val))]
  refine Eq.trans (congrArg (fun r : Fin 128 => val_main_v8 (F := Ideal) x1 (ix4 n r g d)) (Fin.ext (show 128 + j.val - 128 = j.val by omega))) ?_
  exact ref_key x1 n j g d
theorem values_lo (n : Fin 64) (j : Fin 128) (g : Fin 2) (d : Fin 64) (hn : n.val ≠ 0) : val_main_v19 (F := Ideal) x2 (ix4 n (lo j) g d) = kept x2 g (back n) j d := by
  pointwise [val_main_v19, val_main_v18, val_main_v17, val_main_v16]
  rw [dif_pos (show (lo j).val < 128 from j.isLt), dif_neg (show ¬ n.val < 1 by omega)]
  exact ref_value x2 (back n) j g d
theorem values_hi (n : Fin 64) (j : Fin 128) (g : Fin 2) (d : Fin 64) : val_main_v19 (F := Ideal) x2 (ix4 n (hi j) g d) = kept x2 g n j d := by
  pointwise [val_main_v19, val_main_v18, val_main_v17, val_main_v16]
  rw [dif_neg (show ¬ (hi j).val < 128 from not_lt.2 (Nat.le_add_right 128 j.val))]
  refine Eq.trans (congrArg (fun r : Fin 128 => val_main_v9 (F := Ideal) x2 (ix4 n r g d)) (Fin.ext (show 128 + j.val - 128 = j.val by omega))) ?_
  exact ref_value x2 n j g d

/-! ## The mask -/

/-- Whether a key lies in the window of a query, -/
def near (i J : ℕ) : BitVec 1 :=
  IntOp.andi (IntOp.cmpi .sge (IntOp.subi (IntOp.addi (BitVec.ofNat 32 i) 128#32) (BitVec.ofNat 32 J)) 0#32)
    (IntOp.cmpi .slt (IntOp.subi (IntOp.addi (BitVec.ofNat 32 i) 128#32) (BitVec.ofNat 32 J)) 128#32)
/-- and in the sequence. -/
def inside (n J : ℕ) : BitVec 1 := IntOp.cmpi .sge (IntOp.subi (IntOp.addi (IntOp.muli (BitVec.ofNat 32 n) 128#32) (BitVec.ofNat 32 J)) 128#32) 0#32
theorem near_lo : ∀ i j : Fin 128, near i.val j.val = if i.val < j.val then 1#1 else 0#1 := by decide +kernel
theorem near_hi : ∀ i j : Fin 128, near i.val (128 + j.val) = if j.val ≤ i.val then 1#1 else 0#1 := by decide +kernel
theorem inside_lo : ∀ (n : Fin 64) (j : Fin 128), inside n.val j.val = if n.val = 0 then 0#1 else 1#1 := by decide +kernel
theorem inside_hi : ∀ (n : Fin 64) (j : Fin 128), inside n.val (128 + j.val) = 1#1 := by decide +kernel

theorem ref_near (i : Fin 128) (J : Fin 256) : val_main_v37 (F := Ideal) (ix2 i J) = near i.val J.val := by
  pointwise [val_main_v37, val_main_v36, val_main_v35, val_main_v34, val_main_v33, val_main_v32, val_main_v31, val_main_v30, val_main_v29, val_main_v28, val_main_v27, val_main_v26, val_main_v25, val_main_v24]
  rfl
theorem ref_inside (n : Fin 64) (J : Fin 256) : val_main_v80 (F := Ideal) (ix2 n J) = inside n.val J.val := by
  pointwise [val_main_v80, val_main_v79, val_main_v77, val_main_v76, val_main_v75, val_main_v74, val_main_v73, val_main_v72, val_main_v71, val_main_v70, val_main_v69, val_main_v68, val_main_v67, val_main_c_14, val_main_c_15, val_main_c_16]
  rfl

theorem low32 : Ideal.ofBits .f32 0xFF800000#32 = (⊥ : EReal) := by
  simp [Ideal.ofBits, Ideal.ieee]

theorem ref_logit (n : Fin 64) (g : Fin 2) (a : Fin 4) (i : Fin 128) (J : Fin 256) :
    val_main_v89 (F := Ideal) x0 x1 x4 (ix5 n g a i J)
      = Scalar.select (IntOp.andi (near i.val J.val) (inside n.val J.val)) ((∑ d : Fin 64, val_main_v14 (F := Ideal) x1 (ix4 n J g d) * query x0 (headOf g a) n i d)
          * Ideal.ofBits .f32 0x3E000000#32 + val_main_v65 (F := Ideal) x4 (ix3 (headOf g a) i J)) ⊥ := by
  rw [← low32, ← ref_near, ← ref_inside]
  simp only [← ref_query]
  pointwise [val_main_v89, val_main_v88, val_main_v87, val_main_v86, val_main_v85, val_main_v84, val_main_v83, val_main_v82, val_main_v81, val_main_v78, val_main_v66,
    val_main_v23, val_main_v22, val_main_v21, val_main_v20, val_main_cst_1, val_main_cst_17, val_main_call1_v0, val_main_call1_v1, val_main_call1_v2]
  rfl

/-! ## The row -/

theorem ref_max (n : Fin 64) (g : Fin 2) (a : Fin 4) (i : Fin 128) : val_main_v92 (F := Ideal) x0 x1 x4 (ix4 n g a i)
    = Finset.univ.fold max (Ideal.ofBits .f32 0xFF800000#32) fun J => val_main_v89 (F := Ideal) x0 x1 x4 (ix5 n g a i J) := by
  unfold val_main_v92
  generalize val_main_v89 (F := Ideal) x0 x1 x4 = y
  pointwise [val_main_cst_18]
theorem ref_kept_max (n : Fin 64) (g : Fin 2) (a : Fin 4) (i : Fin 128) :
    val_main_v93 (F := Ideal) x0 x1 x4 (ix5 n g a i 0) = val_main_v92 (F := Ideal) x0 x1 x4 (ix4 n g a i) := by
  unfold val_main_v93
  generalize val_main_v92 (F := Ideal) x0 x1 x4 = y
  pointwise []
theorem ref_sink (n : Fin 64) (g : Fin 2) (a : Fin 4) (i : Fin 128) : val_main_v94 (F := Ideal) x3 (ix5 n g a i 0) = x3 (ix2 0 (headOf g a)) := by
  pointwise [val_main_v94, val_main_v91, val_main_v90, val_main_v6, headOf]
theorem larger (y z : FVec Ideal S64x2x4x128x1 .f32) (k : S64x2x4x128x1.Idx) : maximumf y z k = max (y k) (z k) := rfl
theorem ref_peak (n : Fin 64) (g : Fin 2) (a : Fin 4) (i : Fin 128) : val_main_v95 (F := Ideal) x0 x1 x3 x4 (ix5 n g a i 0)
    = max (Finset.univ.sup fun J => val_main_v89 (F := Ideal) x0 x1 x4 (ix5 n g a i J)) (x3 (ix2 0 (headOf g a))) := by
  unfold val_main_v95
  refine (larger _ _ _).trans (congrArg₂ max ?_ (ref_sink x3 n g a i))
  refine (ref_kept_max x0 x1 x4 n g a i).trans ((ref_max x0 x1 x4 n g a i).trans ?_)
  generalize val_main_v89 (F := Ideal) x0 x1 x4 = y
  rw [low32]
  exact fold_sup _
theorem ref_weight (n : Fin 64) (g : Fin 2) (a : Fin 4) (i : Fin 128) (J : Fin 256) : val_main_v98 (F := Ideal) x0 x1 x3 x4 (ix5 n g a i J)
    = Ideal.exp (val_main_v89 (F := Ideal) x0 x1 x4 (ix5 n g a i J) - val_main_v95 (F := Ideal) x0 x1 x3 x4 (ix5 n g a i 0)) := by
  pointwise [val_main_v98, val_main_v97, val_main_v96]
theorem ref_total (n : Fin 64) (g : Fin 2) (a : Fin 4) (i : Fin 128) : val_main_v104 (F := Ideal) x0 x1 x3 x4 (ix5 n g a i 0)
    = (∑ J, val_main_v98 (F := Ideal) x0 x1 x3 x4 (ix5 n g a i J)) + Ideal.exp (x3 (ix2 0 (headOf g a)) - val_main_v95 (F := Ideal) x0 x1 x3 x4 (ix5 n g a i 0)) := by
  pointwise [val_main_v104, val_main_v103, val_main_v102, val_main_v101, val_main_v100, val_main_v99, val_main_v91, val_main_v90, val_main_v6, val_main_cst_19]
  rfl
theorem ref_mix (n : Fin 64) (g : Fin 2) (a : Fin 4) (i : Fin 128) (d : Fin 64) : val_main_v107 (F := Ideal) x0 x1 x2 x3 x4 (ix5 n g d a i)
    = ∑ J, val_main_v19 (F := Ideal) x2 (ix4 n J g d) * val_main_v106 (F := Ideal) x0 x1 x3 x4 (ix5 n g a i J) := by
  pointwise [val_main_v107]
theorem ref_share (n : Fin 64) (g : Fin 2) (a : Fin 4) (i : Fin 128) (J : Fin 256) : val_main_v106 (F := Ideal) x0 x1 x3 x4 (ix5 n g a i J)
    = Ideal.div (val_main_v98 (F := Ideal) x0 x1 x3 x4 (ix5 n g a i J)) (val_main_v104 (F := Ideal) x0 x1 x3 x4 (ix5 n g a i 0)) := by
  pointwise [val_main_v106, val_main_v105]

theorem ref_row (n : Fin 64) (g : Fin 2) (a : Fin 4) (i : Fin 128) (d : Fin 64) :
    val_main_v107 (F := Ideal) x0 x1 x2 x3 x4 (ix5 n g d a i)
      = whole (fun J => val_main_v89 (F := Ideal) x0 x1 x4 (ix5 n g a i J)) (x3 (ix2 0 (headOf g a))) (fun J => val_main_v19 (F := Ideal) x2 (ix4 n J g d)) := by
  rw [ref_mix]
  simp only [ref_share, ref_total, ref_weight, ref_peak]
  rfl

theorem ref_out (h : Fin 8) (n d : Fin 64) (i : Fin 128) : val_main_v111 (F := Ideal) x0 x1 x2 x3 x4 (ix4 h n d i)
    = val_main_v107 (F := Ideal) x0 x1 x2 x3 x4 (ix5 n (⟨h.val / 4, by omega⟩ : Fin 2) d (⟨h.val % 4, by omega⟩ : Fin 4) i) := by
  pointwise [val_main_v111, val_main_v110, val_main_v109, val_main_v108]

end Cert.Window
-- ==== Proof.SwaValue.lean ====
/- The array the forward kernel of the sliding window leaves. -/
module

public import proofs.«01_k».proof.Proof.SwaHost
public import proofs.«01_k».proof.Proof.SwaPay
public import proofs.«01_k».proof.Proof.SwaRef

@[expose] public section

set_option maxRecDepth 16384

noncomputable section

namespace Cert.Window

open Idealize.ShloMosaic Idealize.ShloMosaic.TcCoe Idealize.SL.Sem
open Cert.SwaIdeal Cert.SwaIdeal.Gen
open Cert.Relative (slot)

def groupOf (h : Fin 8) : Fin 2 := ⟨h.val / 4, by omega⟩

/-- The logit of a query and a key of the block before, -/
def prevAt (x0 : FVec Ideal S1x8192x512 .f32) (x1 : FVec Ideal S1x8192x128 .f32) (x4 : FVec Ideal S32x8 .f32) (h : Fin 8) (n : Fin 64) (r j : Fin 128) : EReal :=
  if r.val < j.val ∧ n.val ≠ 0 then (∑ d : Fin 64, query x0 h n r d * ((1 / 8 : ℝ) : EReal) * kept x1 (groupOf h) (back n) j d) + x4 (ix2 (slot r (lo j)) h) else ⊥
/-- of a query and a key of its own block, -/
def curAt (x0 : FVec Ideal S1x8192x512 .f32) (x1 : FVec Ideal S1x8192x128 .f32) (x4 : FVec Ideal S32x8 .f32) (h : Fin 8) (n : Fin 64) (r j : Fin 128) : EReal :=
  if j.val ≤ r.val then (∑ d : Fin 64, query x0 h n r d * ((1 / 8 : ℝ) : EReal) * kept x1 (groupOf h) n j d) + x4 (ix2 (slot r (hi j)) h) else ⊥
/-- and the output. -/
def outAt (x0 : FVec Ideal S1x8192x512 .f32) (x1 x2 : FVec Ideal S1x8192x128 .f32) (x3 : FVec Ideal S1x8 .f32) (x4 : FVec Ideal S32x8 .f32)
    (h : Fin 8) (n d : Fin 64) (r : Fin 128) : EReal :=
  mixed (prevAt x0 x1 x4 h n r) (curAt x0 x1 x4 h n r) (x3 (ix2 0 h)) (fun j => kept x2 (groupOf h) (back n) j d) (fun j => kept x2 (groupOf h) n j d)

variable (m : (ℓ : Loc nD τ sig) → Buf (Elt Ideal) ℓ) (ρ : Dev nD → PrngReg) (c : Dev nD)

theorem idx1 : ∀ t : Fin cfg1.N, win1_0.index t = ![0] ∧ win1_1.index t = ![t.val / 64, t.val % 64, 0, 0]
    ∧ win1_2.index t = ![t.val / 256, t.val % 64 - 1, 0, 0] ∧ win1_3.index t = ![t.val / 256, t.val % 64, 0, 0]
    ∧ win1_4.index t = ![t.val / 256, t.val % 64 - 1, 0, 0] ∧ win1_5.index t = ![t.val / 256, t.val % 64, 0, 0]
    ∧ win1_6.index t = ![t.val / 64, 0, 0] ∧ win1_7.index t = ![t.val / 64, t.val % 64, 0, 0] :=
  (by decide +kernel : ∀ t : Fin grid1.N, _)
theorem coords1 : ∀ t : Fin cfg1.N, k1_off1 (grid1.coords t) = ![t.val / 64] ∧ (grid1.coords t 1).val = t.val % 64 :=
  (by decide +kernel : ∀ t : Fin grid1.N, _)
theorem points (t : Fin cfg1.N) : t.val < 512 := t.isLt

/-- The head and the block of a point. -/
def headAt (t : Fin cfg1.N) : Fin 8 := ⟨t.val / 64, by have := points t; omega⟩
def blockAt (t : Fin cfg1.N) : Fin 64 := ⟨t.val % 64, by omega⟩

theorem blk_query (t : Fin cfg1.N) (r : Fin 128) (d : Fin 64) :
    (show FVec Ideal S1x1x128x64 .bf16 from iblk1 (V5 m ρ) c 1 t) (ix4 0 0 r d) = query (queries m c) (headAt t) (blockAt t) r d * ((1 / 8 : ℝ) : EReal) := by
  have := points t
  refine Eq.trans (b := (show FVec Ideal S8x64x128x64 .bf16 from V5 m ρ c main_v49) (ix4 (headAt t) (blockAt t) r d)) ?_ (given_query m ρ c _ _ r d)
  blk_point [iblk1, headAt, blockAt, idx1 t]
theorem blk_key (t : Fin cfg1.N) (d : Fin 64) (j : Fin 128) :
    (show FVec Ideal S1x1x64x128 .bf16 from iblk1 (V5 m ρ) c 3 t) (ix4 0 0 d j) = kept (keys m c) (groupOf (headAt t)) (blockAt t) j d := by
  have := points t
  have e : t.val / 256 = t.val / 64 / 4 := by omega
  refine Eq.trans (b := (show FVec Ideal S2x64x64x128 .bf16 from V5 m ρ c main_v51) (ix4 (groupOf (headAt t)) (blockAt t) d j)) ?_ (given_key m ρ c _ _ d j)
  blk_point [iblk1, headAt, blockAt, groupOf, idx1 t, e]
theorem blk_key_before (t : Fin cfg1.N) (d : Fin 64) (j : Fin 128) :
    (show FVec Ideal S1x1x64x128 .bf16 from iblk1 (V5 m ρ) c 2 t) (ix4 0 0 d j) = kept (keys m c) (groupOf (headAt t)) (back (blockAt t)) j d := by
  have := points t
  have e : t.val / 256 = t.val / 64 / 4 := by omega
  refine Eq.trans (b := (show FVec Ideal S2x64x64x128 .bf16 from V5 m ρ c main_v51) (ix4 (groupOf (headAt t)) (back (blockAt t)) d j)) ?_ (given_key m ρ c _ _ d j)
  blk_point [iblk1, headAt, blockAt, back, groupOf, idx1 t, e]
theorem blk_value (t : Fin cfg1.N) (d : Fin 64) (j : Fin 128) :
    (show FVec Ideal S1x1x64x128 .bf16 from iblk1 (V5 m ρ) c 5 t) (ix4 0 0 d j) = kept (values m c) (groupOf (headAt t)) (blockAt t) j d := by
  have := points t
  have e : t.val / 256 = t.val / 64 / 4 := by omega
  refine Eq.trans (b := (show FVec Ideal S2x64x64x128 .bf16 from V5 m ρ c main_v53) (ix4 (groupOf (headAt t)) (blockAt t) d j)) ?_ (given_value m ρ c _ _ d j)
  blk_point [iblk1, headAt, blockAt, groupOf, idx1 t, e]
theorem blk_value_before (t : Fin cfg1.N) (d : Fin 64) (j : Fin 128) :
    (show FVec Ideal S1x1x64x128 .bf16 from iblk1 (V5 m ρ) c 4 t) (ix4 0 0 d j) = kept (values m c) (groupOf (headAt t)) (back (blockAt t)) j d := by
  have := points t
  have e : t.val / 256 = t.val / 64 / 4 := by omega
  refine Eq.trans (b := (show FVec Ideal S2x64x64x128 .bf16 from V5 m ρ c main_v53) (ix4 (groupOf (headAt t)) (back (blockAt t)) d j)) ?_ (given_value m ρ c _ _ d j)
  blk_point [iblk1, headAt, blockAt, back, groupOf, idx1 t, e]
theorem blk_bias (hx : ∀ j, ∃ r : ℝ, table m c j = r) (t : Fin cfg1.N) (r : Fin 128) (k : Fin 256) :
    (show FVec Ideal S1x128x256 .f32 from iblk1 (V5 m ρ) c 6 t) (ix3 0 r k) = table m c (ix2 (slot r k) (headAt t)) := by
  have := points t
  refine Eq.trans (b := (show FVec Ideal S8x128x256 .f32 from V5 m ρ c main_v44) (ix3 (headAt t) r k)) ?_ (given_bias m ρ c hx _ r k)
  blk_point [iblk1, headAt, idx1 t]
theorem blk_sink (t : Fin cfg1.N) (h : Fin 8) : (show FVec Ideal S8 .f32 from iblk1 (V5 m ρ) c 0 t) (ix1 h) = sinks m c (ix2 0 h) := by
  refine Eq.trans (b := (show FVec Ideal S8 .f32 from V5 m ρ c main_v45) (ix1 h)) ?_ (given_sink m ρ c h)
  blk_point [iblk1, idx1 t]

/-- What a point computes of its blocks. -/
theorem at_point (hx : ∀ j, ∃ r : ℝ, table m c j = r) (t : Fin cfg1.N) (y2 : Fin 64) (y3 : Fin 128) (s : EReal) (hs : s = sinks m c (ix2 0 (headAt t))) :
    mixed (fun j : Fin 128 => if y3.val < j.val ∧ (grid1.coords t 1).val ≠ 0 then
          (∑ d : Fin 64, (show FVec Ideal S1x1x128x64 .bf16 from iblk1 (V5 m ρ) c 1 t) (ix4 0 0 y3 d) * (show FVec Ideal S1x1x64x128 .bf16 from iblk1 (V5 m ρ) c 2 t) (ix4 0 0 d j))
            + (show FVec Ideal S1x128x256 .f32 from iblk1 (V5 m ρ) c 6 t) (ix3 0 y3 (lo j)) else ⊥)
        (fun j : Fin 128 => if j.val ≤ y3.val then
          (∑ d : Fin 64, (show FVec Ideal S1x1x128x64 .bf16 from iblk1 (V5 m ρ) c 1 t) (ix4 0 0 y3 d) * (show FVec Ideal S1x1x64x128 .bf16 from iblk1 (V5 m ρ) c 3 t) (ix4 0 0 d j))
            + (show FVec Ideal S1x128x256 .f32 from iblk1 (V5 m ρ) c 6 t) (ix3 0 y3 (hi j)) else ⊥) s
        (fun j => (show FVec Ideal S1x1x64x128 .bf16 from iblk1 (V5 m ρ) c 4 t) (ix4 0 0 y2 j)) (fun j => (show FVec Ideal S1x1x64x128 .bf16 from iblk1 (V5 m ρ) c 5 t) (ix4 0 0 y2 j))
      = outAt (queries m c) (keys m c) (values m c) (sinks m c) (table m c) (headAt t) (blockAt t) y2 y3 := by
  unfold outAt
  refine mixed_congr (fun j => ?_) (fun j => ?_) hs (fun j => blk_value_before m ρ c t y2 j) fun j => blk_value m ρ c t y2 j
  · show _ = prevAt (queries m c) (keys m c) (table m c) (headAt t) (blockAt t) y3 j
    unfold prevAt
    rw [show (grid1.coords t 1).val = (blockAt t).val from (coords1 t).2]
    refine ite_congr rfl (fun _ => congrArg₂ (· + ·) (Finset.sum_congr rfl fun d _ => congrArg₂ (· * ·) (blk_query m ρ c t y3 d) (blk_key_before m ρ c t d j)) (blk_bias m ρ c hx t y3 _)) fun _ => rfl
  · show _ = curAt (queries m c) (keys m c) (table m c) (headAt t) (blockAt t) y3 j
    unfold curAt
    refine ite_congr rfl (fun _ => congrArg₂ (· + ·) (Finset.sum_congr rfl fun d _ => congrArg₂ (· * ·) (blk_query m ρ c t y3 d) (blk_key m ρ c t d j)) (blk_bias m ρ c hx t y3 _)) fun _ => rfl

set_option maxHeartbeats 3000000 in
theorem final_out (hx : ∀ j, ∃ r : ℝ, table m c j = r) : (dat1 (V5 m ρ) c).arrAt 7 cfg1.N
    = (fun j : S8x64x64x128.Idx => outAt (queries m c) (keys m c) (values m c) (sinks m c) (table m c) (j 0) (j 1) (j 2) (j 3)) := by
  refine (dat1 (V5 m ρ) c).arrAt_eq_of_covers 7 _ (by decide +kernel) fun t _ y => ?_
  blk_simp
  rw [after1_7]
  change S1x1x64x128.Idx at y
  idx_vars y
  obtain rfl : y0 = 0 := Subsingleton.elim _ _
  obtain rfl : y1 = 0 := Subsingleton.elim _ _
  have lt := points t
  have e : ((cfg1.win 7).blk t).view.emb (ix4 0 0 y2 y3 : S1x1x64x128.Idx) = (ix4 (headAt t) (blockAt t) y2 y3 : S8x64x64x128.Idx) := by
    blk_ext [headAt, blockAt, idx1 t]
  rw [e]
  unfold outsAt1 out1_A_7
  frame_out
  refine (pay_point _ _ _ _ _ _ _ _ y2 y3).trans (at_point m ρ c hx t y2 y3 _ ?_)
  refine (View.ld_unit_apply_of _ _ _ _ _ (ix1 (headAt t)) fun a => ?_).trans (blk_sink m ρ c t (headAt t))
  fin_cases a
  exact (congrFun (coords1 t).1 0).symm

end Cert.Window
-- ==== Proof.SwaClaim.lean ====
/- The forward pass of sliding-window attention against its reference. -/
module

public import proofs.«01_k».proof.Defs
public import proofs.«01_k».proof.Proof.Gen.SwaRefIdeal.Run
public import proofs.«01_k».proof.Proof.Gen.Pre_finite_swa
public import proofs.«01_k».proof.Proof.SwaRun
public import proofs.«01_k».proof.Proof.SwaValue
public import Idealize.ShloMosaic.Lib.Claim

@[expose] public section

set_option maxRecDepth 16384

noncomputable section

namespace Cert.Window

open Idealize.ShloMosaic Idealize.ShloMosaic.TcCoe Idealize.SL.Sem
open Cert.SwaIdeal Cert.SwaIdeal.Gen
open Cert.Relative (slot ref_bias)
open Cert.SwaRefIdeal.Read (val_main_v14 val_main_v19 val_main_v65 val_main_v89 val_main_v111)

theorem frame_reference : Cert.quiescent_SwaRefIdeal := fun m ρ _ =>
  (θ_run Cert.SwaRefIdeal.defs _ _).mono (fun r h => ⟨fun c => (h c).2, sem_eq_zero_of_no_sems (by decide) r.2⟩)
    (Cert.SwaRefIdeal.Value.run (F := Ideal) m ρ)

theorem preserves_mask : Cert.preserves_Swa_SwaIdeal := IdealRules.named_const.statement Cert.SwaIdeal.κ "mask" .f32 0xF149F2CA#32 ⊥ rfl

theorem finite_at (x0 : FVec Ideal S1x8192x512 .f32) (x1 x2 : FVec Ideal S1x8192x128 .f32) (x3 : FVec Ideal S1x8 .f32) (x4 : FVec Ideal S32x8 .f32)
    (h : Cert.Pre_finite_swa.fn (F := Ideal) x0 x1 x2 x3 x4 = fun _ => 1#1) :
    (∀ j, ∃ r : ℝ, x0 j = r) ∧ (∀ j, ∃ r : ℝ, x1 j = r) ∧ (∀ j, ∃ r : ℝ, x3 j = r) ∧ ∀ j, ∃ r : ℝ, x4 j = r := by
  have e := congrFun h ix0
  dsimp only [Cert.Pre_finite_swa.fn, Cert.Pre_finite_swa.fn_part1] at e
  obtain ⟨e, e4⟩ := Norm.both _ _ e
  obtain ⟨e, e3⟩ := Norm.both _ _ e
  obtain ⟨e0, e1⟩ := Norm.both _ _ e
  exact ⟨Norm.all_real x0 _ _ _ _ _ (fun _ => rfl) e0, Norm.all_real x1 _ _ _ _ _ (fun _ => rfl) e1,
    Norm.all_real x3 _ _ _ _ _ (fun _ => rfl) e3, Norm.all_real x4 _ _ _ _ _ (fun _ => rfl) e4⟩

theorem eighth32 : Ideal.ofBits .f32 0x3E000000#32 = ((1 / 8 : ℝ) : EReal) := by
  simp [Ideal.ofBits, Ideal.ieee]
  rw [← EReal.coe_mul]
  norm_num

/-! ## The logits of a window are those of its two blocks -/

variable (x0 : FVec Ideal S1x8192x512 .f32) (x1 x2 : FVec Ideal S1x8192x128 .f32) (x3 : FVec Ideal S1x8 .f32) (x4 : FVec Ideal S32x8 .f32)

theorem same_lookup : val_main_v65 (F := Ideal) x4 = Cert.BiasRefIdeal.Read.val_main_v36 (F := Ideal) x4 := rfl
theorem ref_lookup (h : Fin 8) (q : Fin 128) (k : Fin 256) : val_main_v65 (F := Ideal) x4 (ix3 h q k) = x4 (ix2 (slot q k) h) :=
  (congrFun (same_lookup x4) _).trans (ref_bias x4 h q k)

def shareOf (h : Fin 8) : Fin 4 := ⟨h.val % 4, by omega⟩
theorem head_eq (h : Fin 8) : headOf (groupOf h) (shareOf h) = h := Fin.ext (show h.val / 4 * 4 + h.val % 4 = h.val by omega)

theorem logit_at (h : Fin 8) (n : Fin 64) (r : Fin 128) (J : Fin 256) : val_main_v89 (F := Ideal) x0 x1 x4 (ix5 n (groupOf h) (shareOf h) r J)
    = Scalar.select (IntOp.andi (near r.val J.val) (inside n.val J.val)) ((∑ d : Fin 64, val_main_v14 (F := Ideal) x1 (ix4 n J (groupOf h) d) * query x0 h n r d)
          * ((1 / 8 : ℝ) : EReal) + x4 (ix2 (slot r J) h)) ⊥ := by
  rw [ref_logit, eighth32, head_eq, ref_lookup]

variable (h0 : ∀ j, ∃ r : ℝ, x0 j = r) (h1 : ∀ j, ∃ r : ℝ, x1 j = r) (h3 : ∀ j, ∃ r : ℝ, x3 j = r) (h4 : ∀ j, ∃ r : ℝ, x4 j = r)
include h0 h1 in
theorem logit_lo (h : Fin 8) (n : Fin 64) (r j : Fin 128) :
    val_main_v89 (F := Ideal) x0 x1 x4 (ix5 n (groupOf h) (shareOf h) r (lo j)) = prevAt x0 x1 x4 h n r j := by
  rw [logit_at, show (lo j).val = j.val from rfl, near_lo, inside_lo]
  unfold prevAt
  by_cases a : r.val < j.val
  · by_cases b : n.val = 0
    · rw [if_pos a, if_pos b, if_neg (fun k => k.2 b)]
      rfl
    · rw [if_pos a, if_neg b, if_pos ⟨a, b⟩]
      show _ * _ + _ = _
      refine congrArg (· + _) (Eq.trans ?_ (scaled (fun d => query x0 h n r d) (fun d => kept x1 (groupOf h) (back n) j d) (1 / 8) (fun d => h0 _) fun d => h1 _))
      exact congrArg (· * _) (Finset.sum_congr rfl fun d _ => congrArg (· * _) (keys_lo x1 n j (groupOf h) d b))
  · rw [if_neg (show ¬ (r.val < j.val ∧ n.val ≠ 0) from fun k => a k.1), if_neg a]
    by_cases b : n.val = 0
    · rw [if_pos b]
      rfl
    · rw [if_neg b]
      rfl

include h0 h1 in
theorem logit_hi (h : Fin 8) (n : Fin 64) (r j : Fin 128) :
    val_main_v89 (F := Ideal) x0 x1 x4 (ix5 n (groupOf h) (shareOf h) r (hi j)) = curAt x0 x1 x4 h n r j := by
  rw [logit_at, show (hi j).val = 128 + j.val from rfl, near_hi, inside_hi]
  unfold curAt
  by_cases a : j.val ≤ r.val
  · rw [if_pos a, if_pos a]
    show _ * _ + _ = _
    refine congrArg (· + _) (Eq.trans ?_ (scaled (fun d => query x0 h n r d) (fun d => kept x1 (groupOf h) n j d) (1 / 8) (fun d => h0 _) fun d => h1 _))
    exact congrArg (· * _) (Finset.sum_congr rfl fun d _ => congrArg (· * _) (keys_hi x1 n j (groupOf h) d))
  · rw [if_neg a, if_neg a]
    rfl

include h0 h1 h4 in
theorem prev_real (h : Fin 8) (n : Fin 64) (r j : Fin 128) : prevAt x0 x1 x4 h n r j ≠ ⊤ := by
  unfold prevAt
  split
  · exact logit_real (fun d => query x0 h n r d) (fun d => kept x1 (groupOf h) (back n) j d) (1 / 8) _ (fun d => h0 _) (fun d => h1 _) (h4 _)
  · exact bot_ne_top
include h0 h1 h4 in
theorem cur_real (h : Fin 8) (n : Fin 64) (r j : Fin 128) : curAt x0 x1 x4 h n r j ≠ ⊤ := by
  unfold curAt
  split
  · exact logit_real (fun d => query x0 h n r d) (fun d => kept x1 (groupOf h) n j d) (1 / 8) _ (fun d => h0 _) (fun d => h1 _) (h4 _)
  · exact bot_ne_top
theorem prev_inside (h : Fin 8) (n : Fin 64) (r j : Fin 128) (k : prevAt x0 x1 x4 h n r j ≠ ⊥) : n.val ≠ 0 := by
  intro b
  unfold prevAt at k
  exact k (if_neg fun a => a.2 b)

include h0 h1 h3 h4 in
/-- An element of the reference's output. -/
theorem ref_element (h : Fin 8) (n d : Fin 64) (r : Fin 128) : val_main_v111 (F := Ideal) x0 x1 x2 x3 x4 (ix4 h n d r) = outAt x0 x1 x2 x3 x4 h n d r := by
  refine (ref_out x0 x1 x2 x3 x4 h n d r).trans ((ref_row x0 x1 x2 x3 x4 n (groupOf h) (shareOf h) r d).trans ?_)
  rw [head_eq]
  obtain ⟨s, es⟩ := h3 (ix2 0 h)
  unfold outAt
  rw [es]
  exact whole_eq _ _ _ _ _ _ s (fun j => prev_real x0 x1 x4 h0 h1 h4 h n r j) (fun j => cur_real x0 x1 x4 h0 h1 h4 h n r j)
    (fun j => logit_lo x0 x1 x4 h0 h1 h n r j) (fun j => logit_hi x0 x1 x4 h0 h1 h n r j)
    (fun j k => values_lo x2 n j (groupOf h) d (prev_inside x0 x1 x4 h n r j k)) fun j => values_hi x2 n j (groupOf h) d

variable (m : (ℓ : Loc Cert.SwaIdeal.nD Cert.SwaIdeal.τ Cert.SwaIdeal.sig) → Buf (Elt Ideal) ℓ) (g : Dev Cert.SwaIdeal.nD → PrngReg) (c : Dev Cert.SwaIdeal.nD)

theorem same_out (e0 : x0 = queries m c) (e1 : x1 = keys m c) (e2 : x2 = values m c) (e3 : x3 = sinks m c) (e4 : x4 = table m c)
    (h0 : ∀ j, ∃ r : ℝ, queries m c j = r) (h1 : ∀ j, ∃ r : ℝ, keys m c j = r) (h3 : ∀ j, ∃ r : ℝ, sinks m c j = r) (h4 : ∀ j, ∃ r : ℝ, table m c j = r) :
    val_main_v111 (F := Ideal) x0 x1 x2 x3 x4 = (dat1 (V5 m g) c).arrAt 7 cfg1.N := by
  rw [final_out m g c h4, e0, e1, e2, e3, e4]
  funext j
  change S8x64x64x128.Idx at j
  idx_vars j
  exact ref_element _ _ _ _ _ h0 h1 h3 h4 j0 j1 j2 j3

/-- From finite arguments that agree, both programs end with the same output. -/
theorem algebraic : Cert.algebraic_SwaIdeal_SwaRefIdeal_pre_finite_swa := fun m g m' g' hpre hagree =>
  ⟨fun c => _, (θ_run _ _ _).mono (fun _ h => h) (run_main m g), (θ_run _ _ _).mono (fun r h c => by
    obtain ⟨G0, G1, G3, G4⟩ := finite_at _ _ _ _ _ (hpre c)
    obtain ⟨a0, a1, a2, a3, a4⟩ := hagree c
    obtain ⟨r0, r1⟩ := h c
    exact ⟨r0.trans ((Cert.SwaRefIdeal.Read.val_main_v111_eq _ _).trans (same_out _ _ _ _ _ m g c a0 a1 a2 a3 a4 G0 G1 G3 G4)), r1⟩)
    (Cert.SwaRefIdeal.Value.run m' g')⟩

end Cert.Window
-- ==== Proof.WgtValue.lean ====
module
public import proofs.«01_k».proof.Proof.Gen.WgtIdeal.Frame
public import proofs.«01_k».proof.Proof.Gen.WgtRefIdeal.Read
public import proofs.«01_k».proof.Proof.Norm
@[expose] public section
set_option maxRecDepth 16384
noncomputable section

/-! The gradient in a weight, a plain product of two activations: its kernel adds up the products of sixteen blocks of rows, and
    the sum is the product over all rows. -/
namespace Cert.Weight
open Cert.WgtIdeal Cert.WgtIdeal.Gen Cert.Norm Idealize.ShloMosaic Idealize.ShloMosaic.TcCoe Idealize.SL.Sem
open Cert.WgtRefIdeal.Read
open Idealize.ShloMosaic.Pipeline (Dat)

theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

theorem row_lt (t : Fin cfg0.N) (i : Fin 512) : t.val % 16 * 512 + i.val < 8192 := by omega
theorem col_lt (t : Fin cfg0.N) (i : Fin 256) : t.val / 16 * 256 + i.val < 4352 := by
  have := t.isLt; have h : cfg0.N = 272 := N_0; omega

/-- One block's product. -/
theorem part_at (u : FVec Ideal S512x256 .bf16) (v : FVec Ideal S512x1024 .bf16) (i : Fin 256) (d : Fin 1024) :
    k0_pay1 (F := Ideal) u v (ix2 i d) = ∑ k : Fin 512, u (ix2 k i) * v (ix2 k d) := by
  pointwise [k0_pay1]

theorem step_at (u : FVec Ideal S512x256 .bf16) (v : FVec Ideal S512x1024 .bf16) (a : FVec Ideal S256x1024 .f32) (i : Fin 256) (d : Fin 1024) :
    k0_pay2 (F := Ideal) u v a (ix2 i d) = a (ix2 i d) + k0_pay1 (F := Ideal) u v (ix2 i d) := by
  unfold k0_pay2
  generalize k0_pay1 (F := Ideal) u v = z
  pointwise

/-- The reference's product at an entry. -/
theorem ref_at (a : FVec Ideal S1x8192x4352 .f32) (b : FVec Ideal S1x8192x1024 .f32) (i : Fin 4352) (d : Fin 1024) :
    val_main_v6 (F := Ideal) a b (ix2 i d) = ∑ k : Fin 8192, a (ix3 0 k i) * b (ix3 0 k d) := by
  rw [val_main_v6_apply, val_main_v5_apply, val_main_v4_apply]
  refine Finset.sum_congr rfl fun k _ => ?_
  rw [val_main_v3_apply, val_main_v1_apply]
  refine congrArg₂ (· * ·) (congrArg a ?_) (congrArg b ?_) <;> blk_ext

variable (m : (ℓ : Loc nD τ sig) → Buf (Elt Ideal) ℓ) (c : Dev nD)

/-- The two activations as launched. -/
abbrev ct₀ : FVec Ideal S1x8192x4352 .f32 := m ((c : Thread nD τ).loc main_arg0)
abbrev h₀ : FVec Ideal S1x8192x1024 .f32 := m ((c : Thread nD τ).loc main_arg1)

theorem blk0 (p : Fin cfg0.N) (k : Fin 512) (i : Fin 256) :
    (show FVec Ideal S512x256 .bf16 from iblk m c 0 p) (ix2 k i) = ct₀ m c (ix3 0 ⟨p.val % 16 * 512 + k.val, row_lt p k⟩ ⟨p.val / 16 * 256 + i.val, col_lt p i⟩) := by
  blk_point [iblk, V, idx p]
theorem blk1 (p : Fin cfg0.N) (k : Fin 512) (d : Fin 1024) :
    (show FVec Ideal S512x1024 .bf16 from iblk m c 1 p) (ix2 k d) = h₀ m c (ix3 0 ⟨p.val % 16 * 512 + k.val, row_lt p k⟩ d) := by
  blk_point [iblk, V, idx p]

theorem acc_at (p : Fin cfg0.N) (hp : p.val % 16 = 15) (i : Fin 256) (d : Fin 1024) :
    outsAt0 m c p.val p.isLt (ix2 i d)
      = ∑ k : Fin 8192, ct₀ m c (ix3 0 k ⟨p.val / 16 * 256 + i.val, col_lt p i⟩) * h₀ m c (ix3 0 k d) := by
  have e := Pipeline.eq_sum_fin_of_reset_step_apply_of_flush (fun n h => outsAt0 m c n h) 16 (fun _ => (0 : EReal)) (fun q j =>
    (k0_pay1 (F := Ideal) (iblk m c 0 q) (iblk m c 1 q) j : EReal))
    (fun q h j => by rw [outsAt0_A m c q h (by omega)]; frame_out; rw [zero_add])
    (fun q h j => by
      rw [outsAt0_B m c q h (by omega)]; frame_out; idx_vars j
      rw [step_at])
    p hp (ix2 i d)
  refine e.trans ?_
  rw [zero_add]
  simp only [part_at, blk0 m c, blk1 m c]
  refine Fin.sum_mul_add_congr fun s k hl => ?_
  refine congrArg₂ (· * ·) (congrArg _ ?_) (congrArg _ ?_) <;> blk_ext

theorem final : (dats m 0 c).arrAt 2 (cfgs 0).N = val_main_v6 (F := Ideal) (ct₀ m c) (h₀ m c) := by
  refine (dats m 0 c).arrAt_eq_of_covers 2 _ (by decide +kernel) fun p hf y => ?_
  have hp : p.val % 16 = 15 := (flush0_2 p).mp hf
  blk_simp
  rw [after0_2]
  change S256x1024.Idx at y
  idx_vars y
  have e : ((cfg0.win 2).blk p).view.emb (ix2 y0 y1 : S256x1024.Idx)
      = (ix2 ⟨p.val / 16 * 256 + y0.val, col_lt p y0⟩ y1 : S4352x1024.Idx) := by blk_ext [idx p]
  rw [e]
  exact (acc_at m c p hp y0 y1).trans (ref_at _ _ _ _).symm

end Cert.Weight
end
-- ==== Proof.WgtClaim.lean ====
module
public import proofs.«01_k».proof.Defs
public import proofs.«01_k».proof.Proof.Gen.WgtRefIdeal.Run
public import proofs.«01_k».proof.Proof.WgtValue
public import Idealize.ShloMosaic.Lib.Claim
@[expose] public section
set_option maxRecDepth 16384
noncomputable section

/-! The gradient in a weight against its reference. -/
namespace Cert.Weight
open Idealize.ShloMosaic Idealize.ShloMosaic.TcCoe Idealize.ShloMosaic.Tactic Idealize.SL.Sem

theorem frame_reference : Cert.quiescent_WgtRefIdeal := fun m ρ _ =>
  (θ_run Cert.WgtRefIdeal.defs _ _).mono (fun r h => ⟨fun c => (h c).2, sem_eq_zero_of_no_sems (by decide) r.2⟩)
    (Cert.WgtRefIdeal.Value.run (F := Ideal) m ρ)

/-- From arguments that agree, both programs end with the same gradient. -/
theorem algebraic : Cert.algebraic_WgtIdeal_WgtRefIdeal := by
  pair_intro
  · run_from Cert.WgtIdeal.Gen.run_main m g
  · run_from Cert.WgtRefIdeal.Value.run m' g'
    rw [final m c, Cert.WgtRefIdeal.Read.val_main_v6_eq]

end Cert.Weight
end
-- ==== Proof.OptValue.lean ====
module
public import proofs.«01_k».proof.Proof.Gen.OptIdeal.Frame
public import proofs.«01_k».proof.Proof.Gen.OptRefIdeal.Read
public import proofs.«01_k».proof.Proof.Norm
@[expose] public section
set_option maxRecDepth 16384
noncomputable section

/-! The optimiser step of one weight: the three arrays its kernel leaves are the reference's, block by block. -/
namespace Cert.Adam
open Cert.OptIdeal Cert.OptIdeal.Gen Cert.Norm Idealize.ShloMosaic Idealize.ShloMosaic.TcCoe Idealize.SL.Sem
open Cert.OptRefIdeal.Read
open Idealize.ShloMosaic.Pipeline (Dat)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem row_lt (t : Fin cfg0.N) (i : Fin 256) : t.val * 256 + i.val < 1024 := by
  have := t.isLt; have h : cfg0.N = 4 := N_0; omega

/-- The step in the first moment, -/
theorem first_moment (a b : FVec Ideal S1x1024x1088 .f32) (u v : FVec Ideal S256x1088 .f32) (y : S256x1088.Idx) (r : Fin 1024) (k : Fin 1088)
    (ha : u y = a (ix3 0 r k)) (hb : v y = b (ix3 0 r k)) :
    k0_pay2 (F := Ideal) u v y = val_main_v25 (F := Ideal) a b (ix2 r k) := by
  idx_vars y
  pointwise [k0_pay2, k0_pay1]
  rw [ha, hb]
  pointwise [val_main_v25, val_main_v4, val_main_v3, val_main_v2, val_main_v1, val_main_v0, val_main_cst, val_main_cst_0]

/-- in the second, -/
theorem second_moment (a b : FVec Ideal S1x1024x1088 .f32) (u v : FVec Ideal S256x1088 .f32) (y : S256x1088.Idx) (r : Fin 1024) (k : Fin 1088)
    (ha : u y = a (ix3 0 r k)) (hb : v y = b (ix3 0 r k)) :
    k0_pay3 (F := Ideal) u v y = val_main_v26 (F := Ideal) a b (ix2 r k) := by
  idx_vars y
  pointwise [k0_pay3, k0_pay1]
  rw [ha, hb]
  pointwise [val_main_v26, val_main_v10, val_main_v9, val_main_v8, val_main_v7, val_main_v6, val_main_v5, val_main_cst_1, val_main_cst_2]

/-- and in the weight. -/
theorem step (w a b d : FVec Ideal S1x1024x1088 .f32) (u v s x : FVec Ideal S256x1088 .f32) (y : S256x1088.Idx) (r : Fin 1024) (k : Fin 1088)
    (hw : x y = w (ix3 0 r k)) (ha : u y = a (ix3 0 r k)) (hb : v y = b (ix3 0 r k)) (hd : s y = d (ix3 0 r k)) :
    k0_pay4 (F := Ideal) u v s x y = val_main_v24 (F := Ideal) w a b d (ix2 r k) := by
  have h2 := first_moment a b u v y r k ha hb
  have h3 := second_moment a d u s y r k ha hd
  have e2 : val_main_v25 (F := Ideal) a b (ix2 r k) = val_main_v4 (F := Ideal) a b (ix3 0 r k) := by
    unfold val_main_v25
    generalize val_main_v4 (F := Ideal) a b = z
    pointwise
  have e3 : val_main_v26 (F := Ideal) a d (ix2 r k) = val_main_v10 (F := Ideal) a d (ix3 0 r k) := by
    unfold val_main_v26
    generalize val_main_v10 (F := Ideal) a d = z
    pointwise
  rw [e2] at h2
  rw [e3] at h3
  unfold k0_pay4 val_main_v24 val_main_v23 val_main_v21 val_main_v20 val_main_v18 val_main_v17 val_main_v15 val_main_v14 val_main_v12
  generalize k0_pay2 (F := Ideal) u v = p at h2 ⊢
  generalize k0_pay3 (F := Ideal) u s = q at h3 ⊢
  generalize val_main_v4 (F := Ideal) a b = p' at h2 ⊢
  generalize val_main_v10 (F := Ideal) a d = q' at h3 ⊢
  idx_vars y
  pointwise [val_main_v22, val_main_v19, val_main_v16, val_main_v13, val_main_v11, val_main_cst_3, val_main_cst_4, val_main_cst_5, val_main_cst_6, val_main_cst_7]
  rw [hw, h2, h3]

variable (m : (ℓ : Loc nD τ sig) → Buf (Elt Ideal) ℓ) (c : Dev nD)

/-- The weight, its gradient and the two moments as launched. -/
abbrev w₀ : FVec Ideal S1x1024x1088 .f32 := m ((c : Thread nD τ).loc main_arg0)
abbrev g₀ : FVec Ideal S1x1024x1088 .f32 := m ((c : Thread nD τ).loc main_arg1)
abbrev m₀ : FVec Ideal S1x1024x1088 .f32 := m ((c : Thread nD τ).loc main_arg2)
abbrev v₀ : FVec Ideal S1x1024x1088 .f32 := m ((c : Thread nD τ).loc main_arg3)

theorem blk0 (p : Fin cfg0.N) (i : Fin 256) (k : Fin 1088) :
    (show FVec Ideal S256x1088 .f32 from iblk m c 0 p) (ix2 i k) = w₀ m c (ix3 0 ⟨p.val * 256 + i.val, row_lt p i⟩ k) := by
  blk_point [iblk, V, idx p]
theorem blk1 (p : Fin cfg0.N) (i : Fin 256) (k : Fin 1088) :
    (show FVec Ideal S256x1088 .f32 from iblk m c 1 p) (ix2 i k) = g₀ m c (ix3 0 ⟨p.val * 256 + i.val, row_lt p i⟩ k) := by
  blk_point [iblk, V, idx p]
theorem blk2 (p : Fin cfg0.N) (i : Fin 256) (k : Fin 1088) :
    (show FVec Ideal S256x1088 .f32 from iblk m c 2 p) (ix2 i k) = m₀ m c (ix3 0 ⟨p.val * 256 + i.val, row_lt p i⟩ k) := by
  blk_point [iblk, V, idx p]
theorem blk3 (p : Fin cfg0.N) (i : Fin 256) (k : Fin 1088) :
    (show FVec Ideal S256x1088 .f32 from iblk m c 3 p) (ix2 i k) = v₀ m c (ix3 0 ⟨p.val * 256 + i.val, row_lt p i⟩ k) := by
  blk_point [iblk, V, idx p]

theorem final_m : (dats m 0 c).arrAt 5 (cfgs 0).N = val_main_v25 (F := Ideal) (g₀ m c) (m₀ m c) := by
  refine (dats m 0 c).arrAt_eq_of_covers 5 _ (by decide +kernel) fun p _ y => ?_
  blk_simp
  rw [after0_5]
  frame_out
  change S256x1088.Idx at y
  idx_vars y
  have e : ((cfg0.win 5).blk p).view.emb (ix2 y0 y1 : S256x1088.Idx)
      = (ix2 ⟨p.val * 256 + y0.val, row_lt p y0⟩ y1 : S1024x1088.Idx) := by blk_ext [idx p]
  rw [e]
  exact first_moment _ _ _ _ _ _ _ (blk1 m c p y0 y1) (blk2 m c p y0 y1)

theorem final_v : (dats m 0 c).arrAt 6 (cfgs 0).N = val_main_v26 (F := Ideal) (g₀ m c) (v₀ m c) := by
  refine (dats m 0 c).arrAt_eq_of_covers 6 _ (by decide +kernel) fun p _ y => ?_
  blk_simp
  rw [after0_6]
  frame_out
  change S256x1088.Idx at y
  idx_vars y
  have e : ((cfg0.win 6).blk p).view.emb (ix2 y0 y1 : S256x1088.Idx)
      = (ix2 ⟨p.val * 256 + y0.val, row_lt p y0⟩ y1 : S1024x1088.Idx) := by blk_ext [idx p]
  rw [e]
  exact second_moment _ _ _ _ _ _ _ (blk1 m c p y0 y1) (blk3 m c p y0 y1)

theorem final_delta : (dats m 0 c).arrAt 4 (cfgs 0).N = val_main_v24 (F := Ideal) (w₀ m c) (g₀ m c) (m₀ m c) (v₀ m c) := by
  refine (dats m 0 c).arrAt_eq_of_covers 4 _ (by decide +kernel) fun p _ y => ?_
  blk_simp
  rw [after0_4]
  frame_out
  change S256x1088.Idx at y
  idx_vars y
  have e : ((cfg0.win 4).blk p).view.emb (ix2 y0 y1 : S256x1088.Idx)
      = (ix2 ⟨p.val * 256 + y0.val, row_lt p y0⟩ y1 : S1024x1088.Idx) := by blk_ext [idx p]
  rw [e]
  exact step _ _ _ _ _ _ _ _ _ _ _ (blk0 m c p y0 y1) (blk1 m c p y0 y1) (blk2 m c p y0 y1) (blk3 m c p y0 y1)

end Cert.Adam
end
-- ==== Proof.OptClaim.lean ====
module
public import proofs.«01_k».proof.Defs
public import proofs.«01_k».proof.Proof.Gen.OptRefIdeal.Run
public import proofs.«01_k».proof.Proof.OptValue
public import Idealize.ShloMosaic.Lib.Claim
@[expose] public section
set_option maxRecDepth 16384
noncomputable section

/-! The optimiser step of one weight against its reference. -/
namespace Cert.Adam
open Idealize.ShloMosaic Idealize.ShloMosaic.TcCoe Idealize.ShloMosaic.Tactic Idealize.SL.Sem

theorem frame_reference : Cert.quiescent_OptRefIdeal := fun m ρ _ =>
  (θ_run Cert.OptRefIdeal.defs _ _).mono (fun r h => ⟨fun c => (h c).2.2.2, sem_eq_zero_of_no_sems (by decide) r.2⟩)
    (Cert.OptRefIdeal.Value.run (F := Ideal) m ρ)

/-- From arguments that agree, both programs end with the same step and the same two moments. -/
theorem algebraic : Cert.algebraic_OptIdeal_OptRefIdeal := by
  pair_intro
  · run_from Cert.OptIdeal.Gen.run_main m g
  · run_from Cert.OptRefIdeal.Value.run m' g'
    · rw [final_delta m c, Cert.OptRefIdeal.Read.val_main_v24_eq]
    · rw [final_m m c, Cert.OptRefIdeal.Read.val_main_v25_eq]
    · rw [final_v m c, Cert.OptRefIdeal.Read.val_main_v26_eq]

end Cert.Adam
end
-- ==== Proof.InpRun.lean ====
/- The input projection's forward kernel run from its launch: what one grid point leaves in its buffers, the proof data of the
   pipeline, and the run, in one text for any float type. -/
module

public import proofs.«01_k».proof.Proof.Gen.InpIdeal.Launch
public import proofs.«01_k».proof.Proof.Gen.InpIdeal.Skeleton
public import proofs.«01_k».proof.Proof.Gen.InpIdeal.Points
public import proofs.«01_k».proof.Proof.Gen.InpIdeal.Frame
public import Idealize.ShloMosaic.Lib.Pipeline.TableIdle
public import Idealize.ShloMosaic.Lib.Pipeline.FrameBody
public import Idealize.ShloMosaic.Lib.Pipeline.ReadBack
public import Idealize.ShloMosaic.Lib.Pipeline.ValueKit
public import Idealize.ShloMosaic.Lib.VecWindow
public import Idealize.ShloMosaic.Lib.Ring
public import Idealize.ShloMosaic.Lib.Tactic
public import Idealize.ShloMosaic.Lib.Claim

@[expose] public section

set_option maxRecDepth 16384

noncomputable section

namespace Cert.Input

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InpIdeal Cert.InpIdeal.Gen

variable {F : FTy → Type} [FloatOps F]

local notation "𝕄" => MT nD τ sig Unit (Elt F) ℕ (UR sig nD τ) ℕ

/-- A buffer filled whole reads as the last fill. -/
theorem read_full [∀ e, Nonempty (Elt F e)] {κ : Kind} {sp : Space} {s : Shape} {e : EltTy} (v : View sig κ sp s e) (f : v.ty.Contents (Elt F))
    {off : Fin s.rank → ℕ} (inb : ∀ a, off a + s.size a ≤ s.size a) (w : (Rect.unit off s.size inb).shape.Idx → Elt F e)
    (L : List (View.Piece (Elt F) s e)) : v.read (Elt F) (v.writes (Elt F) f (⟨Rect.unit off (no_index s.size) inb, w⟩ :: L)) = w :=
  View.read_writes_full v f inb w L

/-! ## One grid point -/

/-- The normalised block a point works on: computed at a row's first column tile, carried after. -/
def normed (i : grid0.Coords) (x : Vec F S512x1024 .f32) (g : Vec F S1x1024 .f32) (hs : Vec F S512x1024 .bf16) : Vec F S512x1024 .bf16 :=
  if k0_cond1 i = 1#1 then k0_pay2 x g else hs

/-- The normalised block as it is written out, once for each row. -/
def kept (i : grid0.Coords) (x : Vec F S512x1024 .f32) (g : Vec F S1x1024 .f32) (ho : Vec F S512x1024 .bf16) : Vec F S512x1024 .bf16 :=
  if k0_cond1 i = 1#1 then k0_pay1 x g else ho

set_option maxHeartbeats 1000000 in
/-- The kernel's body on whole buffers. -/
theorem sound (c : Dev nD) (E : Set ℕ) (i : grid0.Coords) (arg2 : Memref sig .tc .vmem S512x1024 .f32) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S512x256 .bf16) (harg5 : arg5.IsWhole) (arg6 : Memref sig .tc .vmem S512x1024 .bf16) (harg6 : arg6.IsWhole) (arg7 : Memref sig .tc .vmem S512x1024 .bf16) (harg7 : arg7.IsWhole)
    (x : Vec F S512x1024 .f32) (g : Vec F S1x1024 .f32) (w : Vec F S256x1024 .bf16) (ho hs : Vec F S512x1024 .bf16) (K : PUnit → sProp 𝕄) :
    iprop(owns (c : Thread nD τ) arg2 fullShare x
        ∗ owns (c : Thread nD τ) arg3 fullShare g
        ∗ owns (c : Thread nD τ) arg4 fullShare w
        ∗ (∃ d, owns (c : Thread nD τ) arg5 fullShare d)
        ∗ owns (c : Thread nD τ) arg6 fullShare ho
        ∗ owns (c : Thread nD τ) arg7 fullShare hs
        ∗ (iprop(owns (c : Thread nD τ) arg2 fullShare x
          ∗ owns (c : Thread nD τ) arg3 fullShare g
          ∗ owns (c : Thread nD τ) arg4 fullShare w
          ∗ owns (c : Thread nD τ) arg5 fullShare (k0_pay3 (normed i x g hs) w)
          ∗ owns (c : Thread nD τ) arg6 fullShare (kept i x g ho)
          ∗ owns (c : Thread nD τ) arg7 fullShare (normed i x g hs)) -∗ K ⟨⟩))
      ⊢ wp frame (wpE (defs₀ (F := F)) Variants.none c none) E (cc0_proj_qkv i arg2 harg2 arg3 harg3 arg4 harg4 arg5 harg5 arg6 harg6 arg7 harg7) K := by
  unfold normed kept
  by_cases h1 : k0_cond1 i = 1#1 <;>
  · simp only [h1, ↓reduceIte]
    simp only [cc0_proj_qkv_eq_skeleton]; unfold cc0_proj_qkv_skel
    unfold owns
    iintro ⟨⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg2.eq_unread hf2
    obtain rfl := harg3.eq_unread hf3
    obtain rfl := harg4.eq_unread hf4
    obtain rfl := harg6.eq_unread hf6
    obtain rfl := harg7.eq_unread hf7
    sl_exec (disch := first | sl_exact h1)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; first | with_reducible exact harg5.read_unread _ | frame_out [read_full]
    isplitl [H6]
    · iexists _; isplitr; swap; · iexact H6
      ipureintro; first | with_reducible exact harg6.read_unread _ | frame_out [read_full]
    iexists _; isplitr; swap; · iexact H7
    ipureintro; first | with_reducible exact harg7.read_unread _ | frame_out [read_full]

/-! ## The pipeline -/

theorem first_iff : ∀ t : Fin cfg0.N, k0_cond1 (grid0.coords t) = 1#1 ↔ t.val % 9 = 0 := by decide +kernel
theorem idle_kept : ∀ t : Fin cfg0.N, cfg0.idle 4 (grid0.coords t) = !decide (t.val % 9 = 0) := by decide +kernel
/-- The kept output's buffer holds nothing of the row's before the row's first point. -/
theorem fresh_kept (t : Fin cfg0.N) : cfg0.fresh 4 t.val = decide (t.val % 9 = 0) :=
  Pipeline.Cfg.fresh_tab cfg0 4 (fun n => decide (n % 9 = 0)) rfl (by decide +kernel) t.val (Nat.le_of_lt t.isLt)

variable (m : (ℓ : Loc nD τ sig) → Buf (Elt F) ℓ) (ρ : Dev nD → PrngReg)

/-- The scratch buffer and the kept output after point `t`, from what was there before it. -/
def step (c : Dev nD) (t : Fin cfg0.N) (s : Vec F S512x1024 .bf16 × Vec F S512x1024 .bf16) : Vec F S512x1024 .bf16 × Vec F S512x1024 .bf16 :=
  (normed (grid0.coords t) (iblk m c 0 t) (iblk m c 1 t) s.1, kept (grid0.coords t) (iblk m c 0 t) (iblk m c 1 t) s.2)

/-- The scratch buffer and the kept output after point `n`. -/
def state (c : Dev nD) : (n : ℕ) → n < cfg0.N → Vec F S512x1024 .bf16 × Vec F S512x1024 .bf16
  | 0, h => step m c ⟨0, h⟩ (k0_pay2 (iblk m c 0 ⟨0, h⟩) (iblk m c 1 ⟨0, h⟩), k0_pay1 (iblk m c 0 ⟨0, h⟩) (iblk m c 1 ⟨0, h⟩))
  | n + 1, h => step m c ⟨n + 1, h⟩ (state c n (Nat.lt_of_succ_lt h))

theorem pred_lt (t : Fin cfg0.N) : t.val - 1 < cfg0.N := Nat.lt_of_le_of_lt (Nat.sub_le _ _) t.isLt

/-- A row's first point starts afresh. -/
theorem step_reset (c : Dev nD) (t : Fin cfg0.N) (h : t.val % 9 = 0) (s s' : Vec F S512x1024 .bf16 × Vec F S512x1024 .bf16) : step m c t s = step m c t s' := by
  unfold step normed kept
  simp only [(first_iff t).mpr h, ↓reduceIte]

theorem state_at (c : Dev nD) (t : Fin cfg0.N) (s : Vec F S512x1024 .bf16 × Vec F S512x1024 .bf16)
    (h : t.val % 9 ≠ 0 → s = state m c (t.val - 1) (pred_lt t)) : step m c t s = state m c t.val t.isLt := by
  obtain ⟨n, hn⟩ := t
  cases n with
  | zero => exact step_reset m c ⟨0, hn⟩ rfl _ _
  | succ n =>
    by_cases h0 : (n + 1) % 9 = 0
    · exact step_reset m c ⟨n + 1, hn⟩ h0 _ _
    · rw [h h0]; rfl

/-- The invariant between points: before the first one the scratch at anything, later at what the point before left. -/
def between (c : Dev nD) : (n : ℕ) → n ≤ cfg0.N → sProp 𝕄
  | 0, _ => Pipeline.ΦA spec0 c
  | n + 1, h => iprop(owns (c : Thread nD τ) (Memref.whole cc0_scratch0) fullShare (state m c n h).1
      ∗ Pipeline.scopedRestBut (Ix := Unit) (Name := ℕ) (U := UR sig nD τ) (Lvl := ℕ) (Val := Elt F) spec0 c [cc0_scratch0]
      ∗ ∃ r, prngReg c r)

/-- The pipeline's proof data: the arrays as found, every input block left in place, the outputs and the scratch as the body leaves them. -/
def data (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (state m c t.val t.isLt).1 (iblk m c 2 t)
    | ⟨4, _⟩ => (state m c t.val t.isLt).2
  Φ t := between m c t.val (Nat.le_of_lt_succ t.isLt)
  q _ := fullShare
  owed _ := 0

theorem data_A (c : Dev nD) (w : Fin cfg0.W) : (data m c).A w = V m c (Pipeline.arrRef spec0 w) := by dsimp only [data]
theorem data_after0 (c : Dev nD) (t : Fin cfg0.N) : (data m c).after 0 t = iblk m c 0 t := by dsimp only [data]
theorem data_after1 (c : Dev nD) (t : Fin cfg0.N) : (data m c).after 1 t = iblk m c 1 t := by dsimp only [data]
theorem data_after2 (c : Dev nD) (t : Fin cfg0.N) : (data m c).after 2 t = iblk m c 2 t := by dsimp only [data]
theorem data_after3 (c : Dev nD) (t : Fin cfg0.N) : (data m c).after 3 t = k0_pay3 (state m c t.val t.isLt).1 (iblk m c 2 t) := by dsimp only [data]
theorem data_after4 (c : Dev nD) (t : Fin cfg0.N) : (data m c).after 4 t = (state m c t.val t.isLt).2 := by dsimp only [data]
theorem data_before0 (c : Dev nD) (t : Fin cfg0.N) (d) : (data m c).before 0 t d = iblk m c 0 t :=
  before0_0_of m (data m c) (data_A m c 0) (data_after0 m c) t d
theorem data_before1 (c : Dev nD) (t : Fin cfg0.N) (d) : (data m c).before 1 t d = iblk m c 1 t :=
  before0_1_of m (data m c) (data_A m c 1) (data_after1 m c) t d
theorem data_before2 (c : Dev nD) (t : Fin cfg0.N) (d) : (data m c).before 2 t d = iblk m c 2 t :=
  before0_2_of m (data m c) (data_A m c 2) (data_after2 m c) t d

/-- At a point that is not a row's first the kept output holds what the point before left. -/
theorem data_before4 (c : Dev nD) (t : Fin cfg0.N) (h : t.val % 9 ≠ 0) (d) :
    (data m c).before 4 t d = (state m c (t.val - 1) (pred_lt t)).2 := by
  rw [Dat.before_out_traj _ 4 rfl (fun _ _ => rfl) (fun u _ hi _ => ?_) t.val t rfl d, fresh_kept t, if_neg (by simpa using h), data_after4]
  rw [idle_kept u] at hi
  rw [data_after4, data_after4, ← state_at m c u _ fun _ => rfl]
  exact if_neg fun e => absurd ((first_iff u).mp e) (by simpa using hi)

theorem between_castSucc (c : Dev nD) (t : Fin cfg0.N) : (data m c).Φ t.castSucc = between m c t.val (Nat.le_of_lt t.isLt) := by
  dsimp only [data]; exact Pipeline.Dat.Φ_castSucc (between m c) t

theorem rest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- Opened at any point: the scratch at some contents, which past a point are what that point left. -/
theorem between_open (c : Dev nD) : (n : ℕ) → (h : n ≤ cfg0.N) → between m c n h ⊢
    iprop(∃ (s : Vec F S512x1024 .bf16),
      ⌜∀ h0 : n ≠ 0, s = (state m c (n - 1) (by omega)).1⌝
      ∗ owns (c : Thread nD τ) (Memref.whole cc0_scratch0) fullShare s
      ∗ Pipeline.scopedRestBut (Ix := Unit) (Name := ℕ) (U := UR sig nD τ) (Lvl := ℕ) (Val := Elt F) spec0 c [cc0_scratch0]
      ∗ ∃ r, prngReg c r)
  | 0, _ => by
    unfold between Pipeline.ΦA; rw [rest_split]; simp only [owns_whole]
    iintro ⟨⟨⟨%s, H0⟩, Hr⟩, Hg⟩
    iexists s
    isplitr; · ipureintro; exact fun h => absurd rfl h
    isplitl [H0]; · iexact H0
    isplitl [Hr]; · iexact Hr
    iexact Hg
  | n + 1, _ => by
    unfold between
    iintro ⟨H0, Hr, Hg⟩
    iexists _
    isplitr; swap
    · isplitl [H0]; · iexact H0
      isplitl [Hr]; · iexact Hr
      iexact Hg
    ipureintro; exact fun _ => rfl

/-- Opened and closed again the scratch is at anything. -/
theorem between_out (c : Dev nD) (n : ℕ) (h : n ≤ cfg0.N) : between m c n h ⊢ Pipeline.ΦA spec0 c := by
  refine (between_open m c n h).trans ?_
  unfold Pipeline.ΦA; rw [rest_split]; simp only [owns_whole]
  iintro ⟨%s, -, H0, Hr, Hg⟩
  isplitr [Hg]; swap; · iexact Hg
  isplitr [Hr]; swap; · iexact Hr
  iexists s; iexact H0

/-- The kept output: written at a row's first point, kept at the others, written back after the last. -/
theorem leaves_kept (c : Dev nD) (t : Fin cfg0.N) (d) (X : Vec F S512x1024 .bf16) (hX : X = (data m c).after 4 t)
    (hk : t.val % 9 ≠ 0 → X = (data m c).before 4 t d) :
    owns (c : Thread nD τ) (st0_4 t) fullShare X ⊢ (data m c).leavesExact 4 t := by
  by_cases h : t.val % 9 = 0
  · rw [hX, show (data m c).leavesExact 4 t = owns (c : Thread nD τ) (st0_4 t) fullShare ((data m c).after 4 t) from by
      unfold Dat.leavesExact; rw [show cfg0.idle 4 (cfg0.grid.coords t) = false from by rw [idle_kept t]; simpa using h]]
  have hi : cfg0.idle 4 (cfg0.grid.coords t) = true := by rw [idle_kept t]; simpa using h
  by_cases hf : (cfg0.win 4).flush t = true
  · rw [hX, show (data m c).leavesExact 4 t = owns (c : Thread nD τ) (st0_4 t) fullShare ((data m c).after 4 t) from by
      unfold Dat.leavesExact; rw [hi, hf]]
  · rw [hk h, Dat.leavesExact_idle (data m c) 4 t hi (Bool.eq_false_iff.mpr hf)]
    iintro H; iexists d; iexact H

/-- The body at any grid point. -/
theorem body (c : Dev nD) (t : Fin cfg0.N) :
    iprop((data m c).Φ t.castSucc ∗ (data m c).owesAt () t.castSucc
    ∗ (∃ d, owns (c : Thread nD τ) (st0_0 t) fullShare ((data m c).before 0 t d))
    ∗ (∃ d, owns (c : Thread nD τ) (st0_1 t) fullShare ((data m c).before 1 t d))
    ∗ (∃ d, owns (c : Thread nD τ) (st0_2 t) fullShare ((data m c).before 2 t d))
    ∗ (∃ d, owns (c : Thread nD τ) (st0_3 t) fullShare ((data m c).before 3 t d))
    ∗ (∃ d, owns (c : Thread nD τ) (st0_4 t) fullShare ((data m c).before 4 t d)))
    ⊢ wp frame (wpE (defs₀ (F := F)) Variants.none c none) Set.univ (bodyAt0 t) (fun _ =>
      iprop((data m c).Φ t.succ ∗ (data m c).owesAt () t.succ
    ∗ (data m c).leavesExact 0 t
    ∗ (data m c).leavesExact 1 t
    ∗ (data m c).leavesExact 2 t
    ∗ (data m c).leavesExact 3 t
    ∗ (data m c).leavesExact 4 t)) := by
  unfold bodyAt0
  simp only [data_before0, data_before1, data_before2]
  rw [show (data m c).owesAt () t.succ = (data m c).owesAt () t.castSucc from rfl, between_castSucc]
  rw [show (data m c).leavesExact 0 t = owns (c : Thread nD τ) (st0_0 t) fullShare ((data m c).after 0 t) from rfl, data_after0]
  rw [show (data m c).leavesExact 1 t = owns (c : Thread nD τ) (st0_1 t) fullShare ((data m c).after 1 t) from rfl, data_after1]
  rw [show (data m c).leavesExact 2 t = owns (c : Thread nD τ) (st0_2 t) fullShare ((data m c).after 2 t) from rfl, data_after2]
  rw [show (data m c).leavesExact 3 t = owns (c : Thread nD τ) (st0_3 t) fullShare ((data m c).after 3 t) from rfl, data_after3]
  iintro ⟨HΦ, Ho, ⟨%d0, H0⟩, ⟨%d1, H1⟩, ⟨%d2, H2⟩, ⟨%d3, H3⟩, ⟨%d4, H4⟩⟩
  ihave H := (between_open m c t.val (Nat.le_of_lt t.isLt)) $$ HΦ
  icases H with ⟨%s0, %hs, HS0, Hr, Hg⟩
  have e : step m c t (s0, (data m c).before 4 t d4) = state m c t.val t.isLt :=
    state_at m c t _ fun h0 => by
      rw [hs (by omega), data_before4 m c t h0]
  have e0 := congrArg Prod.fst e
  have e1 := congrArg Prod.snd e
  dsimp only [step] at e0 e1
  iapply (sound c Set.univ (grid0.coords t) _ _ _ _ _ _ _ _ _ _ _ _ (iblk m c 0 t) (iblk m c 1 t) (iblk m c 2 t) ((data m c).before 4 t d4) s0 _)
  isplitl [H0]; · iexact H0
  isplitl [H1]; · iexact H1
  isplitl [H2]; · iexact H2
  isplitl [H3]; · iexists _; iexact H3
  isplitl [H4]; · iexact H4
  isplitl [HS0]; · iexact HS0
  iintro ⟨H0, H1, H2, H3, H4, HS0⟩
  rw [e0]
  isplitl [HS0 Hr Hg]
  · rw [show (data m c).Φ t.succ = between m c (t.val + 1) t.isLt from rfl]; unfold between
    isplitl [HS0]; · iexact HS0
    isplitl [Hr]; · iexact Hr
    iexact Hg
  isplitl [Ho]; · iexact Ho
  isplitl [H0]; · iexact H0
  isplitl [H1]; · iexact H1
  isplitl [H2]; · iexact H2
  isplitl [H3]; · iexact H3
  iapply (leaves_kept m c t d4 _ (e1.trans (data_after4 m c t).symm) fun h => if_neg fun q => h ((first_iff t).mp q)); iexact H4

theorem row (t : Fin cfg0.N) : defs₀ (F := F) .tc cfg0.body (cfg0.bodyArgs t (cfg0.slots t)) = bodyAt0 t := by
  unfold defs₀; rw [Defs.onTc_tc]

theorem obligation (c : Dev nD) : BodyObligation (data (F := F) m c) (defs₀ (F := F)) Variants.none () Set.univ := fun t => by
  rw [bigSep_W0, bigSep_W0, row]
  exact triple_restated (body m c t) rfl .rfl fun _ => .rfl

/-! ## The run -/

abbrev datas : (p : Fin 1) → (c : Dev nD) → Dat τ (Elt F) Unit ℕ (UR sig nD τ) ℕ (cfgs p) c
  | ⟨0, _⟩ => fun c => data m c

set_option backward.isDefEq.respectTransparency.types false in
/-- Run from any memory with every semaphore at zero, the program ends with the pipeline's arrays at what the proof data says and every
    semaphore at zero. -/
theorem run_quiescent : θ_run defs (onTc (τ := τ) (main (F := F))) (s₀ m ρ) (fun r => (Pipeline.FramePost cfgs (datas m) 0 (V m)) r ∧ r.2.sem = fun _ => 0) :=
  Pipeline.θ_run_frame_track (Q' := _) cfgs (datas m) (0 : Fin 1) launch0 defs₀ Variants.none m ρ main
    (hbody := fun c => (obligation m c).loose) (hshare := fun c => (data m c).share_full fun _ => rfl)
    (howed := fun _ _ => rfl) (V := V m) (hmain := hmain m Variants.none) (hA := data_A m)
    (hin := fun _ => .rfl) (hout := fun c => between_out m c cfg0.N le_rfl)

theorem run_main : θ_run defs (onTc (τ := τ) (main (F := F))) (s₀ m ρ) (Pipeline.FramePost cfgs (datas m) 0 (V m)) :=
  (θ_run defs _ _).mono (fun _ h => h.1) (run_quiescent m ρ)

/-- The frame: the arguments end as launched, every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (datas m) (data_A m) (run_main m ρ)) ((θ_run defs _ _).mono (fun _ h => h.2) (run_quiescent m ρ))

end Cert.Input

end
-- ==== Proof.InpValue.lean ====
module
public import proofs.«01_k».proof.Proof.InpRun
public import proofs.«01_k».proof.Proof.Gen.InpRefIdeal.Read
@[expose] public section
set_option maxRecDepth 16384
noncomputable section

/-! The two arrays the input projection's forward kernel returns: the normalised rows, and their product with the weight's first
    columns. On any arguments they are those of the reference. -/
namespace Cert.Input
open Cert.InpIdeal Cert.InpIdeal.Gen Idealize.ShloMosaic Idealize.ShloMosaic.TcCoe Idealize.SL.Sem
open Cert.InpRefIdeal.Read
open Idealize.ShloMosaic.Pipeline (Dat)

theorem idx : ∀ t : Fin cfg0.N, win0_0.index t = ![t.val / 9, 0] ∧ win0_1.index t = ![0, 0] ∧ win0_2.index t = ![t.val % 9, 0]
    ∧ win0_3.index t = ![t.val / 9, t.val % 9] ∧ win0_4.index t = ![t.val / 9, 0] := (by decide +kernel : ∀ t : Fin grid0.N, _)

/-- Row `i` of the block of rows grid point `n` works on, -/
def rowOf (n : Fin 144) (i : Fin 512) : Fin 8192 := ⟨n.val / 9 * 512 + i.val, by omega⟩
/-- and column `s` of its tile of columns. -/
def colOf (n : Fin 144) (s : Fin 256) : Fin 4352 := ⟨n.val % 9 * 256 + s.val, by omega⟩
abbrev pt (t : Fin cfg0.N) : Fin 144 := ⟨t.val, lt_of_lt_of_eq t.isLt N_0⟩

/-- A row's mean square plus the small number, as a sum over its lanes. -/
def ms (x : Fin 1024 → EReal) : EReal := Ideal.div (∑ k, x k * x k) (Ideal.ofBits .f32 0x44800000#32) + Ideal.ofBits .f32 0x358637BD#32

theorem pay1_at (x : FVec Ideal S512x1024 .f32) (g : FVec Ideal S1x1024 .f32) (i : Fin 512) (k : Fin 1024) :
    k0_pay1 (F := Ideal) x g (ix2 i k) = x (ix2 i k) * Ideal.rsqrt (ms fun l => x (ix2 i l)) * g (ix2 0 k) := by
  pointwise [k0_pay1]
  rfl

theorem pay2_at (x : FVec Ideal S512x1024 .f32) (g : FVec Ideal S1x1024 .f32) (i : Fin 512) (k : Fin 1024) :
    k0_pay2 (F := Ideal) x g (ix2 i k) = k0_pay1 (F := Ideal) x g (ix2 i k) := by
  unfold k0_pay2
  generalize k0_pay1 (F := Ideal) x g = z
  pointwise

theorem pay3_at (h : FVec Ideal S512x1024 .bf16) (w : FVec Ideal S256x1024 .bf16) (i : Fin 512) (s : Fin 256) :
    k0_pay3 (F := Ideal) h w (ix2 i s) = ∑ k : Fin 1024, h (ix2 i k) * w (ix2 s k) := by
  pointwise [k0_pay3]

theorem ref_h (a : FVec Ideal S1x8192x1024 .f32) (b : FVec Ideal S1x1024 .f32) (r : Fin 8192) (k : Fin 1024) :
    val_main_v14 (F := Ideal) a b (ix2 r k) = a (ix3 0 r k) * Ideal.rsqrt (ms fun l => a (ix3 0 r l)) * b (ix2 0 k) := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

theorem ref_p (a : FVec Ideal S1x8192x1024 .f32) (b : FVec Ideal S1x1024 .f32) (w : FVec Ideal S1x1024x4352 .f32) (r : Fin 8192) (s : Fin 2304) :
    val_main_v18 (F := Ideal) a b w (ix2 r s) = ∑ k : Fin 1024, val_main_v14 (F := Ideal) a b (ix2 r k) * w (ix3 0 k ⟨s.val, by omega⟩) := by
  rw [val_main_v18_apply]
  show val_main_v17 (F := Ideal) a b w (ix2 r s) = _
  rw [val_main_v17_apply, val_main_v16_apply]
  refine Finset.sum_congr rfl fun k _ => ?_
  rw [val_main_v15_apply]
  refine congrArg₂ (· * ·) (congrArg (val_main_v14 (F := Ideal) a b) ?_) (congrArg w ?_) <;> blk_ext

variable (m : (ℓ : Loc nD τ sig) → Buf (Elt Ideal) ℓ) (c : Dev nD)

/-- The arguments as launched. -/
abbrev x₀ : FVec Ideal S1x8192x1024 .f32 := m ((c : Thread nD τ).loc main_arg0)
abbrev g₀ : FVec Ideal S1x1024 .f32 := m ((c : Thread nD τ).loc main_arg1)
abbrev w₀ : FVec Ideal S1x1024x4352 .f32 := m ((c : Thread nD τ).loc main_arg2)

theorem blk_x (t : Fin cfg0.N) (i : Fin 512) (k : Fin 1024) :
    (show FVec Ideal S512x1024 .f32 from iblk m c 0 t) (ix2 i k) = x₀ m c (ix3 0 (rowOf (pt t) i) k) := by
  blk_point [iblk, V, rowOf, idx t]
theorem blk_g (t : Fin cfg0.N) (k : Fin 1024) :
    (show FVec Ideal S1x1024 .f32 from iblk m c 1 t) (ix2 0 k) = g₀ m c (ix2 0 k) := by
  rw [← show (show FVec Ideal S1x1024 .f32 from V m c main_arg1) (ix2 0 k) = g₀ m c (ix2 0 k) from congrFun (V_main_arg1 m c) _]
  blk_point [iblk, idx t]
theorem blk_w (t : Fin cfg0.N) (s : Fin 256) (k : Fin 1024) :
    (show FVec Ideal S256x1024 .bf16 from iblk m c 2 t) (ix2 s k) = w₀ m c (ix3 0 k (colOf (pt t) s)) := by
  blk_point [iblk, V, colOf, idx t]

/-- The block a row's first point normalises. -/
theorem norm_at (t : Fin cfg0.N) (i : Fin 512) (k : Fin 1024) :
    k0_pay1 (F := Ideal) (iblk m c 0 t) (iblk m c 1 t) (ix2 i k) = val_main_v14 (F := Ideal) (x₀ m c) (g₀ m c) (ix2 (rowOf (pt t) i) k) := by
  rw [pay1_at, ref_h]
  exact congrArg₂ (· * ·) (congrArg₂ (· * ·) (blk_x m c t i k) (congrArg (fun u => Ideal.rsqrt (ms u)) (funext fun l => blk_x m c t i l)))
    (blk_g m c t k)

/-- What the scratch buffer and the kept output hold after point `n`. -/
def Holds (n : Fin 144) (s : FVec Ideal S512x1024 .bf16 × FVec Ideal S512x1024 .bf16) : Prop :=
  ∀ i k, s.1 (ix2 i k) = val_main_v14 (F := Ideal) (x₀ m c) (g₀ m c) (ix2 (rowOf n i) k)
    ∧ s.2 (ix2 i k) = val_main_v14 (F := Ideal) (x₀ m c) (g₀ m c) (ix2 (rowOf n i) k)

theorem step_holds (t : Fin cfg0.N) (s : FVec Ideal S512x1024 .bf16 × FVec Ideal S512x1024 .bf16)
    (h : t.val % 9 ≠ 0 → Holds m c (pt t) s) : Holds m c (pt t) (step m c t s) := by
  by_cases h0 : t.val % 9 = 0
  · intro i k
    have e := (first_iff t).mpr h0
    unfold step normed kept
    simp only [e, ↓reduceIte]
    exact ⟨(pay2_at _ _ i k).trans (norm_at m c t i k), norm_at m c t i k⟩
  · have e : ¬ k0_cond1 (grid0.coords t) = 1#1 := fun q => h0 ((first_iff t).mp q)
    unfold step normed kept
    simp only [e, ↓reduceIte]
    exact h h0

theorem state_holds : ∀ (n : ℕ) (h : n < cfg0.N), Holds m c (pt ⟨n, h⟩) (state m c n h)
  | 0, h => step_holds m c ⟨0, h⟩ _ fun h0 => absurd rfl h0
  | n + 1, h => step_holds m c ⟨n + 1, h⟩ _ fun h0 => by
    have e : ∀ i, rowOf (pt ⟨n + 1, h⟩) i = rowOf (pt ⟨n, Nat.lt_of_succ_lt h⟩) i := fun i => Fin.ext (by
      have h0' : (n + 1) % 9 ≠ 0 := h0
      simp only [rowOf]; omega)
    intro i k
    rw [e i]
    exact state_holds n _ i k

theorem final_h : (datas m 0 c).arrAt 4 (cfgs 0).N = val_main_v19 (F := Ideal) (x₀ m c) (g₀ m c) := by
  refine (data m c).arrAt_eq_of_covers 4 _ (by decide +kernel) fun p hf y => ?_
  blk_simp
  rw [data_after4]
  change S512x1024.Idx at y
  idx_vars y
  have e : ((cfg0.win 4).blk p).view.emb (ix2 y0 y1 : S512x1024.Idx) = (ix2 (rowOf (pt p) y0) y1 : S8192x1024.Idx) := by blk_ext [rowOf, idx p]
  rw [e]
  exact (state_holds m c p.val p.isLt y0 y1).2

theorem final_p : (datas m 0 c).arrAt 3 (cfgs 0).N = val_main_v18 (F := Ideal) (x₀ m c) (g₀ m c) (w₀ m c) := by
  refine (data m c).arrAt_eq_of_covers 3 _ (by decide +kernel) fun p hf y => ?_
  blk_simp
  rw [data_after3]
  change S512x256.Idx at y
  idx_vars y
  have e : ((cfg0.win 3).blk p).view.emb (ix2 y0 y1 : S512x256.Idx)
      = (ix2 (rowOf (pt p) y0) ⟨(colOf (pt p) y1).val, by simp only [colOf]; omega⟩ : S8192x2304.Idx) := by blk_ext [rowOf, colOf, idx p]
  rw [e]
  refine (pay3_at _ _ y0 y1).trans (Eq.trans (Finset.sum_congr rfl fun k _ => ?_) (ref_p _ _ _ _ _).symm)
  exact congrArg₂ (· * ·) (state_holds m c p.val p.isLt y0 k).1 (blk_w m c p y1 k)

end Cert.Input
end
-- ==== Proof.InpClaim.lean ====
module
public import proofs.«01_k».proof.Defs
public import proofs.«01_k».proof.Proof.Gen.Inp
public import proofs.«01_k».proof.Proof.Gen.InpRefIdeal.Run
public import proofs.«01_k».proof.Proof.InpValue
public import Idealize.ShloMosaic.Lib.Claim
@[expose] public section
set_option maxRecDepth 16384
noncomputable section

/-! The input projection's forward kernel against its reference. -/
namespace Cert.Input
open Idealize.ShloMosaic Idealize.ShloMosaic.TcCoe Idealize.ShloMosaic.Tactic Idealize.SL.Sem

theorem frame_reference : Cert.quiescent_InpRefIdeal := fun m ρ _ =>
  (θ_run Cert.InpRefIdeal.defs _ _).mono (fun r h => ⟨fun c => (h c).2.2, sem_eq_zero_of_no_sems (by decide) r.2⟩)
    (Cert.InpRefIdeal.Value.run (F := Ideal) m ρ)

theorem frame_ideal : Cert.quiescent_InpIdeal := fun m ρ _ => frame_run (F := Ideal) m ρ

/-- The frame read at the machine's floats: the two programs are one text. -/
theorem frame_words : ∀ (m : (ℓ : Loc Cert.InpIdeal.nD Cert.InpIdeal.τ Cert.InpIdeal.sig) → Buf (Elt Bits) ℓ) (ρ : Dev Cert.InpIdeal.nD → PrngReg), True →
    θ_run (Cert.InpIdeal.defs (F := Bits)) (onTc (τ := Cert.InpIdeal.τ) (Cert.InpIdeal.main (F := Bits))) ⟨m, fun _ => 0, ρ⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ r.2.sem = fun _ => 0) := fun m ρ _ => frame_run (F := Bits) m ρ

theorem frame_bits : Cert.quiescent_Inp := Eq.mp (by sl_kernel_rfl) frame_words

set_option maxHeartbeats 1000000 in
/-- From arguments that agree, both programs end with the same two arrays. -/
theorem algebraic : Cert.algebraic_InpIdeal_InpRefIdeal := by
  pair_intro
  · run_from run_main m g
  · run_from Cert.InpRefIdeal.Value.run m' g'
    · rw [final_p m c, Cert.InpRefIdeal.Read.val_main_v18_eq]
    · rw [final_h m c, Cert.InpRefIdeal.Read.val_main_v19_eq]

end Cert.Input
end
-- ==== Proof.lean ====
/- The claims about the calls taken from the kernel: one module per call proves its values, this one assembles them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.LossClaim
public import proofs.«01_k».proof.Proof.Gen.Sb
public import proofs.«01_k».proof.Proof.Gen.SbIdeal
public import proofs.«01_k».proof.Proof.Gen.SbIdeal.Skeleton
public import proofs.«01_k».proof.Proof.Gen.SbIdeal.Loops
public import proofs.«01_k».proof.Proof.Gen.SbIdeal.Launch
public import proofs.«01_k».proof.Proof.Gen.SbIdeal.Regions
public import proofs.«01_k».proof.Proof.Gen.SbIdeal.Points
public import proofs.«01_k».proof.Proof.Gen.SbRefIdeal
public import proofs.«01_k».proof.Proof.Gen.Pre_finite_sb
public import proofs.«01_k».proof.Proof.Gen.SbRefIdeal.Run
public import proofs.«01_k».proof.Proof.Gen.SbRefIdeal.Read
public import proofs.«01_k».proof.Proof.SbClaim
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Pre_finite_proj
public import proofs.«01_k».proof.Proof.Gen.ProjIdeal.Value
public import proofs.«01_k».proof.Proof.Gen.ProjRefIdeal.Run
public import proofs.«01_k».proof.Proof.Gen.ProjRefIdeal.Read
public import proofs.«01_k».proof.Proof.ProjClaim
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.MergeClaim
public import proofs.«01_k».proof.Proof.Gen.Ffn
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Regions
public import proofs.«01_k».proof.Proof.Gen.FfnIdeal.Points
public import proofs.«01_k».proof.Proof.Gen.FfnRefIdeal
public import proofs.«01_k».proof.Proof.Gen.Pre_finite_ffn
public import proofs.«01_k».proof.Proof.Gen.FfnRefIdeal.Run
public import proofs.«01_k».proof.Proof.Gen.FfnRefIdeal.Read
public import proofs.«01_k».proof.Proof.FfnClaim
public import proofs.«01_k».proof.Proof.Gen.Bias
public import proofs.«01_k».proof.Proof.Gen.Bias.Skeleton
public import proofs.«01_k».proof.Proof.Gen.Bias.Launch
public import proofs.«01_k».proof.Proof.Gen.Bias.Points
public import proofs.«01_k».proof.Proof.Gen.Bias.Frame
public import proofs.«01_k».proof.Proof.Gen.BiasIdeal
public import proofs.«01_k».proof.Proof.Gen.BiasIdeal.Skeleton
public import proofs.«01_k».proof.Proof.Gen.BiasIdeal.Launch
public import proofs.«01_k».proof.Proof.Gen.BiasIdeal.Points
public import proofs.«01_k».proof.Proof.Gen.BiasIdeal.Frame
public import proofs.«01_k».proof.Proof.Gen.BiasRefIdeal
public import proofs.«01_k».proof.Proof.Gen.Pre_finite_bias
public import proofs.«01_k».proof.Proof.Gen.BiasRefIdeal.Run
public import proofs.«01_k».proof.Proof.Gen.BiasRefIdeal.Read
public import proofs.«01_k».proof.Proof.BiasClaim
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaRefIdeal
public import proofs.«01_k».proof.Proof.Gen.Pre_finite_swa
public import proofs.«01_k».proof.Proof.Gen.SwaRefIdeal.Run
public import proofs.«01_k».proof.Proof.Gen.SwaRefIdeal.Read
public import proofs.«01_k».proof.Proof.SwaClaim
public import proofs.«01_k».proof.Proof.Gen.Wgt
public import proofs.«01_k».proof.Proof.Gen.Wgt.Skeleton
public import proofs.«01_k».proof.Proof.Gen.Wgt.Launch
public import proofs.«01_k».proof.Proof.Gen.Wgt.Points
public import proofs.«01_k».proof.Proof.Gen.Wgt.Frame
public import proofs.«01_k».proof.Proof.Gen.WgtIdeal
public import proofs.«01_k».proof.Proof.Gen.WgtIdeal.Skeleton
public import proofs.«01_k».proof.Proof.Gen.WgtIdeal.Launch
public import proofs.«01_k».proof.Proof.Gen.WgtIdeal.Points
public import proofs.«01_k».proof.Proof.Gen.WgtIdeal.Frame
public import proofs.«01_k».proof.Proof.Gen.WgtRefIdeal
public import proofs.«01_k».proof.Proof.Gen.WgtRefIdeal.Run
public import proofs.«01_k».proof.Proof.Gen.WgtRefIdeal.Read
public import proofs.«01_k».proof.Proof.WgtClaim
public import proofs.«01_k».proof.Proof.Gen.Opt
public import proofs.«01_k».proof.Proof.Gen.Opt.Skeleton
public import proofs.«01_k».proof.Proof.Gen.Opt.Launch
public import proofs.«01_k».proof.Proof.Gen.Opt.Points
public import proofs.«01_k».proof.Proof.Gen.Opt.Frame
public import proofs.«01_k».proof.Proof.Gen.OptIdeal
public import proofs.«01_k».proof.Proof.Gen.OptIdeal.Skeleton
public import proofs.«01_k».proof.Proof.Gen.OptIdeal.Launch
public import proofs.«01_k».proof.Proof.Gen.OptIdeal.Points
public import proofs.«01_k».proof.Proof.Gen.OptIdeal.Frame
public import proofs.«01_k».proof.Proof.Gen.OptRefIdeal
public import proofs.«01_k».proof.Proof.Gen.OptRefIdeal.Run
public import proofs.«01_k».proof.Proof.Gen.OptRefIdeal.Read
public import proofs.«01_k».proof.Proof.OptClaim
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpRefIdeal
public import proofs.«01_k».proof.Proof.Gen.InpRefIdeal.Run
public import proofs.«01_k».proof.Proof.Gen.InpRefIdeal.Read
public import proofs.«01_k».proof.Proof.InpClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Sb.Gen.facts, Cert.SbIdeal.Gen.facts, Cert.SbRefIdeal.Gen.facts,
  Cert.Proj.Gen.facts, Cert.ProjIdeal.Gen.facts, Cert.ProjRefIdeal.Gen.facts,
  Cert.Merge.Gen.facts, Cert.MergeIdeal.Gen.facts, Cert.MergeRefIdeal.Gen.facts,
  Cert.Ffn.Gen.facts, Cert.FfnIdeal.Gen.facts, Cert.FfnRefIdeal.Gen.facts,
  Cert.Bias.Gen.facts, Cert.BiasIdeal.Gen.facts, Cert.BiasRefIdeal.Gen.facts,
  Cert.Swa.Gen.facts, Cert.SwaIdeal.Gen.facts, Cert.SwaRefIdeal.Gen.facts,
  Cert.Wgt.Gen.facts, Cert.WgtIdeal.Gen.facts, Cert.WgtRefIdeal.Gen.facts,
  Cert.Opt.Gen.facts, Cert.OptIdeal.Gen.facts, Cert.OptRefIdeal.Gen.facts,
  Cert.Inp.Gen.facts, Cert.InpIdeal.Gen.facts, Cert.InpRefIdeal.Gen.facts,
  Cert.Pre_finite.Gen.facts, Cert.Pre_finite_sb.Gen.facts, Cert.Pre_finite_proj.Gen.facts, Cert.Pre_finite_ffn.Gen.facts,
  Cert.Pre_finite_bias.Gen.facts, Cert.Pre_finite_swa.Gen.facts,
  fun m ρ _ => Cert.Kernel.Gen.frame m ρ, fun m ρ _ => Cert.KernelIdeal.Gen.frame m ρ, fun m ρ _ => Cert.KernelIdeal.Gen.frame m ρ,
  Cert.Loss.frame_reference, fun m ρ _ => Cert.Loss.frame_reference m ρ trivial,
  Cert.Stick.frame_bits, Cert.Stick.frame_ideal, fun m ρ _ => Cert.Stick.frame_ideal m ρ trivial,
  Cert.Stick.frame_reference, fun m ρ _ => Cert.Stick.frame_reference m ρ trivial,
  fun m ρ _ => Cert.Proj.Gen.frame m ρ, fun m ρ _ => Cert.ProjIdeal.Gen.frame m ρ, fun m ρ _ => Cert.ProjIdeal.Gen.frame m ρ,
  Cert.Proj.frame_reference, fun m ρ _ => Cert.Proj.frame_reference m ρ trivial,
  fun m ρ _ => Cert.Merge.Gen.frame m ρ, fun m ρ _ => Cert.MergeIdeal.Gen.frame m ρ, Cert.Gated.frame_reference,
  Cert.Ffn.frame_bits, Cert.Ffn.frame_ideal, fun m ρ _ => Cert.Ffn.frame_ideal m ρ trivial,
  Cert.Ffn.frame_reference, fun m ρ _ => Cert.Ffn.frame_reference m ρ trivial,
  fun m ρ _ => Cert.Bias.Gen.frame m ρ, fun m ρ _ => Cert.BiasIdeal.Gen.frame m ρ, fun m ρ _ => Cert.BiasIdeal.Gen.frame m ρ,
  Cert.Relative.frame_reference, fun m ρ _ => Cert.Relative.frame_reference m ρ trivial,
  fun m ρ _ => Cert.Swa.Gen.frame m ρ, fun m ρ _ => Cert.SwaIdeal.Gen.frame m ρ, fun m ρ _ => Cert.SwaIdeal.Gen.frame m ρ,
  Cert.Window.frame_reference, fun m ρ _ => Cert.Window.frame_reference m ρ trivial,
  fun m ρ _ => Cert.Wgt.Gen.frame m ρ, fun m ρ _ => Cert.WgtIdeal.Gen.frame m ρ, Cert.Weight.frame_reference,
  fun m ρ _ => Cert.Opt.Gen.frame m ρ, fun m ρ _ => Cert.OptIdeal.Gen.frame m ρ, Cert.Adam.frame_reference,
  Cert.Input.frame_bits, Cert.Input.frame_ideal, Cert.Input.frame_reference,
  trivial, Cert.Loss.algebraic, trivial, Cert.Stick.algebraic, trivial, Cert.Proj.algebraic,
  trivial, Cert.Gated.algebraic, trivial, Cert.Ffn.algebraic, trivial, Cert.Relative.algebraic,
  Cert.Window.preserves_mask, Cert.Window.algebraic,
  trivial, Cert.Weight.algebraic, trivial, Cert.Adam.algebraic, trivial, Cert.Input.algebraic⟩

end Cert.Proof

end
